-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_KernelPleIdeal_finite_ple [hPre_finite_ple : Cert.Pre_finite_ple.Facts] (m : (ℓ : Loc Cert.KernelPleIdeal.nD Cert.KernelPleIdeal.τ Cert.KernelPleIdeal.sig) → Buf (Elt Ideal) ℓ) : Prop :=
  ∀ c : Dev Cert.KernelPleIdeal.nD,
    (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6))).1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6))).2.1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6))).2.2.1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6))).2.2.2.1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6))).2.2.2.2.1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6))).2.2.2.2.2.1 = (fun _ => 1#1)
    ∧ (Cert.Pre_finite_ple.fn (F := Ideal) (m ((c.tc : Thread Cert.KernelPleIdeal.nD Cert.KernelPleIdeal.τ).loc Cert.KernelPleIdeal.main_arg0)) (m ((c.tc : Thread Cert.KernelPleIdeal.nD Cert.KernelPleIdeal.τ).loc Cert.KernelPleIdeal.main_arg1)) (m ((c.tc : Thread Cert.KernelPleIdeal.nD Cert.KernelPleIdeal.τ).loc Cert.KernelPleIdeal.main_arg2)) (m ((c.tc : Thread Cert.KernelPleIdeal.nD Cert.KernelPleIdeal.τ).loc Cert.KernelPleIdeal.main_arg3)) (m ((c.tc : Thread Cert.KernelPleIdeal.nD Cert.KernelPleIdeal.τ).loc Cert.KernelPleIdeal.main_arg4)) (m ((c.tc : Thread Cert.KernelPleIdeal.nD Cert.KernelPleIdeal.τ).loc Cert.KernelPleIdeal.main_arg5)) (m ((c.tc : Thread Cert.KernelPleIdeal.nD Cert.KernelPleIdeal.τ).loc Cert.KernelPleIdeal.main_arg6))).2.2.2.2.2.2 = (fun _ => 1#1)

def Pre_ReferencePleIdeal (m : (ℓ : Loc Cert.ReferencePleIdeal.nD Cert.ReferencePleIdeal.τ Cert.ReferencePleIdeal.sig) → Buf (Elt Ideal) ℓ) : Prop :=
  True

def Pre_ReferencePleIdeal_finite_ple [hPre_finite_ple : Cert.Pre_finite_ple.Facts] (m : (ℓ : Loc Cert.ReferencePleIdeal.nD Cert.ReferencePleIdeal.τ Cert.ReferencePleIdeal.sig) → Buf (Elt Ideal) ℓ) : Prop :=
  ∀ c : Dev Cert.ReferencePleIdeal.nD,
    (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6))).1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6))).2.1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6))).2.2.1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6))).2.2.2.1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6))).2.2.2.2.1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6))).2.2.2.2.2.1 = (fun _ => 1#1)
    ∧ (Cert.Pre_finite_ple.fn (F := Ideal) (m ((c.tc : Thread Cert.ReferencePleIdeal.nD Cert.ReferencePleIdeal.τ).loc Cert.ReferencePleIdeal.main_arg0)) (m ((c.tc : Thread Cert.ReferencePleIdeal.nD Cert.ReferencePleIdeal.τ).loc Cert.ReferencePleIdeal.main_arg1)) (m ((c.tc : Thread Cert.ReferencePleIdeal.nD Cert.ReferencePleIdeal.τ).loc Cert.ReferencePleIdeal.main_arg2)) (m ((c.tc : Thread Cert.ReferencePleIdeal.nD Cert.ReferencePleIdeal.τ).loc Cert.ReferencePleIdeal.main_arg3)) (m ((c.tc : Thread Cert.ReferencePleIdeal.nD Cert.ReferencePleIdeal.τ).loc Cert.ReferencePleIdeal.main_arg4)) (m ((c.tc : Thread Cert.ReferencePleIdeal.nD Cert.ReferencePleIdeal.τ).loc Cert.ReferencePleIdeal.main_arg5)) (m ((c.tc : Thread Cert.ReferencePleIdeal.nD Cert.ReferencePleIdeal.τ).loc Cert.ReferencePleIdeal.main_arg6))).2.2.2.2.2.2 = (fun _ => 1#1)

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_KernelFinalIdeal_finite_final [hPre_finite_final : Cert.Pre_finite_final.Facts] (m : (ℓ : Loc Cert.KernelFinalIdeal.nD Cert.KernelFinalIdeal.τ Cert.KernelFinalIdeal.sig) → Buf (Elt Ideal) ℓ) : Prop :=
  ∀ c : Dev Cert.KernelFinalIdeal.nD,
    (Cert.Pre_finite_final.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2)) (m ((c.tc : Thread Cert.KernelFinalIdeal.nD Cert.KernelFinalIdeal.τ).loc Cert.KernelFinalIdeal.main_arg3)) (m ((c.tc : Thread Cert.KernelFinalIdeal.nD Cert.KernelFinalIdeal.τ).loc Cert.KernelFinalIdeal.main_arg4)) (m ((c.tc : Thread Cert.KernelFinalIdeal.nD Cert.KernelFinalIdeal.τ).loc Cert.KernelFinalIdeal.main_arg5)) (m ((c.tc : Thread Cert.KernelFinalIdeal.nD Cert.KernelFinalIdeal.τ).loc Cert.KernelFinalIdeal.main_arg6)) (m ((c.tc : Thread Cert.KernelFinalIdeal.nD Cert.KernelFinalIdeal.τ).loc Cert.KernelFinalIdeal.main_arg7))).1 = (fun _ => 1#1)
    ∧ (Cert.Pre_finite_final.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2)) (m ((c.tc : Thread Cert.KernelFinalIdeal.nD Cert.KernelFinalIdeal.τ).loc Cert.KernelFinalIdeal.main_arg3)) (m ((c.tc : Thread Cert.KernelFinalIdeal.nD Cert.KernelFinalIdeal.τ).loc Cert.KernelFinalIdeal.main_arg4)) (m ((c.tc : Thread Cert.KernelFinalIdeal.nD Cert.KernelFinalIdeal.τ).loc Cert.KernelFinalIdeal.main_arg5)) (m ((c.tc : Thread Cert.KernelFinalIdeal.nD Cert.KernelFinalIdeal.τ).loc Cert.KernelFinalIdeal.main_arg6)) (m ((c.tc : Thread Cert.KernelFinalIdeal.nD Cert.KernelFinalIdeal.τ).loc Cert.KernelFinalIdeal.main_arg7))).2.1 = (fun _ => 1#1)
    ∧ (Cert.Pre_finite_final.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2)) (m ((c.tc : Thread Cert.KernelFinalIdeal.nD Cert.KernelFinalIdeal.τ).loc Cert.KernelFinalIdeal.main_arg3)) (m ((c.tc : Thread Cert.KernelFinalIdeal.nD Cert.KernelFinalIdeal.τ).loc Cert.KernelFinalIdeal.main_arg4)) (m ((c.tc : Thread Cert.KernelFinalIdeal.nD Cert.KernelFinalIdeal.τ).loc Cert.KernelFinalIdeal.main_arg5)) (m ((c.tc : Thread Cert.KernelFinalIdeal.nD Cert.KernelFinalIdeal.τ).loc Cert.KernelFinalIdeal.main_arg6)) (m ((c.tc : Thread Cert.KernelFinalIdeal.nD Cert.KernelFinalIdeal.τ).loc Cert.KernelFinalIdeal.main_arg7))).2.2.1 = (fun _ => 1#1)
    ∧ (Cert.Pre_finite_final.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2)) (m ((c.tc : Thread Cert.KernelFinalIdeal.nD Cert.KernelFinalIdeal.τ).loc Cert.KernelFinalIdeal.main_arg3)) (m ((c.tc : Thread Cert.KernelFinalIdeal.nD Cert.KernelFinalIdeal.τ).loc Cert.KernelFinalIdeal.main_arg4)) (m ((c.tc : Thread Cert.KernelFinalIdeal.nD Cert.KernelFinalIdeal.τ).loc Cert.KernelFinalIdeal.main_arg5)) (m ((c.tc : Thread Cert.KernelFinalIdeal.nD Cert.KernelFinalIdeal.τ).loc Cert.KernelFinalIdeal.main_arg6)) (m ((c.tc : Thread Cert.KernelFinalIdeal.nD Cert.KernelFinalIdeal.τ).loc Cert.KernelFinalIdeal.main_arg7))).2.2.2.1 = (fun _ => 1#1)
    ∧ (Cert.Pre_finite_final.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2)) (m ((c.tc : Thread Cert.KernelFinalIdeal.nD Cert.KernelFinalIdeal.τ).loc Cert.KernelFinalIdeal.main_arg3)) (m ((c.tc : Thread Cert.KernelFinalIdeal.nD Cert.KernelFinalIdeal.τ).loc Cert.KernelFinalIdeal.main_arg4)) (m ((c.tc : Thread Cert.KernelFinalIdeal.nD Cert.KernelFinalIdeal.τ).loc Cert.KernelFinalIdeal.main_arg5)) (m ((c.tc : Thread Cert.KernelFinalIdeal.nD Cert.KernelFinalIdeal.τ).loc Cert.KernelFinalIdeal.main_arg6)) (m ((c.tc : Thread Cert.KernelFinalIdeal.nD Cert.KernelFinalIdeal.τ).loc Cert.KernelFinalIdeal.main_arg7))).2.2.2.2.1 = (fun _ => 1#1)
    ∧ (Cert.Pre_finite_final.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2)) (m ((c.tc : Thread Cert.KernelFinalIdeal.nD Cert.KernelFinalIdeal.τ).loc Cert.KernelFinalIdeal.main_arg3)) (m ((c.tc : Thread Cert.KernelFinalIdeal.nD Cert.KernelFinalIdeal.τ).loc Cert.KernelFinalIdeal.main_arg4)) (m ((c.tc : Thread Cert.KernelFinalIdeal.nD Cert.KernelFinalIdeal.τ).loc Cert.KernelFinalIdeal.main_arg5)) (m ((c.tc : Thread Cert.KernelFinalIdeal.nD Cert.KernelFinalIdeal.τ).loc Cert.KernelFinalIdeal.main_arg6)) (m ((c.tc : Thread Cert.KernelFinalIdeal.nD Cert.KernelFinalIdeal.τ).loc Cert.KernelFinalIdeal.main_arg7))).2.2.2.2.2.1 = (fun _ => 1#1)
    ∧ (Cert.Pre_finite_final.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2)) (m ((c.tc : Thread Cert.KernelFinalIdeal.nD Cert.KernelFinalIdeal.τ).loc Cert.KernelFinalIdeal.main_arg3)) (m ((c.tc : Thread Cert.KernelFinalIdeal.nD Cert.KernelFinalIdeal.τ).loc Cert.KernelFinalIdeal.main_arg4)) (m ((c.tc : Thread Cert.KernelFinalIdeal.nD Cert.KernelFinalIdeal.τ).loc Cert.KernelFinalIdeal.main_arg5)) (m ((c.tc : Thread Cert.KernelFinalIdeal.nD Cert.KernelFinalIdeal.τ).loc Cert.KernelFinalIdeal.main_arg6)) (m ((c.tc : Thread Cert.KernelFinalIdeal.nD Cert.KernelFinalIdeal.τ).loc Cert.KernelFinalIdeal.main_arg7))).2.2.2.2.2.2.1 = (fun _ => 1#1)
    ∧ (Cert.Pre_finite_final.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2)) (m ((c.tc : Thread Cert.KernelFinalIdeal.nD Cert.KernelFinalIdeal.τ).loc Cert.KernelFinalIdeal.main_arg3)) (m ((c.tc : Thread Cert.KernelFinalIdeal.nD Cert.KernelFinalIdeal.τ).loc Cert.KernelFinalIdeal.main_arg4)) (m ((c.tc : Thread Cert.KernelFinalIdeal.nD Cert.KernelFinalIdeal.τ).loc Cert.KernelFinalIdeal.main_arg5)) (m ((c.tc : Thread Cert.KernelFinalIdeal.nD Cert.KernelFinalIdeal.τ).loc Cert.KernelFinalIdeal.main_arg6)) (m ((c.tc : Thread Cert.KernelFinalIdeal.nD Cert.KernelFinalIdeal.τ).loc Cert.KernelFinalIdeal.main_arg7))).2.2.2.2.2.2.2 = (fun _ => 1#1)

def Pre_ReferenceFinalIdeal (m : (ℓ : Loc Cert.ReferenceFinalIdeal.nD Cert.ReferenceFinalIdeal.τ Cert.ReferenceFinalIdeal.sig) → Buf (Elt Ideal) ℓ) : Prop :=
  True

def Pre_ReferenceFinalIdeal_finite_final [hPre_finite_final : Cert.Pre_finite_final.Facts] (m : (ℓ : Loc Cert.ReferenceFinalIdeal.nD Cert.ReferenceFinalIdeal.τ Cert.ReferenceFinalIdeal.sig) → Buf (Elt Ideal) ℓ) : Prop :=
  ∀ c : Dev Cert.ReferenceFinalIdeal.nD,
    (Cert.Pre_finite_final.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2)) (m ((c.tc : Thread Cert.ReferenceFinalIdeal.nD Cert.ReferenceFinalIdeal.τ).loc Cert.ReferenceFinalIdeal.main_arg3)) (m ((c.tc : Thread Cert.ReferenceFinalIdeal.nD Cert.ReferenceFinalIdeal.τ).loc Cert.ReferenceFinalIdeal.main_arg4)) (m ((c.tc : Thread Cert.ReferenceFinalIdeal.nD Cert.ReferenceFinalIdeal.τ).loc Cert.ReferenceFinalIdeal.main_arg5)) (m ((c.tc : Thread Cert.ReferenceFinalIdeal.nD Cert.ReferenceFinalIdeal.τ).loc Cert.ReferenceFinalIdeal.main_arg6)) (m ((c.tc : Thread Cert.ReferenceFinalIdeal.nD Cert.ReferenceFinalIdeal.τ).loc Cert.ReferenceFinalIdeal.main_arg7))).1 = (fun _ => 1#1)
    ∧ (Cert.Pre_finite_final.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2)) (m ((c.tc : Thread Cert.ReferenceFinalIdeal.nD Cert.ReferenceFinalIdeal.τ).loc Cert.ReferenceFinalIdeal.main_arg3)) (m ((c.tc : Thread Cert.ReferenceFinalIdeal.nD Cert.ReferenceFinalIdeal.τ).loc Cert.ReferenceFinalIdeal.main_arg4)) (m ((c.tc : Thread Cert.ReferenceFinalIdeal.nD Cert.ReferenceFinalIdeal.τ).loc Cert.ReferenceFinalIdeal.main_arg5)) (m ((c.tc : Thread Cert.ReferenceFinalIdeal.nD Cert.ReferenceFinalIdeal.τ).loc Cert.ReferenceFinalIdeal.main_arg6)) (m ((c.tc : Thread Cert.ReferenceFinalIdeal.nD Cert.ReferenceFinalIdeal.τ).loc Cert.ReferenceFinalIdeal.main_arg7))).2.1 = (fun _ => 1#1)
    ∧ (Cert.Pre_finite_final.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2)) (m ((c.tc : Thread Cert.ReferenceFinalIdeal.nD Cert.ReferenceFinalIdeal.τ).loc Cert.ReferenceFinalIdeal.main_arg3)) (m ((c.tc : Thread Cert.ReferenceFinalIdeal.nD Cert.ReferenceFinalIdeal.τ).loc Cert.ReferenceFinalIdeal.main_arg4)) (m ((c.tc : Thread Cert.ReferenceFinalIdeal.nD Cert.ReferenceFinalIdeal.τ).loc Cert.ReferenceFinalIdeal.main_arg5)) (m ((c.tc : Thread Cert.ReferenceFinalIdeal.nD Cert.ReferenceFinalIdeal.τ).loc Cert.ReferenceFinalIdeal.main_arg6)) (m ((c.tc : Thread Cert.ReferenceFinalIdeal.nD Cert.ReferenceFinalIdeal.τ).loc Cert.ReferenceFinalIdeal.main_arg7))).2.2.1 = (fun _ => 1#1)
    ∧ (Cert.Pre_finite_final.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2)) (m ((c.tc : Thread Cert.ReferenceFinalIdeal.nD Cert.ReferenceFinalIdeal.τ).loc Cert.ReferenceFinalIdeal.main_arg3)) (m ((c.tc : Thread Cert.ReferenceFinalIdeal.nD Cert.ReferenceFinalIdeal.τ).loc Cert.ReferenceFinalIdeal.main_arg4)) (m ((c.tc : Thread Cert.ReferenceFinalIdeal.nD Cert.ReferenceFinalIdeal.τ).loc Cert.ReferenceFinalIdeal.main_arg5)) (m ((c.tc : Thread Cert.ReferenceFinalIdeal.nD Cert.ReferenceFinalIdeal.τ).loc Cert.ReferenceFinalIdeal.main_arg6)) (m ((c.tc : Thread Cert.ReferenceFinalIdeal.nD Cert.ReferenceFinalIdeal.τ).loc Cert.ReferenceFinalIdeal.main_arg7))).2.2.2.1 = (fun _ => 1#1)
    ∧ (Cert.Pre_finite_final.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2)) (m ((c.tc : Thread Cert.ReferenceFinalIdeal.nD Cert.ReferenceFinalIdeal.τ).loc Cert.ReferenceFinalIdeal.main_arg3)) (m ((c.tc : Thread Cert.ReferenceFinalIdeal.nD Cert.ReferenceFinalIdeal.τ).loc Cert.ReferenceFinalIdeal.main_arg4)) (m ((c.tc : Thread Cert.ReferenceFinalIdeal.nD Cert.ReferenceFinalIdeal.τ).loc Cert.ReferenceFinalIdeal.main_arg5)) (m ((c.tc : Thread Cert.ReferenceFinalIdeal.nD Cert.ReferenceFinalIdeal.τ).loc Cert.ReferenceFinalIdeal.main_arg6)) (m ((c.tc : Thread Cert.ReferenceFinalIdeal.nD Cert.ReferenceFinalIdeal.τ).loc Cert.ReferenceFinalIdeal.main_arg7))).2.2.2.2.1 = (fun _ => 1#1)
    ∧ (Cert.Pre_finite_final.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2)) (m ((c.tc : Thread Cert.ReferenceFinalIdeal.nD Cert.ReferenceFinalIdeal.τ).loc Cert.ReferenceFinalIdeal.main_arg3)) (m ((c.tc : Thread Cert.ReferenceFinalIdeal.nD Cert.ReferenceFinalIdeal.τ).loc Cert.ReferenceFinalIdeal.main_arg4)) (m ((c.tc : Thread Cert.ReferenceFinalIdeal.nD Cert.ReferenceFinalIdeal.τ).loc Cert.ReferenceFinalIdeal.main_arg5)) (m ((c.tc : Thread Cert.ReferenceFinalIdeal.nD Cert.ReferenceFinalIdeal.τ).loc Cert.ReferenceFinalIdeal.main_arg6)) (m ((c.tc : Thread Cert.ReferenceFinalIdeal.nD Cert.ReferenceFinalIdeal.τ).loc Cert.ReferenceFinalIdeal.main_arg7))).2.2.2.2.2.1 = (fun _ => 1#1)
    ∧ (Cert.Pre_finite_final.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2)) (m ((c.tc : Thread Cert.ReferenceFinalIdeal.nD Cert.ReferenceFinalIdeal.τ).loc Cert.ReferenceFinalIdeal.main_arg3)) (m ((c.tc : Thread Cert.ReferenceFinalIdeal.nD Cert.ReferenceFinalIdeal.τ).loc Cert.ReferenceFinalIdeal.main_arg4)) (m ((c.tc : Thread Cert.ReferenceFinalIdeal.nD Cert.ReferenceFinalIdeal.τ).loc Cert.ReferenceFinalIdeal.main_arg5)) (m ((c.tc : Thread Cert.ReferenceFinalIdeal.nD Cert.ReferenceFinalIdeal.τ).loc Cert.ReferenceFinalIdeal.main_arg6)) (m ((c.tc : Thread Cert.ReferenceFinalIdeal.nD Cert.ReferenceFinalIdeal.τ).loc Cert.ReferenceFinalIdeal.main_arg7))).2.2.2.2.2.2.1 = (fun _ => 1#1)
    ∧ (Cert.Pre_finite_final.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2)) (m ((c.tc : Thread Cert.ReferenceFinalIdeal.nD Cert.ReferenceFinalIdeal.τ).loc Cert.ReferenceFinalIdeal.main_arg3)) (m ((c.tc : Thread Cert.ReferenceFinalIdeal.nD Cert.ReferenceFinalIdeal.τ).loc Cert.ReferenceFinalIdeal.main_arg4)) (m ((c.tc : Thread Cert.ReferenceFinalIdeal.nD Cert.ReferenceFinalIdeal.τ).loc Cert.ReferenceFinalIdeal.main_arg5)) (m ((c.tc : Thread Cert.ReferenceFinalIdeal.nD Cert.ReferenceFinalIdeal.τ).loc Cert.ReferenceFinalIdeal.main_arg6)) (m ((c.tc : Thread Cert.ReferenceFinalIdeal.nD Cert.ReferenceFinalIdeal.τ).loc Cert.ReferenceFinalIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4)
      ∧ r.2.mem ((c.tc : Thread Cert.KernelPle.nD Cert.KernelPle.τ).loc Cert.KernelPle.main_arg5) = m ((c.tc : Thread Cert.KernelPle.nD Cert.KernelPle.τ).loc Cert.KernelPle.main_arg5)
      ∧ r.2.mem ((c.tc : Thread Cert.KernelPle.nD Cert.KernelPle.τ).loc Cert.KernelPle.main_arg6) = m ((c.tc : Thread Cert.KernelPle.nD Cert.KernelPle.τ).loc Cert.KernelPle.main_arg6))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
      ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
      ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6))
      ∧ r.2.sem = fun _ => 0)

def quiescent_KernelPleIdeal_pre_finite_ple [hKernelPleIdeal : Cert.KernelPleIdeal.Facts] [hPre_finite_ple : Cert.Pre_finite_ple.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal_finite_ple m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
      ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
      ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4)
      ∧ r.2.mem ((c.tc : Thread Cert.ReferencePleIdeal.nD Cert.ReferencePleIdeal.τ).loc Cert.ReferencePleIdeal.main_arg5) = m ((c.tc : Thread Cert.ReferencePleIdeal.nD Cert.ReferencePleIdeal.τ).loc Cert.ReferencePleIdeal.main_arg5)
      ∧ r.2.mem ((c.tc : Thread Cert.ReferencePleIdeal.nD Cert.ReferencePleIdeal.τ).loc Cert.ReferencePleIdeal.main_arg6) = m ((c.tc : Thread Cert.ReferencePleIdeal.nD Cert.ReferencePleIdeal.τ).loc Cert.ReferencePleIdeal.main_arg6))
      ∧ r.2.sem = fun _ => 0)

def quiescent_ReferencePleIdeal_pre_finite_ple [hReferencePleIdeal : Cert.ReferencePleIdeal.Facts] [hPre_finite_ple : Cert.Pre_finite_ple.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal_finite_ple m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4)
      ∧ r.2.mem ((c.tc : Thread Cert.ReferencePleIdeal.nD Cert.ReferencePleIdeal.τ).loc Cert.ReferencePleIdeal.main_arg5) = m ((c.tc : Thread Cert.ReferencePleIdeal.nD Cert.ReferencePleIdeal.τ).loc Cert.ReferencePleIdeal.main_arg5)
      ∧ r.2.mem ((c.tc : Thread Cert.ReferencePleIdeal.nD Cert.ReferencePleIdeal.τ).loc Cert.ReferencePleIdeal.main_arg6) = m ((c.tc : Thread Cert.ReferencePleIdeal.nD Cert.ReferencePleIdeal.τ).loc Cert.ReferencePleIdeal.main_arg6))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2)
      ∧ r.2.mem ((c.tc : Thread Cert.KernelKv.nD Cert.KernelKv.τ).loc Cert.KernelKv.main_arg3) = m ((c.tc : Thread Cert.KernelKv.nD Cert.KernelKv.τ).loc Cert.KernelKv.main_arg3)
      ∧ r.2.mem ((c.tc : Thread Cert.KernelKv.nD Cert.KernelKv.τ).loc Cert.KernelKv.main_arg4) = m ((c.tc : Thread Cert.KernelKv.nD Cert.KernelKv.τ).loc Cert.KernelKv.main_arg4)
      ∧ r.2.mem ((c.tc : Thread Cert.KernelKv.nD Cert.KernelKv.τ).loc Cert.KernelKv.main_arg5) = m ((c.tc : Thread Cert.KernelKv.nD Cert.KernelKv.τ).loc Cert.KernelKv.main_arg5)
      ∧ r.2.mem ((c.tc : Thread Cert.KernelKv.nD Cert.KernelKv.τ).loc Cert.KernelKv.main_arg6) = m ((c.tc : Thread Cert.KernelKv.nD Cert.KernelKv.τ).loc Cert.KernelKv.main_arg6)
      ∧ r.2.mem ((c.tc : Thread Cert.KernelKv.nD Cert.KernelKv.τ).loc Cert.KernelKv.main_arg7) = m ((c.tc : Thread Cert.KernelKv.nD Cert.KernelKv.τ).loc Cert.KernelKv.main_arg7))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
      ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4)
      ∧ r.2.mem ((c.tc : Thread Cert.KernelKvIdeal.nD Cert.KernelKvIdeal.τ).loc Cert.KernelKvIdeal.main_arg5) = m ((c.tc : Thread Cert.KernelKvIdeal.nD Cert.KernelKvIdeal.τ).loc Cert.KernelKvIdeal.main_arg5)
      ∧ r.2.mem ((c.tc : Thread Cert.KernelKvIdeal.nD Cert.KernelKvIdeal.τ).loc Cert.KernelKvIdeal.main_arg6) = m ((c.tc : Thread Cert.KernelKvIdeal.nD Cert.KernelKvIdeal.τ).loc Cert.KernelKvIdeal.main_arg6)
      ∧ r.2.mem ((c.tc : Thread Cert.KernelKvIdeal.nD Cert.KernelKvIdeal.τ).loc Cert.KernelKvIdeal.main_arg7) = m ((c.tc : Thread Cert.KernelKvIdeal.nD Cert.KernelKvIdeal.τ).loc Cert.KernelKvIdeal.main_arg7))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3)
      ∧ r.2.mem ((c.tc : Thread Cert.ReferenceKvIdeal.nD Cert.ReferenceKvIdeal.τ).loc Cert.ReferenceKvIdeal.main_arg4) = m ((c.tc : Thread Cert.ReferenceKvIdeal.nD Cert.ReferenceKvIdeal.τ).loc Cert.ReferenceKvIdeal.main_arg4)
      ∧ r.2.mem ((c.tc : Thread Cert.ReferenceKvIdeal.nD Cert.ReferenceKvIdeal.τ).loc Cert.ReferenceKvIdeal.main_arg5) = m ((c.tc : Thread Cert.ReferenceKvIdeal.nD Cert.ReferenceKvIdeal.τ).loc Cert.ReferenceKvIdeal.main_arg5)
      ∧ r.2.mem ((c.tc : Thread Cert.ReferenceKvIdeal.nD Cert.ReferenceKvIdeal.τ).loc Cert.ReferenceKvIdeal.main_arg6) = m ((c.tc : Thread Cert.ReferenceKvIdeal.nD Cert.ReferenceKvIdeal.τ).loc Cert.ReferenceKvIdeal.main_arg6)
      ∧ r.2.mem ((c.tc : Thread Cert.ReferenceKvIdeal.nD Cert.ReferenceKvIdeal.τ).loc Cert.ReferenceKvIdeal.main_arg7) = m ((c.tc : Thread Cert.ReferenceKvIdeal.nD Cert.ReferenceKvIdeal.τ).loc Cert.ReferenceKvIdeal.main_arg7))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2)
      ∧ r.2.mem ((c.tc : Thread Cert.KernelFinal.nD Cert.KernelFinal.τ).loc Cert.KernelFinal.main_arg3) = m ((c.tc : Thread Cert.KernelFinal.nD Cert.KernelFinal.τ).loc Cert.KernelFinal.main_arg3)
      ∧ r.2.mem ((c.tc : Thread Cert.KernelFinal.nD Cert.KernelFinal.τ).loc Cert.KernelFinal.main_arg4) = m ((c.tc : Thread Cert.KernelFinal.nD Cert.KernelFinal.τ).loc Cert.KernelFinal.main_arg4)
      ∧ r.2.mem ((c.tc : Thread Cert.KernelFinal.nD Cert.KernelFinal.τ).loc Cert.KernelFinal.main_arg5) = m ((c.tc : Thread Cert.KernelFinal.nD Cert.KernelFinal.τ).loc Cert.KernelFinal.main_arg5)
      ∧ r.2.mem ((c.tc : Thread Cert.KernelFinal.nD Cert.KernelFinal.τ).loc Cert.KernelFinal.main_arg6) = m ((c.tc : Thread Cert.KernelFinal.nD Cert.KernelFinal.τ).loc Cert.KernelFinal.main_arg6)
      ∧ r.2.mem ((c.tc : Thread Cert.KernelFinal.nD Cert.KernelFinal.τ).loc Cert.KernelFinal.main_arg7) = m ((c.tc : Thread Cert.KernelFinal.nD Cert.KernelFinal.τ).loc Cert.KernelFinal.main_arg7))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
      ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
      ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5)
      ∧ r.2.mem ((c.tc : Thread Cert.KernelFinalIdeal.nD Cert.KernelFinalIdeal.τ).loc Cert.KernelFinalIdeal.main_arg6) = m ((c.tc : Thread Cert.KernelFinalIdeal.nD Cert.KernelFinalIdeal.τ).loc Cert.KernelFinalIdeal.main_arg6)
      ∧ r.2.mem ((c.tc : Thread Cert.KernelFinalIdeal.nD Cert.KernelFinalIdeal.τ).loc Cert.KernelFinalIdeal.main_arg7) = m ((c.tc : Thread Cert.KernelFinalIdeal.nD Cert.KernelFinalIdeal.τ).loc Cert.KernelFinalIdeal.main_arg7))
      ∧ r.2.sem = fun _ => 0)

def quiescent_KernelFinalIdeal_pre_finite_final [hKernelFinalIdeal : Cert.KernelFinalIdeal.Facts] [hPre_finite_final : Cert.Pre_finite_final.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal_finite_final m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
      ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
      ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5)
      ∧ r.2.mem ((c.tc : Thread Cert.KernelFinalIdeal.nD Cert.KernelFinalIdeal.τ).loc Cert.KernelFinalIdeal.main_arg6) = m ((c.tc : Thread Cert.KernelFinalIdeal.nD Cert.KernelFinalIdeal.τ).loc Cert.KernelFinalIdeal.main_arg6)
      ∧ r.2.mem ((c.tc : Thread Cert.KernelFinalIdeal.nD Cert.KernelFinalIdeal.τ).loc Cert.KernelFinalIdeal.main_arg7) = m ((c.tc : Thread Cert.KernelFinalIdeal.nD Cert.KernelFinalIdeal.τ).loc Cert.KernelFinalIdeal.main_arg7))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4)
      ∧ r.2.mem ((c.tc : Thread Cert.ReferenceFinalIdeal.nD Cert.ReferenceFinalIdeal.τ).loc Cert.ReferenceFinalIdeal.main_arg5) = m ((c.tc : Thread Cert.ReferenceFinalIdeal.nD Cert.ReferenceFinalIdeal.τ).loc Cert.ReferenceFinalIdeal.main_arg5)
      ∧ r.2.mem ((c.tc : Thread Cert.ReferenceFinalIdeal.nD Cert.ReferenceFinalIdeal.τ).loc Cert.ReferenceFinalIdeal.main_arg6) = m ((c.tc : Thread Cert.ReferenceFinalIdeal.nD Cert.ReferenceFinalIdeal.τ).loc Cert.ReferenceFinalIdeal.main_arg6)
      ∧ r.2.mem ((c.tc : Thread Cert.ReferenceFinalIdeal.nD Cert.ReferenceFinalIdeal.τ).loc Cert.ReferenceFinalIdeal.main_arg7) = m ((c.tc : Thread Cert.ReferenceFinalIdeal.nD Cert.ReferenceFinalIdeal.τ).loc Cert.ReferenceFinalIdeal.main_arg7))
      ∧ r.2.sem = fun _ => 0)

def quiescent_ReferenceFinalIdeal_pre_finite_final [hReferenceFinalIdeal : Cert.ReferenceFinalIdeal.Facts] [hPre_finite_final : Cert.Pre_finite_final.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal_finite_final m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4)
      ∧ r.2.mem ((c.tc : Thread Cert.ReferenceFinalIdeal.nD Cert.ReferenceFinalIdeal.τ).loc Cert.ReferenceFinalIdeal.main_arg5) = m ((c.tc : Thread Cert.ReferenceFinalIdeal.nD Cert.ReferenceFinalIdeal.τ).loc Cert.ReferenceFinalIdeal.main_arg5)
      ∧ r.2.mem ((c.tc : Thread Cert.ReferenceFinalIdeal.nD Cert.ReferenceFinalIdeal.τ).loc Cert.ReferenceFinalIdeal.main_arg6) = m ((c.tc : Thread Cert.ReferenceFinalIdeal.nD Cert.ReferenceFinalIdeal.τ).loc Cert.ReferenceFinalIdeal.main_arg6)
      ∧ r.2.mem ((c.tc : Thread Cert.ReferenceFinalIdeal.nD Cert.ReferenceFinalIdeal.τ).loc Cert.ReferenceFinalIdeal.main_arg7) = m ((c.tc : Thread Cert.ReferenceFinalIdeal.nD Cert.ReferenceFinalIdeal.τ).loc Cert.ReferenceFinalIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v65_2)) (v3 : (c : Dev Cert.KernelIdeal.nD) → Buf (Elt Ideal) ((c.tc : Thread Cert.KernelIdeal.nD Cert.KernelIdeal.τ).loc Cert.KernelIdeal.main_v65_3)) (v4 : (c : Dev Cert.KernelIdeal.nD) → Buf (Elt Ideal) ((c.tc : Thread Cert.KernelIdeal.nD Cert.KernelIdeal.τ).loc Cert.KernelIdeal.main_v65_4)) (v5 : (c : Dev Cert.KernelIdeal.nD) → Buf (Elt Ideal) ((c.tc : Thread Cert.KernelIdeal.nD Cert.KernelIdeal.τ).loc Cert.KernelIdeal.main_v65_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v65_2) = v2 c
          ∧ r.2.mem ((c.tc : Thread Cert.KernelIdeal.nD Cert.KernelIdeal.τ).loc Cert.KernelIdeal.main_v65_3) = v3 c
          ∧ r.2.mem ((c.tc : Thread Cert.KernelIdeal.nD Cert.KernelIdeal.τ).loc Cert.KernelIdeal.main_v65_4) = v4 c
          ∧ r.2.mem ((c.tc : Thread Cert.KernelIdeal.nD Cert.KernelIdeal.τ).loc Cert.KernelIdeal.main_v65_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_v116) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v5) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v46)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v46) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v35) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)) →
    ∃ (v0 : (c : Dev Cert.KernelFwdIdeal.nD) → Buf (Elt Ideal) ((c.tc : Thread Cert.KernelFwdIdeal.nD Cert.KernelFwdIdeal.τ).loc Cert.KernelFwdIdeal.main_v6_0)) (v1 : (c : Dev Cert.KernelFwdIdeal.nD) → Buf (Elt Ideal) ((c.tc : Thread Cert.KernelFwdIdeal.nD Cert.KernelFwdIdeal.τ).loc Cert.KernelFwdIdeal.main_v6_1)) (v2 : (c : Dev Cert.KernelFwdIdeal.nD) → Buf (Elt Ideal) ((c.tc : Thread Cert.KernelFwdIdeal.nD Cert.KernelFwdIdeal.τ).loc Cert.KernelFwdIdeal.main_v6_2)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v6_0) = v0 c
          ∧ r.2.mem ((c.tc : Thread Cert.KernelFwdIdeal.nD Cert.KernelFwdIdeal.τ).loc Cert.KernelFwdIdeal.main_v6_1) = v1 c
          ∧ r.2.mem ((c.tc : Thread Cert.KernelFwdIdeal.nD Cert.KernelFwdIdeal.τ).loc Cert.KernelFwdIdeal.main_v6_2) = v2 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v78) = v0 c
          ∧ r.2.mem ((c.tc : Thread Cert.ReferenceFwdIdeal.nD Cert.ReferenceFwdIdeal.τ).loc Cert.ReferenceFwdIdeal.main_v79) = v1 c
          ∧ r.2.mem ((c.tc : Thread Cert.ReferenceFwdIdeal.nD Cert.ReferenceFwdIdeal.τ).loc Cert.ReferenceFwdIdeal.main_v82) = v2 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5))

def preserves_KernelPle_KernelPleIdeal : Prop :=
  True

def algebraic_KernelPleIdeal_ReferencePleIdeal_pre_finite_ple [hKernelPleIdeal : Cert.KernelPleIdeal.Facts] [hReferencePleIdeal : Cert.ReferencePleIdeal.Facts] [hPre_finite_ple : Cert.Pre_finite_ple.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal_finite_ple m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)
      ∧ m' ((c.tc : Thread Cert.ReferencePleIdeal.nD Cert.ReferencePleIdeal.τ).loc Cert.ReferencePleIdeal.main_arg5) = m ((c.tc : Thread Cert.KernelPleIdeal.nD Cert.KernelPleIdeal.τ).loc Cert.KernelPleIdeal.main_arg5)
      ∧ m' ((c.tc : Thread Cert.ReferencePleIdeal.nD Cert.ReferencePleIdeal.τ).loc Cert.ReferencePleIdeal.main_arg6) = m ((c.tc : Thread Cert.KernelPleIdeal.nD Cert.KernelPleIdeal.τ).loc Cert.KernelPleIdeal.main_arg6)) →
    ∃ (v0 : (c : Dev Cert.KernelPleIdeal.nD) → Buf (Elt Ideal) ((c.tc : Thread Cert.KernelPleIdeal.nD Cert.KernelPleIdeal.τ).loc Cert.KernelPleIdeal.main_v23_0)) (v1 : (c : Dev Cert.KernelPleIdeal.nD) → Buf (Elt Ideal) ((c.tc : Thread Cert.KernelPleIdeal.nD Cert.KernelPleIdeal.τ).loc Cert.KernelPleIdeal.main_v23_1)) (v2 : (c : Dev Cert.KernelPleIdeal.nD) → Buf (Elt Ideal) ((c.tc : Thread Cert.KernelPleIdeal.nD Cert.KernelPleIdeal.τ).loc Cert.KernelPleIdeal.main_v23_2)) (v3 : (c : Dev Cert.KernelPleIdeal.nD) → Buf (Elt Ideal) ((c.tc : Thread Cert.KernelPleIdeal.nD Cert.KernelPleIdeal.τ).loc Cert.KernelPleIdeal.main_v23_3)) (v4 : (c : Dev Cert.KernelPleIdeal.nD) → Buf (Elt Ideal) ((c.tc : Thread Cert.KernelPleIdeal.nD Cert.KernelPleIdeal.τ).loc Cert.KernelPleIdeal.main_v23_4)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v23_0) = v0 c
          ∧ r.2.mem ((c.tc : Thread Cert.KernelPleIdeal.nD Cert.KernelPleIdeal.τ).loc Cert.KernelPleIdeal.main_v23_1) = v1 c
          ∧ r.2.mem ((c.tc : Thread Cert.KernelPleIdeal.nD Cert.KernelPleIdeal.τ).loc Cert.KernelPleIdeal.main_v23_2) = v2 c
          ∧ r.2.mem ((c.tc : Thread Cert.KernelPleIdeal.nD Cert.KernelPleIdeal.τ).loc Cert.KernelPleIdeal.main_v23_3) = v3 c
          ∧ r.2.mem ((c.tc : Thread Cert.KernelPleIdeal.nD Cert.KernelPleIdeal.τ).loc Cert.KernelPleIdeal.main_v23_4) = v4 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
          ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
          ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v66) = v0 c
          ∧ r.2.mem ((c.tc : Thread Cert.ReferencePleIdeal.nD Cert.ReferencePleIdeal.τ).loc Cert.ReferencePleIdeal.main_v65) = v1 c
          ∧ r.2.mem ((c.tc : Thread Cert.ReferencePleIdeal.nD Cert.ReferencePleIdeal.τ).loc Cert.ReferencePleIdeal.main_v42) = v2 c
          ∧ r.2.mem ((c.tc : Thread Cert.ReferencePleIdeal.nD Cert.ReferencePleIdeal.τ).loc Cert.ReferencePleIdeal.main_v67) = v3 c
          ∧ r.2.mem ((c.tc : Thread Cert.ReferencePleIdeal.nD Cert.ReferencePleIdeal.τ).loc Cert.ReferencePleIdeal.main_v68) = v4 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4)
          ∧ r.2.mem ((c.tc : Thread Cert.ReferencePleIdeal.nD Cert.ReferencePleIdeal.τ).loc Cert.ReferencePleIdeal.main_arg5) = m' ((c.tc : Thread Cert.ReferencePleIdeal.nD Cert.ReferencePleIdeal.τ).loc Cert.ReferencePleIdeal.main_arg5)
          ∧ r.2.mem ((c.tc : Thread Cert.ReferencePleIdeal.nD Cert.ReferencePleIdeal.τ).loc Cert.ReferencePleIdeal.main_arg6) = m' ((c.tc : Thread Cert.ReferencePleIdeal.nD Cert.ReferencePleIdeal.τ).loc Cert.ReferencePleIdeal.main_arg6))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)
      ∧ m' ((c.tc : Thread Cert.ReferenceKvIdeal.nD Cert.ReferenceKvIdeal.τ).loc Cert.ReferenceKvIdeal.main_arg3) = m ((c.tc : Thread Cert.KernelKvIdeal.nD Cert.KernelKvIdeal.τ).loc Cert.KernelKvIdeal.main_arg3)
      ∧ m' ((c.tc : Thread Cert.ReferenceKvIdeal.nD Cert.ReferenceKvIdeal.τ).loc Cert.ReferenceKvIdeal.main_arg4) = m ((c.tc : Thread Cert.KernelKvIdeal.nD Cert.KernelKvIdeal.τ).loc Cert.KernelKvIdeal.main_arg4)
      ∧ m' ((c.tc : Thread Cert.ReferenceKvIdeal.nD Cert.ReferenceKvIdeal.τ).loc Cert.ReferenceKvIdeal.main_arg5) = m ((c.tc : Thread Cert.KernelKvIdeal.nD Cert.KernelKvIdeal.τ).loc Cert.KernelKvIdeal.main_arg5)
      ∧ m' ((c.tc : Thread Cert.ReferenceKvIdeal.nD Cert.ReferenceKvIdeal.τ).loc Cert.ReferenceKvIdeal.main_arg6) = m ((c.tc : Thread Cert.KernelKvIdeal.nD Cert.KernelKvIdeal.τ).loc Cert.KernelKvIdeal.main_arg6)
      ∧ m' ((c.tc : Thread Cert.ReferenceKvIdeal.nD Cert.ReferenceKvIdeal.τ).loc Cert.ReferenceKvIdeal.main_arg7) = m ((c.tc : Thread Cert.KernelKvIdeal.nD Cert.KernelKvIdeal.τ).loc Cert.KernelKvIdeal.main_arg7)) →
    ∃ (v0 : (c : Dev Cert.KernelKvIdeal.nD) → Buf (Elt Ideal) ((c.tc : Thread Cert.KernelKvIdeal.nD Cert.KernelKvIdeal.τ).loc Cert.KernelKvIdeal.main_v8_0)) (v1 : (c : Dev Cert.KernelKvIdeal.nD) → Buf (Elt Ideal) ((c.tc : Thread Cert.KernelKvIdeal.nD Cert.KernelKvIdeal.τ).loc Cert.KernelKvIdeal.main_v8_1)) (v2 : (c : Dev Cert.KernelKvIdeal.nD) → Buf (Elt Ideal) ((c.tc : Thread Cert.KernelKvIdeal.nD Cert.KernelKvIdeal.τ).loc Cert.KernelKvIdeal.main_v8_2)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v8_0) = v0 c
          ∧ r.2.mem ((c.tc : Thread Cert.KernelKvIdeal.nD Cert.KernelKvIdeal.τ).loc Cert.KernelKvIdeal.main_v8_1) = v1 c
          ∧ r.2.mem ((c.tc : Thread Cert.KernelKvIdeal.nD Cert.KernelKvIdeal.τ).loc Cert.KernelKvIdeal.main_v8_2) = v2 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
          ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4)
          ∧ r.2.mem ((c.tc : Thread Cert.KernelKvIdeal.nD Cert.KernelKvIdeal.τ).loc Cert.KernelKvIdeal.main_arg5) = m ((c.tc : Thread Cert.KernelKvIdeal.nD Cert.KernelKvIdeal.τ).loc Cert.KernelKvIdeal.main_arg5)
          ∧ r.2.mem ((c.tc : Thread Cert.KernelKvIdeal.nD Cert.KernelKvIdeal.τ).loc Cert.KernelKvIdeal.main_arg6) = m ((c.tc : Thread Cert.KernelKvIdeal.nD Cert.KernelKvIdeal.τ).loc Cert.KernelKvIdeal.main_arg6)
          ∧ r.2.mem ((c.tc : Thread Cert.KernelKvIdeal.nD Cert.KernelKvIdeal.τ).loc Cert.KernelKvIdeal.main_arg7) = m ((c.tc : Thread Cert.KernelKvIdeal.nD Cert.KernelKvIdeal.τ).loc Cert.KernelKvIdeal.main_arg7))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v27) = v0 c
          ∧ r.2.mem ((c.tc : Thread Cert.ReferenceKvIdeal.nD Cert.ReferenceKvIdeal.τ).loc Cert.ReferenceKvIdeal.main_v42) = v1 c
          ∧ r.2.mem ((c.tc : Thread Cert.ReferenceKvIdeal.nD Cert.ReferenceKvIdeal.τ).loc Cert.ReferenceKvIdeal.main_v43) = v2 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2)
          ∧ r.2.mem ((c.tc : Thread Cert.ReferenceKvIdeal.nD Cert.ReferenceKvIdeal.τ).loc Cert.ReferenceKvIdeal.main_arg3) = m' ((c.tc : Thread Cert.ReferenceKvIdeal.nD Cert.ReferenceKvIdeal.τ).loc Cert.ReferenceKvIdeal.main_arg3)
          ∧ r.2.mem ((c.tc : Thread Cert.ReferenceKvIdeal.nD Cert.ReferenceKvIdeal.τ).loc Cert.ReferenceKvIdeal.main_arg4) = m' ((c.tc : Thread Cert.ReferenceKvIdeal.nD Cert.ReferenceKvIdeal.τ).loc Cert.ReferenceKvIdeal.main_arg4)
          ∧ r.2.mem ((c.tc : Thread Cert.ReferenceKvIdeal.nD Cert.ReferenceKvIdeal.τ).loc Cert.ReferenceKvIdeal.main_arg5) = m' ((c.tc : Thread Cert.ReferenceKvIdeal.nD Cert.ReferenceKvIdeal.τ).loc Cert.ReferenceKvIdeal.main_arg5)
          ∧ r.2.mem ((c.tc : Thread Cert.ReferenceKvIdeal.nD Cert.ReferenceKvIdeal.τ).loc Cert.ReferenceKvIdeal.main_arg6) = m' ((c.tc : Thread Cert.ReferenceKvIdeal.nD Cert.ReferenceKvIdeal.τ).loc Cert.ReferenceKvIdeal.main_arg6)
          ∧ r.2.mem ((c.tc : Thread Cert.ReferenceKvIdeal.nD Cert.ReferenceKvIdeal.τ).loc Cert.ReferenceKvIdeal.main_arg7) = m' ((c.tc : Thread Cert.ReferenceKvIdeal.nD Cert.ReferenceKvIdeal.τ).loc Cert.ReferenceKvIdeal.main_arg7))

def preserves_KernelFinal_KernelFinalIdeal : Prop :=
  True

def algebraic_KernelFinalIdeal_ReferenceFinalIdeal_pre_finite_final [hKernelFinalIdeal : Cert.KernelFinalIdeal.Facts] [hReferenceFinalIdeal : Cert.ReferenceFinalIdeal.Facts] [hPre_finite_final : Cert.Pre_finite_final.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal_finite_final m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)
      ∧ m' ((c.tc : Thread Cert.ReferenceFinalIdeal.nD Cert.ReferenceFinalIdeal.τ).loc Cert.ReferenceFinalIdeal.main_arg3) = m ((c.tc : Thread Cert.KernelFinalIdeal.nD Cert.KernelFinalIdeal.τ).loc Cert.KernelFinalIdeal.main_arg3)
      ∧ m' ((c.tc : Thread Cert.ReferenceFinalIdeal.nD Cert.ReferenceFinalIdeal.τ).loc Cert.ReferenceFinalIdeal.main_arg4) = m ((c.tc : Thread Cert.KernelFinalIdeal.nD Cert.KernelFinalIdeal.τ).loc Cert.KernelFinalIdeal.main_arg4)
      ∧ m' ((c.tc : Thread Cert.ReferenceFinalIdeal.nD Cert.ReferenceFinalIdeal.τ).loc Cert.ReferenceFinalIdeal.main_arg5) = m ((c.tc : Thread Cert.KernelFinalIdeal.nD Cert.KernelFinalIdeal.τ).loc Cert.KernelFinalIdeal.main_arg5)
      ∧ m' ((c.tc : Thread Cert.ReferenceFinalIdeal.nD Cert.ReferenceFinalIdeal.τ).loc Cert.ReferenceFinalIdeal.main_arg6) = m ((c.tc : Thread Cert.KernelFinalIdeal.nD Cert.KernelFinalIdeal.τ).loc Cert.KernelFinalIdeal.main_arg6)
      ∧ m' ((c.tc : Thread Cert.ReferenceFinalIdeal.nD Cert.ReferenceFinalIdeal.τ).loc Cert.ReferenceFinalIdeal.main_arg7) = m ((c.tc : Thread Cert.KernelFinalIdeal.nD Cert.KernelFinalIdeal.τ).loc Cert.KernelFinalIdeal.main_arg7)) →
    ∃ (v0 : (c : Dev Cert.KernelFinalIdeal.nD) → Buf (Elt Ideal) ((c.tc : Thread Cert.KernelFinalIdeal.nD Cert.KernelFinalIdeal.τ).loc Cert.KernelFinalIdeal.main_v7_0)) (v1 : (c : Dev Cert.KernelFinalIdeal.nD) → Buf (Elt Ideal) ((c.tc : Thread Cert.KernelFinalIdeal.nD Cert.KernelFinalIdeal.τ).loc Cert.KernelFinalIdeal.main_v7_1)) (v2 : (c : Dev Cert.KernelFinalIdeal.nD) → Buf (Elt Ideal) ((c.tc : Thread Cert.KernelFinalIdeal.nD Cert.KernelFinalIdeal.τ).loc Cert.KernelFinalIdeal.main_v7_2)) (v3 : (c : Dev Cert.KernelFinalIdeal.nD) → Buf (Elt Ideal) ((c.tc : Thread Cert.KernelFinalIdeal.nD Cert.KernelFinalIdeal.τ).loc Cert.KernelFinalIdeal.main_v7_3)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v7_0) = v0 c
          ∧ r.2.mem ((c.tc : Thread Cert.KernelFinalIdeal.nD Cert.KernelFinalIdeal.τ).loc Cert.KernelFinalIdeal.main_v7_1) = v1 c
          ∧ r.2.mem ((c.tc : Thread Cert.KernelFinalIdeal.nD Cert.KernelFinalIdeal.τ).loc Cert.KernelFinalIdeal.main_v7_2) = v2 c
          ∧ r.2.mem ((c.tc : Thread Cert.KernelFinalIdeal.nD Cert.KernelFinalIdeal.τ).loc Cert.KernelFinalIdeal.main_v7_3) = v3 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
          ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
          ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
          ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5)
          ∧ r.2.mem ((c.tc : Thread Cert.KernelFinalIdeal.nD Cert.KernelFinalIdeal.τ).loc Cert.KernelFinalIdeal.main_arg6) = m ((c.tc : Thread Cert.KernelFinalIdeal.nD Cert.KernelFinalIdeal.τ).loc Cert.KernelFinalIdeal.main_arg6)
          ∧ r.2.mem ((c.tc : Thread Cert.KernelFinalIdeal.nD Cert.KernelFinalIdeal.τ).loc Cert.KernelFinalIdeal.main_arg7) = m ((c.tc : Thread Cert.KernelFinalIdeal.nD Cert.KernelFinalIdeal.τ).loc Cert.KernelFinalIdeal.main_arg7))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v78) = v0 c
          ∧ r.2.mem ((c.tc : Thread Cert.ReferenceFinalIdeal.nD Cert.ReferenceFinalIdeal.τ).loc Cert.ReferenceFinalIdeal.main_v79) = v1 c
          ∧ r.2.mem ((c.tc : Thread Cert.ReferenceFinalIdeal.nD Cert.ReferenceFinalIdeal.τ).loc Cert.ReferenceFinalIdeal.main_v80) = v2 c
          ∧ r.2.mem ((c.tc : Thread Cert.ReferenceFinalIdeal.nD Cert.ReferenceFinalIdeal.τ).loc Cert.ReferenceFinalIdeal.main_v81) = v3 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4)
          ∧ r.2.mem ((c.tc : Thread Cert.ReferenceFinalIdeal.nD Cert.ReferenceFinalIdeal.τ).loc Cert.ReferenceFinalIdeal.main_arg5) = m' ((c.tc : Thread Cert.ReferenceFinalIdeal.nD Cert.ReferenceFinalIdeal.τ).loc Cert.ReferenceFinalIdeal.main_arg5)
          ∧ r.2.mem ((c.tc : Thread Cert.ReferenceFinalIdeal.nD Cert.ReferenceFinalIdeal.τ).loc Cert.ReferenceFinalIdeal.main_arg6) = m' ((c.tc : Thread Cert.ReferenceFinalIdeal.nD Cert.ReferenceFinalIdeal.τ).loc Cert.ReferenceFinalIdeal.main_arg6)
          ∧ r.2.mem ((c.tc : Thread Cert.ReferenceFinalIdeal.nD Cert.ReferenceFinalIdeal.τ).loc Cert.ReferenceFinalIdeal.main_arg7) = m' ((c.tc : Thread Cert.ReferenceFinalIdeal.nD Cert.ReferenceFinalIdeal.τ).loc Cert.ReferenceFinalIdeal.main_arg7))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelFwd : Cert.KernelFwd.Facts) (hKernelFwdIdeal : Cert.KernelFwdIdeal.Facts) (hReferenceFwdIdeal : Cert.ReferenceFwdIdeal.Facts) (hKernelPle : Cert.KernelPle.Facts) (hKernelPleIdeal : Cert.KernelPleIdeal.Facts) (hReferencePleIdeal : Cert.ReferencePleIdeal.Facts) (hKernelKv : Cert.KernelKv.Facts) (hKernelKvIdeal : Cert.KernelKvIdeal.Facts) (hReferenceKvIdeal : Cert.ReferenceKvIdeal.Facts) (hKernelFinal : Cert.KernelFinal.Facts) (hKernelFinalIdeal : Cert.KernelFinalIdeal.Facts) (hReferenceFinalIdeal : Cert.ReferenceFinalIdeal.Facts) (hPre_finite : Cert.Pre_finite.Facts) (hPre_finite_ple : Cert.Pre_finite_ple.Facts) (hPre_finite_final : Cert.Pre_finite_final.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelPle (hKernelPle := hKernelPle)
    ∧ quiescent_KernelPleIdeal (hKernelPleIdeal := hKernelPleIdeal)
    ∧ quiescent_KernelPleIdeal_pre_finite_ple (hKernelPleIdeal := hKernelPleIdeal) (hPre_finite_ple := hPre_finite_ple)
    ∧ quiescent_ReferencePleIdeal (hReferencePleIdeal := hReferencePleIdeal)
    ∧ quiescent_ReferencePleIdeal_pre_finite_ple (hReferencePleIdeal := hReferencePleIdeal) (hPre_finite_ple := hPre_finite_ple)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelFinal (hKernelFinal := hKernelFinal)
    ∧ quiescent_KernelFinalIdeal (hKernelFinalIdeal := hKernelFinalIdeal)
    ∧ quiescent_KernelFinalIdeal_pre_finite_final (hKernelFinalIdeal := hKernelFinalIdeal) (hPre_finite_final := hPre_finite_final)
    ∧ quiescent_ReferenceFinalIdeal (hReferenceFinalIdeal := hReferenceFinalIdeal)
    ∧ quiescent_ReferenceFinalIdeal_pre_finite_final (hReferenceFinalIdeal := hReferenceFinalIdeal) (hPre_finite_final := hPre_finite_final)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelPle_KernelPleIdeal
    ∧ algebraic_KernelPleIdeal_ReferencePleIdeal_pre_finite_ple (hKernelPleIdeal := hKernelPleIdeal) (hReferencePleIdeal := hReferencePleIdeal) (hPre_finite_ple := hPre_finite_ple)
    ∧ preserves_KernelKv_KernelKvIdeal
    ∧ algebraic_KernelKvIdeal_ReferenceKvIdeal (hKernelKvIdeal := hKernelKvIdeal) (hReferenceKvIdeal := hReferenceKvIdeal)
    ∧ preserves_KernelFinal_KernelFinalIdeal
    ∧ algebraic_KernelFinalIdeal_ReferenceFinalIdeal_pre_finite_final (hKernelFinalIdeal := hKernelFinalIdeal) (hReferenceFinalIdeal := hReferenceFinalIdeal) (hPre_finite_final := hPre_finite_final)
-- ==== Pre_finite.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)

variable [Facts]

def fn_part2 {F : FTy → Type} [FloatOps F] (main_v4 : IVec S8192x1024 1) (main_v9 : IVec S8192x1024 1) (main_v14 : IVec S1024 1) (main_v19 : IVec S1024x5632 1) (main_v24 : IVec S3x5632 1) (main_v29 : IVec S5632 1) (main_v31 : IVec S2816x1024 1) (main_v33 : IVec S2816x1024 1) : IVec S8192x1024 1 × IVec S8192x1024 1 × IVec S1024 1 × IVec S1024x5632 1 × IVec S3x5632 1 × IVec S5632 1 × IVec S2816x1024 1 :=
  let main_v34 : IVec S2816x1024 1 := andi main_v31 main_v33
  (main_v4, main_v9, main_v14, main_v19, main_v24, main_v29, main_v34)

def fn_part1 {F : FTy → Type} [FloatOps F] (main_arg3 : FVec F S1024x5632 .f32) (main_arg4 : FVec F S3x5632 .f32) (main_arg5 : FVec F S5632 .f32) (main_arg6 : FVec F S2816x1024 .f32) (main_v4 : IVec S8192x1024 1) (main_v9 : IVec S8192x1024 1) (main_v14 : IVec S1024 1) (main_v16 : IVec S1024x5632 1) : IVec S8192x1024 1 × IVec S8192x1024 1 × IVec S1024 1 × IVec S1024x5632 1 × IVec S3x5632 1 × IVec S5632 1 × IVec S2816x1024 1 :=
  let main_cst_6 : FVec F S_ .f32 := constant S_ .f32 0xFF800000#32
  let main_v17 : FVec F S1024x5632 .f32 := broadcastInDim S1024x5632 ![] bcast_S_S1024x5632 main_cst_6
  let main_v18 : IVec S1024x5632 1 := cmpf .ogt main_arg3 main_v17
  let main_v19 : IVec S1024x5632 1 := andi main_v16 main_v18
  let main_cst_7 : FVec F S_ .f32 := constant S_ .f32 0x7F800000#32
  let main_v20 : FVec F S3x5632 .f32 := broadcastInDim S3x5632 ![] bcast_S_S3x5632 main_cst_7
  let main_v21 : IVec S3x5632 1 := cmpf .olt main_arg4 main_v20
  let main_cst_8 : FVec F S_ .f32 := constant S_ .f32 0xFF800000#32
  let main_v22 : FVec F S3x5632 .f32 := broadcastInDim S3x5632 ![] bcast_S_S3x5632 main_cst_8
  let main_v23 : IVec S3x5632 1 := cmpf .ogt main_arg4 main_v22
  let main_v24 : IVec S3x5632 1 := andi main_v21 main_v23
  let main_cst_9 : FVec F S_ .f32 := constant S_ .f32 0x7F800000#32
  let main_v25 : FVec F S5632 .f32 := broadcastInDim S5632 ![] bcast_S_S5632 main_cst_9
  let main_v26 : IVec S5632 1 := cmpf .olt main_arg5 main_v25
  let main_cst_10 : FVec F S_ .f32 := constant S_ .f32 0xFF800000#32
  let main_v27 : FVec F S5632 .f32 := broadcastInDim S5632 ![] bcast_S_S5632 main_cst_10
  let main_v28 : IVec S5632 1 := cmpf .ogt main_arg5 main_v27
  let main_v29 : IVec S5632 1 := andi main_v26 main_v28
  let main_cst_11 : FVec F S_ .f32 := constant S_ .f32 0x7F800000#32
  let main_v30 : FVec F S2816x1024 .f32 := broadcastInDim S2816x1024 ![] bcast_S_S2816x1024 main_cst_11
  let main_v31 : IVec S2816x1024 1 := cmpf .olt main_arg6 main_v30
  let main_cst_12 : FVec F S_ .f32 := constant S_ .f32 0xFF800000#32
  let main_v32 : FVec F S2816x1024 .f32 := broadcastInDim S2816x1024 ![] bcast_S_S2816x1024 main_cst_12
  let main_v33 : IVec S2816x1024 1 := cmpf .ogt main_arg6 main_v32
  fn_part2 (F := F) main_v4 main_v9 main_v14 main_v19 main_v24 main_v29 main_v31 main_v33

def fn {F : FTy → Type} [FloatOps F] (main_arg0 : FVec F S8192x1024 .f32) (main_arg1 : FVec F S8192x1024 .f32) (main_arg2 : FVec F S1024 .f32) (main_arg3 : FVec F S1024x5632 .f32) (main_arg4 : FVec F S3x5632 .f32) (main_arg5 : FVec F S5632 .f32) (main_arg6 : FVec F S2816x1024 .f32) : IVec S8192x1024 1 × IVec S8192x1024 1 × IVec S1024 1 × IVec S1024x5632 1 × IVec S3x5632 1 × IVec S5632 1 × IVec S2816x1024 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_cst_1 : FVec F S_ .f32 := constant S_ .f32 0x7F800000#32
  let main_v5 : FVec F S8192x1024 .f32 := broadcastInDim S8192x1024 ![] bcast_S_S8192x1024 main_cst_1
  let main_v6 : IVec S8192x1024 1 := cmpf .olt main_arg1 main_v5
  let main_cst_2 : FVec F S_ .f32 := constant S_ .f32 0xFF800000#32
  let main_v7 : FVec F S8192x1024 .f32 := broadcastInDim S8192x1024 ![] bcast_S_S8192x1024 main_cst_2
  let main_v8 : IVec S8192x1024 1 := cmpf .ogt main_arg1 main_v7
  let main_v9 : IVec S8192x1024 1 := andi main_v6 main_v8
  let main_cst_3 : FVec F S_ .f32 := constant S_ .f32 0x7F800000#32
  let main_v10 : FVec F S1024 .f32 := broadcastInDim S1024 ![] bcast_S_S1024 main_cst_3
  let main_v11 : IVec S1024 1 := cmpf .olt main_arg2 main_v10
  let main_cst_4 : FVec F S_ .f32 := constant S_ .f32 0xFF800000#32
  let main_v12 : FVec F S1024 .f32 := broadcastInDim S1024 ![] bcast_S_S1024 main_cst_4
  let main_v13 : IVec S1024 1 := cmpf .ogt main_arg2 main_v12
  let main_v14 : IVec S1024 1 := andi main_v11 main_v13
  let main_cst_5 : FVec F S_ .f32 := constant S_ .f32 0x7F800000#32
  let main_v15 : FVec F S1024x5632 .f32 := broadcastInDim S1024x5632 ![] bcast_S_S1024x5632 main_cst_5
  let main_v16 : IVec S1024x5632 1 := cmpf .olt main_arg3 main_v15
  fn_part1 (F := F) main_arg3 main_arg4 main_arg5 main_arg6 main_v4 main_v9 main_v14 main_v16
-- ==== Pre_finite_final.lean ====
abbrev S8192x1024 : Shape := ⟨2, ![8192, 1024]⟩
abbrev S2x8192x256 : Shape := ⟨3, ![2, 8192, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S2x8192x256 : S_.BroadcastsInDim S2x8192x256 (![] : Fin 0 → Fin S2x8192x256.rank)
  bcast_S_S1024 : S_.BroadcastsInDim S1024 (![] : Fin 0 → Fin S1024.rank)
  bcast_S_S256x1024 : S_.BroadcastsInDim S256x1024 (![] : Fin 0 → Fin S256x1024.rank)
  bcast_S_S1024x1024 : S_.BroadcastsInDim S1024x1024 (![] : Fin 0 → Fin S1024x1024.rank)

variable [Facts]

def fn_part2 {F : FTy → Type} [FloatOps F] (main_arg7 : FVec F S1024 .f32) (main_v4 : IVec S8192x1024 1) (main_v9 : IVec S2x8192x256 1) (main_v14 : IVec S8192x1024 1) (main_v19 : IVec S1024 1) (main_v24 : IVec S256x1024 1) (main_v29 : IVec S1024x1024 1) (main_v31 : IVec S1024 1) (main_v33 : IVec S1024 1) : IVec S8192x1024 1 × IVec S2x8192x256 1 × IVec S8192x1024 1 × IVec S1024 1 × IVec S256x1024 1 × IVec S1024x1024 1 × IVec S1024 1 × IVec S1024 1 :=
  let main_v34 : IVec S1024 1 := andi main_v31 main_v33
  let main_cst_13 : FVec F S_ .f32 := constant S_ .f32 0x7F800000#32
  let main_v35 : FVec F S1024 .f32 := broadcastInDim S1024 ![] bcast_S_S1024 main_cst_13
  let main_v36 : IVec S1024 1 := cmpf .olt main_arg7 main_v35
  let main_cst_14 : FVec F S_ .f32 := constant S_ .f32 0xFF800000#32
  let main_v37 : FVec F S1024 .f32 := broadcastInDim S1024 ![] bcast_S_S1024 main_cst_14
  let main_v38 : IVec S1024 1 := cmpf .ogt main_arg7 main_v37
  let main_v39 : IVec S1024 1 := andi main_v36 main_v38
  (main_v4, main_v9, main_v14, main_v19, main_v24, main_v29, main_v34, main_v39)

def fn_part1 {F : FTy → Type} [FloatOps F] (main_arg3 : FVec F S1024 .f32) (main_arg4 : FVec F S256x1024 .f32) (main_arg5 : FVec F S1024x1024 .f32) (main_arg6 : FVec F S1024 .f32) (main_arg7 : FVec F S1024 .f32) (main_v4 : IVec S8192x1024 1) (main_v9 : IVec S2x8192x256 1) (main_v14 : IVec S8192x1024 1) (main_v16 : IVec S1024 1) : IVec S8192x1024 1 × IVec S2x8192x256 1 × IVec S8192x1024 1 × IVec S1024 1 × IVec S256x1024 1 × IVec S1024x1024 1 × IVec S1024 1 × IVec S1024 1 :=
  let main_cst_6 : FVec F S_ .f32 := constant S_ .f32 0xFF800000#32
  let main_v17 : FVec F S1024 .f32 := broadcastInDim S1024 ![] bcast_S_S1024 main_cst_6
  let main_v18 : IVec S1024 1 := cmpf .ogt main_arg3 main_v17
  let main_v19 : IVec S1024 1 := andi main_v16 main_v18
  let main_cst_7 : FVec F S_ .f32 := constant S_ .f32 0x7F800000#32
  let main_v20 : FVec F S256x1024 .f32 := broadcastInDim S256x1024 ![] bcast_S_S256x1024 main_cst_7
  let main_v21 : IVec S256x1024 1 := cmpf .olt main_arg4 main_v20
  let main_cst_8 : FVec F S_ .f32 := constant S_ .f32 0xFF800000#32
  let main_v22 : FVec F S256x1024 .f32 := broadcastInDim S256x1024 ![] bcast_S_S256x1024 main_cst_8
  let main_v23 : IVec S256x1024 1 := cmpf .ogt main_arg4 main_v22
  let main_v24 : IVec S256x1024 1 := andi main_v21 main_v23
  let main_cst_9 : FVec F S_ .f32 := constant S_ .f32 0x7F800000#32
  let main_v25 : FVec F S1024x1024 .f32 := broadcastInDim S1024x1024 ![] bcast_S_S1024x1024 main_cst_9
  let main_v26 : IVec S1024x1024 1 := cmpf .olt main_arg5 main_v25
  let main_cst_10 : FVec F S_ .f32 := constant S_ .f32 0xFF800000#32
  let main_v27 : FVec F S1024x1024 .f32 := broadcastInDim S1024x1024 ![] bcast_S_S1024x1024 main_cst_10
  let main_v28 : IVec S1024x1024 1 := cmpf .ogt main_arg5 main_v27
  let main_v29 : IVec S1024x1024 1 := andi main_v26 main_v28
  let main_cst_11 : FVec F S_ .f32 := constant S_ .f32 0x7F800000#32
  let main_v30 : FVec F S1024 .f32 := broadcastInDim S1024 ![] bcast_S_S1024 main_cst_11
  let main_v31 : IVec S1024 1 := cmpf .olt main_arg6 main_v30
  let main_cst_12 : FVec F S_ .f32 := constant S_ .f32 0xFF800000#32
  let main_v32 : FVec F S1024 .f32 := broadcastInDim S1024 ![] bcast_S_S1024 main_cst_12
  let main_v33 : IVec S1024 1 := cmpf .ogt main_arg6 main_v32
  fn_part2 (F := F) main_arg7 main_v4 main_v9 main_v14 main_v19 main_v24 main_v29 main_v31 main_v33

def fn {F : FTy → Type} [FloatOps F] (main_arg0 : FVec F S8192x1024 .f32) (main_arg1 : FVec F S2x8192x256 .f32) (main_arg2 : FVec F S8192x1024 .f32) (main_arg3 : FVec F S1024 .f32) (main_arg4 : FVec F S256x1024 .f32) (main_arg5 : FVec F S1024x1024 .f32) (main_arg6 : FVec F S1024 .f32) (main_arg7 : FVec F S1024 .f32) : IVec S8192x1024 1 × IVec S2x8192x256 1 × IVec S8192x1024 1 × IVec S1024 1 × IVec S256x1024 1 × IVec S1024x1024 1 × IVec S1024 1 × IVec S1024 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_cst_1 : FVec F S_ .f32 := constant S_ .f32 0x7F800000#32
  let main_v5 : FVec F S2x8192x256 .f32 := broadcastInDim S2x8192x256 ![] bcast_S_S2x8192x256 main_cst_1
  let main_v6 : IVec S2x8192x256 1 := cmpf .olt main_arg1 main_v5
  let main_cst_2 : FVec F S_ .f32 := constant S_ .f32 0xFF800000#32
  let main_v7 : FVec F S2x8192x256 .f32 := broadcastInDim S2x8192x256 ![] bcast_S_S2x8192x256 main_cst_2
  let main_v8 : IVec S2x8192x256 1 := cmpf .ogt main_arg1 main_v7
  let main_v9 : IVec S2x8192x256 1 := andi main_v6 main_v8
  let main_cst_3 : FVec F S_ .f32 := constant S_ .f32 0x7F800000#32
  let main_v10 : FVec F S8192x1024 .f32 := broadcastInDim S8192x1024 ![] bcast_S_S8192x1024 main_cst_3
  let main_v11 : IVec S8192x1024 1 := cmpf .olt main_arg2 main_v10
  let main_cst_4 : FVec F S_ .f32 := constant S_ .f32 0xFF800000#32
  let main_v12 : FVec F S8192x1024 .f32 := broadcastInDim S8192x1024 ![] bcast_S_S8192x1024 main_cst_4
  let main_v13 : IVec S8192x1024 1 := cmpf .ogt main_arg2 main_v12
  let main_v14 : IVec S8192x1024 1 := andi main_v11 main_v13
  let main_cst_5 : FVec F S_ .f32 := constant S_ .f32 0x7F800000#32
  let main_v15 : FVec F S1024 .f32 := broadcastInDim S1024 ![] bcast_S_S1024 main_cst_5
  let main_v16 : IVec S1024 1 := cmpf .olt main_arg3 main_v15
  fn_part1 (F := F) main_arg3 main_arg4 main_arg5 main_arg6 main_arg7 main_v4 main_v9 main_v14 main_v16
-- ==== Pre_finite_ple.lean ====
abbrev S8192x1024 : Shape := ⟨2, ![8192, 1024]⟩
abbrev S2x8192x256 : Shape := ⟨3, ![2, 8192, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S2x8192x256 : S_.BroadcastsInDim S2x8192x256 (![] : Fin 0 → Fin S2x8192x256.rank)
  bcast_S_S1024 : S_.BroadcastsInDim S1024 (![] : Fin 0 → Fin S1024.rank)
  bcast_S_S256x1024 : S_.BroadcastsInDim S256x1024 (![] : Fin 0 → Fin S256x1024.rank)
  bcast_S_S1024x1024 : S_.BroadcastsInDim S1024x1024 (![] : Fin 0 → Fin S1024x1024.rank)

variable [Facts]

def fn_part2 {F : FTy → Type} [FloatOps F] (main_v4 : IVec S8192x1024 1) (main_v9 : IVec S8192x1024 1) (main_v14 : IVec S2x8192x256 1) (main_v19 : IVec S1024 1) (main_v24 : IVec S256x1024 1) (main_v29 : IVec S1024x1024 1) (main_v31 : IVec S1024 1) (main_v33 : IVec S1024 1) : IVec S8192x1024 1 × IVec S8192x1024 1 × IVec S2x8192x256 1 × IVec S1024 1 × IVec S256x1024 1 × IVec S1024x1024 1 × IVec S1024 1 :=
  let main_v34 : IVec S1024 1 := andi main_v31 main_v33
  (main_v4, main_v9, main_v14, main_v19, main_v24, main_v29, main_v34)

def fn_part1 {F : FTy → Type} [FloatOps F] (main_arg3 : FVec F S1024 .f32) (main_arg4 : FVec F S256x1024 .f32) (main_arg5 : FVec F S1024x1024 .f32) (main_arg6 : FVec F S1024 .f32) (main_v4 : IVec S8192x1024 1) (main_v9 : IVec S8192x1024 1) (main_v14 : IVec S2x8192x256 1) (main_v16 : IVec S1024 1) : IVec S8192x1024 1 × IVec S8192x1024 1 × IVec S2x8192x256 1 × IVec S1024 1 × IVec S256x1024 1 × IVec S1024x1024 1 × IVec S1024 1 :=
  let main_cst_6 : FVec F S_ .f32 := constant S_ .f32 0xFF800000#32
  let main_v17 : FVec F S1024 .f32 := broadcastInDim S1024 ![] bcast_S_S1024 main_cst_6
  let main_v18 : IVec S1024 1 := cmpf .ogt main_arg3 main_v17
  let main_v19 : IVec S1024 1 := andi main_v16 main_v18
  let main_cst_7 : FVec F S_ .f32 := constant S_ .f32 0x7F800000#32
  let main_v20 : FVec F S256x1024 .f32 := broadcastInDim S256x1024 ![] bcast_S_S256x1024 main_cst_7
  let main_v21 : IVec S256x1024 1 := cmpf .olt main_arg4 main_v20
  let main_cst_8 : FVec F S_ .f32 := constant S_ .f32 0xFF800000#32
  let main_v22 : FVec F S256x1024 .f32 := broadcastInDim S256x1024 ![] bcast_S_S256x1024 main_cst_8
  let main_v23 : IVec S256x1024 1 := cmpf .ogt main_arg4 main_v22
  let main_v24 : IVec S256x1024 1 := andi main_v21 main_v23
  let main_cst_9 : FVec F S_ .f32 := constant S_ .f32 0x7F800000#32
  let main_v25 : FVec F S1024x1024 .f32 := broadcastInDim S1024x1024 ![] bcast_S_S1024x1024 main_cst_9
  let main_v26 : IVec S1024x1024 1 := cmpf .olt main_arg5 main_v25
  let main_cst_10 : FVec F S_ .f32 := constant S_ .f32 0xFF800000#32
  let main_v27 : FVec F S1024x1024 .f32 := broadcastInDim S1024x1024 ![] bcast_S_S1024x1024 main_cst_10
  let main_v28 : IVec S1024x1024 1 := cmpf .ogt main_arg5 main_v27
  let main_v29 : IVec S1024x1024 1 := andi main_v26 main_v28
  let main_cst_11 : FVec F S_ .f32 := constant S_ .f32 0x7F800000#32
  let main_v30 : FVec F S1024 .f32 := broadcastInDim S1024 ![] bcast_S_S1024 main_cst_11
  let main_v31 : IVec S1024 1 := cmpf .olt main_arg6 main_v30
  let main_cst_12 : FVec F S_ .f32 := constant S_ .f32 0xFF800000#32
  let main_v32 : FVec F S1024 .f32 := broadcastInDim S1024 ![] bcast_S_S1024 main_cst_12
  let main_v33 : IVec S1024 1 := cmpf .ogt main_arg6 main_v32
  fn_part2 (F := F) main_v4 main_v9 main_v14 main_v19 main_v24 main_v29 main_v31 main_v33

def fn {F : FTy → Type} [FloatOps F] (main_arg0 : FVec F S8192x1024 .f32) (main_arg1 : FVec F S8192x1024 .f32) (main_arg2 : FVec F S2x8192x256 .f32) (main_arg3 : FVec F S1024 .f32) (main_arg4 : FVec F S256x1024 .f32) (main_arg5 : FVec F S1024x1024 .f32) (main_arg6 : FVec F S1024 .f32) : IVec S8192x1024 1 × IVec S8192x1024 1 × IVec S2x8192x256 1 × IVec S1024 1 × IVec S256x1024 1 × IVec S1024x1024 1 × IVec S1024 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_cst_1 : FVec F S_ .f32 := constant S_ .f32 0x7F800000#32
  let main_v5 : FVec F S8192x1024 .f32 := broadcastInDim S8192x1024 ![] bcast_S_S8192x1024 main_cst_1
  let main_v6 : IVec S8192x1024 1 := cmpf .olt main_arg1 main_v5
  let main_cst_2 : FVec F S_ .f32 := constant S_ .f32 0xFF800000#32
  let main_v7 : FVec F S8192x1024 .f32 := broadcastInDim S8192x1024 ![] bcast_S_S8192x1024 main_cst_2
  let main_v8 : IVec S8192x1024 1 := cmpf .ogt main_arg1 main_v7
  let main_v9 : IVec S8192x1024 1 := andi main_v6 main_v8
  let main_cst_3 : FVec F S_ .f32 := constant S_ .f32 0x7F800000#32
  let main_v10 : FVec F S2x8192x256 .f32 := broadcastInDim S2x8192x256 ![] bcast_S_S2x8192x256 main_cst_3
  let main_v11 : IVec S2x8192x256 1 := cmpf .olt main_arg2 main_v10
  let main_cst_4 : FVec F S_ .f32 := constant S_ .f32 0xFF800000#32
  let main_v12 : FVec F S2x8192x256 .f32 := broadcastInDim S2x8192x256 ![] bcast_S_S2x8192x256 main_cst_4
  let main_v13 : IVec S2x8192x256 1 := cmpf .ogt main_arg2 main_v12
  let main_v14 : IVec S2x8192x256 1 := andi main_v11 main_v13
  let main_cst_5 : FVec F S_ .f32 := constant S_ .f32 0x7F800000#32
  let main_v15 : FVec F S1024 .f32 := broadcastInDim S1024 ![] bcast_S_S1024 main_cst_5
  let main_v16 : IVec S1024 1 := cmpf .olt main_arg3 main_v15
  fn_part1 (F := F) main_arg3 main_arg4 main_arg5 main_arg6 main_v4 main_v9 main_v14 main_v16
-- ==== Kernel.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S8192x11264 : Shape := ⟨2, ![8192, 11264]⟩
abbrev S1024x4x1408 : Shape := ⟨3, ![1024, 4, 1408]⟩
abbrev S4x1024x1408 : Shape := ⟨3, ![4, 1024, 1408]⟩
abbrev S256x1024 : Shape := ⟨2, ![256, 1024]⟩
abbrev S256x5632 : Shape := ⟨2, ![256, 5632]⟩
abbrev S256x2816 : Shape := ⟨2, ![256, 2816]⟩
abbrev S4x8x1408 : Shape := ⟨3, ![4, 8, 1408]⟩
abbrev S8 : Shape := ⟨1, ![8]⟩
abbrev S1 : Shape := ⟨1, ![1]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1x8x1408 : Shape := ⟨3, ![1, 8, 1408]⟩
abbrev S8x1408 : Shape := ⟨2, ![8, 1408]⟩
abbrev S264x1408 : Shape := ⟨2, ![264, 1408]⟩
abbrev S1x1408 : Shape := ⟨2, ![1, 1408]⟩
abbrev S1408 : Shape := ⟨1, ![1408]⟩
abbrev S1x1024x1408 : Shape := ⟨3, ![1, 1024, 1408]⟩
abbrev S1024x1408 : Shape := ⟨2, ![1024, 1408]⟩

abbrev nBuf : Space → Nat
  | .hbm => 87
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x5632, .f32⟩
  | .hbm, ⟨24, _⟩ => ⟨S_, .f32⟩
  | .hbm, ⟨25, _⟩ => ⟨S2x5632, .f32⟩
  | .hbm, ⟨26, _⟩ => ⟨S8194x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S1x5632, .f32⟩
  | .hbm, ⟨38, _⟩ => ⟨S5632, .f32⟩
  | .hbm, ⟨39, _⟩ => ⟨S1x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S1x5632, .f32⟩
  | .hbm, ⟨45, _⟩ => ⟨S5632, .f32⟩
  | .hbm, ⟨46, _⟩ => ⟨S1x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S1x5632, .f32⟩
  | .hbm, ⟨51, _⟩ => ⟨S8192x5632, .f32⟩
  | .hbm, ⟨52, _⟩ => ⟨S8192x5632, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S_, .f32⟩
  | .hbm, ⟨58, _⟩ => ⟨S8192x2816, .f32⟩
  | .hbm, ⟨59, _⟩ => ⟨S8192x2816, .f32⟩
  | .hbm, ⟨60, _⟩ => ⟨S_, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S_, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S_, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S8192x11264, .f32⟩
  | .hbm, ⟨74, _⟩ => ⟨S8192x11264, .bf16⟩
  | .hbm, ⟨75, _⟩ => ⟨S1024x4x1408, .f32⟩
  | .hbm, ⟨76, _⟩ => ⟨S4x1024x1408, .f32⟩
  | .hbm, ⟨77, _⟩ => ⟨S4x1024x1408, .bf16⟩
  | .hbm, ⟨78, _⟩ => ⟨S8192x5632, .bf16⟩
  | .hbm, ⟨79, _⟩ => ⟨S1x1024, .f32⟩
  | .hbm, ⟨80, _⟩ => ⟨S2816x1024, .bf16⟩
  | .hbm, ⟨81, _⟩ => ⟨S8192x1024, .f32⟩
  | .hbm, ⟨82, _⟩ => ⟨S8192x5632, .bf16⟩
  | .hbm, ⟨83, _⟩ => ⟨S8192x1024, .bf16⟩
  | .hbm, ⟨84, _⟩ => ⟨S3x5632, .f32⟩
  | .hbm, ⟨85, _⟩ => ⟨S1x5632, .f32⟩
  | .hbm, ⟨86, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S1x1024, .f32⟩
  | .local _ .vmem, ⟨13, _⟩ => ⟨S3x5632, .f32⟩
  | .local _ .vmem, ⟨14, _⟩ => ⟨S256x1024, .f32⟩
  | .local _ .vmem, ⟨15, _⟩ => ⟨S256x1024, .f32⟩
  | .local _ .vmem, ⟨16, _⟩ => ⟨S256x5632, .bf16⟩
  | .local _ .vmem, ⟨17, _⟩ => ⟨S256x5632, .bf16⟩
  | .local _ .vmem, ⟨18, _⟩ => ⟨S256x1024, .bf16⟩
  | .local _ .vmem, ⟨19, _⟩ => ⟨S256x1024, .bf16⟩
  | .local _ .vmem, ⟨20, _⟩ => ⟨S3x5632, .f32⟩
  | .local _ .vmem, ⟨21, _⟩ => ⟨S1x5632, .f32⟩
  | .local _ .vmem, ⟨22, _⟩ => ⟨S1x1024, .f32⟩
  | .local _ .vmem, ⟨23, _⟩ => ⟨S4x1024x1408, .bf16⟩
  | .local _ .vmem, ⟨24, _⟩ => ⟨S2816x1024, .bf16⟩
  | .local _ .vmem, ⟨25, _⟩ => ⟨S4x8x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65_0 : Ref sig .tc := ⟨.hbm, 81, rfl⟩
abbrev main_v65_1 : Ref sig .tc := ⟨.hbm, 82, rfl⟩
abbrev main_v65_2 : Ref sig .tc := ⟨.hbm, 83, rfl⟩
abbrev main_v65_3 : Ref sig .tc := ⟨.hbm, 84, rfl⟩
abbrev main_v65_4 : Ref sig .tc := ⟨.hbm, 85, rfl⟩
abbrev main_v65_5 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩

abbrev nBuf : Space → Nat
  | .hbm => 165
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x5632, .f32⟩
  | 4 => ⟨S3x5632, .f32⟩
  | 5 => ⟨S5632, .f32⟩
  | 6 => ⟨S2816x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x5632, .f32⟩
  | 28 => ⟨S_, .f32⟩
  | 29 => ⟨S2x5632, .f32⟩
  | 30 => ⟨S8194x5632, .f32⟩
  | 31 => ⟨S_, .f32⟩
  | 32 => ⟨S2x5632, .f32⟩
  | 33 => ⟨S8192x5632, .f32⟩
  | 34 => ⟨S1x5632, .f32⟩
  | 35 => ⟨S5632, .f32⟩
  | 36 => ⟨S1x5632, .f32⟩
  | 37 => ⟨S8192x5632, .f32⟩
  | 38 => ⟨S8192x5632, .f32⟩
  | 39 => ⟨S_, .f32⟩
  | 40 => ⟨S8192x5632, .f32⟩
  | 41 => ⟨S8192x5632, .f32⟩
  | 42 => ⟨S8192x5632, .f32⟩
  | 43 => ⟨S1x5632, .f32⟩
  | 44 => ⟨S5632, .f32⟩
  | 45 => ⟨S1x5632, .f32⟩
  | 46 => ⟨S8192x5632, .f32⟩
  | 47 => ⟨S8192x5632, .f32⟩
  | 48 => ⟨S8192x5632, .f32⟩
  | 49 => ⟨S8192x5632, .f32⟩
  | 50 => ⟨S1x5632, .f32⟩
  | 51 => ⟨S5632, .f32⟩
  | 52 => ⟨S1x5632, .f32⟩
  | 53 => ⟨S8192x5632, .f32⟩
  | 54 => ⟨S8192x5632, .f32⟩
  | 55 => ⟨S8192x5632, .f32⟩
  | 56 => ⟨S1x5632, .f32⟩
  | 57 => ⟨S8192x5632, .f32⟩
  | 58 => ⟨S8192x5632, .f32⟩
  | 59 => ⟨S8192x2816, .f32⟩
  | 60 => ⟨S8192x2816, .f32⟩
  | 61 => ⟨S8192x2816, .f32⟩
  | 62 => ⟨S8192x2816, .f32⟩
  | 63 => ⟨S_, .f32⟩
  | 64 => ⟨S8192x2816, .f32⟩
  | 65 => ⟨S8192x2816, .f32⟩
  | 66 => ⟨S_, .f32⟩
  | 67 => ⟨S8192x2816, .f32⟩
  | 68 => ⟨S8192x2816, .f32⟩
  | 69 => ⟨S_, .f32⟩
  | 70 => ⟨S8192x2816, .f32⟩
  | 71 => ⟨S8192x2816, .f32⟩
  | 72 => ⟨S8192x2816, .f32⟩
  | 73 => ⟨S8192x2816, .f32⟩
  | 74 => ⟨S8192x2816, .f32⟩
  | 75 => ⟨S8192x1024, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x2816, .f32⟩
  | 82 => ⟨S8192x2816, .f32⟩
  | 83 => ⟨S8192x5632, .f32⟩
  | 84 => ⟨S_, .f32⟩
  | 85 => ⟨S5632, .f32⟩
  | 86 => ⟨S1x5632, .f32⟩
  | 87 => ⟨S_, .f32⟩
  | 88 => ⟨S5632, .f32⟩
  | 89 => ⟨S8192x5632, .f32⟩
  | 90 => ⟨S_, .f32⟩
  | 91 => ⟨S5632, .f32⟩
  | 92 => ⟨S1x5632, .f32⟩
  | 93 => ⟨S8192x5632, .f32⟩
  | 94 => ⟨S8192x5632, .f32⟩
  | 95 => ⟨S_, .f32⟩
  | 96 => ⟨S5632, .f32⟩
  | 97 => ⟨S1x5632, .f32⟩
  | 98 => ⟨S_, .f32⟩
  | 99 => ⟨S3x5632, .f32⟩
  | 100 => ⟨S_, .f32⟩
  | 101 => ⟨S8194x5632, .f32⟩
  | 102 => ⟨S8192x5632, .f32⟩
  | 103 => ⟨S_, .f32⟩
  | 104 => ⟨S5632, .f32⟩
  | 105 => ⟨S1x5632, .f32⟩
  | 106 => ⟨S8192x5632, .f32⟩
  | 107 => ⟨S8192x5632, .f32⟩
  | 108 => ⟨S_, .f32⟩
  | 109 => ⟨S5632, .f32⟩
  | 110 => ⟨S1x5632, .f32⟩
  | 111 => ⟨S_, .f32⟩
  | 112 => ⟨S3x5632, .f32⟩
  | 113 => ⟨S3x5632, .f32⟩
  | 114 => ⟨S_, .f32⟩
  | 115 => ⟨S8194x5632, .f32⟩
  | 116 => ⟨S8194x5632, .f32⟩
  | 117 => ⟨S8192x5632, .f32⟩
  | 118 => ⟨S_, .f32⟩
  | 119 => ⟨S5632, .f32⟩
  | 120 => ⟨S1x5632, .f32⟩
  | 121 => ⟨S8192x5632, .f32⟩
  | 122 => ⟨S8192x5632, .f32⟩
  | 123 => ⟨S_, .f32⟩
  | 124 => ⟨S5632, .f32⟩
  | 125 => ⟨S1x5632, .f32⟩
  | 126 => ⟨S_, .f32⟩
  | 127 => ⟨S3x5632, .f32⟩
  | _ => ⟨S8192x1024, .f32⟩

abbrev hbmTy0_1 (i : Nat) : BufTy := match i % 128 with
  | 0 => ⟨S3x5632, .f32⟩
  | 1 => ⟨S_, .f32⟩
  | 2 => ⟨S8194x5632, .f32⟩
  | 3 => ⟨S8194x5632, .f32⟩
  | 4 => ⟨S2x5632, .f32⟩
  | 5 => ⟨S8192x5632, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S8192x1024, .f32⟩
  | 12 => ⟨S8192x1024, .f32⟩
  | 13 => ⟨S_, .f32⟩
  | 14 => ⟨S1024, .f32⟩
  | 15 => ⟨S8192x1024, .f32⟩
  | 16 => ⟨S_, .f32⟩
  | 17 => ⟨S8192, .f32⟩
  | 18 => ⟨S8192x1, .f32⟩
  | 19 => ⟨S8192x1024, .f32⟩
  | 20 => ⟨S8192x1024, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x5632, .bf16⟩
  | 34 => ⟨S8192x1024, .bf16⟩
  | 35 => ⟨S1x5632, .f32⟩
  | 36 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_v47_2 : Ref sig .tc := ⟨.hbm, 68, rfl⟩
abbrev main_call0_cst_1 : Ref sig .tc := ⟨.hbm, 69, rfl⟩
abbrev main_call0_v6 : Ref sig .tc := ⟨.hbm, 70, rfl⟩
abbrev main_call0_v7 : Ref sig .tc := ⟨.hbm, 71, rfl⟩
abbrev main_v47_1 : Ref sig .tc := ⟨.hbm, 72, rfl⟩
abbrev main_v47_0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_9 : Ref sig .tc := ⟨.hbm, 95, rfl⟩
abbrev main_v63 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_16 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_cst_18 : Ref sig .tc := ⟨.hbm, 126, rfl⟩
abbrev main_v85 : Ref sig .tc := ⟨.hbm, 127, rfl⟩
abbrev main_v86 : Ref sig .tc := ⟨.hbm, 128, rfl⟩
abbrev main_cst_19 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_20 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_cst_22 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_cst_24 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩

abbrev nD : Nat := 1
abbrev τ : Topo := Topo.v7x

variable {F : FTy → Type} [FloatOps F]
-- ==== KernelUp.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceUpIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDown.lean ====
abbrev S8192x5632 : Shape := ⟨2, ![8192, 5632]⟩
abbrev S3x5632 : Shape := ⟨2, ![3, 5632]⟩
abbrev S5632 : Shape := ⟨1, ![5632]⟩
abbrev S8192x1024 : Shape := ⟨2, ![8192, 1024]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S8192x11264 : Shape := ⟨2, ![8192, 11264]⟩
abbrev S4x704x1024 : Shape := ⟨3, ![4, 704, 1024]⟩
abbrev S2048x2816 : Shape := ⟨2, ![2048, 2816]⟩
abbrev S2048x512 : Shape := ⟨2, ![2048, 512]⟩
abbrev S4x704x512 : Shape := ⟨3, ![4, 704, 512]⟩
abbrev S2816x512 : Shape := ⟨2, ![2816, 512]⟩
abbrev S1x704x512 : Shape := ⟨3, ![1, 704, 512]⟩
abbrev S704x512 : Shape := ⟨2, ![704, 512]⟩

abbrev nBuf : Space → Nat
  | .hbm => 65
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S8192x1024, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S8192x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S_, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S_, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x11264, .f32⟩
  | .hbm, ⟨63, _⟩ => ⟨S8192x11264, .bf16⟩
  | .hbm, ⟨64, _⟩ => ⟨S4x704x1024, .f32⟩
  | .local _ .vmem, ⟨0, _⟩ => ⟨S2048x2816, .bf16⟩
  | .local _ .vmem, ⟨1, _⟩ => ⟨S2048x2816, .bf16⟩
  | .local _ .vmem, ⟨2, _⟩ => ⟨S2048x512, .f32⟩
  | .local _ .vmem, ⟨3, _⟩ => ⟨S2048x512, .f32⟩
  | .local _ .vmem, ⟨4, _⟩ => ⟨S4x704x512, .f32⟩
  | .local _ .vmem, ⟨5, _⟩ => ⟨S4x704x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDownIdeal.lean ====
abbrev S8192x5632 : Shape := ⟨2, ![8192, 5632]⟩
abbrev S3x5632 : Shape := ⟨2, ![3, 5632]⟩
abbrev S5632 : Shape := ⟨1, ![5632]⟩
abbrev S8192x1024 : Shape := ⟨2, ![8192, 1024]⟩
abbrev S_ : Shape := ⟨0, ![]⟩
abbrev S2816x1024 : Shape := ⟨2, ![2816, 1024]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S1024x2816 : Shape := ⟨2, ![1024, 2816]⟩
abbrev S4x704x1024 : Shape := ⟨3, ![4, 704, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S_, .f32⟩
  | .hbm, ⟨7, _⟩ => ⟨S2x5632, .f32⟩
  | .hbm, ⟨8, _⟩ => ⟨S8194x5632, .f32⟩
  | .hbm, ⟨9, _⟩ => ⟨S8192x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S1x5632, .f32⟩
  | .hbm, ⟨33, _⟩ => ⟨S8192x5632, .f32⟩
  | .hbm, ⟨34, _⟩ => ⟨S8192x5632, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S1024x2816, .f32⟩
  | .hbm, ⟨49, _⟩ => ⟨S2816x1024, .f32⟩
  | .hbm, ⟨50, _⟩ => ⟨S4x704x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== KernelFwd.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S1x5632 : Shape := ⟨2, ![1, 5632]⟩
abbrev S8192x5632 : Shape := ⟨2, ![8192, 5632]⟩
abbrev S8192x11264 : Shape := ⟨2, ![8192, 11264]⟩
abbrev S256x1024 : Shape := ⟨2, ![256, 1024]⟩
abbrev S256x5632 : Shape := ⟨2, ![256, 5632]⟩
abbrev S256x11264 : Shape := ⟨2, ![256, 11264]⟩
abbrev S4x8x1408 : Shape := ⟨3, ![4, 8, 1408]⟩
abbrev S8 : Shape := ⟨1, ![8]⟩
abbrev S1 : Shape := ⟨1, ![1]⟩
abbrev S_ : Shape := ⟨0, ![]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1x8x1408 : Shape := ⟨3, ![1, 8, 1408]⟩
abbrev S8x1408 : Shape := ⟨2, ![8, 1408]⟩
abbrev S264x1408 : Shape := ⟨2, ![264, 1408]⟩
abbrev S1x1408 : Shape := ⟨2, ![1, 1408]⟩
abbrev S1408x1024 : Shape := ⟨2, ![1408, 1024]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S1x1024, .f32⟩
  | .hbm, ⟨10, _⟩ => ⟨S1x5632, .f32⟩
  | .hbm, ⟨11, _⟩ => ⟨S2816x1024, .bf16⟩
  | .hbm, ⟨12, _⟩ => ⟨S8192x1024, .f32⟩
  | .hbm, ⟨13, _⟩ => ⟨S8192x5632, .bf16⟩
  | .hbm, ⟨14, _⟩ => ⟨S8192x11264, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S3x5632, .f32⟩
  | .local _ .vmem, ⟨4, _⟩ => ⟨S1x5632, .f32⟩
  | .local _ .vmem, ⟨5, _⟩ => ⟨S256x1024, .f32⟩
  | .local _ .vmem, ⟨6, _⟩ => ⟨S256x1024, .f32⟩
  | .local _ .vmem, ⟨7, _⟩ => ⟨S256x5632, .bf16⟩
  | .local _ .vmem, ⟨8, _⟩ => ⟨S256x5632, .bf16⟩
  | .local _ .vmem, ⟨9, _⟩ => ⟨S256x11264, .bf16⟩
  | .local _ .vmem, ⟨10, _⟩ => ⟨S256x11264, .bf16⟩
  | .local _ .vmem, ⟨11, _⟩ => ⟨S4x1024x1408, .bf16⟩
  | .local _ .vmem, ⟨12, _⟩ => ⟨S2816x1024, .bf16⟩
  | .local _ .vmem, ⟨13, _⟩ => ⟨S4x8x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x11264 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceFwdIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S8192x11264 : Shape := ⟨2, ![8192, 11264]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S_, .f32⟩
  | .hbm, ⟨24, _⟩ => ⟨S2x5632, .f32⟩
  | .hbm, ⟨25, _⟩ => ⟨S8194x5632, .f32⟩
  | .hbm, ⟨26, _⟩ => ⟨S8192x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x5632, .f32⟩
  | .hbm, ⟨37, _⟩ => ⟨S5632, .f32⟩
  | .hbm, ⟨38, _⟩ => ⟨S1x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S1x5632, .f32⟩
  | .hbm, ⟨44, _⟩ => ⟨S5632, .f32⟩
  | .hbm, ⟨45, _⟩ => ⟨S1x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S1x5632, .f32⟩
  | .hbm, ⟨50, _⟩ => ⟨S8192x5632, .f32⟩
  | .hbm, ⟨51, _⟩ => ⟨S8192x5632, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S_, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S2x5632, .f32⟩
  | .hbm, ⟨75, _⟩ => ⟨S8194x5632, .f32⟩
  | .hbm, ⟨76, _⟩ => ⟨S8192x5632, .f32⟩
  | .hbm, ⟨77, _⟩ => ⟨S1x5632, .f32⟩
  | .hbm, ⟨78, _⟩ => ⟨S5632, .f32⟩
  | .hbm, ⟨79, _⟩ => ⟨S1x5632, .f32⟩
  | .hbm, ⟨80, _⟩ => ⟨S8192x5632, .f32⟩
  | .hbm, ⟨81, _⟩ => ⟨S8192x5632, .f32⟩
  | .hbm, ⟨82, _⟩ => ⟨S_, .f32⟩
  | .hbm, ⟨83, _⟩ => ⟨S8192x5632, .f32⟩
  | .hbm, ⟨84, _⟩ => ⟨S8192x5632, .f32⟩
  | .hbm, ⟨85, _⟩ => ⟨S8192x5632, .f32⟩
  | .hbm, ⟨86, _⟩ => ⟨S1x5632, .f32⟩
  | .hbm, ⟨87, _⟩ => ⟨S5632, .f32⟩
  | .hbm, ⟨88, _⟩ => ⟨S1x5632, .f32⟩
  | .hbm, ⟨89, _⟩ => ⟨S8192x5632, .f32⟩
  | .hbm, ⟨90, _⟩ => ⟨S8192x5632, .f32⟩
  | .hbm, ⟨91, _⟩ => ⟨S8192x5632, .f32⟩
  | .hbm, ⟨92, _⟩ => ⟨S8192x5632, .f32⟩
  | .hbm, ⟨93, _⟩ => ⟨S1x5632, .f32⟩
  | .hbm, ⟨94, _⟩ => ⟨S5632, .f32⟩
  | .hbm, ⟨95, _⟩ => ⟨S1x5632, .f32⟩
  | .hbm, ⟨96, _⟩ => ⟨S8192x5632, .f32⟩
  | .hbm, ⟨97, _⟩ => ⟨S8192x5632, .f32⟩
  | .hbm, ⟨98, _⟩ => ⟨S8192x5632, .f32⟩
  | .hbm, ⟨99, _⟩ => ⟨S1x5632, .f32⟩
  | .hbm, ⟨100, _⟩ => ⟨S8192x5632, .f32⟩
  | .hbm, ⟨101, _⟩ => ⟨S8192x5632, .f32⟩
  | .hbm, ⟨102, _⟩ => ⟨S8192x2816, .f32⟩
  | .hbm, ⟨103, _⟩ => ⟨S8192x2816, .f32⟩
  | .hbm, ⟨104, _⟩ => ⟨S8192x2816, .f32⟩
  | .hbm, ⟨105, _⟩ => ⟨S8192x2816, .f32⟩
  | .hbm, ⟨106, _⟩ => ⟨S_, .f32⟩
  | .hbm, ⟨107, _⟩ => ⟨S8192x2816, .f32⟩
  | .hbm, ⟨108, _⟩ => ⟨S8192x2816, .f32⟩
  | .hbm, ⟨109, _⟩ => ⟨S_, .f32⟩
  | .hbm, ⟨110, _⟩ => ⟨S8192x2816, .f32⟩
  | .hbm, ⟨111, _⟩ => ⟨S8192x2816, .f32⟩
  | .hbm, ⟨112, _⟩ => ⟨S8192x2816, .f32⟩
  | .hbm, ⟨113, _⟩ => ⟨S8192x2816, .f32⟩
  | .hbm, ⟨114, _⟩ => ⟨S8192x1024, .f32⟩
  | .hbm, ⟨115, _⟩ => ⟨S8192x1024, .f32⟩
  | .hbm, ⟨116, _⟩ => ⟨S8192x5632, .bf16⟩
  | .hbm, ⟨117, _⟩ => ⟨S8192x2816, .f32⟩
  | .hbm, ⟨118, _⟩ => ⟨S8192x11264, .f32⟩
  | .hbm, ⟨119, _⟩ => ⟨S8192x11264, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v43_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v43_1 : Ref sig .tc := ⟨.hbm, 65, rfl⟩
abbrev main_v43_0 : Ref sig .tc := ⟨.hbm, 66, rfl⟩
abbrev main_cst_4 : Ref sig .tc := ⟨.hbm, 67, rfl⟩
abbrev main_v44 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call2_v0 : Ref sig .tc := ⟨.hbm, 104, rfl⟩
abbrev main_call2_v1 : Ref sig .tc := ⟨.hbm, 105, rfl⟩
abbrev main_call2_cst : Ref sig .tc := ⟨.hbm, 106, rfl⟩
abbrev main_call2_v2 : Ref sig .tc := ⟨.hbm, 107, rfl⟩
abbrev main_call2_v3 : Ref sig .tc := ⟨.hbm, 108, rfl⟩
abbrev main_call2_cst_0 : Ref sig .tc := ⟨.hbm, 109, rfl⟩
abbrev main_call2_v4 : Ref sig .tc := ⟨.hbm, 110, rfl⟩
abbrev main_call2_v5 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]
-- ==== KernelPle.lean ====
abbrev S8192x1024 : Shape := ⟨2, ![8192, 1024]⟩
abbrev S2x8192x256 : Shape := ⟨3, ![2, 8192, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256x4x256 : Shape := ⟨3, ![256, 4, 256]⟩
abbrev S4x256x256 : Shape := ⟨3, ![4, 256, 256]⟩
abbrev S512x1024 : Shape := ⟨2, ![512, 1024]⟩
abbrev S1x512x256 : Shape := ⟨3, ![1, 512, 256]⟩
abbrev S3 : Shape := ⟨1, ![3]⟩
abbrev S1 : Shape := ⟨1, ![1]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 38
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x8192x256, .f32⟩
  | .hbm, ⟨3, _⟩ => ⟨S1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S256x4x256, .f32⟩
  | .hbm, ⟨28, _⟩ => ⟨S4x256x256, .f32⟩
  | .hbm, ⟨29, _⟩ => ⟨S4x256x256, .bf16⟩
  | .hbm, ⟨30, _⟩ => ⟨S8192x1024, .bf16⟩
  | .hbm, ⟨31, _⟩ => ⟨S1x1024, .f32⟩
  | .hbm, ⟨32, _⟩ => ⟨S1024x1024, .bf16⟩
  | .hbm, ⟨33, _⟩ => ⟨S8192x1024, .f32⟩
  | .hbm, ⟨34, _⟩ => ⟨S4x256x256, .f32⟩
  | .hbm, ⟨35, _⟩ => ⟨S1024x1024, .f32⟩
  | .hbm, ⟨36, _⟩ => ⟨S1x1024, .f32⟩
  | .hbm, ⟨37, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S4x256x256, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S4x256x256, .bf16⟩
  | .local _ .vmem, ⟨16, _⟩ => ⟨S1024x1024, .bf16⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferencePleIdeal.lean ====
abbrev S8192x1024 : Shape := ⟨2, ![8192, 1024]⟩
abbrev S2x8192x256 : Shape := ⟨3, ![2, 8192, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x256 : Shape := ⟨3, ![1, 8192, 256]⟩
abbrev S8192x256 : Shape := ⟨2, ![8192, 256]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x8192x256, .f32⟩
  | .hbm, ⟨3, _⟩ => ⟨S1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1x8192x256, .f32⟩
  | .hbm, ⟨32, _⟩ => ⟨S8192x256, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1024x256, .f32⟩
  | .hbm, ⟨51, _⟩ => ⟨S256x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S1024x1024, .f32⟩
  | .hbm, ⟨58, _⟩ => ⟨S1024x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S256x4x256, .f32⟩
  | .hbm, ⟨86, _⟩ => ⟨S4x256x256, .f32⟩
  | .hbm, ⟨87, _⟩ => ⟨S8192x1024, .f32⟩
  | .hbm, ⟨88, _⟩ => ⟨S1x1024, .f32⟩
  | .hbm, ⟨89, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== KernelKv.lean ====
abbrev S8192x1024 : Shape := ⟨2, ![8192, 1024]⟩
abbrev S2x8192x256 : Shape := ⟨3, ![2, 8192, 256]⟩
abbrev S1024 : Shape := ⟨1, ![1024]⟩
abbrev S256x1024 : Shape := ⟨2, ![256, 1024]⟩
abbrev S1024x1024 : Shape := ⟨2, ![1024, 1024]⟩
abbrev S1024x512 : Shape := ⟨2, ![1024, 512]⟩
abbrev S256x4x256 : Shape := ⟨3, ![256, 4, 256]⟩
abbrev S4x256x256 : Shape := ⟨3, ![4, 256, 256]⟩
abbrev S1x1024 : Shape := ⟨2, ![1, 1024]⟩
abbrev S8192x512 : Shape := ⟨2, ![8192, 512]⟩
abbrev S512x1024 : Shape := ⟨2, ![512, 1024]⟩
abbrev S1x512x256 : Shape := ⟨3, ![1, 512, 256]⟩
abbrev S512x512 : Shape := ⟨2, ![512, 512]⟩
abbrev S9 : Shape := ⟨1, ![9]⟩
abbrev S1 : Shape := ⟨1, ![1]⟩
abbrev S_ : Shape := ⟨0, ![]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 19
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S2x8192x256, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x512, .f32⟩
  | .hbm, ⟨8, _⟩ => ⟨S256x4x256, .f32⟩
  | .hbm, ⟨9, _⟩ => ⟨S4x256x256, .f32⟩
  | .hbm, ⟨10, _⟩ => ⟨S4x256x256, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1024x512, .bf16⟩
  | .hbm, ⟨16, _⟩ => ⟨S8192x1024, .f32⟩
  | .hbm, ⟨17, _⟩ => ⟨S8192x512, .bf16⟩
  | .hbm, ⟨18, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S4x256x256, .bf16⟩
  | .local _ .vmem, ⟨14, _⟩ => ⟨S1024x1024, .bf16⟩
  | .local _ .vmem, ⟨15, _⟩ => ⟨S1024x512, .bf16⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceKvIdeal.lean ====
abbrev S8192x1024 : Shape := ⟨2, ![8192, 1024]⟩
abbrev S2x8192x256 : Shape := ⟨3, ![2, 8192, 256]⟩
abbrev S1024 : Shape := ⟨1, ![1024]⟩
abbrev S256x1024 : Shape := ⟨2, ![256, 1024]⟩
abbrev S1024x1024 : Shape := ⟨2, ![1024, 1024]⟩
abbrev S1024x512 : Shape := ⟨2, ![1024, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x256 : Shape := ⟨3, ![1, 8192, 256]⟩
abbrev S8192x256 : Shape := ⟨2, ![8192, 256]⟩
abbrev S8192x512 : Shape := ⟨2, ![8192, 512]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8192x256, .f32⟩
  | .hbm, ⟨2, _⟩ => ⟨S1024, .f32⟩
  | .hbm, ⟨3, _⟩ => ⟨S256x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x512, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x8192x256, .f32⟩
  | .hbm, ⟨29, _⟩ => ⟨S8192x256, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x512, .f32⟩
  | .hbm, ⟨58, _⟩ => ⟨S8192x512, .bf16⟩
  | .hbm, ⟨59, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== KernelFinal.lean ====
abbrev S8192x1024 : Shape := ⟨2, ![8192, 1024]⟩
abbrev S2x8192x256 : Shape := ⟨3, ![2, 8192, 256]⟩
abbrev S1024 : Shape := ⟨1, ![1024]⟩
abbrev S256x1024 : Shape := ⟨2, ![256, 1024]⟩
abbrev S1024x1024 : Shape := ⟨2, ![1024, 1024]⟩
abbrev S256x4x256 : Shape := ⟨3, ![256, 4, 256]⟩
abbrev S4x256x256 : Shape := ⟨3, ![4, 256, 256]⟩
abbrev S1x1024 : Shape := ⟨2, ![1, 1024]⟩
abbrev S8x128 : Shape := ⟨2, ![8, 128]⟩
abbrev S512x1024 : Shape := ⟨2, ![512, 1024]⟩
abbrev S1x512x256 : Shape := ⟨3, ![1, 512, 256]⟩
abbrev S8 : Shape := ⟨1, ![8]⟩
abbrev S1 : Shape := ⟨1, ![1]⟩
abbrev S_ : Shape := ⟨0, ![]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x512x1 : Shape := ⟨3, ![1, 512, 1]⟩
abbrev S1x1x1 : Shape := ⟨3, ![1, 1, 1]⟩

abbrev nBuf : Space → Nat
  | .hbm => 19
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S2x8192x256, .f32⟩
  | .hbm, ⟨2, _⟩ => ⟨S8192x1024, .f32⟩
  | .hbm, ⟨3, _⟩ => ⟨S1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S256x4x256, .f32⟩
  | .hbm, ⟨9, _⟩ => ⟨S4x256x256, .f32⟩
  | .hbm, ⟨10, _⟩ => ⟨S4x256x256, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S8192x1024, .f32⟩
  | .hbm, ⟨16, _⟩ => ⟨S8x128, .f32⟩
  | .hbm, ⟨17, _⟩ => ⟨S1x1024, .f32⟩
  | .hbm, ⟨18, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x128, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S4x256x256, .bf16⟩
  | .local _ .vmem, ⟨16, _⟩ => ⟨S1024x1024, .bf16⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFinalIdeal.lean ====
abbrev S8192x1024 : Shape := ⟨2, ![8192, 1024]⟩
abbrev S2x8192x256 : Shape := ⟨3, ![2, 8192, 256]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x256 : Shape := ⟨3, ![1, 8192, 256]⟩
abbrev S8192x256 : Shape := ⟨2, ![8192, 256]⟩
abbrev S8x128 : Shape := ⟨2, ![8, 128]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8192x256, .f32⟩
  | .hbm, ⟨2, _⟩ => ⟨S8192x1024, .f32⟩
  | .hbm, ⟨3, _⟩ => ⟨S1024, .f32⟩
  | .hbm, ⟨4, _⟩ => ⟨S256x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x8192x256, .f32⟩
  | .hbm, ⟨29, _⟩ => ⟨S8192x256, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8x128, .f32⟩
  | .hbm, ⟨110, _⟩ => ⟨S1x1024, .f32⟩
  | .hbm, ⟨111, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_cst_13 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_cst_18 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_19 : Ref sig .tc := ⟨.hbm, 99, rfl⟩
abbrev main_v71 : Ref sig .tc := ⟨.hbm, 100, rfl⟩
abbrev main_v72 : Ref sig .tc := ⟨.hbm, 101, rfl⟩
abbrev main_cst_20 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Proof.Ffn.Contents.lean ====
/- What the outputs and the carried memory of the backward kernel hold after each grid point: each case's stores read
   back, and the points one after another. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Ffn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S1x1024 .f32) (harg7 : arg7.IsWhole) (arg8 : Memref sig .tc .vmem S3x5632 .f32) (harg8 : arg8.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S1x1024 .f32) (harg16 : arg16.IsWhole) (arg17 : Memref sig .tc .vmem S4x1024x1408 .bf16) (harg17 : arg17.IsWhole) (arg18 : Memref sig .tc .vmem S2816x1024 .bf16) (harg18 : arg18.IsWhole) (arg19 : Memref sig .tc .vmem S4x8x1408 .f32) (harg19 : arg19.IsWhole) (hc0 : cond0_0 i) (hc1 : cond0_1 i)
    (x0 : Vec F S256x1024 .f32) (x1 : Vec F S256x1024 .f32) (x2 : Vec F S256x5632 .bf16) (x3 : Vec F S256x2816 .bf16) (x4 : Vec F S256x2816 .bf16) (x5 : Vec F S256x2816 .bf16) (x6 : Vec F S1x1024 .f32) (x7 : Vec F S3x5632 .f32) (fh0 : HbBuf0 (F := F) c hbM0_0) (fh1 : HbBuf0 (F := F) c hbM0_1)

local notation "runA" => kernelRun0_A c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1

theorem cover0_A_8 (y : S256x1024.Idx) :
    ∃ pc ∈ runA.1, y ∈ pc.1.set :=
  View.cover_of_tiledL runA.1 S256x1024.size (by sl_kernel_rfl) y

def out0_A_8 : Vec F S256x1024 .f32 :=
  VO0_8.read (Elt F) (VO0_8.writes (Elt F) VO0_8.junk runA.1)

theorem cover0_A_9 (y : S256x5632.Idx) :
    ∃ pc ∈ runA.2.1, y ∈ pc.1.set :=
  View.cover_of_tiledL runA.2.1 S256x1408.size (by sl_kernel_rfl) y

def out0_A_9 : Vec F S256x5632 .bf16 :=
  VO0_9.read (Elt F) (VO0_9.writes (Elt F) VO0_9.junk runA.2.1)

theorem cover0_A_10 (y : S256x1024.Idx) :
    ∃ pc ∈ runA.2.2.1, y ∈ pc.1.set :=
  View.cover_of_tiledL runA.2.2.1 S256x1024.size (by sl_kernel_rfl) y

def out0_A_10 : Vec F S256x1024 .bf16 :=
  VO0_10.read (Elt F) (VO0_10.writes (Elt F) VO0_10.junk runA.2.2.1)

theorem cover0_A_11 (y : S3x5632.Idx) :
    ∃ pc ∈ runA.2.2.2.1, y ∈ pc.1.set :=
  View.cover_of_tiledBy runA.2.2.2.1 ![1, 1408] (by sl_kernel_rfl) y

def out0_A_11 : Vec F S3x5632 .f32 :=
  VO0_11.read (Elt F) (VO0_11.writes (Elt F) VO0_11.junk runA.2.2.2.1)

theorem cover0_A_12 (y : S1x5632.Idx) :
    ∃ pc ∈ runA.2.2.2.2.1, y ∈ pc.1.set :=
  View.cover_of_tiledBy runA.2.2.2.2.1 ![1, 1408] (by sl_kernel_rfl) y

def out0_A_12 : Vec F S1x5632 .f32 :=
  VO0_12.read (Elt F) (VO0_12.writes (Elt F) VO0_12.junk runA.2.2.2.2.1)

theorem cover0_A_13 (y : S1x1024.Idx) :
    ∃ pc ∈ runA.2.2.2.2.2.1, y ∈ pc.1.set :=
  View.cover_of_tiledL runA.2.2.2.2.2.1 S1x1024.size (by sl_kernel_rfl) y

def out0_A_13 : Vec F S1x1024 .f32 :=
  VO0_13.read (Elt F) (VO0_13.writes (Elt F) VO0_13.junk runA.2.2.2.2.2.1)

theorem scover0_A_0 (y : S4x1024x1408.Idx) :
    ∃ pc ∈ runA.2.2.2.2.2.2.1, y ∈ pc.1.set :=
  View.cover_of_tiledL runA.2.2.2.2.2.2.1 S4x1024x1408.size (by sl_kernel_rfl) y

def sout0_A_0 : Vec F S4x1024x1408 .bf16 :=
  VS0_0.read (Elt F) (VS0_0.writes (Elt F) VS0_0.junk runA.2.2.2.2.2.2.1)

theorem scover0_A_1 (y : S2816x1024.Idx) :
    ∃ pc ∈ runA.2.2.2.2.2.2.2.1, y ∈ pc.1.set :=
  View.cover_of_tiledL runA.2.2.2.2.2.2.2.1 S2816x1024.size (by sl_kernel_rfl) y

def sout0_A_1 : Vec F S2816x1024 .bf16 :=
  VS0_1.read (Elt F) (VS0_1.writes (Elt F) VS0_1.junk runA.2.2.2.2.2.2.2.1)

theorem scover0_A_2 (y : S4x8x1408.Idx) :
    ∃ pc ∈ runA.2.2.2.2.2.2.2.2.1, y ∈ pc.1.set :=
  View.cover_of_wholeMem runA.2.2.2.2.2.2.2.2.1 (by sl_whole_mem) y

def sout0_A_2 : Vec F S4x8x1408 .f32 :=
  VS0_2.read (Elt F) (VS0_2.writes (Elt F) VS0_2.junk runA.2.2.2.2.2.2.2.2.1)

/-- All of the case at once. -/
def outs0_A : Vec F S256x1024 .f32 × Vec F S256x5632 .bf16 × Vec F S256x1024 .bf16 × Vec F S3x5632 .f32 × Vec F S1x5632 .f32 × Vec F S1x1024 .f32 × Vec F S4x1024x1408 .bf16 × Vec F S2816x1024 .bf16 × Vec F S4x8x1408 .f32 :=
  (out0_A_8 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1,
   out0_A_9 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1,
   out0_A_10 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1,
   out0_A_11 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1,
   out0_A_12 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1,
   out0_A_13 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1,
   sout0_A_0 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1,
   sout0_A_1 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1,
   sout0_A_2 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1)

end

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S1x1024 .f32) (harg7 : arg7.IsWhole) (arg8 : Memref sig .tc .vmem S3x5632 .f32) (harg8 : arg8.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S1x1024 .f32) (harg16 : arg16.IsWhole) (arg17 : Memref sig .tc .vmem S4x1024x1408 .bf16) (harg17 : arg17.IsWhole) (arg18 : Memref sig .tc .vmem S2816x1024 .bf16) (harg18 : arg18.IsWhole) (arg19 : Memref sig .tc .vmem S4x8x1408 .f32) (harg19 : arg19.IsWhole) (hc0 : ¬cond0_0 i) (hc1 : ¬cond0_1 i)
    (x0 : Vec F S256x1024 .f32) (x1 : Vec F S256x1024 .f32) (x2 : Vec F S256x5632 .bf16) (x3 : Vec F S256x2816 .bf16) (x4 : Vec F S256x2816 .bf16) (x5 : Vec F S256x2816 .bf16) (x6 : Vec F S1x1024 .f32) (x7 : Vec F S3x5632 .f32) (xo11 : Vec F S3x5632 .f32) (xo12 : Vec F S1x5632 .f32) (xo13 : Vec F S1x1024 .f32) (xs0 : Vec F S4x1024x1408 .bf16) (xs1 : Vec F S2816x1024 .bf16) (xs2 : Vec F S4x8x1408 .f32) (fh0 : HbBuf0 (F := F) c hbM0_0) (fh1 : HbBuf0 (F := F) c hbM0_1)

local notation "runB" => kernelRun0_B c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1

theorem cover0_B_8 (y : S256x1024.Idx) :
    ∃ pc ∈ runB.1, y ∈ pc.1.set :=
  View.cover_of_tiledL runB.1 S256x1024.size (by sl_kernel_rfl) y

def out0_B_8 : Vec F S256x1024 .f32 :=
  VO0_8.read (Elt F) (VO0_8.writes (Elt F) VO0_8.junk runB.1)

theorem cover0_B_9 (y : S256x5632.Idx) :
    ∃ pc ∈ runB.2.1, y ∈ pc.1.set :=
  View.cover_of_tiledL runB.2.1 S256x1408.size (by sl_kernel_rfl) y

def out0_B_9 : Vec F S256x5632 .bf16 :=
  VO0_9.read (Elt F) (VO0_9.writes (Elt F) VO0_9.junk runB.2.1)

theorem cover0_B_10 (y : S256x1024.Idx) :
    ∃ pc ∈ runB.2.2.1, y ∈ pc.1.set :=
  View.cover_of_tiledL runB.2.2.1 S256x1024.size (by sl_kernel_rfl) y

def out0_B_10 : Vec F S256x1024 .bf16 :=
  VO0_10.read (Elt F) (VO0_10.writes (Elt F) VO0_10.junk runB.2.2.1)

theorem cover0_B_11 (y : S3x5632.Idx) :
    ∃ pc ∈ runB.2.2.2.1, y ∈ pc.1.set :=
  View.cover_of_tiledL runB.2.2.2.1 S1x1408.size (by sl_kernel_rfl) y

def out0_B_11 : Vec F S3x5632 .f32 :=
  VO0_11.read (Elt F) (VO0_11.writes (Elt F) VO0_11.junk runB.2.2.2.1)

theorem cover0_B_12 (y : S1x5632.Idx) :
    ∃ pc ∈ runB.2.2.2.2.1, y ∈ pc.1.set :=
  View.cover_of_tiledL runB.2.2.2.2.1 S1x1408.size (by sl_kernel_rfl) y

def out0_B_12 : Vec F S1x5632 .f32 :=
  VO0_12.read (Elt F) (VO0_12.writes (Elt F) VO0_12.junk runB.2.2.2.2.1)

theorem cover0_B_13 (y : S1x1024.Idx) :
    ∃ pc ∈ runB.2.2.2.2.2.1, y ∈ pc.1.set :=
  View.cover_of_tiledL runB.2.2.2.2.2.1 S1x1024.size (by sl_kernel_rfl) y

def out0_B_13 : Vec F S1x1024 .f32 :=
  VO0_13.read (Elt F) (VO0_13.writes (Elt F) VO0_13.junk runB.2.2.2.2.2.1)

def sout0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S1x1024 .f32) (harg7 : arg7.IsWhole) (arg8 : Memref sig .tc .vmem S3x5632 .f32) (harg8 : arg8.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S1x1024 .f32) (harg16 : arg16.IsWhole) (arg17 : Memref sig .tc .vmem S4x1024x1408 .bf16) (harg17 : arg17.IsWhole) (arg18 : Memref sig .tc .vmem S2816x1024 .bf16) (harg18 : arg18.IsWhole) (arg19 : Memref sig .tc .vmem S4x8x1408 .f32) (harg19 : arg19.IsWhole) (hc0 : ¬cond0_0 i) (hc1 : ¬cond0_1 i)
    (x0 : Vec F S256x1024 .f32) (x1 : Vec F S256x1024 .f32) (x2 : Vec F S256x5632 .bf16) (x3 : Vec F S256x2816 .bf16) (x4 : Vec F S256x2816 .bf16) (x5 : Vec F S256x2816 .bf16) (x6 : Vec F S1x1024 .f32) (x7 : Vec F S3x5632 .f32) (xo11 : Vec F S3x5632 .f32) (xo12 : Vec F S1x5632 .f32) (xo13 : Vec F S1x1024 .f32) (xs0 : Vec F S4x1024x1408 .bf16) (xs1 : Vec F S2816x1024 .bf16) (xs2 : Vec F S4x8x1408 .f32) (fh0 : HbBuf0 (F := F) c hbM0_0) (fh1 : HbBuf0 (F := F) c hbM0_1) : Vec F S4x1024x1408 .bf16 := xs0

def sout0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S1x1024 .f32) (harg7 : arg7.IsWhole) (arg8 : Memref sig .tc .vmem S3x5632 .f32) (harg8 : arg8.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S1x1024 .f32) (harg16 : arg16.IsWhole) (arg17 : Memref sig .tc .vmem S4x1024x1408 .bf16) (harg17 : arg17.IsWhole) (arg18 : Memref sig .tc .vmem S2816x1024 .bf16) (harg18 : arg18.IsWhole) (arg19 : Memref sig .tc .vmem S4x8x1408 .f32) (harg19 : arg19.IsWhole) (hc0 : ¬cond0_0 i) (hc1 : ¬cond0_1 i)
    (x0 : Vec F S256x1024 .f32) (x1 : Vec F S256x1024 .f32) (x2 : Vec F S256x5632 .bf16) (x3 : Vec F S256x2816 .bf16) (x4 : Vec F S256x2816 .bf16) (x5 : Vec F S256x2816 .bf16) (x6 : Vec F S1x1024 .f32) (x7 : Vec F S3x5632 .f32) (xo11 : Vec F S3x5632 .f32) (xo12 : Vec F S1x5632 .f32) (xo13 : Vec F S1x1024 .f32) (xs0 : Vec F S4x1024x1408 .bf16) (xs1 : Vec F S2816x1024 .bf16) (xs2 : Vec F S4x8x1408 .f32) (fh0 : HbBuf0 (F := F) c hbM0_0) (fh1 : HbBuf0 (F := F) c hbM0_1) : Vec F S2816x1024 .bf16 := xs1

theorem scover0_B_2 (y : S4x8x1408.Idx) :
    ∃ pc ∈ runB.2.2.2.2.2.2.2.2.1, y ∈ pc.1.set :=
  View.cover_of_tiledL runB.2.2.2.2.2.2.2.2.1 S1x8x1408.size (by sl_kernel_rfl) y

def sout0_B_2 : Vec F S4x8x1408 .f32 :=
  VS0_2.read (Elt F) (VS0_2.writes (Elt F) VS0_2.junk runB.2.2.2.2.2.2.2.2.1)

/-- All of the case at once. -/
def outs0_B : Vec F S256x1024 .f32 × Vec F S256x5632 .bf16 × Vec F S256x1024 .bf16 × Vec F S3x5632 .f32 × Vec F S1x5632 .f32 × Vec F S1x1024 .f32 × Vec F S4x1024x1408 .bf16 × Vec F S2816x1024 .bf16 × Vec F S4x8x1408 .f32 :=
  (out0_B_8 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1,
   out0_B_9 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1,
   out0_B_10 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1,
   out0_B_11 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1,
   out0_B_12 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1,
   out0_B_13 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1,
   sout0_B_0 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1,
   sout0_B_1 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1,
   sout0_B_2 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1)

end

set_option maxHeartbeats 2000000 in
/-- What grid point `n` leaves: the six outputs' blocks in window order, then the three carried memories (the two
    weights and the carried rows). The first point starts afresh; a later one goes on from what the point before left. -/
def outsAt0 (c : Dev nD) : (n : ℕ) → n < cfg0.N → Vec F S256x1024 .f32 × Vec F S256x5632 .bf16 × Vec F S256x1024 .bf16 × Vec F S3x5632 .f32 × Vec F S1x5632 .f32 × Vec F S1x1024 .f32 × Vec F S4x1024x1408 .bf16 × Vec F S2816x1024 .bf16 × Vec F S4x8x1408 .f32
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (V m c main_v61) (V m c main_v64)
  | n + 1, hn =>
    if h0 : (n + 1) % 32 = 0 then
      if h1 : (n + 1) % 32 = 0 then
        outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (V m c main_v61) (V m c main_v64)
      else
        False.elim (by have hN : n + 1 < 32 := lt_of_lt_of_eq hn (show cfg0.N = 32 from N_0); omega)
    else
      if h1 : (n + 1) % 32 = 0 then
        False.elim (by have hN : n + 1 < 32 := lt_of_lt_of_eq hn (show cfg0.N = 32 from N_0); omega)
      else
        outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v61) (V m c main_v64)

theorem outsAt0_A (c : Dev nD) (t : Fin cfg0.N) (h0 : t.val % 32 = 0) (h1 : t.val % 32 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v61) (V m c main_v64), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v61) (V m c main_v64), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v61) (V m c main_v64), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v61) (V m c main_v64), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v61) (V m c main_v64), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v61) (V m c main_v64), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v61) (V m c main_v64), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v61) (V m c main_v64), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v61) (V m c main_v64)) := by
  obtain ⟨n, hn⟩ := t
  cases n with
  | zero => exact rfl
  | succ n => exact (dif_pos h0).trans ((dif_pos h1).trans rfl)

theorem outsAt0_B (c : Dev nD) (t : Fin cfg0.N) (h0 : ¬t.val % 32 = 0) (h1 : ¬t.val % 32 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v61) (V m c main_v64), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v61) (V m c main_v64), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v61) (V m c main_v64), out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v61) (V m c main_v64), out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v61) (V m c main_v64), out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v61) (V m c main_v64), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v61) (V m c main_v64), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v61) (V m c main_v64), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v61) (V m c main_v64)) := by
  obtain ⟨n, hn⟩ := t
  cases n with
  | zero => exact (by exfalso; (try dsimp only at h0); exact absurd (Nat.zero_mod _) h0)
  | succ n => exact (dif_neg h0).trans ((dif_neg h1).trans rfl)

end Cert.KernelIdeal.Ffn

end
-- ==== Proof.Ffn.Region.lean ====
/- The pipeline's proof data over those contents, the body at each point, and the run of the whole program. -/
module

public import proofs.«01_k».proof.Proof.Ffn.Contents
public import Idealize.ShloMosaic.Lib.Claim

@[expose] public section

-- membership in a rectangle of production extents (`View.cover_of_tiled`): the elaborator's structural look
-- recurses once per coordinate of the long axes
set_option maxRecDepth 16384

noncomputable section

namespace Cert.KernelIdeal.Ffn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r) ∗ iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v61) ∗ hbPt0 c hbM0_1 (V m c main_v64)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r) ∗ iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v61) ∗ hbPt0 c hbM0_1 (V m c main_v64))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2)) ∗ (∃ r, prngReg c r) ∗ iprop(semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0) ∗ iprop(hbPt0 c hbM0_0 (V m c main_v61) ∗ hbPt0 c hbM0_1 (V m c main_v64))) := by
  cases n with
  | zero => exact absurd rfl hz
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_11_B (c : Dev nD) (t : Fin cfg0.N) (h0 : ¬t.val % 32 = 0) (h1 : ¬t.val % 32 = 0) (d) :
    (dats m 0 c).before 11 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
theorem before0_12_B (c : Dev nD) (t : Fin cfg0.N) (h0 : ¬t.val % 32 = 0) (h1 : ¬t.val % 32 = 0) (d) :
    (dats m 0 c).before 12 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
theorem before0_13_B (c : Dev nD) (t : Fin cfg0.N) (h0 : ¬t.val % 32 = 0) (h1 : ¬t.val % 32 = 0) (d) :
    (dats m 0 c).before 13 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 0
    · by_cases hz : t.val = 0
      · rw [PhiS_castSucc m c t, PhiS_zero m c _ _ hz, PhiD0_eq]
        rw [outsAt0_A m c t h0 h1]
        unfold out0_A_8 out0_A_9 out0_A_10 out0_A_11 out0_A_12 out0_A_13 sout0_A_0 sout0_A_1 sout0_A_2; (try dsimp only)
        iintro ⟨⟨⟨HS0, HS1, HS2⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (V m c main_v61) (V m c main_v64)).2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexists _; iexact H12
        isplitl [H13]; · iexists _; iexact H13
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hh0]; · iexact Hh0
        isplitl [Hh1]; · iexact Hh1
        isplitl [HW]; · iexact HW
        iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩, ⟨%es1, HS1⟩, ⟨%es2, HS2⟩, Hq0, Hq1, Hq2, Hq3, Hq4, Hq5, Hq6, Hq7, Hh0, Hh1, ⟨%W', HW'⟩⟩
        isplitl [HS0 HS1 HS2 Hg Hq0 Hq1 Hq2 Hq3 Hq4 Hq5 Hq6 Hq7 Hh0 Hh1]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _)
          isplitl [Hg]
          · iexact Hg
          isplitl [Hq0 Hq1 Hq2 Hq3 Hq4 Hq5 Hq6 Hq7]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            iexact Hq7
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _)
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
    · exfalso; omega
  · by_cases h1 : t.val % 32 = 0
    · exfalso; omega
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_11_B m c t h0 h1, before0_12_B m c t h0 h1, before0_13_B m c t h0 h1]
        unfold out0_B_8 out0_B_9 out0_B_10 out0_B_11 out0_B_12 out0_B_13 sout0_B_0 sout0_B_1 sout0_B_2; (try dsimp only)
        iintro ⟨⟨⟨HS0, HS1, HS2⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _ _ _ _ _ _ (V m c main_v61) (V m c main_v64)).2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexact H11
        isplitl [H12]; · iexact H12
        isplitl [H13]; · iexact H13
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hh0]; · iexact Hh0
        isplitl [Hh1]; · iexact Hh1
        isplitl [HW]; · iexact HW
        iintro ⟨H0, H1, H2, H3, H4, H5, H6, H7, ⟨%e8, H8⟩, ⟨%e9, H9⟩, ⟨%e10, H10⟩, ⟨%e11, H11⟩, ⟨%e12, H12⟩, ⟨%e13, H13⟩, HS0, HS1, ⟨%es2, HS2⟩, Hq0, Hq1, Hq2, Hq3, Hq4, Hq5, Hq6, Hq7, Hh0, Hh1, ⟨%W', HW'⟩⟩
        isplitl [HS0 HS1 HS2 Hg Hq0 Hq1 Hq2 Hq3 Hq4 Hq5 Hq6 Hq7 Hh0 Hh1]
        · isplitl [HS0 HS1 HS2]
          · isplitl [HS0]; · iexact HS0
            isplitl [HS1]; · iexact HS1
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _)
          isplitl [Hg]
          · iexact Hg
          isplitl [Hq0 Hq1 Hq2 Hq3 Hq4 Hq5 Hq6 Hq7]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            iexact Hq7
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _ _)
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _)
        isplitl [H12]
        · unfold owns; iexists _; isplitr
          swap; · iexact H12
          ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7⟩, ⟨Hh0, Hh1⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexact Hh1

theorem hout (c : Dev nD) : (dats m 0 c).Φ (Fin.last cfg0.N) ⊢ Pipeline.ΦD osem0 spec0 H0 (V m) c :=
  Phi_out m c _ (by rw [Fin.val_last]; have : cfg0.N = 32 := N_0; omega)

-- `θ_run_frame_dma_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Ffn

end
-- ==== Proof.Ffn.Written.lean ====
/- What each grid point writes back, and the final arrays block by block. -/
module

public import proofs.«01_k».proof.Proof.Ffn.Region
public import Idealize.ShloMosaic.Lib.Pipeline.Value

@[expose] public section

noncomputable section

namespace Cert.KernelIdeal.Ffn

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

theorem idx_inj9 : ∀ t t' : Fin cfg0.N, win0_9.index t = win0_9.index t' → t = t' :=
  (by decide +kernel : ∀ t t' : Fin grid0.N, win0_9.index t = win0_9.index t' → t = t')

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

theorem flushed10 (c : Dev nD) (t : Fin cfg0.N) :
    (dats m 0 c).flushed 10 t = (cfg0.win 10).cut (grid0.coords t) ((outsAt0 m c t.val t.isLt).2.2.1) := by
  show (cfg0.win 10).cut (grid0.coords t) ((dats m 0 c).after 10 t) = _
  rw [after0_10]

theorem idx_inj10 : ∀ t t' : Fin cfg0.N, win0_10.index t = win0_10.index t' → t = t' :=
  (by decide +kernel : ∀ t t' : Fin grid0.N, win0_10.index t = win0_10.index t' → t = t')

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

theorem flushed11 (c : Dev nD) (t : Fin cfg0.N) :
    (dats m 0 c).flushed 11 t = (cfg0.win 11).cut (grid0.coords t) ((outsAt0 m c t.val t.isLt).2.2.2.1) := by
  show (cfg0.win 11).cut (grid0.coords t) ((dats m 0 c).after 11 t) = _
  rw [after0_11]

-- no `blocks11`: window 11's index map revisits a block index, or its points could not be enumerated here;
-- the final array is still the frame's `arrAt`, to read with Lib/Pipeline/Value.lean's lemmas by hand

theorem flushed12 (c : Dev nD) (t : Fin cfg0.N) :
    (dats m 0 c).flushed 12 t = (cfg0.win 12).cut (grid0.coords t) ((outsAt0 m c t.val t.isLt).2.2.2.2.1) := by
  show (cfg0.win 12).cut (grid0.coords t) ((dats m 0 c).after 12 t) = _
  rw [after0_12]

-- no `blocks12`: window 12's index map revisits a block index, or its points could not be enumerated here;
-- the final array is still the frame's `arrAt`, to read with Lib/Pipeline/Value.lean's lemmas by hand

theorem flushed13 (c : Dev nD) (t : Fin cfg0.N) :
    (dats m 0 c).flushed 13 t = (cfg0.win 13).cut (grid0.coords t) ((outsAt0 m c t.val t.isLt).2.2.2.2.2.1) := by
  show (cfg0.win 13).cut (grid0.coords t) ((dats m 0 c).after 13 t) = _
  rw [after0_13]

-- no `blocks13`: window 13's index map revisits a block index, or its points could not be enumerated here;
-- the final array is still the frame's `arrAt`, to read with Lib/Pipeline/Value.lean's lemmas by hand

theorem post8 (r : PUnit × MemSt nD τ sig (Elt F)) (h : Pipeline.FramePost cfgs (dats m) 0 (V m) r) (c : Dev nD) :
    r.2.mem ((c : Thread nD τ).loc main_v65_0) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v65_1) = (dats m 0 c).arrAt 9 cfg0.N :=
  (h c).1 9

theorem post10 (r : PUnit × MemSt nD τ sig (Elt F)) (h : Pipeline.FramePost cfgs (dats m) 0 (V m) r) (c : Dev nD) :
    r.2.mem ((c : Thread nD τ).loc main_v65_2) = (dats m 0 c).arrAt 10 cfg0.N :=
  (h c).1 10

theorem post11 (r : PUnit × MemSt nD τ sig (Elt F)) (h : Pipeline.FramePost cfgs (dats m) 0 (V m) r) (c : Dev nD) :
    r.2.mem ((c : Thread nD τ).loc main_v65_3) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v65_4) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v65_5) = (dats m 0 c).arrAt 13 cfg0.N :=
  (h c).1 13

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 7).trans (((dats m 0 c).arrAt_in 7 rfl _).trans ((A_eq m c 7).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem run_blocks : θ_run defs (onTc (τ := τ) (main (F := F))) ⟨m, fun _ => 0, ρ⟩ fun r => ∀ c : Dev nD,
      r.2.mem ((c : Thread nD τ).loc main_v65_0) = (dats m 0 c).arrAt 8 cfg0.N
      ∧ r.2.mem ((c : Thread nD τ).loc main_v65_1) = (dats m 0 c).arrAt 9 cfg0.N
      ∧ r.2.mem ((c : Thread nD τ).loc main_v65_2) = (dats m 0 c).arrAt 10 cfg0.N
      ∧ r.2.mem ((c : Thread nD τ).loc main_v65_3) = (dats m 0 c).arrAt 11 cfg0.N
      ∧ r.2.mem ((c : Thread nD τ).loc main_v65_4) = (dats m 0 c).arrAt 12 cfg0.N
      ∧ r.2.mem ((c : Thread nD τ).loc main_v65_5) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post8 m r h c,
      post9 m r h c,
      post10 m r h c,
      post11 m r h c,
      post12 m r h c,
      post13 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Ffn

end
-- ==== Proof.Ffn.Block.lean ====
/- What one step of the grid computes, operation by operation: each payload of the body read at an index, over the
   extended reals. -/
module

public import proofs.«01_k».proof.Proof.Gen.KernelIdeal.Skeleton
public import Idealize.ShloMosaic.Lib.Pipeline.Value
public import Idealize.ShloMosaic.Lib.ValueIdx
public import Idealize.ShloMosaic.Lib.MatmulPlain
public import Idealize.ShloMosaic.Lib.KernelVsHost
public import Idealize.ShloMosaic.Lib.IdealHost
public import Idealize.ShloMosaic.PureOps.Ideal.Laws

@[expose] public section

set_option maxRecDepth 16384

noncomputable section

namespace Cert.KernelIdeal.Blk

open Cert.KernelIdeal Cert.KernelIdeal.Gen Idealize.ShloMosaic Idealize.ShloMosaic.ValueIdx Idealize.SL.Sem

/-- A vector over the extended reals. -/
abbrev IV (S : Shape) (e : EltTy) : Type := Vec Ideal S e

/-! ## Layout and reductions -/

theorem sc_self {S : Shape} {α : Type} (x : S.Idx → α) (h : S.ShapeCasts S) (j : S.Idx) : shapeCast S x h j = x j :=
  shapeCast_apply x h j j rfl

theorem row_bcast (x : FVec Ideal S1x1408 .f32) (r : Fin 256) (q : Fin 1408) :
    broadcastTo S256x1408 x broadcasts_S1x1408_S256x1408 (ix2 r q) = x (ix2 0 q) :=
  broadcastTo_apply x broadcasts_S1x1408_S256x1408 (ix2 r q) (ix2 0 q) fun a => by
    match a with
    | ⟨0, _⟩ => rfl
    | ⟨1, _⟩ => rfl

theorem row_bcast_n (x : FVec Ideal S1x1024 .f32) (r : Fin 256) (k : Fin 1024) :
    broadcastTo S256x1024 x broadcasts_S1x1024_S256x1024 (ix2 r k) = x (ix2 0 k) :=
  broadcastTo_apply x broadcasts_S1x1024_S256x1024 (ix2 r k) (ix2 0 k) fun a => by
    match a with
    | ⟨0, _⟩ => rfl
    | ⟨1, _⟩ => rfl

theorem col_bcast (x : FVec Ideal S256x1 .f32) (r : Fin 256) (k : Fin 1024) :
    broadcastTo S256x1024 x broadcasts_S256x1_S256x1024 (ix2 r k) = x (ix2 r 0) :=
  broadcastTo_apply x broadcasts_S256x1_S256x1024 (ix2 r k) (ix2 r 0) fun a => by
    match a with
    | ⟨0, _⟩ => rfl
    | ⟨1, _⟩ => rfl

/-- A column sum, kept as a row. -/
theorem colsum (v : FVec Ideal S256x1408 .f32) (q : Fin 1408) :
    shapeCast S1x1408 (multiReduction .add [0] S1408 v 0x00000000#32 reduces_S256x1408_S1408 (.inl rfl) rfl) shapeCasts_S1408_S1x1408
      (ix2 0 q) = ∑ r : Fin 256, v (ix2 r q) := by
  refine (shapeCast_apply _ shapeCasts_S1408_S1x1408 (ix2 0 q) (ix1 q) (by simp [Shape.rowMajor_val_two, Shape.rowMajor_val_one])).trans ?_
  refine (Ideal.multiReduction_add_single v _ reduces_S256x1408_S1408 (.inl rfl) rfl (ix1 q)).trans ?_
  exact Finset.sum_congr rfl fun r _ => congrArg v (funext fun a => Fin.ext (by match a with | ⟨0, _⟩ => rfl | ⟨1, _⟩ => rfl))

theorem colsum_n (v : FVec Ideal S256x1024 .f32) (k : Fin 1024) :
    shapeCast S1x1024 (multiReduction .add [0] S1024 v 0x00000000#32 reduces_S256x1024_S1024 (.inl rfl) rfl) shapeCasts_S1024_S1x1024
      (ix2 0 k) = ∑ r : Fin 256, v (ix2 r k) := by
  refine (shapeCast_apply _ shapeCasts_S1024_S1x1024 (ix2 0 k) (ix1 k) (by simp [Shape.rowMajor_val_two, Shape.rowMajor_val_one])).trans ?_
  refine (Ideal.multiReduction_add_single v _ reduces_S256x1024_S1024 (.inl rfl) rfl (ix1 k)).trans ?_
  exact Finset.sum_congr rfl fun r _ => congrArg v (funext fun a => Fin.ext (by match a with | ⟨0, _⟩ => rfl | ⟨1, _⟩ => rfl))

/-- A row sum, kept as a column. -/
theorem rowsum (v : FVec Ideal S256x1024 .f32) (r : Fin 256) :
    shapeCast S256x1 (multiReduction .add [1] S256 v 0x00000000#32 reduces_S256x1024_S256 (.inl rfl) rfl) shapeCasts_S256_S256x1
      (ix2 r 0) = ∑ k : Fin 1024, v (ix2 r k) := by
  refine (shapeCast_apply _ shapeCasts_S256_S256x1 (ix2 r 0) (ix1 r) (by simp [Shape.rowMajor_val_two, Shape.rowMajor_val_one])).trans ?_
  refine (Ideal.multiReduction_add_single v _ reduces_S256x1024_S256 (.inl rfl) rfl (ix1 r)).trans ?_
  exact Finset.sum_congr rfl fun k _ => congrArg v (funext fun a => Fin.ext (by match a with | ⟨0, _⟩ => rfl | ⟨1, _⟩ => rfl))

/-! ## The row block's products and gates -/

theorem pay12_apply (x : IV S256x1024 .f32) (w : IV S1408x1024 .bf16) (r : Fin 256) (q : Fin 1408) :
    k0_pay12 x w (ix2 r q) = ∑ k : Fin 1024, x (ix2 r k) * w (ix2 q k) := by
  refine (Ideal.matmul_transposedRhs_apply none (k0_pay7 x) w (constant S256x1408 .f32 0x00000000#32) r q).trans ?_
  rw [constant_apply, Ideal.ofBits_zero_f32, zero_add]
  rfl

/-- The gate half of the derivative at the convolution: product with `w_down`'s row block, times `u`, times the gate's derivative. -/
theorem dcU_apply (x : IV S256x1024 .f32) (w : IV S1408x1024 .bf16) (u d : IV S256x1408 .bf16) (r : Fin 256) (q : Fin 1408) :
    k0_pay14 (k0_pay13 x w u) d (ix2 r q) = (∑ k : Fin 1024, x (ix2 r k) * w (ix2 q k)) * u (ix2 r q) * d (ix2 r q) := by
  unfold k0_pay14 k0_pay13
  simp only [mulf_apply, extf_apply, sc_self, pay12_apply]

/-- The other half. -/
theorem dcS_apply (x : IV S256x1024 .f32) (w : IV S1408x1024 .bf16) (s : IV S256x1408 .bf16) (r : Fin 256) (q : Fin 1408) :
    k0_pay15 (k0_pay12 x w) s (ix2 r q) = (∑ k : Fin 1024, x (ix2 r k) * w (ix2 q k)) * s (ix2 r q) := by
  unfold k0_pay15
  simp only [mulf_apply, extf_apply, sc_self, pay12_apply]

/-! ## The rows below: one and two rows down, the last ones from the carried rows -/

/-- Row `r` of the block followed by the carried rows. -/
def ext (A : IV S256x1408 .f32) (c : IV S1x8x1408 .f32) (r : ℕ) (h : r < 264) (q : Fin 1408) : EReal :=
  if h' : r < 256 then A (ix2 ⟨r, h'⟩ q) else c (ix3 0 ⟨r - 256, by omega⟩ q)

theorem ext_apply (A : IV S256x1408 .f32) (c : IV S1x8x1408 .f32) (r : Fin 264) (q : Fin 1408) :
    k0_pay28 A c (ix2 r q) = ext A c r.val r.isLt q := by
  unfold k0_pay28 ext
  try dsimp only
  split
  · next h =>
    refine concatenate_pair_apply_left (t := S264x1408) 0 A _ _ (ix2 r q) rfl (ix2 ⟨r.val, h⟩ q) fun b => ?_
    match b with
    | ⟨0, _⟩ => rfl
    | ⟨1, _⟩ => rfl
  · next h =>
    refine (concatenate_pair_apply_right (t := S264x1408) 0 A (shapeCast S8x1408 c shapeCasts_S1x8x1408_S8x1408) _ (ix2 r q) rfl rfl
      (ix2 ⟨r.val - 256, by omega⟩ q) ?_ ?_).trans ?_
    · intro b
      match b with
      | ⟨0, _⟩ => simp
      | ⟨1, _⟩ => simp
    · show r.val - 256 + 256 = r.val
      omega
    · exact shapeCast_apply c shapeCasts_S1x8x1408_S8x1408 _ (ix3 0 ⟨r.val - 256, by omega⟩ q)
        (by simp [Shape.rowMajor_val_two, Shape.rowMajor_val_three])

theorem shift1_apply (A : IV S256x1408 .f32) (c : IV S1x8x1408 .f32) (r : Fin 256) (q : Fin 1408) :
    k0_pay30 A c (ix2 r q) = ext A c (r.val + 1) (by omega) q := by
  unfold k0_pay30
  try dsimp only
  refine (extractStridedSlice_apply ![0, 0] _ slices_S264x1408_o0_0_S256x1408 (ix2 r q) (ix2 ⟨r.val, by omega⟩ q) fun a => ?_).trans ?_
  · match a with
    | ⟨0, _⟩ => exact (Nat.zero_add _).symm
    | ⟨1, _⟩ => exact (Nat.zero_add _).symm
  · refine Eq.trans ?_ (ext_apply A c ⟨r.val + 1, by omega⟩ q)
    refine dynamicRotate_apply (s := S264x1408) (0 : Fin 2) 263#32 _ rotates_S264x1408_d0 _ _ fun b => ?_
    match b with
    | ⟨0, _⟩ =>
      show r.val + 1 = (r.val + 264 - 263 % 264) % 264
      have := r.isLt
      omega
    | ⟨1, _⟩ => rfl

theorem shift2_apply (A : IV S256x1408 .f32) (c : IV S1x8x1408 .f32) (r : Fin 256) (q : Fin 1408) :
    k0_pay31 A c (ix2 r q) = ext A c (r.val + 2) (by omega) q := by
  unfold k0_pay31
  try dsimp only
  refine (extractStridedSlice_apply ![0, 0] _ slices_S264x1408_o0_0_S256x1408 (ix2 r q) (ix2 ⟨r.val, by omega⟩ q) fun a => ?_).trans ?_
  · match a with
    | ⟨0, _⟩ => exact (Nat.zero_add _).symm
    | ⟨1, _⟩ => exact (Nat.zero_add _).symm
  · refine Eq.trans ?_ (ext_apply A c ⟨r.val + 2, by omega⟩ q)
    refine dynamicRotate_apply (s := S264x1408) (0 : Fin 2) 262#32 _ rotates_S264x1408_d0 _ _ fun b => ?_
    match b with
    | ⟨0, _⟩ =>
      show r.val + 2 = (r.val + 264 - 262 % 264) % 264
      have := r.isLt
      omega
    | ⟨1, _⟩ => rfl

/-- The rows carried to the block above: this block's first eight. -/
theorem carry_apply (A : IV S256x1408 .f32) (a : Fin 1) (r : Fin 8) (q : Fin 1408) :
    k0_pay29 (F := Ideal) A (ix3 a r q) = A (ix2 ⟨r.val, by omega⟩ q) := by
  unfold k0_pay29
  try dsimp only
  refine (shapeCast_apply _ shapeCasts_S8x1408_S1x8x1408 (ix3 a r q) (ix2 r q)
    (by have := a.isLt; simp [Shape.rowMajor_val_two, Shape.rowMajor_val_three])).trans ?_
  refine extractStridedSlice_apply ![0, 0] A slices_S256x1408_o0_0_S8x1408 (ix2 r q) (ix2 ⟨r.val, by omega⟩ q) fun b => ?_
  match b with
  | ⟨0, _⟩ => exact (Nat.zero_add _).symm
  | ⟨1, _⟩ => exact (Nat.zero_add _).symm

/-! ## The accumulators' increments and the gradient at the up product -/

theorem dcb_apply (A : IV S256x1408 .f32) (acc : IV S1x1408 .f32) (q : Fin 1408) :
    k0_pay32 A acc (ix2 0 q) = acc (ix2 0 q) + ∑ r : Fin 256, A (ix2 r q) := by
  unfold k0_pay32
  try dsimp only
  rw [addf_apply, sc_self, colsum]

theorem dcw_apply (A : IV S256x1408 .f32) (hh : IV S256x1408 .bf16) (acc : IV S1x1408 .f32) (q : Fin 1408) :
    k0_pay35 A (k0_pay16 hh) acc (ix2 0 q) = acc (ix2 0 q) + ∑ r : Fin 256, A (ix2 r q) * hh (ix2 r q) := by
  unfold k0_pay35 k0_pay16
  try dsimp only
  rw [addf_apply, sc_self, colsum]
  simp only [mulf_apply, extf_apply, sc_self]

theorem dhh_apply (A A1 A2 : IV S256x1408 .f32) (w2 w1 w0 : IV S1x1408 .f32) (r : Fin 256) (q : Fin 1408) :
    k0_pay36 A A1 A2 w2 w1 w0 (ix2 r q)
      = w2 (ix2 0 q) * A (ix2 r q) + w1 (ix2 0 q) * A1 (ix2 r q) + w0 (ix2 0 q) * A2 (ix2 r q) := by
  unfold k0_pay36
  try dsimp only
  simp only [truncf_apply, addf_apply, mulf_apply, row_bcast]

theorem dxf_apply (A : IV S256x1408 .f32) (acc : IV S256x1024 .f32) (A1 A2 : IV S256x1408 .f32) (w2 w1 w0 : IV S1x1408 .f32)
    (w : IV S1x1024x1408 .bf16) (r : Fin 256) (k : Fin 1024) :
    k0_pay37 A acc A1 A2 w2 w1 w0 w (ix2 r k)
      = acc (ix2 r k) + ∑ q : Fin 1408, k0_pay36 A A1 A2 w2 w1 w0 (ix2 r q) * w (ix3 0 k q) := by
  unfold k0_pay37
  try dsimp only
  rw [addf_apply]
  refine congrArg (acc (ix2 r k) + ·) ?_
  refine (Ideal.matmul_transposedRhs_apply none (k0_pay36 A A1 A2 w2 w1 w0) (shapeCast S1024x1408 w shapeCasts_S1x1024x1408_S1024x1408)
    (constant S256x1024 .f32 0x00000000#32) r k).trans ?_
  rw [constant_apply, Ideal.ofBits_zero_f32, zero_add]
  refine Finset.sum_congr rfl fun q _ => congrArg (_ * ·) ?_
  exact shapeCast_apply w shapeCasts_S1x1024x1408_S1024x1408 (ix2 k q) (ix3 0 k q)
    (by simp [Shape.rowMajor_val_two, Shape.rowMajor_val_three])

theorem zero_apply (r : Fin 256) (k : Fin 1024) : k0_pay11 (F := Ideal) (ix2 r k) = 0 := Ideal.ofBits_zero_f32

/-! ## The norm -/

/-- The norm's factor of a row. -/
def rs (x : IV S256x1024 .f32) (r : Fin 256) : EReal :=
  Ideal.rsqrt (Ideal.div (∑ k : Fin 1024, x (ix2 r k) * x (ix2 r k)) (Ideal.ofBits .f32 0x44800000#32) + Ideal.ofBits .f32 0x358637BD#32)

theorem rs_apply (x : IV S256x1024 .f32) (r : Fin 256) : k0_pay8 x (ix2 r 0) = rs x r := by
  unfold k0_pay8 rs
  try dsimp only
  show Ideal.rsqrt (Ideal.div (shapeCast S256x1 _ _ (ix2 r 0)) _ + _) = _
  rw [rowsum]
  rfl

theorem xh_apply (x : IV S256x1024 .f32) (r : Fin 256) (k : Fin 1024) : k0_pay9 x (ix2 r k) = x (ix2 r k) * rs x r := by
  unfold k0_pay9
  try dsimp only
  rw [mulf_apply, col_bcast, rs_apply]

theorem xf_apply (x : IV S256x1024 .f32) (n : IV S1x1024 .f32) (r : Fin 256) (k : Fin 1024) :
    k0_pay10 x n (ix2 r k) = x (ix2 r k) * rs x r * n (ix2 0 k) := by
  unfold k0_pay10
  try dsimp only
  rw [truncf_apply, mulf_apply, row_bcast_n, xh_apply, sc_self]

/-- The norm's weight gradient: this block's increment. -/
theorem dn_apply (A : IV S256x1408 .f32) (acc xh : IV S256x1024 .f32) (A1 A2 : IV S256x1408 .f32) (w2 w1 w0 : IV S1x1408 .f32)
    (w : IV S1x1024x1408 .bf16) (dn : IV S1x1024 .f32) (k : Fin 1024) :
    k0_pay1 (k0_pay68 xh A acc A1 A2 w2 w1 w0 w) dn (ix2 0 k)
      = dn (ix2 0 k) + ∑ r : Fin 256, k0_pay37 A acc A1 A2 w2 w1 w0 w (ix2 r k) * xh (ix2 r k) := by
  unfold k0_pay1 k0_pay68
  try dsimp only
  rw [addf_apply, sc_self, colsum_n]
  rfl

/-- The gradient at the residual stream. -/
theorem dh_apply (dout : IV S256x1024 .f32) (r1 : IV S256x1 .f32) (xh : IV S256x1024 .f32) (A : IV S256x1408 .f32) (acc : IV S256x1024 .f32)
    (A1 A2 : IV S256x1408 .f32) (w2 w1 w0 : IV S1x1408 .f32) (w : IV S1x1024x1408 .bf16) (n : IV S1x1024 .f32) (r : Fin 256) (k : Fin 1024) :
    k0_pay2 dout (k0_pay69 r1 xh A acc A1 A2 w2 w1 w0 w n) (ix2 r k)
      = dout (ix2 r k) + r1 (ix2 r 0) * (k0_pay37 A acc A1 A2 w2 w1 w0 w (ix2 r k) * n (ix2 0 k)
          - xh (ix2 r k) * Ideal.div (∑ j : Fin 1024, k0_pay37 A acc A1 A2 w2 w1 w0 w (ix2 r j) * n (ix2 0 j) * xh (ix2 r j))
              (Ideal.ofBits .f32 0x44800000#32)) := by
  unfold k0_pay2 k0_pay69
  try dsimp only
  rw [addf_apply, mulf_apply, col_bcast, subf_apply, mulf_apply, row_bcast_n, sc_self, mulf_apply, col_bcast, divf_apply, rowsum]
  simp only [mulf_apply, row_bcast_n, sc_self]
  rfl

end Cert.KernelIdeal.Blk

end
-- ==== Proof.Ffn.Step.lean ====
/- One step of the grid over its block of 256 rows, the four column blocks of 1408 side by side: the derivative at the
   convolution, the rows below it, the gradients, and the sums added to the accumulators. -/
module

public import proofs.«01_k».proof.Proof.Ffn.Block

@[expose] public section

set_option maxRecDepth 16384

noncomputable section

namespace Cert.KernelIdeal.Blk

open Cert.KernelIdeal Cert.KernelIdeal.Gen Idealize.ShloMosaic Idealize.ShloMosaic.ValueIdx Idealize.SL.Sem

/-! ## The payloads of the four column blocks are one text -/

theorem pay17_eq (p d c) : k0_pay17 (F := Ideal) p d c = k0_pay28 (k0_pay14 p d) c := rfl
theorem pay18_eq (p d) : k0_pay18 (F := Ideal) p d = k0_pay29 (k0_pay14 p d) := rfl
theorem pay19_eq (p d c) : k0_pay19 (F := Ideal) p d c = k0_pay30 (k0_pay14 p d) c := rfl
theorem pay20_eq (p d c) : k0_pay20 (F := Ideal) p d c = k0_pay31 (k0_pay14 p d) c := rfl
theorem pay21_eq (p d a) : k0_pay21 (F := Ideal) p d a = k0_pay32 (k0_pay14 p d) a := rfl
theorem pay22_eq (p d h c a) : k0_pay22 (F := Ideal) p d h c a = k0_pay35 (k0_pay31 (k0_pay14 p d) c) (k0_pay16 h) a := rfl
theorem pay23_eq (h A a) : k0_pay23 (F := Ideal) h A a = k0_pay35 A h a := rfl
theorem pay24_eq (A h a) : k0_pay24 (F := Ideal) A h a = k0_pay35 A h a := rfl
theorem pay25_eq (A A1 A2 w2 w1 w0) : k0_pay25 (F := Ideal) A A1 A2 w2 w1 w0 = k0_pay36 A A1 A2 w2 w1 w0 := rfl
theorem pay26_eq (e A A1 A2 w2 w1 w0 w) : k0_pay26 (F := Ideal) e A A1 A2 w2 w1 w0 w = k0_pay37 A e A1 A2 w2 w1 w0 w := rfl
theorem pay27_eq (h) : k0_pay27 (F := Ideal) h = k0_pay16 h := rfl
theorem pay33_eq (A h c a) : k0_pay33 (F := Ideal) A h c a = k0_pay35 (k0_pay31 A c) h a := rfl
theorem pay34_eq (A h c a) : k0_pay34 (F := Ideal) A h c a = k0_pay35 (k0_pay30 A c) h a := rfl
theorem pay38_eq (x w) : k0_pay38 (F := Ideal) (k0_pay7 x) w = k0_pay12 x w := rfl
theorem pay39_eq (x w u d) : k0_pay39 (F := Ideal) (k0_pay7 x) w u d = k0_pay14 (k0_pay13 x w u) d := rfl
theorem pay40_eq (p s) : k0_pay40 (F := Ideal) p s = k0_pay15 p s := rfl
theorem pay41_eq (h) : k0_pay41 (F := Ideal) h = k0_pay16 h := rfl
theorem pay43_eq (A) : k0_pay43 (F := Ideal) A = k0_pay29 A := rfl
theorem pay44_eq (A c) : k0_pay44 (F := Ideal) A c = k0_pay30 A c := rfl
theorem pay45_eq (A c) : k0_pay45 (F := Ideal) A c = k0_pay31 A c := rfl
theorem pay46_eq (A a) : k0_pay46 (F := Ideal) A a = k0_pay32 A a := rfl
theorem pay47_eq (A h c a) : k0_pay47 (F := Ideal) A h c a = k0_pay35 (k0_pay31 A c) (k0_pay16 h) a := rfl
theorem pay50_eq (A h c a) : k0_pay50 (F := Ideal) (k0_pay48 a) (k0_pay49 A h c) = k0_pay35 (k0_pay30 A c) (k0_pay16 h) a := rfl
theorem pay51_eq (A h a) : k0_pay51 (F := Ideal) A h a = k0_pay35 A h a := rfl
theorem pay52_eq (A A1 A2 w2 w1 w0) : k0_pay52 (F := Ideal) A A1 A2 w2 w1 w0 = k0_pay36 A A1 A2 w2 w1 w0 := rfl
theorem pay53_eq (e A A1 A2 w2 w1 w0 w) : k0_pay53 (F := Ideal) e A A1 A2 w2 w1 w0 w = k0_pay37 A e A1 A2 w2 w1 w0 w := rfl
theorem pay54_eq (h) : k0_pay54 (F := Ideal) h = k0_pay16 h := rfl
theorem pay57_eq (A) : k0_pay57 (F := Ideal) A = k0_pay29 A := rfl
theorem pay58_eq (A c) : k0_pay58 (F := Ideal) A (k0_pay55 c) = k0_pay30 A c := rfl
theorem pay59_eq (A c) : k0_pay59 (F := Ideal) A (k0_pay55 c) = k0_pay31 A c := rfl
theorem pay60_eq (A a) : k0_pay60 (F := Ideal) A a = k0_pay32 A a := rfl
theorem pay61_eq (A h c a) : k0_pay61 (F := Ideal) A h (k0_pay55 c) a = k0_pay35 (k0_pay31 A c) h a := rfl
theorem pay62_eq (A h c a) : k0_pay62 (F := Ideal) A h (k0_pay55 c) a = k0_pay35 (k0_pay30 A c) h a := rfl
theorem pay65_eq (A h a) : k0_pay65 (F := Ideal) (k0_pay63 a) (k0_pay64 A h) = k0_pay35 A h a := rfl
theorem pay66_eq (A A1 A2 w2 w1 w0) : k0_pay66 (F := Ideal) A A1 A2 w2 w1 w0 = k0_pay36 A A1 A2 w2 w1 w0 := rfl
theorem pay67_eq (e A A1 A2 w2 w1 w0 w) : k0_pay67 (F := Ideal) A e A1 A2 w2 w1 w0 w = k0_pay37 A e A1 A2 w2 w1 w0 w := rfl

/-! ## The arrays one step reads -/

/-- What one step reads: the blocks of the eight inputs, the two weight matrices kept on chip, the carried rows, and the
    three accumulators. -/
structure Ins where
  dout : IV S256x1024 .f32
  h : IV S256x1024 .f32
  hh : IV S256x5632 .bf16
  u : IV S256x2816 .bf16
  sil : IV S256x2816 .bf16
  dsil : IV S256x2816 .bf16
  n : IV S1x1024 .f32
  cw : IV S3x5632 .f32
  up : IV S4x1024x1408 .bf16
  down : IV S2816x1024 .bf16
  below : IV S4x8x1408 .f32
  aw : IV S3x5632 .f32
  ab : IV S1x5632 .f32
  an : IV S1x1024 .f32

variable (z : Ins)

/-! ## The terms of the body, by column block -/

/-- The derivative at the convolution. -/
def dcB : Fin 4 → IV S256x1408 .f32
  | 0 => k0_pay14 (k0_pay13 z.dout (View.ld z.down (Rect.unit ![0, 0] ![1408, 1024] inb_S2816x1024_S1408x1024_0_0)) (View.ld z.u (Rect.unit ![0, 0] ![256, 1408] inb_S256x2816_S256x1408_0_0))) (View.ld z.dsil (Rect.unit ![0, 0] ![256, 1408] inb_S256x2816_S256x1408_0_0))
  | 1 => k0_pay14 (k0_pay13 z.dout (View.ld z.down (Rect.unit ![1408, 0] ![1408, 1024] inb_S2816x1024_S1408x1024_1408_0)) (View.ld z.u (Rect.unit ![0, 1408] ![256, 1408] inb_S256x2816_S256x1408_0_1408))) (View.ld z.dsil (Rect.unit ![0, 1408] ![256, 1408] inb_S256x2816_S256x1408_0_1408))
  | 2 => k0_pay15 (k0_pay12 z.dout (View.ld z.down (Rect.unit ![0, 0] ![1408, 1024] inb_S2816x1024_S1408x1024_0_0))) (View.ld z.sil (Rect.unit ![0, 0] ![256, 1408] inb_S256x2816_S256x1408_0_0))
  | 3 => k0_pay15 (k0_pay12 z.dout (View.ld z.down (Rect.unit ![1408, 0] ![1408, 1024] inb_S2816x1024_S1408x1024_1408_0))) (View.ld z.sil (Rect.unit ![0, 1408] ![256, 1408] inb_S256x2816_S256x1408_0_1408))

/-- The carried rows. -/
def beB : Fin 4 → IV S1x8x1408 .f32
  | 0 => View.ld z.below (Rect.unit ![0, 0, 0] ![1, 8, 1408] inb_S4x8x1408_S1x8x1408_0_0_0)
  | 1 => View.ld z.below (Rect.unit ![1, 0, 0] ![1, 8, 1408] inb_S4x8x1408_S1x8x1408_1_0_0)
  | 2 => View.ld z.below (Rect.unit ![2, 0, 0] ![1, 8, 1408] inb_S4x8x1408_S1x8x1408_2_0_0)
  | 3 => View.ld z.below (Rect.unit ![3, 0, 0] ![1, 8, 1408] inb_S4x8x1408_S1x8x1408_3_0_0)

/-- The up product's weights. -/
def upB : Fin 4 → IV S1x1024x1408 .bf16
  | 0 => View.ld z.up (Rect.unit ![0, 0, 0] ![1, 1024, 1408] inb_S4x1024x1408_S1x1024x1408_0_0_0)
  | 1 => View.ld z.up (Rect.unit ![1, 0, 0] ![1, 1024, 1408] inb_S4x1024x1408_S1x1024x1408_1_0_0)
  | 2 => View.ld z.up (Rect.unit ![2, 0, 0] ![1, 1024, 1408] inb_S4x1024x1408_S1x1024x1408_2_0_0)
  | 3 => View.ld z.up (Rect.unit ![3, 0, 0] ![1, 1024, 1408] inb_S4x1024x1408_S1x1024x1408_3_0_0)

/-- The up product. -/
def hhB : Fin 4 → IV S256x1408 .f32
  | 0 => k0_pay16 (View.ld z.hh (Rect.unit ![0, 0] ![256, 1408] inb_S256x5632_S256x1408_0_0))
  | 1 => k0_pay16 (View.ld z.hh (Rect.unit ![0, 1408] ![256, 1408] inb_S256x5632_S256x1408_0_1408))
  | 2 => k0_pay16 (View.ld z.hh (Rect.unit ![0, 2816] ![256, 1408] inb_S256x5632_S256x1408_0_2816))
  | 3 => k0_pay16 (View.ld z.hh (Rect.unit ![0, 4224] ![256, 1408] inb_S256x5632_S256x1408_0_4224))

/-- Tap 0 of the convolution. -/
def cw0B : Fin 4 → IV S1x1408 .f32
  | 0 => View.ld z.cw (Rect.unit ![0, 0] ![1, 1408] inb_S3x5632_S1x1408_0_0)
  | 1 => View.ld z.cw (Rect.unit ![0, 1408] ![1, 1408] inb_S3x5632_S1x1408_0_1408)
  | 2 => View.ld z.cw (Rect.unit ![0, 2816] ![1, 1408] inb_S3x5632_S1x1408_0_2816)
  | 3 => View.ld z.cw (Rect.unit ![0, 4224] ![1, 1408] inb_S3x5632_S1x1408_0_4224)

/-- The accumulator of tap 0's gradient. -/
def aw0B : Fin 4 → IV S1x1408 .f32
  | 0 => View.ld z.aw (Rect.unit ![0, 0] ![1, 1408] inb_S3x5632_S1x1408_0_0)
  | 1 => View.ld z.aw (Rect.unit ![0, 1408] ![1, 1408] inb_S3x5632_S1x1408_0_1408)
  | 2 => View.ld z.aw (Rect.unit ![0, 2816] ![1, 1408] inb_S3x5632_S1x1408_0_2816)
  | 3 => View.ld z.aw (Rect.unit ![0, 4224] ![1, 1408] inb_S3x5632_S1x1408_0_4224)

/-- Tap 1 of the convolution. -/
def cw1B : Fin 4 → IV S1x1408 .f32
  | 0 => View.ld z.cw (Rect.unit ![1, 0] ![1, 1408] inb_S3x5632_S1x1408_1_0)
  | 1 => View.ld z.cw (Rect.unit ![1, 1408] ![1, 1408] inb_S3x5632_S1x1408_1_1408)
  | 2 => View.ld z.cw (Rect.unit ![1, 2816] ![1, 1408] inb_S3x5632_S1x1408_1_2816)
  | 3 => View.ld z.cw (Rect.unit ![1, 4224] ![1, 1408] inb_S3x5632_S1x1408_1_4224)

/-- The accumulator of tap 1's gradient. -/
def aw1B : Fin 4 → IV S1x1408 .f32
  | 0 => View.ld z.aw (Rect.unit ![1, 0] ![1, 1408] inb_S3x5632_S1x1408_1_0)
  | 1 => View.ld z.aw (Rect.unit ![1, 1408] ![1, 1408] inb_S3x5632_S1x1408_1_1408)
  | 2 => View.ld z.aw (Rect.unit ![1, 2816] ![1, 1408] inb_S3x5632_S1x1408_1_2816)
  | 3 => View.ld z.aw (Rect.unit ![1, 4224] ![1, 1408] inb_S3x5632_S1x1408_1_4224)

/-- Tap 2 of the convolution. -/
def cw2B : Fin 4 → IV S1x1408 .f32
  | 0 => View.ld z.cw (Rect.unit ![2, 0] ![1, 1408] inb_S3x5632_S1x1408_2_0)
  | 1 => View.ld z.cw (Rect.unit ![2, 1408] ![1, 1408] inb_S3x5632_S1x1408_2_1408)
  | 2 => View.ld z.cw (Rect.unit ![2, 2816] ![1, 1408] inb_S3x5632_S1x1408_2_2816)
  | 3 => View.ld z.cw (Rect.unit ![2, 4224] ![1, 1408] inb_S3x5632_S1x1408_2_4224)

/-- The accumulator of tap 2's gradient. -/
def aw2B : Fin 4 → IV S1x1408 .f32
  | 0 => View.ld z.aw (Rect.unit ![2, 0] ![1, 1408] inb_S3x5632_S1x1408_2_0)
  | 1 => View.ld z.aw (Rect.unit ![2, 1408] ![1, 1408] inb_S3x5632_S1x1408_2_1408)
  | 2 => View.ld z.aw (Rect.unit ![2, 2816] ![1, 1408] inb_S3x5632_S1x1408_2_2816)
  | 3 => View.ld z.aw (Rect.unit ![2, 4224] ![1, 1408] inb_S3x5632_S1x1408_2_4224)

/-- The accumulator of the bias's gradient. -/
def abB : Fin 4 → IV S1x1408 .f32
  | 0 => View.ld z.ab (Rect.unit ![0, 0] ![1, 1408] inb_S1x5632_S1x1408_0_0)
  | 1 => View.ld z.ab (Rect.unit ![0, 1408] ![1, 1408] inb_S1x5632_S1x1408_0_1408)
  | 2 => View.ld z.ab (Rect.unit ![0, 2816] ![1, 1408] inb_S1x5632_S1x1408_0_2816)
  | 3 => View.ld z.ab (Rect.unit ![0, 4224] ![1, 1408] inb_S1x5632_S1x1408_0_4224)

/-- One row down. -/
def s1B (b : Fin 4) : IV S256x1408 .f32 := k0_pay30 (dcB z b) (beB z b)

/-- Two rows down. -/
def s2B (b : Fin 4) : IV S256x1408 .f32 := k0_pay31 (dcB z b) (beB z b)

/-- The gradient at the up product. -/
def dhhB (b : Fin 4) : IV S256x1408 .bf16 := k0_pay36 (dcB z b) (s1B z b) (s2B z b) (cw2B z b) (cw1B z b) (cw0B z b)

/-- One more block's share of the gradient at the normed rows. -/
def dxB (b : Fin 4) (e : IV S256x1024 .f32) : IV S256x1024 .f32 :=
  k0_pay37 (dcB z b) e (s1B z b) (s2B z b) (cw2B z b) (cw1B z b) (cw0B z b) (upB z b)

/-- The first three blocks' shares. -/
def dx3 : IV S256x1024 .f32 := dxB z 1 (dxB z 2 (dxB z 0 (k0_pay11 (F := Ideal))))

/-! ## The stores of a step, last first -/

def list8 : List (View.Piece (Elt Ideal) S256x1024 .f32) :=
  [⟨Rect.unit ![0, 0] ![256, 1024] inb_S256x1024_S256x1024_0_0,
    k0_pay2 z.dout (k0_pay69 (k0_pay8 z.h) (k0_pay9 z.h) (dcB z 3) (dx3 z) (s1B z 3) (s2B z 3) (cw2B z 3) (cw1B z 3) (cw0B z 3) (upB z 3) z.n)⟩]

def list9 : List (View.Piece (Elt Ideal) S256x5632 .bf16) :=
  [⟨Rect.unit ![0, 4224] ![256, 1408] inb_S256x5632_S256x1408_0_4224, dhhB z 3⟩,
    ⟨Rect.unit ![0, 1408] ![256, 1408] inb_S256x5632_S256x1408_0_1408, dhhB z 1⟩,
    ⟨Rect.unit ![0, 2816] ![256, 1408] inb_S256x5632_S256x1408_0_2816, dhhB z 2⟩,
    ⟨Rect.unit ![0, 0] ![256, 1408] inb_S256x5632_S256x1408_0_0, dhhB z 0⟩]

def list10 : List (View.Piece (Elt Ideal) S256x1024 .bf16) :=
  [⟨Rect.unit ![0, 0] ![256, 1024] inb_S256x1024_S256x1024_0_0, k0_pay10 z.h z.n⟩]

def list11 : List (View.Piece (Elt Ideal) S3x5632 .f32) :=
  [⟨Rect.unit ![2, 4224] ![1, 1408] inb_S3x5632_S1x1408_2_4224, k0_pay35 (dcB z 3) (hhB z 3) (aw2B z 3)⟩,
    ⟨Rect.unit ![1, 4224] ![1, 1408] inb_S3x5632_S1x1408_1_4224, k0_pay35 (s1B z 3) (hhB z 3) (aw1B z 3)⟩,
    ⟨Rect.unit ![0, 4224] ![1, 1408] inb_S3x5632_S1x1408_0_4224, k0_pay35 (s2B z 3) (hhB z 3) (aw0B z 3)⟩,
    ⟨Rect.unit ![2, 1408] ![1, 1408] inb_S3x5632_S1x1408_2_1408, k0_pay35 (dcB z 1) (hhB z 1) (aw2B z 1)⟩,
    ⟨Rect.unit ![1, 1408] ![1, 1408] inb_S3x5632_S1x1408_1_1408, k0_pay35 (s1B z 1) (hhB z 1) (aw1B z 1)⟩,
    ⟨Rect.unit ![0, 1408] ![1, 1408] inb_S3x5632_S1x1408_0_1408, k0_pay35 (s2B z 1) (hhB z 1) (aw0B z 1)⟩,
    ⟨Rect.unit ![2, 2816] ![1, 1408] inb_S3x5632_S1x1408_2_2816, k0_pay35 (dcB z 2) (hhB z 2) (aw2B z 2)⟩,
    ⟨Rect.unit ![1, 2816] ![1, 1408] inb_S3x5632_S1x1408_1_2816, k0_pay35 (s1B z 2) (hhB z 2) (aw1B z 2)⟩,
    ⟨Rect.unit ![0, 2816] ![1, 1408] inb_S3x5632_S1x1408_0_2816, k0_pay35 (s2B z 2) (hhB z 2) (aw0B z 2)⟩,
    ⟨Rect.unit ![2, 0] ![1, 1408] inb_S3x5632_S1x1408_2_0, k0_pay35 (dcB z 0) (hhB z 0) (aw2B z 0)⟩,
    ⟨Rect.unit ![1, 0] ![1, 1408] inb_S3x5632_S1x1408_1_0, k0_pay35 (s1B z 0) (hhB z 0) (aw1B z 0)⟩,
    ⟨Rect.unit ![0, 0] ![1, 1408] inb_S3x5632_S1x1408_0_0, k0_pay35 (s2B z 0) (hhB z 0) (aw0B z 0)⟩]

def list12 : List (View.Piece (Elt Ideal) S1x5632 .f32) :=
  [⟨Rect.unit ![0, 4224] ![1, 1408] inb_S1x5632_S1x1408_0_4224, k0_pay32 (dcB z 3) (abB z 3)⟩,
    ⟨Rect.unit ![0, 1408] ![1, 1408] inb_S1x5632_S1x1408_0_1408, k0_pay32 (dcB z 1) (abB z 1)⟩,
    ⟨Rect.unit ![0, 2816] ![1, 1408] inb_S1x5632_S1x1408_0_2816, k0_pay32 (dcB z 2) (abB z 2)⟩,
    ⟨Rect.unit ![0, 0] ![1, 1408] inb_S1x5632_S1x1408_0_0, k0_pay32 (dcB z 0) (abB z 0)⟩]

def list13 : List (View.Piece (Elt Ideal) S1x1024 .f32) :=
  [⟨Rect.unit ![0, 0] ![1, 1024] inb_S1x1024_S1x1024_0_0,
    k0_pay1 (k0_pay68 (k0_pay9 z.h) (dcB z 3) (dx3 z) (s1B z 3) (s2B z 3) (cw2B z 3) (cw1B z 3) (cw0B z 3) (upB z 3)) z.an⟩]

def listC : List (View.Piece (Elt Ideal) S4x8x1408 .f32) :=
  [⟨Rect.unit ![3, 0, 0] ![1, 8, 1408] inb_S4x8x1408_S1x8x1408_3_0_0, k0_pay29 (F := Ideal) (dcB z 3)⟩,
    ⟨Rect.unit ![1, 0, 0] ![1, 8, 1408] inb_S4x8x1408_S1x8x1408_1_0_0, k0_pay29 (F := Ideal) (dcB z 1)⟩,
    ⟨Rect.unit ![2, 0, 0] ![1, 8, 1408] inb_S4x8x1408_S1x8x1408_2_0_0, k0_pay29 (F := Ideal) (dcB z 2)⟩,
    ⟨Rect.unit ![0, 0, 0] ![1, 8, 1408] inb_S4x8x1408_S1x8x1408_0_0_0, k0_pay29 (F := Ideal) (dcB z 0)⟩]

end Cert.KernelIdeal.Blk

end
-- ==== Proof.Ffn.PiecesB.lean ====
/- A later step's stores are the common lists. -/
module

public import proofs.«01_k».proof.Proof.Gen.KernelIdeal.Frame.RunB
public import proofs.«01_k».proof.Proof.Ffn.Step

@[expose] public section

set_option maxRecDepth 16384

noncomputable section

namespace Cert.KernelIdeal.Blk

open Cert.KernelIdeal Cert.KernelIdeal.Gen Idealize.ShloMosaic Idealize.ShloMosaic.TcCoe Idealize.ShloMosaic.Tactic Idealize.SL.Sem

theorem hz2 : (![0, 0] : Fin 2 → Nat) = fun _ => 0 := funext fun a => by fin_cases a <;> rfl

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S1x1024 .f32) (harg7 : arg7.IsWhole) (arg8 : Memref sig .tc .vmem S3x5632 .f32) (harg8 : arg8.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S1x1024 .f32) (harg16 : arg16.IsWhole) (arg17 : Memref sig .tc .vmem S4x1024x1408 .bf16) (harg17 : arg17.IsWhole) (arg18 : Memref sig .tc .vmem S2816x1024 .bf16) (harg18 : arg18.IsWhole) (arg19 : Memref sig .tc .vmem S4x8x1408 .f32) (harg19 : arg19.IsWhole) (hc0 : ¬cond0_0 i) (hc1 : ¬cond0_1 i) (x0 : Vec Ideal S256x1024 .f32) (x1 : Vec Ideal S256x1024 .f32) (x2 : Vec Ideal S256x5632 .bf16) (x3 : Vec Ideal S256x2816 .bf16) (x4 : Vec Ideal S256x2816 .bf16) (x5 : Vec Ideal S256x2816 .bf16) (x6 : Vec Ideal S1x1024 .f32) (x7 : Vec Ideal S3x5632 .f32) (xo11 : Vec Ideal S3x5632 .f32) (xo12 : Vec Ideal S1x5632 .f32) (xo13 : Vec Ideal S1x1024 .f32) (xs0 : Vec Ideal S4x1024x1408 .bf16) (xs1 : Vec Ideal S2816x1024 .bf16) (xs2 : Vec Ideal S4x8x1408 .f32) (fh0 : HbBuf0 (F := Ideal) c hbM0_0) (fh1 : HbBuf0 (F := Ideal) c hbM0_1)

set_option maxHeartbeats 4000000 in
theorem runB_8 :
    (kernelRun0_B c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1).1 = list8 ⟨x0, x1, x2, x3, x4, x5, x6, x7, xs0, xs1, xs2, xo11, xo12, xo13⟩ := by
  unfold kernelRun0_B list8
  dsimp only
  sl_unfold_words
  simp only [View.readAt_eq_ld, harg1.read_unread,harg2.read_unread,harg3.read_unread,harg4.read_unread,harg5.read_unread,harg6.read_unread,harg7.read_unread,harg8.read_unread,harg14.read_unread,harg15.read_unread,harg16.read_unread,harg17.read_unread,harg18.read_unread,harg19.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3]

set_option maxHeartbeats 4000000 in
theorem runB_9 :
    (kernelRun0_B c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1).2.1 = list9 ⟨x0, x1, x2, x3, x4, x5, x6, x7, xs0, xs1, xs2, xo11, xo12, xo13⟩ := by
  unfold kernelRun0_B list9
  dsimp only
  sl_unfold_words
  simp only [View.readAt_eq_ld, harg1.read_unread,harg2.read_unread,harg3.read_unread,harg4.read_unread,harg5.read_unread,harg6.read_unread,harg7.read_unread,harg8.read_unread,harg14.read_unread,harg15.read_unread,harg16.read_unread,harg17.read_unread,harg18.read_unread,harg19.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3]

set_option maxHeartbeats 4000000 in
theorem runB_10 :
    (kernelRun0_B c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1).2.2.1 = list10 ⟨x0, x1, x2, x3, x4, x5, x6, x7, xs0, xs1, xs2, xo11, xo12, xo13⟩ := by
  unfold kernelRun0_B list10
  dsimp only
  sl_unfold_words
  simp only [View.readAt_eq_ld, harg1.read_unread,harg2.read_unread,harg3.read_unread,harg4.read_unread,harg5.read_unread,harg6.read_unread,harg7.read_unread,harg8.read_unread,harg14.read_unread,harg15.read_unread,harg16.read_unread,harg17.read_unread,harg18.read_unread,harg19.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3]

set_option maxHeartbeats 4000000 in
theorem runB_11 :
    (kernelRun0_B c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1).2.2.2.1 = list11 ⟨x0, x1, x2, x3, x4, x5, x6, x7, xs0, xs1, xs2, xo11, xo12, xo13⟩ := by
  unfold kernelRun0_B list11
  dsimp only
  sl_unfold_words
  simp only [View.readAt_eq_ld, harg1.read_unread,harg2.read_unread,harg3.read_unread,harg4.read_unread,harg5.read_unread,harg6.read_unread,harg7.read_unread,harg8.read_unread,harg14.read_unread,harg15.read_unread,harg16.read_unread,harg17.read_unread,harg18.read_unread,harg19.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3]

set_option maxHeartbeats 4000000 in
theorem runB_12 :
    (kernelRun0_B c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1).2.2.2.2.1 = list12 ⟨x0, x1, x2, x3, x4, x5, x6, x7, xs0, xs1, xs2, xo11, xo12, xo13⟩ := by
  unfold kernelRun0_B list12
  dsimp only
  sl_unfold_words
  simp only [View.readAt_eq_ld, harg1.read_unread,harg2.read_unread,harg3.read_unread,harg4.read_unread,harg5.read_unread,harg6.read_unread,harg7.read_unread,harg8.read_unread,harg14.read_unread,harg15.read_unread,harg16.read_unread,harg17.read_unread,harg18.read_unread,harg19.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3]

set_option maxHeartbeats 4000000 in
theorem runB_13 :
    (kernelRun0_B c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1).2.2.2.2.2.1 = list13 ⟨x0, x1, x2, x3, x4, x5, x6, x7, xs0, xs1, xs2, xo11, xo12, xo13⟩ := by
  unfold kernelRun0_B list13
  dsimp only
  sl_unfold_words
  simp only [View.readAt_eq_ld, harg1.read_unread,harg2.read_unread,harg3.read_unread,harg4.read_unread,harg5.read_unread,harg6.read_unread,harg7.read_unread,harg8.read_unread,harg14.read_unread,harg15.read_unread,harg16.read_unread,harg17.read_unread,harg18.read_unread,harg19.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3]

set_option maxHeartbeats 4000000 in
theorem runB_C :
    (kernelRun0_B c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1).2.2.2.2.2.2.2.2.1 = listC ⟨x0, x1, x2, x3, x4, x5, x6, x7, xs0, xs1, xs2, xo11, xo12, xo13⟩ := by
  unfold kernelRun0_B listC
  dsimp only
  sl_unfold_words
  simp only [View.readAt_eq_ld, harg1.read_unread,harg2.read_unread,harg3.read_unread,harg4.read_unread,harg5.read_unread,harg6.read_unread,harg7.read_unread,harg8.read_unread,harg14.read_unread,harg15.read_unread,harg16.read_unread,harg17.read_unread,harg18.read_unread,harg19.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3]

end

end Cert.KernelIdeal.Blk

end
-- ==== Proof.Ffn.PiecesA.lean ====
/- The first step's stores are the common lists, after the fills. -/
module

public import proofs.«01_k».proof.Proof.Gen.KernelIdeal.Frame.RunA
public import proofs.«01_k».proof.Proof.Ffn.PiecesB
public import Idealize.ShloMosaic.Lib.Pipeline.ReadBack

@[expose] public section

set_option maxRecDepth 16384

noncomputable section

namespace Cert.KernelIdeal.Blk

open Cert.KernelIdeal Cert.KernelIdeal.Gen Idealize.ShloMosaic Idealize.ShloMosaic.TcCoe Idealize.ShloMosaic.Tactic Idealize.SL.Sem

theorem hz3 : ∀ a, (![0, 0, 0] : Fin 3 → Nat) a = 0 := by decide
theorem hz2' : ∀ a, (![0, 0] : Fin 2 → Nat) a = 0 := by decide

theorem readCov_whole {κ : Kind} {sp : Space} {s : Shape} {e : EltTy} (v : View sig κ sp s e) (w : s.Idx → Elt Ideal e) (L : List (View.Piece (Elt Ideal) s e))
    (r : Rect s) : v.readCov (⟨Rect.whole s, w⟩ :: L) r.toLoadRect = View.ld w r :=
  View.readCov_fill v (off := fun _ => 0) _ w L r fun _ => rfl

/-- What the first step reads: the weights as copied in, and zeros for what is carried. -/
@[reducible] def ins0 (x0 : IV S256x1024 .f32) (x1 : IV S256x1024 .f32) (x2 : IV S256x5632 .bf16) (x3 x4 x5 : IV S256x2816 .bf16) (x6 : IV S1x1024 .f32) (x7 : IV S3x5632 .f32)
    (up : IV S4x1024x1408 .bf16) (down : IV S2816x1024 .bf16) : Ins :=
  ⟨x0, x1, x2, x3, x4, x5, x6, x7, up, down, k0_pay3 (F := Ideal), k0_pay4 (F := Ideal), k0_pay5 (F := Ideal), k0_pay6 (F := Ideal)⟩

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S1x1024 .f32) (harg7 : arg7.IsWhole) (arg8 : Memref sig .tc .vmem S3x5632 .f32) (harg8 : arg8.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S1x1024 .f32) (harg16 : arg16.IsWhole) (arg17 : Memref sig .tc .vmem S4x1024x1408 .bf16) (harg17 : arg17.IsWhole) (arg18 : Memref sig .tc .vmem S2816x1024 .bf16) (harg18 : arg18.IsWhole) (arg19 : Memref sig .tc .vmem S4x8x1408 .f32) (harg19 : arg19.IsWhole) (hc0 : cond0_0 i) (hc1 : cond0_1 i) (x0 : Vec Ideal S256x1024 .f32) (x1 : Vec Ideal S256x1024 .f32) (x2 : Vec Ideal S256x5632 .bf16) (x3 : Vec Ideal S256x2816 .bf16) (x4 : Vec Ideal S256x2816 .bf16) (x5 : Vec Ideal S256x2816 .bf16) (x6 : Vec Ideal S1x1024 .f32) (x7 : Vec Ideal S3x5632 .f32) (fh0 : HbBuf0 (F := Ideal) c hbM0_0) (fh1 : HbBuf0 (F := Ideal) c hbM0_1)

set_option maxHeartbeats 4000000 in
theorem runA_8 :
    (kernelRun0_A c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1).1 = list8 (ins0 x0 x1 x2 x3 x4 x5 x6 x7 (View.read (Elt Ideal) (View.whole main_v61) fh0) (View.read (Elt Ideal) (View.whole main_v64) fh1)) := by
  unfold kernelRun0_A list8
  dsimp only
  sl_unfold_words
  simp (config := {decide := true}) only [↓View.readCov_skip, ↓View.readCov_fill, ↓readCov_whole, ReadAs.apply_same, View.readAt_eq_ld, harg1.read_unread,harg2.read_unread,harg3.read_unread,harg4.read_unread,harg5.read_unread,harg6.read_unread,harg7.read_unread,harg8.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3, List.cons_append, List.nil_append]

set_option maxHeartbeats 4000000 in
theorem runA_9 :
    (kernelRun0_A c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1).2.1 = list9 (ins0 x0 x1 x2 x3 x4 x5 x6 x7 (View.read (Elt Ideal) (View.whole main_v61) fh0) (View.read (Elt Ideal) (View.whole main_v64) fh1)) := by
  unfold kernelRun0_A list9
  dsimp only
  sl_unfold_words
  simp (config := {decide := true}) only [↓View.readCov_skip, ↓View.readCov_fill, ↓readCov_whole, ReadAs.apply_same, View.readAt_eq_ld, harg1.read_unread,harg2.read_unread,harg3.read_unread,harg4.read_unread,harg5.read_unread,harg6.read_unread,harg7.read_unread,harg8.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3, List.cons_append, List.nil_append]

set_option maxHeartbeats 4000000 in
theorem runA_10 :
    (kernelRun0_A c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1).2.2.1 = list10 (ins0 x0 x1 x2 x3 x4 x5 x6 x7 (View.read (Elt Ideal) (View.whole main_v61) fh0) (View.read (Elt Ideal) (View.whole main_v64) fh1)) := by
  unfold kernelRun0_A list10
  dsimp only
  sl_unfold_words
  simp (config := {decide := true}) only [↓View.readCov_skip, ↓View.readCov_fill, ↓readCov_whole, ReadAs.apply_same, View.readAt_eq_ld, harg1.read_unread,harg2.read_unread,harg3.read_unread,harg4.read_unread,harg5.read_unread,harg6.read_unread,harg7.read_unread,harg8.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3, List.cons_append, List.nil_append]

set_option maxHeartbeats 4000000 in
theorem runA_11 :
    (kernelRun0_A c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1).2.2.2.1 = list11 (ins0 x0 x1 x2 x3 x4 x5 x6 x7 (View.read (Elt Ideal) (View.whole main_v61) fh0) (View.read (Elt Ideal) (View.whole main_v64) fh1)) ++ [⟨Rect.unit ![0, 0] ![3, 5632] inb_S3x5632_S3x5632_0_0, k0_pay4 (F := Ideal)⟩] := by
  unfold kernelRun0_A list11
  dsimp only
  sl_unfold_words
  simp (config := {decide := true}) only [↓View.readCov_skip, ↓View.readCov_fill, ↓readCov_whole, ReadAs.apply_same, View.readAt_eq_ld, harg1.read_unread,harg2.read_unread,harg3.read_unread,harg4.read_unread,harg5.read_unread,harg6.read_unread,harg7.read_unread,harg8.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3, List.cons_append, List.nil_append]

set_option maxHeartbeats 4000000 in
theorem runA_12 :
    (kernelRun0_A c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1).2.2.2.2.1 = list12 (ins0 x0 x1 x2 x3 x4 x5 x6 x7 (View.read (Elt Ideal) (View.whole main_v61) fh0) (View.read (Elt Ideal) (View.whole main_v64) fh1)) ++ [⟨Rect.unit ![0, 0] ![1, 5632] inb_S1x5632_S1x5632_0_0, k0_pay5 (F := Ideal)⟩] := by
  unfold kernelRun0_A list12
  dsimp only
  sl_unfold_words
  simp (config := {decide := true}) only [↓View.readCov_skip, ↓View.readCov_fill, ↓readCov_whole, ReadAs.apply_same, View.readAt_eq_ld, harg1.read_unread,harg2.read_unread,harg3.read_unread,harg4.read_unread,harg5.read_unread,harg6.read_unread,harg7.read_unread,harg8.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3, List.cons_append, List.nil_append]

set_option maxHeartbeats 4000000 in
theorem runA_13 :
    (kernelRun0_A c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1).2.2.2.2.2.1 = list13 (ins0 x0 x1 x2 x3 x4 x5 x6 x7 (View.read (Elt Ideal) (View.whole main_v61) fh0) (View.read (Elt Ideal) (View.whole main_v64) fh1)) ++ [⟨Rect.unit ![0, 0] ![1, 1024] inb_S1x1024_S1x1024_0_0, k0_pay6 (F := Ideal)⟩] := by
  unfold kernelRun0_A list13
  dsimp only
  sl_unfold_words
  simp (config := {decide := true}) only [↓View.readCov_skip, ↓View.readCov_fill, ↓readCov_whole, ReadAs.apply_same, View.readAt_eq_ld, harg1.read_unread,harg2.read_unread,harg3.read_unread,harg4.read_unread,harg5.read_unread,harg6.read_unread,harg7.read_unread,harg8.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3, List.cons_append, List.nil_append]

set_option maxHeartbeats 4000000 in
theorem runA_C :
    (kernelRun0_A c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1).2.2.2.2.2.2.2.2.1 = listC (ins0 x0 x1 x2 x3 x4 x5 x6 x7 (View.read (Elt Ideal) (View.whole main_v61) fh0) (View.read (Elt Ideal) (View.whole main_v64) fh1)) ++ [⟨Rect.unit ![0, 0, 0] ![4, 8, 1408] inb_S4x8x1408_S4x8x1408_0_0_0, k0_pay3 (F := Ideal)⟩] := by
  unfold kernelRun0_A listC
  dsimp only
  sl_unfold_words
  simp (config := {decide := true}) only [↓View.readCov_skip, ↓View.readCov_fill, ↓readCov_whole, ReadAs.apply_same, View.readAt_eq_ld, harg1.read_unread,harg2.read_unread,harg3.read_unread,harg4.read_unread,harg5.read_unread,harg6.read_unread,harg7.read_unread,harg8.read_unread, View.ld_unit_zero (S := S256x1024) hz2, View.ld_unit_zero (S := S1x1024) hz2,
    pay17_eq, pay18_eq, pay19_eq, pay20_eq, pay21_eq, pay22_eq, pay23_eq, pay24_eq, pay25_eq, pay26_eq, pay27_eq, pay33_eq, pay34_eq, pay38_eq, pay39_eq, pay40_eq, pay41_eq, pay43_eq, pay44_eq, pay45_eq, pay46_eq, pay47_eq, pay50_eq, pay51_eq, pay52_eq, pay53_eq, pay54_eq, pay57_eq, pay58_eq, pay59_eq, pay60_eq, pay61_eq, pay62_eq, pay65_eq, pay66_eq, pay67_eq,
    dcB, beB, upB, hhB, cw0B, cw1B, cw2B, aw0B, aw1B, aw2B, abB, s1B, s2B, dhhB, dxB, dx3, List.cons_append, List.nil_append]

end

end Cert.KernelIdeal.Blk

end
-- ==== Proof.Ffn.Sem.lean ====
/- One step of the grid, read at an index: what it leaves in each output block, over the extended reals. -/
module

public import proofs.«01_k».proof.Proof.Ffn.Step
public import Idealize.ShloMosaic.Lib.Pipeline.ReadBack
public import Idealize.ShloMosaic.Lib.Pipeline.ValueKit.Tiles

@[expose] public section

set_option maxRecDepth 16384

noncomputable section

namespace Cert.KernelIdeal.Blk

open Cert.KernelIdeal Cert.KernelIdeal.Gen Idealize.ShloMosaic Idealize.ShloMosaic.ValueIdx Idealize.SL.Sem

/-! ## Columns by block -/

/-- Column `q` of column block `b`. -/
def col (b : Fin 4) (q : Fin 1408) : Fin 5632 := ⟨1408 * b.val + q.val, by omega⟩

/-- The column block of a column. -/
def cblk (q : Fin 5632) : Fin 4 := ⟨q.val / 1408, by omega⟩

/-- The place of a column in its block. -/
def coff (q : Fin 5632) : Fin 1408 := ⟨q.val % 1408, by omega⟩

theorem cblk_col (b : Fin 4) (q : Fin 1408) : cblk (col b q) = b := Fin.ext (by simp [cblk, col]; try omega)
theorem coff_col (b : Fin 4) (q : Fin 1408) : coff (col b q) = q := Fin.ext (by simp [coff, col]; try omega)
theorem col_eta (q : Fin 5632) : col (cblk q) (coff q) = q := Fin.ext (by simp [cblk, coff, col]; omega)

/-- A sum over the columns, by block. -/
theorem sum_col (f : Fin 5632 → EReal) : ∑ q, f q = ∑ b : Fin 4, ∑ q : Fin 1408, f (col b q) := by
  rw [← Finset.sum_product', Finset.univ_product_univ]
  refine Finset.sum_bij' (fun q _ => (cblk q, coff q)) (fun p _ => col p.1 p.2) ?_ ?_ ?_ ?_ ?_
  · intros; exact Finset.mem_univ _
  · intros; exact Finset.mem_univ _
  · intro q _; exact col_eta q
  · intro p _; exact Prod.ext (cblk_col _ _) (coff_col _ _)
  · intro q _; rw [col_eta]

/-! ## Loads of rectangles -/

theorem ld2 {m n a b : ℕ} {e : EltTy} (X : IV (⟨2, ![m, n]⟩ : Shape) e) (o p : ℕ)
    (inb : ∀ d, (![o, p] : Fin 2 → ℕ) d + (![a, b] : Fin 2 → ℕ) d ≤ (⟨2, ![m, n]⟩ : Shape).size d) (r : Fin a) (q : Fin b)
    (hr : o + r.val < m) (hq : p + q.val < n) :
    View.ld X (Rect.unit (s := (⟨2, ![m, n]⟩ : Shape)) ![o, p] ![a, b] inb) (ix2 r q) = X (ix2 ⟨o + r.val, hr⟩ ⟨p + q.val, hq⟩) :=
  View.ld_unit_apply_of X _ _ inb (ix2 r q) _ fun d => by
    match d with
    | ⟨0, _⟩ => rfl
    | ⟨1, _⟩ => rfl

theorem ld3 {l m n a b c : ℕ} {e : EltTy} (X : IV (⟨3, ![l, m, n]⟩ : Shape) e) (o p s : ℕ)
    (inb : ∀ d, (![o, p, s] : Fin 3 → ℕ) d + (![a, b, c] : Fin 3 → ℕ) d ≤ (⟨3, ![l, m, n]⟩ : Shape).size d) (t : Fin a) (r : Fin b) (q : Fin c)
    (ht : o + t.val < l) (hr : p + r.val < m) (hq : s + q.val < n) :
    View.ld X (Rect.unit (s := (⟨3, ![l, m, n]⟩ : Shape)) ![o, p, s] ![a, b, c] inb) (ix3 t r q)
      = X (ix3 ⟨o + t.val, ht⟩ ⟨p + r.val, hr⟩ ⟨s + q.val, hq⟩) :=
  View.ld_unit_apply_of X _ _ inb (ix3 t r q) _ fun d => by
    match d with
    | ⟨0, _⟩ => rfl
    | ⟨1, _⟩ => rfl
    | ⟨2, _⟩ => rfl

/-- A stored rectangle that is a block of a function of the two coordinates. -/
theorem piece2 {m n a b : ℕ} {e : EltTy} (g : Fin m → Fin n → Elt Ideal e) (o p : ℕ)
    (inb : ∀ d, (![o, p] : Fin 2 → ℕ) d + (![a, b] : Fin 2 → ℕ) d ≤ (⟨2, ![m, n]⟩ : Shape).size d)
    (w : IV (⟨2, ![a, b]⟩ : Shape) e)
    (h : ∀ (r : Fin a) (q : Fin b) (hr : o + r.val < m) (hq : p + q.val < n), w (ix2 r q) = g ⟨o + r.val, hr⟩ ⟨p + q.val, hq⟩)
    (x : (⟨2, ![a, b]⟩ : Shape).Idx) :
    w x = (fun y : (⟨2, ![m, n]⟩ : Shape).Idx => g (y 0) (y 1)) ((Rect.unit (s := (⟨2, ![m, n]⟩ : Shape)) ![o, p] ![a, b] inb).emb x) := by
  have h0 := inb 0
  have h1 := inb 1
  have e0 : (x 0).val < a := (x 0).isLt
  have e1 : (x 1).val < b := (x 1).isLt
  have hr : o + (x 0).val < m := lt_of_lt_of_le (Nat.add_lt_add_left e0 o) h0
  have hq : p + (x 1).val < n := lt_of_lt_of_le (Nat.add_lt_add_left e1 p) h1
  have hx : w x = g ⟨o + (x 0).val, hr⟩ ⟨p + (x 1).val, hq⟩ := (congrArg w (eq_ix2 x)).trans (h (x 0) (x 1) hr hq)
  rw [hx]
  have a0 := Rect.idx_unit_val (s := (⟨2, ![m, n]⟩ : Shape)) ![o, p] ![a, b] inb x 0
  have a1 := Rect.idx_unit_val (s := (⟨2, ![m, n]⟩ : Shape)) ![o, p] ![a, b] inb x 1
  exact congrArg₂ g (Fin.ext a0.symm) (Fin.ext a1.symm)

theorem piece3 {l m n a b c : ℕ} {e : EltTy} (g : Fin l → Fin m → Fin n → Elt Ideal e) (o p s : ℕ)
    (inb : ∀ d, (![o, p, s] : Fin 3 → ℕ) d + (![a, b, c] : Fin 3 → ℕ) d ≤ (⟨3, ![l, m, n]⟩ : Shape).size d)
    (w : IV (⟨3, ![a, b, c]⟩ : Shape) e)
    (h : ∀ (t : Fin a) (r : Fin b) (q : Fin c) (ht : o + t.val < l) (hr : p + r.val < m) (hq : s + q.val < n),
      w (ix3 t r q) = g ⟨o + t.val, ht⟩ ⟨p + r.val, hr⟩ ⟨s + q.val, hq⟩)
    (x : (⟨3, ![a, b, c]⟩ : Shape).Idx) :
    w x = (fun y : (⟨3, ![l, m, n]⟩ : Shape).Idx => g (y 0) (y 1) (y 2))
      ((Rect.unit (s := (⟨3, ![l, m, n]⟩ : Shape)) ![o, p, s] ![a, b, c] inb).emb x) := by
  have ht : o + (x 0).val < l := lt_of_lt_of_le (Nat.add_lt_add_left (x 0).isLt o) (inb 0)
  have hr : p + (x 1).val < m := lt_of_lt_of_le (Nat.add_lt_add_left (x 1).isLt p) (inb 1)
  have hq : s + (x 2).val < n := lt_of_lt_of_le (Nat.add_lt_add_left (x 2).isLt s) (inb 2)
  have hx : w x = g ⟨o + (x 0).val, ht⟩ ⟨p + (x 1).val, hr⟩ ⟨s + (x 2).val, hq⟩ := by
    refine Eq.trans (congrArg w ?_) (h (x 0) (x 1) (x 2) ht hr hq)
    exact funext fun d => by
      match d with
      | ⟨0, _⟩ => rfl
      | ⟨1, _⟩ => rfl
      | ⟨2, _⟩ => rfl
  rw [hx]
  have a0 := Rect.idx_unit_val (s := (⟨3, ![l, m, n]⟩ : Shape)) ![o, p, s] ![a, b, c] inb x 0
  have a1 := Rect.idx_unit_val (s := (⟨3, ![l, m, n]⟩ : Shape)) ![o, p, s] ![a, b, c] inb x 1
  have a2 := Rect.idx_unit_val (s := (⟨3, ![l, m, n]⟩ : Shape)) ![o, p, s] ![a, b, c] inb x 2
  have e0 : (⟨o + (x 0).val, ht⟩ : Fin l) = (Rect.unit (s := (⟨3, ![l, m, n]⟩ : Shape)) ![o, p, s] ![a, b, c] inb).emb x 0 := Fin.ext a0.symm
  have e1 : (⟨p + (x 1).val, hr⟩ : Fin m) = (Rect.unit (s := (⟨3, ![l, m, n]⟩ : Shape)) ![o, p, s] ![a, b, c] inb).emb x 1 := Fin.ext a1.symm
  have e2 : (⟨s + (x 2).val, hq⟩ : Fin n) = (Rect.unit (s := (⟨3, ![l, m, n]⟩ : Shape)) ![o, p, s] ![a, b, c] inb).emb x 2 := Fin.ext a2.symm
  rw [e0, e1, e2]

/-! ## What a step computes -/

variable (z : Ins)

/-- The derivative at the convolution: the product with `w_down`'s row, then the gate's derivative. -/
def dc (r : Fin 256) (q : Fin 5632) : EReal :=
  if h : q.val < 2816 then
    (∑ k : Fin 1024, z.dout (ix2 r k) * z.down (ix2 ⟨q.val, h⟩ k)) * z.u (ix2 r ⟨q.val, h⟩) * z.dsil (ix2 r ⟨q.val, h⟩)
  else (∑ k : Fin 1024, z.dout (ix2 r k) * z.down (ix2 ⟨q.val - 2816, by omega⟩ k)) * z.sil (ix2 r ⟨q.val - 2816, by omega⟩)

/-- The same with the carried rows below it. -/
def ex (r : ℕ) (h : r < 264) (q : Fin 5632) : EReal :=
  if h' : r < 256 then dc z ⟨r, h'⟩ q else z.below (ix3 (cblk q) ⟨r - 256, by omega⟩ (coff q))

/-- The gradient at the up product. -/
def dhh (r : Fin 256) (q : Fin 5632) : EReal :=
  z.cw (ix2 2 q) * dc z r q + z.cw (ix2 1 q) * ex z (r.val + 1) (by omega) q + z.cw (ix2 0 q) * ex z (r.val + 2) (by omega) q

/-- The gradient at the normed rows. -/
def dx (r : Fin 256) (k : Fin 1024) : EReal := ∑ q : Fin 5632, dhh z r q * z.up (ix3 (cblk q) k (coff q))

/-- The gradient at the residual stream. -/
def dh (r : Fin 256) (k : Fin 1024) : EReal :=
  z.dout (ix2 r k) + rs z.h r * (dx z r k * z.n (ix2 0 k)
    - z.h (ix2 r k) * rs z.h r * Ideal.div (∑ j : Fin 1024, dx z r j * z.n (ix2 0 j) * (z.h (ix2 r j) * rs z.h r)) (Ideal.ofBits .f32 0x44800000#32))

/-- The convolution's weight gradient, added to its accumulator. -/
def dcw (i : Fin 3) (q : Fin 5632) : EReal :=
  z.aw (ix2 i q) + ∑ r : Fin 256, ex z (r.val + (2 - i.val)) (by omega) q * z.hh (ix2 r q)

/-- The convolution's bias gradient, added to its accumulator. -/
def dcb (q : Fin 5632) : EReal := z.ab (ix2 0 q) + ∑ r : Fin 256, dc z r q

/-- The norm's weight gradient, added to its accumulator. -/
def dn (k : Fin 1024) : EReal := z.an (ix2 0 k) + ∑ r : Fin 256, dx z r k * (z.h (ix2 r k) * rs z.h r)

/-! ## The terms of the body are these -/

theorem dcB_apply (b : Fin 4) (r : Fin 256) (q : Fin 1408) : dcB z b (ix2 r q) = dc z r (col b q) := by
  match b with
  | 0 =>
    refine (dcU_apply _ _ _ _ r q).trans ?_
    unfold dc
    rw [dif_pos (show (col 0 q).val < 2816 by simp [col]; omega)]
    refine congrArg₂ (· * ·) (congrArg₂ (· * ·) (Finset.sum_congr rfl fun k _ => congrArg (_ * ·) ?_) ?_) ?_
    · exact (ld2 z.down 0 0 _ q k (by omega) (by omega)).trans (congrArg z.down (congrArg₂ ix2 (Fin.ext (by simp [col]; try omega)) (Fin.ext (by simp))))
    · exact (ld2 z.u 0 0 _ r q (by omega) (by omega)).trans (congrArg z.u (congrArg₂ ix2 (Fin.ext (by simp)) (Fin.ext (by simp [col]))))
    · exact (ld2 z.dsil 0 0 _ r q (by omega) (by omega)).trans (congrArg z.dsil (congrArg₂ ix2 (Fin.ext (by simp)) (Fin.ext (by simp [col]))))
  | 1 =>
    refine (dcU_apply _ _ _ _ r q).trans ?_
    unfold dc
    rw [dif_pos (show (col 1 q).val < 2816 by simp [col]; omega)]
    refine congrArg₂ (· * ·) (congrArg₂ (· * ·) (Finset.sum_congr rfl fun k _ => congrArg (_ * ·) ?_) ?_) ?_
    · exact (ld2 z.down 1408 0 _ q k (by omega) (by omega)).trans (congrArg z.down (congrArg₂ ix2 (Fin.ext (by simp [col]; try omega)) (Fin.ext (by simp))))
    · exact (ld2 z.u 0 1408 _ r q (by omega) (by omega)).trans (congrArg z.u (congrArg₂ ix2 (Fin.ext (by simp)) (Fin.ext (by simp [col]))))
    · exact (ld2 z.dsil 0 1408 _ r q (by omega) (by omega)).trans (congrArg z.dsil (congrArg₂ ix2 (Fin.ext (by simp)) (Fin.ext (by simp [col]))))
  | 2 =>
    refine (dcS_apply _ _ _ r q).trans ?_
    unfold dc
    rw [dif_neg (show ¬ (col 2 q).val < 2816 by simp [col]; try omega)]
    refine congrArg₂ (· * ·) (Finset.sum_congr rfl fun k _ => congrArg (_ * ·) ?_) ?_
    · exact (ld2 z.down 0 0 _ q k (by omega) (by omega)).trans (congrArg z.down (congrArg₂ ix2 (Fin.ext (by simp [col]; try omega)) (Fin.ext (by simp))))
    · exact (ld2 z.sil 0 0 _ r q (by omega) (by omega)).trans (congrArg z.sil (congrArg₂ ix2 (Fin.ext (by simp)) (Fin.ext (by simp [col]; try omega))))
  | 3 =>
    refine (dcS_apply _ _ _ r q).trans ?_
    unfold dc
    rw [dif_neg (show ¬ (col 3 q).val < 2816 by simp [col]; try omega)]
    refine congrArg₂ (· * ·) (Finset.sum_congr rfl fun k _ => congrArg (_ * ·) ?_) ?_
    · exact (ld2 z.down 1408 0 _ q k (by omega) (by omega)).trans (congrArg z.down (congrArg₂ ix2 (Fin.ext (by simp [col]; try omega)) (Fin.ext (by simp))))
    · exact (ld2 z.sil 0 1408 _ r q (by omega) (by omega)).trans (congrArg z.sil (congrArg₂ ix2 (Fin.ext (by simp)) (Fin.ext (by simp [col]; try omega))))

theorem beB_apply (b : Fin 4) (t : Fin 1) (r : Fin 8) (q : Fin 1408) : beB z b (ix3 t r q) = z.below (ix3 b r q) := by
  match b with
  | 0 => exact (ld3 z.below 0 0 0 _ t r q (by omega) (by omega) (by omega)).trans (congrArg z.below (by
      rw [show (⟨0 + t.val, by omega⟩ : Fin 4) = 0 from Fin.ext (by have := t.isLt; simp; try omega)]
      congr 1 <;> exact Fin.ext (Nat.zero_add _)))
  | 1 => exact (ld3 z.below 1 0 0 _ t r q (by omega) (by omega) (by omega)).trans (congrArg z.below (by
      rw [show (⟨1 + t.val, by omega⟩ : Fin 4) = 1 from Fin.ext (by have := t.isLt; simp; try omega)]
      congr 1 <;> exact Fin.ext (Nat.zero_add _)))
  | 2 => exact (ld3 z.below 2 0 0 _ t r q (by omega) (by omega) (by omega)).trans (congrArg z.below (by
      rw [show (⟨2 + t.val, by omega⟩ : Fin 4) = 2 from Fin.ext (by have := t.isLt; simp; try omega)]
      congr 1 <;> exact Fin.ext (Nat.zero_add _)))
  | 3 => exact (ld3 z.below 3 0 0 _ t r q (by omega) (by omega) (by omega)).trans (congrArg z.below (by
      rw [show (⟨3 + t.val, by omega⟩ : Fin 4) = 3 from Fin.ext (by have := t.isLt; simp; try omega)]
      congr 1 <;> exact Fin.ext (Nat.zero_add _)))

theorem upB_apply (b : Fin 4) (t : Fin 1) (k : Fin 1024) (q : Fin 1408) : upB z b (ix3 t k q) = z.up (ix3 b k q) := by
  match b with
  | 0 => exact (ld3 z.up 0 0 0 _ t k q (by omega) (by omega) (by omega)).trans (congrArg z.up (by
      rw [show (⟨0 + t.val, by omega⟩ : Fin 4) = 0 from Fin.ext (by have := t.isLt; simp; try omega)]
      congr 1 <;> exact Fin.ext (Nat.zero_add _)))
  | 1 => exact (ld3 z.up 1 0 0 _ t k q (by omega) (by omega) (by omega)).trans (congrArg z.up (by
      rw [show (⟨1 + t.val, by omega⟩ : Fin 4) = 1 from Fin.ext (by have := t.isLt; simp; try omega)]
      congr 1 <;> exact Fin.ext (Nat.zero_add _)))
  | 2 => exact (ld3 z.up 2 0 0 _ t k q (by omega) (by omega) (by omega)).trans (congrArg z.up (by
      rw [show (⟨2 + t.val, by omega⟩ : Fin 4) = 2 from Fin.ext (by have := t.isLt; simp; try omega)]
      congr 1 <;> exact Fin.ext (Nat.zero_add _)))
  | 3 => exact (ld3 z.up 3 0 0 _ t k q (by omega) (by omega) (by omega)).trans (congrArg z.up (by
      rw [show (⟨3 + t.val, by omega⟩ : Fin 4) = 3 from Fin.ext (by have := t.isLt; simp; try omega)]
      congr 1 <;> exact Fin.ext (Nat.zero_add _)))

theorem hhB_apply (b : Fin 4) (r : Fin 256) (q : Fin 1408) : hhB z b (ix2 r q) = z.hh (ix2 r (col b q)) := by
  match b with
  | 0 =>
    refine (sc_self (View.ld z.hh (Rect.unit ![0, 0] ![256, 1408] inb_S256x5632_S256x1408_0_0)) shapeCasts_S256x1408_S256x1408 (ix2 r q)).trans ?_
    exact (ld2 z.hh 0 0 _ r q (by omega) (by omega)).trans (congrArg z.hh (congrArg₂ ix2 (Fin.ext (Nat.zero_add _)) (Fin.ext (by simp [col]))))
  | 1 =>
    refine (sc_self (View.ld z.hh (Rect.unit ![0, 1408] ![256, 1408] inb_S256x5632_S256x1408_0_1408)) shapeCasts_S256x1408_S256x1408 (ix2 r q)).trans ?_
    exact (ld2 z.hh 0 1408 _ r q (by omega) (by omega)).trans (congrArg z.hh (congrArg₂ ix2 (Fin.ext (Nat.zero_add _)) (Fin.ext (by simp [col]))))
  | 2 =>
    refine (sc_self (View.ld z.hh (Rect.unit ![0, 2816] ![256, 1408] inb_S256x5632_S256x1408_0_2816)) shapeCasts_S256x1408_S256x1408 (ix2 r q)).trans ?_
    exact (ld2 z.hh 0 2816 _ r q (by omega) (by omega)).trans (congrArg z.hh (congrArg₂ ix2 (Fin.ext (Nat.zero_add _)) (Fin.ext (by simp [col]))))
  | 3 =>
    refine (sc_self (View.ld z.hh (Rect.unit ![0, 4224] ![256, 1408] inb_S256x5632_S256x1408_0_4224)) shapeCasts_S256x1408_S256x1408 (ix2 r q)).trans ?_
    exact (ld2 z.hh 0 4224 _ r q (by omega) (by omega)).trans (congrArg z.hh (congrArg₂ ix2 (Fin.ext (Nat.zero_add _)) (Fin.ext (by simp [col]))))

theorem cw0B_apply (b : Fin 4) (t : Fin 1) (q : Fin 1408) : cw0B z b (ix2 t q) = z.cw (ix2 0 (col b q)) := by
  match b with
  | 0 => exact (ld2 z.cw 0 0 _ t q (by omega) (by omega)).trans (congrArg z.cw (congrArg₂ ix2 (Fin.ext (by have := t.isLt; simp; try omega)) (Fin.ext (by simp [col]))))
  | 1 => exact (ld2 z.cw 0 1408 _ t q (by omega) (by omega)).trans (congrArg z.cw (congrArg₂ ix2 (Fin.ext (by have := t.isLt; simp; try omega)) (Fin.ext (by simp [col]))))
  | 2 => exact (ld2 z.cw 0 2816 _ t q (by omega) (by omega)).trans (congrArg z.cw (congrArg₂ ix2 (Fin.ext (by have := t.isLt; simp; try omega)) (Fin.ext (by simp [col]))))
  | 3 => exact (ld2 z.cw 0 4224 _ t q (by omega) (by omega)).trans (congrArg z.cw (congrArg₂ ix2 (Fin.ext (by have := t.isLt; simp; try omega)) (Fin.ext (by simp [col]))))

theorem cw1B_apply (b : Fin 4) (t : Fin 1) (q : Fin 1408) : cw1B z b (ix2 t q) = z.cw (ix2 1 (col b q)) := by
  match b with
  | 0 => exact (ld2 z.cw 1 0 _ t q (by omega) (by omega)).trans (congrArg z.cw (congrArg₂ ix2 (Fin.ext (by have := t.isLt; simp; try omega)) (Fin.ext (by simp [col]))))
  | 1 => exact (ld2 z.cw 1 1408 _ t q (by omega) (by omega)).trans (congrArg z.cw (congrArg₂ ix2 (Fin.ext (by have := t.isLt; simp; try omega)) (Fin.ext (by simp [col]))))
  | 2 => exact (ld2 z.cw 1 2816 _ t q (by omega) (by omega)).trans (congrArg z.cw (congrArg₂ ix2 (Fin.ext (by have := t.isLt; simp; try omega)) (Fin.ext (by simp [col]))))
  | 3 => exact (ld2 z.cw 1 4224 _ t q (by omega) (by omega)).trans (congrArg z.cw (congrArg₂ ix2 (Fin.ext (by have := t.isLt; simp; try omega)) (Fin.ext (by simp [col]))))

theorem cw2B_apply (b : Fin 4) (t : Fin 1) (q : Fin 1408) : cw2B z b (ix2 t q) = z.cw (ix2 2 (col b q)) := by
  match b with
  | 0 => exact (ld2 z.cw 2 0 _ t q (by omega) (by omega)).trans (congrArg z.cw (congrArg₂ ix2 (Fin.ext (by have := t.isLt; simp; try omega)) (Fin.ext (by simp [col]))))
  | 1 => exact (ld2 z.cw 2 1408 _ t q (by omega) (by omega)).trans (congrArg z.cw (congrArg₂ ix2 (Fin.ext (by have := t.isLt; simp; try omega)) (Fin.ext (by simp [col]))))
  | 2 => exact (ld2 z.cw 2 2816 _ t q (by omega) (by omega)).trans (congrArg z.cw (congrArg₂ ix2 (Fin.ext (by have := t.isLt; simp; try omega)) (Fin.ext (by simp [col]))))
  | 3 => exact (ld2 z.cw 2 4224 _ t q (by omega) (by omega)).trans (congrArg z.cw (congrArg₂ ix2 (Fin.ext (by have := t.isLt; simp; try omega)) (Fin.ext (by simp [col]))))

theorem aw0B_apply (b : Fin 4) (t : Fin 1) (q : Fin 1408) : aw0B z b (ix2 t q) = z.aw (ix2 0 (col b q)) := by
  match b with
  | 0 => exact (ld2 z.aw 0 0 _ t q (by omega) (by omega)).trans (congrArg z.aw (congrArg₂ ix2 (Fin.ext (by have := t.isLt; simp; try omega)) (Fin.ext (by simp [col]))))
  | 1 => exact (ld2 z.aw 0 1408 _ t q (by omega) (by omega)).trans (congrArg z.aw (congrArg₂ ix2 (Fin.ext (by have := t.isLt; simp; try omega)) (Fin.ext (by simp [col]))))
  | 2 => exact (ld2 z.aw 0 2816 _ t q (by omega) (by omega)).trans (congrArg z.aw (congrArg₂ ix2 (Fin.ext (by have := t.isLt; simp; try omega)) (Fin.ext (by simp [col]))))
  | 3 => exact (ld2 z.aw 0 4224 _ t q (by omega) (by omega)).trans (congrArg z.aw (congrArg₂ ix2 (Fin.ext (by have := t.isLt; simp; try omega)) (Fin.ext (by simp [col]))))

theorem aw1B_apply (b : Fin 4) (t : Fin 1) (q : Fin 1408) : aw1B z b (ix2 t q) = z.aw (ix2 1 (col b q)) := by
  match b with
  | 0 => exact (ld2 z.aw 1 0 _ t q (by omega) (by omega)).trans (congrArg z.aw (congrArg₂ ix2 (Fin.ext (by have := t.isLt; simp; try omega)) (Fin.ext (by simp [col]))))
  | 1 => exact (ld2 z.aw 1 1408 _ t q (by omega) (by omega)).trans (congrArg z.aw (congrArg₂ ix2 (Fin.ext (by have := t.isLt; simp; try omega)) (Fin.ext (by simp [col]))))
  | 2 => exact (ld2 z.aw 1 2816 _ t q (by omega) (by omega)).trans (congrArg z.aw (congrArg₂ ix2 (Fin.ext (by have := t.isLt; simp; try omega)) (Fin.ext (by simp [col]))))
  | 3 => exact (ld2 z.aw 1 4224 _ t q (by omega) (by omega)).trans (congrArg z.aw (congrArg₂ ix2 (Fin.ext (by have := t.isLt; simp; try omega)) (Fin.ext (by simp [col]))))

theorem aw2B_apply (b : Fin 4) (t : Fin 1) (q : Fin 1408) : aw2B z b (ix2 t q) = z.aw (ix2 2 (col b q)) := by
  match b with
  | 0 => exact (ld2 z.aw 2 0 _ t q (by omega) (by omega)).trans (congrArg z.aw (congrArg₂ ix2 (Fin.ext (by have := t.isLt; simp; try omega)) (Fin.ext (by simp [col]))))
  | 1 => exact (ld2 z.aw 2 1408 _ t q (by omega) (by omega)).trans (congrArg z.aw (congrArg₂ ix2 (Fin.ext (by have := t.isLt; simp; try omega)) (Fin.ext (by simp [col]))))
  | 2 => exact (ld2 z.aw 2 2816 _ t q (by omega) (by omega)).trans (congrArg z.aw (congrArg₂ ix2 (Fin.ext (by have := t.isLt; simp; try omega)) (Fin.ext (by simp [col]))))
  | 3 => exact (ld2 z.aw 2 4224 _ t q (by omega) (by omega)).trans (congrArg z.aw (congrArg₂ ix2 (Fin.ext (by have := t.isLt; simp; try omega)) (Fin.ext (by simp [col]))))

theorem abB_apply (b : Fin 4) (t : Fin 1) (q : Fin 1408) : abB z b (ix2 t q) = z.ab (ix2 0 (col b q)) := by
  match b with
  | 0 => exact (ld2 z.ab 0 0 _ t q (by omega) (by omega)).trans (congrArg z.ab (congrArg₂ ix2 (Fin.ext (by have := t.isLt; simp; try omega)) (Fin.ext (by simp [col]))))
  | 1 => exact (ld2 z.ab 0 1408 _ t q (by omega) (by omega)).trans (congrArg z.ab (congrArg₂ ix2 (Fin.ext (by have := t.isLt; simp; try omega)) (Fin.ext (by simp [col]))))
  | 2 => exact (ld2 z.ab 0 2816 _ t q (by omega) (by omega)).trans (congrArg z.ab (congrArg₂ ix2 (Fin.ext (by have := t.isLt; simp; try omega)) (Fin.ext (by simp [col]))))
  | 3 => exact (ld2 z.ab 0 4224 _ t q (by omega) (by omega)).trans (congrArg z.ab (congrArg₂ ix2 (Fin.ext (by have := t.isLt; simp; try omega)) (Fin.ext (by simp [col]))))

theorem ext_eq (b : Fin 4) (r : ℕ) (h : r < 264) (q : Fin 1408) : ext (dcB z b) (beB z b) r h q = ex z r h (col b q) := by
  unfold ext ex
  by_cases h' : r < 256
  · rw [dif_pos h', dif_pos h', dcB_apply]
  · rw [dif_neg h', dif_neg h', beB_apply, cblk_col, coff_col]

theorem s1B_apply (b : Fin 4) (r : Fin 256) (q : Fin 1408) : s1B z b (ix2 r q) = ex z (r.val + 1) (by omega) (col b q) :=
  (shift1_apply _ _ r q).trans (ext_eq z b _ _ q)

theorem s2B_apply (b : Fin 4) (r : Fin 256) (q : Fin 1408) : s2B z b (ix2 r q) = ex z (r.val + 2) (by omega) (col b q) :=
  (shift2_apply _ _ r q).trans (ext_eq z b _ _ q)

theorem dhhB_apply (b : Fin 4) (r : Fin 256) (q : Fin 1408) : dhhB z b (ix2 r q) = dhh z r (col b q) := by
  refine (dhh_apply _ _ _ _ _ _ r q).trans ?_
  rw [dcB_apply, s1B_apply, s2B_apply, cw2B_apply, cw1B_apply, cw0B_apply]
  rfl

theorem dxB_apply (b : Fin 4) (e : IV S256x1024 .f32) (r : Fin 256) (k : Fin 1024) :
    dxB z b e (ix2 r k) = e (ix2 r k) + ∑ q : Fin 1408, dhh z r (col b q) * z.up (ix3 b k q) := by
  refine (dxf_apply _ _ _ _ _ _ _ _ r k).trans ?_
  refine congrArg (e (ix2 r k) + ·) (Finset.sum_congr rfl fun q _ => ?_)
  exact congrArg₂ (· * ·) (dhhB_apply z b r q) (upB_apply z b 0 k q)

theorem dx_eq (r : Fin 256) (k : Fin 1024) : dxB z 3 (dx3 z) (ix2 r k) = dx z r k := by
  unfold dx3
  rw [dxB_apply, dxB_apply, dxB_apply, dxB_apply, zero_apply, zero_add]
  unfold dx
  rw [sum_col, Fin.sum_univ_four]
  simp only [cblk_col, coff_col]
  ac_rfl

/-! ## What the stores leave -/

theorem canon8 (r : Fin 256) (k : Fin 1024) : View.canon (list8 z) (ix2 r k) = dh z r k := by
  unfold list8
  rw [View.canon_unit_zero (S := S256x1024) (funext fun a => by fin_cases a <;> rfl)]
  refine (dh_apply _ _ _ _ _ _ _ _ _ _ _ _ r k).trans ?_
  unfold dh
  rw [rs_apply]
  simp only [xh_apply]
  have hx : ∀ j, k0_pay37 (dcB z 3) (dx3 z) (s1B z 3) (s2B z 3) (cw2B z 3) (cw1B z 3) (cw0B z 3) (upB z 3) (ix2 r j) = dx z r j := fun j => dx_eq z r j
  simp only [hx]

theorem canon9 (L : List (View.Piece (Elt Ideal) S256x5632 .bf16)) (r : Fin 256) (q : Fin 5632) :
    View.canon (list9 z ++ L) (ix2 r q) = dhh z r q := by
  refine View.canon_append_of_piecesOf (fun y : S256x5632.Idx => dhh z (y 0) (y 1)) L (list9 z) ?_ (ix2 r q) ?_
  · refine ⟨?_, ?_, ?_, ?_, trivial⟩
    · exact piece2 (m := 256) (n := 5632) (a := 256) (b := 1408) (e := .bf16) (dhh z) 0 4224 inb_S256x5632_S256x1408_0_4224 (dhhB z 3) fun r q hr hq => (dhhB_apply z 3 r q).trans (congrArg₂ (dhh z) (Fin.ext (Nat.zero_add _).symm) (Fin.ext (by simp [col])))
    · exact piece2 (m := 256) (n := 5632) (a := 256) (b := 1408) (e := .bf16) (dhh z) 0 1408 inb_S256x5632_S256x1408_0_1408 (dhhB z 1) fun r q hr hq => (dhhB_apply z 1 r q).trans (congrArg₂ (dhh z) (Fin.ext (Nat.zero_add _).symm) (Fin.ext (by simp [col])))
    · exact piece2 (m := 256) (n := 5632) (a := 256) (b := 1408) (e := .bf16) (dhh z) 0 2816 inb_S256x5632_S256x1408_0_2816 (dhhB z 2) fun r q hr hq => (dhhB_apply z 2 r q).trans (congrArg₂ (dhh z) (Fin.ext (Nat.zero_add _).symm) (Fin.ext (by simp [col])))
    · exact piece2 (m := 256) (n := 5632) (a := 256) (b := 1408) (e := .bf16) (dhh z) 0 0 inb_S256x5632_S256x1408_0_0 (dhhB z 0) fun r q hr hq => (dhhB_apply z 0 r q).trans (congrArg₂ (dhh z) (Fin.ext (Nat.zero_add _).symm) (Fin.ext (by simp [col])))
  · obtain ⟨b, q, rfl⟩ : ∃ b q', q = col b q' := ⟨_, _, (col_eta q).symm⟩
    match b with
    | 0 => exact ⟨(list9 z)[3]'(by show 3 < 4; decide), List.getElem_mem _, (Rect.mem_set_unit (inb := inb_S256x5632_S256x1408_0_0)).mpr fun a => by
        match a with
        | ⟨0, _⟩ => exact ⟨Nat.zero_le _, by simpa using r.isLt⟩
        | ⟨1, _⟩ => exact ⟨by show 0 ≤ 1408 * 0 + q.val; omega, by show 1408 * 0 + q.val < 0 + 1408; omega⟩⟩
    | 1 => exact ⟨(list9 z)[1]'(by show 1 < 4; decide), List.getElem_mem _, (Rect.mem_set_unit (inb := inb_S256x5632_S256x1408_0_1408)).mpr fun a => by
        match a with
        | ⟨0, _⟩ => exact ⟨Nat.zero_le _, by simpa using r.isLt⟩
        | ⟨1, _⟩ => exact ⟨by show 1408 ≤ 1408 * 1 + q.val; omega, by show 1408 * 1 + q.val < 1408 + 1408; omega⟩⟩
    | 2 => exact ⟨(list9 z)[2]'(by show 2 < 4; decide), List.getElem_mem _, (Rect.mem_set_unit (inb := inb_S256x5632_S256x1408_0_2816)).mpr fun a => by
        match a with
        | ⟨0, _⟩ => exact ⟨Nat.zero_le _, by simpa using r.isLt⟩
        | ⟨1, _⟩ => exact ⟨by show 2816 ≤ 1408 * 2 + q.val; omega, by show 1408 * 2 + q.val < 2816 + 1408; omega⟩⟩
    | 3 => exact ⟨(list9 z)[0]'(by show 0 < 4; decide), List.getElem_mem _, (Rect.mem_set_unit (inb := inb_S256x5632_S256x1408_0_4224)).mpr fun a => by
        match a with
        | ⟨0, _⟩ => exact ⟨Nat.zero_le _, by simpa using r.isLt⟩
        | ⟨1, _⟩ => exact ⟨by show 4224 ≤ 1408 * 3 + q.val; omega, by show 1408 * 3 + q.val < 4224 + 1408; omega⟩⟩

theorem canon10 (r : Fin 256) (k : Fin 1024) : View.canon (list10 z) (ix2 r k) = z.h (ix2 r k) * rs z.h r * z.n (ix2 0 k) := by
  unfold list10
  rw [View.canon_unit_zero (S := S256x1024) (funext fun a => by fin_cases a <;> rfl)]
  exact xf_apply _ _ r k

theorem pcons {s : Shape} {e : EltTy} {G : s.Idx → Elt Ideal e} {p : View.Piece (Elt Ideal) s e} {L : List (View.Piece (Elt Ideal) s e)}
    (h : ∀ x : p.1.shape.Idx, p.2 x = G (p.1.emb x)) (hL : View.PiecesOf G L) : View.PiecesOf G (p :: L) := ⟨h, hL⟩

theorem dcw_tile0 (b : Fin 4) (t : Fin 1) (q : Fin 1408) (i : Fin 3) (q' : Fin 5632) (hi : i = 0) (hq : q' = col b q) :
    k0_pay35 (s2B z b) (hhB z b) (aw0B z b) (ix2 t q) = dcw z i q' := by
  subst hi hq
  obtain rfl : t = 0 := Subsingleton.elim _ _
  have h : k0_pay35 (s2B z b) (hhB z b) (aw0B z b) (ix2 0 q) = aw0B z b (ix2 0 q) + ∑ r : Fin 256, s2B z b (ix2 r q) * hhB z b (ix2 r q) := by
    unfold k0_pay35
    try dsimp only
    rw [addf_apply, sc_self, colsum]
    simp only [mulf_apply]
  rw [h, aw0B_apply]
  unfold dcw
  refine congrArg (_ + ·) (Finset.sum_congr rfl fun r _ => ?_)
  rw [hhB_apply, s2B_apply]
  rfl

theorem dcw_tile1 (b : Fin 4) (t : Fin 1) (q : Fin 1408) (i : Fin 3) (q' : Fin 5632) (hi : i = 1) (hq : q' = col b q) :
    k0_pay35 (s1B z b) (hhB z b) (aw1B z b) (ix2 t q) = dcw z i q' := by
  subst hi hq
  obtain rfl : t = 0 := Subsingleton.elim _ _
  have h : k0_pay35 (s1B z b) (hhB z b) (aw1B z b) (ix2 0 q) = aw1B z b (ix2 0 q) + ∑ r : Fin 256, s1B z b (ix2 r q) * hhB z b (ix2 r q) := by
    unfold k0_pay35
    try dsimp only
    rw [addf_apply, sc_self, colsum]
    simp only [mulf_apply]
  rw [h, aw1B_apply]
  unfold dcw
  refine congrArg (_ + ·) (Finset.sum_congr rfl fun r _ => ?_)
  rw [hhB_apply, s1B_apply]
  rfl

theorem dcw_tile2 (b : Fin 4) (t : Fin 1) (q : Fin 1408) (i : Fin 3) (q' : Fin 5632) (hi : i = 2) (hq : q' = col b q) :
    k0_pay35 (dcB z b) (hhB z b) (aw2B z b) (ix2 t q) = dcw z i q' := by
  subst hi hq
  obtain rfl : t = 0 := Subsingleton.elim _ _
  have h : k0_pay35 (dcB z b) (hhB z b) (aw2B z b) (ix2 0 q) = aw2B z b (ix2 0 q) + ∑ r : Fin 256, dcB z b (ix2 r q) * hhB z b (ix2 r q) := by
    unfold k0_pay35
    try dsimp only
    rw [addf_apply, sc_self, colsum]
    simp only [mulf_apply]
  rw [h, aw2B_apply]
  unfold dcw
  refine congrArg (_ + ·) (Finset.sum_congr rfl fun r _ => ?_)
  rw [hhB_apply, dcB_apply]
  refine congrArg (· * _) ?_
  unfold ex
  rw [dif_pos (show r.val + (2 - (2 : Fin 3).val) < 256 by have := r.isLt; simp)]
  rfl

set_option maxHeartbeats 4000000 in
theorem canon11 (L : List (View.Piece (Elt Ideal) S3x5632 .f32)) (i : Fin 3) (q : Fin 5632) :
    View.canon (list11 z ++ L) (ix2 i q) = dcw z i q := by
  refine View.canon_append_of_piecesOf (fun y : S3x5632.Idx => dcw z (y 0) (y 1)) L (list11 z) ?_ (ix2 i q) ?_
  · refine pcons ?_ (pcons ?_ (pcons ?_ (pcons ?_ (pcons ?_ (pcons ?_ (pcons ?_ (pcons ?_ (pcons ?_ (pcons ?_ (pcons ?_ (pcons ?_ trivial)))))))))))
    · exact piece2 (m := 3) (n := 5632) (a := 1) (b := 1408) (e := .f32) (dcw z) 2 4224 inb_S3x5632_S1x1408_2_4224 (k0_pay35 (F := Ideal) (dcB z 3) (hhB z 3) (aw2B z 3)) fun t q hr hq => dcw_tile2 z 3 t q ⟨2 + t.val, hr⟩ ⟨4224 + q.val, hq⟩ (Fin.ext (by have := t.isLt; simp; try omega)) (Fin.ext (by simp [col]))
    · exact piece2 (m := 3) (n := 5632) (a := 1) (b := 1408) (e := .f32) (dcw z) 1 4224 inb_S3x5632_S1x1408_1_4224 (k0_pay35 (F := Ideal) (s1B z 3) (hhB z 3) (aw1B z 3)) fun t q hr hq => dcw_tile1 z 3 t q ⟨1 + t.val, hr⟩ ⟨4224 + q.val, hq⟩ (Fin.ext (by have := t.isLt; simp; try omega)) (Fin.ext (by simp [col]))
    · exact piece2 (m := 3) (n := 5632) (a := 1) (b := 1408) (e := .f32) (dcw z) 0 4224 inb_S3x5632_S1x1408_0_4224 (k0_pay35 (F := Ideal) (s2B z 3) (hhB z 3) (aw0B z 3)) fun t q hr hq => dcw_tile0 z 3 t q ⟨0 + t.val, hr⟩ ⟨4224 + q.val, hq⟩ (Fin.ext (by have := t.isLt; simp; try omega)) (Fin.ext (by simp [col]))
    · exact piece2 (m := 3) (n := 5632) (a := 1) (b := 1408) (e := .f32) (dcw z) 2 1408 inb_S3x5632_S1x1408_2_1408 (k0_pay35 (F := Ideal) (dcB z 1) (hhB z 1) (aw2B z 1)) fun t q hr hq => dcw_tile2 z 1 t q ⟨2 + t.val, hr⟩ ⟨1408 + q.val, hq⟩ (Fin.ext (by have := t.isLt; simp; try omega)) (Fin.ext (by simp [col]))
    · exact piece2 (m := 3) (n := 5632) (a := 1) (b := 1408) (e := .f32) (dcw z) 1 1408 inb_S3x5632_S1x1408_1_1408 (k0_pay35 (F := Ideal) (s1B z 1) (hhB z 1) (aw1B z 1)) fun t q hr hq => dcw_tile1 z 1 t q ⟨1 + t.val, hr⟩ ⟨1408 + q.val, hq⟩ (Fin.ext (by have := t.isLt; simp; try omega)) (Fin.ext (by simp [col]))
    · exact piece2 (m := 3) (n := 5632) (a := 1) (b := 1408) (e := .f32) (dcw z) 0 1408 inb_S3x5632_S1x1408_0_1408 (k0_pay35 (F := Ideal) (s2B z 1) (hhB z 1) (aw0B z 1)) fun t q hr hq => dcw_tile0 z 1 t q ⟨0 + t.val, hr⟩ ⟨1408 + q.val, hq⟩ (Fin.ext (by have := t.isLt; simp; try omega)) (Fin.ext (by simp [col]))
    · exact piece2 (m := 3) (n := 5632) (a := 1) (b := 1408) (e := .f32) (dcw z) 2 2816 inb_S3x5632_S1x1408_2_2816 (k0_pay35 (F := Ideal) (dcB z 2) (hhB z 2) (aw2B z 2)) fun t q hr hq => dcw_tile2 z 2 t q ⟨2 + t.val, hr⟩ ⟨2816 + q.val, hq⟩ (Fin.ext (by have := t.isLt; simp; try omega)) (Fin.ext (by simp [col]))
    · exact piece2 (m := 3) (n := 5632) (a := 1) (b := 1408) (e := .f32) (dcw z) 1 2816 inb_S3x5632_S1x1408_1_2816 (k0_pay35 (F := Ideal) (s1B z 2) (hhB z 2) (aw1B z 2)) fun t q hr hq => dcw_tile1 z 2 t q ⟨1 + t.val, hr⟩ ⟨2816 + q.val, hq⟩ (Fin.ext (by have := t.isLt; simp; try omega)) (Fin.ext (by simp [col]))
    · exact piece2 (m := 3) (n := 5632) (a := 1) (b := 1408) (e := .f32) (dcw z) 0 2816 inb_S3x5632_S1x1408_0_2816 (k0_pay35 (F := Ideal) (s2B z 2) (hhB z 2) (aw0B z 2)) fun t q hr hq => dcw_tile0 z 2 t q ⟨0 + t.val, hr⟩ ⟨2816 + q.val, hq⟩ (Fin.ext (by have := t.isLt; simp; try omega)) (Fin.ext (by simp [col]))
    · exact piece2 (m := 3) (n := 5632) (a := 1) (b := 1408) (e := .f32) (dcw z) 2 0 inb_S3x5632_S1x1408_2_0 (k0_pay35 (F := Ideal) (dcB z 0) (hhB z 0) (aw2B z 0)) fun t q hr hq => dcw_tile2 z 0 t q ⟨2 + t.val, hr⟩ ⟨0 + q.val, hq⟩ (Fin.ext (by have := t.isLt; simp; try omega)) (Fin.ext (by simp [col]))
    · exact piece2 (m := 3) (n := 5632) (a := 1) (b := 1408) (e := .f32) (dcw z) 1 0 inb_S3x5632_S1x1408_1_0 (k0_pay35 (F := Ideal) (s1B z 0) (hhB z 0) (aw1B z 0)) fun t q hr hq => dcw_tile1 z 0 t q ⟨1 + t.val, hr⟩ ⟨0 + q.val, hq⟩ (Fin.ext (by have := t.isLt; simp; try omega)) (Fin.ext (by simp [col]))
    · exact piece2 (m := 3) (n := 5632) (a := 1) (b := 1408) (e := .f32) (dcw z) 0 0 inb_S3x5632_S1x1408_0_0 (k0_pay35 (F := Ideal) (s2B z 0) (hhB z 0) (aw0B z 0)) fun t q hr hq => dcw_tile0 z 0 t q ⟨0 + t.val, hr⟩ ⟨0 + q.val, hq⟩ (Fin.ext (by have := t.isLt; simp; try omega)) (Fin.ext (by simp [col]))
  · obtain ⟨b, q, rfl⟩ : ∃ b q', q = col b q' := ⟨_, _, (col_eta q).symm⟩
    match b, i with
    | 0, 0 => exact ⟨(list11 z)[11]'(by show 11 < 12; decide), List.getElem_mem _, (Rect.mem_set_unit (inb := inb_S3x5632_S1x1408_0_0)).mpr fun a => by
        match a with
        | ⟨0, _⟩ => exact ⟨le_rfl, by show 0 < 0 + 1; omega⟩
        | ⟨1, _⟩ => exact ⟨by show 0 ≤ 1408 * 0 + q.val; omega, by show 1408 * 0 + q.val < 0 + 1408; omega⟩⟩
    | 0, 1 => exact ⟨(list11 z)[10]'(by show 10 < 12; decide), List.getElem_mem _, (Rect.mem_set_unit (inb := inb_S3x5632_S1x1408_1_0)).mpr fun a => by
        match a with
        | ⟨0, _⟩ => exact ⟨le_rfl, by show 1 < 1 + 1; omega⟩
        | ⟨1, _⟩ => exact ⟨by show 0 ≤ 1408 * 0 + q.val; omega, by show 1408 * 0 + q.val < 0 + 1408; omega⟩⟩
    | 0, 2 => exact ⟨(list11 z)[9]'(by show 9 < 12; decide), List.getElem_mem _, (Rect.mem_set_unit (inb := inb_S3x5632_S1x1408_2_0)).mpr fun a => by
        match a with
        | ⟨0, _⟩ => exact ⟨le_rfl, by show 2 < 2 + 1; omega⟩
        | ⟨1, _⟩ => exact ⟨by show 0 ≤ 1408 * 0 + q.val; omega, by show 1408 * 0 + q.val < 0 + 1408; omega⟩⟩
    | 1, 0 => exact ⟨(list11 z)[5]'(by show 5 < 12; decide), List.getElem_mem _, (Rect.mem_set_unit (inb := inb_S3x5632_S1x1408_0_1408)).mpr fun a => by
        match a with
        | ⟨0, _⟩ => exact ⟨le_rfl, by show 0 < 0 + 1; omega⟩
        | ⟨1, _⟩ => exact ⟨by show 1408 ≤ 1408 * 1 + q.val; omega, by show 1408 * 1 + q.val < 1408 + 1408; omega⟩⟩
    | 1, 1 => exact ⟨(list11 z)[4]'(by show 4 < 12; decide), List.getElem_mem _, (Rect.mem_set_unit (inb := inb_S3x5632_S1x1408_1_1408)).mpr fun a => by
        match a with
        | ⟨0, _⟩ => exact ⟨le_rfl, by show 1 < 1 + 1; omega⟩
        | ⟨1, _⟩ => exact ⟨by show 1408 ≤ 1408 * 1 + q.val; omega, by show 1408 * 1 + q.val < 1408 + 1408; omega⟩⟩
    | 1, 2 => exact ⟨(list11 z)[3]'(by show 3 < 12; decide), List.getElem_mem _, (Rect.mem_set_unit (inb := inb_S3x5632_S1x1408_2_1408)).mpr fun a => by
        match a with
        | ⟨0, _⟩ => exact ⟨le_rfl, by show 2 < 2 + 1; omega⟩
        | ⟨1, _⟩ => exact ⟨by show 1408 ≤ 1408 * 1 + q.val; omega, by show 1408 * 1 + q.val < 1408 + 1408; omega⟩⟩
    | 2, 0 => exact ⟨(list11 z)[8]'(by show 8 < 12; decide), List.getElem_mem _, (Rect.mem_set_unit (inb := inb_S3x5632_S1x1408_0_2816)).mpr fun a => by
        match a with
        | ⟨0, _⟩ => exact ⟨le_rfl, by show 0 < 0 + 1; omega⟩
        | ⟨1, _⟩ => exact ⟨by show 2816 ≤ 1408 * 2 + q.val; omega, by show 1408 * 2 + q.val < 2816 + 1408; omega⟩⟩
    | 2, 1 => exact ⟨(list11 z)[7]'(by show 7 < 12; decide), List.getElem_mem _, (Rect.mem_set_unit (inb := inb_S3x5632_S1x1408_1_2816)).mpr fun a => by
        match a with
        | ⟨0, _⟩ => exact ⟨le_rfl, by show 1 < 1 + 1; omega⟩
        | ⟨1, _⟩ => exact ⟨by show 2816 ≤ 1408 * 2 + q.val; omega, by show 1408 * 2 + q.val < 2816 + 1408; omega⟩⟩
    | 2, 2 => exact ⟨(list11 z)[6]'(by show 6 < 12; decide), List.getElem_mem _, (Rect.mem_set_unit (inb := inb_S3x5632_S1x1408_2_2816)).mpr fun a => by
        match a with
        | ⟨0, _⟩ => exact ⟨le_rfl, by show 2 < 2 + 1; omega⟩
        | ⟨1, _⟩ => exact ⟨by show 2816 ≤ 1408 * 2 + q.val; omega, by show 1408 * 2 + q.val < 2816 + 1408; omega⟩⟩
    | 3, 0 => exact ⟨(list11 z)[2]'(by show 2 < 12; decide), List.getElem_mem _, (Rect.mem_set_unit (inb := inb_S3x5632_S1x1408_0_4224)).mpr fun a => by
        match a with
        | ⟨0, _⟩ => exact ⟨le_rfl, by show 0 < 0 + 1; omega⟩
        | ⟨1, _⟩ => exact ⟨by show 4224 ≤ 1408 * 3 + q.val; omega, by show 1408 * 3 + q.val < 4224 + 1408; omega⟩⟩
    | 3, 1 => exact ⟨(list11 z)[1]'(by show 1 < 12; decide), List.getElem_mem _, (Rect.mem_set_unit (inb := inb_S3x5632_S1x1408_1_4224)).mpr fun a => by
        match a with
        | ⟨0, _⟩ => exact ⟨le_rfl, by show 1 < 1 + 1; omega⟩
        | ⟨1, _⟩ => exact ⟨by show 4224 ≤ 1408 * 3 + q.val; omega, by show 1408 * 3 + q.val < 4224 + 1408; omega⟩⟩
    | 3, 2 => exact ⟨(list11 z)[0]'(by show 0 < 12; decide), List.getElem_mem _, (Rect.mem_set_unit (inb := inb_S3x5632_S1x1408_2_4224)).mpr fun a => by
        match a with
        | ⟨0, _⟩ => exact ⟨le_rfl, by show 2 < 2 + 1; omega⟩
        | ⟨1, _⟩ => exact ⟨by show 4224 ≤ 1408 * 3 + q.val; omega, by show 1408 * 3 + q.val < 4224 + 1408; omega⟩⟩

theorem dcb_tile (b : Fin 4) (t : Fin 1) (q : Fin 1408) (q' : Fin 5632) (hq : q' = col b q) :
    k0_pay32 (dcB z b) (abB z b) (ix2 t q) = dcb z q' := by
  subst hq
  obtain rfl : t = 0 := Subsingleton.elim _ _
  refine (dcb_apply _ _ q).trans ?_
  rw [abB_apply]
  exact congrArg (_ + ·) (Finset.sum_congr rfl fun r _ => dcB_apply z b r q)

theorem canon12 (L : List (View.Piece (Elt Ideal) S1x5632 .f32)) (t : Fin 1) (q : Fin 5632) :
    View.canon (list12 z ++ L) (ix2 t q) = dcb z q := by
  refine View.canon_append_of_piecesOf (fun y : S1x5632.Idx => dcb z (y 1)) L (list12 z) ?_ (ix2 t q) ?_
  · refine ⟨?_, ?_, ?_, ?_, trivial⟩
    · exact piece2 (m := 1) (n := 5632) (a := 1) (b := 1408) (e := .f32) (fun _ => dcb z) 0 4224 inb_S1x5632_S1x1408_0_4224 (k0_pay32 (dcB z 3) (abB z 3)) fun t q hr hq => dcb_tile z 3 t q ⟨4224 + q.val, hq⟩ (Fin.ext (by simp [col]))
    · exact piece2 (m := 1) (n := 5632) (a := 1) (b := 1408) (e := .f32) (fun _ => dcb z) 0 1408 inb_S1x5632_S1x1408_0_1408 (k0_pay32 (dcB z 1) (abB z 1)) fun t q hr hq => dcb_tile z 1 t q ⟨1408 + q.val, hq⟩ (Fin.ext (by simp [col]))
    · exact piece2 (m := 1) (n := 5632) (a := 1) (b := 1408) (e := .f32) (fun _ => dcb z) 0 2816 inb_S1x5632_S1x1408_0_2816 (k0_pay32 (dcB z 2) (abB z 2)) fun t q hr hq => dcb_tile z 2 t q ⟨2816 + q.val, hq⟩ (Fin.ext (by simp [col]))
    · exact piece2 (m := 1) (n := 5632) (a := 1) (b := 1408) (e := .f32) (fun _ => dcb z) 0 0 inb_S1x5632_S1x1408_0_0 (k0_pay32 (dcB z 0) (abB z 0)) fun t q hr hq => dcb_tile z 0 t q ⟨0 + q.val, hq⟩ (Fin.ext (by simp [col]))
  · obtain ⟨b, q, rfl⟩ : ∃ b q', q = col b q' := ⟨_, _, (col_eta q).symm⟩
    match b with
    | 0 => exact ⟨(list12 z)[3]'(by show 3 < 4; decide), List.getElem_mem _, (Rect.mem_set_unit (inb := inb_S1x5632_S1x1408_0_0)).mpr fun a => by
        match a with
        | ⟨0, _⟩ => exact ⟨Nat.zero_le _, by simpa using t.isLt⟩
        | ⟨1, _⟩ => exact ⟨by show 0 ≤ 1408 * 0 + q.val; omega, by show 1408 * 0 + q.val < 0 + 1408; omega⟩⟩
    | 1 => exact ⟨(list12 z)[1]'(by show 1 < 4; decide), List.getElem_mem _, (Rect.mem_set_unit (inb := inb_S1x5632_S1x1408_0_1408)).mpr fun a => by
        match a with
        | ⟨0, _⟩ => exact ⟨Nat.zero_le _, by simpa using t.isLt⟩
        | ⟨1, _⟩ => exact ⟨by show 1408 ≤ 1408 * 1 + q.val; omega, by show 1408 * 1 + q.val < 1408 + 1408; omega⟩⟩
    | 2 => exact ⟨(list12 z)[2]'(by show 2 < 4; decide), List.getElem_mem _, (Rect.mem_set_unit (inb := inb_S1x5632_S1x1408_0_2816)).mpr fun a => by
        match a with
        | ⟨0, _⟩ => exact ⟨Nat.zero_le _, by simpa using t.isLt⟩
        | ⟨1, _⟩ => exact ⟨by show 2816 ≤ 1408 * 2 + q.val; omega, by show 1408 * 2 + q.val < 2816 + 1408; omega⟩⟩
    | 3 => exact ⟨(list12 z)[0]'(by show 0 < 4; decide), List.getElem_mem _, (Rect.mem_set_unit (inb := inb_S1x5632_S1x1408_0_4224)).mpr fun a => by
        match a with
        | ⟨0, _⟩ => exact ⟨Nat.zero_le _, by simpa using t.isLt⟩
        | ⟨1, _⟩ => exact ⟨by show 4224 ≤ 1408 * 3 + q.val; omega, by show 1408 * 3 + q.val < 4224 + 1408; omega⟩⟩

theorem canon13 (L : List (View.Piece (Elt Ideal) S1x1024 .f32)) (t : Fin 1) (k : Fin 1024) :
    View.canon (list13 z ++ L) (ix2 t k) = dn z k := by
  obtain rfl : t = 0 := Subsingleton.elim _ _
  unfold list13
  rw [List.cons_append, View.canon_cons_unit_zero (S := S1x1024) (funext fun a => by fin_cases a <;> rfl)]
  refine (dn_apply _ _ _ _ _ _ _ _ _ _ k).trans ?_
  unfold dn
  refine congrArg (_ + ·) (Finset.sum_congr rfl fun r _ => ?_)
  rw [xh_apply]
  exact congrArg (· * _) (dx_eq z r k)

theorem canonC (L : List (View.Piece (Elt Ideal) S4x8x1408 .f32)) (b : Fin 4) (r : Fin 8) (q : Fin 1408) :
    View.canon (listC z ++ L) (ix3 b r q) = dc z ⟨r.val, by omega⟩ (col b q) := by
  refine View.canon_append_of_piecesOf (fun y : S4x8x1408.Idx => (fun (b : Fin 4) (r : Fin 8) (q : Fin 1408) => dc z ⟨r.val, by omega⟩ (col b q)) (y 0) (y 1) (y 2)) L (listC z) ?_ (ix3 b r q) ?_
  · refine ⟨?_, ?_, ?_, ?_, trivial⟩
    · exact piece3 (l := 4) (m := 8) (n := 1408) (a := 1) (b := 8) (c := 1408) (e := .f32) (fun (b : Fin 4) (r : Fin 8) (q : Fin 1408) => dc z ⟨r.val, by omega⟩ (col b q)) 3 0 0 inb_S4x8x1408_S1x8x1408_3_0_0 (k0_pay29 (F := Ideal) (dcB z 3)) fun t r q ht hr hq =>
        (carry_apply (dcB z 3) t r q).trans ((dcB_apply z 3 _ q).trans (congrArg₂ (dc z) (Fin.ext (Nat.zero_add r.val).symm)
          (congrArg₂ col (x := 3) (x' := ⟨3 + t.val, ht⟩) (y := q) (y' := ⟨0 + q.val, hq⟩) (Fin.ext (by have := t.isLt; simp; try omega)) (Fin.ext (Nat.zero_add _).symm))))
    · exact piece3 (l := 4) (m := 8) (n := 1408) (a := 1) (b := 8) (c := 1408) (e := .f32) (fun (b : Fin 4) (r : Fin 8) (q : Fin 1408) => dc z ⟨r.val, by omega⟩ (col b q)) 1 0 0 inb_S4x8x1408_S1x8x1408_1_0_0 (k0_pay29 (F := Ideal) (dcB z 1)) fun t r q ht hr hq =>
        (carry_apply (dcB z 1) t r q).trans ((dcB_apply z 1 _ q).trans (congrArg₂ (dc z) (Fin.ext (Nat.zero_add r.val).symm)
          (congrArg₂ col (x := 1) (x' := ⟨1 + t.val, ht⟩) (y := q) (y' := ⟨0 + q.val, hq⟩) (Fin.ext (by have := t.isLt; simp; try omega)) (Fin.ext (Nat.zero_add _).symm))))
    · exact piece3 (l := 4) (m := 8) (n := 1408) (a := 1) (b := 8) (c := 1408) (e := .f32) (fun (b : Fin 4) (r : Fin 8) (q : Fin 1408) => dc z ⟨r.val, by omega⟩ (col b q)) 2 0 0 inb_S4x8x1408_S1x8x1408_2_0_0 (k0_pay29 (F := Ideal) (dcB z 2)) fun t r q ht hr hq =>
        (carry_apply (dcB z 2) t r q).trans ((dcB_apply z 2 _ q).trans (congrArg₂ (dc z) (Fin.ext (Nat.zero_add r.val).symm)
          (congrArg₂ col (x := 2) (x' := ⟨2 + t.val, ht⟩) (y := q) (y' := ⟨0 + q.val, hq⟩) (Fin.ext (by have := t.isLt; simp; try omega)) (Fin.ext (Nat.zero_add _).symm))))
    · exact piece3 (l := 4) (m := 8) (n := 1408) (a := 1) (b := 8) (c := 1408) (e := .f32) (fun (b : Fin 4) (r : Fin 8) (q : Fin 1408) => dc z ⟨r.val, by omega⟩ (col b q)) 0 0 0 inb_S4x8x1408_S1x8x1408_0_0_0 (k0_pay29 (F := Ideal) (dcB z 0)) fun t r q ht hr hq =>
        (carry_apply (dcB z 0) t r q).trans ((dcB_apply z 0 _ q).trans (congrArg₂ (dc z) (Fin.ext (Nat.zero_add r.val).symm)
          (congrArg₂ col (x := 0) (x' := ⟨0 + t.val, ht⟩) (y := q) (y' := ⟨0 + q.val, hq⟩) (Fin.ext (by have := t.isLt; simp; try omega)) (Fin.ext (Nat.zero_add _).symm))))
  · match b with
    | 0 => exact ⟨(listC z)[3]'(by show 3 < 4; decide), List.getElem_mem _, (Rect.mem_set_unit (inb := inb_S4x8x1408_S1x8x1408_0_0_0)).mpr fun a => by
        match a with
        | ⟨0, _⟩ => exact ⟨le_rfl, by show 0 < 0 + 1; omega⟩
        | ⟨1, _⟩ => exact ⟨Nat.zero_le _, by simpa using r.isLt⟩
        | ⟨2, _⟩ => exact ⟨Nat.zero_le _, by simpa using q.isLt⟩⟩
    | 1 => exact ⟨(listC z)[1]'(by show 1 < 4; decide), List.getElem_mem _, (Rect.mem_set_unit (inb := inb_S4x8x1408_S1x8x1408_1_0_0)).mpr fun a => by
        match a with
        | ⟨0, _⟩ => exact ⟨le_rfl, by show 1 < 1 + 1; omega⟩
        | ⟨1, _⟩ => exact ⟨Nat.zero_le _, by simpa using r.isLt⟩
        | ⟨2, _⟩ => exact ⟨Nat.zero_le _, by simpa using q.isLt⟩⟩
    | 2 => exact ⟨(listC z)[2]'(by show 2 < 4; decide), List.getElem_mem _, (Rect.mem_set_unit (inb := inb_S4x8x1408_S1x8x1408_2_0_0)).mpr fun a => by
        match a with
        | ⟨0, _⟩ => exact ⟨le_rfl, by show 2 < 2 + 1; omega⟩
        | ⟨1, _⟩ => exact ⟨Nat.zero_le _, by simpa using r.isLt⟩
        | ⟨2, _⟩ => exact ⟨Nat.zero_le _, by simpa using q.isLt⟩⟩
    | 3 => exact ⟨(listC z)[0]'(by show 0 < 4; decide), List.getElem_mem _, (Rect.mem_set_unit (inb := inb_S4x8x1408_S1x8x1408_3_0_0)).mpr fun a => by
        match a with
        | ⟨0, _⟩ => exact ⟨le_rfl, by show 3 < 3 + 1; omega⟩
        | ⟨1, _⟩ => exact ⟨Nat.zero_le _, by simpa using r.isLt⟩
        | ⟨2, _⟩ => exact ⟨Nat.zero_le _, by simpa using q.isLt⟩⟩

end Cert.KernelIdeal.Blk

end
-- ==== Proof.Ffn.Outs.lean ====
/- What each grid point leaves: the closed state of the step at that point. -/
module

public import proofs.«01_k».proof.Proof.Ffn.Contents
public import proofs.«01_k».proof.Proof.Ffn.PiecesA
public import proofs.«01_k».proof.Proof.Ffn.Sem

@[expose] public section

set_option maxRecDepth 16384

noncomputable section

namespace Cert.KernelIdeal.Blk

open Cert.KernelIdeal Cert.KernelIdeal.Gen Cert.KernelIdeal.Ffn Idealize.ShloMosaic Idealize.ShloMosaic.TcCoe Idealize.ShloMosaic.Tactic Idealize.ShloMosaic.ValueIdx Idealize.SL.Sem

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S1x1024 .f32) (harg7 : arg7.IsWhole) (arg8 : Memref sig .tc .vmem S3x5632 .f32) (harg8 : arg8.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S1x1024 .f32) (harg16 : arg16.IsWhole) (arg17 : Memref sig .tc .vmem S4x1024x1408 .bf16) (harg17 : arg17.IsWhole) (arg18 : Memref sig .tc .vmem S2816x1024 .bf16) (harg18 : arg18.IsWhole) (arg19 : Memref sig .tc .vmem S4x8x1408 .f32) (harg19 : arg19.IsWhole) (hc0 : cond0_0 i) (hc1 : cond0_1 i) (x0 : Vec Ideal S256x1024 .f32) (x1 : Vec Ideal S256x1024 .f32) (x2 : Vec Ideal S256x5632 .bf16) (x3 : Vec Ideal S256x2816 .bf16) (x4 : Vec Ideal S256x2816 .bf16) (x5 : Vec Ideal S256x2816 .bf16) (x6 : Vec Ideal S1x1024 .f32) (x7 : Vec Ideal S3x5632 .f32) (fh0 : HbBuf0 (F := Ideal) c hbM0_0) (fh1 : HbBuf0 (F := Ideal) c hbM0_1)

theorem oA_8 (r : Fin 256) (k : Fin 1024) :
    out0_A_8 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1 (ix2 r k) = dh (ins0 x0 x1 x2 x3 x4 x5 x6 x7 (View.read (Elt Ideal) (View.whole main_v61) fh0) (View.read (Elt Ideal) (View.whole main_v64) fh1)) r k := by
  unfold out0_A_8
  rw [View.read_writes_junk_eq_canon, runA_8]
  exact canon8 _ _ _

theorem oA_9 (r : Fin 256) (q : Fin 5632) :
    out0_A_9 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1 (ix2 r q) = dhh (ins0 x0 x1 x2 x3 x4 x5 x6 x7 (View.read (Elt Ideal) (View.whole main_v61) fh0) (View.read (Elt Ideal) (View.whole main_v64) fh1)) r q := by
  unfold out0_A_9
  rw [View.read_writes_junk_eq_canon, runA_9]
  exact (congrArg (fun l => View.canon l (ix2 r q)) (List.append_nil _).symm).trans (canon9 _ [] _ _)

theorem oA_10 (r : Fin 256) (k : Fin 1024) :
    out0_A_10 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1 (ix2 r k) = (x1 (ix2 r k) * rs x1 r * x6 (ix2 0 k) : EReal) := by
  unfold out0_A_10
  rw [View.read_writes_junk_eq_canon, runA_10]
  exact canon10 _ _ _

theorem oA_11 (j : Fin 3) (q : Fin 5632) :
    out0_A_11 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1 (ix2 j q) = dcw (ins0 x0 x1 x2 x3 x4 x5 x6 x7 (View.read (Elt Ideal) (View.whole main_v61) fh0) (View.read (Elt Ideal) (View.whole main_v64) fh1)) j q := by
  unfold out0_A_11
  rw [View.read_writes_junk_eq_canon, runA_11]
  exact canon11 _ _ _ _

theorem oA_12 (t : Fin 1) (q : Fin 5632) :
    out0_A_12 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1 (ix2 t q) = dcb (ins0 x0 x1 x2 x3 x4 x5 x6 x7 (View.read (Elt Ideal) (View.whole main_v61) fh0) (View.read (Elt Ideal) (View.whole main_v64) fh1)) q := by
  unfold out0_A_12
  rw [View.read_writes_junk_eq_canon, runA_12]
  exact canon12 _ _ _ _

theorem oA_13 (t : Fin 1) (k : Fin 1024) :
    out0_A_13 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1 (ix2 t k) = dn (ins0 x0 x1 x2 x3 x4 x5 x6 x7 (View.read (Elt Ideal) (View.whole main_v61) fh0) (View.read (Elt Ideal) (View.whole main_v64) fh1)) k := by
  unfold out0_A_13
  rw [View.read_writes_junk_eq_canon, runA_13]
  exact canon13 _ _ _ _

theorem oA_C (b : Fin 4) (r : Fin 8) (q : Fin 1408) :
    sout0_A_2 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1 (ix3 b r q) = dc (ins0 x0 x1 x2 x3 x4 x5 x6 x7 (View.read (Elt Ideal) (View.whole main_v61) fh0) (View.read (Elt Ideal) (View.whole main_v64) fh1)) ⟨r.val, by omega⟩ (col b q) := by
  unfold sout0_A_2
  rw [View.read_writes_junk_eq_canon, runA_C]
  exact canonC _ _ _ _ _

theorem oA_S0 :
    sout0_A_0 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1 = View.read (Elt Ideal) (View.whole main_v61) fh0 := by
  unfold sout0_A_0
  rw [View.read_writes_junk_eq_canon]
  unfold kernelRun0_A
  dsimp only
  sl_unfold_words
  exact View.canon_unit_zero (S := S4x1024x1408) (off := fun _ => 0) rfl _ _

theorem oA_S1 :
    sout0_A_1 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 fh0 fh1 = View.read (Elt Ideal) (View.whole main_v64) fh1 := by
  unfold sout0_A_1
  rw [View.read_writes_junk_eq_canon]
  unfold kernelRun0_A
  dsimp only
  sl_unfold_words
  exact View.canon_unit_zero (S := S2816x1024) (off := fun _ => 0) rfl _ _

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x5632 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .vmem S1x1024 .f32) (harg7 : arg7.IsWhole) (arg8 : Memref sig .tc .vmem S3x5632 .f32) (harg8 : arg8.IsWhole) (arg11 : Memref sig .tc .vmem S256x1024 .f32) (harg11 : arg11.IsWhole) (arg12 : Memref sig .tc .vmem S256x5632 .bf16) (harg12 : arg12.IsWhole) (arg13 : Memref sig .tc .vmem S256x1024 .bf16) (harg13 : arg13.IsWhole) (arg14 : Memref sig .tc .vmem S3x5632 .f32) (harg14 : arg14.IsWhole) (arg15 : Memref sig .tc .vmem S1x5632 .f32) (harg15 : arg15.IsWhole) (arg16 : Memref sig .tc .vmem S1x1024 .f32) (harg16 : arg16.IsWhole) (arg17 : Memref sig .tc .vmem S4x1024x1408 .bf16) (harg17 : arg17.IsWhole) (arg18 : Memref sig .tc .vmem S2816x1024 .bf16) (harg18 : arg18.IsWhole) (arg19 : Memref sig .tc .vmem S4x8x1408 .f32) (harg19 : arg19.IsWhole) (hc0 : ¬cond0_0 i) (hc1 : ¬cond0_1 i) (x0 : Vec Ideal S256x1024 .f32) (x1 : Vec Ideal S256x1024 .f32) (x2 : Vec Ideal S256x5632 .bf16) (x3 : Vec Ideal S256x2816 .bf16) (x4 : Vec Ideal S256x2816 .bf16) (x5 : Vec Ideal S256x2816 .bf16) (x6 : Vec Ideal S1x1024 .f32) (x7 : Vec Ideal S3x5632 .f32) (xo11 : Vec Ideal S3x5632 .f32) (xo12 : Vec Ideal S1x5632 .f32) (xo13 : Vec Ideal S1x1024 .f32) (xs0 : Vec Ideal S4x1024x1408 .bf16) (xs1 : Vec Ideal S2816x1024 .bf16) (xs2 : Vec Ideal S4x8x1408 .f32) (fh0 : HbBuf0 (F := Ideal) c hbM0_0) (fh1 : HbBuf0 (F := Ideal) c hbM0_1)

theorem oB_8 (r : Fin 256) (k : Fin 1024) :
    out0_B_8 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1 (ix2 r k) = dh ⟨x0, x1, x2, x3, x4, x5, x6, x7, xs0, xs1, xs2, xo11, xo12, xo13⟩ r k := by
  unfold out0_B_8
  rw [View.read_writes_junk_eq_canon, runB_8]
  exact canon8 _ _ _

theorem oB_9 (r : Fin 256) (q : Fin 5632) :
    out0_B_9 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1 (ix2 r q) = dhh ⟨x0, x1, x2, x3, x4, x5, x6, x7, xs0, xs1, xs2, xo11, xo12, xo13⟩ r q := by
  unfold out0_B_9
  rw [View.read_writes_junk_eq_canon, runB_9]
  exact (congrArg (fun l => View.canon l (ix2 r q)) (List.append_nil _).symm).trans (canon9 _ [] _ _)

theorem oB_10 (r : Fin 256) (k : Fin 1024) :
    out0_B_10 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1 (ix2 r k) = (x1 (ix2 r k) * rs x1 r * x6 (ix2 0 k) : EReal) := by
  unfold out0_B_10
  rw [View.read_writes_junk_eq_canon, runB_10]
  exact canon10 _ _ _

theorem oB_11 (j : Fin 3) (q : Fin 5632) :
    out0_B_11 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1 (ix2 j q) = dcw ⟨x0, x1, x2, x3, x4, x5, x6, x7, xs0, xs1, xs2, xo11, xo12, xo13⟩ j q := by
  unfold out0_B_11
  rw [View.read_writes_junk_eq_canon, runB_11]
  exact (congrArg (fun l => View.canon l (ix2 j q)) (List.append_nil _).symm).trans (canon11 _ [] _ _)

theorem oB_12 (t : Fin 1) (q : Fin 5632) :
    out0_B_12 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1 (ix2 t q) = dcb ⟨x0, x1, x2, x3, x4, x5, x6, x7, xs0, xs1, xs2, xo11, xo12, xo13⟩ q := by
  unfold out0_B_12
  rw [View.read_writes_junk_eq_canon, runB_12]
  exact (congrArg (fun l => View.canon l (ix2 t q)) (List.append_nil _).symm).trans (canon12 _ [] _ _)

theorem oB_13 (t : Fin 1) (k : Fin 1024) :
    out0_B_13 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1 (ix2 t k) = dn ⟨x0, x1, x2, x3, x4, x5, x6, x7, xs0, xs1, xs2, xo11, xo12, xo13⟩ k := by
  unfold out0_B_13
  rw [View.read_writes_junk_eq_canon, runB_13]
  exact (congrArg (fun l => View.canon l (ix2 t k)) (List.append_nil _).symm).trans (canon13 _ [] _ _)

theorem oB_C (b : Fin 4) (r : Fin 8) (q : Fin 1408) :
    sout0_B_2 c i arg1 harg1 arg2 harg2 arg3 harg3 arg4 harg4 arg5 harg5 arg6 harg6 arg7 harg7 arg8 harg8 arg11 harg11 arg12 harg12 arg13 harg13 arg14 harg14 arg15 harg15 arg16 harg16 arg17 harg17 arg18 harg18 arg19 harg19 hc0 hc1 x0 x1 x2 x3 x4 x5 x6 x7 xo11 xo12 xo13 xs0 xs1 xs2 fh0 fh1 (ix3 b r q) = dc ⟨x0, x1, x2, x3, x4, x5, x6, x7, xs0, xs1, xs2, xo11, xo12, xo13⟩ ⟨r.val, by omega⟩ (col b q) := by
  unfold sout0_B_2
  rw [View.read_writes_junk_eq_canon, runB_C]
  exact (congrArg (fun l => View.canon l (ix3 b r q)) (List.append_nil _).symm).trans (canonC _ [] _ _ _)

end

variable (m : (ℓ : Loc nD τ sig) → Buf (Elt Ideal) ℓ)

/-- The state of the step at grid point `n`: the point's blocks, the weights, and what the point before left. -/
def zAt (c : Dev nD) : (n : ℕ) → n < cfg0.N → Ins
  | 0, h => ins0 (iblk m c 0 ⟨0, h⟩) (iblk m c 1 ⟨0, h⟩) (iblk m c 2 ⟨0, h⟩) (iblk m c 3 ⟨0, h⟩) (iblk m c 4 ⟨0, h⟩) (iblk m c 5 ⟨0, h⟩)
      (iblk m c 6 ⟨0, h⟩) (iblk m c 7 ⟨0, h⟩) (V m c main_v61) (V m c main_v64)
  | n + 1, h =>
    ⟨iblk m c 0 ⟨n + 1, h⟩, iblk m c 1 ⟨n + 1, h⟩, iblk m c 2 ⟨n + 1, h⟩, iblk m c 3 ⟨n + 1, h⟩, iblk m c 4 ⟨n + 1, h⟩, iblk m c 5 ⟨n + 1, h⟩,
      iblk m c 6 ⟨n + 1, h⟩, iblk m c 7 ⟨n + 1, h⟩, V m c main_v61, V m c main_v64,
      fun y : S4x8x1408.Idx => dc (zAt c n (Nat.lt_of_succ_lt h)) ⟨(y 1).val, lt_of_lt_of_le (y 1).isLt (by decide)⟩ (col (y 0) (y 2)),
      fun y : S3x5632.Idx => dcw (zAt c n (Nat.lt_of_succ_lt h)) (y 0) (y 1),
      fun y : S1x5632.Idx => dcb (zAt c n (Nat.lt_of_succ_lt h)) (y 1),
      fun y : S1x1024.Idx => dn (zAt c n (Nat.lt_of_succ_lt h)) (y 1)⟩

/-- What grid point `n` leaves in its outputs and in the memory it carries. -/
structure Left (c : Dev nD) (n : ℕ) (h : n < cfg0.N) : Prop where
  o8 : ∀ r k, (outsAt0 m c n h).1 (ix2 r k) = dh (zAt m c n h) r k
  o9 : ∀ r q, (outsAt0 m c n h).2.1 (ix2 r q) = dhh (zAt m c n h) r q
  o10 : ∀ r k, (outsAt0 m c n h).2.2.1 (ix2 r k) = (zAt m c n h).h (ix2 r k) * rs (zAt m c n h).h r * (zAt m c n h).n (ix2 0 k)
  o11 : (outsAt0 m c n h).2.2.2.1 = fun y : S3x5632.Idx => dcw (zAt m c n h) (y 0) (y 1)
  o12 : (outsAt0 m c n h).2.2.2.2.1 = fun y : S1x5632.Idx => dcb (zAt m c n h) (y 1)
  o13 : (outsAt0 m c n h).2.2.2.2.2.1 = fun y : S1x1024.Idx => dn (zAt m c n h) (y 1)
  s0 : (outsAt0 m c n h).2.2.2.2.2.2.1 = V m c main_v61
  s1 : (outsAt0 m c n h).2.2.2.2.2.2.2.1 = V m c main_v64
  s2 : (outsAt0 m c n h).2.2.2.2.2.2.2.2 = fun y : S4x8x1408.Idx => dc (zAt m c n h) ⟨(y 1).val, lt_of_lt_of_le (y 1).isLt (by decide)⟩ (col (y 0) (y 2))

theorem eq_of_ix2 {a b : ℕ} {α : Type} (f : (⟨2, ![a, b]⟩ : Shape).Idx → α) (g : Fin a → Fin b → α) (h : ∀ i j, f (ix2 i j) = g i j) :
    f = fun y => g (y 0) (y 1) := funext fun y => (congrArg f (eq_ix2 y)).trans (h (y 0) (y 1))

theorem eq_of_ix3 {a b d : ℕ} {α : Type} (f : (⟨3, ![a, b, d]⟩ : Shape).Idx → α) (g : Fin a → Fin b → Fin d → α) (h : ∀ i j k, f (ix3 i j k) = g i j k) :
    f = fun y => g (y 0) (y 1) (y 2) := funext fun y => (congrArg f (funext fun e => by
      match e with
      | ⟨0, _⟩ => rfl
      | ⟨1, _⟩ => rfl
      | ⟨2, _⟩ => rfl)).trans (h (y 0) (y 1) (y 2))

/-- The step's state at a later point, over what the point before left. -/
def zOf (c : Dev nD) (n : ℕ) (h : n + 1 < cfg0.N) : Ins :=
  ⟨iblk m c 0 ⟨n + 1, h⟩, iblk m c 1 ⟨n + 1, h⟩, iblk m c 2 ⟨n + 1, h⟩, iblk m c 3 ⟨n + 1, h⟩, iblk m c 4 ⟨n + 1, h⟩, iblk m c 5 ⟨n + 1, h⟩,
    iblk m c 6 ⟨n + 1, h⟩, iblk m c 7 ⟨n + 1, h⟩, (outsAt0 m c n (Nat.lt_of_succ_lt h)).2.2.2.2.2.2.1, (outsAt0 m c n (Nat.lt_of_succ_lt h)).2.2.2.2.2.2.2.1,
    (outsAt0 m c n (Nat.lt_of_succ_lt h)).2.2.2.2.2.2.2.2, (outsAt0 m c n (Nat.lt_of_succ_lt h)).2.2.2.1, (outsAt0 m c n (Nat.lt_of_succ_lt h)).2.2.2.2.1,
    (outsAt0 m c n (Nat.lt_of_succ_lt h)).2.2.2.2.2.1⟩

attribute [local irreducible] outsAt0 out0_A_8 out0_A_9 out0_A_10 out0_A_11 out0_A_12 out0_A_13 out0_B_8 out0_B_9 out0_B_10 out0_B_11 out0_B_12 out0_B_13 sout0_A_0 sout0_A_1 sout0_A_2 sout0_B_2

theorem later (n : ℕ) (h : n + 1 < cfg0.N) : ¬ (⟨n + 1, h⟩ : Fin cfg0.N).val % 32 = 0 := by
  have hN : n + 1 < 32 := lt_of_lt_of_eq h (show cfg0.N = 32 from N_0)
  show ¬ (n + 1) % 32 = 0
  omega

theorem first (h : 0 < cfg0.N) : (⟨0, h⟩ : Fin cfg0.N).val % 32 = 0 := rfl

theorem fst_8 (c : Dev nD) (h : 0 < cfg0.N) (r : Fin 256) (k : Fin 1024) : (outsAt0 m c 0 h).1 (ix2 r k) = dh (zAt m c 0 h) r k := by
  refine (congrArg (fun p => p.1 (ix2 r k)) (outsAt0_A m c ⟨0, h⟩ (first h) (first h))).trans ?_
  refine (oA_8 ..).trans ?_
  rfl

theorem nxt_8 (c : Dev nD) (n : ℕ) (h : n + 1 < cfg0.N) (r : Fin 256) (k : Fin 1024) : (outsAt0 m c (n + 1) h).1 (ix2 r k) = dh (zOf m c n h) r k := by
  refine (congrArg (fun p => p.1 (ix2 r k)) (outsAt0_B m c ⟨n + 1, h⟩ (later n h) (later n h))).trans ?_
  refine (oB_8 ..).trans ?_
  rfl

theorem fst_9 (c : Dev nD) (h : 0 < cfg0.N) (r : Fin 256) (q : Fin 5632) : (outsAt0 m c 0 h).2.1 (ix2 r q) = dhh (zAt m c 0 h) r q := by
  refine (congrArg (fun p => p.2.1 (ix2 r q)) (outsAt0_A m c ⟨0, h⟩ (first h) (first h))).trans ?_
  refine (oA_9 ..).trans ?_
  rfl

theorem nxt_9 (c : Dev nD) (n : ℕ) (h : n + 1 < cfg0.N) (r : Fin 256) (q : Fin 5632) : (outsAt0 m c (n + 1) h).2.1 (ix2 r q) = dhh (zOf m c n h) r q := by
  refine (congrArg (fun p => p.2.1 (ix2 r q)) (outsAt0_B m c ⟨n + 1, h⟩ (later n h) (later n h))).trans ?_
  refine (oB_9 ..).trans ?_
  rfl

theorem fst_10 (c : Dev nD) (h : 0 < cfg0.N) (r : Fin 256) (k : Fin 1024) : (outsAt0 m c 0 h).2.2.1 (ix2 r k) = ((zAt m c 0 h).h (ix2 r k) * rs (zAt m c 0 h).h r * (zAt m c 0 h).n (ix2 0 k) : EReal) := by
  refine (congrArg (fun p => p.2.2.1 (ix2 r k)) (outsAt0_A m c ⟨0, h⟩ (first h) (first h))).trans ?_
  refine (oA_10 ..).trans ?_
  rfl

theorem nxt_10 (c : Dev nD) (n : ℕ) (h : n + 1 < cfg0.N) (r : Fin 256) (k : Fin 1024) : (outsAt0 m c (n + 1) h).2.2.1 (ix2 r k) = ((zOf m c n h).h (ix2 r k) * rs (zOf m c n h).h r * (zOf m c n h).n (ix2 0 k) : EReal) := by
  refine (congrArg (fun p => p.2.2.1 (ix2 r k)) (outsAt0_B m c ⟨n + 1, h⟩ (later n h) (later n h))).trans ?_
  refine (oB_10 ..).trans ?_
  rfl

theorem fst_11 (c : Dev nD) (h : 0 < cfg0.N) (j : Fin 3) (q : Fin 5632) : (outsAt0 m c 0 h).2.2.2.1 (ix2 j q) = dcw (zAt m c 0 h) j q := by
  refine (congrArg (fun p => p.2.2.2.1 (ix2 j q)) (outsAt0_A m c ⟨0, h⟩ (first h) (first h))).trans ?_
  refine (oA_11 ..).trans ?_
  rfl

theorem nxt_11 (c : Dev nD) (n : ℕ) (h : n + 1 < cfg0.N) (j : Fin 3) (q : Fin 5632) : (outsAt0 m c (n + 1) h).2.2.2.1 (ix2 j q) = dcw (zOf m c n h) j q := by
  refine (congrArg (fun p => p.2.2.2.1 (ix2 j q)) (outsAt0_B m c ⟨n + 1, h⟩ (later n h) (later n h))).trans ?_
  refine (oB_11 ..).trans ?_
  rfl

theorem fst_12 (c : Dev nD) (h : 0 < cfg0.N) (t : Fin 1) (q : Fin 5632) : (outsAt0 m c 0 h).2.2.2.2.1 (ix2 t q) = dcb (zAt m c 0 h) q := by
  refine (congrArg (fun p => p.2.2.2.2.1 (ix2 t q)) (outsAt0_A m c ⟨0, h⟩ (first h) (first h))).trans ?_
  refine (oA_12 ..).trans ?_
  rfl

theorem nxt_12 (c : Dev nD) (n : ℕ) (h : n + 1 < cfg0.N) (t : Fin 1) (q : Fin 5632) : (outsAt0 m c (n + 1) h).2.2.2.2.1 (ix2 t q) = dcb (zOf m c n h) q := by
  refine (congrArg (fun p => p.2.2.2.2.1 (ix2 t q)) (outsAt0_B m c ⟨n + 1, h⟩ (later n h) (later n h))).trans ?_
  refine (oB_12 ..).trans ?_
  rfl

theorem fst_13 (c : Dev nD) (h : 0 < cfg0.N) (t : Fin 1) (k : Fin 1024) : (outsAt0 m c 0 h).2.2.2.2.2.1 (ix2 t k) = dn (zAt m c 0 h) k := by
  refine (congrArg (fun p => p.2.2.2.2.2.1 (ix2 t k)) (outsAt0_A m c ⟨0, h⟩ (first h) (first h))).trans ?_
  refine (oA_13 ..).trans ?_
  rfl

theorem nxt_13 (c : Dev nD) (n : ℕ) (h : n + 1 < cfg0.N) (t : Fin 1) (k : Fin 1024) : (outsAt0 m c (n + 1) h).2.2.2.2.2.1 (ix2 t k) = dn (zOf m c n h) k := by
  refine (congrArg (fun p => p.2.2.2.2.2.1 (ix2 t k)) (outsAt0_B m c ⟨n + 1, h⟩ (later n h) (later n h))).trans ?_
  refine (oB_13 ..).trans ?_
  rfl

theorem fst_C (c : Dev nD) (h : 0 < cfg0.N) (b : Fin 4) (r : Fin 8) (q : Fin 1408) : (outsAt0 m c 0 h).2.2.2.2.2.2.2.2 (ix3 b r q) = dc (zAt m c 0 h) ⟨r.val, by omega⟩ (col b q) := by
  refine (congrArg (fun p => p.2.2.2.2.2.2.2.2 (ix3 b r q)) (outsAt0_A m c ⟨0, h⟩ (first h) (first h))).trans ?_
  refine (oA_C ..).trans ?_
  rfl

theorem nxt_C (c : Dev nD) (n : ℕ) (h : n + 1 < cfg0.N) (b : Fin 4) (r : Fin 8) (q : Fin 1408) : (outsAt0 m c (n + 1) h).2.2.2.2.2.2.2.2 (ix3 b r q) = dc (zOf m c n h) ⟨r.val, by omega⟩ (col b q) := by
  refine (congrArg (fun p => p.2.2.2.2.2.2.2.2 (ix3 b r q)) (outsAt0_B m c ⟨n + 1, h⟩ (later n h) (later n h))).trans ?_
  refine (oB_C ..).trans ?_
  rfl

theorem fst_S0 (c : Dev nD) (h : 0 < cfg0.N) : (outsAt0 m c 0 h).2.2.2.2.2.2.1 = V m c main_v61 :=
  (congrArg (fun p => p.2.2.2.2.2.2.1) (outsAt0_A m c ⟨0, h⟩ (first h) (first h))).trans (oA_S0 ..)

theorem fst_S1 (c : Dev nD) (h : 0 < cfg0.N) : (outsAt0 m c 0 h).2.2.2.2.2.2.2.1 = V m c main_v64 :=
  (congrArg (fun p => p.2.2.2.2.2.2.2.1) (outsAt0_A m c ⟨0, h⟩ (first h) (first h))).trans (oA_S1 ..)

theorem nxt_S0 (c : Dev nD) (n : ℕ) (h : n + 1 < cfg0.N) :
    (outsAt0 m c (n + 1) h).2.2.2.2.2.2.1 = (outsAt0 m c n (Nat.lt_of_succ_lt h)).2.2.2.2.2.2.1 :=
  congrArg (fun p => p.2.2.2.2.2.2.1) (outsAt0_B m c ⟨n + 1, h⟩ (later n h) (later n h))

theorem nxt_S1 (c : Dev nD) (n : ℕ) (h : n + 1 < cfg0.N) :
    (outsAt0 m c (n + 1) h).2.2.2.2.2.2.2.1 = (outsAt0 m c n (Nat.lt_of_succ_lt h)).2.2.2.2.2.2.2.1 :=
  congrArg (fun p => p.2.2.2.2.2.2.2.1) (outsAt0_B m c ⟨n + 1, h⟩ (later n h) (later n h))

theorem zOf_eq (c : Dev nD) (n : ℕ) (h : n + 1 < cfg0.N) (ih : Left m c n (Nat.lt_of_succ_lt h)) : zOf m c n h = zAt m c (n + 1) h := by
  unfold zOf zAt
  rw [ih.o11, ih.o12, ih.o13, ih.s0, ih.s1, ih.s2]

theorem left_zero (c : Dev nD) (h : 0 < cfg0.N) : Left m c 0 h :=
  ⟨fst_8 m c h, fst_9 m c h, fst_10 m c h, eq_of_ix2 (a := 3) (b := 5632) _ _ (fst_11 m c h), eq_of_ix2 (a := 1) (b := 5632) _ (fun _ q => _) (fst_12 m c h),
    eq_of_ix2 (a := 1) (b := 1024) _ (fun _ k => _) (fst_13 m c h), fst_S0 m c h, fst_S1 m c h,
    eq_of_ix3 (a := 4) (b := 8) (d := 1408) _ (fun b r q => _) (fst_C m c h)⟩

theorem left_succ (c : Dev nD) (n : ℕ) (h : n + 1 < cfg0.N) (ih : Left m c n (Nat.lt_of_succ_lt h)) : Left m c (n + 1) h := by
  have e := zOf_eq m c n h ih
  refine ⟨?_, ?_, ?_, ?_, ?_, ?_, (nxt_S0 m c n h).trans ih.s0, (nxt_S1 m c n h).trans ih.s1, ?_⟩ <;> rw [← e]
  · exact nxt_8 m c n h
  · exact nxt_9 m c n h
  · exact nxt_10 m c n h
  · exact eq_of_ix2 (a := 3) (b := 5632) _ _ (nxt_11 m c n h)
  · exact eq_of_ix2 (a := 1) (b := 5632) _ (fun _ q => _) (nxt_12 m c n h)
  · exact eq_of_ix2 (a := 1) (b := 1024) _ (fun _ k => _) (nxt_13 m c n h)
  · exact eq_of_ix3 (a := 4) (b := 8) (d := 1408) _ (fun b r q => _) (nxt_C m c n h)

theorem left (c : Dev nD) : (n : ℕ) → (h : n < cfg0.N) → Left m c n h
  | 0, h => left_zero m c h
  | n + 1, h => left_succ m c n h (left c n (Nat.lt_of_succ_lt h))

end Cert.KernelIdeal.Blk

end
-- ==== Proof.Ffn.Arr.lean ====
/- The six arrays that the backward kernel returns, at an index. -/
module

public import proofs.«01_k».proof.Proof.Ffn.Written
public import proofs.«01_k».proof.Proof.Ffn.Outs
public import Idealize.ShloMosaic.Lib.Pipeline.ValueKit

@[expose] public section

set_option maxRecDepth 16384

noncomputable section

namespace Cert.KernelIdeal.Blk

open Cert.KernelIdeal Cert.KernelIdeal.Gen Cert.KernelIdeal.Ffn Idealize.ShloMosaic Idealize.ShloMosaic.TcCoe Idealize.ShloMosaic.Tactic Idealize.ShloMosaic.ValueIdx Idealize.SL.Sem

variable (m : (ℓ : Loc nD τ sig) → Buf (Elt Ideal) ℓ)

/-- The grid point that computes array row `i`: the tiles run from the last to the first. -/
theorem pt_lt (i : ℕ) : 31 - i / 256 < cfg0.N := lt_of_lt_of_eq (by omega : 31 - i / 256 < 32) (show (32 : ℕ) = cfg0.N from N_0.symm)

/-- The state of the step at the point of array row `i`. -/
def zRow (c : Dev nD) (i : ℕ) : Ins := zAt m c (31 - i / 256) (pt_lt i)

/-- The row within its tile. -/
def inRow (i : ℕ) : Fin 256 := ⟨i % 256, Nat.mod_lt _ (by decide)⟩

theorem last_lt : 31 < cfg0.N := lt_of_lt_of_eq (by decide : 31 < 32) (show (32 : ℕ) = cfg0.N from N_0.symm)

theorem idx8 : ∀ t : Fin cfg0.N, win0_8.index t = ![31 - t.val, 0] :=
  (by decide +kernel : ∀ t : Fin grid0.N, win0_8.index t = ![31 - t.val, 0])

theorem idx9 : ∀ t : Fin cfg0.N, win0_9.index t = ![31 - t.val, 0] :=
  (by decide +kernel : ∀ t : Fin grid0.N, win0_9.index t = ![31 - t.val, 0])

theorem idx10 : ∀ t : Fin cfg0.N, win0_10.index t = ![31 - t.val, 0] :=
  (by decide +kernel : ∀ t : Fin grid0.N, win0_10.index t = ![31 - t.val, 0])

/-- Row `r` of point `t`'s tile, as an array row, has that point and that row within the tile. -/
theorem zRow_at (c : Dev nD) (t : Fin cfg0.N) (r : ℕ) (hr : r < 256) : zRow m c ((31 - t.val) * 256 + r) = zAt m c t.val t.isLt := by
  have hN : t.val < 32 := lt_of_lt_of_eq t.isLt (show cfg0.N = 32 from N_0)
  have e : 31 - ((31 - t.val) * 256 + r) / 256 = t.val := by omega
  unfold zRow
  congr 1

theorem inRow_at (a : ℕ) (r : Fin 256) : inRow (a * 256 + r.val) = r := Fin.ext (by show (a * 256 + r.val) % 256 = r.val; omega)

theorem arr8 (c : Dev nD) : (dats m 0 c).arrAt 8 cfg0.N = fun y : S8192x1024.Idx => dh (zRow m c (y 0).val) (inRow (y 0).val) (y 1) := by
  refine (dats m 0 c).arrAt_eq_of_covers 8 _ (by decide +kernel) fun t hf y => ?_
  rw [after0_8]
  have hy : ((win0_8.blk t).view.emb y) 1 = (⟨(y 1).val, (y 1).isLt⟩ : Fin 1024) := Fin.ext (by blk_simp [idx8])
  blk_simp [idx8]
  rw [hy]
  refine (congrArg (outsAt0 m c t.val t.isLt).1 (ValueIdx.eq_ix2 (n0 := 256) (n1 := 1024) y)).trans ?_
  refine ((left m c t.val t.isLt).o8 (y 0) (y 1)).trans ?_
  rw [zRow_at m c t (y 0).val (y 0).isLt, inRow_at (31 - t.val) (y 0)]
  rfl

theorem arr9 (c : Dev nD) : (dats m 0 c).arrAt 9 cfg0.N = fun y : S8192x5632.Idx => dhh (zRow m c (y 0).val) (inRow (y 0).val) (y 1) := by
  refine (dats m 0 c).arrAt_eq_of_covers 9 _ (by decide +kernel) fun t hf y => ?_
  rw [after0_9]
  have hy : ((win0_9.blk t).view.emb y) 1 = (⟨(y 1).val, (y 1).isLt⟩ : Fin 5632) := Fin.ext (by blk_simp [idx9])
  blk_simp [idx9]
  rw [hy]
  refine (congrArg (outsAt0 m c t.val t.isLt).2.1 (ValueIdx.eq_ix2 (n0 := 256) (n1 := 5632) y)).trans ?_
  refine ((left m c t.val t.isLt).o9 (y 0) (y 1)).trans ?_
  rw [zRow_at m c t (y 0).val (y 0).isLt, inRow_at (31 - t.val) (y 0)]
  rfl

theorem arr10 (c : Dev nD) : (dats m 0 c).arrAt 10 cfg0.N = fun y : S8192x1024.Idx => ((zRow m c (y 0).val).h (ValueIdx.ix2 (inRow (y 0).val) (y 1)) * rs (zRow m c (y 0).val).h (inRow (y 0).val) * (zRow m c (y 0).val).n (ValueIdx.ix2 0 (y 1)) : EReal) := by
  refine (dats m 0 c).arrAt_eq_of_covers 10 _ (by decide +kernel) fun t hf y => ?_
  rw [after0_10]
  have hy : ((win0_10.blk t).view.emb y) 1 = (⟨(y 1).val, (y 1).isLt⟩ : Fin 1024) := Fin.ext (by blk_simp [idx10])
  blk_simp [idx10]
  rw [hy]
  refine (congrArg (outsAt0 m c t.val t.isLt).2.2.1 (ValueIdx.eq_ix2 (n0 := 256) (n1 := 1024) y)).trans ?_
  refine ((left m c t.val t.isLt).o10 (y 0) (y 1)).trans ?_
  rw [zRow_at m c t (y 0).val (y 0).isLt, inRow_at (31 - t.val) (y 0)]
  rfl

/-- The last grid point. -/
@[irreducible] def tEnd : Fin cfg0.N := ⟨31, last_lt⟩

theorem tEnd_eq : tEnd = ⟨31, last_lt⟩ := by unfold tEnd; rfl

theorem zEnd (c : Dev nD) : zAt m c tEnd.val tEnd.isLt = zRow m c 0 := by rw [tEnd_eq]; rfl

theorem arr11 (c : Dev nD) : (dats m 0 c).arrAt 11 cfg0.N = fun y : S3x5632.Idx => dcw (zRow m c 0) (y 0) (y 1) := by
  refine (dats m 0 c).arrAt_eq_of_after_last 11 tEnd (by decide +kernel) _ fun j => ?_
  rw [after0_11]
  blk_simp
  rw [← zEnd]
  exact congrFun (left m c tEnd.val tEnd.isLt).o11 j

theorem arr12 (c : Dev nD) : (dats m 0 c).arrAt 12 cfg0.N = fun y : S1x5632.Idx => dcb (zRow m c 0) (y 1) := by
  refine (dats m 0 c).arrAt_eq_of_after_last 12 tEnd (by decide +kernel) _ fun j => ?_
  rw [after0_12]
  blk_simp
  rw [← zEnd]
  exact congrFun (left m c tEnd.val tEnd.isLt).o12 j

theorem arr13 (c : Dev nD) : (dats m 0 c).arrAt 13 cfg0.N = fun y : S1x1024.Idx => dn (zRow m c 0) (y 1) := by
  refine (dats m 0 c).arrAt_eq_of_after_last 13 tEnd (by decide +kernel) _ fun j => ?_
  rw [after0_13]
  blk_simp
  rw [← zEnd]
  exact congrFun (left m c tEnd.val tEnd.isLt).o13 j

end Cert.KernelIdeal.Blk

end
-- ==== Proof.Ffn.Host.lean ====
/- What the kernel's host operations hand to the grid: the input blocks at an index, over the arguments and the
   reference's forward values. -/
module

public import proofs.«01_k».proof.Proof.Ffn.Outs
public import proofs.«01_k».proof.Proof.Gen.ReferenceIdeal.Read
public import Idealize.ShloMosaic.Lib.StableHlo.RunRead
public import Idealize.ShloMosaic.Lib.Pipeline.ValueKit

@[expose] public section

set_option maxRecDepth 16384

noncomputable section

namespace Cert.KernelIdeal.Blk

open Cert.KernelIdeal Cert.KernelIdeal.Gen Idealize.ShloMosaic Idealize.ShloMosaic.TcCoe Idealize.SL.Sem
open Cert.ReferenceIdeal.Read (val_main_v16 val_main_v45 val_main_v46 val_main_v47_0 val_main_v47_2)

variable (m : (ℓ : Loc nD τ sig) → Buf (Elt Ideal) ℓ)

/-! ## The arguments -/

abbrev A0 (c : Dev nD) : IV S8192x1024 .f32 := m (c.tc.loc main_arg0)
abbrev A1 (c : Dev nD) : IV S8192x1024 .f32 := m (c.tc.loc main_arg1)
abbrev A2 (c : Dev nD) : IV S1024 .f32 := m (c.tc.loc main_arg2)
abbrev A3 (c : Dev nD) : IV S1024x5632 .f32 := m (c.tc.loc main_arg3)
abbrev A4 (c : Dev nD) : IV S3x5632 .f32 := m (c.tc.loc main_arg4)
abbrev A5 (c : Dev nD) : IV S5632 .f32 := m (c.tc.loc main_arg5)
abbrev A6 (c : Dev nD) : IV S2816x1024 .f32 := m (c.tc.loc main_arg6)

/-! ## The host's arrays -/

theorem V13 (c : Dev nD) : V m c main_v13 = val_main_v16 (F := Ideal) (A1 m c) (A2 m c) (A3 m c) := by
  unfold V hostOps0
  after_reads_simp
  rfl

theorem V41 (c : Dev nD) : V m c main_v41 = val_main_v45 (F := Ideal) (A1 m c) (A2 m c) (A3 m c) (A4 m c) (A5 m c) := by
  unfold V hostOps0
  after_reads_simp
  rfl

theorem V42 (c : Dev nD) : V m c main_v42 = val_main_v46 (F := Ideal) (A1 m c) (A2 m c) (A3 m c) (A4 m c) (A5 m c) := by
  unfold V hostOps0
  after_reads_simp
  rfl

theorem V48 (c : Dev nD) : V m c main_v48 = val_main_v47_2 (F := Ideal) (A1 m c) (A2 m c) (A3 m c) (A4 m c) (A5 m c) := by
  unfold V hostOps0
  after_reads_simp
  rfl

theorem V49 (c : Dev nD) : V m c main_v49 = val_main_v47_0 (F := Ideal) (A1 m c) (A2 m c) (A3 m c) (A4 m c) (A5 m c) := by
  unfold V hostOps0
  after_reads_simp
  rfl

theorem one_f32 : Ideal.ofBits .f32 0x3F800000#32 = 1 := by
  simp [Ideal.ofBits, Ideal.ieee, -EReal.coe_mul]; norm_num

theorem V50 (c : Dev nD) (i : S8192x2816.Idx) : (V m c main_v50 : IV S8192x2816 .f32) i = (1 : EReal) := by
  have : (V m c main_v50 : IV S8192x2816 .f32) i = Ideal.ofBits .f32 0x3F800000#32 := by
    unfold V hostOps0
    after_reads_simp
    rfl
  rw [this, one_f32]

theorem V53 (c : Dev nD) (i : S8192x2816.Idx) : (V m c main_v53 : IV S8192x2816 .f32) i = (1 : EReal) := by
  have : (V m c main_v53 : IV S8192x2816 .f32) i = Ideal.ofBits .f32 0x3F800000#32 := by
    unfold V hostOps0
    after_reads_simp
    rfl
  rw [this, one_f32]

theorem V55 (c : Dev nD) (i : S8192x2816.Idx) : (V m c main_v55 : IV S8192x2816 .f32) i
    = val_main_v47_2 (F := Ideal) (A1 m c) (A2 m c) (A3 m c) (A4 m c) (A5 m c) i * ((1 : EReal) + val_main_v45 (F := Ideal) (A1 m c) (A2 m c) (A3 m c) (A4 m c) (A5 m c) i * ((1 : EReal) - val_main_v47_2 (F := Ideal) (A1 m c) (A2 m c) (A3 m c) (A4 m c) (A5 m c) i)) := by
  have e : (V m c main_v55 : IV S8192x2816 .f32) = (mulf (F := Ideal) (φ := .f32) (V m c main_v48 : IV S8192x2816 .f32)
      (addf (F := Ideal) (φ := .f32) (V m c main_v53 : IV S8192x2816 .f32) (mulf (F := Ideal) (φ := .f32) (V m c main_v41 : IV S8192x2816 .f32)
        (subf (F := Ideal) (φ := .f32) (V m c main_v50 : IV S8192x2816 .f32) (V m c main_v48 : IV S8192x2816 .f32)))) : IV S8192x2816 .f32) := by
    unfold V hostOps0
    after_reads_simp
  rw [e, V48, V41]
  exact congrArg₂ (fun a b : EReal => val_main_v47_2 (F := Ideal) (A1 m c) (A2 m c) (A3 m c) (A4 m c) (A5 m c) i * (a + val_main_v45 (F := Ideal) (A1 m c) (A2 m c) (A3 m c) (A4 m c) (A5 m c) i * (b - val_main_v47_2 (F := Ideal) (A1 m c) (A2 m c) (A3 m c) (A4 m c) (A5 m c) i))) (V53 m c i) (V50 m c i)

theorem V58 (c : Dev nD) : (V m c main_v58 : IV S8192x11264 .bf16) = truncf (F := Ideal) .bf16 (concatenate S8192x11264 1 [⟨S8192x2816, (V m c main_v42 : IV S8192x2816 .f32)⟩, ⟨S8192x2816, (V m c main_v49 : IV S8192x2816 .f32)⟩, ⟨S8192x2816, (V m c main_v55 : IV S8192x2816 .f32)⟩, ⟨S8192x2816, (V m c main_v56 : IV S8192x2816 .f32)⟩] concatenates_S8192x2816_S8192x2816_S8192x2816_S8192x2816_S8192x11264_d1) bitsLt_bf16_f32 := by
  unfold V hostOps0
  after_reads_simp
  rfl

theorem V62 (c : Dev nD) : (V m c main_v62 : IV S8192x5632 .bf16) = truncf (F := Ideal) .bf16 (V m c main_v13 : IV S8192x5632 .f32) bitsLt_bf16_f32 := by
  unfold V hostOps0
  after_reads_simp

theorem V64 (c : Dev nD) : (V m c main_v64 : IV S2816x1024 .bf16) = A6 m c := by
  have : (V m c main_v64 : IV S2816x1024 .bf16) = truncf (F := Ideal) .bf16 (A6 m c) bitsLt_bf16_f32 := by
    unfold V hostOps0
    after_reads_simp
  rw [this]
  rfl

theorem V63 (c : Dev nD) (k : Fin 1024) : (V m c main_v63 : IV S1x1024 .f32) (ValueIdx.ix2 0 k) = A2 m c (ValueIdx.ix1 k) := by
  have : (V m c main_v63 : IV S1x1024 .f32) = shapeCast S1x1024 (A2 m c) shapeCasts_S1024_S1x1024 := by
    unfold V hostOps0
    after_reads_simp
    rfl
  rw [this]
  exact shapeCast_apply _ shapeCasts_S1024_S1x1024 (ValueIdx.ix2 0 k) (ValueIdx.ix1 k) (by simp [Shape.rowMajor_val_two, Shape.rowMajor_val_one])

theorem V61 (c : Dev nD) (b : Fin 4) (k : Fin 1024) (q : Fin 1408) : (V m c main_v61 : IV S4x1024x1408 .bf16) (ValueIdx.ix3 b k q) = A3 m c (ValueIdx.ix2 k (col b q)) := by
  have : (V m c main_v61 : IV S4x1024x1408 .bf16) = truncf (F := Ideal) .bf16 (transpose S4x1024x1408 [1, 0, 2] (shapeCast S1024x4x1408 (A3 m c) shapeCasts_S1024x5632_S1024x4x1408) transposes_S1024x4x1408_S4x1024x1408_1_0_2) bitsLt_bf16_f32 := by
    unfold V hostOps0
    after_reads_simp
    rfl
  rw [this, ValueIdx.truncf_apply]
  refine (transpose_apply [1, 0, 2] _ transposes_S1024x4x1408_S4x1024x1408_1_0_2 (ValueIdx.ix3 b k q) (ValueIdx.ix3 k b q) fun d => ?_).trans ?_
  · match d with
    | ⟨0, _⟩ => rfl
    | ⟨1, _⟩ => rfl
    | ⟨2, _⟩ => rfl
  · exact shapeCast_apply _ shapeCasts_S1024x5632_S1024x4x1408 (ValueIdx.ix3 k b q) (ValueIdx.ix2 k (col b q))
      (by simp [Shape.rowMajor_val_two, Shape.rowMajor_val_three, col]; ring)

/-! ## The blocks -/

/-- Row `r` of point `n`'s tile, as a row of the arrays. -/
def gi (n : ℕ) (r : Fin 256) : Fin 8192 := ⟨(31 - n) * 256 + r.val, by have := r.isLt; omega⟩

theorem idx0 : ∀ t : Fin cfg0.N, win0_0.index t = ![31 - t.val, 0] :=
  (by decide +kernel : ∀ t : Fin grid0.N, _)

theorem idx1 : ∀ t : Fin cfg0.N, win0_1.index t = ![31 - t.val, 0] :=
  (by decide +kernel : ∀ t : Fin grid0.N, _)

theorem idx2 : ∀ t : Fin cfg0.N, win0_2.index t = ![31 - t.val, 0] :=
  (by decide +kernel : ∀ t : Fin grid0.N, _)

theorem idx3 : ∀ t : Fin cfg0.N, win0_3.index t = ![31 - t.val, 0] :=
  (by decide +kernel : ∀ t : Fin grid0.N, _)

theorem idx4 : ∀ t : Fin cfg0.N, win0_4.index t = ![31 - t.val, 1] :=
  (by decide +kernel : ∀ t : Fin grid0.N, _)

theorem idx5 : ∀ t : Fin cfg0.N, win0_5.index t = ![31 - t.val, 2] :=
  (by decide +kernel : ∀ t : Fin grid0.N, _)

theorem idx6 : ∀ t : Fin cfg0.N, win0_6.index t = ![0, 0] :=
  (by decide +kernel : ∀ t : Fin grid0.N, _)

theorem idx7 : ∀ t : Fin cfg0.N, win0_7.index t = ![0, 0] :=
  (by decide +kernel : ∀ t : Fin grid0.N, _)

theorem z_dout_raw (c : Dev nD) (n : ℕ) (h : n < cfg0.N) (r : Fin 256) (q : Fin 1024) :
    (zAt m c n h).dout (ValueIdx.ix2 r q) = (V m c main_arg0 : IV S8192x1024 .f32) (ValueIdx.ix2 (gi n r) q) := by
  have e : (zAt m c n h).dout = iblk m c 0 ⟨n, h⟩ := by cases n <;> rfl
  rw [e]
  have hn : n < 32 := lt_of_lt_of_eq h (show cfg0.N = 32 from N_0)
  blk_simp [iblk]
  refine congrArg (V m c main_arg0 : IV S8192x1024 .f32) ?_
  funext a
  apply Fin.ext
  match a with
  | ⟨0, _⟩ => blk_simp [idx0] <;> rfl
  | ⟨1, _⟩ => blk_simp [idx0] <;> rfl

theorem z_h_raw (c : Dev nD) (n : ℕ) (h : n < cfg0.N) (r : Fin 256) (q : Fin 1024) :
    (zAt m c n h).h (ValueIdx.ix2 r q) = (V m c main_arg1 : IV S8192x1024 .f32) (ValueIdx.ix2 (gi n r) q) := by
  have e : (zAt m c n h).h = iblk m c 1 ⟨n, h⟩ := by cases n <;> rfl
  rw [e]
  have hn : n < 32 := lt_of_lt_of_eq h (show cfg0.N = 32 from N_0)
  blk_simp [iblk]
  refine congrArg (V m c main_arg1 : IV S8192x1024 .f32) ?_
  funext a
  apply Fin.ext
  match a with
  | ⟨0, _⟩ => blk_simp [idx1] <;> rfl
  | ⟨1, _⟩ => blk_simp [idx1] <;> rfl

theorem z_hh_raw (c : Dev nD) (n : ℕ) (h : n < cfg0.N) (r : Fin 256) (q : Fin 5632) :
    (zAt m c n h).hh (ValueIdx.ix2 r q) = (V m c main_v62 : IV S8192x5632 .bf16) (ValueIdx.ix2 (gi n r) q) := by
  have e : (zAt m c n h).hh = iblk m c 2 ⟨n, h⟩ := by cases n <;> rfl
  rw [e]
  have hn : n < 32 := lt_of_lt_of_eq h (show cfg0.N = 32 from N_0)
  blk_simp [iblk]
  refine congrArg (V m c main_v62 : IV S8192x5632 .bf16) ?_
  funext a
  apply Fin.ext
  match a with
  | ⟨0, _⟩ => blk_simp [idx2] <;> rfl
  | ⟨1, _⟩ => blk_simp [idx2] <;> rfl

theorem z_u_raw (c : Dev nD) (n : ℕ) (h : n < cfg0.N) (r : Fin 256) (q : Fin 2816) :
    (zAt m c n h).u (ValueIdx.ix2 r q) = (V m c main_v58 : IV S8192x11264 .bf16) (ValueIdx.ix2 (gi n r) ⟨q.val, by omega⟩) := by
  have e : (zAt m c n h).u = iblk m c 3 ⟨n, h⟩ := by cases n <;> rfl
  rw [e]
  have hn : n < 32 := lt_of_lt_of_eq h (show cfg0.N = 32 from N_0)
  blk_simp [iblk]
  refine congrArg (V m c main_v58 : IV S8192x11264 .bf16) ?_
  funext a
  apply Fin.ext
  match a with
  | ⟨0, _⟩ => blk_simp [idx3] <;> rfl
  | ⟨1, _⟩ => blk_simp [idx3] <;> rfl

theorem z_sil_raw (c : Dev nD) (n : ℕ) (h : n < cfg0.N) (r : Fin 256) (q : Fin 2816) :
    (zAt m c n h).sil (ValueIdx.ix2 r q) = (V m c main_v58 : IV S8192x11264 .bf16) (ValueIdx.ix2 (gi n r) ⟨2816 + q.val, by omega⟩) := by
  have e : (zAt m c n h).sil = iblk m c 4 ⟨n, h⟩ := by cases n <;> rfl
  rw [e]
  have hn : n < 32 := lt_of_lt_of_eq h (show cfg0.N = 32 from N_0)
  blk_simp [iblk]
  refine congrArg (V m c main_v58 : IV S8192x11264 .bf16) ?_
  funext a
  apply Fin.ext
  match a with
  | ⟨0, _⟩ => blk_simp [idx4] <;> rfl
  | ⟨1, _⟩ => blk_simp [idx4] <;> rfl

theorem z_dsil_raw (c : Dev nD) (n : ℕ) (h : n < cfg0.N) (r : Fin 256) (q : Fin 2816) :
    (zAt m c n h).dsil (ValueIdx.ix2 r q) = (V m c main_v58 : IV S8192x11264 .bf16) (ValueIdx.ix2 (gi n r) ⟨5632 + q.val, by omega⟩) := by
  have e : (zAt m c n h).dsil = iblk m c 5 ⟨n, h⟩ := by cases n <;> rfl
  rw [e]
  have hn : n < 32 := lt_of_lt_of_eq h (show cfg0.N = 32 from N_0)
  blk_simp [iblk]
  refine congrArg (V m c main_v58 : IV S8192x11264 .bf16) ?_
  funext a
  apply Fin.ext
  match a with
  | ⟨0, _⟩ => blk_simp [idx5] <;> rfl
  | ⟨1, _⟩ => blk_simp [idx5] <;> rfl

theorem z_n_raw (c : Dev nD) (n : ℕ) (h : n < cfg0.N) (r : Fin 1) (q : Fin 1024) :
    (zAt m c n h).n (ValueIdx.ix2 r q) = (V m c main_v63 : IV S1x1024 .f32) (ValueIdx.ix2 r q) := by
  have e : (zAt m c n h).n = iblk m c 6 ⟨n, h⟩ := by cases n <;> rfl
  rw [e]
  have hn : n < 32 := lt_of_lt_of_eq h (show cfg0.N = 32 from N_0)
  blk_simp [iblk]
  refine congrArg (V m c main_v63 : IV S1x1024 .f32) ?_
  funext a
  apply Fin.ext
  match a with
  | ⟨0, _⟩ => blk_simp [idx6] <;> rfl
  | ⟨1, _⟩ => blk_simp [idx6] <;> rfl

theorem z_cw_raw (c : Dev nD) (n : ℕ) (h : n < cfg0.N) (r : Fin 3) (q : Fin 5632) :
    (zAt m c n h).cw (ValueIdx.ix2 r q) = (V m c main_arg4 : IV S3x5632 .f32) (ValueIdx.ix2 r q) := by
  have e : (zAt m c n h).cw = iblk m c 7 ⟨n, h⟩ := by cases n <;> rfl
  rw [e]
  have hn : n < 32 := lt_of_lt_of_eq h (show cfg0.N = 32 from N_0)
  blk_simp [iblk]
  refine congrArg (V m c main_arg4 : IV S3x5632 .f32) ?_
  funext a
  apply Fin.ext
  match a with
  | ⟨0, _⟩ => blk_simp [idx7] <;> rfl
  | ⟨1, _⟩ => blk_simp [idx7] <;> rfl

theorem cat_0 (x0 x1 x2 x3 : IV S8192x2816 .f32) (i : Fin 8192) (q : Fin 2816) :
    concatenate S8192x11264 1 [⟨S8192x2816, x0⟩, ⟨S8192x2816, x1⟩, ⟨S8192x2816, x2⟩, ⟨S8192x2816, x3⟩]
      concatenates_S8192x2816_S8192x2816_S8192x2816_S8192x2816_S8192x11264_d1 (ValueIdx.ix2 i ⟨q.val, by omega⟩) = x0 (ValueIdx.ix2 i q) :=
  concatenate_apply_piece (t := S8192x11264) 1 [⟨S8192x2816, x0⟩, ⟨S8192x2816, x1⟩, ⟨S8192x2816, x2⟩, ⟨S8192x2816, x3⟩]
    concatenates_S8192x2816_S8192x2816_S8192x2816_S8192x2816_S8192x11264_d1 (ValueIdx.ix2 i ⟨q.val, by omega⟩)
    0 (by simp) S8192x2816 x0 rfl rfl 0 rfl (ValueIdx.ix2 i q)
    (fun b hb => by
      match b with
      | ⟨0, _⟩ => rfl
      | ⟨1, _⟩ => exact absurd rfl hb)
    (by first | rfl | exact Nat.zero_add _)

theorem V58_0 (c : Dev nD) (i : Fin 8192) (q : Fin 2816) : (V m c main_v58 : IV S8192x11264 .bf16) (ValueIdx.ix2 i ⟨q.val, by omega⟩)
    = (V m c main_v42 : IV S8192x2816 .f32) (ValueIdx.ix2 i q) := by
  rw [V58]
  exact cat_0 _ _ _ _ i q

theorem cat_1 (x0 x1 x2 x3 : IV S8192x2816 .f32) (i : Fin 8192) (q : Fin 2816) :
    concatenate S8192x11264 1 [⟨S8192x2816, x0⟩, ⟨S8192x2816, x1⟩, ⟨S8192x2816, x2⟩, ⟨S8192x2816, x3⟩]
      concatenates_S8192x2816_S8192x2816_S8192x2816_S8192x2816_S8192x11264_d1 (ValueIdx.ix2 i ⟨2816 + q.val, by omega⟩) = x1 (ValueIdx.ix2 i q) :=
  concatenate_apply_piece (t := S8192x11264) 1 [⟨S8192x2816, x0⟩, ⟨S8192x2816, x1⟩, ⟨S8192x2816, x2⟩, ⟨S8192x2816, x3⟩]
    concatenates_S8192x2816_S8192x2816_S8192x2816_S8192x2816_S8192x11264_d1 (ValueIdx.ix2 i ⟨2816 + q.val, by omega⟩)
    1 (by simp) S8192x2816 x1 rfl rfl 2816 rfl (ValueIdx.ix2 i q)
    (fun b hb => by
      match b with
      | ⟨0, _⟩ => rfl
      | ⟨1, _⟩ => exact absurd rfl hb)
    (by first | rfl | exact Nat.zero_add _)

theorem V58_1 (c : Dev nD) (i : Fin 8192) (q : Fin 2816) : (V m c main_v58 : IV S8192x11264 .bf16) (ValueIdx.ix2 i ⟨2816 + q.val, by omega⟩)
    = (V m c main_v49 : IV S8192x2816 .f32) (ValueIdx.ix2 i q) := by
  rw [V58]
  exact cat_1 _ _ _ _ i q

theorem cat_2 (x0 x1 x2 x3 : IV S8192x2816 .f32) (i : Fin 8192) (q : Fin 2816) :
    concatenate S8192x11264 1 [⟨S8192x2816, x0⟩, ⟨S8192x2816, x1⟩, ⟨S8192x2816, x2⟩, ⟨S8192x2816, x3⟩]
      concatenates_S8192x2816_S8192x2816_S8192x2816_S8192x2816_S8192x11264_d1 (ValueIdx.ix2 i ⟨5632 + q.val, by omega⟩) = x2 (ValueIdx.ix2 i q) :=
  concatenate_apply_piece (t := S8192x11264) 1 [⟨S8192x2816, x0⟩, ⟨S8192x2816, x1⟩, ⟨S8192x2816, x2⟩, ⟨S8192x2816, x3⟩]
    concatenates_S8192x2816_S8192x2816_S8192x2816_S8192x2816_S8192x11264_d1 (ValueIdx.ix2 i ⟨5632 + q.val, by omega⟩)
    2 (by simp) S8192x2816 x2 rfl rfl 5632 rfl (ValueIdx.ix2 i q)
    (fun b hb => by
      match b with
      | ⟨0, _⟩ => rfl
      | ⟨1, _⟩ => exact absurd rfl hb)
    (by first | rfl | exact Nat.zero_add _)

theorem V58_2 (c : Dev nD) (i : Fin 8192) (q : Fin 2816) : (V m c main_v58 : IV S8192x11264 .bf16) (ValueIdx.ix2 i ⟨5632 + q.val, by omega⟩)
    = (V m c main_v55 : IV S8192x2816 .f32) (ValueIdx.ix2 i q) := by
  rw [V58]
  exact cat_2 _ _ _ _ i q

theorem z_dout (c : Dev nD) (n : ℕ) (h : n < cfg0.N) (r : Fin 256) (k : Fin 1024) : (zAt m c n h).dout (ValueIdx.ix2 r k) = A0 m c (ValueIdx.ix2 (gi n r) k) := by
  rw [z_dout_raw, V_main_arg0]

theorem z_h (c : Dev nD) (n : ℕ) (h : n < cfg0.N) (r : Fin 256) (k : Fin 1024) : (zAt m c n h).h (ValueIdx.ix2 r k) = A1 m c (ValueIdx.ix2 (gi n r) k) := by
  rw [z_h_raw, V_main_arg1]

theorem z_hh (c : Dev nD) (n : ℕ) (h : n < cfg0.N) (r : Fin 256) (q : Fin 5632) : (zAt m c n h).hh (ValueIdx.ix2 r q) = val_main_v16 (F := Ideal) (A1 m c) (A2 m c) (A3 m c) (ValueIdx.ix2 (gi n r) q) := by
  rw [z_hh_raw, V62, V13]
  rfl

theorem z_u (c : Dev nD) (n : ℕ) (h : n < cfg0.N) (r : Fin 256) (q : Fin 2816) : (zAt m c n h).u (ValueIdx.ix2 r q) = val_main_v46 (F := Ideal) (A1 m c) (A2 m c) (A3 m c) (A4 m c) (A5 m c) (ValueIdx.ix2 (gi n r) q) := by
  rw [z_u_raw, V58_0, V42]

theorem z_sil (c : Dev nD) (n : ℕ) (h : n < cfg0.N) (r : Fin 256) (q : Fin 2816) : (zAt m c n h).sil (ValueIdx.ix2 r q) = val_main_v47_0 (F := Ideal) (A1 m c) (A2 m c) (A3 m c) (A4 m c) (A5 m c) (ValueIdx.ix2 (gi n r) q) := by
  rw [z_sil_raw, V58_1, V49]

theorem z_dsil (c : Dev nD) (n : ℕ) (h : n < cfg0.N) (r : Fin 256) (q : Fin 2816) : (zAt m c n h).dsil (ValueIdx.ix2 r q) = (val_main_v47_2 (F := Ideal) (A1 m c) (A2 m c) (A3 m c) (A4 m c) (A5 m c) (ValueIdx.ix2 (gi n r) q)
    * ((1 : EReal) + val_main_v45 (F := Ideal) (A1 m c) (A2 m c) (A3 m c) (A4 m c) (A5 m c) (ValueIdx.ix2 (gi n r) q) * ((1 : EReal) - val_main_v47_2 (F := Ideal) (A1 m c) (A2 m c) (A3 m c) (A4 m c) (A5 m c) (ValueIdx.ix2 (gi n r) q))) : EReal) := by
  rw [z_dsil_raw, V58_2, V55]

theorem z_n (c : Dev nD) (n : ℕ) (h : n < cfg0.N) (k : Fin 1024) : (zAt m c n h).n (ValueIdx.ix2 0 k) = A2 m c (ValueIdx.ix1 k) := by
  rw [z_n_raw, V63]

theorem z_cw (c : Dev nD) (n : ℕ) (h : n < cfg0.N) (i : Fin 3) (q : Fin 5632) : (zAt m c n h).cw (ValueIdx.ix2 i q) = A4 m c (ValueIdx.ix2 i q) := by
  rw [z_cw_raw, V_main_arg4]

theorem z_up (c : Dev nD) (n : ℕ) (h : n < cfg0.N) (k : Fin 1024) (q : Fin 5632) : (zAt m c n h).up (ValueIdx.ix3 (cblk q) k (coff q)) = A3 m c (ValueIdx.ix2 k q) := by
  have e : (zAt m c n h).up = V m c main_v61 := by cases n <;> rfl
  rw [e, V61, col_eta]

theorem z_down (c : Dev nD) (n : ℕ) (h : n < cfg0.N) (q : Fin 2816) (k : Fin 1024) : (zAt m c n h).down (ValueIdx.ix2 q k) = A6 m c (ValueIdx.ix2 q k) := by
  have e : (zAt m c n h).down = V m c main_v64 := by cases n <;> rfl
  rw [e, V64]

end Cert.KernelIdeal.Blk

end
-- ==== Proof.Ffn.Reals.lean ====
/- Extended reals that are real numbers: the closure lemmas the value proofs use, the constants of the
   programs, and the two identities of the backward pass that need distributivity. -/
module

public import Idealize.ShloMosaic.PureOps.Ideal
public import Idealize.ShloMosaic.PureOps.Ideal.Laws
public import Idealize.ShloMosaic.Lib.IdealHost

@[expose] public section

noncomputable section

namespace Ffn

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem IsReal.sub {x y : EReal} (hx : IsReal x) (hy : IsReal y) : IsReal (x - y) := by
  obtain ⟨a, rfl⟩ := hx; obtain ⟨b, rfl⟩ := hy; exact ⟨a - b, by push_cast; rfl⟩

theorem IsReal.sum {ι : Type*} (s : Finset ι) (f : ι → EReal) (h : ∀ i, IsReal (f i)) : IsReal (∑ i ∈ s, f i) :=
  Finset.sum_induction f IsReal (fun _ _ => IsReal.add) isReal_zero (fun i _ => h i)

theorem IsReal.of_lt {x : EReal} (h1 : x < ⊤) (h2 : ⊥ < x) : IsReal x := by
  induction x using EReal.rec with
  | bot => exact absurd h2 (lt_irrefl _)
  | top => exact absurd h1 (lt_irrefl _)
  | coe r => exact ⟨r, rfl⟩

theorem isReal_logistic {x : EReal} (hx : IsReal x) : IsReal (Ideal.logistic x) := by
  obtain ⟨a, rfl⟩ := hx; exact ⟨_, Ideal.logistic_coe a⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The constants -/

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

/-- The epsilon of the norm: a positive real. -/
theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-! ## The norm's factor -/

/-- `rsqrt` of a positive real `s`: a real whose square is `1 / s`. -/
theorem rsqrt_of_pos {s : ℝ} (hs : 0 < s) : ∃ r : ℝ, Ideal.rsqrt (s : EReal) = (r : EReal) ∧ r * r = 1 / s := by
  refine ⟨(Real.sqrt s)⁻¹, ?_, ?_⟩
  · rw [Ideal.rsqrt_coe, if_neg (not_lt.mpr hs.le), if_neg hs.ne']
  · rw [← mul_inv, Real.mul_self_sqrt hs.le, one_div]

/-- The mean of the squares plus epsilon is a positive real. -/
theorem mean_sq_pos {n : ℕ} (x : Fin n → EReal) (hx : ∀ k, IsReal (x k)) :
    ∃ s : ℝ, 0 < s ∧ Ideal.div (∑ k, x k * x k) (Ideal.ofBits .f32 0x44800000#32) + Ideal.ofBits .f32 0x358637BD#32
      = (s : EReal) := by
  choose a ha using hx
  obtain ⟨e, he, hE⟩ := ofBits_eps
  refine ⟨(∑ k, a k * a k) * (1 / 1024) + e, ?_, ?_⟩
  · have : 0 ≤ ∑ k, a k * a k := Finset.sum_nonneg fun k _ => mul_self_nonneg _
    positivity
  · rw [hE, ofBits_1024, Ideal.div_coe (by norm_num), EReal.coe_add, EReal.coe_mul, coe_sum]
    simp only [ha, EReal.coe_mul]

/-- The backward pass of the norm along one row: the three terms the reference adds are the kernel's one product. -/
theorem norm_back {n : ℕ} (x d : Fin n → EReal) (hx : ∀ k, IsReal (x k)) (hd : ∀ k, IsReal (d k)) {s : ℝ} (hs : 0 < s) (k : Fin n) :
    d k * Ideal.rsqrt (s : EReal)
        + x k * Ideal.div ((∑ j, x j * d j) * (Ideal.ofBits .f32 0xBF000000#32 * Ideal.div (Ideal.rsqrt (s : EReal)) (s : EReal)))
            (Ideal.ofBits .f32 0x44800000#32)
        + Ideal.div ((∑ j, x j * d j) * (Ideal.ofBits .f32 0xBF000000#32 * Ideal.div (Ideal.rsqrt (s : EReal)) (s : EReal)))
            (Ideal.ofBits .f32 0x44800000#32) * x k
      = Ideal.rsqrt (s : EReal) * (d k - (x k * Ideal.rsqrt (s : EReal))
          * Ideal.div (∑ j, d j * (x j * Ideal.rsqrt (s : EReal))) (Ideal.ofBits .f32 0x44800000#32)) := by
  choose a ha using hx
  choose b hb using hd
  obtain ⟨r, hr, hrr⟩ := rsqrt_of_pos hs
  have hsum : ∑ j, b j * (a j * r) = (∑ j, a j * b j) * r := by
    rw [Finset.sum_mul]; exact Finset.sum_congr rfl fun j _ => by ring
  rw [hr, ofBits_1024, ofBits_neg_half, Ideal.div_coe hs.ne', Ideal.div_coe (by norm_num), Ideal.div_coe (by norm_num)]
  simp only [ha, hb, ← EReal.coe_mul, ← coe_sum, ← EReal.coe_add, ← EReal.coe_sub, hsum]
  congr 1
  rw [← hrr]
  ring

/-- The derivative of `g · logistic g`, as the kernel saves it and as the reference's pullback spells it. -/
theorem silu_back {d u g : EReal} (hd : IsReal d) (hu : IsReal u) (hg : IsReal g) :
    d * u * (Ideal.logistic g * (1 + g * (1 - Ideal.logistic g)))
      = d * u * Ideal.logistic g + g * (d * u) * (Ideal.logistic g * (1 - Ideal.logistic g)) := by
  obtain ⟨l, hl⟩ := isReal_logistic hg
  obtain ⟨d, rfl⟩ := hd; obtain ⟨u, rfl⟩ := hu; obtain ⟨g, rfl⟩ := hg
  rw [hl, ← EReal.coe_one]
  simp only [← EReal.coe_mul, ← EReal.coe_add, ← EReal.coe_sub]
  congr 1; ring

end Ffn

end
-- ==== Proof.Ffn.Ref.lean ====
/- What the reference computes, at an index: the chain of its host operations in the form the kernel's sums take. -/
module

public import proofs.«01_k».proof.Proof.Ffn.Reals
public import proofs.«01_k».proof.Proof.Gen.ReferenceIdeal.Read
public import Idealize.ShloMosaic.Lib.KernelVsHost
public import Idealize.ShloMosaic.Lib.ValueIdx
public import Idealize.ShloMosaic.Lib.Pipeline.Value

@[expose] public section

set_option maxRecDepth 16384

noncomputable section

namespace Cert.ReferenceIdeal.Ffn

open Cert.ReferenceIdeal Cert.ReferenceIdeal.Gen Cert.ReferenceIdeal.Read Idealize.ShloMosaic Idealize.ShloMosaic.ValueIdx Idealize.SL.Sem

/-! ## Indices and sums -/

theorem ext1 {m : ℕ} {a b : (⟨1, ![m]⟩ : Shape).Idx} (h0 : (a 0).val = (b 0).val) : a = b :=
  funext fun d => Fin.ext (by match d with | ⟨0, _⟩ => exact h0)

theorem ext2 {m n : ℕ} {a b : (⟨2, ![m, n]⟩ : Shape).Idx} (h0 : (a 0).val = (b 0).val) (h1 : (a 1).val = (b 1).val) : a = b :=
  funext fun d => Fin.ext (by match d with | ⟨0, _⟩ => exact h0 | ⟨1, _⟩ => exact h1)

theorem zero_f32 : Ideal.ofBits .f32 0x00000000#32 = 0 := by
  simp [Ideal.ofBits, Ideal.ieee]

theorem one_f32 : Ideal.ofBits .f32 0x3F800000#32 = 1 := by
  simp [Ideal.ofBits, Ideal.ieee, -EReal.coe_mul]; norm_num

/-- A sum against a function moved down by `s` rows is the sum against the other one moved up. -/
theorem sum_shift (f g : ℕ → EReal) (s N : ℕ) (hg : ∀ j, N ≤ j → g j = 0) :
    ∑ k : Fin N, (if s ≤ k.val then f (k.val - s) else 0) * g k.val = ∑ k : Fin N, g (k.val + s) * f k.val := by
  rw [← Finset.sum_range (fun k => (if s ≤ k then f (k - s) else 0) * g k), ← Finset.sum_range (fun k => g (k + s) * f k)]
  have e1 : ∑ k ∈ Finset.range (N + s), (if s ≤ k then f (k - s) else 0) * g k
      = ∑ k ∈ Finset.range N, (if s ≤ k then f (k - s) else 0) * g k := by
    rw [Finset.sum_range_add]
    have : ∑ x ∈ Finset.range s, (if s ≤ N + x then f (N + x - s) else 0) * g (N + x) = 0 :=
      Finset.sum_eq_zero fun x _ => by rw [hg (N + x) (Nat.le_add_right _ _), mul_zero]
    rw [this, add_zero]
  have e2 : ∑ k ∈ Finset.range (s + N), (if s ≤ k then f (k - s) else 0) * g k = ∑ k ∈ Finset.range N, g (k + s) * f k := by
    rw [Finset.sum_range_add]
    have : ∑ x ∈ Finset.range s, (if s ≤ x then f (x - s) else 0) * g x = 0 :=
      Finset.sum_eq_zero fun x hx => by rw [if_neg (by have := Finset.mem_range.mp hx; omega), zero_mul]
    rw [this, zero_add]
    refine Finset.sum_congr rfl fun x _ => ?_
    rw [if_pos (Nat.le_add_right _ _), Nat.add_sub_cancel_left, mul_comm, Nat.add_comm]
  rw [← e1, Nat.add_comm, e2]

variable (x0 x1 : Vec Ideal S8192x1024 .f32) (x2 : Vec Ideal S1024 .f32) (x3 : Vec Ideal S1024x5632 .f32) (x4 : Vec Ideal S3x5632 .f32) (x5 : Vec Ideal S5632 .f32)
  (x6 : Vec Ideal S2816x1024 .f32)

/-! ## The norm -/

/-- The reciprocal root of row `i`'s mean square. -/
def rs (i : Fin 8192) : EReal :=
  Ideal.rsqrt (Ideal.div (∑ k : Fin 1024, x1 (ix2 i k) * x1 (ix2 i k)) (Ideal.ofBits .f32 0x44800000#32)
    + Ideal.ofBits .f32 0x358637BD#32)

theorem v6_eq (i : Fin 8192) (k : Fin 1) : (val_main_v6 (F := Ideal) x1 (ix2 i k) : EReal)
    = Ideal.div (∑ k : Fin 1024, x1 (ix2 i k) * x1 (ix2 i k)) (Ideal.ofBits .f32 0x44800000#32) + Ideal.ofBits .f32 0x358637BD#32 := by
  have e : (val_main_v1 (F := Ideal) x1 (ix1 i) : EReal) = ∑ k : Fin 1024, x1 (ix2 i k) * x1 (ix2 i k) := by
    rw [val_main_v1_apply]
    refine (congrArg (· + _) zero_f32).trans ((zero_add _).trans ?_)
    exact Finset.sum_congr rfl fun k _ => congrArg (fun j => (x1 j * x1 j : EReal)) (ext2 rfl rfl)
  rw [← e]
  have e2 : val_main_v2 (F := Ideal) x1 (ix2 i k) = val_main_v1 (F := Ideal) x1 (ix1 i) := by
    rw [val_main_v2_apply]; exact congrArg _ (ext1 rfl)
  rw [← e2]
  rfl

theorem v7_eq (i : Fin 8192) (k : Fin 1) : (val_main_v7 (F := Ideal) x1 (ix2 i k) : EReal) = rs x1 i :=
  congrArg Ideal.rsqrt (v6_eq x1 i k)

theorem v12_eq (i : Fin 8192) (k : Fin 1024) : (val_main_v12 (F := Ideal) x1 (ix2 i k) : EReal) = x1 (ix2 i k) * rs x1 i := by
  have e : val_main_v11 (F := Ideal) x1 (ix2 i k) = val_main_v7 (F := Ideal) x1 (ix2 i 0) := by
    rw [val_main_v11_apply]; exact congrArg _ (ext2 rfl rfl)
  show (x1 (ix2 i k) : EReal) * val_main_v11 (F := Ideal) x1 (ix2 i k) = _
  rw [e, v7_eq]

theorem v14_eq (i : Fin 8192) (k : Fin 1024) : val_main_v14 (F := Ideal) x2 (ix2 i k) = x2 (ix1 k) := by
  rw [val_main_v14_apply, val_main_v13_apply]; exact congrArg _ (ext1 rfl)

theorem v15_eq (i : Fin 8192) (k : Fin 1024) : (val_main_v15 (F := Ideal) x1 x2 (ix2 i k) : EReal) = x1 (ix2 i k) * rs x1 i * x2 (ix1 k) := by
  show (val_main_v12 (F := Ideal) x1 (ix2 i k) : EReal) * val_main_v14 (F := Ideal) x2 (ix2 i k) = _
  rw [v12_eq, v14_eq]

/-! ## The convolution's rows -/

theorem v81_eq (i : Fin 8192) (q : Fin 5632) : val_main_v81 (F := Ideal) x4 (ix2 i q) = x4 (ix2 0 q) := by
  rw [val_main_v81_apply, val_main_v23_apply, val_main_v22_apply, val_main_v21_apply]
  exact congrArg x4 (ext2 rfl (Nat.mod_eq_of_lt q.isLt))

theorem v70_eq (i : Fin 8192) (q : Fin 5632) : val_main_v70 (F := Ideal) x4 (ix2 i q) = x4 (ix2 1 q) := by
  rw [val_main_v70_apply, val_main_v31_apply, val_main_v30_apply, val_main_v29_apply]
  exact congrArg x4 (ext2 rfl (Nat.mod_eq_of_lt q.isLt))

theorem v61_eq (i : Fin 8192) (q : Fin 5632) : val_main_v61 (F := Ideal) x4 (ix2 i q) = x4 (ix2 2 q) := by
  rw [val_main_v61_apply, val_main_v38_apply, val_main_v37_apply, val_main_v36_apply]
  exact congrArg x4 (ext2 rfl (Nat.mod_eq_of_lt q.isLt))

/-- The convolution's operand, row by row; zero past the last row. -/
def hhN (i : ℕ) (q : Fin 5632) : EReal := if h : i < 8192 then val_main_v16 (F := Ideal) x1 x2 x3 (ix2 ⟨i, h⟩ q) else 0

/-- The derivative at the convolution's result, row by row; zero past the last row. -/
def dcN (i : ℕ) (q : Fin 5632) : EReal := if h : i < 8192 then val_main_v54 (F := Ideal) x0 x1 x2 x3 x4 x5 x6 (ix2 ⟨i, h⟩ q) else 0

theorem hhN_val (i : Fin 8192) (q : Fin 5632) : hhN x1 x2 x3 i.val q = val_main_v16 (F := Ideal) x1 x2 x3 (ix2 i q) := dif_pos i.isLt

theorem dcN_val (i : Fin 8192) (q : Fin 5632) : dcN x0 x1 x2 x3 x4 x5 x6 i.val q = val_main_v54 (F := Ideal) x0 x1 x2 x3 x4 x5 x6 (ix2 i q) := dif_pos i.isLt

theorem v18_eq (j : Fin 8194) (q : Fin 5632) : (val_main_v18 (F := Ideal) x1 x2 x3 (ix2 j q) : EReal)
    = if 2 ≤ j.val then hhN x1 x2 x3 (j.val - 2) q else 0 := by
  unfold val_main_v18
  by_cases hj : 2 ≤ j.val
  · rw [if_pos hj]
    refine (concatenate_pair_apply_right (t := S8194x5632) 0 _ _ concatenates_S2x5632_S8192x5632_S8194x5632_d0 (ix2 j q) rfl rfl
      (ix2 ⟨j.val - 2, by omega⟩ q) (fun b hb => ?_) (by show j.val - 2 + 2 = j.val; omega)).trans ?_
    · match b with
      | ⟨0, _⟩ => exact absurd rfl hb
      | ⟨1, _⟩ => rfl
    · exact (hhN_val x1 x2 x3 ⟨j.val - 2, by omega⟩ q).symm
  · rw [if_neg hj]
    refine (concatenate_pair_apply_left (t := S8194x5632) 0 _ _ concatenates_S2x5632_S8192x5632_S8194x5632_d0 (ix2 j q) rfl
      (ix2 ⟨j.val, by omega⟩ q) (fun b => ?_)).trans ?_
    · match b with
      | ⟨0, _⟩ => rfl
      | ⟨1, _⟩ => rfl
    · rw [val_main_v17_apply]
      exact zero_f32

theorem v20_eq (i : Fin 8192) (q : Fin 5632) : (val_main_v20 (F := Ideal) x1 x2 x3 (ix2 i q) : EReal)
    = if 2 ≤ i.val then hhN x1 x2 x3 (i.val - 2) q else 0 := by
  rw [val_main_v20_apply]
  refine (congrArg (a₂ := ix2 ⟨0 + i.val, by omega⟩ q) (val_main_v18 (F := Ideal) x1 x2 x3) ?_).trans ?_
  · exact ext2 (by first | rfl | exact (Nat.zero_add _).symm | exact Nat.add_comm _ _) rfl
  rw [v18_eq]
  exact if_congr (by show 2 ≤ 0 + i.val ↔ 2 ≤ i.val; omega) (congrArg (fun j => hhN x1 x2 x3 j q) (by show 0 + i.val - 2 = i.val - 2; omega)) rfl

theorem v28_eq (i : Fin 8192) (q : Fin 5632) : (val_main_v28 (F := Ideal) x1 x2 x3 (ix2 i q) : EReal)
    = if 1 ≤ i.val then hhN x1 x2 x3 (i.val - 1) q else 0 := by
  rw [val_main_v28_apply]
  refine (congrArg (a₂ := ix2 ⟨1 + i.val, by omega⟩ q) (val_main_v18 (F := Ideal) x1 x2 x3) ?_).trans ?_
  · exact ext2 (by first | rfl | exact (Nat.zero_add _).symm | exact Nat.add_comm _ _) rfl
  rw [v18_eq]
  exact if_congr (by show 2 ≤ 1 + i.val ↔ 1 ≤ i.val; omega) (congrArg (fun j => hhN x1 x2 x3 j q) (by show 1 + i.val - 2 = i.val - 1; omega)) rfl

theorem v35_eq (i : Fin 8192) (q : Fin 5632) : (val_main_v35 (F := Ideal) x1 x2 x3 (ix2 i q) : EReal)
    = if 0 ≤ i.val then hhN x1 x2 x3 (i.val - 0) q else 0 := by
  rw [val_main_v35_apply]
  refine (congrArg (a₂ := ix2 ⟨2 + i.val, by omega⟩ q) (val_main_v18 (F := Ideal) x1 x2 x3) ?_).trans ?_
  · exact ext2 (by first | rfl | exact (Nat.zero_add _).symm | exact Nat.add_comm _ _) rfl
  rw [v18_eq]
  exact if_congr (by show 2 ≤ 2 + i.val ↔ 0 ≤ i.val; omega) (congrArg (fun j => hhN x1 x2 x3 j q) (by show 2 + i.val - 2 = i.val - 0; omega)) rfl

/-! ## The sums over the rows -/

theorem v84_eq (q : Fin 5632) : (val_main_v84 (F := Ideal) x0 x1 x2 x3 x4 x5 x6 (ix2 0 q) : EReal)
    = ∑ k : Fin 8192, dcN x0 x1 x2 x3 x4 x5 x6 (k.val + 2) q * hhN x1 x2 x3 k.val q := by
  rw [val_main_v84_apply, val_main_v83_apply]
  refine (congrArg (· + _) zero_f32).trans ((zero_add _).trans ?_)
  rw [Fin.sum_univ_one, val_main_v80_apply, val_main_v79_apply]
  refine (congrArg (· + _) zero_f32).trans ((zero_add _).trans ?_)
  refine Eq.trans ?_ (sum_shift (fun k => hhN x1 x2 x3 k q) (fun k => dcN x0 x1 x2 x3 x4 x5 x6 k q) 2 8192 fun j hj => dif_neg (by omega))
  refine Finset.sum_congr rfl fun k _ => ?_
  refine (congrArg (a₂ := ix2 k q) (val_main_v78 (F := Ideal) x0 x1 x2 x3 x4 x5 x6) ?_).trans ?_
  · exact ext2 rfl (by show 0 * 5632 + q.val = q.val; omega)
  show (val_main_v20 (F := Ideal) x1 x2 x3 (ix2 k q) : EReal) * val_main_v54 (F := Ideal) x0 x1 x2 x3 x4 x5 x6 (ix2 k q) = _
  rw [v20_eq, ← dcN_val]

theorem v85_eq (i : Fin 3) (q : Fin 5632) : (val_main_v85 (F := Ideal) x0 x1 x2 x3 x4 x5 x6 (ix2 i q) : EReal)
    = if i.val = 0 then ∑ k : Fin 8192, dcN x0 x1 x2 x3 x4 x5 x6 (k.val + (2 - i.val)) q * hhN x1 x2 x3 k.val q else 0 := by
  unfold val_main_v85
  by_cases hi : i.val = 0
  · rw [if_pos hi, hi]
    refine (pad_apply_of_inside _ _ _ _ _ _ _ (ix2 i q) (ix2 0 q) fun a => ?_).trans (v84_eq x0 x1 x2 x3 x4 x5 x6 q)
    match a with
    | ⟨0, _⟩ => show i.val = 0 + 0 * (0 + 1); omega
    | ⟨1, _⟩ => show q.val = 0 + q.val * (0 + 1); omega
  · rw [if_neg hi]
    refine (pad_apply_of_not_inside _ _ _ _ _ _ _ (ix2 i q) 0 ?_).trans zero_f32
    show ¬(0 ≤ i.val ∧ (i.val - 0) % (0 + 1) = 0 ∧ (i.val - 0) / (0 + 1) < 1)
    omega

theorem v73_eq (q : Fin 5632) : (val_main_v73 (F := Ideal) x0 x1 x2 x3 x4 x5 x6 (ix2 0 q) : EReal)
    = ∑ k : Fin 8192, dcN x0 x1 x2 x3 x4 x5 x6 (k.val + 1) q * hhN x1 x2 x3 k.val q := by
  rw [val_main_v73_apply, val_main_v72_apply]
  refine (congrArg (· + _) zero_f32).trans ((zero_add _).trans ?_)
  rw [Fin.sum_univ_one, val_main_v69_apply, val_main_v68_apply]
  refine (congrArg (· + _) zero_f32).trans ((zero_add _).trans ?_)
  refine Eq.trans ?_ (sum_shift (fun k => hhN x1 x2 x3 k q) (fun k => dcN x0 x1 x2 x3 x4 x5 x6 k q) 1 8192 fun j hj => dif_neg (by omega))
  refine Finset.sum_congr rfl fun k _ => ?_
  refine (congrArg (a₂ := ix2 k q) (val_main_v67 (F := Ideal) x0 x1 x2 x3 x4 x5 x6) ?_).trans ?_
  · exact ext2 rfl (by show 0 * 5632 + q.val = q.val; omega)
  show (val_main_v28 (F := Ideal) x1 x2 x3 (ix2 k q) : EReal) * val_main_v54 (F := Ideal) x0 x1 x2 x3 x4 x5 x6 (ix2 k q) = _
  rw [v28_eq, ← dcN_val]

theorem v74_eq (i : Fin 3) (q : Fin 5632) : (val_main_v74 (F := Ideal) x0 x1 x2 x3 x4 x5 x6 (ix2 i q) : EReal)
    = if i.val = 1 then ∑ k : Fin 8192, dcN x0 x1 x2 x3 x4 x5 x6 (k.val + (2 - i.val)) q * hhN x1 x2 x3 k.val q else 0 := by
  unfold val_main_v74
  by_cases hi : i.val = 1
  · rw [if_pos hi, hi]
    refine (pad_apply_of_inside _ _ _ _ _ _ _ (ix2 i q) (ix2 0 q) fun a => ?_).trans (v73_eq x0 x1 x2 x3 x4 x5 x6 q)
    match a with
    | ⟨0, _⟩ => show i.val = 1 + 0 * (0 + 1); omega
    | ⟨1, _⟩ => show q.val = 0 + q.val * (0 + 1); omega
  · rw [if_neg hi]
    refine (pad_apply_of_not_inside _ _ _ _ _ _ _ (ix2 i q) 0 ?_).trans zero_f32
    show ¬(1 ≤ i.val ∧ (i.val - 1) % (0 + 1) = 0 ∧ (i.val - 1) / (0 + 1) < 1)
    omega

theorem v64_eq (q : Fin 5632) : (val_main_v64 (F := Ideal) x0 x1 x2 x3 x4 x5 x6 (ix2 0 q) : EReal)
    = ∑ k : Fin 8192, dcN x0 x1 x2 x3 x4 x5 x6 (k.val + 0) q * hhN x1 x2 x3 k.val q := by
  rw [val_main_v64_apply, val_main_v63_apply]
  refine (congrArg (· + _) zero_f32).trans ((zero_add _).trans ?_)
  rw [Fin.sum_univ_one, val_main_v60_apply, val_main_v59_apply]
  refine (congrArg (· + _) zero_f32).trans ((zero_add _).trans ?_)
  refine Eq.trans ?_ (sum_shift (fun k => hhN x1 x2 x3 k q) (fun k => dcN x0 x1 x2 x3 x4 x5 x6 k q) 0 8192 fun j hj => dif_neg (by omega))
  refine Finset.sum_congr rfl fun k _ => ?_
  refine (congrArg (a₂ := ix2 k q) (val_main_v58 (F := Ideal) x0 x1 x2 x3 x4 x5 x6) ?_).trans ?_
  · exact ext2 rfl (by show 0 * 5632 + q.val = q.val; omega)
  show (val_main_v35 (F := Ideal) x1 x2 x3 (ix2 k q) : EReal) * val_main_v54 (F := Ideal) x0 x1 x2 x3 x4 x5 x6 (ix2 k q) = _
  rw [v35_eq, ← dcN_val]

theorem v65_eq (i : Fin 3) (q : Fin 5632) : (val_main_v65 (F := Ideal) x0 x1 x2 x3 x4 x5 x6 (ix2 i q) : EReal)
    = if i.val = 2 then ∑ k : Fin 8192, dcN x0 x1 x2 x3 x4 x5 x6 (k.val + (2 - i.val)) q * hhN x1 x2 x3 k.val q else 0 := by
  unfold val_main_v65
  by_cases hi : i.val = 2
  · rw [if_pos hi, hi]
    refine (pad_apply_of_inside _ _ _ _ _ _ _ (ix2 i q) (ix2 0 q) fun a => ?_).trans (v64_eq x0 x1 x2 x3 x4 x5 x6 q)
    match a with
    | ⟨0, _⟩ => show i.val = 2 + 0 * (0 + 1); omega
    | ⟨1, _⟩ => show q.val = 0 + q.val * (0 + 1); omega
  · rw [if_neg hi]
    refine (pad_apply_of_not_inside _ _ _ _ _ _ _ (ix2 i q) 0 ?_).trans zero_f32
    show ¬(2 ≤ i.val ∧ (i.val - 2) % (0 + 1) = 0 ∧ (i.val - 2) / (0 + 1) < 1)
    omega

/-- The gradient of the convolution's weights. -/
theorem v86_eq (i : Fin 3) (q : Fin 5632) : (val_main_v86 (F := Ideal) x0 x1 x2 x3 x4 x5 x6 (ix2 i q) : EReal)
    = ∑ k : Fin 8192, dcN x0 x1 x2 x3 x4 x5 x6 (k.val + (2 - i.val)) q * hhN x1 x2 x3 k.val q := by
  show (val_main_v65 (F := Ideal) x0 x1 x2 x3 x4 x5 x6 (ix2 i q) : EReal) + val_main_v74 (F := Ideal) x0 x1 x2 x3 x4 x5 x6 (ix2 i q) + val_main_v85 (F := Ideal) x0 x1 x2 x3 x4 x5 x6 (ix2 i q) = _
  rw [v65_eq, v74_eq, v85_eq]
  have hi := i.isLt
  rcases (by omega : i.val = 0 ∨ i.val = 1 ∨ i.val = 2) with e | e | e <;> simp [e]

/-- The gradient of the convolution's bias. -/
theorem v115_eq (q : Fin 5632) : (val_main_v115 (F := Ideal) x0 x1 x2 x3 x4 x5 x6 (ix2 0 q) : EReal) = ∑ k : Fin 8192, dcN x0 x1 x2 x3 x4 x5 x6 k.val q := by
  rw [val_main_v115_apply, val_main_v57_apply]
  refine (congrArg (· + _) zero_f32).trans ((zero_add _).trans ?_)
  rw [Fin.sum_univ_one, val_main_v56_apply, val_main_v55_apply]
  refine (congrArg (· + _) zero_f32).trans ((zero_add _).trans ?_)
  refine Finset.sum_congr rfl fun k _ => ?_
  rw [dcN_val]
  refine congrArg (a₂ := ix2 k q) (val_main_v54 (F := Ideal) x0 x1 x2 x3 x4 x5 x6) ?_
  exact ext2 rfl (by show 0 * 5632 + (0 * 5632 + q.val) = q.val; have := q.isLt; omega)

/-! ## The convolution's transpose -/

theorem v87_eq (j : Fin 8194) (q : Fin 5632) : (val_main_v87 (F := Ideal) x0 x1 x2 x3 x4 x5 x6 (ix2 j q) : EReal)
    = if 0 ≤ j.val then x4 (ix2 0 q) * dcN x0 x1 x2 x3 x4 x5 x6 (j.val - 0) q else 0 := by
  unfold val_main_v87
  by_cases hj : 0 ≤ j.val ∧ j.val - 0 < 8192
  · rw [if_pos hj.1]
    refine (pad_apply_of_inside _ _ _ _ _ _ _ (ix2 j q) (ix2 ⟨j.val - 0, hj.2⟩ q) fun a => ?_).trans ?_
    · match a with
      | ⟨0, _⟩ => show j.val = 0 + (j.val - 0) * (0 + 1); omega
      | ⟨1, _⟩ => show q.val = 0 + q.val * (0 + 1); omega
    · show (val_main_v54 (F := Ideal) x0 x1 x2 x3 x4 x5 x6 (ix2 ⟨j.val - 0, hj.2⟩ q) : EReal) * val_main_v81 (F := Ideal) x4 (ix2 ⟨j.val - 0, hj.2⟩ q) = _
      rw [v81_eq, mul_comm]
      exact congrArg (fun t : EReal => (x4 (ix2 0 q) : EReal) * t) (dcN_val x0 x1 x2 x3 x4 x5 x6 ⟨j.val - 0, hj.2⟩ q).symm
  · refine (pad_apply_of_not_inside _ _ _ _ _ _ _ (ix2 j q) 0 ?_).trans (zero_f32.trans ?_)
    · show ¬(0 ≤ j.val ∧ (j.val - 0) % (0 + 1) = 0 ∧ (j.val - 0) / (0 + 1) < 8192)
      omega
    · by_cases h1 : 0 ≤ j.val
      · have : dcN x0 x1 x2 x3 x4 x5 x6 (j.val - 0) q = 0 := dif_neg fun h => hj ⟨h1, h⟩
        rw [if_pos h1, this, mul_zero]
      · rw [if_neg h1]

theorem v76_eq (j : Fin 8194) (q : Fin 5632) : (val_main_v76 (F := Ideal) x0 x1 x2 x3 x4 x5 x6 (ix2 j q) : EReal)
    = if 1 ≤ j.val then x4 (ix2 1 q) * dcN x0 x1 x2 x3 x4 x5 x6 (j.val - 1) q else 0 := by
  unfold val_main_v76
  by_cases hj : 1 ≤ j.val ∧ j.val - 1 < 8192
  · rw [if_pos hj.1]
    refine (pad_apply_of_inside _ _ _ _ _ _ _ (ix2 j q) (ix2 ⟨j.val - 1, hj.2⟩ q) fun a => ?_).trans ?_
    · match a with
      | ⟨0, _⟩ => show j.val = 1 + (j.val - 1) * (0 + 1); omega
      | ⟨1, _⟩ => show q.val = 0 + q.val * (0 + 1); omega
    · show (val_main_v54 (F := Ideal) x0 x1 x2 x3 x4 x5 x6 (ix2 ⟨j.val - 1, hj.2⟩ q) : EReal) * val_main_v70 (F := Ideal) x4 (ix2 ⟨j.val - 1, hj.2⟩ q) = _
      rw [v70_eq, mul_comm]
      exact congrArg (fun t : EReal => (x4 (ix2 1 q) : EReal) * t) (dcN_val x0 x1 x2 x3 x4 x5 x6 ⟨j.val - 1, hj.2⟩ q).symm
  · refine (pad_apply_of_not_inside _ _ _ _ _ _ _ (ix2 j q) 0 ?_).trans (zero_f32.trans ?_)
    · show ¬(1 ≤ j.val ∧ (j.val - 1) % (0 + 1) = 0 ∧ (j.val - 1) / (0 + 1) < 8192)
      omega
    · by_cases h1 : 1 ≤ j.val
      · have : dcN x0 x1 x2 x3 x4 x5 x6 (j.val - 1) q = 0 := dif_neg fun h => hj ⟨h1, h⟩
        rw [if_pos h1, this, mul_zero]
      · rw [if_neg h1]

theorem v66_eq (j : Fin 8194) (q : Fin 5632) : (val_main_v66 (F := Ideal) x0 x1 x2 x3 x4 x5 x6 (ix2 j q) : EReal)
    = if 2 ≤ j.val then x4 (ix2 2 q) * dcN x0 x1 x2 x3 x4 x5 x6 (j.val - 2) q else 0 := by
  unfold val_main_v66
  by_cases hj : 2 ≤ j.val ∧ j.val - 2 < 8192
  · rw [if_pos hj.1]
    refine (pad_apply_of_inside _ _ _ _ _ _ _ (ix2 j q) (ix2 ⟨j.val - 2, hj.2⟩ q) fun a => ?_).trans ?_
    · match a with
      | ⟨0, _⟩ => show j.val = 2 + (j.val - 2) * (0 + 1); omega
      | ⟨1, _⟩ => show q.val = 0 + q.val * (0 + 1); omega
    · show (val_main_v54 (F := Ideal) x0 x1 x2 x3 x4 x5 x6 (ix2 ⟨j.val - 2, hj.2⟩ q) : EReal) * val_main_v61 (F := Ideal) x4 (ix2 ⟨j.val - 2, hj.2⟩ q) = _
      rw [v61_eq, mul_comm]
      exact congrArg (fun t : EReal => (x4 (ix2 2 q) : EReal) * t) (dcN_val x0 x1 x2 x3 x4 x5 x6 ⟨j.val - 2, hj.2⟩ q).symm
  · refine (pad_apply_of_not_inside _ _ _ _ _ _ _ (ix2 j q) 0 ?_).trans (zero_f32.trans ?_)
    · show ¬(2 ≤ j.val ∧ (j.val - 2) % (0 + 1) = 0 ∧ (j.val - 2) / (0 + 1) < 8192)
      omega
    · by_cases h1 : 2 ≤ j.val
      · have : dcN x0 x1 x2 x3 x4 x5 x6 (j.val - 2) q = 0 := dif_neg fun h => hj ⟨h1, h⟩
        rw [if_pos h1, this, mul_zero]
      · rw [if_neg h1]

/-- The derivative at the convolution's operand. -/
theorem v90_eq (i : Fin 8192) (q : Fin 5632) : (val_main_v90 (F := Ideal) x0 x1 x2 x3 x4 x5 x6 (ix2 i q) : EReal)
    = x4 (ix2 2 q) * dcN x0 x1 x2 x3 x4 x5 x6 i.val q + x4 (ix2 1 q) * dcN x0 x1 x2 x3 x4 x5 x6 (i.val + 1) q + x4 (ix2 0 q) * dcN x0 x1 x2 x3 x4 x5 x6 (i.val + 2) q := by
  rw [val_main_v90_apply]
  refine (congrArg (a₂ := ix2 ⟨i.val + 2, by omega⟩ q) (val_main_v88 (F := Ideal) x0 x1 x2 x3 x4 x5 x6) ?_).trans ?_
  · exact ext2 (by first | rfl | exact Nat.add_comm _ _) rfl
  show (val_main_v66 (F := Ideal) x0 x1 x2 x3 x4 x5 x6 (ix2 ⟨i.val + 2, by omega⟩ q) : EReal) + val_main_v76 (F := Ideal) x0 x1 x2 x3 x4 x5 x6 (ix2 ⟨i.val + 2, by omega⟩ q)
    + val_main_v87 (F := Ideal) x0 x1 x2 x3 x4 x5 x6 (ix2 ⟨i.val + 2, by omega⟩ q) = _
  rw [v66_eq, v76_eq, v87_eq, if_pos (by show 2 ≤ i.val + 2; omega), if_pos (by show 1 ≤ i.val + 2; omega), if_pos (by show 0 ≤ i.val + 2; omega)]
  rfl

/-! ## The gate -/

theorem v53_eq (i : S8192x2816.Idx) : (val_main_v53 (F := Ideal) x0 x1 x2 x3 x4 x5 x6 i : EReal)
    = val_main_v50 (F := Ideal) x0 x6 i * val_main_v46 (F := Ideal) x1 x2 x3 x4 x5 i * val_main_v47_2 (F := Ideal) x1 x2 x3 x4 x5 i
      + val_main_v45 (F := Ideal) x1 x2 x3 x4 x5 i * (val_main_v50 (F := Ideal) x0 x6 i * val_main_v46 (F := Ideal) x1 x2 x3 x4 x5 i)
        * (val_main_v47_2 (F := Ideal) x1 x2 x3 x4 x5 i * ((1 : EReal) - val_main_v47_2 (F := Ideal) x1 x2 x3 x4 x5 i)) := by
  have e : (val_main_call0_v6 (F := Ideal) i : EReal) = 1 := one_f32
  rw [← e]
  rfl

theorem v47_2_eq (i : S8192x2816.Idx) : (val_main_v47_2 (F := Ideal) x1 x2 x3 x4 x5 i : EReal) = Ideal.logistic (val_main_v45 (F := Ideal) x1 x2 x3 x4 x5 i) := by
  have e : (val_main_call0_v2 (F := Ideal) i : EReal) = 1 := one_f32
  have e' : (val_main_call0_v4 (F := Ideal) i : EReal) = 1 := one_f32
  show Ideal.div (val_main_call0_v4 (F := Ideal) i) ((val_main_call0_v2 (F := Ideal) i : EReal) + Ideal.exp (-(val_main_v45 (F := Ideal) x1 x2 x3 x4 x5 i : EReal))) = _
  rw [e, e']
  rfl

theorem v50_eq (i : Fin 8192) (q : Fin 2816) : (val_main_v50 (F := Ideal) x0 x6 (ix2 i q) : EReal) = ∑ k : Fin 1024, x0 (ix2 i k) * x6 (ix2 q k) := by
  rw [val_main_v50_apply]
  exact Finset.sum_congr rfl fun k _ => congrArg₂ (fun a b => (x0 a * x6 b : EReal)) (ext2 rfl rfl) (ext2 rfl rfl)

theorem v54_left (i : Fin 8192) (q : Fin 5632) (h : q.val < 2816) : val_main_v54 (F := Ideal) x0 x1 x2 x3 x4 x5 x6 (ix2 i q) = val_main_v53 (F := Ideal) x0 x1 x2 x3 x4 x5 x6 (ix2 i ⟨q.val, h⟩) := by
  unfold val_main_v54
  refine concatenate_pair_apply_left (t := S8192x5632) 1 _ _ concatenates_S8192x2816_S8192x2816_S8192x5632_d1 (ix2 i q) rfl
    (ix2 i ⟨q.val, h⟩) fun b => ?_
  match b with
  | ⟨0, _⟩ => rfl
  | ⟨1, _⟩ => rfl

theorem v54_right (i : Fin 8192) (q : Fin 5632) (h : ¬q.val < 2816) :
    (val_main_v54 (F := Ideal) x0 x1 x2 x3 x4 x5 x6 (ix2 i q) : EReal) = val_main_v47_0 (F := Ideal) x1 x2 x3 x4 x5 (ix2 i ⟨q.val - 2816, by omega⟩) * val_main_v50 (F := Ideal) x0 x6 (ix2 i ⟨q.val - 2816, by omega⟩) := by
  unfold val_main_v54
  refine (concatenate_pair_apply_right (t := S8192x5632) 1 _ _ concatenates_S8192x2816_S8192x2816_S8192x5632_d1 (ix2 i q) rfl rfl
    (ix2 i ⟨q.val - 2816, by omega⟩) (fun b hb => ?_) (by show q.val - 2816 + 2816 = q.val; omega)).trans rfl
  match b with
  | ⟨0, _⟩ => rfl
  | ⟨1, _⟩ => exact absurd rfl hb

/-! ## Back through the product and the norm -/

theorem v91_eq (i : Fin 8192) (k : Fin 1024) : (val_main_v91 (F := Ideal) x0 x1 x2 x3 x4 x5 x6 (ix2 i k) : EReal)
    = ∑ q : Fin 5632, val_main_v90 (F := Ideal) x0 x1 x2 x3 x4 x5 x6 (ix2 i q) * x3 (ix2 k q) := by
  rw [val_main_v91_apply]
  exact Finset.sum_congr rfl fun q _ => congrArg₂ (fun a b => (val_main_v90 (F := Ideal) x0 x1 x2 x3 x4 x5 x6 a * x3 b : EReal)) (ext2 rfl rfl) (ext2 rfl rfl)

/-- The gradient of the norm's weights. -/
theorem v116_eq (k : Fin 1024) : (val_main_v116 (F := Ideal) x0 x1 x2 x3 x4 x5 x6 (ix2 0 k) : EReal)
    = ∑ i : Fin 8192, val_main_v91 (F := Ideal) x0 x1 x2 x3 x4 x5 x6 (ix2 i k) * (x1 (ix2 i k) * rs x1 i) := by
  rw [val_main_v116_apply, val_main_v97_apply]
  refine (congrArg (· + _) zero_f32).trans ((zero_add _).trans ?_)
  rw [Fin.sum_univ_one, val_main_v94_apply, val_main_v93_apply]
  refine (congrArg (· + _) zero_f32).trans ((zero_add _).trans ?_)
  refine Finset.sum_congr rfl fun i _ => ?_
  refine (congrArg (a₂ := ix2 i k) (val_main_v92 (F := Ideal) x0 x1 x2 x3 x4 x5 x6) ?_).trans ?_
  · exact ext2 rfl (by show 0 * 1024 + (0 * 1024 + k.val) = k.val; have := k.isLt; omega)
  show (val_main_v12 (F := Ideal) x1 (ix2 i k) : EReal) * val_main_v91 (F := Ideal) x0 x1 x2 x3 x4 x5 x6 (ix2 i k) = _
  rw [v12_eq, mul_comm]

theorem v96_eq (i : Fin 8192) (k : Fin 1024) : (val_main_v96 (F := Ideal) x0 x1 x2 x3 x4 x5 x6 (ix2 i k) : EReal) = val_main_v91 (F := Ideal) x0 x1 x2 x3 x4 x5 x6 (ix2 i k) * x2 (ix1 k) := by
  have e : val_main_v95 (F := Ideal) x2 (ix2 i k) = x2 (ix1 k) := by
    rw [val_main_v95_apply, val_main_v13_apply]; exact congrArg _ (ext1 rfl)
  show (val_main_v91 (F := Ideal) x0 x1 x2 x3 x4 x5 x6 (ix2 i k) : EReal) * val_main_v95 (F := Ideal) x2 (ix2 i k) = _
  rw [e]

theorem v107_eq (i : Fin 8192) (k : Fin 1024) : (val_main_v107 (F := Ideal) x0 x1 x2 x3 x4 x5 x6 (ix2 i k) : EReal)
    = Ideal.div ((∑ j : Fin 1024, x1 (ix2 i j) * val_main_v96 (F := Ideal) x0 x1 x2 x3 x4 x5 x6 (ix2 i j)) * (Ideal.ofBits .f32 0xBF000000#32
        * Ideal.div (rs x1 i) (val_main_v6 (F := Ideal) x1 (ix2 i 0)))) (Ideal.ofBits .f32 0x44800000#32) := by
  rw [val_main_v107_apply, val_main_v106_apply]
  refine (congrArg (· + _) zero_f32).trans ((zero_add _).trans ?_)
  rw [Fin.sum_univ_one]
  refine (congrArg (a₂ := ix2 i 0) (val_main_v105 (F := Ideal) x0 x1 x2 x3 x4 x5 x6) ?_).trans ?_
  · exact ext2 rfl rfl
  have e : (val_main_v100 (F := Ideal) x0 x1 x2 x3 x4 x5 x6 (ix2 i 0) : EReal) = ∑ j : Fin 1024, x1 (ix2 i j) * val_main_v96 (F := Ideal) x0 x1 x2 x3 x4 x5 x6 (ix2 i j) := by
    rw [val_main_v100_apply, val_main_v99_apply]
    refine (congrArg (· + _) zero_f32).trans ((zero_add _).trans ?_)
    refine Finset.sum_congr rfl fun j _ => ?_
    refine (congrArg (a₂ := ix2 i j) (val_main_v98 (F := Ideal) x0 x1 x2 x3 x4 x5 x6) ?_).trans rfl
    exact ext2 (by show i.val * 1 + 0 = i.val; omega) rfl
  rw [← e, ← v7_eq x1 i 0]
  rfl

/-- The gradient of the residual stream. -/
theorem v112_eq (i : Fin 8192) (k : Fin 1024) (hx : ∀ j, Ffn.IsReal (x1 (ix2 i j))) (hd : ∀ j, Ffn.IsReal (val_main_v96 (F := Ideal) x0 x1 x2 x3 x4 x5 x6 (ix2 i j))) :
    (val_main_v112 (F := Ideal) x0 x1 x2 x3 x4 x5 x6 (ix2 i k) : EReal)
    = x0 (ix2 i k) + rs x1 i * (val_main_v91 (F := Ideal) x0 x1 x2 x3 x4 x5 x6 (ix2 i k) * x2 (ix1 k) - x1 (ix2 i k) * rs x1 i
        * Ideal.div (∑ j : Fin 1024, val_main_v91 (F := Ideal) x0 x1 x2 x3 x4 x5 x6 (ix2 i j) * x2 (ix1 j) * (x1 (ix2 i j) * rs x1 i)) (Ideal.ofBits .f32 0x44800000#32)) := by
  have e7 : val_main_v101 (F := Ideal) x1 (ix2 i k) = val_main_v7 (F := Ideal) x1 (ix2 i 0) := by
    rw [val_main_v101_apply]; exact congrArg _ (ext2 rfl rfl)
  show (x0 (ix2 i k) : EReal) + (val_main_v96 (F := Ideal) x0 x1 x2 x3 x4 x5 x6 (ix2 i k) * val_main_v101 (F := Ideal) x1 (ix2 i k)
    + x1 (ix2 i k) * val_main_v107 (F := Ideal) x0 x1 x2 x3 x4 x5 x6 (ix2 i k) + val_main_v107 (F := Ideal) x0 x1 x2 x3 x4 x5 x6 (ix2 i k) * x1 (ix2 i k)) = _
  rw [e7, v7_eq, v107_eq]
  obtain ⟨s, hs, es⟩ := Ffn.mean_sq_pos (fun k : Fin 1024 => (x1 (ix2 i k) : EReal)) hx
  have e6 : (val_main_v6 (F := Ideal) x1 (ix2 i 0) : EReal) = (s : EReal) := (v6_eq x1 i 0).trans es
  have er : rs x1 i = Ideal.rsqrt (s : EReal) := congrArg Ideal.rsqrt es
  rw [e6, er]
  refine congrArg (fun t : EReal => (x0 (ix2 i k) : EReal) + t) ?_
  refine (Ffn.norm_back (fun j : Fin 1024 => (x1 (ix2 i j) : EReal)) (fun j : Fin 1024 => (val_main_v96 (F := Ideal) x0 x1 x2 x3 x4 x5 x6 (ix2 i j) : EReal)) hx hd hs k).trans ?_
  simp only [v96_eq]

end Cert.ReferenceIdeal.Ffn

end
-- ==== Proof.Ffn.Finite.lean ====
/- Real arguments give real values along the reference's chain. -/
module

public import proofs.«01_k».proof.Proof.Ffn.Ref

@[expose] public section

set_option maxRecDepth 16384

noncomputable section

namespace Cert.ReferenceIdeal.Ffn

open Cert.ReferenceIdeal Cert.ReferenceIdeal.Gen Cert.ReferenceIdeal.Read Idealize.ShloMosaic Idealize.ShloMosaic.ValueIdx Idealize.SL.Sem
open _root_.Ffn

/-- Every entry is a real. -/
def Reals {S : Shape} {φ : FTy} (x : FVec Ideal S φ) : Prop := ∀ i, IsReal (x i : EReal)

variable {x0 x1 : Vec Ideal S8192x1024 .f32} {x2 : Vec Ideal S1024 .f32} {x3 : Vec Ideal S1024x5632 .f32} {x4 : Vec Ideal S3x5632 .f32}
  {x5 : Vec Ideal S5632 .f32} {x6 : Vec Ideal S2816x1024 .f32}

theorem real_rs (h1 : Reals (φ := .f32) x1) (i : Fin 8192) : IsReal (rs x1 i) := by
  obtain ⟨s, hs, es⟩ := mean_sq_pos (fun k : Fin 1024 => (x1 (ix2 i k) : EReal)) fun k => h1 _
  obtain ⟨r, hr, _⟩ := rsqrt_of_pos hs
  exact ⟨r, (congrArg Ideal.rsqrt es).trans hr⟩

theorem real_v15 (h1 : Reals (φ := .f32) x1) (h2 : Reals (φ := .f32) x2) (i : Fin 8192) (k : Fin 1024) : IsReal (val_main_v15 (F := Ideal) x1 x2 (ix2 i k) : EReal) := by
  rw [v15_eq]
  exact ((h1 _).mul (real_rs h1 i)).mul (h2 _)

theorem real_v16 (h1 : Reals (φ := .f32) x1) (h2 : Reals (φ := .f32) x2) (h3 : Reals (φ := .f32) x3) (i : Fin 8192) (q : Fin 5632) :
    IsReal (val_main_v16 (F := Ideal) x1 x2 x3 (ix2 i q) : EReal) := by
  rw [val_main_v16_apply]
  refine IsReal.sum _ _ fun k => IsReal.mul ?_ (h3 _)
  have := real_v15 h1 h2 i k
  rwa [show (ix2 i k : S8192x1024.Idx) = lidx_main_v16 (ix2 i q) k from ext2 rfl rfl] at this

theorem real_hhN (h1 : Reals (φ := .f32) x1) (h2 : Reals (φ := .f32) x2) (h3 : Reals (φ := .f32) x3) (i : ℕ) (q : Fin 5632) :
    IsReal (hhN x1 x2 x3 i q) := by
  unfold hhN
  split
  · exact real_v16 h1 h2 h3 _ q
  · exact isReal_zero

theorem real_v44 (h1 : Reals (φ := .f32) x1) (h2 : Reals (φ := .f32) x2) (h3 : Reals (φ := .f32) x3) (h4 : Reals (φ := .f32) x4)
    (h5 : Reals (φ := .f32) x5) (i : Fin 8192) (q : Fin 5632) : IsReal (val_main_v44 (F := Ideal) x1 x2 x3 x4 x5 (ix2 i q) : EReal) := by
  have w0 : (val_main_v24 (F := Ideal) x4 (ix2 i q) : EReal) = x4 (ix2 0 q) := v81_eq x4 i q
  have w1 : (val_main_v32 (F := Ideal) x4 (ix2 i q) : EReal) = x4 (ix2 1 q) := v70_eq x4 i q
  have w2 : (val_main_v39 (F := Ideal) x4 (ix2 i q) : EReal) = x4 (ix2 2 q) := v61_eq x4 i q
  have z : (val_main_v26 (F := Ideal) (ix2 i q) : EReal) = 0 := zero_f32
  have b : val_main_v43 (F := Ideal) x5 (ix2 i q) = x5 (ix1 q) := by
    rw [val_main_v43_apply, val_main_v42_apply]; exact congrArg _ (ext1 rfl)
  show IsReal ((val_main_v43 (F := Ideal) x5 (ix2 i q) : EReal)
    + (val_main_v26 (F := Ideal) (ix2 i q) + val_main_v20 (F := Ideal) x1 x2 x3 (ix2 i q) * val_main_v24 (F := Ideal) x4 (ix2 i q)
      + val_main_v28 (F := Ideal) x1 x2 x3 (ix2 i q) * val_main_v32 (F := Ideal) x4 (ix2 i q) + val_main_v35 (F := Ideal) x1 x2 x3 (ix2 i q) * val_main_v39 (F := Ideal) x4 (ix2 i q)))
  rw [w0, w1, w2, z, b, v20_eq, v28_eq, v35_eq]
  have t : ∀ (s : ℕ), IsReal (if s ≤ i.val then hhN x1 x2 x3 (i.val - s) q else 0) := fun s => by
    split
    · exact real_hhN h1 h2 h3 _ q
    · exact isReal_zero
  exact (h5 _).add (((isReal_zero.add ((t _).mul (h4 _))).add ((t _).mul (h4 _))).add ((t _).mul (h4 _)))

section
variable (h1 : Reals (φ := .f32) x1) (h2 : Reals (φ := .f32) x2) (h3 : Reals (φ := .f32) x3) (h4 : Reals (φ := .f32) x4) (h5 : Reals (φ := .f32) x5)
include h1 h2 h3 h4 h5

theorem real_v45 (i : Fin 8192) (q : Fin 2816) : IsReal (val_main_v45 (F := Ideal) x1 x2 x3 x4 x5 (ix2 i q) : EReal) := by
  rw [val_main_v45_apply]
  have := real_v44 h1 h2 h3 h4 h5 i ⟨q.val, by omega⟩
  rwa [show (ix2 i ⟨q.val, by omega⟩ : S8192x5632.Idx) = idx_main_v45 (ix2 i q) from ext2 (by first | rfl | exact (Nat.zero_add _).symm) (by first | rfl | exact (Nat.zero_add _).symm)] at this

theorem real_v46 (i : Fin 8192) (q : Fin 2816) : IsReal (val_main_v46 (F := Ideal) x1 x2 x3 x4 x5 (ix2 i q) : EReal) := by
  rw [val_main_v46_apply]
  have := real_v44 h1 h2 h3 h4 h5 i ⟨2816 + q.val, by omega⟩
  rwa [show (ix2 i ⟨2816 + q.val, by omega⟩ : S8192x5632.Idx) = idx_main_v46 (ix2 i q) from ext2 (by first | rfl | exact (Nat.zero_add _).symm) (by first | rfl | exact Nat.add_comm _ _)] at this

theorem real_v47_2 (i : Fin 8192) (q : Fin 2816) : IsReal (val_main_v47_2 (F := Ideal) x1 x2 x3 x4 x5 (ix2 i q) : EReal) := by
  rw [v47_2_eq]
  exact isReal_logistic (real_v45 h1 h2 h3 h4 h5 i q)

variable (h0 : Reals (φ := .f32) x0) (h6 : Reals (φ := .f32) x6)
include h0 h6

theorem real_v50 (i : Fin 8192) (q : Fin 2816) : IsReal (val_main_v50 (F := Ideal) x0 x6 (ix2 i q) : EReal) := by
  rw [v50_eq]
  exact IsReal.sum _ _ fun k => (h0 _).mul (h6 _)

theorem real_v54 (i : Fin 8192) (q : Fin 5632) : IsReal (val_main_v54 (F := Ideal) x0 x1 x2 x3 x4 x5 x6 (ix2 i q) : EReal) := by
  by_cases h : q.val < 2816
  · rw [v54_left x0 x1 x2 x3 x4 x5 x6 i q h, v53_eq]
    have a := real_v50 h1 h2 h3 h4 h5 h0 h6 i ⟨q.val, h⟩
    have b := real_v46 h1 h2 h3 h4 h5 i ⟨q.val, h⟩
    have g := real_v47_2 h1 h2 h3 h4 h5 i ⟨q.val, h⟩
    exact ((a.mul b).mul g).add (((real_v45 h1 h2 h3 h4 h5 i ⟨q.val, h⟩).mul (a.mul b)).mul (g.mul (isReal_one.sub g)))
  · rw [v54_right x0 x1 x2 x3 x4 x5 x6 i q h]
    exact ((real_v45 h1 h2 h3 h4 h5 i _).mul (real_v47_2 h1 h2 h3 h4 h5 i _)).mul (real_v50 h1 h2 h3 h4 h5 h0 h6 i _)

theorem real_dcN (i : ℕ) (q : Fin 5632) : IsReal (dcN x0 x1 x2 x3 x4 x5 x6 i q) := by
  unfold dcN
  split
  · exact real_v54 h1 h2 h3 h4 h5 h0 h6 _ q
  · exact isReal_zero

theorem real_v90 (i : Fin 8192) (q : Fin 5632) : IsReal (val_main_v90 (F := Ideal) x0 x1 x2 x3 x4 x5 x6 (ix2 i q) : EReal) := by
  rw [v90_eq]
  have t := fun j => real_dcN h1 h2 h3 h4 h5 h0 h6 j q
  exact (((h4 _).mul (t _)).add ((h4 _).mul (t _))).add ((h4 _).mul (t _))

theorem real_v96 (i : Fin 8192) (k : Fin 1024) : IsReal (val_main_v96 (F := Ideal) x0 x1 x2 x3 x4 x5 x6 (ix2 i k) : EReal) := by
  rw [v96_eq, v91_eq]
  exact (IsReal.sum _ _ fun q => (real_v90 h1 h2 h3 h4 h5 h0 h6 i q).mul (h3 _)).mul (h2 _)

end

end Cert.ReferenceIdeal.Ffn

end
-- ==== Proof.Ffn.Tile.lean ====
/- The grid's tiles over the whole arrays: what each point holds is the reference's rows, and the accumulators are its
   sums over the rows seen so far. -/
module

public import proofs.«01_k».proof.Proof.Ffn.Arr
public import proofs.«01_k».proof.Proof.Ffn.Host
public import proofs.«01_k».proof.Proof.Ffn.Finite

@[expose] public section

set_option maxRecDepth 16384

noncomputable section

namespace Cert.KernelIdeal.Blk

open Cert.KernelIdeal Cert.KernelIdeal.Gen Idealize.ShloMosaic Idealize.ShloMosaic.TcCoe Idealize.SL.Sem
open Cert.ReferenceIdeal.Read (val_main_v15 val_main_v16 val_main_v45 val_main_v46 val_main_v47_0 val_main_v47_2 val_main_v50 val_main_v54 val_main_v90 val_main_v91 val_main_v112)
open Cert.ReferenceIdeal.Ffn (Reals dcN hhN)

/-- Sums over tiles taken from the last to the first are one sum over the rows. -/
theorem tiles (F : ℕ → EReal) (a : (n : ℕ) → n < 32 → EReal) (h0 : a 0 (by omega) = ∑ r : Fin 256, F ((31 - 0) * 256 + r.val))
    (hs : ∀ n (h : n + 1 < 32), a (n + 1) h = a n (by omega) + ∑ r : Fin 256, F ((31 - (n + 1)) * 256 + r.val)) :
    ∀ n (h : n < 32), a n h = ∑ k ∈ Finset.range ((n + 1) * 256), F ((31 - n) * 256 + k)
  | 0, h => by
    rw [h0, ← Finset.sum_range (fun r => F ((31 - 0) * 256 + r))]
  | n + 1, h => by
    rw [hs n h, tiles F a h0 hs n (by omega), ← Finset.sum_range (fun r => F ((31 - (n + 1)) * 256 + r)),
      show (n + 1 + 1) * 256 = 256 + (n + 1) * 256 by omega, Finset.sum_range_add, add_comm]
    refine congrArg (_ + ·) (Finset.sum_congr rfl fun k _ => congrArg F ?_)
    omega

variable (m : (ℓ : Loc nD τ sig) → Buf (Elt Ideal) ℓ)

theorem rs_eq (c : Dev nD) (n : ℕ) (h : n < cfg0.N) (r : Fin 256) : rs (zAt m c n h).h r = Cert.ReferenceIdeal.Ffn.rs (A1 m c) (gi n r) := by
  unfold rs Cert.ReferenceIdeal.Ffn.rs
  simp only [z_h]

theorem hhN_at (c : Dev nD) (n : ℕ) (h : n < cfg0.N) (r : Fin 256) (q : Fin 5632) :
    (zAt m c n h).hh (ValueIdx.ix2 r q) = hhN (A1 m c) (A2 m c) (A3 m c) ((31 - n) * 256 + r.val) q :=
  (z_hh m c n h r q).trans (Cert.ReferenceIdeal.Ffn.hhN_val (A1 m c) (A2 m c) (A3 m c) (gi n r) q).symm

/-- The norm's weight gradient, one row's share; zero past the last row. -/
def dnN (c : Dev nD) (i : ℕ) (k : Fin 1024) : EReal :=
  if h : i < 8192 then val_main_v91 (F := Ideal) (A0 m c) (A1 m c) (A2 m c) (A3 m c) (A4 m c) (A5 m c) (A6 m c) (ValueIdx.ix2 ⟨i, h⟩ k) * (A1 m c (ValueIdx.ix2 ⟨i, h⟩ k) * Cert.ReferenceIdeal.Ffn.rs (A1 m c) ⟨i, h⟩) else 0

theorem dnN_val (c : Dev nD) (i : Fin 8192) (k : Fin 1024) : dnN m c i.val k
    = val_main_v91 (F := Ideal) (A0 m c) (A1 m c) (A2 m c) (A3 m c) (A4 m c) (A5 m c) (A6 m c) (ValueIdx.ix2 i k) * (A1 m c (ValueIdx.ix2 i k) * Cert.ReferenceIdeal.Ffn.rs (A1 m c) i) := dif_pos i.isLt

section
variable (c : Dev nD) (h0 : Reals (φ := .f32) (A0 m c)) (h1 : Reals (φ := .f32) (A1 m c)) (h2 : Reals (φ := .f32) (A2 m c)) (h3 : Reals (φ := .f32) (A3 m c)) (h4 : Reals (φ := .f32) (A4 m c)) (h5 : Reals (φ := .f32) (A5 m c)) (h6 : Reals (φ := .f32) (A6 m c))
include h0 h1 h2 h3 h4 h5 h6

theorem tile_dc (n : ℕ) (h : n < cfg0.N) (r : Fin 256) (q : Fin 5632) : dc (zAt m c n h) r q = dcN (A0 m c) (A1 m c) (A2 m c) (A3 m c) (A4 m c) (A5 m c) (A6 m c) ((31 - n) * 256 + r.val) q := by
  refine Eq.trans ?_ (Cert.ReferenceIdeal.Ffn.dcN_val (A0 m c) (A1 m c) (A2 m c) (A3 m c) (A4 m c) (A5 m c) (A6 m c) (gi n r) q).symm
  unfold dc
  by_cases hq : q.val < 2816
  · rw [dif_pos hq, Cert.ReferenceIdeal.Ffn.v54_left (A0 m c) (A1 m c) (A2 m c) (A3 m c) (A4 m c) (A5 m c) (A6 m c) (gi n r) q hq, Cert.ReferenceIdeal.Ffn.v53_eq]
    simp only [z_dout, z_down, z_u, z_dsil]
    refine (congrArg (fun t : EReal => t * _ * _) (Cert.ReferenceIdeal.Ffn.v50_eq (A0 m c) (A6 m c) (gi n r) ⟨q.val, hq⟩).symm).trans ?_
    rw [Cert.ReferenceIdeal.Ffn.v47_2_eq]
    exact Ffn.silu_back (Cert.ReferenceIdeal.Ffn.real_v50 h1 h2 h3 h4 h5 h0 h6 _ _) (Cert.ReferenceIdeal.Ffn.real_v46 h1 h2 h3 h4 h5 _ _) (Cert.ReferenceIdeal.Ffn.real_v45 h1 h2 h3 h4 h5 _ _)
  · rw [dif_neg hq, Cert.ReferenceIdeal.Ffn.v54_right (A0 m c) (A1 m c) (A2 m c) (A3 m c) (A4 m c) (A5 m c) (A6 m c) (gi n r) q hq]
    simp only [z_dout, z_down, z_sil]
    refine (congrArg (fun t : EReal => t * _) (Cert.ReferenceIdeal.Ffn.v50_eq (A0 m c) (A6 m c) (gi n r) ⟨q.val - 2816, by omega⟩).symm).trans ?_
    exact mul_comm _ _

theorem tile_ex (n : ℕ) (h : n < cfg0.N) (r : ℕ) (hr : r < 264) (q : Fin 5632) :
    ex (zAt m c n h) r hr q = dcN (A0 m c) (A1 m c) (A2 m c) (A3 m c) (A4 m c) (A5 m c) (A6 m c) ((31 - n) * 256 + r) q := by
  unfold ex
  by_cases h' : r < 256
  · rw [dif_pos h']
    exact tile_dc m c h0 h1 h2 h3 h4 h5 h6 n h ⟨r, h'⟩ q
  · rw [dif_neg h']
    cases n with
    | zero =>
      refine Eq.trans (b := (0 : EReal)) ?_ (by unfold dcN; rw [dif_neg (by omega)])
      exact Cert.ReferenceIdeal.Ffn.zero_f32
    | succ n =>
      have hn : n + 1 < 32 := lt_of_lt_of_eq h (show cfg0.N = 32 from N_0)
      show dc (zAt m c n (Nat.lt_of_succ_lt h)) ⟨r - 256, by omega⟩ (col (cblk q) (coff q)) = _
      rw [tile_dc m c h0 h1 h2 h3 h4 h5 h6 n, col_eta]
      refine congrArg (fun i => dcN (A0 m c) (A1 m c) (A2 m c) (A3 m c) (A4 m c) (A5 m c) (A6 m c) i q) ?_
      show (31 - n) * 256 + (r - 256) = (31 - (n + 1)) * 256 + r
      omega

theorem tile_dhh (n : ℕ) (h : n < cfg0.N) (r : Fin 256) (q : Fin 5632) :
    dhh (zAt m c n h) r q = val_main_v90 (F := Ideal) (A0 m c) (A1 m c) (A2 m c) (A3 m c) (A4 m c) (A5 m c) (A6 m c) (ValueIdx.ix2 (gi n r) q) := by
  refine Eq.trans ?_ (Cert.ReferenceIdeal.Ffn.v90_eq (A0 m c) (A1 m c) (A2 m c) (A3 m c) (A4 m c) (A5 m c) (A6 m c) (gi n r) q).symm
  unfold dhh
  rw [tile_ex m c h0 h1 h2 h3 h4 h5 h6, tile_ex m c h0 h1 h2 h3 h4 h5 h6, tile_dc m c h0 h1 h2 h3 h4 h5 h6]
  simp only [z_cw]
  rfl

theorem tile_dx (n : ℕ) (h : n < cfg0.N) (r : Fin 256) (k : Fin 1024) :
    dx (zAt m c n h) r k = val_main_v91 (F := Ideal) (A0 m c) (A1 m c) (A2 m c) (A3 m c) (A4 m c) (A5 m c) (A6 m c) (ValueIdx.ix2 (gi n r) k) := by
  refine Eq.trans ?_ (Cert.ReferenceIdeal.Ffn.v91_eq (A0 m c) (A1 m c) (A2 m c) (A3 m c) (A4 m c) (A5 m c) (A6 m c) (gi n r) k).symm
  unfold dx
  refine Finset.sum_congr rfl fun q _ => ?_
  rw [tile_dhh m c h0 h1 h2 h3 h4 h5 h6, z_up]

theorem tile_dh (n : ℕ) (h : n < cfg0.N) (r : Fin 256) (k : Fin 1024) :
    dh (zAt m c n h) r k = val_main_v112 (F := Ideal) (A0 m c) (A1 m c) (A2 m c) (A3 m c) (A4 m c) (A5 m c) (A6 m c) (ValueIdx.ix2 (gi n r) k) := by
  refine Eq.trans ?_ (Cert.ReferenceIdeal.Ffn.v112_eq (A0 m c) (A1 m c) (A2 m c) (A3 m c) (A4 m c) (A5 m c) (A6 m c) (gi n r) k (fun j => h1 _) fun j => Cert.ReferenceIdeal.Ffn.real_v96 h1 h2 h3 h4 h5 h0 h6 _ _).symm
  unfold dh
  simp only [tile_dx m c h0 h1 h2 h3 h4 h5 h6, rs_eq, z_h, z_n, z_dout]

/-! ## The accumulators -/

theorem tile_dcw (i : Fin 3) (q : Fin 5632) : dcw (zRow m c 0) i q
    = ∑ k : Fin 8192, dcN (A0 m c) (A1 m c) (A2 m c) (A3 m c) (A4 m c) (A5 m c) (A6 m c) (k.val + (2 - i.val)) q * hhN (A1 m c) (A2 m c) (A3 m c) k.val q := by
  have key := tiles (fun k => dcN (A0 m c) (A1 m c) (A2 m c) (A3 m c) (A4 m c) (A5 m c) (A6 m c) (k + (2 - i.val)) q * hhN (A1 m c) (A2 m c) (A3 m c) k q) (fun n h => dcw (zAt m c n (lt_of_lt_of_eq h N_0.symm)) i q)
    ((congrArg₂ (fun a b : EReal => a + b) Cert.ReferenceIdeal.Ffn.zero_f32 (Finset.sum_congr rfl fun r _ => congrArg₂ (fun a b : EReal => a * b)
      ((tile_ex m c h0 h1 h2 h3 h4 h5 h6 0 _ _ _ q).trans (congrArg (fun j => dcN (A0 m c) (A1 m c) (A2 m c) (A3 m c) (A4 m c) (A5 m c) (A6 m c) j q) (Nat.add_assoc _ _ _).symm)) (hhN_at m c 0 _ r q))).trans (zero_add _))
    (fun n h => congrArg₂ (fun a b : EReal => a + b) rfl (Finset.sum_congr rfl fun r _ => congrArg₂ (fun a b : EReal => a * b)
      ((tile_ex m c h0 h1 h2 h3 h4 h5 h6 (n + 1) _ _ _ q).trans (congrArg (fun j => dcN (A0 m c) (A1 m c) (A2 m c) (A3 m c) (A4 m c) (A5 m c) (A6 m c) j q) (Nat.add_assoc _ _ _).symm)) (hhN_at m c (n + 1) _ r q))) 31 (by omega)
  refine Eq.trans ?_ (key.trans ?_)
  · rfl
  · rw [← Finset.sum_range (fun k => dcN (A0 m c) (A1 m c) (A2 m c) (A3 m c) (A4 m c) (A5 m c) (A6 m c) (k + (2 - i.val)) q * hhN (A1 m c) (A2 m c) (A3 m c) k q)]
    exact Finset.sum_congr rfl fun k _ => by rw [show (31 - 31) * 256 + k = k by omega]

theorem tile_dcb (q : Fin 5632) : dcb (zRow m c 0) q = ∑ k : Fin 8192, dcN (A0 m c) (A1 m c) (A2 m c) (A3 m c) (A4 m c) (A5 m c) (A6 m c) k.val q := by
  have key := tiles (fun k => dcN (A0 m c) (A1 m c) (A2 m c) (A3 m c) (A4 m c) (A5 m c) (A6 m c) k q) (fun n h => dcb (zAt m c n (lt_of_lt_of_eq h N_0.symm)) q)
    ((congrArg₂ (fun a b : EReal => a + b) Cert.ReferenceIdeal.Ffn.zero_f32 (Finset.sum_congr rfl fun r _ => tile_dc m c h0 h1 h2 h3 h4 h5 h6 0 _ r q)).trans (zero_add _))
    (fun n h => congrArg₂ (fun a b : EReal => a + b) rfl (Finset.sum_congr rfl fun r _ => tile_dc m c h0 h1 h2 h3 h4 h5 h6 (n + 1) _ r q)) 31 (by omega)
  refine Eq.trans ?_ (key.trans ?_)
  · rfl
  · rw [← Finset.sum_range (fun k => dcN (A0 m c) (A1 m c) (A2 m c) (A3 m c) (A4 m c) (A5 m c) (A6 m c) k q)]
    exact Finset.sum_congr rfl fun k _ => by rw [show (31 - 31) * 256 + k = k by omega]

theorem dn_row (n : ℕ) (h : n < cfg0.N) (r : Fin 256) (k : Fin 1024) :
    dx (zAt m c n h) r k * ((zAt m c n h).h (ValueIdx.ix2 r k) * rs (zAt m c n h).h r) = dnN m c ((31 - n) * 256 + r.val) k := by
  rw [tile_dx m c h0 h1 h2 h3 h4 h5 h6, rs_eq, z_h]
  exact (dnN_val m c (gi n r) k).symm

theorem tile_dn (k : Fin 1024) : dn (zRow m c 0) k
    = ∑ i : Fin 8192, val_main_v91 (F := Ideal) (A0 m c) (A1 m c) (A2 m c) (A3 m c) (A4 m c) (A5 m c) (A6 m c) (ValueIdx.ix2 i k) * (A1 m c (ValueIdx.ix2 i k) * Cert.ReferenceIdeal.Ffn.rs (A1 m c) i) := by
  have key := tiles (fun i => dnN m c i k) (fun n h => dn (zAt m c n (lt_of_lt_of_eq h N_0.symm)) k)
    ((congrArg₂ (fun a b : EReal => a + b) Cert.ReferenceIdeal.Ffn.zero_f32 (Finset.sum_congr rfl fun r _ => dn_row m c h0 h1 h2 h3 h4 h5 h6 0 _ r k)).trans (zero_add _))
    (fun n h => congrArg₂ (fun a b : EReal => a + b) rfl (Finset.sum_congr rfl fun r _ => dn_row m c h0 h1 h2 h3 h4 h5 h6 (n + 1) _ r k)) 31 (by omega)
  refine Eq.trans ?_ (key.trans ?_)
  · rfl
  · refine Eq.trans ?_ (Finset.sum_congr rfl fun i _ => dnN_val m c i k)
    rw [← Finset.sum_range (fun i => dnN m c i k)]
    exact Finset.sum_congr rfl fun i _ => by rw [show (31 - 31) * 256 + i = i by omega]

end

end Cert.KernelIdeal.Blk

end
-- ==== Proof.Ffn.Pre.lean ====
/- What the precondition says: every entry of every argument is a real. -/
module

public import proofs.«01_k».proof.Defs
public import proofs.«01_k».proof.Proof.Ffn.Finite

@[expose] public section

noncomputable section

namespace Cert.Pre_finite

open Idealize.ShloMosaic Idealize.SL.Sem
open Cert.ReferenceIdeal.Ffn (Reals)

theorem holds : Cert.Pre_finite.Facts where
  bcast_S_S8192x1024 := by decide
  bcast_S_S1024 := by decide
  bcast_S_S1024x5632 := by decide
  bcast_S_S3x5632 := by decide
  bcast_S_S5632 := by decide
  bcast_S_S2816x1024 := by decide

theorem top_f32 : Ideal.ofBits .f32 0x7F800000#32 = ⊤ := by simp [Ideal.ofBits, Ideal.ieee]

theorem bot_f32 : Ideal.ofBits .f32 0xFF800000#32 = ⊥ := by simp [Ideal.ofBits, Ideal.ieee]

/-- Below the greatest value and above the least one is a real. -/
theorem real_of_word (x : EReal) (h : ((Ideal.cmp .olt x (Ideal.ofBits .f32 0x7F800000#32)) &&& (Ideal.cmp .ogt x (Ideal.ofBits .f32 0xFF800000#32))) = 1#1) :
    Ffn.IsReal x := by
  rw [top_f32, bot_f32] at h
  have e : ∀ a b : Bool, BitVec.ofBool a &&& BitVec.ofBool b = 1#1 → a = true ∧ b = true := by decide
  obtain ⟨a, b⟩ := e _ _ h
  exact Ffn.IsReal.of_lt (of_decide_eq_true a) (of_decide_eq_true b)

end Cert.Pre_finite

end
-- ==== Proof.Ffn.Final.lean ====
/- The equation: what the kernel's run leaves in its result arrays is what the reference's run leaves in its own. -/
module

public import proofs.«01_k».proof.Proof.Ffn.Written
public import proofs.«01_k».proof.Proof.Ffn.Tile
public import proofs.«01_k».proof.Proof.Ffn.Pre
public import proofs.«01_k».proof.Proof.Gen.ReferenceIdeal.Run

@[expose] public section

set_option maxRecDepth 16384

noncomputable section

namespace Cert.KernelIdeal.Blk

open Cert.KernelIdeal Cert.KernelIdeal.Gen Idealize.ShloMosaic Idealize.ShloMosaic.TcCoe Idealize.SL.Sem
open Cert.KernelIdeal.Ffn (dats)
open Cert.ReferenceIdeal.Read (val_main_v86 val_main_v112 val_main_v113 val_main_v114 val_main_v115 val_main_v116)
open Cert.ReferenceIdeal.Ffn (Reals)

variable (m : (ℓ : Loc nD τ sig) → Buf (Elt Ideal) ℓ)

/-- A row of the arrays is its tile's row. -/
theorem gi_row (i : Fin 8192) : gi (31 - i.val / 256) (inRow i.val) = i :=
  Fin.ext (by show (31 - (31 - i.val / 256)) * 256 + i.val % 256 = i.val; have := i.isLt; omega)

section
variable (c : Dev nD) (h0 : Reals (φ := .f32) (A0 m c)) (h1 : Reals (φ := .f32) (A1 m c)) (h2 : Reals (φ := .f32) (A2 m c)) (h3 : Reals (φ := .f32) (A3 m c)) (h4 : Reals (φ := .f32) (A4 m c)) (h5 : Reals (φ := .f32) (A5 m c)) (h6 : Reals (φ := .f32) (A6 m c))
include h0 h1 h2 h3 h4 h5 h6

theorem out8 : (dats m 0 c).arrAt 8 cfg0.N = val_main_v112 (F := Ideal) (A0 m c) (A1 m c) (A2 m c) (A3 m c) (A4 m c) (A5 m c) (A6 m c) := by
  rw [arr8]
  funext y
  refine (tile_dh m c h0 h1 h2 h3 h4 h5 h6 (31 - (y 0).val / 256) _ (inRow (y 0).val) (y 1)).trans (congrArg _ ?_)
  rw [gi_row (y 0)]
  exact (ValueIdx.eq_ix2 (n0 := 8192) (n1 := 1024) y).symm

theorem out9 : (dats m 0 c).arrAt 9 cfg0.N = val_main_v113 (F := Ideal) (A0 m c) (A1 m c) (A2 m c) (A3 m c) (A4 m c) (A5 m c) (A6 m c) := by
  rw [arr9]
  funext y
  refine (tile_dhh m c h0 h1 h2 h3 h4 h5 h6 (31 - (y 0).val / 256) _ (inRow (y 0).val) (y 1)).trans ?_
  rw [gi_row (y 0)]
  exact congrArg (Cert.ReferenceIdeal.Read.val_main_v90 (F := Ideal) (A0 m c) (A1 m c) (A2 m c) (A3 m c) (A4 m c) (A5 m c) (A6 m c)) (ValueIdx.eq_ix2 (n0 := 8192) (n1 := 5632) y).symm

omit h0 h1 h2 h3 h4 h5 h6 in
theorem out10 : (dats m 0 c).arrAt 10 cfg0.N = val_main_v114 (F := Ideal) (A1 m c) (A2 m c) := by
  rw [arr10]
  funext y
  refine Eq.trans ?_ (congrArg (Cert.ReferenceIdeal.Read.val_main_v15 (F := Ideal) (A1 m c) (A2 m c)) (ValueIdx.eq_ix2 (n0 := 8192) (n1 := 1024) y).symm)
  refine Eq.trans ?_ (Cert.ReferenceIdeal.Ffn.v15_eq (A1 m c) (A2 m c) (y 0) (y 1)).symm
  unfold zRow
  have a := (z_h m c (31 - (y 0).val / 256) (pt_lt _) (inRow (y 0).val) (y 1)).trans (congrArg (fun r => A1 m c (ValueIdx.ix2 r (y 1))) (gi_row (y 0)))
  have b := z_n m c (31 - (y 0).val / 256) (pt_lt _) (y 1)
  have d := (rs_eq m c (31 - (y 0).val / 256) (pt_lt _) (inRow (y 0).val)).trans (congrArg (ReferenceIdeal.Ffn.rs (A1 m c)) (gi_row (y 0)))
  exact congr (congrArg HMul.hMul (congr (congrArg HMul.hMul a) d)) b

theorem out11 : (dats m 0 c).arrAt 11 cfg0.N = val_main_v86 (F := Ideal) (A0 m c) (A1 m c) (A2 m c) (A3 m c) (A4 m c) (A5 m c) (A6 m c) := by
  rw [arr11]
  funext y
  refine Eq.trans ?_ (congrArg (val_main_v86 (F := Ideal) (A0 m c) (A1 m c) (A2 m c) (A3 m c) (A4 m c) (A5 m c) (A6 m c)) (ValueIdx.eq_ix2 (n0 := 3) (n1 := 5632) y).symm)
  exact (tile_dcw m c h0 h1 h2 h3 h4 h5 h6 (y 0) (y 1)).trans (Cert.ReferenceIdeal.Ffn.v86_eq (A0 m c) (A1 m c) (A2 m c) (A3 m c) (A4 m c) (A5 m c) (A6 m c) (y 0) (y 1)).symm

theorem out12 : (dats m 0 c).arrAt 12 cfg0.N = val_main_v115 (F := Ideal) (A0 m c) (A1 m c) (A2 m c) (A3 m c) (A4 m c) (A5 m c) (A6 m c) := by
  rw [arr12]
  funext y
  refine Eq.trans ?_ (congrArg (val_main_v115 (F := Ideal) (A0 m c) (A1 m c) (A2 m c) (A3 m c) (A4 m c) (A5 m c) (A6 m c)) (ValueIdx.eq_ix2 (n0 := 1) (n1 := 5632) y).symm)
  rw [show y 0 = (0 : Fin 1) from Subsingleton.elim (α := Fin 1) _ _]
  exact (tile_dcb m c h0 h1 h2 h3 h4 h5 h6 (y 1)).trans (Cert.ReferenceIdeal.Ffn.v115_eq (A0 m c) (A1 m c) (A2 m c) (A3 m c) (A4 m c) (A5 m c) (A6 m c) (y 1)).symm

theorem out13 : (dats m 0 c).arrAt 13 cfg0.N = val_main_v116 (F := Ideal) (A0 m c) (A1 m c) (A2 m c) (A3 m c) (A4 m c) (A5 m c) (A6 m c) := by
  rw [arr13]
  funext y
  refine Eq.trans ?_ (congrArg (val_main_v116 (F := Ideal) (A0 m c) (A1 m c) (A2 m c) (A3 m c) (A4 m c) (A5 m c) (A6 m c)) (ValueIdx.eq_ix2 (n0 := 1) (n1 := 1024) y).symm)
  rw [show y 0 = (0 : Fin 1) from Subsingleton.elim (α := Fin 1) _ _]
  exact (tile_dn m c h0 h1 h2 h3 h4 h5 h6 (y 1)).trans (Cert.ReferenceIdeal.Ffn.v116_eq (A0 m c) (A1 m c) (A2 m c) (A3 m c) (A4 m c) (A5 m c) (A6 m c) (y 1)).symm

end

open Cert.Pre_finite in
/-- The precondition makes every argument's entries real. -/
theorem reals_of_pre (h : Cert.Pre_KernelIdeal_finite (hPre_finite := Cert.Pre_finite.holds) m) (c : Dev nD) :
    Reals (φ := .f32) (A0 m c) ∧ Reals (φ := .f32) (A1 m c) ∧ Reals (φ := .f32) (A2 m c) ∧ Reals (φ := .f32) (A3 m c)
      ∧ Reals (φ := .f32) (A4 m c) ∧ Reals (φ := .f32) (A5 m c) ∧ Reals (φ := .f32) (A6 m c) := by
  obtain ⟨e0, e1, e2, e3, e4, e5, e6⟩ := h c
  exact ⟨fun i => real_of_word _ (congrFun e0 i), fun i => real_of_word _ (congrFun e1 i), fun i => real_of_word _ (congrFun e2 i),
    fun i => real_of_word _ (congrFun e3 i), fun i => real_of_word _ (congrFun e4 i), fun i => real_of_word _ (congrFun e5 i),
    fun i => real_of_word _ (congrFun e6 i)⟩

/-- The kernel's run at the values of the reference's chain. -/
theorem run_values (ρ : Dev nD → PrngReg) (h : Cert.Pre_KernelIdeal_finite (hPre_finite := Cert.Pre_finite.holds) m) :
    θ_run defs (onTc (τ := τ) (main (F := Ideal))) ⟨m, fun _ => 0, ρ⟩ fun r => ∀ c : Dev nD,
      r.2.mem ((c : Thread nD τ).loc main_v65_0) = val_main_v112 (F := Ideal) (A0 m c) (A1 m c) (A2 m c) (A3 m c) (A4 m c) (A5 m c) (A6 m c)
      ∧ r.2.mem ((c : Thread nD τ).loc main_v65_1) = val_main_v113 (F := Ideal) (A0 m c) (A1 m c) (A2 m c) (A3 m c) (A4 m c) (A5 m c) (A6 m c)
      ∧ r.2.mem ((c : Thread nD τ).loc main_v65_2) = val_main_v114 (F := Ideal) (A1 m c) (A2 m c)
      ∧ r.2.mem ((c : Thread nD τ).loc main_v65_3) = val_main_v86 (F := Ideal) (A0 m c) (A1 m c) (A2 m c) (A3 m c) (A4 m c) (A5 m c) (A6 m c)
      ∧ r.2.mem ((c : Thread nD τ).loc main_v65_4) = val_main_v115 (F := Ideal) (A0 m c) (A1 m c) (A2 m c) (A3 m c) (A4 m c) (A5 m c) (A6 m c)
      ∧ r.2.mem ((c : Thread nD τ).loc main_v65_5) = val_main_v116 (F := Ideal) (A0 m c) (A1 m c) (A2 m c) (A3 m c) (A4 m c) (A5 m c) (A6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r hr c => ?_) (Cert.KernelIdeal.Ffn.run_blocks m ρ)
  obtain ⟨h0, h1, h2, h3, h4, h5, h6⟩ := reals_of_pre m h c
  obtain ⟨r0, r1, r2, r3, r4, r5, rest⟩ := hr c
  exact ⟨r0.trans (out8 m c h0 h1 h2 h3 h4 h5 h6), r1.trans (out9 m c h0 h1 h2 h3 h4 h5 h6), r2.trans (out10 m c), r3.trans (out11 m c h0 h1 h2 h3 h4 h5 h6),
    r4.trans (out12 m c h0 h1 h2 h3 h4 h5 h6), r5.trans (out13 m c h0 h1 h2 h3 h4 h5 h6), rest⟩

end Cert.KernelIdeal.Blk

namespace Cert.Proof

open Idealize.ShloMosaic Idealize.SL.Sem
open Cert.KernelIdeal.Blk (A0 A1 A2 A3 A4 A5 A6)
open Cert.ReferenceIdeal.Read

/-- The claim of the values: both runs leave the values of the reference's chain. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.holds) := by
  intro m g m' g' hpre hargs
  refine ⟨fun c => val_main_v112 (F := Ideal) (A0 m c) (A1 m c) (A2 m c) (A3 m c) (A4 m c) (A5 m c) (A6 m c), fun c => val_main_v113 (F := Ideal) (A0 m c) (A1 m c) (A2 m c) (A3 m c) (A4 m c) (A5 m c) (A6 m c), fun c => val_main_v114 (F := Ideal) (A1 m c) (A2 m c),
    fun c => val_main_v86 (F := Ideal) (A0 m c) (A1 m c) (A2 m c) (A3 m c) (A4 m c) (A5 m c) (A6 m c), fun c => val_main_v115 (F := Ideal) (A0 m c) (A1 m c) (A2 m c) (A3 m c) (A4 m c) (A5 m c) (A6 m c), fun c => val_main_v116 (F := Ideal) (A0 m c) (A1 m c) (A2 m c) (A3 m c) (A4 m c) (A5 m c) (A6 m c),
    Cert.KernelIdeal.Blk.run_values m g hpre, ?_⟩
  refine (θ_run Cert.ReferenceIdeal.defs _ _).mono (fun r hr c => ?_) (Cert.ReferenceIdeal.Value.run m' g')
  obtain ⟨e0, e1, e2, e3, e4, e5, e6⟩ := hargs c
  obtain ⟨r0, r1, r2, r3, r4, r5, rest⟩ := hr c
  have w0 : val_main_v112 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v112 (F := Ideal) (A0 m c) (A1 m c) (A2 m c) (A3 m c) (A4 m c) (A5 m c) (A6 m c) := by
    rw [e0, e1, e2, e3, e4, e5, e6]
  have w1 : val_main_v113 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v113 (F := Ideal) (A0 m c) (A1 m c) (A2 m c) (A3 m c) (A4 m c) (A5 m c) (A6 m c) := by
    rw [e0, e1, e2, e3, e4, e5, e6]
  have w2 : val_main_v114 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = val_main_v114 (F := Ideal) (A1 m c) (A2 m c) :=
    congrArg₂ (val_main_v114 (F := Ideal)) e1 e2
  have w3 : val_main_v86 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v86 (F := Ideal) (A0 m c) (A1 m c) (A2 m c) (A3 m c) (A4 m c) (A5 m c) (A6 m c) := by
    rw [e0, e1, e2, e3, e4, e5, e6]
  have w4 : val_main_v115 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v115 (F := Ideal) (A0 m c) (A1 m c) (A2 m c) (A3 m c) (A4 m c) (A5 m c) (A6 m c) := by
    rw [e0, e1, e2, e3, e4, e5, e6]
  have w5 : val_main_v116 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v116 (F := Ideal) (A0 m c) (A1 m c) (A2 m c) (A3 m c) (A4 m c) (A5 m c) (A6 m c) := by
    rw [e0, e1, e2, e3, e4, e5, e6]
  exact ⟨(r0.trans (val_main_v112_eq (StableHlo.launchContents m' c))).trans w0,
    (r1.trans (val_main_v113_eq (StableHlo.launchContents m' c))).trans w1,
    (r2.trans (val_main_v114_eq (StableHlo.launchContents m' c))).trans w2,
    (r3.trans (val_main_v86_eq (StableHlo.launchContents m' c))).trans w3,
    (r4.trans (val_main_v115_eq (StableHlo.launchContents m' c))).trans w4,
    (r5.trans (val_main_v116_eq (StableHlo.launchContents m' c))).trans w5, rest⟩

end Cert.Proof

end
-- ==== Proof.Ffn.Same.lean ====
/- The kernel and its idealisation are one text. -/
module

public import proofs.«01_k».proof.Proof.Gen.Kernel
public import proofs.«01_k».proof.Proof.Gen.KernelIdeal
public import proofs.«01_k».proof.Defs

@[expose] public section

set_option maxRecDepth 16384
noncomputable section

namespace Cert.Proof

open Idealize.ShloMosaic Idealize.SL.Sem

variable {F : FTy → Type} [FloatOps F]

set_option maxHeartbeats 400000 in
theorem same_sig : Cert.Kernel.sig = Cert.KernelIdeal.sig := rfl

set_option maxHeartbeats 2000000 in
theorem same_main : Cert.Kernel.main (F := F) = Cert.KernelIdeal.main (F := F) := rfl

theorem same_labels : Cert.Kernel.Λ₀ = Cert.KernelIdeal.Λ₀ := rfl

set_option maxHeartbeats 2000000 in
theorem same_body : @Cert.Kernel.cc0_ffn_bwd1 F _ Cert.Kernel.Gen.facts = @Cert.KernelIdeal.cc0_ffn_bwd1 F _ Cert.KernelIdeal.Gen.facts := rfl

set_option maxHeartbeats 2000000 in
theorem same_row : ∀ l a, Cert.Kernel.defs₀ (F := F) .tc l a = Cert.KernelIdeal.defs₀ (F := F) .tc l a
  | 0, (t, s) => by
    unfold Cert.Kernel.defs₀ Cert.KernelIdeal.defs₀
    rw [Defs.onTc_tc, Defs.onTc_tc, ← same_body]
    dsimp only
    rfl
  | ⟨_ + 1, h⟩, _ => absurd h (Nat.not_lt.2 (Nat.le_add_left _ _))

set_option maxHeartbeats 2000000 in
theorem same_bodies : Cert.Kernel.defs₀ (F := F) = Cert.KernelIdeal.defs₀ (F := F) := by
  funext p l a
  match p with
  | .tc => exact same_row l a
  | .scScalar _ => rfl
  | .scVector _ _ => rfl

set_option maxHeartbeats 2000000 in
theorem same_defs : Cert.Kernel.defs (F := F) = Cert.KernelIdeal.defs (F := F) := by
  unfold Cert.Kernel.defs Cert.KernelIdeal.defs
  exact congrArg (Pipeline.defs (Cert.Kernel.pcfgs (F := F))) same_bodies

end Cert.Proof

end
-- ==== Proof.Ffn.Sums.lean ====
/- Sums over tiles of rows and the two-dimensional contraction over rows, shared by the two weight gradients. -/
module

public import Idealize.ShloMosaic.PureOps.Ideal.Laws
public import Idealize.ShloMosaic.Lib.ValueIdxCore

@[expose] public section

noncomputable section

namespace Cert.Sums

open Idealize.ShloMosaic
open scoped BigOperators

/-- Tiles of `b` rows, one after another, are the rows. -/
theorem tiled (b : ℕ) (F : ℕ → EReal) : ∀ n : ℕ, ∑ s ∈ Finset.range n, ∑ r : Fin b, F (s * b + r.val) = ∑ k ∈ Finset.range (n * b), F k
  | 0 => by simp
  | n + 1 => by
    rw [Finset.sum_range_succ, tiled b F n, Nat.succ_mul, Finset.sum_range_add, ← Finset.sum_range (fun r => F (n * b + r))]

/-- One row's share of entry `(p, q)` of the product of `x`'s columns with `y`'s; zero outside the arrays. -/
def row {R P Q : ℕ} (x : (⟨2, ![R, P]⟩ : Shape).Idx → EReal) (y : (⟨2, ![R, Q]⟩ : Shape).Idx → EReal) (p q i : ℕ) : EReal :=
  if h : i < R ∧ p < P ∧ q < Q then x (ValueIdx.ix2 ⟨i, h.1⟩ ⟨p, h.2.1⟩) * y (ValueIdx.ix2 ⟨i, h.1⟩ ⟨q, h.2.2⟩) else 0

theorem row_of {R P Q : ℕ} (x : (⟨2, ![R, P]⟩ : Shape).Idx → EReal) (y : (⟨2, ![R, Q]⟩ : Shape).Idx → EReal) {p q i : ℕ} (hi : i < R) (hp : p < P) (hq : q < Q) :
    row x y p q i = x (ValueIdx.ix2 ⟨i, hi⟩ ⟨p, hp⟩) * y (ValueIdx.ix2 ⟨i, hi⟩ ⟨q, hq⟩) := dif_pos ⟨hi, hp, hq⟩

/-- A product of columns against columns, read at an entry: the accumulator plus the sum over the rows. -/
theorem columns_apply {R P Q : ℕ} {φ₁ φ₂ : FTy} (d : DotDims ⟨2, ![R, P]⟩ ⟨2, ![R, Q]⟩ ⟨2, ![P, Q]⟩) (prec : Option ContractPrecision)
    (h1 : d.contr.rank = 1) (h2 : d.contr.size ⟨0, by rw [h1]; exact Nat.one_pos⟩ = R)
    (x : FVec Ideal ⟨2, ![R, P]⟩ φ₁) (y : FVec Ideal ⟨2, ![R, Q]⟩ φ₂) (acc : FVec Ideal ⟨2, ![P, Q]⟩ .f32) (p : Fin P) (q : Fin Q)
    (hl : ∀ k, d.lhsIdx (ValueIdx.ix2 p q) ((ValueIdx.contrEquiv1 d R h1 h2).symm k) = ValueIdx.ix2 k p)
    (hr : ∀ k, d.rhsIdx (ValueIdx.ix2 p q) ((ValueIdx.contrEquiv1 d R h1 h2).symm k) = ValueIdx.ix2 k q) :
    FloatOps.matmul d prec x y acc (ValueIdx.ix2 p q) = acc (ValueIdx.ix2 p q) + ∑ k : Fin R, x (ValueIdx.ix2 k p) * y (ValueIdx.ix2 k q) := by
  rw [Ideal.matmul_apply, ← Equiv.sum_comp (ValueIdx.contrEquiv1 d R h1 h2).symm]
  refine congrArg (acc (ValueIdx.ix2 p q) + ·) (Finset.sum_congr rfl fun k _ => ?_)
  rw [hl, hr]

end Cert.Sums

end
-- ==== Proof.Ffn.Up.lean ====
/- The gradient of the up projection's weights: the grid's accumulated blocks are the reference's product. -/
module

public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Ffn.Sums
public import proofs.«01_k».proof.Defs
public import Idealize.ShloMosaic.Lib.ValueLayout
public import Idealize.ShloMosaic.Lib.StableHlo.RunRead
public import Idealize.ShloMosaic.Lib.Pipeline.ValueKit

@[expose] public section

set_option maxRecDepth 16384

noncomputable section

namespace Cert.KernelUpIdeal.Wg

open Cert.KernelUpIdeal Cert.KernelUpIdeal.Gen Idealize.ShloMosaic Idealize.ShloMosaic.TcCoe Idealize.SL.Sem
open scoped BigOperators

/-! ## One point's product -/

theorem pay1_apply (i : S1x1024x1408.Idx) : k0_pay1 (F := Ideal) i = 0 := by
  unfold k0_pay1
  exact Ideal.ofBits_zero_f32

theorem dot_apply (x0 : FVec Ideal S2048x1024 .bf16) (x1 : FVec Ideal S2048x1408 .bf16) (acc : FVec Ideal S1024x1408 .f32) (k : Fin 1024) (q : Fin 1408) :
    matmul (F := Ideal) dot_S2048x1024_S2048x1408_S1024x1408_0_0_1_1_n_n none x0 x1 acc (ValueIdx.ix2 k q)
      = acc (ValueIdx.ix2 k q) + ∑ r : Fin 2048, x0 (ValueIdx.ix2 r k) * x1 (ValueIdx.ix2 r q) := by
  refine Cert.Sums.columns_apply dot_S2048x1024_S2048x1408_S1024x1408_0_0_1_1_n_n none rfl rfl x0 x1 acc k q (fun r => ?_) (fun r => ?_)
  · have hk := ValueIdx.contrEquiv1_symm_val dot_S2048x1024_S2048x1408_S1024x1408_0_0_1_1_n_n 2048 rfl rfl r
    funext a; apply Fin.ext
    match a with
    | ⟨0, _⟩ => exact hk
    | ⟨1, _⟩ => rfl
  · have hk := ValueIdx.contrEquiv1_symm_val dot_S2048x1024_S2048x1408_S1024x1408_0_0_1_1_n_n 2048 rfl rfl r
    funext a; apply Fin.ext
    match a with
    | ⟨0, _⟩ => exact hk
    | ⟨1, _⟩ => rfl

theorem pay2_apply (x0 : Vec Ideal S2048x1024 .bf16) (x1 : Vec Ideal S2048x1408 .bf16) (acc : Vec Ideal S1x1024x1408 .f32) (k : Fin 1024) (q : Fin 1408) :
    k0_pay2 (F := Ideal) x0 x1 acc (ValueIdx.ix3 0 k q) = acc (ValueIdx.ix3 0 k q) + ∑ r : Fin 2048, x0 (ValueIdx.ix2 r k) * x1 (ValueIdx.ix2 r q) := by
  unfold k0_pay2
  simp only [shapeCast_self]
  rw [ValueIdx.shapeCast_ab_1ab_apply, addf_apply, ValueIdx.shapeCast_1ab_ab_apply, dot_apply, constant_apply]
  exact congrArg (acc (ValueIdx.ix3 0 k q) + ·) ((congrArg (· + _) Ideal.ofBits_zero_f32).trans (zero_add _))

/-! ## The grid's blocks -/

variable (m : (ℓ : Loc nD τ sig) → Buf (Elt Ideal) ℓ)

abbrev A0 (c : Dev nD) : Vec Ideal S8192x1024 .f32 := m (c.tc.loc main_arg0)
abbrev A1 (c : Dev nD) : Vec Ideal S8192x5632 .f32 := m (c.tc.loc main_arg1)

theorem V0 (c : Dev nD) : V m c main_v0 = A0 m c := by
  unfold V hostOps0
  after_reads_simp
  rfl

theorem V1 (c : Dev nD) : V m c main_v1 = A1 m c := by
  unfold V hostOps0
  after_reads_simp
  rfl

theorem idx0 : ∀ t : Fin cfg0.N, win0_0.index t = ![t.val % 4, 0] :=
  (by decide +kernel : ∀ t : Fin grid0.N, _)

theorem idx1 : ∀ t : Fin cfg0.N, win0_1.index t = ![t.val % 4, t.val / 4] :=
  (by decide +kernel : ∀ t : Fin grid0.N, _)

theorem blk0 (c : Dev nD) (n : ℕ) (h : n < cfg0.N) (r : Fin 2048) (k : Fin 1024) :
    (iblk m c 0 ⟨n, h⟩ : Vec Ideal S2048x1024 .bf16) (ValueIdx.ix2 r k) = A0 m c (ValueIdx.ix2 ⟨n % 4 * 2048 + r.val, by have := r.isLt; omega⟩ k) := by
  refine Eq.trans ?_ (congrFun (V0 m c) _)
  have hn : n < 16 := lt_of_lt_of_eq h (show cfg0.N = 16 from N_0)
  blk_simp [iblk]
  refine congrArg (V m c main_v0 : Vec Ideal S8192x1024 .bf16) ?_
  funext a
  apply Fin.ext
  match a with
  | ⟨0, _⟩ => blk_simp [idx0] <;> rfl
  | ⟨1, _⟩ => blk_simp [idx0] <;> rfl

theorem blk1 (c : Dev nD) (n : ℕ) (h : n < cfg0.N) (r : Fin 2048) (q : Fin 1408) :
    (iblk m c 1 ⟨n, h⟩ : Vec Ideal S2048x1408 .bf16) (ValueIdx.ix2 r q) = A1 m c (ValueIdx.ix2 ⟨n % 4 * 2048 + r.val, by have := r.isLt; omega⟩
      ⟨n / 4 * 1408 + q.val, by have := q.isLt; have hn : n < 16 := lt_of_lt_of_eq h (show cfg0.N = 16 from N_0); omega⟩) := by
  refine Eq.trans ?_ (congrFun (V1 m c) _)
  have hn : n < 16 := lt_of_lt_of_eq h (show cfg0.N = 16 from N_0)
  blk_simp [iblk]
  refine congrArg (V m c main_v1 : Vec Ideal S8192x5632 .bf16) ?_
  funext a
  apply Fin.ext
  match a with
  | ⟨0, _⟩ => blk_simp [idx1] <;> rfl
  | ⟨1, _⟩ => blk_simp [idx1] <;> rfl

/-! ## The accumulated block -/

/-- What point `n` adds at a place of its block. -/
def add (c : Dev nD) (n : ℕ) (i : S1x1024x1408.Idx) : EReal :=
  ∑ r : Fin 2048, Cert.Sums.row (A0 m c) (A1 m c) (i 1).val (n / 4 * 1408 + (i 2).val) (n % 4 * 2048 + r.val)

theorem ix_eq (i : S1x1024x1408.Idx) : i = ValueIdx.ix3 0 (i 1) (i 2) := by
  funext a
  match a with
  | ⟨0, _⟩ => exact Subsingleton.elim (α := Fin 1) _ _
  | ⟨1, _⟩ => rfl
  | ⟨2, _⟩ => rfl

theorem pay2_add (c : Dev nD) (n : ℕ) (h : n < cfg0.N) (acc : Vec Ideal S1x1024x1408 .f32) (i : S1x1024x1408.Idx) :
    k0_pay2 (F := Ideal) (iblk m c 0 ⟨n, h⟩) (iblk m c 1 ⟨n, h⟩) acc i = acc i + add m c n i := by
  have hn : n < 16 := lt_of_lt_of_eq h (show cfg0.N = 16 from N_0)
  have h1 : (i 1).val < 1024 := (i 1).isLt
  have h2 : (i 2).val < 1408 := (i 2).isLt
  refine (congrArg _ (ix_eq i)).trans ((pay2_apply _ _ _ (i 1) (i 2)).trans ?_)
  unfold add
  refine congrArg₂ (· + ·) (congrArg acc (ix_eq i).symm) (Finset.sum_congr rfl fun r _ => ?_)
  rw [Cert.Sums.row_of _ _ (by have := r.isLt; omega) h1 (by omega)]
  exact congrArg₂ (· * ·) (blk0 m c n h r (i 1)) (blk1 m c n h r (i 2))

theorem acc_apply (c : Dev nD) (b : ℕ) (h : 4 * b + 3 < cfg0.N) (i : S1x1024x1408.Idx) :
    Pipeline.accAt (Value.reset2 m c) (Value.step2 m c) (4 * b) 3 h i
      = ∑ k ∈ Finset.range 8192, Cert.Sums.row (A0 m c) (A1 m c) (i 1).val (b * 1408 + (i 2).val) k := by
  rw [Pipeline.accAt_add_apply (Value.reset2 m c) (Value.step2 m c) (fun _ => (0 : EReal)) (add m c) (4 * b) 3
    (fun h i => (pay2_add m c _ h _ i).trans (by rw [pay1_apply]))
    (fun n h acc i _ _ => pay2_add m c n h acc i) 3 (le_refl _) h i, zero_add]
  refine Eq.trans ?_ (Cert.Sums.tiled 2048 (fun k => Cert.Sums.row (A0 m c) (A1 m c) (i 1).val (b * 1408 + (i 2).val) k) 4)
  refine Finset.sum_congr rfl fun s hs => ?_
  have hs4 : s < 4 := Finset.mem_range.mp hs
  unfold add
  rw [show (4 * b + s) / 4 = b by omega, show (4 * b + s) % 4 = s by omega]

/-! ## The reference's product -/

open Cert.ReferenceUpIdeal.Read in
theorem ref_apply (x : Vec Ideal S8192x1024 .f32) (y : Vec Ideal S8192x5632 .f32) (i : S4x1024x1408.Idx) :
    val_main_v5 (F := Ideal) x y i = ∑ k ∈ Finset.range 8192, Cert.Sums.row x y (i 1).val ((i 0).val * 1408 + (i 2).val) k := by
  have h0 : (i 0).val < 4 := (i 0).isLt
  have h1 : (i 1).val < 1024 := (i 1).isLt
  have h2 : (i 2).val < 1408 := (i 2).isLt
  rw [val_main_v5_apply, val_main_v4_apply, val_main_v3_apply, val_main_v2_apply, Finset.sum_range]
  refine Finset.sum_congr rfl fun k _ => ?_
  rw [Cert.Sums.row_of _ _ k.isLt h1 (by omega), mul_comm]
  refine congrArg₂ (· * ·) (congrArg x ?_) (congrArg y ?_)
  · funext a
    apply Fin.ext
    match a with
    | ⟨0, _⟩ => rfl
    | ⟨1, _⟩ => show (((i 1).val * 4 + (i 0).val) * 1408 + (i 2).val) / 5632 = (i 1).val; omega
  · funext a
    apply Fin.ext
    match a with
    | ⟨0, _⟩ => rfl
    | ⟨1, _⟩ => show (((i 1).val * 4 + (i 0).val) * 1408 + (i 2).val) % 5632 = (i 0).val * 1408 + (i 2).val; omega

theorem value (c : Dev nD) : Value.G2 m c = Cert.ReferenceUpIdeal.Read.val_main_v5 (F := Ideal) (A0 m c) (A1 m c) := by
  funext i
  have h0 : (i 0).val < 4 := (i 0).isLt
  have h1 : (i 1).val < 1024 := (i 1).isLt
  have h2 : (i 2).val < 1408 := (i 2).isLt
  have hr : Value.run2Of i = (i 0).val := by unfold Value.run2Of; omega
  have hN : cfg0.N = 16 := N_0
  refine Eq.trans ?_ (ref_apply (A0 m c) (A1 m c) i).symm
  unfold Value.G2
  rw [dif_pos (by rw [hr, hN]; omega), acc_apply, hr]
  show ∑ k ∈ Finset.range 8192, Cert.Sums.row (A0 m c) (A1 m c) ((i 1).val % 1024) ((i 0).val * 1408 + (i 2).val % 1408) k = _
  rw [Nat.mod_eq_of_lt h1, Nat.mod_eq_of_lt h2]

end Cert.KernelUpIdeal.Wg

namespace Cert.Proof

open Idealize.ShloMosaic Idealize.ShloMosaic.TcCoe Idealize.SL.Sem

/-- The claim of the values: both runs leave the product. -/
theorem algebraic_up : Cert.algebraic_KernelUpIdeal_ReferenceUpIdeal (hKernelUpIdeal := Cert.KernelUpIdeal.Gen.facts)
    (hReferenceUpIdeal := Cert.ReferenceUpIdeal.Gen.facts) := by
  intro m g m' g' _ hargs
  refine ⟨fun c => Cert.ReferenceUpIdeal.Read.val_main_v5 (F := Ideal) (Cert.KernelUpIdeal.Wg.A0 m c) (Cert.KernelUpIdeal.Wg.A1 m c), ?_, ?_⟩
  · refine (θ_run Cert.KernelUpIdeal.defs _ _).mono (fun r hr c => ?_) (Cert.KernelUpIdeal.Value.run m g)
    obtain ⟨r0, rest⟩ := hr c
    exact ⟨r0.trans (Cert.KernelUpIdeal.Wg.value m c), rest⟩
  · refine (θ_run Cert.ReferenceUpIdeal.defs _ _).mono (fun r hr c => ?_) (Cert.ReferenceUpIdeal.Value.run m' g')
    obtain ⟨e0, e1⟩ := hargs c
    obtain ⟨r0, rest⟩ := hr c
    refine ⟨(r0.trans (Cert.ReferenceUpIdeal.Read.val_main_v5_eq (m' ((c.tc : Thread Cert.ReferenceUpIdeal.nD Cert.ReferenceUpIdeal.τ).loc Cert.ReferenceUpIdeal.main_arg0)) (m' ((c.tc : Thread Cert.ReferenceUpIdeal.nD Cert.ReferenceUpIdeal.τ).loc Cert.ReferenceUpIdeal.main_arg1)))).trans ?_, rest⟩
    exact congrArg₂ (Cert.ReferenceUpIdeal.Read.val_main_v5 (F := Ideal)) e0 e1

end Cert.Proof

end
-- ==== Proof.Ffn.DownOut.lean ====
/- The gradient of the down projection's weights: what one point leaves in its block. -/
module

public import proofs.«01_k».proof.Proof.Gen.KernelDownIdeal.Value
public import proofs.«01_k».proof.Proof.Ffn.Sums
public import Idealize.ShloMosaic.Lib.Pipeline.ValueKit
public import Idealize.ShloMosaic.Lib.Pipeline.CanonAppend
public import Idealize.ShloMosaic.Lib.Pipeline.ReadBack
public import Idealize.ShloMosaic.Lib.ValueLayout

@[expose] public section

set_option maxRecDepth 16384

noncomputable section

namespace Cert.KernelDownIdeal.Wg

open Cert.KernelDownIdeal Cert.KernelDownIdeal.Gen Idealize.ShloMosaic Idealize.ShloMosaic.TcCoe Idealize.ShloMosaic.Tactic Idealize.SL.Sem
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-! ## One point's product -/

theorem pay2_apply (i : S4x704x512.Idx) : k0_pay2 (F := Ideal) i = 0 := by
  unfold k0_pay2
  exact Ideal.ofBits_zero_f32

theorem dot_apply (x0 : FVec Ideal S2048x2816 .bf16) (x1 : FVec Ideal S2048x512 .bf16) (acc : FVec Ideal S2816x512 .f32) (k : Fin 2816) (q : Fin 512) :
    matmul (F := Ideal) dot_S2048x2816_S2048x512_S2816x512_0_0_1_1_n_n none x0 x1 acc (ValueIdx.ix2 k q)
      = acc (ValueIdx.ix2 k q) + ∑ r : Fin 2048, x0 (ValueIdx.ix2 r k) * x1 (ValueIdx.ix2 r q) := by
  refine Cert.Sums.columns_apply dot_S2048x2816_S2048x512_S2816x512_0_0_1_1_n_n none rfl rfl x0 x1 acc k q (fun r => ?_) (fun r => ?_)
  · have hk := ValueIdx.contrEquiv1_symm_val dot_S2048x2816_S2048x512_S2816x512_0_0_1_1_n_n 2048 rfl rfl r
    funext a; apply Fin.ext
    match a with
    | ⟨0, _⟩ => exact hk
    | ⟨1, _⟩ => rfl
  · have hk := ValueIdx.contrEquiv1_symm_val dot_S2048x2816_S2048x512_S2816x512_0_0_1_1_n_n 2048 rfl rfl r
    funext a; apply Fin.ext
    match a with
    | ⟨0, _⟩ => exact hk
    | ⟨1, _⟩ => rfl

theorem pay3_apply (x0 : Vec Ideal S2048x2816 .bf16) (x1 : Vec Ideal S2048x512 .f32) (k : Fin 2816) (q : Fin 512) :
    k0_pay3 (F := Ideal) x0 x1 (ValueIdx.ix2 k q) = ∑ r : Fin 2048, x0 (ValueIdx.ix2 r k) * x1 (ValueIdx.ix2 r q) := by
  unfold k0_pay3
  simp only [shapeCast_self]
  rw [dot_apply, constant_apply]
  exact ((congrArg (· + _) Ideal.ofBits_zero_f32).trans (zero_add _))

theorem slab_apply (off : ℕ) (v : FVec Ideal S2816x512 .f32) (w : Vec Ideal S1x704x512 .f32) (hs : S2816x512.Slices ![off, 0] S704x512)
    (u : Fin 1) (r : Fin 704) (q : Fin 512) (h : off + r.val < 2816) :
    shapeCast S1x704x512 (addf (F := Ideal) (φ := .f32) (shapeCast S704x512 w shapeCasts_S1x704x512_S704x512) (extractStridedSlice S704x512 ![off, 0] v hs)) shapeCasts_S704x512_S1x704x512 (ValueIdx.ix3 u r q)
      = w (ValueIdx.ix3 0 r q) + v (ValueIdx.ix2 ⟨off + r.val, h⟩ q) := by
  rw [ValueIdx.shapeCast_ab_1ab_apply, addf_apply, ValueIdx.shapeCast_1ab_ab_apply]
  refine congrArg (w (ValueIdx.ix3 0 r q) + ·) ?_
  refine extractStridedSlice_apply ![off, 0] v hs (ValueIdx.ix2 r q) (ValueIdx.ix2 ⟨off + r.val, h⟩ q) fun a => ?_
  match a with
  | ⟨0, _⟩ => rfl
  | ⟨1, _⟩ => exact (Nat.zero_add _).symm

/-- What one point leaves over `f`: at slab `j`, row `r`, the product's row `704 j + r` added. -/
def left (x0 : Vec Ideal S2048x2816 .bf16) (x1 : Vec Ideal S2048x512 .f32) (f : Vec Ideal S4x704x512 .f32) : Vec Ideal S4x704x512 .f32 := fun i =>
  f i + ∑ k : Fin 2048, x0 (ValueIdx.ix2 k ⟨704 * (i 0).val + (i 1).val, by have h0 : (i 0).val < 4 := (i 0).isLt; have h1 : (i 1).val < 704 := (i 1).isLt; omega⟩) * x1 (ValueIdx.ix2 k (i 2))

theorem slab_left (x0 : Vec Ideal S2048x2816 .bf16) (x1 : Vec Ideal S2048x512 .f32) (f : Vec Ideal S4x704x512 .f32) (j : ℕ) (off : ℕ) (hj : off = 704 * j) (hs : S2816x512.Slices ![off, 0] S704x512)
    (inb : ∀ a, (![j, 0, 0] : Fin 3 → ℕ) a + S1x704x512.size a ≤ S4x704x512.size a) (x : S1x704x512.Idx) :
    shapeCast S1x704x512 (addf (F := Ideal) (φ := .f32) (shapeCast S704x512 (View.ld f (Rect.unit (s := S4x704x512) ![j, 0, 0] S1x704x512.size inb)) shapeCasts_S1x704x512_S704x512) (extractStridedSlice S704x512 ![off, 0] (k0_pay3 (F := Ideal) x0 x1) hs)) shapeCasts_S704x512_S1x704x512 x
      = left x0 x1 f ((Rect.unit (s := S4x704x512) ![j, 0, 0] S1x704x512.size inb).emb x) := by
  subst hj
  have hj4 : j < 4 := by have := inb 0; have e : j + 1 ≤ 4 := this; omega
  have h1 : (x 1).val < 704 := (x 1).isLt
  have ex : x = ValueIdx.ix3 (x 0) (x 1) (x 2) := by
    funext a
    match a with
    | ⟨0, _⟩ => rfl
    | ⟨1, _⟩ => rfl
    | ⟨2, _⟩ => rfl
  have e0 : (x 0).val = 0 := by have h : (x 0).val < 1 := (x 0).isLt; omega
  refine (congrArg _ ex).trans ((slab_apply (704 * j) (k0_pay3 (F := Ideal) x0 x1) _ hs (x 0) (x 1) (x 2) (by omega)).trans ?_)
  unfold left
  refine congrArg₂ (· + ·) (congrArg f ?_) ((pay3_apply x0 x1 ⟨704 * j + (x 1).val, by omega⟩ (x 2)).trans (Finset.sum_congr rfl fun k _ => congrArg₂ (· * ·) (congrArg x0 ?_) (congrArg x1 ?_)))
  · funext a; apply Fin.ext
    match a with
    | ⟨0, _⟩ => show j + 1 * 0 = j + 1 * (x 0).val; omega
    | ⟨1, _⟩ => rfl
    | ⟨2, _⟩ => rfl
  · funext a; apply Fin.ext
    match a with
    | ⟨0, _⟩ => rfl
    | ⟨1, _⟩ => show 704 * j + (x 1).val = 704 * (j + 1 * (x 0).val) + (0 + 1 * (x 1).val); omega
  · funext a; apply Fin.ext
    match a with
    | ⟨0, _⟩ => rfl
    | ⟨1, _⟩ => show (x 2).val = 0 + 1 * (x 2).val; omega

/-- The four stores, last first. -/
def four (x0 : Vec Ideal S2048x2816 .bf16) (x1 : Vec Ideal S2048x512 .f32) (f : Vec Ideal S4x704x512 .f32) : List (View.Piece (Elt Ideal) S4x704x512 .f32) :=
  [⟨Rect.unit (s := S4x704x512) ![3, 0, 0] S1x704x512.size inb_S4x704x512_S1x704x512_3_0_0, k0_pay1 (F := Ideal) (k0_pay3 x0 x1) (View.ld f (Rect.unit (s := S4x704x512) ![3, 0, 0] S1x704x512.size inb_S4x704x512_S1x704x512_3_0_0))⟩,
   ⟨Rect.unit (s := S4x704x512) ![2, 0, 0] S1x704x512.size inb_S4x704x512_S1x704x512_2_0_0, k0_pay6 (F := Ideal) x0 x1 (View.ld f (Rect.unit (s := S4x704x512) ![2, 0, 0] S1x704x512.size inb_S4x704x512_S1x704x512_2_0_0))⟩,
   ⟨Rect.unit (s := S4x704x512) ![1, 0, 0] S1x704x512.size inb_S4x704x512_S1x704x512_1_0_0, k0_pay5 (F := Ideal) x0 x1 (View.ld f (Rect.unit (s := S4x704x512) ![1, 0, 0] S1x704x512.size inb_S4x704x512_S1x704x512_1_0_0))⟩,
   ⟨Rect.unit (s := S4x704x512) ![0, 0, 0] S1x704x512.size inb_S4x704x512_S1x704x512_0_0_0, k0_pay4 (F := Ideal) x0 x1 (View.ld f (Rect.unit (s := S4x704x512) ![0, 0, 0] S1x704x512.size inb_S4x704x512_S1x704x512_0_0_0))⟩]

theorem four_left (x0 : Vec Ideal S2048x2816 .bf16) (x1 : Vec Ideal S2048x512 .f32) (f : Vec Ideal S4x704x512 .f32) (L : List (View.Piece (Elt Ideal) S4x704x512 .f32)) :
    View.canon (four x0 x1 f ++ L) = left x0 x1 f := by
  funext y
  refine View.canon_append_of_piecesOf (left x0 x1 f) L (four x0 x1 f) ⟨?_, ?_, ?_, ?_, trivial⟩ y ?_
  · exact slab_left x0 x1 f 3 2112 rfl _ _
  · exact slab_left x0 x1 f 2 1408 rfl _ _
  · exact slab_left x0 x1 f 1 704 rfl _ _
  · exact slab_left x0 x1 f 0 0 rfl _ _
  · exact View.cover_of_tiledBy (four x0 x1 f) ![1, 704, 512] (by sl_kernel_rfl) y

theorem out_B (c : Dev nD) (i : grid0.Coords) (arg2 : Memref sig .tc .vmem S2048x2816 .bf16) (harg2 : arg2.IsWhole) (arg3 : Memref sig .tc .vmem S2048x512 .f32) (harg3 : arg3.IsWhole) (arg4 : Memref sig .tc .vmem S4x704x512 .f32) (harg4 : arg4.IsWhole) (hc0 : ¬cond0_0 i)
    (x0 : Vec Ideal S2048x2816 .bf16) (x1 : Vec Ideal S2048x512 .f32) (xo2 : Vec Ideal S4x704x512 .f32) :
    out0_B_2 c i arg2 harg2 arg3 harg3 arg4 harg4 hc0 x0 x1 xo2 = left x0 x1 xo2 := by
  unfold out0_B_2
  rw [View.read_writes_junk_eq_canon]
  unfold kernelRun0_B
  dsimp only
  sl_unfold_words
  simp only [View.readAt_eq_ld, harg2.read_unread, harg3.read_unread, harg4.read_unread, View.ld_unit_zero (S := S2048x2816) hz2, View.ld_unit_zero (S := S2048x512) hz2, View.ld_unit_zero (S := S4x704x512) hz3]
  exact (congrArg View.canon (List.append_nil (four x0 x1 xo2)).symm).trans (four_left x0 x1 xo2 [])

theorem out_A (c : Dev nD) (i : grid0.Coords) (arg2 : Memref sig .tc .vmem S2048x2816 .bf16) (harg2 : arg2.IsWhole) (arg3 : Memref sig .tc .vmem S2048x512 .f32) (harg3 : arg3.IsWhole) (arg4 : Memref sig .tc .vmem S4x704x512 .f32) (harg4 : arg4.IsWhole) (hc0 : cond0_0 i)
    (x0 : Vec Ideal S2048x2816 .bf16) (x1 : Vec Ideal S2048x512 .f32) :
    out0_A_2 c i arg2 harg2 arg3 harg3 arg4 harg4 hc0 x0 x1 = left x0 x1 (k0_pay2 (F := Ideal)) := by
  have s01 : ∀ (w : Vec Ideal S1x704x512 .f32) (L : List (View.Piece (Elt Ideal) S4x704x512 .f32)), arg4.view.readCov (⟨Rect.unit (s := S4x704x512) ![0, 0, 0] S1x704x512.size inb_S4x704x512_S1x704x512_0_0_0, w⟩ :: L) (Rect.unit (s := S4x704x512) ![1, 0, 0] S1x704x512.size inb_S4x704x512_S1x704x512_1_0_0).toLoadRect = arg4.view.readCov L (Rect.unit (s := S4x704x512) ![1, 0, 0] S1x704x512.size inb_S4x704x512_S1x704x512_1_0_0).toLoadRect :=
    fun w L => View.readCov_skip arg4.view (Rect.unit (s := S4x704x512) ![0, 0, 0] S1x704x512.size inb_S4x704x512_S1x704x512_0_0_0) w L (Rect.unit (s := S4x704x512) ![1, 0, 0] S1x704x512.size inb_S4x704x512_S1x704x512_1_0_0).toLoadRect (by decide +kernel)
  have s02 : ∀ (w : Vec Ideal S1x704x512 .f32) (L : List (View.Piece (Elt Ideal) S4x704x512 .f32)), arg4.view.readCov (⟨Rect.unit (s := S4x704x512) ![0, 0, 0] S1x704x512.size inb_S4x704x512_S1x704x512_0_0_0, w⟩ :: L) (Rect.unit (s := S4x704x512) ![2, 0, 0] S1x704x512.size inb_S4x704x512_S1x704x512_2_0_0).toLoadRect = arg4.view.readCov L (Rect.unit (s := S4x704x512) ![2, 0, 0] S1x704x512.size inb_S4x704x512_S1x704x512_2_0_0).toLoadRect :=
    fun w L => View.readCov_skip arg4.view (Rect.unit (s := S4x704x512) ![0, 0, 0] S1x704x512.size inb_S4x704x512_S1x704x512_0_0_0) w L (Rect.unit (s := S4x704x512) ![2, 0, 0] S1x704x512.size inb_S4x704x512_S1x704x512_2_0_0).toLoadRect (by decide +kernel)
  have s03 : ∀ (w : Vec Ideal S1x704x512 .f32) (L : List (View.Piece (Elt Ideal) S4x704x512 .f32)), arg4.view.readCov (⟨Rect.unit (s := S4x704x512) ![0, 0, 0] S1x704x512.size inb_S4x704x512_S1x704x512_0_0_0, w⟩ :: L) (Rect.unit (s := S4x704x512) ![3, 0, 0] S1x704x512.size inb_S4x704x512_S1x704x512_3_0_0).toLoadRect = arg4.view.readCov L (Rect.unit (s := S4x704x512) ![3, 0, 0] S1x704x512.size inb_S4x704x512_S1x704x512_3_0_0).toLoadRect :=
    fun w L => View.readCov_skip arg4.view (Rect.unit (s := S4x704x512) ![0, 0, 0] S1x704x512.size inb_S4x704x512_S1x704x512_0_0_0) w L (Rect.unit (s := S4x704x512) ![3, 0, 0] S1x704x512.size inb_S4x704x512_S1x704x512_3_0_0).toLoadRect (by decide +kernel)
  have s12 : ∀ (w : Vec Ideal S1x704x512 .f32) (L : List (View.Piece (Elt Ideal) S4x704x512 .f32)), arg4.view.readCov (⟨Rect.unit (s := S4x704x512) ![1, 0, 0] S1x704x512.size inb_S4x704x512_S1x704x512_1_0_0, w⟩ :: L) (Rect.unit (s := S4x704x512) ![2, 0, 0] S1x704x512.size inb_S4x704x512_S1x704x512_2_0_0).toLoadRect = arg4.view.readCov L (Rect.unit (s := S4x704x512) ![2, 0, 0] S1x704x512.size inb_S4x704x512_S1x704x512_2_0_0).toLoadRect :=
    fun w L => View.readCov_skip arg4.view (Rect.unit (s := S4x704x512) ![1, 0, 0] S1x704x512.size inb_S4x704x512_S1x704x512_1_0_0) w L (Rect.unit (s := S4x704x512) ![2, 0, 0] S1x704x512.size inb_S4x704x512_S1x704x512_2_0_0).toLoadRect (by decide +kernel)
  have s13 : ∀ (w : Vec Ideal S1x704x512 .f32) (L : List (View.Piece (Elt Ideal) S4x704x512 .f32)), arg4.view.readCov (⟨Rect.unit (s := S4x704x512) ![1, 0, 0] S1x704x512.size inb_S4x704x512_S1x704x512_1_0_0, w⟩ :: L) (Rect.unit (s := S4x704x512) ![3, 0, 0] S1x704x512.size inb_S4x704x512_S1x704x512_3_0_0).toLoadRect = arg4.view.readCov L (Rect.unit (s := S4x704x512) ![3, 0, 0] S1x704x512.size inb_S4x704x512_S1x704x512_3_0_0).toLoadRect :=
    fun w L => View.readCov_skip arg4.view (Rect.unit (s := S4x704x512) ![1, 0, 0] S1x704x512.size inb_S4x704x512_S1x704x512_1_0_0) w L (Rect.unit (s := S4x704x512) ![3, 0, 0] S1x704x512.size inb_S4x704x512_S1x704x512_3_0_0).toLoadRect (by decide +kernel)
  have s23 : ∀ (w : Vec Ideal S1x704x512 .f32) (L : List (View.Piece (Elt Ideal) S4x704x512 .f32)), arg4.view.readCov (⟨Rect.unit (s := S4x704x512) ![2, 0, 0] S1x704x512.size inb_S4x704x512_S1x704x512_2_0_0, w⟩ :: L) (Rect.unit (s := S4x704x512) ![3, 0, 0] S1x704x512.size inb_S4x704x512_S1x704x512_3_0_0).toLoadRect = arg4.view.readCov L (Rect.unit (s := S4x704x512) ![3, 0, 0] S1x704x512.size inb_S4x704x512_S1x704x512_3_0_0).toLoadRect :=
    fun w L => View.readCov_skip arg4.view (Rect.unit (s := S4x704x512) ![2, 0, 0] S1x704x512.size inb_S4x704x512_S1x704x512_2_0_0) w L (Rect.unit (s := S4x704x512) ![3, 0, 0] S1x704x512.size inb_S4x704x512_S1x704x512_3_0_0).toLoadRect (by decide +kernel)
  have z0 : ∀ (w : Vec Ideal S4x704x512 .f32), arg4.view.readCov [⟨Rect.unit (s := S4x704x512) ![0, 0, 0] S4x704x512.size inb_S4x704x512_S4x704x512_0_0_0, w⟩] (Rect.unit (s := S4x704x512) ![0, 0, 0] S1x704x512.size inb_S4x704x512_S1x704x512_0_0_0).toLoadRect = View.ld w (Rect.unit (s := S4x704x512) ![0, 0, 0] S1x704x512.size inb_S4x704x512_S1x704x512_0_0_0) :=
    fun w => by rw [View.readCov_eq_canon', View.canon_unit_zero (S := S4x704x512) hz3]
  have z1 : ∀ (w : Vec Ideal S4x704x512 .f32), arg4.view.readCov [⟨Rect.unit (s := S4x704x512) ![0, 0, 0] S4x704x512.size inb_S4x704x512_S4x704x512_0_0_0, w⟩] (Rect.unit (s := S4x704x512) ![1, 0, 0] S1x704x512.size inb_S4x704x512_S1x704x512_1_0_0).toLoadRect = View.ld w (Rect.unit (s := S4x704x512) ![1, 0, 0] S1x704x512.size inb_S4x704x512_S1x704x512_1_0_0) :=
    fun w => by rw [View.readCov_eq_canon', View.canon_unit_zero (S := S4x704x512) hz3]
  have z2 : ∀ (w : Vec Ideal S4x704x512 .f32), arg4.view.readCov [⟨Rect.unit (s := S4x704x512) ![0, 0, 0] S4x704x512.size inb_S4x704x512_S4x704x512_0_0_0, w⟩] (Rect.unit (s := S4x704x512) ![2, 0, 0] S1x704x512.size inb_S4x704x512_S1x704x512_2_0_0).toLoadRect = View.ld w (Rect.unit (s := S4x704x512) ![2, 0, 0] S1x704x512.size inb_S4x704x512_S1x704x512_2_0_0) :=
    fun w => by rw [View.readCov_eq_canon', View.canon_unit_zero (S := S4x704x512) hz3]
  have z3 : ∀ (w : Vec Ideal S4x704x512 .f32), arg4.view.readCov [⟨Rect.unit (s := S4x704x512) ![0, 0, 0] S4x704x512.size inb_S4x704x512_S4x704x512_0_0_0, w⟩] (Rect.unit (s := S4x704x512) ![3, 0, 0] S1x704x512.size inb_S4x704x512_S1x704x512_3_0_0).toLoadRect = View.ld w (Rect.unit (s := S4x704x512) ![3, 0, 0] S1x704x512.size inb_S4x704x512_S1x704x512_3_0_0) :=
    fun w => by rw [View.readCov_eq_canon', View.canon_unit_zero (S := S4x704x512) hz3]
  unfold out0_A_2
  rw [View.read_writes_junk_eq_canon]
  unfold kernelRun0_A
  dsimp only
  sl_unfold_words
  simp only [View.readAt_eq_ld, harg2.read_unread, harg3.read_unread, harg4.read_unread, View.ld_unit_zero (S := S2048x2816) hz2, View.ld_unit_zero (S := S2048x512) hz2, View.ld_unit_zero (S := S4x704x512) hz3]
  simp only [s01, s02, s03, s12, s13, s23, z0, z1, z2, z3]
  exact four_left x0 x1 (k0_pay2 (F := Ideal)) [⟨Rect.unit (s := S4x704x512) ![0, 0, 0] S4x704x512.size inb_S4x704x512_S4x704x512_0_0_0, k0_pay2 (F := Ideal)⟩]

end Cert.KernelDownIdeal.Wg

end
-- ==== Proof.Ffn.DownAcc.lean ====
/- The gradient of the down projection's weights: the grid's accumulated blocks, and the array they leave. -/
module

public import proofs.«01_k».proof.Proof.Ffn.DownOut

@[expose] public section

set_option maxRecDepth 16384

noncomputable section

namespace Cert.KernelDownIdeal.Wg

open Cert.KernelDownIdeal Cert.KernelDownIdeal.Gen Idealize.ShloMosaic Idealize.ShloMosaic.TcCoe Idealize.ShloMosaic.Tactic Idealize.SL.Sem
open scoped BigOperators

variable (m : (ℓ : Loc nD τ sig) → Buf (Elt Ideal) ℓ)

/-- What the first point of a run leaves in the block. -/
def reset2 (c : Dev nD) (n : ℕ) (h : n < cfg0.N) : Vec Ideal S4x704x512 .f32 :=
  left (iblk m c 0 ⟨n, h⟩) (iblk m c 1 ⟨n, h⟩) (k0_pay2 (F := Ideal))

/-- What a later point leaves in the block, over what the point before left. -/
def step2 (c : Dev nD) (n : ℕ) (h : n < cfg0.N) (acc : Vec Ideal S4x704x512 .f32) : Vec Ideal S4x704x512 .f32 :=
  left (iblk m c 0 ⟨n, h⟩) (iblk m c 1 ⟨n, h⟩) acc

/-- What the block holds after point `t`. -/
theorem outsAt_2_eq (c : Dev nD) (t : Fin cfg0.N) :
    (outsAt0 m c t.val t.isLt) = Pipeline.accAt (reset2 m c) (step2 m c) (4 * (t.val / 4)) (t.val % 4)
      (by have h1 := t.isLt; have h2 := Nat.div_add_mod t.val 4; omega) :=
  Pipeline.eq_accAt_of_mod (fun n h => (outsAt0 m c n h)) 4 (reset2 m c) (step2 m c)
    (fun n h hn => by have hN := lt_of_lt_of_eq h (show cfg0.N = 8 from N_0); rw [outsAt0_A m c ⟨n, h⟩ (by (try dsimp only); omega)]; exact out_A ..)
    (fun n h hn => by have hN := lt_of_lt_of_eq h (show cfg0.N = 8 from N_0); rw [outsAt0_B m c ⟨n + 1, h⟩ (by (try dsimp only); omega)]; exact out_B ..)
    (by decide) t.val t.isLt _

/-- The RUN whose flushing block holds array index `i` (the runs visit the box's blocks in row-major order), and `i`'s
    place in the block. -/
abbrev run2Of (i : S4x704x1024.Idx) : ℕ := 1 * ((i 0).val / 4 - 0) + 1 * ((i 1).val / 704 - 0) + 1 * ((i 2).val / 512 - 0)
set_option backward.proofsInPublic true in
abbrev loc2Of (i : S4x704x1024.Idx) : S4x704x512.Idx := fun a => match a with
  | ⟨0, _⟩ => ⟨(i 0).val % 4, Nat.mod_lt _ (by decide)⟩
  | ⟨1, _⟩ => ⟨(i 1).val % 704, Nat.mod_lt _ (by decide)⟩
  | ⟨2, _⟩ => ⟨(i 2).val % 512, Nat.mod_lt _ (by decide)⟩

/-- WHAT THE ARRAY ENDS HOLDING at index `i` inside the box the flushing blocks fill: the fold of the run whose flushing
    block holds `i`, at `i`'s place in the block. Only `final2` reads `G2`, and only inside the box; outside it
    this is not the array's contents. -/
def G2 (c : Dev nD) : Buf (Elt Ideal) ((c : Thread nD τ).loc main_v46) := fun i =>
  if h : 4 * run2Of i + 3 < cfg0.N then
    (Pipeline.accAt (reset2 m c) (step2 m c) (4 * run2Of i) 3 h) (loc2Of i)
  else V m c (Pipeline.arrRef spec0 2) i

/-- The printed index map, decided over the grid: output window 2's block indices stay in the box, and the run number
    read off them is the point's (`t / 4`). -/
theorem idx_facts2 : ∀ t : Fin cfg0.N, 0 ≤ win0_2.index t (0 : Fin 3) ∧ win0_2.index t (0 : Fin 3) ≤ 0
    ∧ 0 ≤ win0_2.index t (1 : Fin 3) ∧ win0_2.index t (1 : Fin 3) ≤ 0
    ∧ 0 ≤ win0_2.index t (2 : Fin 3) ∧ win0_2.index t (2 : Fin 3) ≤ 1
    ∧ 1 * (win0_2.index t (0 : Fin 3) - 0) + 1 * (win0_2.index t (1 : Fin 3) - 0) + 1 * (win0_2.index t (2 : Fin 3) - 0) = t.val / 4 :=
  (by decide +kernel : ∀ t : Fin grid0.N, _)

/-- Every block of the box is SOME flushing point's. -/
theorem idx_onto2 : ∀ (q0 : Fin 1) (q1 : Fin 1) (q2 : Fin 2), ∃ t : Fin cfg0.N, (cfg0.win 2).flush t = true ∧ win0_2.index t = ![q0.val + 0, q1.val + 0, q2.val + 0] :=
  (by decide +kernel : ∀ (q0 : Fin 1) (q1 : Fin 1) (q2 : Fin 2), ∃ t : Fin grid0.N, win0_2.flush t = true ∧ win0_2.index t = ![q0.val + 0, q1.val + 0, q2.val + 0])

/-- WHAT A FLUSHING POINT `t` WRITES BACK is block `t` of `G2`: the whole run's fold. -/
theorem flushed2_eq (c : Dev nD) (t : Fin cfg0.N) (hf : (cfg0.win 2).flush t = true) :
    (dats m 0 c).flushed 2 t = ((cfg0.win 2).blk t).view.read (Elt Ideal) (G2 m c) := by
  show (cfg0.win 2).cut (grid0.coords t) ((dats m 0 c).after 2 t) = _
  rw [after0_2, outsAt_2_eq]
  have hm : t.val % 4 = 3 := (flush0_2 t).mp hf
  obtain ⟨e0, e1, e2, e3⟩ := idx_facts2 t
  funext y
  have hy0 : (y 0).val < 4 := (y 0).isLt
  have hy1 : (y 1).val < 704 := (y 1).isLt
  have hy2 : (y 2).val < 512 := (y 2).isLt
  have hb0 : (((cfg0.win 2).blk t).view.emb y 0).val = win0_2.index t (0 : Fin 3) * 4 + 1 * (y 0).val := rfl
  have hb1 : (((cfg0.win 2).blk t).view.emb y 1).val = win0_2.index t (1 : Fin 3) * 704 + 1 * (y 1).val := rfl
  have hb2 : (((cfg0.win 2).blk t).view.emb y 2).val = win0_2.index t (2 : Fin 3) * 512 + 1 * (y 2).val := rfl
  have hr : run2Of (((cfg0.win 2).blk t).view.emb y) = t.val / 4 := by
    show 1 * ((((cfg0.win 2).blk t).view.emb y 0).val / 4 - 0) + 1 * ((((cfg0.win 2).blk t).view.emb y 1).val / 704 - 0) + 1 * ((((cfg0.win 2).blk t).view.emb y 2).val / 512 - 0) = _
    rw [hb0, hb1, hb2]
    rw [show (win0_2.index t (0 : Fin 3) * 4 + 1 * (y 0).val) / 4 = win0_2.index t (0 : Fin 3) from by omega]; rw [show (win0_2.index t (1 : Fin 3) * 704 + 1 * (y 1).val) / 704 = win0_2.index t (1 : Fin 3) from by omega]; rw [show (win0_2.index t (2 : Fin 3) * 512 + 1 * (y 2).val) / 512 = win0_2.index t (2 : Fin 3) from by omega]
    omega
  have hl : loc2Of (((cfg0.win 2).blk t).view.emb y) = (cfg0.win 2).xinj (grid0.coords t) y := by
    funext a; apply Fin.ext
    match a with
    | ⟨0, _⟩ => show (((cfg0.win 2).blk t).view.emb y 0).val % 4 = (y 0).val; rw [hb0]; omega
    | ⟨1, _⟩ => show (((cfg0.win 2).blk t).view.emb y 1).val % 704 = (y 1).val; rw [hb1]; omega
    | ⟨2, _⟩ => show (((cfg0.win 2).blk t).view.emb y 2).val % 512 = (y 2).val; rw [hb2]; omega
  show (Pipeline.accAt (reset2 m c) (step2 m c) (4 * (t.val / 4)) (t.val % 4) _) ((cfg0.win 2).xinj (grid0.coords t) y) = G2 m c (((cfg0.win 2).blk t).view.emb y)
  unfold G2
  rw [dif_pos (by rw [hr]; have := t.isLt; have := Nat.div_add_mod t.val 4; omega), hl]
  have e : ∀ (b j : ℕ) (h : b + j < cfg0.N) (b' j' : ℕ) (h' : b' + j' < cfg0.N), b = b' → j = j' →
      Pipeline.accAt (reset2 m c) (step2 m c) b j h = Pipeline.accAt (reset2 m c) (step2 m c) b' j' h' := by
    intro b j h b' j' h' hb hj; subst hb; subst hj; rfl
  have hb : 4 * (t.val / 4) = 4 * run2Of (((cfg0.win 2).blk t).view.emb y) := by rw [hr]
  exact congrFun (e _ _ _ _ _ _ hb hm) _

/-- An index of the array is in point `t`'s block iff each coordinate is in the block's range on its axis. -/
theorem mem_blk2 (t : Fin cfg0.N) (i : S4x704x1024.Idx) :
    i ∈ ((cfg0.win 2).blk t).view.set ↔ ∀ a : Fin 3, win0_2.index t a * S4x704x512.size a ≤ (i a).val ∧ (i a).val < win0_2.index t a * S4x704x512.size a + S4x704x512.size a := by
  show i ∈ ((View.whole main_v46).slice (win0_2.rect t)).set ↔ _
  rw [View.set_slice_whole, Rect.mem_set_unit]
  exact Iff.rfl

/-- THE COVERED INDICES: in some flushing point's block iff inside the box those blocks fill. -/
theorem covered_iff2 (i : S4x704x1024.Idx) :
    (∃ t : Fin cfg0.N, (cfg0.win 2).flush t = true ∧ i ∈ ((cfg0.win 2).blk t).view.set) ↔ 0 ≤ (i 0).val ∧ (i 0).val < 4 ∧ 0 ≤ (i 1).val ∧ (i 1).val < 704 ∧ 0 ≤ (i 2).val ∧ (i 2).val < 1024 := by
  constructor
  · rintro ⟨t, -, hi⟩
    rw [mem_blk2] at hi
    have b0 : win0_2.index t (0 : Fin 3) * 4 ≤ (i 0).val ∧ (i 0).val < win0_2.index t (0 : Fin 3) * 4 + 4 := hi 0
    have b1 : win0_2.index t (1 : Fin 3) * 704 ≤ (i 1).val ∧ (i 1).val < win0_2.index t (1 : Fin 3) * 704 + 704 := hi 1
    have b2 : win0_2.index t (2 : Fin 3) * 512 ≤ (i 2).val ∧ (i 2).val < win0_2.index t (2 : Fin 3) * 512 + 512 := hi 2
    obtain ⟨e0, e1, e2, e3⟩ := idx_facts2 t
    omega
  · intro h
    have hi0 : (i 0).val < 4 := (i 0).isLt
    have hi1 : (i 1).val < 704 := (i 1).isLt
    have hi2 : (i 2).val < 1024 := (i 2).isLt
    obtain ⟨t, hft, ht⟩ := idx_onto2 ⟨(i 0).val / 4 - 0, by omega⟩ ⟨(i 1).val / 704 - 0, by omega⟩ ⟨(i 2).val / 512 - 0, by omega⟩
    have q0 : win0_2.index t (0 : Fin 3) = (i 0).val / 4 - 0 + 0 := congrFun ht 0
    have q1 : win0_2.index t (1 : Fin 3) = (i 1).val / 704 - 0 + 0 := congrFun ht 1
    have q2 : win0_2.index t (2 : Fin 3) = (i 2).val / 512 - 0 + 0 := congrFun ht 2
    refine ⟨t, hft, ?_⟩
    rw [mem_blk2]
    intro a
    match a with
    | ⟨0, _⟩ => show win0_2.index t (0 : Fin 3) * 4 ≤ (i 0).val ∧ (i 0).val < win0_2.index t (0 : Fin 3) * 4 + 4; omega
    | ⟨1, _⟩ => show win0_2.index t (1 : Fin 3) * 704 ≤ (i 1).val ∧ (i 1).val < win0_2.index t (1 : Fin 3) * 704 + 704; omega
    | ⟨2, _⟩ => show win0_2.index t (2 : Fin 3) * 512 ≤ (i 2).val ∧ (i 2).val < win0_2.index t (2 : Fin 3) * 512 + 512; omega

/-- THE ARRAY after the run: `G2` (the flushing blocks tile it). -/
theorem final2 (c : Dev nD) : (dats m 0 c).arrAt 2 cfg0.N = G2 m c :=
  (dats m 0 c).arrAt_eq_of_cover 2 _ (fun t hf => flushed2_eq m c t hf) (fun i => (covered_iff2 i).2 (by
    have h0 : (i 0).val < 4 := (i 0).isLt; have h1 : (i 1).val < 704 := (i 1).isLt; have h2 : (i 2).val < 1024 := (i 2).isLt; omega))

end Cert.KernelDownIdeal.Wg

end
-- ==== Proof.Ffn.DownHost.lean ====
/- The gradient of the down projection's weights: the arrays the host makes before the grid. -/
module

public import proofs.«01_k».proof.Proof.Gen.KernelDownIdeal.Value
public import proofs.«01_k».proof.Proof.Gen.ReferenceDownIdeal.Run
public import proofs.«01_k».proof.Proof.Gen.ReferenceDownIdeal.Read
public import Idealize.ShloMosaic.Lib.ValueLayout
public import Idealize.ShloMosaic.Lib.StableHlo.RunRead
public import Idealize.ShloMosaic.Lib.Pipeline.ValueKit

@[expose] public section

set_option maxRecDepth 16384

noncomputable section

namespace Cert.KernelDownIdeal.Wg

open Cert.KernelDownIdeal Cert.KernelDownIdeal.Gen Idealize.ShloMosaic Idealize.ShloMosaic.TcCoe Idealize.SL.Sem
open Cert.ReferenceDownIdeal.Read

variable (m : (ℓ : Loc nD τ sig) → Buf (Elt Ideal) ℓ)

abbrev A0 (c : Dev nD) : Vec Ideal S8192x5632 .f32 := m (c.tc.loc main_arg0)
abbrev A1 (c : Dev nD) : Vec Ideal S3x5632 .f32 := m (c.tc.loc main_arg1)
abbrev A2 (c : Dev nD) : Vec Ideal S5632 .f32 := m (c.tc.loc main_arg2)
abbrev A3 (c : Dev nD) : Vec Ideal S8192x1024 .f32 := m (c.tc.loc main_arg3)

/-- The hidden rows the reference's products read. -/
abbrev H (c : Dev nD) : Vec Ideal S8192x2816 .f32 := val_main_v31 (F := Ideal) (A0 m c) (A1 m c) (A2 m c)

/-- The arrays after the host's operations up to the call, read through the operations still to come. -/
theorem after_app (a b : List (HloOp τ sig (Elt Ideal))) (W : Valuation τ sig (Elt Ideal)) : StableHlo.after (a ++ b) W = StableHlo.after b (StableHlo.after a W) := by
  induction a generalizing W with
  | nil => rfl
  | cons o a ih => exact ih _

/-- The arrays before the last three operations. -/
def W0 (c : Dev nD) : Valuation τ sig (Elt Ideal) :=
  StableHlo.after hostOps0_1 (StableHlo.after hostOps0 (fun b => m (c, b)))

theorem V_last (c : Dev nD) (b : Ref sig .tc) : V m c b = StableHlo.after hostOps0_2 (W0 m c) (b : DevRef τ sig) := by
  unfold V W0
  rw [← after_app, ← after_app]
  rfl

theorem last_v45 (W : Valuation τ sig (Elt Ideal)) : (StableHlo.after hostOps0_2 W (main_v45 : DevRef τ sig) : Vec Ideal S8192x11264 .bf16)
    = truncf (F := Ideal) .bf16 (concatenate S8192x11264 1 [⟨S8192x2816, (W (main_v28 : DevRef τ sig) : Vec Ideal S8192x2816 .f32)⟩, ⟨S8192x2816, (W (main_v35 : DevRef τ sig) : Vec Ideal S8192x2816 .f32)⟩, ⟨S8192x2816, (W (main_v41 : DevRef τ sig) : Vec Ideal S8192x2816 .f32)⟩, ⟨S8192x2816, mulf (F := Ideal) (φ := .f32) (W (main_v42 : DevRef τ sig) : Vec Ideal S8192x2816 .f32) (W (main_v28 : DevRef τ sig) : Vec Ideal S8192x2816 .f32)⟩] concatenates_S8192x2816_S8192x2816_S8192x2816_S8192x2816_S8192x11264_d1) bitsLt_bf16_f32 := by
  unfold hostOps0_2
  after_reads_simp
  rfl

theorem W28 (c : Dev nD) : (W0 m c (main_v28 : DevRef τ sig) : Vec Ideal S8192x2816 .f32) = val_main_v29 (F := Ideal) (A0 m c) (A1 m c) (A2 m c) := by
  unfold W0 hostOps0 hostOps0_1
  simp only [StableHlo.TRef.binary, StableHlo.TRef.nullary, StableHlo.TRef.unary, StableHlo.TRef.toBuf, StableHlo.TRef.ofBuf, cast_eq]
  after_reads_simp
  rfl

theorem W42 (c : Dev nD) : (W0 m c (main_v42 : DevRef τ sig) : Vec Ideal S8192x2816 .f32) = val_main_v30 (F := Ideal) (A0 m c) (A1 m c) (A2 m c) := by
  unfold W0 hostOps0 hostOps0_1
  simp only [StableHlo.TRef.binary, StableHlo.TRef.nullary, StableHlo.TRef.unary, StableHlo.TRef.toBuf, StableHlo.TRef.ofBuf, cast_eq]
  after_reads_simp
  rfl

theorem cat_3 (x0 x1 x2 x3 : Vec Ideal S8192x2816 .f32) (i : Fin 8192) (q : Fin 2816) :
    concatenate S8192x11264 1 [⟨S8192x2816, x0⟩, ⟨S8192x2816, x1⟩, ⟨S8192x2816, x2⟩, ⟨S8192x2816, x3⟩]
      concatenates_S8192x2816_S8192x2816_S8192x2816_S8192x2816_S8192x11264_d1 (ValueIdx.ix2 i ⟨8448 + q.val, by omega⟩) = x3 (ValueIdx.ix2 i q) :=
  concatenate_apply_piece (t := S8192x11264) 1 [⟨S8192x2816, x0⟩, ⟨S8192x2816, x1⟩, ⟨S8192x2816, x2⟩, ⟨S8192x2816, x3⟩]
    concatenates_S8192x2816_S8192x2816_S8192x2816_S8192x2816_S8192x11264_d1 (ValueIdx.ix2 i ⟨8448 + q.val, by omega⟩)
    3 (by simp) S8192x2816 x3 rfl rfl 8448 rfl (ValueIdx.ix2 i q)
    (fun b hb => by
      match b with
      | ⟨0, _⟩ => rfl
      | ⟨1, _⟩ => exact absurd rfl hb)
    (by first | rfl | exact Nat.zero_add _)

theorem V45_3 (c : Dev nD) (i : Fin 8192) (q : Fin 2816) : (V m c main_v45 : Vec Ideal S8192x11264 .bf16) (ValueIdx.ix2 i ⟨8448 + q.val, by omega⟩)
    = H m c (ValueIdx.ix2 i q) := by
  rw [V_last, last_v45]
  refine (cat_3 _ _ _ _ i q).trans ?_
  rw [W28, W42]
  rfl

/-! ## The grid's blocks -/

theorem idx0 : ∀ t : Fin cfg0.N, win0_0.index t = ![t.val % 4, 3] :=
  (by decide +kernel : ∀ t : Fin grid0.N, _)

theorem idx1 : ∀ t : Fin cfg0.N, win0_1.index t = ![t.val % 4, t.val / 4] :=
  (by decide +kernel : ∀ t : Fin grid0.N, _)

theorem blk0 (c : Dev nD) (n : ℕ) (h : n < cfg0.N) (r : Fin 2048) (k : Fin 2816) :
    (iblk m c 0 ⟨n, h⟩ : Vec Ideal S2048x2816 .bf16) (ValueIdx.ix2 r k) = H m c (ValueIdx.ix2 ⟨n % 4 * 2048 + r.val, by have := r.isLt; omega⟩ k) := by
  refine Eq.trans ?_ (V45_3 m c _ _)
  have hn : n < 8 := lt_of_lt_of_eq h (show cfg0.N = 8 from N_0)
  blk_simp [iblk]
  refine congrArg (V m c main_v45 : Vec Ideal S8192x11264 .bf16) ?_
  funext a
  apply Fin.ext
  match a with
  | ⟨0, _⟩ => blk_simp [idx0] <;> rfl
  | ⟨1, _⟩ => blk_simp [idx0] <;> rfl

theorem blk1 (c : Dev nD) (n : ℕ) (h : n < cfg0.N) (r : Fin 2048) (q : Fin 512) :
    (iblk m c 1 ⟨n, h⟩ : Vec Ideal S2048x512 .f32) (ValueIdx.ix2 r q) = A3 m c (ValueIdx.ix2 ⟨n % 4 * 2048 + r.val, by have := r.isLt; omega⟩
      ⟨n / 4 * 512 + q.val, by have := q.isLt; have hn : n < 8 := lt_of_lt_of_eq h (show cfg0.N = 8 from N_0); omega⟩) := by
  refine Eq.trans ?_ (congrFun (V_main_arg3 m c) _)
  have hn : n < 8 := lt_of_lt_of_eq h (show cfg0.N = 8 from N_0)
  blk_simp [iblk]
  refine congrArg (V m c main_arg3 : Vec Ideal S8192x1024 .f32) ?_
  funext a
  apply Fin.ext
  match a with
  | ⟨0, _⟩ => blk_simp [idx1] <;> rfl
  | ⟨1, _⟩ => blk_simp [idx1] <;> rfl

end Cert.KernelDownIdeal.Wg

end
-- ==== Proof.Ffn.Down.lean ====
/- The gradient of the down projection's weights: the grid's accumulated blocks are the reference's product. -/
module

public import proofs.«01_k».proof.Proof.Ffn.DownAcc
public import proofs.«01_k».proof.Proof.Ffn.DownHost
public import proofs.«01_k».proof.Defs

@[expose] public section

set_option maxRecDepth 16384

noncomputable section

namespace Cert.KernelDownIdeal.Wg

open Cert.KernelDownIdeal Cert.KernelDownIdeal.Gen Idealize.ShloMosaic Idealize.ShloMosaic.TcCoe Idealize.SL.Sem
open scoped BigOperators

variable (m : (ℓ : Loc nD τ sig) → Buf (Elt Ideal) ℓ)

/-- What point `n` adds at a place of its block. -/
def add (c : Dev nD) (n : ℕ) (i : S4x704x512.Idx) : EReal :=
  ∑ r : Fin 2048, Cert.Sums.row (H m c) (A3 m c) (704 * (i 0).val + (i 1).val) (n / 4 * 512 + (i 2).val) (n % 4 * 2048 + r.val)

theorem left_add (c : Dev nD) (n : ℕ) (h : n < cfg0.N) (acc : Vec Ideal S4x704x512 .f32) (i : S4x704x512.Idx) :
    left (iblk m c 0 ⟨n, h⟩) (iblk m c 1 ⟨n, h⟩) acc i = acc i + add m c n i := by
  have hn : n < 8 := lt_of_lt_of_eq h (show cfg0.N = 8 from N_0)
  have h0 : (i 0).val < 4 := (i 0).isLt
  have h1 : (i 1).val < 704 := (i 1).isLt
  have h2 : (i 2).val < 512 := (i 2).isLt
  unfold left add
  refine congrArg (acc i + ·) (Finset.sum_congr rfl fun r _ => ?_)
  rw [Cert.Sums.row_of _ _ (by have := r.isLt; omega) (by omega) (by omega)]
  exact congrArg₂ (· * ·) (blk0 m c n h r _) (blk1 m c n h r (i 2))

theorem acc_apply (c : Dev nD) (b : ℕ) (h : 4 * b + 3 < cfg0.N) (i : S4x704x512.Idx) :
    Pipeline.accAt (reset2 m c) (step2 m c) (4 * b) 3 h i
      = ∑ k ∈ Finset.range 8192, Cert.Sums.row (H m c) (A3 m c) (704 * (i 0).val + (i 1).val) (b * 512 + (i 2).val) k := by
  rw [Pipeline.accAt_add_apply (reset2 m c) (step2 m c) (fun _ => (0 : EReal)) (add m c) (4 * b) 3
    (fun h i => (left_add m c _ h _ i).trans (by rw [pay2_apply]))
    (fun n h acc i _ _ => left_add m c n h acc i) 3 (le_refl _) h i, zero_add]
  refine Eq.trans ?_ (Cert.Sums.tiled 2048 (fun k => Cert.Sums.row (H m c) (A3 m c) (704 * (i 0).val + (i 1).val) (b * 512 + (i 2).val) k) 4)
  refine Finset.sum_congr rfl fun s hs => ?_
  have hs4 : s < 4 := Finset.mem_range.mp hs
  unfold add
  rw [show (4 * b + s) / 4 = b by omega, show (4 * b + s) % 4 = s by omega]

/-! ## The reference's product -/

open Cert.ReferenceDownIdeal.Read in
theorem ref_apply (x0 : Vec Ideal S8192x5632 .f32) (x1 : Vec Ideal S3x5632 .f32) (x2 : Vec Ideal S5632 .f32) (x3 : Vec Ideal S8192x1024 .f32) (i : S4x704x1024.Idx) :
    val_main_v35 (F := Ideal) x0 x1 x2 x3 i = ∑ k ∈ Finset.range 8192, Cert.Sums.row (val_main_v31 (F := Ideal) x0 x1 x2 : Vec Ideal S8192x2816 .f32) x3 (704 * (i 0).val + (i 1).val) (i 2).val k := by
  have h0 : (i 0).val < 4 := (i 0).isLt
  have h1 : (i 1).val < 704 := (i 1).isLt
  have h2 : (i 2).val < 1024 := (i 2).isLt
  rw [val_main_v35_apply, val_main_v34_apply, val_main_v33_apply, Finset.sum_range]
  refine Finset.sum_congr rfl fun k _ => ?_
  rw [Cert.Sums.row_of _ _ k.isLt (by omega) h2, mul_comm]
  refine congrArg₂ (· * ·) (congrArg (val_main_v31 (F := Ideal) x0 x1 x2) ?_) (congrArg x3 ?_)
  · funext a
    apply Fin.ext
    match a with
    | ⟨0, _⟩ => rfl
    | ⟨1, _⟩ => show (((i 0).val * 704 + (i 1).val) * 1024 + (i 2).val) / 1024 = 704 * (i 0).val + (i 1).val; omega
  · funext a
    apply Fin.ext
    match a with
    | ⟨0, _⟩ => rfl
    | ⟨1, _⟩ => show (((i 0).val * 704 + (i 1).val) * 1024 + (i 2).val) % 1024 = (i 2).val; omega

theorem value (c : Dev nD) : G2 m c = Cert.ReferenceDownIdeal.Read.val_main_v35 (F := Ideal) (A0 m c) (A1 m c) (A2 m c) (A3 m c) := by
  funext i
  have h0 : (i 0).val < 4 := (i 0).isLt
  have h1 : (i 1).val < 704 := (i 1).isLt
  have h2 : (i 2).val < 1024 := (i 2).isLt
  have hr : run2Of i = (i 2).val / 512 := by unfold run2Of; omega
  have hN : cfg0.N = 8 := N_0
  refine Eq.trans ?_ (ref_apply (A0 m c) (A1 m c) (A2 m c) (A3 m c) i).symm
  unfold G2
  rw [dif_pos (by rw [hr, hN]; omega), acc_apply, hr]
  show ∑ k ∈ Finset.range 8192, Cert.Sums.row (H m c) (A3 m c) (704 * ((i 0).val % 4) + (i 1).val % 704) ((i 2).val / 512 * 512 + (i 2).val % 512) k = _
  rw [Nat.mod_eq_of_lt h0, Nat.mod_eq_of_lt h1, show (i 2).val / 512 * 512 + (i 2).val % 512 = (i 2).val by omega]

end Cert.KernelDownIdeal.Wg

namespace Cert.Proof

open Idealize.ShloMosaic Idealize.ShloMosaic.TcCoe Idealize.SL.Sem

/-- The claim of the values: both runs leave the product. -/
theorem algebraic_down : Cert.algebraic_KernelDownIdeal_ReferenceDownIdeal (hKernelDownIdeal := Cert.KernelDownIdeal.Gen.facts)
    (hReferenceDownIdeal := Cert.ReferenceDownIdeal.Gen.facts) := by
  intro m g m' g' _ hargs
  refine ⟨fun c => Cert.ReferenceDownIdeal.Read.val_main_v35 (F := Ideal) (Cert.KernelDownIdeal.Wg.A0 m c) (Cert.KernelDownIdeal.Wg.A1 m c) (Cert.KernelDownIdeal.Wg.A2 m c) (Cert.KernelDownIdeal.Wg.A3 m c), ?_, ?_⟩
  · refine (θ_run Cert.KernelDownIdeal.defs _ _).mono (fun r hr c => ?_) (Cert.KernelDownIdeal.Value.run_blocks m g)
    obtain ⟨r0, rest⟩ := hr c
    exact ⟨(r0.trans (Cert.KernelDownIdeal.Wg.final2 m c)).trans (Cert.KernelDownIdeal.Wg.value m c), rest⟩
  · refine (θ_run Cert.ReferenceDownIdeal.defs _ _).mono (fun r hr c => ?_) (Cert.ReferenceDownIdeal.Value.run m' g')
    obtain ⟨e0, e1, e2, e3⟩ := hargs c
    obtain ⟨r0, rest⟩ := hr c
    refine ⟨(r0.trans (Cert.ReferenceDownIdeal.Read.val_main_v35_eq m' c)).trans ?_, rest⟩
    exact congr (congr (congr (congrArg (Cert.ReferenceDownIdeal.Read.val_main_v35 (F := Ideal)) e0) e1) e2) e3

end Cert.Proof

end
-- ==== Proof.Ffn.FwdStep.lean ====
/- The layer's forward pass: the terms one step of the grid computes, by column block, and the stores it leaves. -/
module

public import proofs.«01_k».proof.Proof.Gen.KernelFwdIdeal.Skeleton
public import Idealize.ShloMosaic.Lib.Pipeline.Value
public import Idealize.ShloMosaic.Lib.ValueIdx
public import Idealize.ShloMosaic.Lib.MatmulPlain
public import Idealize.ShloMosaic.Lib.KernelVsHost
public import Idealize.ShloMosaic.Lib.IdealHost
public import Idealize.ShloMosaic.PureOps.Ideal.Laws

@[expose] public section

set_option maxRecDepth 16384

noncomputable section

namespace Cert.KernelFwdIdeal.Fw

open Cert.KernelFwdIdeal Cert.KernelFwdIdeal.Gen Idealize.ShloMosaic Idealize.ShloMosaic.ValueIdx Idealize.SL.Sem

/-- A vector over the extended reals. -/
abbrev IV (S : Shape) (e : EltTy) : Type := Vec Ideal S e

/-- A block rounded to the stored format. -/
def tU (A : FVec Ideal S256x1408 .f32) : FVec Ideal S256x1408 .bf16 := truncf .bf16 A bitsLt_bf16_f32

/-- The gated product. -/
def tP (G U : FVec Ideal S256x1408 .f32) : FVec Ideal S256x1408 .bf16 := truncf .bf16 (mulf (k0_pay24 G) U) bitsLt_bf16_f32

/-! ## The same term in each column block -/

section
variable (x : IV S256x1024 .f32) (n : IV S1x1024 .f32) (X : FVec Ideal S256x1024 .bf16) (w : IV S1x1024x1408 .bf16) (ca : IV S1x8x1408 .f32)
  (a b c d h s : FVec Ideal S256x1408 .f32) (e : FVec Ideal S264x1408 .f32) (cb c0 c1 c2 : IV S1x1408 .f32)

theorem pay11_eq : k0_pay11 x n w = k0_pay17 (k0_pay10 x n) w := rfl
theorem pay12_eq : k0_pay12 x n w = k0_pay18 (k0_pay10 x n) w := rfl
theorem pay13_eq : k0_pay13 x n w ca = k0_pay19 (k0_pay10 x n) w ca := rfl
theorem pay15_eq : k0_pay15 (F := Ideal) (k0_pay14 x n w) = k0_pay20 (k0_pay10 x n) w := rfl
theorem pay16_eq : k0_pay16 (k0_pay17 X w) (k0_pay19 X w ca) cb c0 c1 c2 = k0_pay22 (k0_pay17 X w) (k0_pay19 X w ca) (k0_pay21 X w ca) cb c0 c1 c2 := rfl
theorem pay25_eq : k0_pay25 a h e s cb c0 c1 c2 = tP a (k0_pay22 h e s cb c0 c1 c2) := rfl
theorem pay26_eq : k0_pay26 h e s cb c0 c1 c2 = tU (k0_pay22 h e s cb c0 c1 c2) := rfl
theorem pay30_eq : k0_pay30 X w = k0_pay17 X w := rfl
theorem pay31_eq : k0_pay31 X w = k0_pay18 X w := rfl
theorem pay33_eq : k0_pay33 X w = k0_pay20 X w := rfl
theorem pay36_eq : k0_pay36 (k0_pay17 X w) (k0_pay34 X w ca cb c0) (k0_pay35 X w ca c1) c2 = k0_pay22 (k0_pay17 X w) (k0_pay19 X w ca) (k0_pay21 X w ca) cb c0 c1 c2 := rfl
theorem pay37_eq : k0_pay37 X w = k0_pay17 X w := rfl
theorem pay38_eq : k0_pay38 X w = k0_pay18 X w := rfl
theorem pay39_eq : k0_pay39 X w = k0_pay20 X w := rfl
theorem pay1_eq : k0_pay1 (k0_pay17 X w) (k0_pay40 X w ca cb c0 c1) (k0_pay41 c2) = k0_pay22 (k0_pay17 X w) (k0_pay19 X w ca) (k0_pay21 X w ca) cb c0 c1 c2 := rfl
theorem pay4_eq : k0_pay4 a b c d = tP a (k0_pay1 b c d) := rfl
theorem pay5_eq : k0_pay5 (F := Ideal) b c d = tU (k0_pay1 b c d) := rfl
theorem pay6_eq : k0_pay6 (F := Ideal) a = k0_pay27 a := rfl
theorem pay7_eq : k0_pay7 (F := Ideal) a = k0_pay28 a := rfl
theorem pay8_eq (v : FVec Ideal S256x1024 .f32) (wd : IV S1408x1024 .bf16) : k0_pay8 v a b c d wd = k0_pay29 v (tP a (k0_pay1 b c d)) wd := rfl

end

/-- What one step reads: its rows, the norm's weights, the convolution's taps and bias, the two weight matrices kept on
    chip, and the carried rows. -/
structure Ins where
  x : IV S256x1024 .f32
  n : IV S1x1024 .f32
  cw : IV S3x5632 .f32
  cb : IV S1x5632 .f32
  up : IV S4x1024x1408 .bf16
  down : IV S2816x1024 .bf16
  ca : IV S4x8x1408 .f32

variable (z : Ins)

/-- The up product's weights. -/
def upB : Fin 4 → IV S1x1024x1408 .bf16
  | 0 => View.ld z.up (Rect.unit ![0, 0, 0] ![1, 1024, 1408] inb_S4x1024x1408_S1x1024x1408_0_0_0)
  | 1 => View.ld z.up (Rect.unit ![1, 0, 0] ![1, 1024, 1408] inb_S4x1024x1408_S1x1024x1408_1_0_0)
  | 2 => View.ld z.up (Rect.unit ![2, 0, 0] ![1, 1024, 1408] inb_S4x1024x1408_S1x1024x1408_2_0_0)
  | 3 => View.ld z.up (Rect.unit ![3, 0, 0] ![1, 1024, 1408] inb_S4x1024x1408_S1x1024x1408_3_0_0)

/-- The carried rows. -/
def caB : Fin 4 → IV S1x8x1408 .f32
  | 0 => View.ld z.ca (Rect.unit ![0, 0, 0] ![1, 8, 1408] inb_S4x8x1408_S1x8x1408_0_0_0)
  | 1 => View.ld z.ca (Rect.unit ![1, 0, 0] ![1, 8, 1408] inb_S4x8x1408_S1x8x1408_1_0_0)
  | 2 => View.ld z.ca (Rect.unit ![2, 0, 0] ![1, 8, 1408] inb_S4x8x1408_S1x8x1408_2_0_0)
  | 3 => View.ld z.ca (Rect.unit ![3, 0, 0] ![1, 8, 1408] inb_S4x8x1408_S1x8x1408_3_0_0)

/-- The convolution's bias. -/
def cbB : Fin 4 → IV S1x1408 .f32
  | 0 => View.ld z.cb (Rect.unit ![0, 0] ![1, 1408] inb_S1x5632_S1x1408_0_0)
  | 1 => View.ld z.cb (Rect.unit ![0, 1408] ![1, 1408] inb_S1x5632_S1x1408_0_1408)
  | 2 => View.ld z.cb (Rect.unit ![0, 2816] ![1, 1408] inb_S1x5632_S1x1408_0_2816)
  | 3 => View.ld z.cb (Rect.unit ![0, 4224] ![1, 1408] inb_S1x5632_S1x1408_0_4224)

/-- Tap 0 of the convolution. -/
def cw0B : Fin 4 → IV S1x1408 .f32
  | 0 => View.ld z.cw (Rect.unit ![0, 0] ![1, 1408] inb_S3x5632_S1x1408_0_0)
  | 1 => View.ld z.cw (Rect.unit ![0, 1408] ![1, 1408] inb_S3x5632_S1x1408_0_1408)
  | 2 => View.ld z.cw (Rect.unit ![0, 2816] ![1, 1408] inb_S3x5632_S1x1408_0_2816)
  | 3 => View.ld z.cw (Rect.unit ![0, 4224] ![1, 1408] inb_S3x5632_S1x1408_0_4224)

/-- Tap 1 of the convolution. -/
def cw1B : Fin 4 → IV S1x1408 .f32
  | 0 => View.ld z.cw (Rect.unit ![1, 0] ![1, 1408] inb_S3x5632_S1x1408_1_0)
  | 1 => View.ld z.cw (Rect.unit ![1, 1408] ![1, 1408] inb_S3x5632_S1x1408_1_1408)
  | 2 => View.ld z.cw (Rect.unit ![1, 2816] ![1, 1408] inb_S3x5632_S1x1408_1_2816)
  | 3 => View.ld z.cw (Rect.unit ![1, 4224] ![1, 1408] inb_S3x5632_S1x1408_1_4224)

/-- Tap 2 of the convolution. -/
def cw2B : Fin 4 → IV S1x1408 .f32
  | 0 => View.ld z.cw (Rect.unit ![2, 0] ![1, 1408] inb_S3x5632_S1x1408_2_0)
  | 1 => View.ld z.cw (Rect.unit ![2, 1408] ![1, 1408] inb_S3x5632_S1x1408_2_1408)
  | 2 => View.ld z.cw (Rect.unit ![2, 2816] ![1, 1408] inb_S3x5632_S1x1408_2_2816)
  | 3 => View.ld z.cw (Rect.unit ![2, 4224] ![1, 1408] inb_S3x5632_S1x1408_2_4224)

/-- The normed rows. -/
def xfB : IV S256x1024 .bf16 := k0_pay10 z.x z.n

/-- The convolution of a column block. -/
def cvB (b : Fin 4) : IV S256x1408 .f32 :=
  k0_pay22 (k0_pay17 (xfB z) (upB z b)) (k0_pay19 (xfB z) (upB z b) (caB z b)) (k0_pay21 (xfB z) (upB z b) (caB z b)) (cbB z b) (cw0B z b) (cw1B z b) (cw2B z b)

/-! ## The stores of a step, last first -/

def list4 : List (View.Piece (Elt Ideal) S256x1024 .f32) :=
  [⟨Rect.unit ![0, 0] ![256, 1024] inb_S256x1024_S256x1024_0_0,
    k0_pay29 (k0_pay29 z.x (tP (cvB z 0) (cvB z 2)) (View.ld z.down (Rect.unit ![0, 0] ![1408, 1024] inb_S2816x1024_S1408x1024_0_0))) (tP (cvB z 1) (cvB z 3)) (View.ld z.down (Rect.unit ![1408, 0] ![1408, 1024] inb_S2816x1024_S1408x1024_1408_0))⟩]

def list5 : List (View.Piece (Elt Ideal) S256x5632 .bf16) :=
  [⟨Rect.unit ![0, 4224] ![256, 1408] inb_S256x5632_S256x1408_0_4224, k0_pay18 (F := Ideal) (xfB z) (upB z 3)⟩,
    ⟨Rect.unit ![0, 1408] ![256, 1408] inb_S256x5632_S256x1408_0_1408, k0_pay18 (F := Ideal) (xfB z) (upB z 1)⟩,
    ⟨Rect.unit ![0, 2816] ![256, 1408] inb_S256x5632_S256x1408_0_2816, k0_pay18 (F := Ideal) (xfB z) (upB z 2)⟩,
    ⟨Rect.unit ![0, 0] ![256, 1408] inb_S256x5632_S256x1408_0_0, k0_pay18 (F := Ideal) (xfB z) (upB z 0)⟩]

def list6 : List (View.Piece (Elt Ideal) S256x11264 .bf16) :=
  [⟨Rect.unit ![0, 9856] ![256, 1408] inb_S256x11264_S256x1408_0_9856, tP (cvB z 1) (cvB z 3)⟩,
    ⟨Rect.unit ![0, 7040] ![256, 1408] inb_S256x11264_S256x1408_0_7040, k0_pay28 (F := Ideal) (cvB z 1)⟩,
    ⟨Rect.unit ![0, 4224] ![256, 1408] inb_S256x11264_S256x1408_0_4224, k0_pay27 (F := Ideal) (cvB z 1)⟩,
    ⟨Rect.unit ![0, 1408] ![256, 1408] inb_S256x11264_S256x1408_0_1408, tU (cvB z 3)⟩,
    ⟨Rect.unit ![0, 8448] ![256, 1408] inb_S256x11264_S256x1408_0_8448, tP (cvB z 0) (cvB z 2)⟩,
    ⟨Rect.unit ![0, 5632] ![256, 1408] inb_S256x11264_S256x1408_0_5632, k0_pay28 (F := Ideal) (cvB z 0)⟩,
    ⟨Rect.unit ![0, 2816] ![256, 1408] inb_S256x11264_S256x1408_0_2816, k0_pay27 (F := Ideal) (cvB z 0)⟩,
    ⟨Rect.unit ![0, 0] ![256, 1408] inb_S256x11264_S256x1408_0_0, tU (cvB z 2)⟩]

def listC : List (View.Piece (Elt Ideal) S4x8x1408 .f32) :=
  [⟨Rect.unit ![3, 0, 0] ![1, 8, 1408] inb_S4x8x1408_S1x8x1408_3_0_0, k0_pay20 (F := Ideal) (xfB z) (upB z 3)⟩,
    ⟨Rect.unit ![1, 0, 0] ![1, 8, 1408] inb_S4x8x1408_S1x8x1408_1_0_0, k0_pay20 (F := Ideal) (xfB z) (upB z 1)⟩,
    ⟨Rect.unit ![2, 0, 0] ![1, 8, 1408] inb_S4x8x1408_S1x8x1408_2_0_0, k0_pay20 (F := Ideal) (xfB z) (upB z 2)⟩,
    ⟨Rect.unit ![0, 0, 0] ![1, 8, 1408] inb_S4x8x1408_S1x8x1408_0_0_0, k0_pay20 (F := Ideal) (xfB z) (upB z 0)⟩]

end Cert.KernelFwdIdeal.Fw

end
-- ==== Proof.Ffn.FwdPieces.lean ====
/- The stores of each case of the step are the common lists. -/
module

public import proofs.«01_k».proof.Proof.Gen.KernelFwdIdeal.Frame.RunA
public import proofs.«01_k».proof.Proof.Gen.KernelFwdIdeal.Frame.RunB
public import proofs.«01_k».proof.Proof.Ffn.FwdStep
public import Idealize.ShloMosaic.Lib.Pipeline.ReadBack

@[expose] public section

set_option maxRecDepth 16384

noncomputable section

namespace Cert.KernelFwdIdeal.Fw

open Cert.KernelFwdIdeal Cert.KernelFwdIdeal.Gen Idealize.ShloMosaic Idealize.ShloMosaic.ValueIdx Idealize.ShloMosaic.TcCoe Idealize.ShloMosaic.Tactic Idealize.SL.Sem

theorem hz2 : (![0, 0] : Fin 2 → Nat) = fun _ => 0 := by decide

theorem readCov_whole {κ : Kind} {sp : Space} {s : Shape} {e : EltTy} (v : View sig κ sp s e) (w : s.Idx → Elt Ideal e) (L : List (View.Piece (Elt Ideal) s e))
    (r : Rect s) : v.readCov (⟨Rect.whole s, w⟩ :: L) r.toLoadRect = View.ld w r :=
  View.readCov_fill v (off := fun _ => 0) _ w L r fun _ => rfl

/-- What the first step reads: the weights as copied in, and zeros for the carried rows. -/
@[reducible] def ins0 (x0 : IV S256x1024 .f32) (x1 : IV S1x1024 .f32) (x2 : IV S3x5632 .f32) (x3 : IV S1x5632 .f32) (up : IV S4x1024x1408 .bf16) (down : IV S2816x1024 .bf16) : Ins :=
  ⟨x0, x1, x2, x3, up, down, k0_pay9 (F := Ideal)⟩

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S3x5632 .f32) (harg3 : arg3.IsWhole) (arg4 : Memref sig .tc .vmem S1x5632 .f32) (harg4 : arg4.IsWhole) (arg7 : Memref sig .tc .vmem S256x1024 .f32) (harg7 : arg7.IsWhole) (arg8 : Memref sig .tc .vmem S256x5632 .bf16) (harg8 : arg8.IsWhole) (arg9 : Memref sig .tc .vmem S256x11264 .bf16) (harg9 : arg9.IsWhole) (arg10 : Memref sig .tc .vmem S4x1024x1408 .bf16) (harg10 : arg10.IsWhole) (arg11 : Memref sig .tc .vmem S2816x1024 .bf16) (harg11 : arg11.IsWhole) (arg12 : Memref sig .tc .vmem S4x8x1408 .f32) (harg12 : arg12.IsWhole) (hc0 : ¬cond0_0 i) (hc1 : ¬cond0_1 i) (x0 : Vec Ideal S256x1024 .f32) (x1 : Vec Ideal S1x1024 .f32) (x2 : Vec Ideal S3x5632 .f32) (x3 : Vec Ideal S1x5632 .f32) (xs0 : Vec Ideal S4x1024x1408 .bf16) (xs1 : Vec Ideal S2816x1024 .bf16) (xs2 : Vec Ideal S4x8x1408 .f32) (fh0 : HbBuf0 (F := Ideal) c hbM0_0) (fh1 : HbBuf0 (F := Ideal) c hbM0_1)

set_option maxHeartbeats 4000000 in
theorem runB_4 :
    (kernelRun0_B c i arg1 harg1 arg2 harg2 arg3 harg3 arg4 harg4 arg7 harg7 arg8 harg8 arg9 harg9 arg10 harg10 arg11 harg11 arg12 harg12 hc0 hc1 x0 x1 x2 x3 xs0 xs1 xs2 fh0 fh1).1 = list4 ⟨x0, x1, x2, x3, xs0, xs1, xs2⟩ := by
  unfold kernelRun0_B list4
  dsimp only
  sl_unfold_words
  simp only [View.readAt_eq_ld, harg1.read_unread, harg2.read_unread, harg3.read_unread, harg4.read_unread, harg10.read_unread, harg11.read_unread, harg12.read_unread, View.ld_unit_zero (S := S256x1024) hz2, View.ld_unit_zero (S := S1x1024) hz2,
    pay1_eq, pay4_eq, pay5_eq, pay6_eq, pay7_eq, pay8_eq, pay11_eq, pay12_eq, pay13_eq, pay15_eq, pay16_eq, pay25_eq, pay26_eq, pay30_eq, pay31_eq, pay33_eq, pay36_eq, pay37_eq, pay38_eq, pay39_eq,
    upB, caB, cbB, cw0B, cw1B, cw2B, xfB, cvB, List.cons_append, List.nil_append]

set_option maxHeartbeats 4000000 in
theorem runB_5 :
    (kernelRun0_B c i arg1 harg1 arg2 harg2 arg3 harg3 arg4 harg4 arg7 harg7 arg8 harg8 arg9 harg9 arg10 harg10 arg11 harg11 arg12 harg12 hc0 hc1 x0 x1 x2 x3 xs0 xs1 xs2 fh0 fh1).2.1 = list5 ⟨x0, x1, x2, x3, xs0, xs1, xs2⟩ := by
  unfold kernelRun0_B list5
  dsimp only
  sl_unfold_words
  simp only [View.readAt_eq_ld, harg1.read_unread, harg2.read_unread, harg3.read_unread, harg4.read_unread, harg10.read_unread, harg11.read_unread, harg12.read_unread, View.ld_unit_zero (S := S256x1024) hz2, View.ld_unit_zero (S := S1x1024) hz2,
    pay1_eq, pay4_eq, pay5_eq, pay6_eq, pay7_eq, pay8_eq, pay11_eq, pay12_eq, pay13_eq, pay15_eq, pay16_eq, pay25_eq, pay26_eq, pay30_eq, pay31_eq, pay33_eq, pay36_eq, pay37_eq, pay38_eq, pay39_eq,
    upB, caB, cbB, cw0B, cw1B, cw2B, xfB, cvB, List.cons_append, List.nil_append]

set_option maxHeartbeats 4000000 in
theorem runB_6 :
    (kernelRun0_B c i arg1 harg1 arg2 harg2 arg3 harg3 arg4 harg4 arg7 harg7 arg8 harg8 arg9 harg9 arg10 harg10 arg11 harg11 arg12 harg12 hc0 hc1 x0 x1 x2 x3 xs0 xs1 xs2 fh0 fh1).2.2.1 = list6 ⟨x0, x1, x2, x3, xs0, xs1, xs2⟩ := by
  unfold kernelRun0_B list6
  dsimp only
  sl_unfold_words
  simp only [View.readAt_eq_ld, harg1.read_unread, harg2.read_unread, harg3.read_unread, harg4.read_unread, harg10.read_unread, harg11.read_unread, harg12.read_unread, View.ld_unit_zero (S := S256x1024) hz2, View.ld_unit_zero (S := S1x1024) hz2,
    pay1_eq, pay4_eq, pay5_eq, pay6_eq, pay7_eq, pay8_eq, pay11_eq, pay12_eq, pay13_eq, pay15_eq, pay16_eq, pay25_eq, pay26_eq, pay30_eq, pay31_eq, pay33_eq, pay36_eq, pay37_eq, pay38_eq, pay39_eq,
    upB, caB, cbB, cw0B, cw1B, cw2B, xfB, cvB, List.cons_append, List.nil_append]

set_option maxHeartbeats 4000000 in
theorem runB_C :
    (kernelRun0_B c i arg1 harg1 arg2 harg2 arg3 harg3 arg4 harg4 arg7 harg7 arg8 harg8 arg9 harg9 arg10 harg10 arg11 harg11 arg12 harg12 hc0 hc1 x0 x1 x2 x3 xs0 xs1 xs2 fh0 fh1).2.2.2.2.2.1 = listC ⟨x0, x1, x2, x3, xs0, xs1, xs2⟩ := by
  unfold kernelRun0_B listC
  dsimp only
  sl_unfold_words
  simp only [View.readAt_eq_ld, harg1.read_unread, harg2.read_unread, harg3.read_unread, harg4.read_unread, harg10.read_unread, harg11.read_unread, harg12.read_unread, View.ld_unit_zero (S := S256x1024) hz2, View.ld_unit_zero (S := S1x1024) hz2,
    pay1_eq, pay4_eq, pay5_eq, pay6_eq, pay7_eq, pay8_eq, pay11_eq, pay12_eq, pay13_eq, pay15_eq, pay16_eq, pay25_eq, pay26_eq, pay30_eq, pay31_eq, pay33_eq, pay36_eq, pay37_eq, pay38_eq, pay39_eq,
    upB, caB, cbB, cw0B, cw1B, cw2B, xfB, cvB, List.cons_append, List.nil_append]

end

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S3x5632 .f32) (harg3 : arg3.IsWhole) (arg4 : Memref sig .tc .vmem S1x5632 .f32) (harg4 : arg4.IsWhole) (arg7 : Memref sig .tc .vmem S256x1024 .f32) (harg7 : arg7.IsWhole) (arg8 : Memref sig .tc .vmem S256x5632 .bf16) (harg8 : arg8.IsWhole) (arg9 : Memref sig .tc .vmem S256x11264 .bf16) (harg9 : arg9.IsWhole) (arg10 : Memref sig .tc .vmem S4x1024x1408 .bf16) (harg10 : arg10.IsWhole) (arg11 : Memref sig .tc .vmem S2816x1024 .bf16) (harg11 : arg11.IsWhole) (arg12 : Memref sig .tc .vmem S4x8x1408 .f32) (harg12 : arg12.IsWhole) (hc0 : cond0_0 i) (hc1 : cond0_1 i) (x0 : Vec Ideal S256x1024 .f32) (x1 : Vec Ideal S1x1024 .f32) (x2 : Vec Ideal S3x5632 .f32) (x3 : Vec Ideal S1x5632 .f32) (fh0 : HbBuf0 (F := Ideal) c hbM0_0) (fh1 : HbBuf0 (F := Ideal) c hbM0_1)

set_option maxHeartbeats 4000000 in
theorem runA_4 :
    (kernelRun0_A c i arg1 harg1 arg2 harg2 arg3 harg3 arg4 harg4 arg7 harg7 arg8 harg8 arg9 harg9 arg10 harg10 arg11 harg11 arg12 harg12 hc0 hc1 x0 x1 x2 x3 fh0 fh1).1 = list4 (ins0 x0 x1 x2 x3 (View.read (Elt Ideal) (View.whole main_v2) fh0) (View.read (Elt Ideal) (View.whole main_v5) fh1)) := by
  unfold kernelRun0_A list4
  dsimp only
  sl_unfold_words
  simp (config := {decide := true}) only [↓View.readCov_skip, ↓View.readCov_fill, ↓readCov_whole, ReadAs.apply_same, View.readAt_eq_ld, harg1.read_unread, harg2.read_unread, harg3.read_unread, harg4.read_unread, View.ld_unit_zero (S := S256x1024) hz2, View.ld_unit_zero (S := S1x1024) hz2,
    pay1_eq, pay4_eq, pay5_eq, pay6_eq, pay7_eq, pay8_eq, pay11_eq, pay12_eq, pay13_eq, pay15_eq, pay16_eq, pay25_eq, pay26_eq, pay30_eq, pay31_eq, pay33_eq, pay36_eq, pay37_eq, pay38_eq, pay39_eq,
    upB, caB, cbB, cw0B, cw1B, cw2B, xfB, cvB, List.cons_append, List.nil_append]

set_option maxHeartbeats 4000000 in
theorem runA_5 :
    (kernelRun0_A c i arg1 harg1 arg2 harg2 arg3 harg3 arg4 harg4 arg7 harg7 arg8 harg8 arg9 harg9 arg10 harg10 arg11 harg11 arg12 harg12 hc0 hc1 x0 x1 x2 x3 fh0 fh1).2.1 = list5 (ins0 x0 x1 x2 x3 (View.read (Elt Ideal) (View.whole main_v2) fh0) (View.read (Elt Ideal) (View.whole main_v5) fh1)) := by
  unfold kernelRun0_A list5
  dsimp only
  sl_unfold_words
  simp (config := {decide := true}) only [↓View.readCov_skip, ↓View.readCov_fill, ↓readCov_whole, ReadAs.apply_same, View.readAt_eq_ld, harg1.read_unread, harg2.read_unread, harg3.read_unread, harg4.read_unread, View.ld_unit_zero (S := S256x1024) hz2, View.ld_unit_zero (S := S1x1024) hz2,
    pay1_eq, pay4_eq, pay5_eq, pay6_eq, pay7_eq, pay8_eq, pay11_eq, pay12_eq, pay13_eq, pay15_eq, pay16_eq, pay25_eq, pay26_eq, pay30_eq, pay31_eq, pay33_eq, pay36_eq, pay37_eq, pay38_eq, pay39_eq,
    upB, caB, cbB, cw0B, cw1B, cw2B, xfB, cvB, List.cons_append, List.nil_append]

set_option maxHeartbeats 4000000 in
theorem runA_6 :
    (kernelRun0_A c i arg1 harg1 arg2 harg2 arg3 harg3 arg4 harg4 arg7 harg7 arg8 harg8 arg9 harg9 arg10 harg10 arg11 harg11 arg12 harg12 hc0 hc1 x0 x1 x2 x3 fh0 fh1).2.2.1 = list6 (ins0 x0 x1 x2 x3 (View.read (Elt Ideal) (View.whole main_v2) fh0) (View.read (Elt Ideal) (View.whole main_v5) fh1)) := by
  unfold kernelRun0_A list6
  dsimp only
  sl_unfold_words
  simp (config := {decide := true}) only [↓View.readCov_skip, ↓View.readCov_fill, ↓readCov_whole, ReadAs.apply_same, View.readAt_eq_ld, harg1.read_unread, harg2.read_unread, harg3.read_unread, harg4.read_unread, View.ld_unit_zero (S := S256x1024) hz2, View.ld_unit_zero (S := S1x1024) hz2,
    pay1_eq, pay4_eq, pay5_eq, pay6_eq, pay7_eq, pay8_eq, pay11_eq, pay12_eq, pay13_eq, pay15_eq, pay16_eq, pay25_eq, pay26_eq, pay30_eq, pay31_eq, pay33_eq, pay36_eq, pay37_eq, pay38_eq, pay39_eq,
    upB, caB, cbB, cw0B, cw1B, cw2B, xfB, cvB, List.cons_append, List.nil_append]

set_option maxHeartbeats 4000000 in
theorem runA_C :
    (kernelRun0_A c i arg1 harg1 arg2 harg2 arg3 harg3 arg4 harg4 arg7 harg7 arg8 harg8 arg9 harg9 arg10 harg10 arg11 harg11 arg12 harg12 hc0 hc1 x0 x1 x2 x3 fh0 fh1).2.2.2.2.2.1 = listC (ins0 x0 x1 x2 x3 (View.read (Elt Ideal) (View.whole main_v2) fh0) (View.read (Elt Ideal) (View.whole main_v5) fh1)) ++ [⟨Rect.unit ![0, 0, 0] ![4, 8, 1408] inb_S4x8x1408_S4x8x1408_0_0_0, k0_pay9 (F := Ideal)⟩] := by
  unfold kernelRun0_A listC
  dsimp only
  sl_unfold_words
  simp (config := {decide := true}) only [↓View.readCov_skip, ↓View.readCov_fill, ↓readCov_whole, ReadAs.apply_same, View.readAt_eq_ld, harg1.read_unread, harg2.read_unread, harg3.read_unread, harg4.read_unread, View.ld_unit_zero (S := S256x1024) hz2, View.ld_unit_zero (S := S1x1024) hz2,
    pay1_eq, pay4_eq, pay5_eq, pay6_eq, pay7_eq, pay8_eq, pay11_eq, pay12_eq, pay13_eq, pay15_eq, pay16_eq, pay25_eq, pay26_eq, pay30_eq, pay31_eq, pay33_eq, pay36_eq, pay37_eq, pay38_eq, pay39_eq,
    upB, caB, cbB, cw0B, cw1B, cw2B, xfB, cvB, List.cons_append, List.nil_append]

end

end Cert.KernelFwdIdeal.Fw

end
-- ==== Proof.Ffn.FwdSem.lean ====
/- The layer's forward pass: one step of the grid read at an index, over the extended reals. -/
module

public import proofs.«01_k».proof.Proof.Ffn.FwdStep
public import proofs.«01_k».proof.Proof.Ffn.Sem
public import Idealize.ShloMosaic.Lib.Pipeline.ReadBack
public import Idealize.ShloMosaic.Lib.Pipeline.ValueKit.Tiles

@[expose] public section

set_option maxRecDepth 16384

noncomputable section

namespace Cert.KernelFwdIdeal.Fw

open Cert.KernelFwdIdeal Cert.KernelFwdIdeal.Gen Idealize.ShloMosaic Idealize.ShloMosaic.ValueIdx Idealize.SL.Sem

open Cert.KernelIdeal.Blk (ld2 ld3 piece2 piece3 col cblk coff cblk_col coff_col col_eta)

/-! ## Layout and reductions -/

theorem sc_self {S : Shape} {α : Type} (x : S.Idx → α) (h : S.ShapeCasts S) (j : S.Idx) : shapeCast S x h j = x j :=
  shapeCast_apply x h j j rfl

theorem row_bcast (x : FVec Ideal S1x1408 .f32) (r : Fin 256) (q : Fin 1408) :
    broadcastTo S256x1408 x broadcasts_S1x1408_S256x1408 (ix2 r q) = x (ix2 0 q) :=
  broadcastTo_apply x broadcasts_S1x1408_S256x1408 (ix2 r q) (ix2 0 q) fun a => by
    match a with
    | ⟨0, _⟩ => rfl
    | ⟨1, _⟩ => rfl

theorem row_bcast_n (x : FVec Ideal S1x1024 .f32) (r : Fin 256) (k : Fin 1024) :
    broadcastTo S256x1024 x broadcasts_S1x1024_S256x1024 (ix2 r k) = x (ix2 0 k) :=
  broadcastTo_apply x broadcasts_S1x1024_S256x1024 (ix2 r k) (ix2 0 k) fun a => by
    match a with
    | ⟨0, _⟩ => rfl
    | ⟨1, _⟩ => rfl

theorem col_bcast (x : FVec Ideal S256x1 .f32) (r : Fin 256) (k : Fin 1024) :
    broadcastTo S256x1024 x broadcasts_S256x1_S256x1024 (ix2 r k) = x (ix2 r 0) :=
  broadcastTo_apply x broadcasts_S256x1_S256x1024 (ix2 r k) (ix2 r 0) fun a => by
    match a with
    | ⟨0, _⟩ => rfl
    | ⟨1, _⟩ => rfl

/-- A row sum, kept as a column. -/
theorem rowsum (v : FVec Ideal S256x1024 .f32) (r : Fin 256) :
    shapeCast S256x1 (multiReduction .add [1] S256 v 0x00000000#32 reduces_S256x1024_S256 (.inl rfl) rfl) shapeCasts_S256_S256x1
      (ix2 r 0) = ∑ k : Fin 1024, v (ix2 r k) := by
  refine (shapeCast_apply _ shapeCasts_S256_S256x1 (ix2 r 0) (ix1 r) (by simp [Shape.rowMajor_val_two, Shape.rowMajor_val_one])).trans ?_
  refine (Ideal.multiReduction_add_single v _ reduces_S256x1024_S256 (.inl rfl) rfl (ix1 r)).trans ?_
  exact Finset.sum_congr rfl fun k _ => congrArg v (funext fun a => Fin.ext (by match a with | ⟨0, _⟩ => rfl | ⟨1, _⟩ => rfl))

/-! ## The body's terms -/

/-- The norm's factor of a row, from the row's values. -/
def rs (x : Fin 1024 → EReal) : EReal :=
  Ideal.rsqrt (Ideal.div (∑ k : Fin 1024, x k * x k) (Ideal.ofBits .f32 0x44800000#32) + Ideal.ofBits .f32 0x358637BD#32)

theorem xf_apply (x : IV S256x1024 .f32) (n : IV S1x1024 .f32) (r : Fin 256) (k : Fin 1024) :
    k0_pay10 x n (ix2 r k) = x (ix2 r k) * rs (fun j => x (ix2 r j)) * n (ix2 0 k) := by
  unfold k0_pay10
  try dsimp only
  rw [truncf_apply, mulf_apply, row_bcast_n, mulf_apply, col_bcast, sc_self]
  refine congrArg (fun e : EReal => x (ix2 r k) * e * n (ix2 0 k)) ?_
  show Ideal.rsqrt (Ideal.div (shapeCast S256x1 _ _ (ix2 r 0)) _ + _) = _
  rw [rowsum]
  rfl

theorem hh_apply (X : FVec Ideal S256x1024 .bf16) (w : IV S1x1024x1408 .bf16) (r : Fin 256) (q : Fin 1408) :
    k0_pay17 X w (ix2 r q) = ∑ k : Fin 1024, X (ix2 r k) * w (ix3 0 k q) := by
  unfold k0_pay17
  try dsimp only
  refine (Ideal.matmul_plain_apply none X (shapeCast S1024x1408 w shapeCasts_S1x1024x1408_S1024x1408) (constant S256x1408 .f32 0x00000000#32) r q).trans ?_
  rw [constant_apply, Ideal.ofBits_zero_f32, zero_add]
  refine Finset.sum_congr rfl fun k _ => congrArg (_ * ·) ?_
  exact shapeCast_apply w shapeCasts_S1x1024x1408_S1024x1408 (ix2 k q) (ix3 0 k q)
    (by simp [Shape.rowMajor_val_two, Shape.rowMajor_val_three])

theorem acc_apply (v : FVec Ideal S256x1024 .f32) (p : FVec Ideal S256x1408 .bf16) (w : IV S1408x1024 .bf16) (r : Fin 256) (k : Fin 1024) :
    k0_pay29 v p w (ix2 r k) = v (ix2 r k) + ∑ q : Fin 1408, p (ix2 r q) * w (ix2 q k) := by
  unfold k0_pay29
  try dsimp only
  rw [addf_apply]
  refine congrArg (v (ix2 r k) + ·) ?_
  refine (Ideal.matmul_plain_apply none p w (constant S256x1024 .f32 0x00000000#32) r k).trans ?_
  rw [constant_apply, Ideal.ofBits_zero_f32, zero_add]

/-- Row `r` of the carried rows followed by the block. -/
def ext (A : FVec Ideal S256x1408 .f32) (c : IV S1x8x1408 .f32) (r : ℕ) (h : r < 264) (q : Fin 1408) : EReal :=
  if h' : r < 8 then c (ix3 0 ⟨r, h'⟩ q) else A (ix2 ⟨r - 8, by omega⟩ q)

theorem ext_apply (X : FVec Ideal S256x1024 .bf16) (w : IV S1x1024x1408 .bf16) (c : IV S1x8x1408 .f32) (r : Fin 264) (q : Fin 1408) :
    k0_pay19 X w c (ix2 r q) = ext (k0_pay17 X w) c r.val r.isLt q := by
  unfold k0_pay19 ext
  try dsimp only
  generalize k0_pay17 X w = A
  split
  · next h =>
    refine (concatenate_pair_apply_left (t := S264x1408) 0 (shapeCast S8x1408 c shapeCasts_S1x8x1408_S8x1408) A _ (ix2 r q) rfl (ix2 ⟨r.val, h⟩ q) fun b => ?_).trans ?_
    · match b with
      | ⟨0, _⟩ => rfl
      | ⟨1, _⟩ => rfl
    · exact shapeCast_apply c shapeCasts_S1x8x1408_S8x1408 _ (ix3 0 ⟨r.val, h⟩ q)
        (by simp [Shape.rowMajor_val_two, Shape.rowMajor_val_three])
  · next h =>
    refine concatenate_pair_apply_right (t := S264x1408) 0 (shapeCast S8x1408 c shapeCasts_S1x8x1408_S8x1408) A _ (ix2 r q) rfl rfl
      (ix2 ⟨r.val - 8, by omega⟩ q) ?_ ?_
    · intro b
      match b with
      | ⟨0, _⟩ => simp
      | ⟨1, _⟩ => simp
    · show r.val - 8 + 8 = r.val
      omega

theorem shift1_apply (X : FVec Ideal S256x1024 .bf16) (w : IV S1x1024x1408 .bf16) (c : IV S1x8x1408 .f32) (r : Fin 256) (q : Fin 1408) :
    k0_pay21 X w c (ix2 r q) = ext (k0_pay17 X w) c (r.val + 7) (by omega) q := by
  unfold k0_pay21
  try dsimp only
  refine (extractStridedSlice_apply ![8, 0] _ slices_S264x1408_o8_0_S256x1408 (ix2 r q) (ix2 ⟨8 + r.val, by omega⟩ q) fun a => ?_).trans ?_
  · match a with
    | ⟨0, _⟩ => rfl
    | ⟨1, _⟩ => exact (Nat.zero_add _).symm
  · refine Eq.trans ?_ (ext_apply X w c ⟨r.val + 7, by omega⟩ q)
    refine dynamicRotate_apply (s := S264x1408) (0 : Fin 2) 1#32 _ rotates_S264x1408_d0 _ _ fun b => ?_
    match b with
    | ⟨0, _⟩ =>
      show r.val + 7 = (8 + r.val + 264 - 1 % 264) % 264
      have := r.isLt
      omega
    | ⟨1, _⟩ => rfl

theorem shift2_apply (X : FVec Ideal S256x1024 .bf16) (w : IV S1x1024x1408 .bf16) (c : IV S1x8x1408 .f32) (r : Fin 256) (q : Fin 1408) :
    extractStridedSlice S256x1408 ![8, 0] (dynamicRotate 0 2#32 none (k0_pay19 X w c) rotates_S264x1408_d0) slices_S264x1408_o8_0_S256x1408 (ix2 r q)
      = ext (k0_pay17 X w) c (r.val + 6) (by omega) q := by
  refine (extractStridedSlice_apply ![8, 0] _ slices_S264x1408_o8_0_S256x1408 (ix2 r q) (ix2 ⟨8 + r.val, by omega⟩ q) fun a => ?_).trans ?_
  · match a with
    | ⟨0, _⟩ => rfl
    | ⟨1, _⟩ => exact (Nat.zero_add _).symm
  · refine Eq.trans ?_ (ext_apply X w c ⟨r.val + 6, by omega⟩ q)
    refine dynamicRotate_apply (s := S264x1408) (0 : Fin 2) 2#32 _ rotates_S264x1408_d0 _ _ fun b => ?_
    match b with
    | ⟨0, _⟩ =>
      show r.val + 6 = (8 + r.val + 264 - 2 % 264) % 264
      have := r.isLt
      omega
    | ⟨1, _⟩ => rfl

theorem conv_apply (X : FVec Ideal S256x1024 .bf16) (w : IV S1x1024x1408 .bf16) (c : IV S1x8x1408 .f32) (cb c0 c1 c2 : IV S1x1408 .f32) (r : Fin 256) (q : Fin 1408) :
    k0_pay22 (k0_pay17 X w) (k0_pay19 X w c) (k0_pay21 X w c) cb c0 c1 c2 (ix2 r q)
      = cb (ix2 0 q) + c0 (ix2 0 q) * ext (k0_pay17 X w) c (r.val + 6) (by omega) q + c1 (ix2 0 q) * ext (k0_pay17 X w) c (r.val + 7) (by omega) q
        + c2 (ix2 0 q) * k0_pay17 X w (ix2 r q) := by
  unfold k0_pay22
  try dsimp only
  simp only [addf_apply, mulf_apply, row_bcast, sc_self, shift1_apply]
  rw [shift2_apply]

/-- The rows carried to the block below: this block's last eight. -/
theorem carry_apply (X : FVec Ideal S256x1024 .bf16) (w : IV S1x1024x1408 .bf16) (a : Fin 1) (r : Fin 8) (q : Fin 1408) :
    k0_pay20 X w (ix3 a r q) = k0_pay17 X w (ix2 ⟨248 + r.val, by omega⟩ q) := by
  unfold k0_pay20
  try dsimp only
  refine (shapeCast_apply _ shapeCasts_S8x1408_S1x8x1408 (ix3 a r q) (ix2 r q)
    (by have := a.isLt; simp [Shape.rowMajor_val_two, Shape.rowMajor_val_three])).trans ?_
  refine extractStridedSlice_apply ![248, 0] _ slices_S256x1408_o248_0_S8x1408 (ix2 r q) (ix2 ⟨248 + r.val, by omega⟩ q) fun b => ?_
  match b with
  | ⟨0, _⟩ => rfl
  | ⟨1, _⟩ => exact (Nat.zero_add _).symm

/-! ## The gate -/

/-- The logistic function as the body writes it. -/
def sg (y : EReal) : EReal :=
  Ideal.ofBits .f32 0x3F000000#32 * Ideal.tanh (Ideal.ofBits .f32 0x3F000000#32 * y) + Ideal.ofBits .f32 0x3F000000#32

/-- The gate. -/
def sil (y : EReal) : EReal := y * sg y

/-- Its derivative. -/
def dsil (y : EReal) : EReal := sg y * (Ideal.ofBits .f32 0x3F800000#32 + y * (Ideal.ofBits .f32 0x3F800000#32 - sg y))

theorem sil_apply (A : FVec Ideal S256x1408 .f32) (i : S256x1408.Idx) : k0_pay24 A i = sil (A i) := rfl
theorem tU_apply (A : FVec Ideal S256x1408 .f32) (i : S256x1408.Idx) : tU A i = A i := rfl
theorem tP_apply (A B : FVec Ideal S256x1408 .f32) (i : S256x1408.Idx) : tP A B i = (sil (A i) * B i : EReal) := rfl
theorem tS_apply (A : FVec Ideal S256x1408 .f32) (i : S256x1408.Idx) : k0_pay27 A i = sil (A i) := rfl
theorem tD_apply (A : FVec Ideal S256x1408 .f32) (i : S256x1408.Idx) : k0_pay28 A i = dsil (A i) := rfl

/-! ## What a step computes -/

variable (z : Ins)

/-- The normed rows. -/
def xf (r : Fin 256) (k : Fin 1024) : EReal := z.x (ix2 r k) * rs (fun j => z.x (ix2 r j)) * z.n (ix2 0 k)

/-- The up product. -/
def hh (r : Fin 256) (q : Fin 5632) : EReal := ∑ k : Fin 1024, xf z r k * z.up (ix3 (cblk q) k (coff q))

/-- The same after the carried rows. -/
def ex (r : ℕ) (h : r < 264) (q : Fin 5632) : EReal :=
  if h' : r < 8 then z.ca (ix3 (cblk q) ⟨r, h'⟩ (coff q)) else hh z ⟨r - 8, by omega⟩ q

/-- The convolution. -/
def cv (r : Fin 256) (q : Fin 5632) : EReal :=
  z.cb (ix2 0 q) + z.cw (ix2 0 q) * ex z (r.val + 6) (by omega) q + z.cw (ix2 1 q) * ex z (r.val + 7) (by omega) q + z.cw (ix2 2 q) * hh z r q

/-- The saved arrays, side by side: the multiplier, the gate, its derivative, the gated product. -/
def sv (r : Fin 256) (k : Fin 4) (q : Fin 2816) : EReal :=
  match k with
  | 0 => cv z r ⟨2816 + q.val, by omega⟩
  | 1 => sil (cv z r ⟨q.val, by omega⟩)
  | 2 => dsil (cv z r ⟨q.val, by omega⟩)
  | 3 => sil (cv z r ⟨q.val, by omega⟩) * cv z r ⟨2816 + q.val, by omega⟩

/-- The residual stream. -/
def ot (r : Fin 256) (k : Fin 1024) : EReal :=
  z.x (ix2 r k) + (∑ q : Fin 1408, sv z r 3 ⟨q.val, by omega⟩ * z.down (ix2 ⟨q.val, by omega⟩ k))
    + ∑ q : Fin 1408, sv z r 3 ⟨1408 + q.val, by omega⟩ * z.down (ix2 ⟨1408 + q.val, by omega⟩ k)

/-! ## The terms of the body are these -/

theorem caB_apply (b : Fin 4) (t : Fin 1) (r : Fin 8) (q : Fin 1408) : caB z b (ix3 t r q) = z.ca (ix3 b r q) := by
  match b with
  | 0 => exact (ld3 z.ca 0 0 0 _ t r q (by omega) (by omega) (by omega)).trans (congrArg z.ca (by
      rw [show (⟨0 + t.val, by omega⟩ : Fin 4) = 0 from Fin.ext (by have := t.isLt; simp; try omega)]
      congr 1 <;> exact Fin.ext (Nat.zero_add _)))
  | 1 => exact (ld3 z.ca 1 0 0 _ t r q (by omega) (by omega) (by omega)).trans (congrArg z.ca (by
      rw [show (⟨1 + t.val, by omega⟩ : Fin 4) = 1 from Fin.ext (by have := t.isLt; simp; try omega)]
      congr 1 <;> exact Fin.ext (Nat.zero_add _)))
  | 2 => exact (ld3 z.ca 2 0 0 _ t r q (by omega) (by omega) (by omega)).trans (congrArg z.ca (by
      rw [show (⟨2 + t.val, by omega⟩ : Fin 4) = 2 from Fin.ext (by have := t.isLt; simp; try omega)]
      congr 1 <;> exact Fin.ext (Nat.zero_add _)))
  | 3 => exact (ld3 z.ca 3 0 0 _ t r q (by omega) (by omega) (by omega)).trans (congrArg z.ca (by
      rw [show (⟨3 + t.val, by omega⟩ : Fin 4) = 3 from Fin.ext (by have := t.isLt; simp; try omega)]
      congr 1 <;> exact Fin.ext (Nat.zero_add _)))

theorem upB_apply (b : Fin 4) (t : Fin 1) (r : Fin 1024) (q : Fin 1408) : upB z b (ix3 t r q) = z.up (ix3 b r q) := by
  match b with
  | 0 => exact (ld3 z.up 0 0 0 _ t r q (by omega) (by omega) (by omega)).trans (congrArg z.up (by
      rw [show (⟨0 + t.val, by omega⟩ : Fin 4) = 0 from Fin.ext (by have := t.isLt; simp; try omega)]
      congr 1 <;> exact Fin.ext (Nat.zero_add _)))
  | 1 => exact (ld3 z.up 1 0 0 _ t r q (by omega) (by omega) (by omega)).trans (congrArg z.up (by
      rw [show (⟨1 + t.val, by omega⟩ : Fin 4) = 1 from Fin.ext (by have := t.isLt; simp; try omega)]
      congr 1 <;> exact Fin.ext (Nat.zero_add _)))
  | 2 => exact (ld3 z.up 2 0 0 _ t r q (by omega) (by omega) (by omega)).trans (congrArg z.up (by
      rw [show (⟨2 + t.val, by omega⟩ : Fin 4) = 2 from Fin.ext (by have := t.isLt; simp; try omega)]
      congr 1 <;> exact Fin.ext (Nat.zero_add _)))
  | 3 => exact (ld3 z.up 3 0 0 _ t r q (by omega) (by omega) (by omega)).trans (congrArg z.up (by
      rw [show (⟨3 + t.val, by omega⟩ : Fin 4) = 3 from Fin.ext (by have := t.isLt; simp; try omega)]
      congr 1 <;> exact Fin.ext (Nat.zero_add _)))

theorem cbB_apply (b : Fin 4) (t : Fin 1) (q : Fin 1408) : cbB z b (ix2 t q) = z.cb (ix2 0 (col b q)) := by
  match b with
  | 0 => exact (ld2 z.cb 0 0 _ t q (by omega) (by omega)).trans (congrArg z.cb (congrArg₂ ix2 (Fin.ext (by have := t.isLt; simp; try omega)) (Fin.ext (by simp [col]))))
  | 1 => exact (ld2 z.cb 0 1408 _ t q (by omega) (by omega)).trans (congrArg z.cb (congrArg₂ ix2 (Fin.ext (by have := t.isLt; simp; try omega)) (Fin.ext (by simp [col]))))
  | 2 => exact (ld2 z.cb 0 2816 _ t q (by omega) (by omega)).trans (congrArg z.cb (congrArg₂ ix2 (Fin.ext (by have := t.isLt; simp; try omega)) (Fin.ext (by simp [col]))))
  | 3 => exact (ld2 z.cb 0 4224 _ t q (by omega) (by omega)).trans (congrArg z.cb (congrArg₂ ix2 (Fin.ext (by have := t.isLt; simp; try omega)) (Fin.ext (by simp [col]))))

theorem cw0B_apply (b : Fin 4) (t : Fin 1) (q : Fin 1408) : cw0B z b (ix2 t q) = z.cw (ix2 0 (col b q)) := by
  match b with
  | 0 => exact (ld2 z.cw 0 0 _ t q (by omega) (by omega)).trans (congrArg z.cw (congrArg₂ ix2 (Fin.ext (by have := t.isLt; simp; try omega)) (Fin.ext (by simp [col]))))
  | 1 => exact (ld2 z.cw 0 1408 _ t q (by omega) (by omega)).trans (congrArg z.cw (congrArg₂ ix2 (Fin.ext (by have := t.isLt; simp; try omega)) (Fin.ext (by simp [col]))))
  | 2 => exact (ld2 z.cw 0 2816 _ t q (by omega) (by omega)).trans (congrArg z.cw (congrArg₂ ix2 (Fin.ext (by have := t.isLt; simp; try omega)) (Fin.ext (by simp [col]))))
  | 3 => exact (ld2 z.cw 0 4224 _ t q (by omega) (by omega)).trans (congrArg z.cw (congrArg₂ ix2 (Fin.ext (by have := t.isLt; simp; try omega)) (Fin.ext (by simp [col]))))

theorem cw1B_apply (b : Fin 4) (t : Fin 1) (q : Fin 1408) : cw1B z b (ix2 t q) = z.cw (ix2 1 (col b q)) := by
  match b with
  | 0 => exact (ld2 z.cw 1 0 _ t q (by omega) (by omega)).trans (congrArg z.cw (congrArg₂ ix2 (Fin.ext (by have := t.isLt; simp; try omega)) (Fin.ext (by simp [col]))))
  | 1 => exact (ld2 z.cw 1 1408 _ t q (by omega) (by omega)).trans (congrArg z.cw (congrArg₂ ix2 (Fin.ext (by have := t.isLt; simp; try omega)) (Fin.ext (by simp [col]))))
  | 2 => exact (ld2 z.cw 1 2816 _ t q (by omega) (by omega)).trans (congrArg z.cw (congrArg₂ ix2 (Fin.ext (by have := t.isLt; simp; try omega)) (Fin.ext (by simp [col]))))
  | 3 => exact (ld2 z.cw 1 4224 _ t q (by omega) (by omega)).trans (congrArg z.cw (congrArg₂ ix2 (Fin.ext (by have := t.isLt; simp; try omega)) (Fin.ext (by simp [col]))))

theorem cw2B_apply (b : Fin 4) (t : Fin 1) (q : Fin 1408) : cw2B z b (ix2 t q) = z.cw (ix2 2 (col b q)) := by
  match b with
  | 0 => exact (ld2 z.cw 2 0 _ t q (by omega) (by omega)).trans (congrArg z.cw (congrArg₂ ix2 (Fin.ext (by have := t.isLt; simp; try omega)) (Fin.ext (by simp [col]))))
  | 1 => exact (ld2 z.cw 2 1408 _ t q (by omega) (by omega)).trans (congrArg z.cw (congrArg₂ ix2 (Fin.ext (by have := t.isLt; simp; try omega)) (Fin.ext (by simp [col]))))
  | 2 => exact (ld2 z.cw 2 2816 _ t q (by omega) (by omega)).trans (congrArg z.cw (congrArg₂ ix2 (Fin.ext (by have := t.isLt; simp; try omega)) (Fin.ext (by simp [col]))))
  | 3 => exact (ld2 z.cw 2 4224 _ t q (by omega) (by omega)).trans (congrArg z.cw (congrArg₂ ix2 (Fin.ext (by have := t.isLt; simp; try omega)) (Fin.ext (by simp [col]))))

theorem hhB_apply (b : Fin 4) (r : Fin 256) (q : Fin 1408) : k0_pay17 (xfB z) (upB z b) (ix2 r q) = hh z r (col b q) := by
  rw [hh_apply]
  unfold hh
  refine Finset.sum_congr rfl fun k _ => ?_
  rw [upB_apply, cblk_col, coff_col]
  exact congrArg (· * _) (xf_apply z.x z.n r k)

theorem ext_eq (b : Fin 4) (r : ℕ) (h : r < 264) (q : Fin 1408) : ext (k0_pay17 (xfB z) (upB z b)) (caB z b) r h q = ex z r h (col b q) := by
  unfold ext ex
  by_cases h' : r < 8
  · rw [dif_pos h', dif_pos h', caB_apply, cblk_col, coff_col]
  · rw [dif_neg h', dif_neg h', hhB_apply]

theorem cvB_apply (b : Fin 4) (r : Fin 256) (q : Fin 1408) : cvB z b (ix2 r q) = cv z r (col b q) := by
  unfold cvB cv
  rw [conv_apply, ext_eq, ext_eq, hhB_apply, cbB_apply, cw0B_apply, cw1B_apply, cw2B_apply]

theorem hoB_apply (b : Fin 4) (r : Fin 256) (q : Fin 1408) : k0_pay18 (xfB z) (upB z b) (ix2 r q) = hh z r (col b q) := hhB_apply z b r q

theorem coB_apply (b : Fin 4) (t : Fin 1) (r : Fin 8) (q : Fin 1408) :
    k0_pay20 (xfB z) (upB z b) (ix3 t r q) = hh z ⟨248 + r.val, by omega⟩ (col b q) := (carry_apply _ _ t r q).trans (hhB_apply z b _ q)

theorem cu0 (r : Fin 256) (q : Fin 1408) : cvB z 2 (ix2 r q) = cv z r ⟨2816 + (0 + q.val), by omega⟩ :=
  (cvB_apply z 2 r q).trans (congrArg (cv z r) (Fin.ext (by simp [col]; try omega)))

theorem cg0 (r : Fin 256) (q : Fin 1408) : cvB z 0 (ix2 r q) = cv z r ⟨0 + q.val, by omega⟩ :=
  (cvB_apply z 0 r q).trans (congrArg (cv z r) (Fin.ext (by simp [col])))

theorem sv0_0 (r : Fin 256) (q : Fin 1408) : tU (cvB z 2) (ix2 r q) = sv z r 0 ⟨0 + q.val, by omega⟩ := cu0 z r q
theorem sv1_0 (r : Fin 256) (q : Fin 1408) : k0_pay27 (F := Ideal) (cvB z 0) (ix2 r q) = sv z r 1 ⟨0 + q.val, by omega⟩ := congrArg sil (cg0 z r q)
theorem sv2_0 (r : Fin 256) (q : Fin 1408) : k0_pay28 (F := Ideal) (cvB z 0) (ix2 r q) = sv z r 2 ⟨0 + q.val, by omega⟩ := congrArg dsil (cg0 z r q)
theorem sv3_0 (r : Fin 256) (q : Fin 1408) : tP (cvB z 0) (cvB z 2) (ix2 r q) = sv z r 3 ⟨0 + q.val, by omega⟩ :=
  congrArg₂ (fun a b : EReal => sil a * b) (cg0 z r q) (cu0 z r q)

theorem cu1 (r : Fin 256) (q : Fin 1408) : cvB z 3 (ix2 r q) = cv z r ⟨2816 + (1408 + q.val), by omega⟩ :=
  (cvB_apply z 3 r q).trans (congrArg (cv z r) (Fin.ext (by simp [col]; try omega)))

theorem cg1 (r : Fin 256) (q : Fin 1408) : cvB z 1 (ix2 r q) = cv z r ⟨1408 + q.val, by omega⟩ :=
  (cvB_apply z 1 r q).trans (congrArg (cv z r) (Fin.ext (by simp [col])))

theorem sv0_1 (r : Fin 256) (q : Fin 1408) : tU (cvB z 3) (ix2 r q) = sv z r 0 ⟨1408 + q.val, by omega⟩ := cu1 z r q
theorem sv1_1 (r : Fin 256) (q : Fin 1408) : k0_pay27 (F := Ideal) (cvB z 1) (ix2 r q) = sv z r 1 ⟨1408 + q.val, by omega⟩ := congrArg sil (cg1 z r q)
theorem sv2_1 (r : Fin 256) (q : Fin 1408) : k0_pay28 (F := Ideal) (cvB z 1) (ix2 r q) = sv z r 2 ⟨1408 + q.val, by omega⟩ := congrArg dsil (cg1 z r q)
theorem sv3_1 (r : Fin 256) (q : Fin 1408) : tP (cvB z 1) (cvB z 3) (ix2 r q) = sv z r 3 ⟨1408 + q.val, by omega⟩ :=
  congrArg₂ (fun a b : EReal => sil a * b) (cg1 z r q) (cu1 z r q)

/-! ## What the stores leave -/

theorem canon4 (r : Fin 256) (k : Fin 1024) : View.canon (list4 z) (ix2 r k) = ot z r k := by
  unfold list4
  rw [View.canon_unit_zero (S := S256x1024) (funext fun a => by fin_cases a <;> rfl)]
  refine (acc_apply _ _ _ r k).trans ?_
  rw [acc_apply]
  unfold ot
  refine congrArg₂ (· + ·) (congrArg (_ + ·) (Finset.sum_congr rfl fun q _ => congrArg₂ (· * ·) ?_ ?_)) (Finset.sum_congr rfl fun q _ => congrArg₂ (· * ·) ?_ ?_)
  · exact (sv3_0 z r q).trans (congrArg (sv z r 3) (Fin.ext (Nat.zero_add _)))
  · exact (ld2 z.down 0 0 _ q k (by omega) (by omega)).trans (congrArg z.down (congrArg₂ ix2 (Fin.ext (Nat.zero_add _)) (Fin.ext (Nat.zero_add _))))
  · exact sv3_1 z r q
  · exact (ld2 z.down 1408 0 _ q k (by omega) (by omega)).trans (congrArg z.down (congrArg₂ ix2 rfl (Fin.ext (Nat.zero_add _))))

theorem canon5 (L : List (View.Piece (Elt Ideal) S256x5632 .bf16)) (r : Fin 256) (q : Fin 5632) :
    View.canon (list5 z ++ L) (ix2 r q) = hh z r q := by
  refine View.canon_append_of_piecesOf (fun y : S256x5632.Idx => hh z (y 0) (y 1)) L (list5 z) ?_ (ix2 r q) ?_
  · refine ⟨?_, ?_, ?_, ?_, trivial⟩
    · exact piece2 (m := 256) (n := 5632) (a := 256) (b := 1408) (e := .bf16) (hh z) 0 4224 inb_S256x5632_S256x1408_0_4224 (k0_pay18 (F := Ideal) (xfB z) (upB z 3)) fun r q hr hq => (hoB_apply z 3 r q).trans (congrArg₂ (hh z) (Fin.ext (Nat.zero_add _).symm) (Fin.ext (by simp [col])))
    · exact piece2 (m := 256) (n := 5632) (a := 256) (b := 1408) (e := .bf16) (hh z) 0 1408 inb_S256x5632_S256x1408_0_1408 (k0_pay18 (F := Ideal) (xfB z) (upB z 1)) fun r q hr hq => (hoB_apply z 1 r q).trans (congrArg₂ (hh z) (Fin.ext (Nat.zero_add _).symm) (Fin.ext (by simp [col])))
    · exact piece2 (m := 256) (n := 5632) (a := 256) (b := 1408) (e := .bf16) (hh z) 0 2816 inb_S256x5632_S256x1408_0_2816 (k0_pay18 (F := Ideal) (xfB z) (upB z 2)) fun r q hr hq => (hoB_apply z 2 r q).trans (congrArg₂ (hh z) (Fin.ext (Nat.zero_add _).symm) (Fin.ext (by simp [col])))
    · exact piece2 (m := 256) (n := 5632) (a := 256) (b := 1408) (e := .bf16) (hh z) 0 0 inb_S256x5632_S256x1408_0_0 (k0_pay18 (F := Ideal) (xfB z) (upB z 0)) fun r q hr hq => (hoB_apply z 0 r q).trans (congrArg₂ (hh z) (Fin.ext (Nat.zero_add _).symm) (Fin.ext (by simp [col])))
  · obtain ⟨b, q, rfl⟩ : ∃ b q', q = col b q' := ⟨_, _, (col_eta q).symm⟩
    match b with
    | 0 => exact ⟨(list5 z)[3]'(by show 3 < 4; decide), List.getElem_mem _, (Rect.mem_set_unit (inb := inb_S256x5632_S256x1408_0_0)).mpr fun a => by
        match a with
        | ⟨0, _⟩ => exact ⟨Nat.zero_le _, by simpa using r.isLt⟩
        | ⟨1, _⟩ => exact ⟨by show 0 ≤ 1408 * 0 + q.val; omega, by show 1408 * 0 + q.val < 0 + 1408; omega⟩⟩
    | 1 => exact ⟨(list5 z)[1]'(by show 1 < 4; decide), List.getElem_mem _, (Rect.mem_set_unit (inb := inb_S256x5632_S256x1408_0_1408)).mpr fun a => by
        match a with
        | ⟨0, _⟩ => exact ⟨Nat.zero_le _, by simpa using r.isLt⟩
        | ⟨1, _⟩ => exact ⟨by show 1408 ≤ 1408 * 1 + q.val; omega, by show 1408 * 1 + q.val < 1408 + 1408; omega⟩⟩
    | 2 => exact ⟨(list5 z)[2]'(by show 2 < 4; decide), List.getElem_mem _, (Rect.mem_set_unit (inb := inb_S256x5632_S256x1408_0_2816)).mpr fun a => by
        match a with
        | ⟨0, _⟩ => exact ⟨Nat.zero_le _, by simpa using r.isLt⟩
        | ⟨1, _⟩ => exact ⟨by show 2816 ≤ 1408 * 2 + q.val; omega, by show 1408 * 2 + q.val < 2816 + 1408; omega⟩⟩
    | 3 => exact ⟨(list5 z)[0]'(by show 0 < 4; decide), List.getElem_mem _, (Rect.mem_set_unit (inb := inb_S256x5632_S256x1408_0_4224)).mpr fun a => by
        match a with
        | ⟨0, _⟩ => exact ⟨Nat.zero_le _, by simpa using r.isLt⟩
        | ⟨1, _⟩ => exact ⟨by show 4224 ≤ 1408 * 3 + q.val; omega, by show 1408 * 3 + q.val < 4224 + 1408; omega⟩⟩

/-- A saved array at its place among the four. -/
def svc (r : Fin 256) (c : Fin 11264) : EReal := sv z r ⟨c.val / 2816, by omega⟩ ⟨c.val % 2816, by omega⟩

theorem svc_eq (r r' : Fin 256) (c : Fin 11264) (k : Fin 4) (q : Fin 2816) (hr : r' = r) (h : c.val = 2816 * k.val + q.val) : svc z r' c = sv z r k q := by
  subst hr
  unfold svc
  rw [show (⟨c.val / 2816, by omega⟩ : Fin 4) = k from Fin.ext (by have := q.isLt; show c.val / 2816 = k.val; omega),
    show (⟨c.val % 2816, by omega⟩ : Fin 2816) = q from Fin.ext (by have := q.isLt; show c.val % 2816 = q.val; omega)]

theorem canon6 (L : List (View.Piece (Elt Ideal) S256x11264 .bf16)) (r : Fin 256) (c : Fin 11264) :
    View.canon (list6 z ++ L) (ix2 r c) = svc z r c := by
  refine View.canon_append_of_piecesOf (fun y : S256x11264.Idx => svc z (y 0) (y 1)) L (list6 z) ?_ (ix2 r c) ?_
  · refine ⟨?_, ?_, ?_, ?_, ?_, ?_, ?_, ?_, trivial⟩
    · exact piece2 (m := 256) (n := 11264) (a := 256) (b := 1408) (e := .bf16) (svc z) 0 9856 inb_S256x11264_S256x1408_0_9856 (tP (cvB z 1) (cvB z 3)) fun r q hr hq => (sv3_1 z r q).trans (svc_eq z _ _ _ 3 _ (Fin.ext (Nat.zero_add _)) (by show 9856 + q.val = 2816 * 3 + (1408 + q.val); omega)).symm
    · exact piece2 (m := 256) (n := 11264) (a := 256) (b := 1408) (e := .bf16) (svc z) 0 7040 inb_S256x11264_S256x1408_0_7040 (k0_pay28 (F := Ideal) (cvB z 1)) fun r q hr hq => (sv2_1 z r q).trans (svc_eq z _ _ _ 2 _ (Fin.ext (Nat.zero_add _)) (by show 7040 + q.val = 2816 * 2 + (1408 + q.val); omega)).symm
    · exact piece2 (m := 256) (n := 11264) (a := 256) (b := 1408) (e := .bf16) (svc z) 0 4224 inb_S256x11264_S256x1408_0_4224 (k0_pay27 (F := Ideal) (cvB z 1)) fun r q hr hq => (sv1_1 z r q).trans (svc_eq z _ _ _ 1 _ (Fin.ext (Nat.zero_add _)) (by show 4224 + q.val = 2816 * 1 + (1408 + q.val); omega)).symm
    · exact piece2 (m := 256) (n := 11264) (a := 256) (b := 1408) (e := .bf16) (svc z) 0 1408 inb_S256x11264_S256x1408_0_1408 (tU (cvB z 3)) fun r q hr hq => (sv0_1 z r q).trans (svc_eq z _ _ _ 0 _ (Fin.ext (Nat.zero_add _)) (by show 1408 + q.val = 2816 * 0 + (1408 + q.val); omega)).symm
    · exact piece2 (m := 256) (n := 11264) (a := 256) (b := 1408) (e := .bf16) (svc z) 0 8448 inb_S256x11264_S256x1408_0_8448 (tP (cvB z 0) (cvB z 2)) fun r q hr hq => (sv3_0 z r q).trans (svc_eq z _ _ _ 3 _ (Fin.ext (Nat.zero_add _)) (by show 8448 + q.val = 2816 * 3 + (0 + q.val); omega)).symm
    · exact piece2 (m := 256) (n := 11264) (a := 256) (b := 1408) (e := .bf16) (svc z) 0 5632 inb_S256x11264_S256x1408_0_5632 (k0_pay28 (F := Ideal) (cvB z 0)) fun r q hr hq => (sv2_0 z r q).trans (svc_eq z _ _ _ 2 _ (Fin.ext (Nat.zero_add _)) (by show 5632 + q.val = 2816 * 2 + (0 + q.val); omega)).symm
    · exact piece2 (m := 256) (n := 11264) (a := 256) (b := 1408) (e := .bf16) (svc z) 0 2816 inb_S256x11264_S256x1408_0_2816 (k0_pay27 (F := Ideal) (cvB z 0)) fun r q hr hq => (sv1_0 z r q).trans (svc_eq z _ _ _ 1 _ (Fin.ext (Nat.zero_add _)) (by show 2816 + q.val = 2816 * 1 + (0 + q.val); omega)).symm
    · exact piece2 (m := 256) (n := 11264) (a := 256) (b := 1408) (e := .bf16) (svc z) 0 0 inb_S256x11264_S256x1408_0_0 (tU (cvB z 2)) fun r q hr hq => (sv0_0 z r q).trans (svc_eq z _ _ _ 0 _ (Fin.ext (Nat.zero_add _)) (by show 0 + q.val = 2816 * 0 + (0 + q.val); omega)).symm
  · obtain ⟨b, q, hc⟩ : ∃ (b : Fin 8) (q : Fin 1408), c.val = 1408 * b.val + q.val :=
      ⟨⟨c.val / 1408, by omega⟩, ⟨c.val % 1408, by omega⟩, by show c.val = 1408 * (c.val / 1408) + c.val % 1408; omega⟩
    match b, hc with
    | 0, hc => exact ⟨(list6 z)[7]'(by show 7 < 8; decide), List.getElem_mem _, (Rect.mem_set_unit (inb := inb_S256x11264_S256x1408_0_0)).mpr fun a => by
        have hc' : c.val = 1408 * 0 + q.val := hc
        match a with
        | ⟨0, _⟩ => exact ⟨Nat.zero_le _, by simpa using r.isLt⟩
        | ⟨1, _⟩ => exact ⟨by show 0 ≤ c.val; omega, by show c.val < 0 + 1408; omega⟩⟩
    | 1, hc => exact ⟨(list6 z)[3]'(by show 3 < 8; decide), List.getElem_mem _, (Rect.mem_set_unit (inb := inb_S256x11264_S256x1408_0_1408)).mpr fun a => by
        have hc' : c.val = 1408 * 1 + q.val := hc
        match a with
        | ⟨0, _⟩ => exact ⟨Nat.zero_le _, by simpa using r.isLt⟩
        | ⟨1, _⟩ => exact ⟨by show 1408 ≤ c.val; omega, by show c.val < 1408 + 1408; omega⟩⟩
    | 2, hc => exact ⟨(list6 z)[6]'(by show 6 < 8; decide), List.getElem_mem _, (Rect.mem_set_unit (inb := inb_S256x11264_S256x1408_0_2816)).mpr fun a => by
        have hc' : c.val = 1408 * 2 + q.val := hc
        match a with
        | ⟨0, _⟩ => exact ⟨Nat.zero_le _, by simpa using r.isLt⟩
        | ⟨1, _⟩ => exact ⟨by show 2816 ≤ c.val; omega, by show c.val < 2816 + 1408; omega⟩⟩
    | 3, hc => exact ⟨(list6 z)[2]'(by show 2 < 8; decide), List.getElem_mem _, (Rect.mem_set_unit (inb := inb_S256x11264_S256x1408_0_4224)).mpr fun a => by
        have hc' : c.val = 1408 * 3 + q.val := hc
        match a with
        | ⟨0, _⟩ => exact ⟨Nat.zero_le _, by simpa using r.isLt⟩
        | ⟨1, _⟩ => exact ⟨by show 4224 ≤ c.val; omega, by show c.val < 4224 + 1408; omega⟩⟩
    | 4, hc => exact ⟨(list6 z)[5]'(by show 5 < 8; decide), List.getElem_mem _, (Rect.mem_set_unit (inb := inb_S256x11264_S256x1408_0_5632)).mpr fun a => by
        have hc' : c.val = 1408 * 4 + q.val := hc
        match a with
        | ⟨0, _⟩ => exact ⟨Nat.zero_le _, by simpa using r.isLt⟩
        | ⟨1, _⟩ => exact ⟨by show 5632 ≤ c.val; omega, by show c.val < 5632 + 1408; omega⟩⟩
    | 5, hc => exact ⟨(list6 z)[1]'(by show 1 < 8; decide), List.getElem_mem _, (Rect.mem_set_unit (inb := inb_S256x11264_S256x1408_0_7040)).mpr fun a => by
        have hc' : c.val = 1408 * 5 + q.val := hc
        match a with
        | ⟨0, _⟩ => exact ⟨Nat.zero_le _, by simpa using r.isLt⟩
        | ⟨1, _⟩ => exact ⟨by show 7040 ≤ c.val; omega, by show c.val < 7040 + 1408; omega⟩⟩
    | 6, hc => exact ⟨(list6 z)[4]'(by show 4 < 8; decide), List.getElem_mem _, (Rect.mem_set_unit (inb := inb_S256x11264_S256x1408_0_8448)).mpr fun a => by
        have hc' : c.val = 1408 * 6 + q.val := hc
        match a with
        | ⟨0, _⟩ => exact ⟨Nat.zero_le _, by simpa using r.isLt⟩
        | ⟨1, _⟩ => exact ⟨by show 8448 ≤ c.val; omega, by show c.val < 8448 + 1408; omega⟩⟩
    | 7, hc => exact ⟨(list6 z)[0]'(by show 0 < 8; decide), List.getElem_mem _, (Rect.mem_set_unit (inb := inb_S256x11264_S256x1408_0_9856)).mpr fun a => by
        have hc' : c.val = 1408 * 7 + q.val := hc
        match a with
        | ⟨0, _⟩ => exact ⟨Nat.zero_le _, by simpa using r.isLt⟩
        | ⟨1, _⟩ => exact ⟨by show 9856 ≤ c.val; omega, by show c.val < 9856 + 1408; omega⟩⟩

theorem canonC (L : List (View.Piece (Elt Ideal) S4x8x1408 .f32)) (b : Fin 4) (r : Fin 8) (q : Fin 1408) :
    View.canon (listC z ++ L) (ix3 b r q) = hh z ⟨248 + r.val, by omega⟩ (col b q) := by
  refine View.canon_append_of_piecesOf (fun y : S4x8x1408.Idx => (fun (b : Fin 4) (r : Fin 8) (q : Fin 1408) => hh z ⟨248 + r.val, by omega⟩ (col b q)) (y 0) (y 1) (y 2)) L (listC z) ?_ (ix3 b r q) ?_
  · refine ⟨?_, ?_, ?_, ?_, trivial⟩
    · exact piece3 (l := 4) (m := 8) (n := 1408) (a := 1) (b := 8) (c := 1408) (e := .f32) (fun (b : Fin 4) (r : Fin 8) (q : Fin 1408) => hh z ⟨248 + r.val, by omega⟩ (col b q)) 3 0 0 inb_S4x8x1408_S1x8x1408_3_0_0 (k0_pay20 (F := Ideal) (xfB z) (upB z 3)) fun t r q ht hr hq =>
        (coB_apply z 3 t r q).trans (congrArg₂ (hh z) (Fin.ext (by simp))
          (congrArg₂ col (x := 3) (x' := ⟨3 + t.val, ht⟩) (y := q) (y' := ⟨0 + q.val, hq⟩) (Fin.ext (by have := t.isLt; simp; try omega)) (Fin.ext (Nat.zero_add _).symm)))
    · exact piece3 (l := 4) (m := 8) (n := 1408) (a := 1) (b := 8) (c := 1408) (e := .f32) (fun (b : Fin 4) (r : Fin 8) (q : Fin 1408) => hh z ⟨248 + r.val, by omega⟩ (col b q)) 1 0 0 inb_S4x8x1408_S1x8x1408_1_0_0 (k0_pay20 (F := Ideal) (xfB z) (upB z 1)) fun t r q ht hr hq =>
        (coB_apply z 1 t r q).trans (congrArg₂ (hh z) (Fin.ext (by simp))
          (congrArg₂ col (x := 1) (x' := ⟨1 + t.val, ht⟩) (y := q) (y' := ⟨0 + q.val, hq⟩) (Fin.ext (by have := t.isLt; simp; try omega)) (Fin.ext (Nat.zero_add _).symm)))
    · exact piece3 (l := 4) (m := 8) (n := 1408) (a := 1) (b := 8) (c := 1408) (e := .f32) (fun (b : Fin 4) (r : Fin 8) (q : Fin 1408) => hh z ⟨248 + r.val, by omega⟩ (col b q)) 2 0 0 inb_S4x8x1408_S1x8x1408_2_0_0 (k0_pay20 (F := Ideal) (xfB z) (upB z 2)) fun t r q ht hr hq =>
        (coB_apply z 2 t r q).trans (congrArg₂ (hh z) (Fin.ext (by simp))
          (congrArg₂ col (x := 2) (x' := ⟨2 + t.val, ht⟩) (y := q) (y' := ⟨0 + q.val, hq⟩) (Fin.ext (by have := t.isLt; simp; try omega)) (Fin.ext (Nat.zero_add _).symm)))
    · exact piece3 (l := 4) (m := 8) (n := 1408) (a := 1) (b := 8) (c := 1408) (e := .f32) (fun (b : Fin 4) (r : Fin 8) (q : Fin 1408) => hh z ⟨248 + r.val, by omega⟩ (col b q)) 0 0 0 inb_S4x8x1408_S1x8x1408_0_0_0 (k0_pay20 (F := Ideal) (xfB z) (upB z 0)) fun t r q ht hr hq =>
        (coB_apply z 0 t r q).trans (congrArg₂ (hh z) (Fin.ext (by simp))
          (congrArg₂ col (x := 0) (x' := ⟨0 + t.val, ht⟩) (y := q) (y' := ⟨0 + q.val, hq⟩) (Fin.ext (by have := t.isLt; simp; try omega)) (Fin.ext (Nat.zero_add _).symm)))
  · match b with
    | 0 => exact ⟨(listC z)[3]'(by show 3 < 4; decide), List.getElem_mem _, (Rect.mem_set_unit (inb := inb_S4x8x1408_S1x8x1408_0_0_0)).mpr fun a => by
        match a with
        | ⟨0, _⟩ => exact ⟨le_rfl, by show 0 < 0 + 1; omega⟩
        | ⟨1, _⟩ => exact ⟨Nat.zero_le _, by simpa using r.isLt⟩
        | ⟨2, _⟩ => exact ⟨Nat.zero_le _, by simpa using q.isLt⟩⟩
    | 1 => exact ⟨(listC z)[1]'(by show 1 < 4; decide), List.getElem_mem _, (Rect.mem_set_unit (inb := inb_S4x8x1408_S1x8x1408_1_0_0)).mpr fun a => by
        match a with
        | ⟨0, _⟩ => exact ⟨le_rfl, by show 1 < 1 + 1; omega⟩
        | ⟨1, _⟩ => exact ⟨Nat.zero_le _, by simpa using r.isLt⟩
        | ⟨2, _⟩ => exact ⟨Nat.zero_le _, by simpa using q.isLt⟩⟩
    | 2 => exact ⟨(listC z)[2]'(by show 2 < 4; decide), List.getElem_mem _, (Rect.mem_set_unit (inb := inb_S4x8x1408_S1x8x1408_2_0_0)).mpr fun a => by
        match a with
        | ⟨0, _⟩ => exact ⟨le_rfl, by show 2 < 2 + 1; omega⟩
        | ⟨1, _⟩ => exact ⟨Nat.zero_le _, by simpa using r.isLt⟩
        | ⟨2, _⟩ => exact ⟨Nat.zero_le _, by simpa using q.isLt⟩⟩
    | 3 => exact ⟨(listC z)[0]'(by show 0 < 4; decide), List.getElem_mem _, (Rect.mem_set_unit (inb := inb_S4x8x1408_S1x8x1408_3_0_0)).mpr fun a => by
        match a with
        | ⟨0, _⟩ => exact ⟨le_rfl, by show 3 < 3 + 1; omega⟩
        | ⟨1, _⟩ => exact ⟨Nat.zero_le _, by simpa using r.isLt⟩
        | ⟨2, _⟩ => exact ⟨Nat.zero_le _, by simpa using q.isLt⟩⟩

end Cert.KernelFwdIdeal.Fw

end
-- ==== Proof.Ffn.FwdOuts.lean ====
/- The layer's forward pass: what every grid point leaves, by induction over the points. -/
module

public import proofs.«01_k».proof.Proof.Gen.KernelFwdIdeal.Frame
public import proofs.«01_k».proof.Proof.Ffn.FwdPieces
public import proofs.«01_k».proof.Proof.Ffn.FwdSem

@[expose] public section

set_option maxRecDepth 16384

noncomputable section

namespace Cert.KernelFwdIdeal.Fw

open Cert.KernelFwdIdeal Cert.KernelFwdIdeal.Gen Idealize.ShloMosaic Idealize.ShloMosaic.ValueIdx Idealize.ShloMosaic.TcCoe Idealize.ShloMosaic.Tactic Idealize.SL.Sem

open Cert.KernelIdeal.Blk (col)

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S3x5632 .f32) (harg3 : arg3.IsWhole) (arg4 : Memref sig .tc .vmem S1x5632 .f32) (harg4 : arg4.IsWhole) (arg7 : Memref sig .tc .vmem S256x1024 .f32) (harg7 : arg7.IsWhole) (arg8 : Memref sig .tc .vmem S256x5632 .bf16) (harg8 : arg8.IsWhole) (arg9 : Memref sig .tc .vmem S256x11264 .bf16) (harg9 : arg9.IsWhole) (arg10 : Memref sig .tc .vmem S4x1024x1408 .bf16) (harg10 : arg10.IsWhole) (arg11 : Memref sig .tc .vmem S2816x1024 .bf16) (harg11 : arg11.IsWhole) (arg12 : Memref sig .tc .vmem S4x8x1408 .f32) (harg12 : arg12.IsWhole) (hc0 : cond0_0 i) (hc1 : cond0_1 i) (x0 : Vec Ideal S256x1024 .f32) (x1 : Vec Ideal S1x1024 .f32) (x2 : Vec Ideal S3x5632 .f32) (x3 : Vec Ideal S1x5632 .f32) (fh0 : HbBuf0 (F := Ideal) c hbM0_0) (fh1 : HbBuf0 (F := Ideal) c hbM0_1)

theorem oA_4 (r : Fin 256) (k : Fin 1024) :
    out0_A_4 c i arg1 harg1 arg2 harg2 arg3 harg3 arg4 harg4 arg7 harg7 arg8 harg8 arg9 harg9 arg10 harg10 arg11 harg11 arg12 harg12 hc0 hc1 x0 x1 x2 x3 fh0 fh1 (ix2 r k) = ot (ins0 x0 x1 x2 x3 (View.read (Elt Ideal) (View.whole main_v2) fh0) (View.read (Elt Ideal) (View.whole main_v5) fh1)) r k := by
  unfold out0_A_4
  rw [View.read_writes_junk_eq_canon, runA_4]
  exact canon4 _ r k

theorem oA_5 (r : Fin 256) (q : Fin 5632) :
    out0_A_5 c i arg1 harg1 arg2 harg2 arg3 harg3 arg4 harg4 arg7 harg7 arg8 harg8 arg9 harg9 arg10 harg10 arg11 harg11 arg12 harg12 hc0 hc1 x0 x1 x2 x3 fh0 fh1 (ix2 r q) = hh (ins0 x0 x1 x2 x3 (View.read (Elt Ideal) (View.whole main_v2) fh0) (View.read (Elt Ideal) (View.whole main_v5) fh1)) r q := by
  unfold out0_A_5
  rw [View.read_writes_junk_eq_canon, runA_5]
  exact (congrArg (fun l => View.canon l (ix2 r q)) (List.append_nil _).symm).trans (canon5 _ [] _ _)

theorem oA_6 (r : Fin 256) (q : Fin 11264) :
    out0_A_6 c i arg1 harg1 arg2 harg2 arg3 harg3 arg4 harg4 arg7 harg7 arg8 harg8 arg9 harg9 arg10 harg10 arg11 harg11 arg12 harg12 hc0 hc1 x0 x1 x2 x3 fh0 fh1 (ix2 r q) = svc (ins0 x0 x1 x2 x3 (View.read (Elt Ideal) (View.whole main_v2) fh0) (View.read (Elt Ideal) (View.whole main_v5) fh1)) r q := by
  unfold out0_A_6
  rw [View.read_writes_junk_eq_canon, runA_6]
  exact (congrArg (fun l => View.canon l (ix2 r q)) (List.append_nil _).symm).trans (canon6 _ [] _ _)

theorem oA_C (b : Fin 4) (r : Fin 8) (q : Fin 1408) :
    sout0_A_2 c i arg1 harg1 arg2 harg2 arg3 harg3 arg4 harg4 arg7 harg7 arg8 harg8 arg9 harg9 arg10 harg10 arg11 harg11 arg12 harg12 hc0 hc1 x0 x1 x2 x3 fh0 fh1 (ix3 b r q) = hh (ins0 x0 x1 x2 x3 (View.read (Elt Ideal) (View.whole main_v2) fh0) (View.read (Elt Ideal) (View.whole main_v5) fh1)) ⟨248 + r.val, by omega⟩ (col b q) := by
  unfold sout0_A_2
  rw [View.read_writes_junk_eq_canon, runA_C]
  exact canonC _ _ _ _ _

end

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S3x5632 .f32) (harg3 : arg3.IsWhole) (arg4 : Memref sig .tc .vmem S1x5632 .f32) (harg4 : arg4.IsWhole) (arg7 : Memref sig .tc .vmem S256x1024 .f32) (harg7 : arg7.IsWhole) (arg8 : Memref sig .tc .vmem S256x5632 .bf16) (harg8 : arg8.IsWhole) (arg9 : Memref sig .tc .vmem S256x11264 .bf16) (harg9 : arg9.IsWhole) (arg10 : Memref sig .tc .vmem S4x1024x1408 .bf16) (harg10 : arg10.IsWhole) (arg11 : Memref sig .tc .vmem S2816x1024 .bf16) (harg11 : arg11.IsWhole) (arg12 : Memref sig .tc .vmem S4x8x1408 .f32) (harg12 : arg12.IsWhole) (hc0 : ¬cond0_0 i) (hc1 : ¬cond0_1 i) (x0 : Vec Ideal S256x1024 .f32) (x1 : Vec Ideal S1x1024 .f32) (x2 : Vec Ideal S3x5632 .f32) (x3 : Vec Ideal S1x5632 .f32) (xs0 : Vec Ideal S4x1024x1408 .bf16) (xs1 : Vec Ideal S2816x1024 .bf16) (xs2 : Vec Ideal S4x8x1408 .f32) (fh0 : HbBuf0 (F := Ideal) c hbM0_0) (fh1 : HbBuf0 (F := Ideal) c hbM0_1)

theorem oB_4 (r : Fin 256) (k : Fin 1024) :
    out0_B_4 c i arg1 harg1 arg2 harg2 arg3 harg3 arg4 harg4 arg7 harg7 arg8 harg8 arg9 harg9 arg10 harg10 arg11 harg11 arg12 harg12 hc0 hc1 x0 x1 x2 x3 xs0 xs1 xs2 fh0 fh1 (ix2 r k) = ot ⟨x0, x1, x2, x3, xs0, xs1, xs2⟩ r k := by
  unfold out0_B_4
  rw [View.read_writes_junk_eq_canon, runB_4]
  exact canon4 _ r k

theorem oB_5 (r : Fin 256) (q : Fin 5632) :
    out0_B_5 c i arg1 harg1 arg2 harg2 arg3 harg3 arg4 harg4 arg7 harg7 arg8 harg8 arg9 harg9 arg10 harg10 arg11 harg11 arg12 harg12 hc0 hc1 x0 x1 x2 x3 xs0 xs1 xs2 fh0 fh1 (ix2 r q) = hh ⟨x0, x1, x2, x3, xs0, xs1, xs2⟩ r q := by
  unfold out0_B_5
  rw [View.read_writes_junk_eq_canon, runB_5]
  exact (congrArg (fun l => View.canon l (ix2 r q)) (List.append_nil _).symm).trans (canon5 _ [] _ _)

theorem oB_6 (r : Fin 256) (q : Fin 11264) :
    out0_B_6 c i arg1 harg1 arg2 harg2 arg3 harg3 arg4 harg4 arg7 harg7 arg8 harg8 arg9 harg9 arg10 harg10 arg11 harg11 arg12 harg12 hc0 hc1 x0 x1 x2 x3 xs0 xs1 xs2 fh0 fh1 (ix2 r q) = svc ⟨x0, x1, x2, x3, xs0, xs1, xs2⟩ r q := by
  unfold out0_B_6
  rw [View.read_writes_junk_eq_canon, runB_6]
  exact (congrArg (fun l => View.canon l (ix2 r q)) (List.append_nil _).symm).trans (canon6 _ [] _ _)

theorem oB_C (b : Fin 4) (r : Fin 8) (q : Fin 1408) :
    sout0_B_2 c i arg1 harg1 arg2 harg2 arg3 harg3 arg4 harg4 arg7 harg7 arg8 harg8 arg9 harg9 arg10 harg10 arg11 harg11 arg12 harg12 hc0 hc1 x0 x1 x2 x3 xs0 xs1 xs2 fh0 fh1 (ix3 b r q) = hh ⟨x0, x1, x2, x3, xs0, xs1, xs2⟩ ⟨248 + r.val, by omega⟩ (col b q) := by
  unfold sout0_B_2
  rw [View.read_writes_junk_eq_canon, runB_C]
  exact (congrArg (fun l => View.canon l (ix3 b r q)) (List.append_nil _).symm).trans (canonC _ [] _ _ _)

end

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S3x5632 .f32) (harg3 : arg3.IsWhole) (arg4 : Memref sig .tc .vmem S1x5632 .f32) (harg4 : arg4.IsWhole) (arg7 : Memref sig .tc .vmem S256x1024 .f32) (harg7 : arg7.IsWhole) (arg8 : Memref sig .tc .vmem S256x5632 .bf16) (harg8 : arg8.IsWhole) (arg9 : Memref sig .tc .vmem S256x11264 .bf16) (harg9 : arg9.IsWhole) (arg10 : Memref sig .tc .vmem S4x1024x1408 .bf16) (harg10 : arg10.IsWhole) (arg11 : Memref sig .tc .vmem S2816x1024 .bf16) (harg11 : arg11.IsWhole) (arg12 : Memref sig .tc .vmem S4x8x1408 .f32) (harg12 : arg12.IsWhole) (hc0 : cond0_0 i) (hc1 : cond0_1 i) (x0 : Vec Ideal S256x1024 .f32) (x1 : Vec Ideal S1x1024 .f32) (x2 : Vec Ideal S3x5632 .f32) (x3 : Vec Ideal S1x5632 .f32) (fh0 : HbBuf0 (F := Ideal) c hbM0_0) (fh1 : HbBuf0 (F := Ideal) c hbM0_1)

theorem oA_S0 :
    sout0_A_0 c i arg1 harg1 arg2 harg2 arg3 harg3 arg4 harg4 arg7 harg7 arg8 harg8 arg9 harg9 arg10 harg10 arg11 harg11 arg12 harg12 hc0 hc1 x0 x1 x2 x3 fh0 fh1 = View.read (Elt Ideal) (View.whole main_v2) fh0 := by
  unfold sout0_A_0
  rw [View.read_writes_junk_eq_canon]
  unfold kernelRun0_A
  dsimp only
  sl_unfold_words
  exact View.canon_unit_zero (S := S4x1024x1408) (off := fun _ => 0) rfl _ _

theorem oA_S1 :
    sout0_A_1 c i arg1 harg1 arg2 harg2 arg3 harg3 arg4 harg4 arg7 harg7 arg8 harg8 arg9 harg9 arg10 harg10 arg11 harg11 arg12 harg12 hc0 hc1 x0 x1 x2 x3 fh0 fh1 = View.read (Elt Ideal) (View.whole main_v5) fh1 := by
  unfold sout0_A_1
  rw [View.read_writes_junk_eq_canon]
  unfold kernelRun0_A
  dsimp only
  sl_unfold_words
  exact View.canon_unit_zero (S := S2816x1024) (off := fun _ => 0) rfl _ _

end

variable (m : (ℓ : Loc nD τ sig) → Buf (Elt Ideal) ℓ)

/-- The state of the step at grid point `n`: the point's blocks, the weights, and the rows the point before left. -/
def zAt (c : Dev nD) : (n : ℕ) → n < cfg0.N → Ins
  | 0, h => ins0 (iblk m c 0 ⟨0, h⟩) (iblk m c 1 ⟨0, h⟩) (iblk m c 2 ⟨0, h⟩) (iblk m c 3 ⟨0, h⟩) (V m c main_v2) (V m c main_v5)
  | n + 1, h =>
    ⟨iblk m c 0 ⟨n + 1, h⟩, iblk m c 1 ⟨n + 1, h⟩, iblk m c 2 ⟨n + 1, h⟩, iblk m c 3 ⟨n + 1, h⟩, V m c main_v2, V m c main_v5,
      fun y : S4x8x1408.Idx => hh (zAt c n (Nat.lt_of_succ_lt h)) ⟨248 + (y 1).val, Nat.add_lt_add_left (lt_of_lt_of_eq (y 1).isLt (by decide : _ = 8)) 248⟩ (col (y 0) (y 2))⟩

/-- What grid point `n` leaves in its outputs and in the memory it carries. -/
structure Left (c : Dev nD) (n : ℕ) (h : n < cfg0.N) : Prop where
  o4 : ∀ r k, (outsAt0 m c n h).1 (ix2 r k) = ot (zAt m c n h) r k
  o5 : ∀ r q, (outsAt0 m c n h).2.1 (ix2 r q) = hh (zAt m c n h) r q
  o6 : ∀ r q, (outsAt0 m c n h).2.2.1 (ix2 r q) = svc (zAt m c n h) r q
  s0 : (outsAt0 m c n h).2.2.2.1 = V m c main_v2
  s1 : (outsAt0 m c n h).2.2.2.2.1 = V m c main_v5
  s2 : (outsAt0 m c n h).2.2.2.2.2 = fun y : S4x8x1408.Idx => hh (zAt m c n h) ⟨248 + (y 1).val, Nat.add_lt_add_left (lt_of_lt_of_eq (y 1).isLt (by decide : _ = 8)) 248⟩ (col (y 0) (y 2))

theorem eq_of_ix3 {a b d : ℕ} {α : Type} (f : (⟨3, ![a, b, d]⟩ : Shape).Idx → α) (g : Fin a → Fin b → Fin d → α) (h : ∀ i j k, f (ix3 i j k) = g i j k) :
    f = fun y => g (y 0) (y 1) (y 2) := funext fun y => (congrArg f (funext fun e => by
      match e with
      | ⟨0, _⟩ => rfl
      | ⟨1, _⟩ => rfl
      | ⟨2, _⟩ => rfl)).trans (h (y 0) (y 1) (y 2))

/-- The step's state at a later point, over what the point before left. -/
def zOf (c : Dev nD) (n : ℕ) (h : n + 1 < cfg0.N) : Ins :=
  ⟨iblk m c 0 ⟨n + 1, h⟩, iblk m c 1 ⟨n + 1, h⟩, iblk m c 2 ⟨n + 1, h⟩, iblk m c 3 ⟨n + 1, h⟩,
    (outsAt0 m c n (Nat.lt_of_succ_lt h)).2.2.2.1, (outsAt0 m c n (Nat.lt_of_succ_lt h)).2.2.2.2.1, (outsAt0 m c n (Nat.lt_of_succ_lt h)).2.2.2.2.2⟩

attribute [local irreducible] outsAt0 out0_A_4 out0_A_5 out0_A_6 out0_B_4 out0_B_5 out0_B_6 sout0_A_0 sout0_A_1 sout0_A_2 sout0_B_2

theorem later (n : ℕ) (h : n + 1 < cfg0.N) : ¬ (⟨n + 1, h⟩ : Fin cfg0.N).val % 32 = 0 := by
  have hN : n + 1 < 32 := lt_of_lt_of_eq h (show cfg0.N = 32 from N_0)
  show ¬ (n + 1) % 32 = 0
  omega

theorem first (h : 0 < cfg0.N) : (⟨0, h⟩ : Fin cfg0.N).val % 32 = 0 := rfl

theorem fst_4 (c : Dev nD) (h : 0 < cfg0.N) (r : Fin 256) (k : Fin 1024) : (outsAt0 m c 0 h).1 (ix2 r k) = ot (zAt m c 0 h) r k := by
  refine (congrArg (fun p => p.1 (ix2 r k)) (outsAt0_A m c ⟨0, h⟩ (first h) (first h))).trans ?_
  refine (oA_4 ..).trans ?_
  rfl

theorem nxt_4 (c : Dev nD) (n : ℕ) (h : n + 1 < cfg0.N) (r : Fin 256) (k : Fin 1024) : (outsAt0 m c (n + 1) h).1 (ix2 r k) = ot (zOf m c n h) r k := by
  refine (congrArg (fun p => p.1 (ix2 r k)) (outsAt0_B m c ⟨n + 1, h⟩ (later n h) (later n h))).trans ?_
  refine (oB_4 ..).trans ?_
  rfl

theorem fst_5 (c : Dev nD) (h : 0 < cfg0.N) (r : Fin 256) (q : Fin 5632) : (outsAt0 m c 0 h).2.1 (ix2 r q) = hh (zAt m c 0 h) r q := by
  refine (congrArg (fun p => p.2.1 (ix2 r q)) (outsAt0_A m c ⟨0, h⟩ (first h) (first h))).trans ?_
  refine (oA_5 ..).trans ?_
  rfl

theorem nxt_5 (c : Dev nD) (n : ℕ) (h : n + 1 < cfg0.N) (r : Fin 256) (q : Fin 5632) : (outsAt0 m c (n + 1) h).2.1 (ix2 r q) = hh (zOf m c n h) r q := by
  refine (congrArg (fun p => p.2.1 (ix2 r q)) (outsAt0_B m c ⟨n + 1, h⟩ (later n h) (later n h))).trans ?_
  refine (oB_5 ..).trans ?_
  rfl

theorem fst_6 (c : Dev nD) (h : 0 < cfg0.N) (r : Fin 256) (q : Fin 11264) : (outsAt0 m c 0 h).2.2.1 (ix2 r q) = svc (zAt m c 0 h) r q := by
  refine (congrArg (fun p => p.2.2.1 (ix2 r q)) (outsAt0_A m c ⟨0, h⟩ (first h) (first h))).trans ?_
  refine (oA_6 ..).trans ?_
  rfl

theorem nxt_6 (c : Dev nD) (n : ℕ) (h : n + 1 < cfg0.N) (r : Fin 256) (q : Fin 11264) : (outsAt0 m c (n + 1) h).2.2.1 (ix2 r q) = svc (zOf m c n h) r q := by
  refine (congrArg (fun p => p.2.2.1 (ix2 r q)) (outsAt0_B m c ⟨n + 1, h⟩ (later n h) (later n h))).trans ?_
  refine (oB_6 ..).trans ?_
  rfl

theorem fst_C (c : Dev nD) (h : 0 < cfg0.N) (b : Fin 4) (r : Fin 8) (q : Fin 1408) : (outsAt0 m c 0 h).2.2.2.2.2 (ix3 b r q) = hh (zAt m c 0 h) ⟨248 + r.val, by omega⟩ (col b q) := by
  refine (congrArg (fun p => p.2.2.2.2.2 (ix3 b r q)) (outsAt0_A m c ⟨0, h⟩ (first h) (first h))).trans ?_
  refine (oA_C ..).trans ?_
  rfl

theorem nxt_C (c : Dev nD) (n : ℕ) (h : n + 1 < cfg0.N) (b : Fin 4) (r : Fin 8) (q : Fin 1408) : (outsAt0 m c (n + 1) h).2.2.2.2.2 (ix3 b r q) = hh (zOf m c n h) ⟨248 + r.val, by omega⟩ (col b q) := by
  refine (congrArg (fun p => p.2.2.2.2.2 (ix3 b r q)) (outsAt0_B m c ⟨n + 1, h⟩ (later n h) (later n h))).trans ?_
  refine (oB_C ..).trans ?_
  rfl

theorem fst_S0 (c : Dev nD) (h : 0 < cfg0.N) : (outsAt0 m c 0 h).2.2.2.1 = V m c main_v2 :=
  (congrArg (fun p => p.2.2.2.1) (outsAt0_A m c ⟨0, h⟩ (first h) (first h))).trans (oA_S0 ..)

theorem nxt_S0 (c : Dev nD) (n : ℕ) (h : n + 1 < cfg0.N) :
    (outsAt0 m c (n + 1) h).2.2.2.1 = (outsAt0 m c n (Nat.lt_of_succ_lt h)).2.2.2.1 :=
  congrArg (fun p => p.2.2.2.1) (outsAt0_B m c ⟨n + 1, h⟩ (later n h) (later n h))

theorem fst_S1 (c : Dev nD) (h : 0 < cfg0.N) : (outsAt0 m c 0 h).2.2.2.2.1 = V m c main_v5 :=
  (congrArg (fun p => p.2.2.2.2.1) (outsAt0_A m c ⟨0, h⟩ (first h) (first h))).trans (oA_S1 ..)

theorem nxt_S1 (c : Dev nD) (n : ℕ) (h : n + 1 < cfg0.N) :
    (outsAt0 m c (n + 1) h).2.2.2.2.1 = (outsAt0 m c n (Nat.lt_of_succ_lt h)).2.2.2.2.1 :=
  congrArg (fun p => p.2.2.2.2.1) (outsAt0_B m c ⟨n + 1, h⟩ (later n h) (later n h))

theorem zOf_eq (c : Dev nD) (n : ℕ) (h : n + 1 < cfg0.N) (ih : Left m c n (Nat.lt_of_succ_lt h)) : zOf m c n h = zAt m c (n + 1) h := by
  unfold zOf zAt
  rw [ih.s0, ih.s1, ih.s2]

theorem left_zero (c : Dev nD) (h : 0 < cfg0.N) : Left m c 0 h :=
  ⟨fst_4 m c h, fst_5 m c h, fst_6 m c h, fst_S0 m c h, fst_S1 m c h, eq_of_ix3 (a := 4) (b := 8) (d := 1408) _ (fun b r q => _) (fst_C m c h)⟩

theorem left_succ (c : Dev nD) (n : ℕ) (h : n + 1 < cfg0.N) (ih : Left m c n (Nat.lt_of_succ_lt h)) : Left m c (n + 1) h := by
  have e := zOf_eq m c n h ih
  refine ⟨?_, ?_, ?_, (nxt_S0 m c n h).trans ih.s0, (nxt_S1 m c n h).trans ih.s1, ?_⟩ <;> rw [← e]
  · exact nxt_4 m c n h
  · exact nxt_5 m c n h
  · exact nxt_6 m c n h
  · exact eq_of_ix3 (a := 4) (b := 8) (d := 1408) _ (fun b r q => _) (nxt_C m c n h)

theorem left (c : Dev nD) : (n : ℕ) → (h : n < cfg0.N) → Left m c n h
  | 0, h => left_zero m c h
  | n + 1, h => left_succ m c n h (left c n (Nat.lt_of_succ_lt h))

end Cert.KernelFwdIdeal.Fw

end
-- ==== Proof.Ffn.FwdHost.lean ====
/- The layer's forward pass: what the grid reads, over the arguments, and the three arrays that it leaves, at an index. -/
module

public import proofs.«01_k».proof.Proof.Ffn.FwdOuts
public import Idealize.ShloMosaic.Lib.StableHlo.RunRead
public import Idealize.ShloMosaic.Lib.Pipeline.ValueKit

@[expose] public section

set_option maxRecDepth 16384

noncomputable section

namespace Cert.KernelFwdIdeal.Fw

open Cert.KernelFwdIdeal Cert.KernelFwdIdeal.Gen Idealize.ShloMosaic Idealize.ShloMosaic.TcCoe Idealize.ShloMosaic.Tactic Idealize.SL.Sem

open Cert.KernelIdeal.Blk (col cblk coff cblk_col coff_col col_eta)

/-! ## The layer's values at an index -/

section
variable (a0 : IV S8192x1024 .f32) (a1 : IV S1024 .f32) (a2 : IV S1024x5632 .f32) (a3 : IV S3x5632 .f32) (a4 : IV S5632 .f32) (a5 : IV S2816x1024 .f32)

/-- The normed row. -/
def xG (i : Fin 8192) (k : Fin 1024) : EReal := a0 (ValueIdx.ix2 i k) * rs (fun j => a0 (ValueIdx.ix2 i j)) * a1 (ValueIdx.ix1 k)

/-- The up projection. -/
def hG (i : Fin 8192) (q : Fin 5632) : EReal := ∑ k : Fin 1024, xG a0 a1 i k * a2 (ValueIdx.ix2 k q)

/-- The up projection `d` rows back, zero before the first row. -/
def lag (d : ℕ) (i : Fin 8192) (q : Fin 5632) : EReal := if d ≤ i.val then hG a0 a1 a2 ⟨i.val - d, by omega⟩ q else 0

/-- The convolution. -/
def cG (i : Fin 8192) (q : Fin 5632) : EReal :=
  a4 (ValueIdx.ix1 q) + a3 (ValueIdx.ix2 0 q) * lag a0 a1 a2 2 i q + a3 (ValueIdx.ix2 1 q) * lag a0 a1 a2 1 i q + a3 (ValueIdx.ix2 2 q) * hG a0 a1 a2 i q

/-- The four saved blocks. -/
def sG (i : Fin 8192) (k : Fin 4) (q : Fin 2816) : EReal :=
  match k with
  | 0 => cG a0 a1 a2 a3 a4 i ⟨2816 + q.val, by omega⟩
  | 1 => sil (cG a0 a1 a2 a3 a4 i ⟨q.val, by omega⟩)
  | 2 => dsil (cG a0 a1 a2 a3 a4 i ⟨q.val, by omega⟩)
  | 3 => sil (cG a0 a1 a2 a3 a4 i ⟨q.val, by omega⟩) * cG a0 a1 a2 a3 a4 i ⟨2816 + q.val, by omega⟩

/-- The layer's output. -/
def oG (i : Fin 8192) (k : Fin 1024) : EReal :=
  a0 (ValueIdx.ix2 i k) + (∑ q : Fin 1408, sG a0 a1 a2 a3 a4 i 3 ⟨q.val, by omega⟩ * a5 (ValueIdx.ix2 ⟨q.val, by omega⟩ k))
    + ∑ q : Fin 1408, sG a0 a1 a2 a3 a4 i 3 ⟨1408 + q.val, by omega⟩ * a5 (ValueIdx.ix2 ⟨1408 + q.val, by omega⟩ k)

end

variable (m : (ℓ : Loc nD τ sig) → Buf (Elt Ideal) ℓ)

abbrev A0 (c : Dev nD) : IV S8192x1024 .f32 := m (c.tc.loc main_arg0)
abbrev A1 (c : Dev nD) : IV S1024 .f32 := m (c.tc.loc main_arg1)
abbrev A2 (c : Dev nD) : IV S1024x5632 .f32 := m (c.tc.loc main_arg2)
abbrev A3 (c : Dev nD) : IV S3x5632 .f32 := m (c.tc.loc main_arg3)
abbrev A4 (c : Dev nD) : IV S5632 .f32 := m (c.tc.loc main_arg4)
abbrev A5 (c : Dev nD) : IV S2816x1024 .f32 := m (c.tc.loc main_arg5)

/-! ## The host's arrays -/

theorem V0 (c : Dev nD) : (V m c main_arg0 : IV S8192x1024 .f32) = A0 m c := by
  unfold V hostOps0
  after_reads_simp

theorem Vcw (c : Dev nD) : (V m c main_arg3 : IV S3x5632 .f32) = A3 m c := by
  unfold V hostOps0
  after_reads_simp

theorem V5 (c : Dev nD) : (V m c main_v5 : IV S2816x1024 .bf16) = A5 m c := by
  have : (V m c main_v5 : IV S2816x1024 .bf16) = truncf (F := Ideal) .bf16 (A5 m c) bitsLt_bf16_f32 := by
    unfold V hostOps0
    after_reads_simp
  rw [this]
  rfl

theorem V3 (c : Dev nD) (k : Fin 1024) : (V m c main_v3 : IV S1x1024 .f32) (ValueIdx.ix2 0 k) = A1 m c (ValueIdx.ix1 k) := by
  have : (V m c main_v3 : IV S1x1024 .f32) = shapeCast S1x1024 (A1 m c) shapeCasts_S1024_S1x1024 := by
    unfold V hostOps0
    after_reads_simp
    rfl
  rw [this]
  exact shapeCast_apply _ shapeCasts_S1024_S1x1024 (ValueIdx.ix2 0 k) (ValueIdx.ix1 k) (by simp [Shape.rowMajor_val_two, Shape.rowMajor_val_one])

theorem V4 (c : Dev nD) (k : Fin 5632) : (V m c main_v4 : IV S1x5632 .f32) (ValueIdx.ix2 0 k) = A4 m c (ValueIdx.ix1 k) := by
  have : (V m c main_v4 : IV S1x5632 .f32) = shapeCast S1x5632 (A4 m c) shapeCasts_S5632_S1x5632 := by
    unfold V hostOps0
    after_reads_simp
    rfl
  rw [this]
  exact shapeCast_apply _ shapeCasts_S5632_S1x5632 (ValueIdx.ix2 0 k) (ValueIdx.ix1 k) (by simp [Shape.rowMajor_val_two, Shape.rowMajor_val_one])

theorem V2 (c : Dev nD) (b : Fin 4) (k : Fin 1024) (q : Fin 1408) : (V m c main_v2 : IV S4x1024x1408 .bf16) (ValueIdx.ix3 b k q) = A2 m c (ValueIdx.ix2 k (col b q)) := by
  have : (V m c main_v2 : IV S4x1024x1408 .bf16) = truncf (F := Ideal) .bf16 (transpose S4x1024x1408 [1, 0, 2] (shapeCast S1024x4x1408 (A2 m c) shapeCasts_S1024x5632_S1024x4x1408) transposes_S1024x4x1408_S4x1024x1408_1_0_2) bitsLt_bf16_f32 := by
    unfold V hostOps0
    after_reads_simp
    rfl
  rw [this, ValueIdx.truncf_apply]
  refine (transpose_apply [1, 0, 2] _ transposes_S1024x4x1408_S4x1024x1408_1_0_2 (ValueIdx.ix3 b k q) (ValueIdx.ix3 k b q) fun d => ?_).trans ?_
  · match d with
    | ⟨0, _⟩ => rfl
    | ⟨1, _⟩ => rfl
    | ⟨2, _⟩ => rfl
  · exact shapeCast_apply _ shapeCasts_S1024x5632_S1024x4x1408 (ValueIdx.ix3 k b q) (ValueIdx.ix2 k (col b q))
      (by simp [Shape.rowMajor_val_two, Shape.rowMajor_val_three, col]; ring)

/-! ## The blocks -/

theorem pts (n : ℕ) (h : n < cfg0.N) : n < 32 := lt_of_lt_of_eq h (show cfg0.N = 32 from N_0)

/-- Row `r` of point `n`'s tile, as a row of the arrays. -/
def gi (n : ℕ) (h : n < cfg0.N) (r : Fin 256) : Fin 8192 := ⟨n * 256 + r.val, by have := pts n h; have := r.isLt; omega⟩

theorem idx0 : ∀ t : Fin cfg0.N, win0_0.index t = ![t.val, 0] :=
  (by decide +kernel : ∀ t : Fin grid0.N, win0_0.index t = ![t.val, 0])

theorem idx1 : ∀ t : Fin cfg0.N, win0_1.index t = ![0, 0] :=
  (by decide +kernel : ∀ t : Fin grid0.N, win0_1.index t = ![0, 0])

theorem idx2 : ∀ t : Fin cfg0.N, win0_2.index t = ![0, 0] :=
  (by decide +kernel : ∀ t : Fin grid0.N, win0_2.index t = ![0, 0])

theorem idx3 : ∀ t : Fin cfg0.N, win0_3.index t = ![0, 0] :=
  (by decide +kernel : ∀ t : Fin grid0.N, win0_3.index t = ![0, 0])

theorem idx4 : ∀ t : Fin cfg0.N, win0_4.index t = ![t.val, 0] :=
  (by decide +kernel : ∀ t : Fin grid0.N, win0_4.index t = ![t.val, 0])

theorem idx5 : ∀ t : Fin cfg0.N, win0_5.index t = ![t.val, 0] :=
  (by decide +kernel : ∀ t : Fin grid0.N, win0_5.index t = ![t.val, 0])

theorem idx6 : ∀ t : Fin cfg0.N, win0_6.index t = ![t.val, 0] :=
  (by decide +kernel : ∀ t : Fin grid0.N, win0_6.index t = ![t.val, 0])

theorem z_x_raw (c : Dev nD) (n : ℕ) (h : n < cfg0.N) (r : Fin 256) (q : Fin 1024) :
    (zAt m c n h).x (ValueIdx.ix2 r q) = (V m c main_arg0 : IV S8192x1024 .f32) (ValueIdx.ix2 (gi n h r) q) := by
  have e : (zAt m c n h).x = iblk m c 0 ⟨n, h⟩ := by cases n <;> rfl
  rw [e]
  have hn : n < 32 := pts n h
  blk_simp [iblk]
  refine congrArg (V m c main_arg0 : IV S8192x1024 .f32) ?_
  funext a
  apply Fin.ext
  match a with
  | ⟨0, _⟩ => blk_simp [idx0] <;> rfl
  | ⟨1, _⟩ => blk_simp [idx0] <;> rfl

theorem z_n_raw (c : Dev nD) (n : ℕ) (h : n < cfg0.N) (r : Fin 1) (q : Fin 1024) :
    (zAt m c n h).n (ValueIdx.ix2 r q) = (V m c main_v3 : IV S1x1024 .f32) (ValueIdx.ix2 r q) := by
  have e : (zAt m c n h).n = iblk m c 1 ⟨n, h⟩ := by cases n <;> rfl
  rw [e]
  have hn : n < 32 := pts n h
  blk_simp [iblk]
  refine congrArg (V m c main_v3 : IV S1x1024 .f32) ?_
  funext a
  apply Fin.ext
  match a with
  | ⟨0, _⟩ => blk_simp [idx1] <;> rfl
  | ⟨1, _⟩ => blk_simp [idx1] <;> rfl

theorem z_cw_raw (c : Dev nD) (n : ℕ) (h : n < cfg0.N) (r : Fin 3) (q : Fin 5632) :
    (zAt m c n h).cw (ValueIdx.ix2 r q) = (V m c main_arg3 : IV S3x5632 .f32) (ValueIdx.ix2 r q) := by
  have e : (zAt m c n h).cw = iblk m c 2 ⟨n, h⟩ := by cases n <;> rfl
  rw [e]
  have hn : n < 32 := pts n h
  blk_simp [iblk]
  refine congrArg (V m c main_arg3 : IV S3x5632 .f32) ?_
  funext a
  apply Fin.ext
  match a with
  | ⟨0, _⟩ => blk_simp [idx2] <;> rfl
  | ⟨1, _⟩ => blk_simp [idx2] <;> rfl

theorem z_cb_raw (c : Dev nD) (n : ℕ) (h : n < cfg0.N) (r : Fin 1) (q : Fin 5632) :
    (zAt m c n h).cb (ValueIdx.ix2 r q) = (V m c main_v4 : IV S1x5632 .f32) (ValueIdx.ix2 r q) := by
  have e : (zAt m c n h).cb = iblk m c 3 ⟨n, h⟩ := by cases n <;> rfl
  rw [e]
  have hn : n < 32 := pts n h
  blk_simp [iblk]
  refine congrArg (V m c main_v4 : IV S1x5632 .f32) ?_
  funext a
  apply Fin.ext
  match a with
  | ⟨0, _⟩ => blk_simp [idx3] <;> rfl
  | ⟨1, _⟩ => blk_simp [idx3] <;> rfl

theorem z_x (c : Dev nD) (n : ℕ) (h : n < cfg0.N) (r : Fin 256) (q : Fin 1024) : (zAt m c n h).x (ValueIdx.ix2 r q) = A0 m c (ValueIdx.ix2 (gi n h r) q) :=
  (z_x_raw m c n h r q).trans (congrFun (V0 m c) _)

theorem z_n (c : Dev nD) (n : ℕ) (h : n < cfg0.N) (q : Fin 1024) : (zAt m c n h).n (ValueIdx.ix2 0 q) = A1 m c (ValueIdx.ix1 q) :=
  (z_n_raw m c n h 0 q).trans (V3 m c q)

theorem z_cw (c : Dev nD) (n : ℕ) (h : n < cfg0.N) (k : Fin 3) (q : Fin 5632) : (zAt m c n h).cw (ValueIdx.ix2 k q) = A3 m c (ValueIdx.ix2 k q) :=
  (z_cw_raw m c n h k q).trans (congrFun (Vcw m c) _)

theorem z_cb (c : Dev nD) (n : ℕ) (h : n < cfg0.N) (q : Fin 5632) : (zAt m c n h).cb (ValueIdx.ix2 0 q) = A4 m c (ValueIdx.ix1 q) :=
  (z_cb_raw m c n h 0 q).trans (V4 m c q)

theorem z_up (c : Dev nD) (n : ℕ) (h : n < cfg0.N) (k : Fin 1024) (q : Fin 5632) : (zAt m c n h).up (ValueIdx.ix3 (cblk q) k (coff q)) = A2 m c (ValueIdx.ix2 k q) := by
  have e : (zAt m c n h).up = V m c main_v2 := by cases n <;> rfl
  rw [e]
  exact (V2 m c (cblk q) k (coff q)).trans (congrArg (fun j => A2 m c (ValueIdx.ix2 k j)) (col_eta q))

theorem z_down (c : Dev nD) (n : ℕ) (h : n < cfg0.N) (i : S2816x1024.Idx) : (zAt m c n h).down i = A5 m c i := by
  have e : (zAt m c n h).down = V m c main_v5 := by cases n <;> rfl
  rw [e]
  exact congrFun (V5 m c) i

/-! ## The step's values are the layer's -/

theorem hh_at (c : Dev nD) (n : ℕ) (h : n < cfg0.N) (r : Fin 256) (q : Fin 5632) : hh (zAt m c n h) r q = hG (A0 m c) (A1 m c) (A2 m c) (gi n h r) q := by
  unfold hh hG
  refine Finset.sum_congr rfl fun k _ => ?_
  rw [z_up]
  refine congrArg (· * A2 m c (ValueIdx.ix2 k q)) ?_
  unfold xf xG
  simp only [z_x, z_n]

theorem ca_zero (c : Dev nD) (h : 0 < cfg0.N) (i : S4x8x1408.Idx) : (zAt m c 0 h).ca i = (0 : EReal) := by
  show Ideal.ofBits .f32 0x00000000#32 = 0
  simp [Ideal.ofBits, Ideal.ieee]

theorem ex_lag (c : Dev nD) (n : ℕ) (h : n < cfg0.N) (r : Fin 256) (d e : ℕ) (hd : d ≤ 8) (he : e < 264) (hed : e + d = r.val + 8) (q : Fin 5632) :
    ex (zAt m c n h) e he q = lag (A0 m c) (A1 m c) (A2 m c) d (gi n h r) q := by
  have hr := r.isLt
  have hn := pts n h
  unfold ex lag
  by_cases h8 : e < 8
  · rw [dif_pos h8]
    cases n with
    | zero =>
      rw [ca_zero, if_neg]
      show ¬ d ≤ 0 * 256 + r.val
      omega
    | succ n =>
      rw [if_pos (show d ≤ (gi (n + 1) h r).val by show d ≤ (n + 1) * 256 + r.val; omega)]
      have h' := Nat.lt_of_succ_lt h
      show hh (zAt m c n h') ⟨248 + e, _⟩ (col (cblk q) (coff q)) = _
      rw [col_eta, hh_at]
      refine congrArg (fun i => hG (A0 m c) (A1 m c) (A2 m c) i q) (Fin.ext ?_)
      show n * 256 + (248 + e) = (n + 1) * 256 + r.val - d
      omega
  · rw [dif_neg h8, hh_at, if_pos (show d ≤ (gi n h r).val by show d ≤ n * 256 + r.val; omega)]
    refine congrArg (fun i => hG (A0 m c) (A1 m c) (A2 m c) i q) (Fin.ext ?_)
    show n * 256 + (e - 8) = n * 256 + r.val - d
    omega

theorem cv_at (c : Dev nD) (n : ℕ) (h : n < cfg0.N) (r : Fin 256) (q : Fin 5632) : cv (zAt m c n h) r q = cG (A0 m c) (A1 m c) (A2 m c) (A3 m c) (A4 m c) (gi n h r) q := by
  unfold cv cG
  rw [z_cb, z_cw, z_cw, z_cw, hh_at, ex_lag m c n h r 2 (r.val + 6) (by omega) _ (by omega), ex_lag m c n h r 1 (r.val + 7) (by omega) _ (by omega)]

theorem sv_at (c : Dev nD) (n : ℕ) (h : n < cfg0.N) (r : Fin 256) (k : Fin 4) (q : Fin 2816) : sv (zAt m c n h) r k q = sG (A0 m c) (A1 m c) (A2 m c) (A3 m c) (A4 m c) (gi n h r) k q := by
  match k with
  | 0 => exact cv_at ..
  | 1 => exact congrArg sil (cv_at ..)
  | 2 => exact congrArg dsil (cv_at ..)
  | 3 => exact congrArg₂ (fun a b => sil a * b) (cv_at ..) (cv_at ..)

theorem ot_at (c : Dev nD) (n : ℕ) (h : n < cfg0.N) (r : Fin 256) (k : Fin 1024) : ot (zAt m c n h) r k = oG (A0 m c) (A1 m c) (A2 m c) (A3 m c) (A4 m c) (A5 m c) (gi n h r) k := by
  unfold ot oG
  simp only [sv_at, z_x, z_down]

/-! ## The arrays -/

theorem arr4 (c : Dev nD) : (dats m 0 c).arrAt 4 cfg0.N = fun y : S8192x1024.Idx => oG (A0 m c) (A1 m c) (A2 m c) (A3 m c) (A4 m c) (A5 m c) (y 0) (y 1) := by
  refine (dats m 0 c).arrAt_eq_of_covers 4 _ (by decide +kernel) fun t hf y => ?_
  rw [after0_4]
  refine (congrArg (outsAt0 m c t.val t.isLt).1 (ValueIdx.eq_ix2 (n0 := 256) (n1 := 1024) y)).trans ?_
  refine ((left m c t.val t.isLt).o4 (y 0) (y 1)).trans ?_
  refine (ot_at m c t.val t.isLt (y 0) (y 1)).trans ?_
  refine congrArg₂ (fun i k => oG (A0 m c) (A1 m c) (A2 m c) (A3 m c) (A4 m c) (A5 m c) i k) (Fin.ext ?_) (Fin.ext ?_)
  · blk_simp [idx4] <;> rfl
  · blk_simp [idx4] <;> rfl

theorem arr5 (c : Dev nD) : (dats m 0 c).arrAt 5 cfg0.N = fun y : S8192x5632.Idx => hG (A0 m c) (A1 m c) (A2 m c) (y 0) (y 1) := by
  refine (dats m 0 c).arrAt_eq_of_covers 5 _ (by decide +kernel) fun t hf y => ?_
  rw [after0_5]
  refine (congrArg (outsAt0 m c t.val t.isLt).2.1 (ValueIdx.eq_ix2 (n0 := 256) (n1 := 5632) y)).trans ?_
  refine ((left m c t.val t.isLt).o5 (y 0) (y 1)).trans ?_
  refine (hh_at m c t.val t.isLt (y 0) (y 1)).trans ?_
  refine congrArg₂ (fun i k => hG (A0 m c) (A1 m c) (A2 m c) i k) (Fin.ext ?_) (Fin.ext ?_)
  · blk_simp [idx5] <;> rfl
  · blk_simp [idx5] <;> rfl

/-- The saved blocks by column. -/
def sGc (a0 : IV S8192x1024 .f32) (a1 : IV S1024 .f32) (a2 : IV S1024x5632 .f32) (a3 : IV S3x5632 .f32) (a4 : IV S5632 .f32) (i : Fin 8192) (q : Fin 11264) : EReal :=
  sG a0 a1 a2 a3 a4 i ⟨q.val / 2816, by omega⟩ ⟨q.val % 2816, by omega⟩

theorem svc_at (c : Dev nD) (n : ℕ) (h : n < cfg0.N) (r : Fin 256) (q : Fin 11264) : svc (zAt m c n h) r q = sGc (A0 m c) (A1 m c) (A2 m c) (A3 m c) (A4 m c) (gi n h r) q :=
  sv_at ..

theorem arr6 (c : Dev nD) : (dats m 0 c).arrAt 6 cfg0.N = fun y : S8192x11264.Idx => sGc (A0 m c) (A1 m c) (A2 m c) (A3 m c) (A4 m c) (y 0) (y 1) := by
  refine (dats m 0 c).arrAt_eq_of_covers 6 _ (by decide +kernel) fun t hf y => ?_
  rw [after0_6]
  refine (congrArg (outsAt0 m c t.val t.isLt).2.2.1 (ValueIdx.eq_ix2 (n0 := 256) (n1 := 11264) y)).trans ?_
  refine ((left m c t.val t.isLt).o6 (y 0) (y 1)).trans ?_
  refine (svc_at m c t.val t.isLt (y 0) (y 1)).trans ?_
  refine congrArg₂ (fun i k => sGc (A0 m c) (A1 m c) (A2 m c) (A3 m c) (A4 m c) i k) (Fin.ext ?_) (Fin.ext ?_)
  · blk_simp [idx6] <;> rfl
  · blk_simp [idx6] <;> rfl

end Cert.KernelFwdIdeal.Fw

end
-- ==== Proof.Ffn.FwdGate.lean ====
/- The gate of the layer's forward pass: the kernel's form, over the hyperbolic tangent, is the logistic function, at every extended real. -/
module

public import proofs.«01_k».proof.Proof.Ffn.FwdSem
public import proofs.«01_k».proof.Proof.Ffn.Reals

@[expose] public section

set_option maxRecDepth 16384

noncomputable section

namespace Cert.KernelFwdIdeal.Fw

open Idealize.ShloMosaic Idealize.SL.Sem

theorem half_f32 : Ideal.ofBits .f32 0x3F000000#32 = (((1 / 2 : ℝ)) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem zero_f32 : Ideal.ofBits .f32 0x00000000#32 = (0 : EReal) := by
  simp [Ideal.ofBits, Ideal.ieee]

theorem tanh_half (r : ℝ) : 1 / 2 * Real.tanh (1 / 2 * r) + 1 / 2 = 1 / (1 + Real.exp (-r)) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p := Real.exp_pos (1 / 2 * r)
  have q := Real.exp_pos (-(1 / 2 * r))
  rw [Real.tanh_eq, h1]
  generalize Real.exp (1 / 2 * r) = a at *
  generalize Real.exp (-(1 / 2 * r)) = b at *
  field_simp
  nlinarith

/-- The kernel's gate is the logistic function. -/
theorem sg_eq (y : EReal) : sg y = Ideal.logistic y := by
  unfold sg Ideal.logistic
  rw [half_f32]
  induction y using EReal.rec with
  | bot =>
    rw [EReal.coe_mul_bot_of_pos (by norm_num), EReal.neg_bot]
    show ((1 / 2 : ℝ) : EReal) * (-1) + ((1 / 2 : ℝ) : EReal) = Ideal.div 1 (1 + ⊤)
    rw [EReal.add_top_of_ne_bot (by decide)]
    unfold Ideal.div
    rw [if_neg (by decide), EReal.inv_top, mul_zero]
    rw [show (-1 : EReal) = ((-1 : ℝ) : EReal) by norm_num, ← EReal.coe_mul, ← EReal.coe_add]
    norm_num
  | top =>
    rw [EReal.coe_mul_top_of_pos (by norm_num), EReal.neg_top]
    show ((1 / 2 : ℝ) : EReal) * 1 + ((1 / 2 : ℝ) : EReal) = Ideal.div 1 (1 + 0)
    rw [add_zero, mul_one, ← EReal.coe_add, ← EReal.coe_one, Ideal.div_coe (by norm_num)]
    norm_num
  | coe r =>
    rw [← EReal.coe_mul, ← EReal.coe_neg]
    show ((1 / 2 : ℝ) : EReal) * (Real.tanh (1 / 2 * r) : EReal) + ((1 / 2 : ℝ) : EReal) = Ideal.div 1 (1 + (Real.exp (-r) : EReal))
    rw [← EReal.coe_one, ← EReal.coe_add 1, Ideal.div_coe (by have := Real.exp_pos (-r); positivity), ← EReal.coe_mul, ← EReal.coe_add]
    exact congrArg _ ((tanh_half r).trans (one_mul _).symm)

theorem logistic_top : Ideal.logistic ⊤ = 1 := by
  unfold Ideal.logistic
  rw [EReal.neg_top]
  show Ideal.div 1 (1 + 0) = 1
  rw [add_zero, ← EReal.coe_one, Ideal.div_coe (by norm_num)]
  norm_num

theorem logistic_bot : Ideal.logistic ⊥ = 0 := by
  unfold Ideal.logistic
  rw [EReal.neg_bot]
  show Ideal.div 1 (1 + ⊤) = 0
  rw [EReal.add_top_of_ne_bot (by decide)]
  unfold Ideal.div
  rw [if_neg (by decide), EReal.inv_top, mul_zero]

/-- The kernel's derivative of the gate is the reference's. -/
theorem dsil_eq (y : EReal) : dsil y = 1 * Ideal.logistic y + y * 1 * (Ideal.logistic y * (1 - Ideal.logistic y)) := by
  unfold dsil
  rw [sg_eq, one_f32, EReal.coe_one]
  induction y using EReal.rec with
  | bot => rw [logistic_bot]; simp
  | top =>
    rw [logistic_top]
    have : (1 : EReal) - 1 = 0 := by rw [← EReal.coe_one, ← EReal.coe_sub]; norm_num
    rw [this]; simp
  | coe r =>
    obtain ⟨l, hl⟩ := Ffn.isReal_logistic (Ffn.isReal_coe r)
    rw [hl, ← EReal.coe_one]
    simp only [← EReal.coe_mul, ← EReal.coe_add, ← EReal.coe_sub]
    congr 1; ring

end Cert.KernelFwdIdeal.Fw

end
-- ==== Proof.Ffn.FwdRef.lean ====
/- The layer's forward pass: the reference's three results at an index are the layer's values. -/
module

public import proofs.«01_k».proof.Proof.Ffn.FwdHost
public import proofs.«01_k».proof.Proof.Ffn.FwdGate
public import proofs.«01_k».proof.Proof.Gen.ReferenceFwdIdeal.Read

@[expose] public section

set_option maxRecDepth 16384

noncomputable section

namespace Cert.KernelFwdIdeal.Fw

open Cert.ReferenceFwdIdeal Cert.ReferenceFwdIdeal.Gen Cert.ReferenceFwdIdeal.Read Idealize.ShloMosaic Idealize.ShloMosaic.TcCoe Idealize.SL.Sem

variable (x0 : IV S8192x1024 .f32) (x1 : IV S1024 .f32) (x2 : IV S1024x5632 .f32) (x3 : IV S3x5632 .f32) (x4 : IV S5632 .f32) (x5 : IV S2816x1024 .f32)

/-- An index of two coordinates, from its values. -/
theorem ext2 {a b : ℕ} {i j : (⟨2, ![a, b]⟩ : Shape).Idx} (h0 : (i 0).val = (j 0).val) (h1 : (i 1).val = (j 1).val) : i = j := by
  funext e
  apply Fin.ext
  match e with
  | ⟨0, _⟩ => exact h0
  | ⟨1, _⟩ => exact h1

/-! ## The norm and the up projection -/

theorem r_sq (i : Fin 8192) : val_main_v1 (F := Ideal) x0 (ValueIdx.ix1 i) = ∑ j : Fin 1024, x0 (ValueIdx.ix2 i j) * x0 (ValueIdx.ix2 i j) := by
  rw [val_main_v1_apply]
  refine (congrArg₂ (· + ·) zero_f32 (Finset.sum_congr rfl fun j _ => ?_)).trans (zero_add _)
  rw [val_main_v0_apply]
  have e : idx_main_v1 (ValueIdx.ix1 i) j = ValueIdx.ix2 i j := ext2 rfl rfl
  rw [e]
  rfl

theorem r_rs (i : Fin 8192) (k : Fin 1024) : val_main_v8 (F := Ideal) x0 (ValueIdx.ix2 i k) = rs (fun j => x0 (ValueIdx.ix2 i j)) := by
  rw [val_main_v8_apply, val_main_v7_apply, val_main_v6_apply, val_main_v4_apply, val_main_v2_apply]
  have e : idx_main_v2 (idx_main_v8 (ValueIdx.ix2 i k)) = ValueIdx.ix1 i := by
    funext a
    match a with
    | ⟨0, _⟩ => rfl
  rw [e, r_sq]
  rfl

theorem r_x (i : Fin 8192) (k : Fin 1024) : val_main_v12 (F := Ideal) x0 x1 (ValueIdx.ix2 i k) = xG x0 x1 i k := by
  rw [val_main_v12_apply, val_main_v9_apply, r_rs, val_main_v11_apply, val_main_v10_apply]
  have e : idx_main_v10 (idx_main_v11 (ValueIdx.ix2 i k)) = ValueIdx.ix1 k := by
    funext a
    match a with
    | ⟨0, _⟩ => rfl
  rw [e]
  rfl

theorem r_h (i : Fin 8192) (q : Fin 5632) : val_main_v13 (F := Ideal) x0 x1 x2 (ValueIdx.ix2 i q) = hG x0 x1 x2 i q := by
  rw [val_main_v13_apply]
  unfold hG
  refine Finset.sum_congr rfl fun k _ => ?_
  have e : lidx_main_v13 (ValueIdx.ix2 i q) k = ValueIdx.ix2 i k := ext2 rfl rfl
  have e' : ridx_main_v13 (ValueIdx.ix2 i q) k = ValueIdx.ix2 k q := ext2 rfl rfl
  rw [e, e', r_x]

/-! ## The convolution -/

theorem r_pad (d : ℕ) (hd : d ≤ 2) (i : Fin 8192) (p : Fin 8194) (hp : p.val + d = i.val + 2) (q : Fin 5632) :
    val_main_v15 (F := Ideal) x0 x1 x2 (ValueIdx.ix2 p q) = lag x0 x1 x2 d i q := by
  unfold val_main_v15 lag
  by_cases h : d ≤ i.val
  · rw [if_pos h, ← r_h]
    refine concatenate_pair_apply_right (t := S8194x5632) (s₁ := S2x5632) (s₂ := S8192x5632) 0 _ _ _ (ValueIdx.ix2 p q) rfl rfl (ValueIdx.ix2 ⟨i.val - d, by omega⟩ q) (fun b hb => ?_) ?_
    · match b with
      | ⟨0, _⟩ => exact absurd rfl hb
      | ⟨1, _⟩ => rfl
    · show i.val - d + 2 = p.val
      omega
  · rw [if_neg h]
    refine (concatenate_pair_apply_left (t := S8194x5632) (s₁ := S2x5632) (s₂ := S8192x5632) 0 _ _ _ (ValueIdx.ix2 p q) rfl (ValueIdx.ix2 ⟨p.val, by omega⟩ q) (fun b => ?_)).trans ?_
    · match b with
      | ⟨0, _⟩ => rfl
      | ⟨1, _⟩ => rfl
    · rw [val_main_v14_apply]
      exact zero_f32

theorem lag_zero (i : Fin 8192) (q : Fin 5632) : lag x0 x1 x2 0 i q = hG x0 x1 x2 i q := by
  unfold lag
  rw [if_pos (Nat.zero_le _)]
  rfl

theorem r_row0 (i : Fin 8192) (q : Fin 5632) : val_main_v16 (F := Ideal) x0 x1 x2 (ValueIdx.ix2 i q) = lag x0 x1 x2 2 i q := by
  rw [val_main_v16_apply]
  have e : idx_main_v16 (ValueIdx.ix2 i q) = ValueIdx.ix2 (⟨0 + i.val, by omega⟩ : Fin 8194) q := ext2 (by first | rfl | exact (Nat.zero_add _).symm) (by first | rfl | exact (Nat.zero_add _).symm)
  rw [e]
  exact r_pad x0 x1 x2 2 (by omega) i _ (by show 0 + i.val + 2 = i.val + 2; omega) q

theorem r_tap0 (i : Fin 8192) (q : Fin 5632) : val_main_v20 (F := Ideal) x3 (ValueIdx.ix2 i q) = x3 (ValueIdx.ix2 0 q) := by
  rw [val_main_v20_apply, val_main_v19_apply, val_main_v18_apply, val_main_v17_apply]
  refine congrArg x3 (ext2 (by first | rfl | simp) ?_)
  first
    | rfl
    | exact Nat.mod_eq_of_lt q.isLt
    | simp

theorem r_row1 (i : Fin 8192) (q : Fin 5632) : val_main_v24 (F := Ideal) x0 x1 x2 (ValueIdx.ix2 i q) = lag x0 x1 x2 1 i q := by
  rw [val_main_v24_apply]
  have e : idx_main_v24 (ValueIdx.ix2 i q) = ValueIdx.ix2 (⟨1 + i.val, by omega⟩ : Fin 8194) q := ext2 (by first | rfl | exact (Nat.zero_add _).symm) (by first | rfl | exact (Nat.zero_add _).symm)
  rw [e]
  exact r_pad x0 x1 x2 1 (by omega) i _ (by show 1 + i.val + 1 = i.val + 2; omega) q

theorem r_tap1 (i : Fin 8192) (q : Fin 5632) : val_main_v28 (F := Ideal) x3 (ValueIdx.ix2 i q) = x3 (ValueIdx.ix2 1 q) := by
  rw [val_main_v28_apply, val_main_v27_apply, val_main_v26_apply, val_main_v25_apply]
  refine congrArg x3 (ext2 (by first | rfl | simp) ?_)
  first
    | rfl
    | exact Nat.mod_eq_of_lt q.isLt
    | simp

theorem r_row2 (i : Fin 8192) (q : Fin 5632) : val_main_v31 (F := Ideal) x0 x1 x2 (ValueIdx.ix2 i q) = lag x0 x1 x2 0 i q := by
  rw [val_main_v31_apply]
  have e : idx_main_v31 (ValueIdx.ix2 i q) = ValueIdx.ix2 (⟨2 + i.val, by omega⟩ : Fin 8194) q := ext2 (by first | rfl | exact (Nat.zero_add _).symm) (by first | rfl | exact (Nat.zero_add _).symm)
  rw [e]
  exact r_pad x0 x1 x2 0 (by omega) i _ (by show 2 + i.val + 0 = i.val + 2; omega) q

theorem r_tap2 (i : Fin 8192) (q : Fin 5632) : val_main_v35 (F := Ideal) x3 (ValueIdx.ix2 i q) = x3 (ValueIdx.ix2 2 q) := by
  rw [val_main_v35_apply, val_main_v34_apply, val_main_v33_apply, val_main_v32_apply]
  refine congrArg x3 (ext2 (by first | rfl | simp) ?_)
  first
    | rfl
    | exact Nat.mod_eq_of_lt q.isLt
    | simp

theorem r_conv (i : Fin 8192) (q : Fin 5632) : val_main_v40 (F := Ideal) x0 x1 x2 x3 x4 (ValueIdx.ix2 i q) = cG x0 x1 x2 x3 x4 i q := by
  rw [val_main_v40_apply, val_main_v37_apply, val_main_v30_apply, val_main_v23_apply, val_main_v21_apply, val_main_v29_apply, val_main_v36_apply,
    r_row0, r_row1, r_row2, r_tap0, r_tap1, r_tap2, lag_zero, val_main_v39_apply, val_main_v38_apply, val_main_v22_apply]
  have e : idx_main_v38 (idx_main_v39 (ValueIdx.ix2 i q)) = ValueIdx.ix1 q := by
    funext a
    match a with
    | ⟨0, _⟩ => rfl
  rw [e]
  unfold cG
  show x4 (ValueIdx.ix1 q) + (((Ideal.ofBits .f32 0x00000000#32 + lag x0 x1 x2 2 i q * x3 (ValueIdx.ix2 0 q)) + lag x0 x1 x2 1 i q * x3 (ValueIdx.ix2 1 q)) + hG x0 x1 x2 i q * x3 (ValueIdx.ix2 2 q)) = _
  rw [zero_f32, zero_add, ← add_assoc, ← add_assoc, mul_comm (lag x0 x1 x2 2 i q), mul_comm (lag x0 x1 x2 1 i q), mul_comm (hG x0 x1 x2 i q)]

/-! ## The gate -/

theorem r_g (i : Fin 8192) (q : Fin 2816) : val_main_v41 (F := Ideal) x0 x1 x2 x3 x4 (ValueIdx.ix2 i q) = cG x0 x1 x2 x3 x4 i ⟨q.val, by omega⟩ := by
  rw [val_main_v41_apply, ← r_conv]
  exact congrArg _ (ext2 (by first | rfl | exact Nat.zero_add _) (by first | rfl | exact Nat.zero_add _))

theorem r_u (i : Fin 8192) (q : Fin 2816) : val_main_v42 (F := Ideal) x0 x1 x2 x3 x4 (ValueIdx.ix2 i q) = cG x0 x1 x2 x3 x4 i ⟨2816 + q.val, by omega⟩ := by
  rw [val_main_v42_apply, ← r_conv]
  exact congrArg _ (ext2 (by first | rfl | exact Nat.zero_add _) (by first | rfl | exact Nat.zero_add _))

theorem r_s (j : S8192x2816.Idx) : val_main_v43_2 (F := Ideal) x0 x1 x2 x3 x4 j = Ideal.logistic (val_main_v41 (F := Ideal) x0 x1 x2 x3 x4 j) := by
  rw [val_main_v43_2_apply, val_main_call0_v4_apply, val_main_call0_v3_apply, val_main_call0_v2_apply, val_main_call0_v1_apply, val_main_call0_v0_apply]
  generalize val_main_v41 (F := Ideal) x0 x1 x2 x3 x4 j = y
  show Ideal.div (Ideal.ofBits .f32 0x3F800000#32) (Ideal.ofBits .f32 0x3F800000#32 + Ideal.exp (-y)) = Ideal.div 1 (1 + Ideal.exp (-y))
  rw [one_f32, EReal.coe_one]

theorem r_sil (i : Fin 8192) (q : Fin 2816) : val_main_v43_0 (F := Ideal) x0 x1 x2 x3 x4 (ValueIdx.ix2 i q) = sil (cG x0 x1 x2 x3 x4 i ⟨q.val, by omega⟩) := by
  rw [val_main_v43_0_apply, r_s, r_g]
  unfold sil
  rw [sg_eq]
  rfl

theorem r_dsil (i : Fin 8192) (q : Fin 2816) : val_main_v45 (F := Ideal) x0 x1 x2 x3 x4 (ValueIdx.ix2 i q) = dsil (cG x0 x1 x2 x3 x4 i ⟨q.val, by omega⟩) := by
  rw [val_main_v45_apply, val_main_call1_v1_apply, val_main_call1_v2_apply, val_main_call1_v0_apply, val_main_v43_1_apply, val_main_call0_v7_apply, val_main_call0_v6_apply, val_main_v44_apply, r_s, r_g, dsil_eq]
  generalize cG x0 x1 x2 x3 x4 i ⟨q.val, _⟩ = y
  show Ideal.ofBits .f32 0x3F800000#32 * Ideal.logistic y + y * Ideal.ofBits .f32 0x3F800000#32 * (Ideal.logistic y * (Ideal.ofBits .f32 0x3F800000#32 - Ideal.logistic y)) = _
  rw [one_f32, EReal.coe_one]

theorem r_su (i : Fin 8192) (q : Fin 2816) : val_main_v80 (F := Ideal) x0 x1 x2 x3 x4 (ValueIdx.ix2 i q) = sG x0 x1 x2 x3 x4 i 3 q := by
  rw [val_main_v80_apply, r_sil, r_u]
  rfl

/-- The product that the down projection reads is the saved product: the reference computes it twice. -/
theorem r_twice : val_main_v76 (F := Ideal) x0 x1 x2 x3 x4 = val_main_v80 (F := Ideal) x0 x1 x2 x3 x4 := rfl

/-! ## The results -/

theorem halves (f : Fin 2816 → EReal) : ∑ q : Fin 2816, f q = (∑ q : Fin 1408, f ⟨q.val, by omega⟩) + ∑ q : Fin 1408, f ⟨1408 + q.val, by omega⟩ :=
  Fin.sum_univ_add (a := 1408) (b := 1408) f

theorem res0 (i : Fin 8192) (k : Fin 1024) : val_main_v78 (F := Ideal) x0 x1 x2 x3 x4 x5 (ValueIdx.ix2 i k) = oG x0 x1 x2 x3 x4 x5 i k := by
  rw [val_main_v78_apply, val_main_v77_apply, halves]
  unfold oG
  rw [r_twice]
  have e (q : Fin 2816) : val_main_v80 (F := Ideal) x0 x1 x2 x3 x4 (lidx_main_v77 (ValueIdx.ix2 i k) q) * x5 (ridx_main_v77 (ValueIdx.ix2 i k) q) = sG x0 x1 x2 x3 x4 i 3 q * x5 (ValueIdx.ix2 q k) := by
    have e0 : lidx_main_v77 (ValueIdx.ix2 i k) q = ValueIdx.ix2 i q := ext2 rfl rfl
    have e1 : ridx_main_v77 (ValueIdx.ix2 i k) q = ValueIdx.ix2 q k := ext2 rfl rfl
    rw [e0, e1, r_su]
  simp only [e]
  exact (add_assoc _ _ _).symm

theorem res1 (i : Fin 8192) (q : Fin 5632) : val_main_v79 (F := Ideal) x0 x1 x2 (ValueIdx.ix2 i q) = hG x0 x1 x2 i q := by
  rw [val_main_v79_apply]
  exact r_h x0 x1 x2 i q

theorem cat_0 (y0 y1 y2 y3 : IV S8192x2816 .f32) (i : Fin 8192) (q : Fin 2816) :
    concatenate S8192x11264 1 [⟨S8192x2816, y0⟩, ⟨S8192x2816, y1⟩, ⟨S8192x2816, y2⟩, ⟨S8192x2816, y3⟩]
      concatenates_S8192x2816_S8192x2816_S8192x2816_S8192x2816_S8192x11264_d1 (ValueIdx.ix2 i ⟨q.val, by omega⟩) = y0 (ValueIdx.ix2 i q) :=
  concatenate_apply_piece (t := S8192x11264) 1 [⟨S8192x2816, y0⟩, ⟨S8192x2816, y1⟩, ⟨S8192x2816, y2⟩, ⟨S8192x2816, y3⟩]
    concatenates_S8192x2816_S8192x2816_S8192x2816_S8192x2816_S8192x11264_d1 (ValueIdx.ix2 i ⟨q.val, by omega⟩)
    0 (by simp) S8192x2816 y0 rfl rfl 0 rfl (ValueIdx.ix2 i q)
    (fun b hb => by
      match b with
      | ⟨0, _⟩ => rfl
      | ⟨1, _⟩ => exact absurd rfl hb)
    (by first | rfl | exact Nat.zero_add _)

theorem cat_1 (y0 y1 y2 y3 : IV S8192x2816 .f32) (i : Fin 8192) (q : Fin 2816) :
    concatenate S8192x11264 1 [⟨S8192x2816, y0⟩, ⟨S8192x2816, y1⟩, ⟨S8192x2816, y2⟩, ⟨S8192x2816, y3⟩]
      concatenates_S8192x2816_S8192x2816_S8192x2816_S8192x2816_S8192x11264_d1 (ValueIdx.ix2 i ⟨2816 + q.val, by omega⟩) = y1 (ValueIdx.ix2 i q) :=
  concatenate_apply_piece (t := S8192x11264) 1 [⟨S8192x2816, y0⟩, ⟨S8192x2816, y1⟩, ⟨S8192x2816, y2⟩, ⟨S8192x2816, y3⟩]
    concatenates_S8192x2816_S8192x2816_S8192x2816_S8192x2816_S8192x11264_d1 (ValueIdx.ix2 i ⟨2816 + q.val, by omega⟩)
    1 (by simp) S8192x2816 y1 rfl rfl 2816 rfl (ValueIdx.ix2 i q)
    (fun b hb => by
      match b with
      | ⟨0, _⟩ => rfl
      | ⟨1, _⟩ => exact absurd rfl hb)
    (by first | rfl | exact Nat.zero_add _)

theorem cat_2 (y0 y1 y2 y3 : IV S8192x2816 .f32) (i : Fin 8192) (q : Fin 2816) :
    concatenate S8192x11264 1 [⟨S8192x2816, y0⟩, ⟨S8192x2816, y1⟩, ⟨S8192x2816, y2⟩, ⟨S8192x2816, y3⟩]
      concatenates_S8192x2816_S8192x2816_S8192x2816_S8192x2816_S8192x11264_d1 (ValueIdx.ix2 i ⟨5632 + q.val, by omega⟩) = y2 (ValueIdx.ix2 i q) :=
  concatenate_apply_piece (t := S8192x11264) 1 [⟨S8192x2816, y0⟩, ⟨S8192x2816, y1⟩, ⟨S8192x2816, y2⟩, ⟨S8192x2816, y3⟩]
    concatenates_S8192x2816_S8192x2816_S8192x2816_S8192x2816_S8192x11264_d1 (ValueIdx.ix2 i ⟨5632 + q.val, by omega⟩)
    2 (by simp) S8192x2816 y2 rfl rfl 5632 rfl (ValueIdx.ix2 i q)
    (fun b hb => by
      match b with
      | ⟨0, _⟩ => rfl
      | ⟨1, _⟩ => exact absurd rfl hb)
    (by first | rfl | exact Nat.zero_add _)

theorem cat_3 (y0 y1 y2 y3 : IV S8192x2816 .f32) (i : Fin 8192) (q : Fin 2816) :
    concatenate S8192x11264 1 [⟨S8192x2816, y0⟩, ⟨S8192x2816, y1⟩, ⟨S8192x2816, y2⟩, ⟨S8192x2816, y3⟩]
      concatenates_S8192x2816_S8192x2816_S8192x2816_S8192x2816_S8192x11264_d1 (ValueIdx.ix2 i ⟨8448 + q.val, by omega⟩) = y3 (ValueIdx.ix2 i q) :=
  concatenate_apply_piece (t := S8192x11264) 1 [⟨S8192x2816, y0⟩, ⟨S8192x2816, y1⟩, ⟨S8192x2816, y2⟩, ⟨S8192x2816, y3⟩]
    concatenates_S8192x2816_S8192x2816_S8192x2816_S8192x2816_S8192x11264_d1 (ValueIdx.ix2 i ⟨8448 + q.val, by omega⟩)
    3 (by simp) S8192x2816 y3 rfl rfl 8448 rfl (ValueIdx.ix2 i q)
    (fun b hb => by
      match b with
      | ⟨0, _⟩ => rfl
      | ⟨1, _⟩ => exact absurd rfl hb)
    (by first | rfl | exact Nat.zero_add _)

theorem saved_0 (i : Fin 8192) (q : Fin 2816) : val_main_v81 (F := Ideal) x0 x1 x2 x3 x4 (ValueIdx.ix2 i ⟨q.val, by omega⟩) = sG x0 x1 x2 x3 x4 i 0 q := by
  unfold val_main_v81
  exact (cat_0 _ _ _ _ i q).trans (r_u x0 x1 x2 x3 x4 i q)

theorem saved_1 (i : Fin 8192) (q : Fin 2816) : val_main_v81 (F := Ideal) x0 x1 x2 x3 x4 (ValueIdx.ix2 i ⟨2816 + q.val, by omega⟩) = sG x0 x1 x2 x3 x4 i 1 q := by
  unfold val_main_v81
  exact (cat_1 _ _ _ _ i q).trans (r_sil x0 x1 x2 x3 x4 i q)

theorem saved_2 (i : Fin 8192) (q : Fin 2816) : val_main_v81 (F := Ideal) x0 x1 x2 x3 x4 (ValueIdx.ix2 i ⟨5632 + q.val, by omega⟩) = sG x0 x1 x2 x3 x4 i 2 q := by
  unfold val_main_v81
  exact (cat_2 _ _ _ _ i q).trans (r_dsil x0 x1 x2 x3 x4 i q)

theorem saved_3 (i : Fin 8192) (q : Fin 2816) : val_main_v81 (F := Ideal) x0 x1 x2 x3 x4 (ValueIdx.ix2 i ⟨8448 + q.val, by omega⟩) = sG x0 x1 x2 x3 x4 i 3 q := by
  unfold val_main_v81
  exact (cat_3 _ _ _ _ i q).trans (r_su x0 x1 x2 x3 x4 i q)

theorem saved (k : Fin 4) (i : Fin 8192) (q : Fin 2816) (p : Fin 11264) (hp : p.val = k.val * 2816 + q.val) : val_main_v81 (F := Ideal) x0 x1 x2 x3 x4 (ValueIdx.ix2 i p) = sG x0 x1 x2 x3 x4 i k q := by
  have hk := k.isLt
  have e : k = 0 ∨ k = 1 ∨ k = 2 ∨ k = 3 := by
    rcases k with ⟨k, h⟩
    simp only [Fin.ext_iff]
    show k = 0 ∨ k = 1 ∨ k = 2 ∨ k = 3
    omega
  rcases e with h | h | h | h
  · have hv : k.val = 0 := congrArg Fin.val h
    have e : p = ⟨q.val, by omega⟩ := Fin.ext (by show p.val = q.val; rw [hp, hv]; omega)
    rw [e, h]
    exact saved_0 x0 x1 x2 x3 x4 i q
  · have hv : k.val = 1 := congrArg Fin.val h
    have e : p = ⟨2816 + q.val, by omega⟩ := Fin.ext (by show p.val = 2816 + q.val; rw [hp, hv])
    rw [e, h]
    exact saved_1 x0 x1 x2 x3 x4 i q
  · have hv : k.val = 2 := congrArg Fin.val h
    have e : p = ⟨5632 + q.val, by omega⟩ := Fin.ext (by show p.val = 5632 + q.val; rw [hp, hv])
    rw [e, h]
    exact saved_2 x0 x1 x2 x3 x4 i q
  · have hv : k.val = 3 := congrArg Fin.val h
    have e : p = ⟨8448 + q.val, by omega⟩ := Fin.ext (by show p.val = 8448 + q.val; rw [hp, hv])
    rw [e, h]
    exact saved_3 x0 x1 x2 x3 x4 i q

theorem res2 (i : Fin 8192) (p : Fin 11264) : val_main_v82 (F := Ideal) x0 x1 x2 x3 x4 (ValueIdx.ix2 i p) = sGc x0 x1 x2 x3 x4 i p := by
  rw [val_main_v82_apply]
  exact saved x0 x1 x2 x3 x4 ⟨p.val / 2816, by omega⟩ i ⟨p.val % 2816, by omega⟩ p (by show p.val = p.val / 2816 * 2816 + p.val % 2816; omega)

end Cert.KernelFwdIdeal.Fw

end
-- ==== Proof.Ffn.Fwd.lean ====
/- The claim of the values for the layer's forward pass. -/
module

public import proofs.«01_k».proof.Proof.Ffn.FwdRef
public import proofs.«01_k».proof.Proof.Gen.KernelFwdIdeal.Value
public import proofs.«01_k».proof.Proof.Gen.ReferenceFwdIdeal.Run
public import proofs.«01_k».proof.Defs

@[expose] public section

set_option maxRecDepth 16384

noncomputable section

namespace Cert.Proof

open Idealize.ShloMosaic Idealize.ShloMosaic.TcCoe Idealize.SL.Sem
open Cert.KernelFwdIdeal.Fw (A0 A1 A2 A3 A4 A5)

theorem fwd_value0 (m : (ℓ : Loc Cert.KernelFwdIdeal.nD Cert.KernelFwdIdeal.τ Cert.KernelFwdIdeal.sig) → Buf (Elt Ideal) ℓ) (c : Dev Cert.KernelFwdIdeal.nD) :
    (Cert.KernelFwdIdeal.Gen.dats m 0 c).arrAt 4 Cert.KernelFwdIdeal.cfg0.N = Cert.ReferenceFwdIdeal.Read.val_main_v78 (F := Ideal) (A0 m c) (A1 m c) (A2 m c) (A3 m c) (A4 m c) (A5 m c) := by
  rw [Cert.KernelFwdIdeal.Fw.arr4]
  funext y
  exact ((Cert.KernelFwdIdeal.Fw.res0 _ _ _ _ _ _ (y 0) (y 1)).symm).trans (congrArg (Cert.ReferenceFwdIdeal.Read.val_main_v78 (F := Ideal) (A0 m c) (A1 m c) (A2 m c) (A3 m c) (A4 m c) (A5 m c)) (ValueIdx.eq_ix2 y).symm)

theorem fwd_value1 (m : (ℓ : Loc Cert.KernelFwdIdeal.nD Cert.KernelFwdIdeal.τ Cert.KernelFwdIdeal.sig) → Buf (Elt Ideal) ℓ) (c : Dev Cert.KernelFwdIdeal.nD) :
    (Cert.KernelFwdIdeal.Gen.dats m 0 c).arrAt 5 Cert.KernelFwdIdeal.cfg0.N = Cert.ReferenceFwdIdeal.Read.val_main_v79 (F := Ideal) (A0 m c) (A1 m c) (A2 m c) := by
  rw [Cert.KernelFwdIdeal.Fw.arr5]
  funext y
  exact ((Cert.KernelFwdIdeal.Fw.res1 _ _ _ (y 0) (y 1)).symm).trans (congrArg (Cert.ReferenceFwdIdeal.Read.val_main_v79 (F := Ideal) (A0 m c) (A1 m c) (A2 m c)) (ValueIdx.eq_ix2 y).symm)

theorem fwd_value2 (m : (ℓ : Loc Cert.KernelFwdIdeal.nD Cert.KernelFwdIdeal.τ Cert.KernelFwdIdeal.sig) → Buf (Elt Ideal) ℓ) (c : Dev Cert.KernelFwdIdeal.nD) :
    (Cert.KernelFwdIdeal.Gen.dats m 0 c).arrAt 6 Cert.KernelFwdIdeal.cfg0.N = Cert.ReferenceFwdIdeal.Read.val_main_v82 (F := Ideal) (A0 m c) (A1 m c) (A2 m c) (A3 m c) (A4 m c) := by
  rw [Cert.KernelFwdIdeal.Fw.arr6]
  funext y
  exact ((Cert.KernelFwdIdeal.Fw.res2 _ _ _ _ _ (y 0) (y 1)).symm).trans (congrArg (Cert.ReferenceFwdIdeal.Read.val_main_v82 (F := Ideal) (A0 m c) (A1 m c) (A2 m c) (A3 m c) (A4 m c)) (ValueIdx.eq_ix2 y).symm)

/-- Both runs leave the layer's output, the up projection and the saved blocks. -/
theorem algebraic_fwd : Cert.algebraic_KernelFwdIdeal_ReferenceFwdIdeal (hKernelFwdIdeal := Cert.KernelFwdIdeal.Gen.facts)
    (hReferenceFwdIdeal := Cert.ReferenceFwdIdeal.Gen.facts) := by
  intro m g m' g' _ hargs
  refine ⟨fun c => Cert.ReferenceFwdIdeal.Read.val_main_v78 (F := Ideal) (A0 m c) (A1 m c) (A2 m c) (A3 m c) (A4 m c) (A5 m c),
    fun c => Cert.ReferenceFwdIdeal.Read.val_main_v79 (F := Ideal) (A0 m c) (A1 m c) (A2 m c),
    fun c => Cert.ReferenceFwdIdeal.Read.val_main_v82 (F := Ideal) (A0 m c) (A1 m c) (A2 m c) (A3 m c) (A4 m c), ?_, ?_⟩
  · refine (θ_run Cert.KernelFwdIdeal.defs _ _).mono (fun r hr c => ?_) (Cert.KernelFwdIdeal.Value.run_blocks m g)
    obtain ⟨r0, r1, r2, rest⟩ := hr c
    exact ⟨r0.trans (fwd_value0 m c), r1.trans (fwd_value1 m c), r2.trans (fwd_value2 m c), rest⟩
  · refine (θ_run Cert.ReferenceFwdIdeal.defs _ _).mono (fun r hr c => ?_) (Cert.ReferenceFwdIdeal.Value.run m' g')
    obtain ⟨e0, e1, e2, e3, e4, e5⟩ := hargs c
    obtain ⟨r0, r1, r2, rest⟩ := hr c
    refine ⟨(r0.trans (Cert.ReferenceFwdIdeal.Read.val_main_v78_eq m' c)).trans ?_, (r1.trans (Cert.ReferenceFwdIdeal.Read.val_main_v79_eq (m' ((c.tc : Thread Cert.ReferenceFwdIdeal.nD Cert.ReferenceFwdIdeal.τ).loc Cert.ReferenceFwdIdeal.main_arg0)) (m' ((c.tc : Thread Cert.ReferenceFwdIdeal.nD Cert.ReferenceFwdIdeal.τ).loc Cert.ReferenceFwdIdeal.main_arg1)) (m' ((c.tc : Thread Cert.ReferenceFwdIdeal.nD Cert.ReferenceFwdIdeal.τ).loc Cert.ReferenceFwdIdeal.main_arg2)))).trans ?_, (r2.trans (Cert.ReferenceFwdIdeal.Read.val_main_v82_eq m' c)).trans ?_, rest⟩
    · rw [e0, e1, e2, e3, e4, e5]
    · rw [e0, e1, e2]
    · rw [e0, e1, e2, e3, e4]

end Cert.Proof

end
-- ==== Proof.Ffn.PleStep.lean ====
/- The backward pass of the per-layer embeddings: the terms one step of the grid computes, and the stores it leaves. -/
module

public import proofs.«01_k».proof.Proof.Gen.KernelPleIdeal.Skeleton
public import Idealize.ShloMosaic.Lib.Pipeline.Value
public import Idealize.ShloMosaic.Lib.ValueIdx
public import Idealize.ShloMosaic.Lib.MatmulPlain
public import Idealize.ShloMosaic.Lib.KernelVsHost
public import Idealize.ShloMosaic.Lib.IdealHost
public import Idealize.ShloMosaic.PureOps.Ideal.Laws

@[expose] public section

set_option maxRecDepth 16384

noncomputable section

namespace Cert.KernelPleIdeal.Pl

open Cert.KernelPleIdeal Cert.KernelPleIdeal.Gen Idealize.ShloMosaic Idealize.ShloMosaic.ValueIdx Idealize.SL.Sem

/-- A vector over the extended reals. -/
abbrev IV (S : Shape) (e : EltTy) : Type := Vec Ideal S e

/-- What one step reads: its rows of the incoming gradient, of the input, of the embeddings and of the gate's argument, the
    norm's weights, and the two weight matrices kept on chip. -/
structure Ins where
  d : IV S512x1024 .f32
  h : IV S512x1024 .f32
  p : IV S1x512x256 .f32
  a : IV S512x1024 .bf16
  n : IV S1x1024 .f32
  wp : IV S4x256x256 .bf16
  wg : IV S1024x1024 .bf16

variable (z : Ins)

/-- The projected embeddings, as stored block by block. -/
def lpe : List (View.Piece (Elt Ideal) S512x1024 .f32) :=
  [⟨Rect.unit (s := S512x1024) ![0, 768] ![512, 256] inb_S512x1024_S512x256_0_768, k0_pay15 (k0_pay11 z.p) (View.ld z.wp (Rect.unit ![3, 0, 0] ![1, 256, 256] inb_S4x256x256_S1x256x256_3_0_0))⟩,
   ⟨Rect.unit (s := S512x1024) ![0, 512] ![512, 256] inb_S512x1024_S512x256_0_512, k0_pay14 (k0_pay11 z.p) (View.ld z.wp (Rect.unit ![2, 0, 0] ![1, 256, 256] inb_S4x256x256_S1x256x256_2_0_0))⟩,
   ⟨Rect.unit (s := S512x1024) ![0, 256] ![512, 256] inb_S512x1024_S512x256_0_256, k0_pay13 (k0_pay11 z.p) (View.ld z.wp (Rect.unit ![1, 0, 0] ![1, 256, 256] inb_S4x256x256_S1x256x256_1_0_0))⟩,
   ⟨Rect.unit (s := S512x1024) ![0, 0] ![512, 256] inb_S512x1024_S512x256_0_0, k0_pay12 (k0_pay11 z.p) (View.ld z.wp (Rect.unit ![0, 0, 0] ![1, 256, 256] inb_S4x256x256_S1x256x256_0_0_0))⟩]

/-- The projected embeddings. -/
def peT : IV S512x1024 .f32 := View.canon (lpe z)

/-- The gate. -/
def gT : FVec Ideal S512x1024 .f32 := k0_pay10 z.a

/-- The gradient of the projected embeddings. -/
def dpeT : FVec Ideal S512x1024 .bf16 := k0_pay16 z.d (gT z)

/-- The gradient of the input. -/
def vO : IV S512x1024 .f32 :=
  k0_pay2 z.d (k0_pay7 z.h) (k0_pay8 z.h) (k0_pay28 z.d (gT z) (peT z) z.wg z.n) (k0_pay30 z.d (k0_pay8 z.h) (gT z) (peT z) z.wg z.n)

/-- The gate's weight gradient, over what it held. -/
def vG (acc : IV S1024x1024 .f32) : IV S1024x1024 .f32 := k0_pay27 z.d (k0_pay9 z.h z.n) (gT z) (peT z) acc

/-- The gate's bias gradient, over what it held. -/
def vB (acc : IV S1x1024 .f32) : IV S1x1024 .f32 := k0_pay25 z.d (gT z) (peT z) acc

/-- The norm's gradient, over what it held. -/
def vN (acc : IV S1x1024 .f32) : IV S1x1024 .f32 := k0_pay1 (k0_pay29 z.d (k0_pay8 z.h) (gT z) (peT z) z.wg) acc

/-- The stores of the input's gradient. -/
def list5 : List (View.Piece (Elt Ideal) S512x1024 .f32) := [⟨Rect.unit (s := S512x1024) ![0, 0] ![512, 1024] inb_S512x1024_S512x1024_0_0, vO z⟩]

/-- The stores of the projection's gradient, over what it held. -/
def list6 (acc : IV S4x256x256 .f32) : List (View.Piece (Elt Ideal) S4x256x256 .f32) :=
  [⟨Rect.unit (s := S4x256x256) ![3, 0, 0] ![1, 256, 256] inb_S4x256x256_S1x256x256_3_0_0, k0_pay22 (k0_pay21 (dpeT z) z.p (View.ld acc (Rect.unit ![3, 0, 0] ![1, 256, 256] inb_S4x256x256_S1x256x256_3_0_0)))⟩,
   ⟨Rect.unit (s := S4x256x256) ![2, 0, 0] ![1, 256, 256] inb_S4x256x256_S1x256x256_2_0_0, k0_pay20 (dpeT z) z.p (View.ld acc (Rect.unit ![2, 0, 0] ![1, 256, 256] inb_S4x256x256_S1x256x256_2_0_0))⟩,
   ⟨Rect.unit (s := S4x256x256) ![1, 0, 0] ![1, 256, 256] inb_S4x256x256_S1x256x256_1_0_0, k0_pay19 (dpeT z) z.p (View.ld acc (Rect.unit ![1, 0, 0] ![1, 256, 256] inb_S4x256x256_S1x256x256_1_0_0))⟩,
   ⟨Rect.unit (s := S4x256x256) ![0, 0, 0] ![1, 256, 256] inb_S4x256x256_S1x256x256_0_0_0, k0_pay18 (dpeT z) z.p (View.ld acc (Rect.unit ![0, 0, 0] ![1, 256, 256] inb_S4x256x256_S1x256x256_0_0_0))⟩]

/-- The stores of the gate's weight gradient. -/
def list7 (acc : IV S1024x1024 .f32) : List (View.Piece (Elt Ideal) S1024x1024 .f32) := [⟨Rect.unit (s := S1024x1024) ![0, 0] ![1024, 1024] inb_S1024x1024_S1024x1024_0_0, vG z acc⟩]

/-- The stores of the gate's bias gradient. -/
def list8 (acc : IV S1x1024 .f32) : List (View.Piece (Elt Ideal) S1x1024 .f32) := [⟨Rect.unit (s := S1x1024) ![0, 0] ![1, 1024] inb_S1x1024_S1x1024_0_0, vB z acc⟩]

/-- The stores of the norm's gradient. -/
def list9 (acc : IV S1x1024 .f32) : List (View.Piece (Elt Ideal) S1x1024 .f32) := [⟨Rect.unit (s := S1x1024) ![0, 0] ![1, 1024] inb_S1x1024_S1x1024_0_0, vN z acc⟩]

/-- The zeros each accumulator is filled with at the first step. -/
def fill6 : List (View.Piece (Elt Ideal) S4x256x256 .f32) := [⟨Rect.unit (s := S4x256x256) ![0, 0, 0] ![4, 256, 256] inb_S4x256x256_S4x256x256_0_0_0, k0_pay3 (F := Ideal)⟩]
def fill7 : List (View.Piece (Elt Ideal) S1024x1024 .f32) := [⟨Rect.unit (s := S1024x1024) ![0, 0] ![1024, 1024] inb_S1024x1024_S1024x1024_0_0, k0_pay4 (F := Ideal)⟩]
def fill8 : List (View.Piece (Elt Ideal) S1x1024 .f32) := [⟨Rect.unit (s := S1x1024) ![0, 0] ![1, 1024] inb_S1x1024_S1x1024_0_0, k0_pay5 (F := Ideal)⟩]
def fill9 : List (View.Piece (Elt Ideal) S1x1024 .f32) := [⟨Rect.unit (s := S1x1024) ![0, 0] ![1, 1024] inb_S1x1024_S1x1024_0_0, k0_pay6 (F := Ideal)⟩]

end Cert.KernelPleIdeal.Pl
-- ==== Proof.Ffn.PlePieces.lean ====
/- The stores of each case of the step are the common lists. -/
module

public import proofs.«01_k».proof.Proof.Gen.KernelPleIdeal.Frame.RunA
public import proofs.«01_k».proof.Proof.Gen.KernelPleIdeal.Frame.RunB
public import proofs.«01_k».proof.Proof.Ffn.PleStep
public import Idealize.ShloMosaic.Lib.Pipeline.ReadBack

@[expose] public section

set_option maxRecDepth 16384

noncomputable section

namespace Cert.KernelPleIdeal.Pl

open Cert.KernelPleIdeal Cert.KernelPleIdeal.Gen Idealize.ShloMosaic Idealize.ShloMosaic.ValueIdx Idealize.ShloMosaic.TcCoe Idealize.ShloMosaic.Tactic Idealize.SL.Sem

theorem hz2 : (![0, 0] : Fin 2 → Nat) = fun _ => 0 := by decide
theorem hz3 : (![0, 0, 0] : Fin 3 → Nat) = fun _ => 0 := by decide

theorem readCov_whole {κ : Kind} {sp : Space} {s : Shape} {e : EltTy} (v : View sig κ sp s e) (w : s.Idx → Elt Ideal e) (L : List (View.Piece (Elt Ideal) s e))
    (r : Rect s) : v.readCov (⟨Rect.whole s, w⟩ :: L) r.toLoadRect = View.ld w r :=
  View.readCov_fill v (off := fun _ => 0) _ w L r fun _ => rfl

theorem readCov_ld {κ : Kind} {sp : Space} {s : Shape} {e : EltTy} (v : View sig κ sp s e) (L : List (View.Piece (Elt Ideal) s e))
    (r : Rect s) : v.readCov L r.toLoadRect = View.ld (View.canon L) r :=
  View.readCov_eq_canon' v L r

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x512x256 .f32) (harg3 : arg3.IsWhole) (arg4 : Memref sig .tc .vmem S512x1024 .bf16) (harg4 : arg4.IsWhole) (arg5 : Memref sig .tc .vmem S1x1024 .f32) (harg5 : arg5.IsWhole) (arg8 : Memref sig .tc .vmem S512x1024 .f32) (harg8 : arg8.IsWhole) (arg9 : Memref sig .tc .vmem S4x256x256 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S4x256x256 .bf16) (harg13 : arg13.IsWhole) (arg14 : Memref sig .tc .vmem S1024x1024 .bf16) (harg14 : arg14.IsWhole) (arg15 : Memref sig .tc .vmem S512x1024 .f32) (harg15 : arg15.IsWhole)
  (x0 : Vec Ideal S512x1024 .f32) (x1 : Vec Ideal S512x1024 .f32) (x2 : Vec Ideal S1x512x256 .f32) (x3 : Vec Ideal S512x1024 .bf16) (x4 : Vec Ideal S1x1024 .f32)
  (xo6 : Vec Ideal S4x256x256 .f32) (xo7 : Vec Ideal S1024x1024 .f32) (xo8 : Vec Ideal S1x1024 .f32) (xo9 : Vec Ideal S1x1024 .f32) (xs0 : Vec Ideal S4x256x256 .bf16) (xs1 : Vec Ideal S1024x1024 .bf16)
  (fh0 : HbBuf0 (F := Ideal) c hbM0_0) (fh1 : HbBuf0 (F := Ideal) c hbM0_1)

local notation "runA" => kernelRun0_A (F := Ideal) c i arg1 harg1 arg2 harg2 arg3 harg3 arg4 harg4 arg5 harg5 arg8 harg8 arg9 harg9 arg10 harg10 arg11 harg11 arg12 harg12 arg13 harg13 arg14 harg14 arg15 harg15
local notation "runB" => kernelRun0_B (F := Ideal) c i arg1 harg1 arg2 harg2 arg3 harg3 arg4 harg4 arg5 harg5 arg8 harg8 arg9 harg9 arg10 harg10 arg11 harg11 arg12 harg12 arg13 harg13 arg14 harg14 arg15 harg15
local notation "insA" => Ins.mk x0 x1 x2 x3 x4 (View.read (Elt Ideal) (View.whole main_v19) fh0) (View.read (Elt Ideal) (View.whole main_v22) fh1)
local notation "insB" => Ins.mk x0 x1 x2 x3 x4 xs0 xs1

set_option maxHeartbeats 4000000 in
theorem runB_5 (hc0 : ¬cond0_0 i) (hc1 : ¬cond0_1 i) : (runB hc0 hc1 x0 x1 x2 x3 x4 xo6 xo7 xo8 xo9 xs0 xs1 fh0 fh1).1 = list5 insB := by
  unfold kernelRun0_B list5
  dsimp only
  sl_unfold_words
  simp (config := {decide := true}) only [View.readAt_eq_ld, readCov_ld, harg1.read_unread, harg2.read_unread, harg3.read_unread, harg4.read_unread, harg5.read_unread, harg9.read_unread, harg10.read_unread, harg11.read_unread, harg12.read_unread, harg13.read_unread, harg14.read_unread,
    View.ld_unit_zero (S := S512x1024) hz2, View.ld_unit_zero (S := S1024x1024) hz2, View.ld_unit_zero (S := S1x1024) hz2, View.ld_unit_zero (S := S1x512x256) hz3, View.ld_unit_zero (S := S4x256x256) hz3, peT, lpe, gT, dpeT, vO, vG, vB, vN, List.cons_append, List.nil_append]

set_option maxHeartbeats 4000000 in
theorem runB_6 (hc0 : ¬cond0_0 i) (hc1 : ¬cond0_1 i) : (runB hc0 hc1 x0 x1 x2 x3 x4 xo6 xo7 xo8 xo9 xs0 xs1 fh0 fh1).2.1 = list6 insB xo6 := by
  unfold kernelRun0_B list6
  dsimp only
  sl_unfold_words
  simp (config := {decide := true}) only [View.readAt_eq_ld, readCov_ld, harg1.read_unread, harg2.read_unread, harg3.read_unread, harg4.read_unread, harg5.read_unread, harg9.read_unread, harg10.read_unread, harg11.read_unread, harg12.read_unread, harg13.read_unread, harg14.read_unread,
    View.ld_unit_zero (S := S512x1024) hz2, View.ld_unit_zero (S := S1024x1024) hz2, View.ld_unit_zero (S := S1x1024) hz2, View.ld_unit_zero (S := S1x512x256) hz3, View.ld_unit_zero (S := S4x256x256) hz3, peT, lpe, gT, dpeT, vO, vG, vB, vN, List.cons_append, List.nil_append]

set_option maxHeartbeats 4000000 in
theorem runB_7 (hc0 : ¬cond0_0 i) (hc1 : ¬cond0_1 i) : (runB hc0 hc1 x0 x1 x2 x3 x4 xo6 xo7 xo8 xo9 xs0 xs1 fh0 fh1).2.2.1 = list7 insB xo7 := by
  unfold kernelRun0_B list7
  dsimp only
  sl_unfold_words
  simp (config := {decide := true}) only [View.readAt_eq_ld, readCov_ld, harg1.read_unread, harg2.read_unread, harg3.read_unread, harg4.read_unread, harg5.read_unread, harg9.read_unread, harg10.read_unread, harg11.read_unread, harg12.read_unread, harg13.read_unread, harg14.read_unread,
    View.ld_unit_zero (S := S512x1024) hz2, View.ld_unit_zero (S := S1024x1024) hz2, View.ld_unit_zero (S := S1x1024) hz2, View.ld_unit_zero (S := S1x512x256) hz3, View.ld_unit_zero (S := S4x256x256) hz3, peT, lpe, gT, dpeT, vO, vG, vB, vN, List.cons_append, List.nil_append]

set_option maxHeartbeats 4000000 in
theorem runB_8 (hc0 : ¬cond0_0 i) (hc1 : ¬cond0_1 i) : (runB hc0 hc1 x0 x1 x2 x3 x4 xo6 xo7 xo8 xo9 xs0 xs1 fh0 fh1).2.2.2.1 = list8 insB xo8 := by
  unfold kernelRun0_B list8
  dsimp only
  sl_unfold_words
  simp (config := {decide := true}) only [View.readAt_eq_ld, readCov_ld, harg1.read_unread, harg2.read_unread, harg3.read_unread, harg4.read_unread, harg5.read_unread, harg9.read_unread, harg10.read_unread, harg11.read_unread, harg12.read_unread, harg13.read_unread, harg14.read_unread,
    View.ld_unit_zero (S := S512x1024) hz2, View.ld_unit_zero (S := S1024x1024) hz2, View.ld_unit_zero (S := S1x1024) hz2, View.ld_unit_zero (S := S1x512x256) hz3, View.ld_unit_zero (S := S4x256x256) hz3, peT, lpe, gT, dpeT, vO, vG, vB, vN, List.cons_append, List.nil_append]

set_option maxHeartbeats 4000000 in
theorem runB_9 (hc0 : ¬cond0_0 i) (hc1 : ¬cond0_1 i) : (runB hc0 hc1 x0 x1 x2 x3 x4 xo6 xo7 xo8 xo9 xs0 xs1 fh0 fh1).2.2.2.2.1 = list9 insB xo9 := by
  unfold kernelRun0_B list9
  dsimp only
  sl_unfold_words
  simp (config := {decide := true}) only [View.readAt_eq_ld, readCov_ld, harg1.read_unread, harg2.read_unread, harg3.read_unread, harg4.read_unread, harg5.read_unread, harg9.read_unread, harg10.read_unread, harg11.read_unread, harg12.read_unread, harg13.read_unread, harg14.read_unread,
    View.ld_unit_zero (S := S512x1024) hz2, View.ld_unit_zero (S := S1024x1024) hz2, View.ld_unit_zero (S := S1x1024) hz2, View.ld_unit_zero (S := S1x512x256) hz3, View.ld_unit_zero (S := S4x256x256) hz3, peT, lpe, gT, dpeT, vO, vG, vB, vN, List.cons_append, List.nil_append]

set_option maxHeartbeats 4000000 in
theorem runA_5 (hc0 : cond0_0 i) (hc1 : cond0_1 i) : (runA hc0 hc1 x0 x1 x2 x3 x4 fh0 fh1).1 = list5 insA := by
  unfold kernelRun0_A list5
  dsimp only
  sl_unfold_words
  simp (config := {decide := true}) only [↓View.readCov_skip, ↓View.readCov_fill, ↓readCov_whole, ReadAs.apply_same, View.readAt_eq_ld, readCov_ld, harg1.read_unread, harg2.read_unread, harg3.read_unread, harg4.read_unread, harg5.read_unread,
    View.ld_unit_zero (S := S512x1024) hz2, View.ld_unit_zero (S := S1024x1024) hz2, View.ld_unit_zero (S := S1x1024) hz2, View.ld_unit_zero (S := S1x512x256) hz3, View.ld_unit_zero (S := S4x256x256) hz3, peT, lpe, gT, dpeT, vO, vG, vB, vN, List.cons_append, List.nil_append]

set_option maxHeartbeats 4000000 in
theorem runA_6 (hc0 : cond0_0 i) (hc1 : cond0_1 i) : (runA hc0 hc1 x0 x1 x2 x3 x4 fh0 fh1).2.1 = list6 insA (k0_pay3 (F := Ideal)) ++ fill6 := by
  unfold kernelRun0_A list6 fill6
  dsimp only
  sl_unfold_words
  simp (config := {decide := true}) only [↓View.readCov_skip, ↓View.readCov_fill, ↓readCov_whole, ReadAs.apply_same, View.readAt_eq_ld, readCov_ld, harg1.read_unread, harg2.read_unread, harg3.read_unread, harg4.read_unread, harg5.read_unread,
    View.ld_unit_zero (S := S512x1024) hz2, View.ld_unit_zero (S := S1024x1024) hz2, View.ld_unit_zero (S := S1x1024) hz2, View.ld_unit_zero (S := S1x512x256) hz3, View.ld_unit_zero (S := S4x256x256) hz3, peT, lpe, gT, dpeT, vO, vG, vB, vN, List.cons_append, List.nil_append]

set_option maxHeartbeats 4000000 in
theorem runA_7 (hc0 : cond0_0 i) (hc1 : cond0_1 i) : (runA hc0 hc1 x0 x1 x2 x3 x4 fh0 fh1).2.2.1 = list7 insA (k0_pay4 (F := Ideal)) ++ fill7 := by
  unfold kernelRun0_A list7 fill7
  dsimp only
  sl_unfold_words
  simp (config := {decide := true}) only [↓View.readCov_skip, ↓View.readCov_fill, ↓readCov_whole, ReadAs.apply_same, View.readAt_eq_ld, readCov_ld, harg1.read_unread, harg2.read_unread, harg3.read_unread, harg4.read_unread, harg5.read_unread,
    View.ld_unit_zero (S := S512x1024) hz2, View.ld_unit_zero (S := S1024x1024) hz2, View.ld_unit_zero (S := S1x1024) hz2, View.ld_unit_zero (S := S1x512x256) hz3, View.ld_unit_zero (S := S4x256x256) hz3, peT, lpe, gT, dpeT, vO, vG, vB, vN, List.cons_append, List.nil_append]

set_option maxHeartbeats 4000000 in
theorem runA_8 (hc0 : cond0_0 i) (hc1 : cond0_1 i) : (runA hc0 hc1 x0 x1 x2 x3 x4 fh0 fh1).2.2.2.1 = list8 insA (k0_pay5 (F := Ideal)) ++ fill8 := by
  unfold kernelRun0_A list8 fill8
  dsimp only
  sl_unfold_words
  simp (config := {decide := true}) only [↓View.readCov_skip, ↓View.readCov_fill, ↓readCov_whole, ReadAs.apply_same, View.readAt_eq_ld, readCov_ld, harg1.read_unread, harg2.read_unread, harg3.read_unread, harg4.read_unread, harg5.read_unread,
    View.ld_unit_zero (S := S512x1024) hz2, View.ld_unit_zero (S := S1024x1024) hz2, View.ld_unit_zero (S := S1x1024) hz2, View.ld_unit_zero (S := S1x512x256) hz3, View.ld_unit_zero (S := S4x256x256) hz3, peT, lpe, gT, dpeT, vO, vG, vB, vN, List.cons_append, List.nil_append]

set_option maxHeartbeats 4000000 in
theorem runA_9 (hc0 : cond0_0 i) (hc1 : cond0_1 i) : (runA hc0 hc1 x0 x1 x2 x3 x4 fh0 fh1).2.2.2.2.1 = list9 insA (k0_pay6 (F := Ideal)) ++ fill9 := by
  unfold kernelRun0_A list9 fill9
  dsimp only
  sl_unfold_words
  simp (config := {decide := true}) only [↓View.readCov_skip, ↓View.readCov_fill, ↓readCov_whole, ReadAs.apply_same, View.readAt_eq_ld, readCov_ld, harg1.read_unread, harg2.read_unread, harg3.read_unread, harg4.read_unread, harg5.read_unread,
    View.ld_unit_zero (S := S512x1024) hz2, View.ld_unit_zero (S := S1024x1024) hz2, View.ld_unit_zero (S := S1x1024) hz2, View.ld_unit_zero (S := S1x512x256) hz3, View.ld_unit_zero (S := S4x256x256) hz3, peT, lpe, gT, dpeT, vO, vG, vB, vN, List.cons_append, List.nil_append]

end

end Cert.KernelPleIdeal.Pl
-- ==== Proof.Ffn.PleSem.lean ====
/- The backward pass of the per-layer embeddings: what each store of a step leaves, at an index. -/
module

public import proofs.«01_k».proof.Proof.Ffn.PleStep
public import proofs.«01_k».proof.Proof.Ffn.Sem
public import proofs.«01_k».proof.Proof.Ffn.Sums
public import proofs.«01_k».proof.Proof.Ffn.FwdGate
public import Idealize.ShloMosaic.Lib.ValueLayout
public import Idealize.ShloMosaic.Lib.Pipeline.ReadBack
public import Idealize.ShloMosaic.Lib.Pipeline.ValueKit.Tiles

@[expose] public section

set_option maxRecDepth 16384

noncomputable section

namespace Cert.KernelPleIdeal.Pl

open Cert.KernelPleIdeal Cert.KernelPleIdeal.Gen Idealize.ShloMosaic Idealize.ShloMosaic.ValueIdx Idealize.SL.Sem
open scoped BigOperators
open Cert.KernelIdeal.Blk (ld2 ld3 piece2 piece3)
open Cert.KernelFwdIdeal.Fw (sg rs)

/-! ## Layout and reductions -/

theorem sc_self {S : Shape} {α : Type} (x : S.Idx → α) (h : S.ShapeCasts S) (j : S.Idx) : shapeCast S x h j = x j :=
  shapeCast_apply x h j j rfl

theorem row_bcast (x : FVec Ideal S1x1024 .f32) (r : Fin 512) (k : Fin 1024) :
    broadcastTo S512x1024 x broadcasts_S1x1024_S512x1024 (ix2 r k) = x (ix2 0 k) :=
  broadcastTo_apply x broadcasts_S1x1024_S512x1024 (ix2 r k) (ix2 0 k) fun a => by
    match a with
    | ⟨0, _⟩ => rfl
    | ⟨1, _⟩ => rfl

theorem col_bcast (x : FVec Ideal S512x1 .f32) (r : Fin 512) (k : Fin 1024) :
    broadcastTo S512x1024 x broadcasts_S512x1_S512x1024 (ix2 r k) = x (ix2 r 0) :=
  broadcastTo_apply x broadcasts_S512x1_S512x1024 (ix2 r k) (ix2 r 0) fun a => by
    match a with
    | ⟨0, _⟩ => rfl
    | ⟨1, _⟩ => rfl

/-- A row sum, kept as a column. -/
theorem rowsum (v : FVec Ideal S512x1024 .f32) (r : Fin 512) :
    shapeCast S512x1 (multiReduction .add [1] S512 v 0x00000000#32 reduces_S512x1024_S512 (.inl rfl) rfl) shapeCasts_S512_S512x1
      (ix2 r 0) = ∑ k : Fin 1024, v (ix2 r k) := by
  refine (shapeCast_apply _ shapeCasts_S512_S512x1 (ix2 r 0) (ix1 r) (by simp [Shape.rowMajor_val_two, Shape.rowMajor_val_one])).trans ?_
  refine (Ideal.multiReduction_add_single v _ reduces_S512x1024_S512 (.inl rfl) rfl (ix1 r)).trans ?_
  exact Finset.sum_congr rfl fun k _ => congrArg v (funext fun a => Fin.ext (by match a with | ⟨0, _⟩ => rfl | ⟨1, _⟩ => rfl))

/-- A column sum, kept as a row. -/
theorem colsum (v : FVec Ideal S512x1024 .f32) (u : Fin 1) (q : Fin 1024) :
    shapeCast S1x1024 (multiReduction .add [0] S1024 v 0x00000000#32 reduces_S512x1024_S1024 (.inl rfl) rfl) shapeCasts_S1024_S1x1024
      (ix2 u q) = ∑ r : Fin 512, v (ix2 r q) := by
  refine (shapeCast_apply _ shapeCasts_S1024_S1x1024 (ix2 u q) (ix1 q) (by have := u.isLt; simp [Shape.rowMajor_val_two, Shape.rowMajor_val_one])).trans ?_
  refine (Ideal.multiReduction_add_single v _ reduces_S512x1024_S1024 (.inl rfl) rfl (ix1 q)).trans ?_
  exact Finset.sum_congr rfl fun k _ => congrArg v (funext fun a => Fin.ext (by match a with | ⟨0, _⟩ => rfl | ⟨1, _⟩ => rfl))

theorem dot_p (x0 : FVec Ideal S512x256 .bf16) (x1 : FVec Ideal S512x256 .bf16) (acc : FVec Ideal S256x256 .f32) (k q : Fin 256) :
    matmul (F := Ideal) dot_S512x256_S512x256_S256x256_0_0_1_1_n_n none x0 x1 acc (ix2 k q)
      = acc (ix2 k q) + ∑ r : Fin 512, x0 (ix2 r k) * x1 (ix2 r q) := by
  refine Cert.Sums.columns_apply dot_S512x256_S512x256_S256x256_0_0_1_1_n_n none rfl rfl x0 x1 acc k q (fun r => ?_) (fun r => ?_)
  · have hk := contrEquiv1_symm_val dot_S512x256_S512x256_S256x256_0_0_1_1_n_n 512 rfl rfl r
    funext a; apply Fin.ext
    match a with
    | ⟨0, _⟩ => exact hk
    | ⟨1, _⟩ => rfl
  · have hk := contrEquiv1_symm_val dot_S512x256_S512x256_S256x256_0_0_1_1_n_n 512 rfl rfl r
    funext a; apply Fin.ext
    match a with
    | ⟨0, _⟩ => exact hk
    | ⟨1, _⟩ => rfl

theorem dot_g (x0 : FVec Ideal S512x1024 .bf16) (x1 : FVec Ideal S512x1024 .bf16) (acc : FVec Ideal S1024x1024 .f32) (k q : Fin 1024) :
    matmul (F := Ideal) dot_S512x1024_S512x1024_S1024x1024_0_0_1_1_n_n none x0 x1 acc (ix2 k q)
      = acc (ix2 k q) + ∑ r : Fin 512, x0 (ix2 r k) * x1 (ix2 r q) := by
  refine Cert.Sums.columns_apply dot_S512x1024_S512x1024_S1024x1024_0_0_1_1_n_n none rfl rfl x0 x1 acc k q (fun r => ?_) (fun r => ?_)
  · have hk := contrEquiv1_symm_val dot_S512x1024_S512x1024_S1024x1024_0_0_1_1_n_n 512 rfl rfl r
    funext a; apply Fin.ext
    match a with
    | ⟨0, _⟩ => exact hk
    | ⟨1, _⟩ => rfl
  · have hk := contrEquiv1_symm_val dot_S512x1024_S512x1024_S1024x1024_0_0_1_1_n_n 512 rfl rfl r
    funext a; apply Fin.ext
    match a with
    | ⟨0, _⟩ => exact hk
    | ⟨1, _⟩ => rfl

/-! ## The step's values at an index -/

variable (z : Ins)

/-- The normalized input. -/
def xh (r : Fin 512) (k : Fin 1024) : EReal := z.h (ix2 r k) * rs (fun j => z.h (ix2 r j))

/-- The normed input. -/
def xg (r : Fin 512) (k : Fin 1024) : EReal := xh z r k * z.n (ix2 0 k)

/-- The gate. -/
def gt (r : Fin 512) (q : Fin 1024) : EReal := sg (z.a (ix2 r q))

/-- The projected embeddings. -/
def pe (r : Fin 512) (q : Fin 1024) : EReal :=
  ∑ k : Fin 256, z.p (ix3 0 r k) * z.wp (ix3 ⟨q.val / 256, by omega⟩ k ⟨q.val % 256, by omega⟩)

/-- The gradient of the projected embeddings. -/
def dp (r : Fin 512) (q : Fin 1024) : EReal := z.d (ix2 r q) * gt z r q

/-- The gradient of the gate's argument. -/
def da (r : Fin 512) (q : Fin 1024) : EReal :=
  z.d (ix2 r q) * pe z r q * (gt z r q * (Ideal.ofBits .f32 0x3F800000#32 - gt z r q))

/-- The gradient of the normed input. -/
def dx (r : Fin 512) (k : Fin 1024) : EReal := ∑ q : Fin 1024, da z r q * z.wg (ix2 k q)

/-- The gradient of the input. -/
def ot (r : Fin 512) (k : Fin 1024) : EReal :=
  z.d (ix2 r k) + rs (fun j => z.h (ix2 r j)) * (dx z r k * z.n (ix2 0 k)
    - xh z r k * Ideal.div (∑ j : Fin 1024, dx z r j * z.n (ix2 0 j) * xh z r j) (Ideal.ofBits .f32 0x44800000#32))

theorem pay7_apply (r : Fin 512) : k0_pay7 z.h (ix2 r 0) = rs (fun j => z.h (ix2 r j)) := by
  unfold k0_pay7
  try dsimp only
  show Ideal.rsqrt (Ideal.div (shapeCast S512x1 _ _ (ix2 r 0)) _ + _) = _
  rw [rowsum]
  rfl

theorem pay8_apply (r : Fin 512) (k : Fin 1024) : k0_pay8 z.h (ix2 r k) = xh z r k := by
  unfold k0_pay8
  try dsimp only
  rw [mulf_apply, col_bcast, pay7_apply]
  rfl

theorem pay9_apply (r : Fin 512) (k : Fin 1024) : k0_pay9 z.h z.n (ix2 r k) = xg z r k := by
  unfold k0_pay9
  try dsimp only
  rw [truncf_apply, mulf_apply, row_bcast, sc_self, pay8_apply]
  rfl

theorem gT_apply (r : Fin 512) (q : Fin 1024) : gT z (ix2 r q) = gt z r q := by
  unfold gT k0_pay10
  try dsimp only
  show Ideal.ofBits .f32 0x3F000000#32 * Ideal.tanh (Ideal.ofBits .f32 0x3F000000#32 * shapeCast S512x1024 z.a _ (ix2 r q)) + Ideal.ofBits .f32 0x3F000000#32 = _
  rw [sc_self]
  rfl

theorem dpeT_apply (r : Fin 512) (q : Fin 1024) : dpeT z (ix2 r q) = dp z r q := by
  unfold dpeT k0_pay16
  try dsimp only
  rw [truncf_apply, mulf_apply, gT_apply]
  rfl

/-- One block of the projected embeddings. -/
theorem blk_apply (w : IV S1x256x256 .bf16) (r : Fin 512) (q : Fin 256) :
    k0_pay15 (k0_pay11 z.p) w (ix2 r q) = ∑ k : Fin 256, z.p (ix3 0 r k) * w (ix3 0 k q) := by
  unfold k0_pay15
  try dsimp only
  rw [sc_self]
  refine (Ideal.matmul_plain_apply none (k0_pay11 z.p) (shapeCast S256x256 w shapeCasts_S1x256x256_S256x256) (constant S512x256 .f32 0x00000000#32) r q).trans ?_
  rw [constant_apply, Ideal.ofBits_zero_f32, zero_add]
  refine Finset.sum_congr rfl fun k _ => congrArg₂ (· * ·) ?_ (shapeCast_1ab_ab_apply w _ k q)
  exact shapeCast_1ab_ab_apply z.p shapeCasts_S1x512x256_S512x256 r k

theorem blk_pe (j : ℕ) (inb : ∀ d, (![j, 0, 0] : Fin 3 → ℕ) d + (![1, 256, 256] : Fin 3 → ℕ) d ≤ S4x256x256.size d) (r r' : Fin 512) (q : Fin 256) (q' : Fin 1024)
    (hr : r' = r) (hq : q'.val = 256 * j + q.val) :
    k0_pay15 (k0_pay11 z.p) (View.ld z.wp (Rect.unit (s := S4x256x256) ![j, 0, 0] ![1, 256, 256] inb)) (ix2 r q) = pe z r' q' := by
  subst hr
  have hj : j < 4 := by have h : j + 1 ≤ 4 := inb 0; omega
  rw [blk_apply]
  refine Finset.sum_congr rfl fun k _ => congrArg (_ * ·) ?_
  refine (ld3 z.wp j 0 0 inb 0 k q (by have h : j + 1 ≤ 4 := inb 0; exact h) (by omega) (by omega)).trans (congrArg z.wp ?_)
  funext a; apply Fin.ext
  match a with
  | ⟨0, _⟩ => show j + 0 = q'.val / 256; omega
  | ⟨1, _⟩ => exact Nat.zero_add _
  | ⟨2, _⟩ => show 0 + q.val = q'.val % 256; omega

theorem peT_apply (r : Fin 512) (q : Fin 1024) : peT z (ix2 r q) = pe z r q := by
  unfold peT
  refine (congrArg (fun l => View.canon l (ix2 r q)) (List.append_nil _).symm).trans ?_
  refine View.canon_append_of_piecesOf (fun y : S512x1024.Idx => pe z (y 0) (y 1)) [] (lpe z) ?_ (ix2 r q) ?_
  · refine ⟨?_, ?_, ?_, ?_, trivial⟩
    · exact piece2 (m := 512) (n := 1024) (a := 512) (b := 256) (e := .f32) (pe z) 0 768 inb_S512x1024_S512x256_0_768 _ fun r q hr hq => blk_pe z 3 inb_S4x256x256_S1x256x256_3_0_0 r _ q _ (Fin.ext (Nat.zero_add _)) rfl
    · exact piece2 (m := 512) (n := 1024) (a := 512) (b := 256) (e := .f32) (pe z) 0 512 inb_S512x1024_S512x256_0_512 _ fun r q hr hq => blk_pe z 2 inb_S4x256x256_S1x256x256_2_0_0 r _ q _ (Fin.ext (Nat.zero_add _)) rfl
    · exact piece2 (m := 512) (n := 1024) (a := 512) (b := 256) (e := .f32) (pe z) 0 256 inb_S512x1024_S512x256_0_256 _ fun r q hr hq => blk_pe z 1 inb_S4x256x256_S1x256x256_1_0_0 r _ q _ (Fin.ext (Nat.zero_add _)) rfl
    · exact piece2 (m := 512) (n := 1024) (a := 512) (b := 256) (e := .f32) (pe z) 0 0 inb_S512x1024_S512x256_0_0 _ fun r q hr hq => blk_pe z 0 inb_S4x256x256_S1x256x256_0_0_0 r _ q _ (Fin.ext (Nat.zero_add _)) rfl
  · have hq := q.isLt
    rcases (show q.val / 256 = 3 ∨ q.val / 256 = 2 ∨ q.val / 256 = 1 ∨ q.val / 256 = 0 by omega) with h | h | h | h
    · exact ⟨(lpe z)[0]'(by show 0 < 4; decide), List.getElem_mem _, (Rect.mem_set_unit (inb := inb_S512x1024_S512x256_0_768)).mpr fun a => by
        match a with
        | ⟨0, _⟩ => exact ⟨Nat.zero_le _, by simpa using r.isLt⟩
        | ⟨1, _⟩ => exact ⟨by show 768 ≤ q.val; omega, by show q.val < 768 + 256; omega⟩⟩
    · exact ⟨(lpe z)[1]'(by show 1 < 4; decide), List.getElem_mem _, (Rect.mem_set_unit (inb := inb_S512x1024_S512x256_0_512)).mpr fun a => by
        match a with
        | ⟨0, _⟩ => exact ⟨Nat.zero_le _, by simpa using r.isLt⟩
        | ⟨1, _⟩ => exact ⟨by show 512 ≤ q.val; omega, by show q.val < 512 + 256; omega⟩⟩
    · exact ⟨(lpe z)[2]'(by show 2 < 4; decide), List.getElem_mem _, (Rect.mem_set_unit (inb := inb_S512x1024_S512x256_0_256)).mpr fun a => by
        match a with
        | ⟨0, _⟩ => exact ⟨Nat.zero_le _, by simpa using r.isLt⟩
        | ⟨1, _⟩ => exact ⟨by show 256 ≤ q.val; omega, by show q.val < 256 + 256; omega⟩⟩
    · exact ⟨(lpe z)[3]'(by show 3 < 4; decide), List.getElem_mem _, (Rect.mem_set_unit (inb := inb_S512x1024_S512x256_0_0)).mpr fun a => by
        match a with
        | ⟨0, _⟩ => exact ⟨Nat.zero_le _, by simpa using r.isLt⟩
        | ⟨1, _⟩ => exact ⟨by show 0 ≤ q.val; omega, by show q.val < 0 + 256; omega⟩⟩

theorem pay23_apply (r : Fin 512) (q : Fin 1024) : k0_pay23 z.d (gT z) (peT z) (ix2 r q) = da z r q := by
  unfold k0_pay23
  try dsimp only
  rw [mulf_apply, mulf_apply, mulf_apply, subf_apply, gT_apply, peT_apply]
  rfl

theorem pay26_apply (r : Fin 512) (k : Fin 1024) : k0_pay26 z.d (gT z) (peT z) z.wg (ix2 r k) = dx z r k := by
  unfold k0_pay26
  try dsimp only
  refine (Ideal.matmul_transposedRhs_apply none (k0_pay24 z.d (gT z) (peT z)) z.wg (constant S512x1024 .f32 0x00000000#32) r k).trans ?_
  rw [constant_apply, Ideal.ofBits_zero_f32, zero_add]
  exact Finset.sum_congr rfl fun q _ => congrArg (· * _) (pay23_apply z r q)

theorem pay28_apply (r : Fin 512) (k : Fin 1024) : k0_pay28 z.d (gT z) (peT z) z.wg z.n (ix2 r k) = dx z r k * z.n (ix2 0 k) := by
  unfold k0_pay28
  try dsimp only
  rw [mulf_apply, row_bcast, sc_self, pay26_apply]

theorem pay30_apply (r : Fin 512) (k : Fin 1024) : k0_pay30 z.d (k0_pay8 z.h) (gT z) (peT z) z.wg z.n (ix2 r k)
    = Ideal.div (∑ j : Fin 1024, dx z r j * z.n (ix2 0 j) * xh z r j) (Ideal.ofBits .f32 0x44800000#32) := by
  unfold k0_pay30
  try dsimp only
  rw [col_bcast]
  show Ideal.div (shapeCast S512x1 _ _ (ix2 r 0)) _ = _
  rw [rowsum]
  refine congrArg₂ Ideal.div (Finset.sum_congr rfl fun j _ => ?_) rfl
  rw [mulf_apply, pay28_apply, pay8_apply]

theorem vO_apply (r : Fin 512) (k : Fin 1024) : vO z (ix2 r k) = ot z r k := by
  unfold vO k0_pay2
  try dsimp only
  rw [addf_apply, mulf_apply, col_bcast, subf_apply, mulf_apply, pay7_apply, pay28_apply, pay8_apply, pay30_apply]
  rfl

/-! ## What each accumulator holds after the step -/

def left6 (acc : IV S4x256x256 .f32) : IV S4x256x256 .f32 := fun i =>
  acc i + ∑ r : Fin 512, z.p (ix3 0 r (i 1)) * dp z r ⟨256 * (i 0).val + (i 2).val, by have h0 : (i 0).val < 4 := (i 0).isLt; have h2 : (i 2).val < 256 := (i 2).isLt; omega⟩

def left7 (acc : IV S1024x1024 .f32) : IV S1024x1024 .f32 := fun i => acc i + ∑ r : Fin 512, xg z r (i 0) * da z r (i 1)

def left8 (acc : IV S1x1024 .f32) : IV S1x1024 .f32 := fun i => acc i + ∑ r : Fin 512, da z r (i 1)

def left9 (acc : IV S1x1024 .f32) : IV S1x1024 .f32 := fun i => acc i + ∑ r : Fin 512, dx z r (i 1) * xh z r (i 1)

theorem vG_eq (acc : IV S1024x1024 .f32) : vG z acc = left7 z acc := by
  suffices h : ∀ (p : Fin 1024) (q : Fin 1024), vG z acc (ix2 p q) = left7 z acc (ix2 p q) from
    funext fun i => (congrArg _ (eq_ix2 i)).trans ((h (i 0) (i 1)).trans (congrArg _ (eq_ix2 i).symm))
  intro p q
  unfold vG k0_pay27
  try dsimp only
  rw [addf_apply, sc_self, dot_g, constant_apply, Ideal.ofBits_zero_f32, zero_add]
  refine congrArg (acc _ + ·) (Finset.sum_congr rfl fun r _ => congrArg₂ (· * ·) (pay9_apply z r _) (pay23_apply z r _))

theorem vB_eq (acc : IV S1x1024 .f32) : vB z acc = left8 z acc := by
  suffices h : ∀ (p : Fin 1) (q : Fin 1024), vB z acc (ix2 p q) = left8 z acc (ix2 p q) from
    funext fun i => (congrArg _ (eq_ix2 i)).trans ((h (i 0) (i 1)).trans (congrArg _ (eq_ix2 i).symm))
  intro p q
  unfold vB k0_pay25
  try dsimp only
  rw [addf_apply, sc_self, colsum]
  refine congrArg (acc _ + ·) (Finset.sum_congr rfl fun r _ => pay23_apply z r _)

theorem vN_eq (acc : IV S1x1024 .f32) : vN z acc = left9 z acc := by
  suffices h : ∀ (p : Fin 1) (q : Fin 1024), vN z acc (ix2 p q) = left9 z acc (ix2 p q) from
    funext fun i => (congrArg _ (eq_ix2 i)).trans ((h (i 0) (i 1)).trans (congrArg _ (eq_ix2 i).symm))
  intro p q
  unfold vN k0_pay1 k0_pay29
  try dsimp only
  rw [addf_apply, sc_self, colsum]
  refine congrArg (acc _ + ·) (Finset.sum_congr rfl fun r _ => ?_)
  rw [mulf_apply, pay26_apply, pay8_apply]

/-- One block of the projection's gradient. -/
theorem slab (j o : ℕ) (hs : S512x1024.Slices ![0, o] S512x256) (w : IV S1x256x256 .f32) (u : Fin 1) (k q : Fin 256) (ho : o + q.val < 1024) :
    shapeCast S1x256x256 (addf (F := Ideal) (φ := .f32) (shapeCast S256x256 w shapeCasts_S1x256x256_S256x256)
      (matmul dot_S512x256_S512x256_S256x256_0_0_1_1_n_n none (k0_pay17 z.p) (extractStridedSlice S512x256 ![0, o] (dpeT z) hs) (constant S256x256 .f32 0x00000000#32)))
      shapeCasts_S256x256_S1x256x256 (ix3 u k q)
      = w (ix3 0 k q) + ∑ r : Fin 512, z.p (ix3 0 r k) * dp z r ⟨o + q.val, ho⟩ := by
  rw [shapeCast_ab_1ab_apply, addf_apply, shapeCast_1ab_ab_apply, dot_p, constant_apply, Ideal.ofBits_zero_f32, zero_add]
  refine congrArg (w (ix3 0 k q) + ·) (Finset.sum_congr rfl fun r _ => congrArg₂ (· * ·) (shapeCast_1ab_ab_apply z.p shapeCasts_S1x512x256_S512x256 r k) ?_)
  refine (extractStridedSlice_apply ![0, o] (dpeT z) hs (ix2 r q) (ix2 r ⟨o + q.val, ho⟩) fun a => ?_).trans (dpeT_apply z r _)
  match a with
  | ⟨0, _⟩ => exact (Nat.zero_add _).symm
  | ⟨1, _⟩ => rfl

theorem slab_left (j o : ℕ) (hj : j < 4) (ho : o = 256 * j) (hs : S512x1024.Slices ![0, o] S512x256) (acc : IV S4x256x256 .f32)
    (inb : ∀ d, (![j, 0, 0] : Fin 3 → ℕ) d + (![1, 256, 256] : Fin 3 → ℕ) d ≤ S4x256x256.size d) (u : Fin 1) (k q : Fin 256)
    (h0 : j + u.val < 4) (h1 : 0 + k.val < 256) (h2 : 0 + q.val < 256) :
    shapeCast S1x256x256 (addf (F := Ideal) (φ := .f32) (shapeCast S256x256 (View.ld acc (Rect.unit (s := S4x256x256) ![j, 0, 0] ![1, 256, 256] inb)) shapeCasts_S1x256x256_S256x256)
      (matmul dot_S512x256_S512x256_S256x256_0_0_1_1_n_n none (k0_pay17 z.p) (extractStridedSlice S512x256 ![0, o] (dpeT z) hs) (constant S256x256 .f32 0x00000000#32)))
      shapeCasts_S256x256_S1x256x256 (ix3 u k q)
      = left6 z acc (ix3 ⟨j + u.val, h0⟩ ⟨0 + k.val, h1⟩ ⟨0 + q.val, h2⟩) := by
  have hu : u = 0 := Subsingleton.elim _ _
  subst hu
  rw [slab z j o hs _ 0 k q (by have := q.isLt; omega)]
  unfold left6
  refine congrArg₂ (· + ·) (ld3 acc j 0 0 inb 0 k q h0 h1 h2) (Finset.sum_congr rfl fun r _ => congrArg₂ (· * ·) (congrArg z.p ?_) (congrArg (dp z r) (Fin.ext ?_)))
  · exact congrArg (ix3 0 r) (Fin.ext (Nat.zero_add _).symm)
  · show o + q.val = 256 * (j + 0) + (0 + q.val)
    omega

theorem canon6 (acc : IV S4x256x256 .f32) (L : List (View.Piece (Elt Ideal) S4x256x256 .f32)) : View.canon (list6 z acc ++ L) = left6 z acc := by
  suffices h : ∀ (b : Fin 4) (k q : Fin 256), View.canon (list6 z acc ++ L) (ix3 b k q) = left6 z acc (ix3 b k q) from
    funext fun i => (congrArg _ (eq_ix3 i)).trans ((h (i 0) (i 1) (i 2)).trans (congrArg _ (eq_ix3 i).symm))
  intro b k q
  refine (View.canon_append_of_piecesOf (fun y : S4x256x256.Idx => (fun (b : Fin 4) (k q : Fin 256) => left6 z acc (ix3 b k q)) (y 0) (y 1) (y 2)) L (list6 z acc) ?_ (ix3 b k q) ?_).trans rfl
  · refine ⟨?_, ?_, ?_, ?_, trivial⟩
    · exact piece3 (l := 4) (m := 256) (n := 256) (a := 1) (b := 256) (c := 256) (e := .f32) (fun (b : Fin 4) (k q : Fin 256) => left6 z acc (ix3 b k q)) 3 0 0 inb_S4x256x256_S1x256x256_3_0_0 _ fun u k q hu hk hq => slab_left z 3 768 (by decide) rfl slices_S512x1024_o0_768_S512x256 acc inb_S4x256x256_S1x256x256_3_0_0 u k q hu hk hq
    · exact piece3 (l := 4) (m := 256) (n := 256) (a := 1) (b := 256) (c := 256) (e := .f32) (fun (b : Fin 4) (k q : Fin 256) => left6 z acc (ix3 b k q)) 2 0 0 inb_S4x256x256_S1x256x256_2_0_0 _ fun u k q hu hk hq => slab_left z 2 512 (by decide) rfl slices_S512x1024_o0_512_S512x256 acc inb_S4x256x256_S1x256x256_2_0_0 u k q hu hk hq
    · exact piece3 (l := 4) (m := 256) (n := 256) (a := 1) (b := 256) (c := 256) (e := .f32) (fun (b : Fin 4) (k q : Fin 256) => left6 z acc (ix3 b k q)) 1 0 0 inb_S4x256x256_S1x256x256_1_0_0 _ fun u k q hu hk hq => slab_left z 1 256 (by decide) rfl slices_S512x1024_o0_256_S512x256 acc inb_S4x256x256_S1x256x256_1_0_0 u k q hu hk hq
    · exact piece3 (l := 4) (m := 256) (n := 256) (a := 1) (b := 256) (c := 256) (e := .f32) (fun (b : Fin 4) (k q : Fin 256) => left6 z acc (ix3 b k q)) 0 0 0 inb_S4x256x256_S1x256x256_0_0_0 _ fun u k q hu hk hq => slab_left z 0 0 (by decide) rfl slices_S512x1024_o0_0_S512x256 acc inb_S4x256x256_S1x256x256_0_0_0 u k q hu hk hq
  · match b with
    | 0 => exact ⟨(list6 z acc)[3]'(by show 3 < 4; decide), List.getElem_mem _, (Rect.mem_set_unit (inb := inb_S4x256x256_S1x256x256_0_0_0)).mpr fun a => by
        match a with
        | ⟨0, _⟩ => exact ⟨le_rfl, by show 0 < 0 + 1; omega⟩
        | ⟨1, _⟩ => exact ⟨Nat.zero_le _, by simpa using k.isLt⟩
        | ⟨2, _⟩ => exact ⟨Nat.zero_le _, by simpa using q.isLt⟩⟩
    | 1 => exact ⟨(list6 z acc)[2]'(by show 2 < 4; decide), List.getElem_mem _, (Rect.mem_set_unit (inb := inb_S4x256x256_S1x256x256_1_0_0)).mpr fun a => by
        match a with
        | ⟨0, _⟩ => exact ⟨le_rfl, by show 1 < 1 + 1; omega⟩
        | ⟨1, _⟩ => exact ⟨Nat.zero_le _, by simpa using k.isLt⟩
        | ⟨2, _⟩ => exact ⟨Nat.zero_le _, by simpa using q.isLt⟩⟩
    | 2 => exact ⟨(list6 z acc)[1]'(by show 1 < 4; decide), List.getElem_mem _, (Rect.mem_set_unit (inb := inb_S4x256x256_S1x256x256_2_0_0)).mpr fun a => by
        match a with
        | ⟨0, _⟩ => exact ⟨le_rfl, by show 2 < 2 + 1; omega⟩
        | ⟨1, _⟩ => exact ⟨Nat.zero_le _, by simpa using k.isLt⟩
        | ⟨2, _⟩ => exact ⟨Nat.zero_le _, by simpa using q.isLt⟩⟩
    | 3 => exact ⟨(list6 z acc)[0]'(by show 0 < 4; decide), List.getElem_mem _, (Rect.mem_set_unit (inb := inb_S4x256x256_S1x256x256_3_0_0)).mpr fun a => by
        match a with
        | ⟨0, _⟩ => exact ⟨le_rfl, by show 3 < 3 + 1; omega⟩
        | ⟨1, _⟩ => exact ⟨Nat.zero_le _, by simpa using k.isLt⟩
        | ⟨2, _⟩ => exact ⟨Nat.zero_le _, by simpa using q.isLt⟩⟩

theorem pay3_apply (i : S4x256x256.Idx) : k0_pay3 (F := Ideal) i = 0 := Ideal.ofBits_zero_f32
theorem pay4_apply (i : S1024x1024.Idx) : k0_pay4 (F := Ideal) i = 0 := Ideal.ofBits_zero_f32
theorem pay5_apply (i : S1x1024.Idx) : k0_pay5 (F := Ideal) i = 0 := Ideal.ofBits_zero_f32
theorem pay6_apply (i : S1x1024.Idx) : k0_pay6 (F := Ideal) i = 0 := Ideal.ofBits_zero_f32

end Cert.KernelPleIdeal.Pl

end
-- ==== Proof.Ffn.PleOuts.lean ====
/- The backward pass of the per-layer embeddings: what each point of the grid leaves. -/
module

public import proofs.«01_k».proof.Proof.Gen.KernelPleIdeal.Frame
public import proofs.«01_k».proof.Proof.Ffn.PlePieces
public import proofs.«01_k».proof.Proof.Ffn.PleSem

@[expose] public section

set_option maxRecDepth 16384

noncomputable section

namespace Cert.KernelPleIdeal.Pl

open Cert.KernelPleIdeal Cert.KernelPleIdeal.Gen Idealize.ShloMosaic Idealize.ShloMosaic.TcCoe Idealize.ShloMosaic.Tactic Idealize.SL.Sem
open scoped BigOperators

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x512x256 .f32) (harg3 : arg3.IsWhole) (arg4 : Memref sig .tc .vmem S512x1024 .bf16) (harg4 : arg4.IsWhole) (arg5 : Memref sig .tc .vmem S1x1024 .f32) (harg5 : arg5.IsWhole) (arg8 : Memref sig .tc .vmem S512x1024 .f32) (harg8 : arg8.IsWhole) (arg9 : Memref sig .tc .vmem S4x256x256 .f32) (harg9 : arg9.IsWhole) (arg10 : Memref sig .tc .vmem S1024x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S4x256x256 .bf16) (harg13 : arg13.IsWhole) (arg14 : Memref sig .tc .vmem S1024x1024 .bf16) (harg14 : arg14.IsWhole) (arg15 : Memref sig .tc .vmem S512x1024 .f32) (harg15 : arg15.IsWhole)
  (x0 : Vec Ideal S512x1024 .f32) (x1 : Vec Ideal S512x1024 .f32) (x2 : Vec Ideal S1x512x256 .f32) (x3 : Vec Ideal S512x1024 .bf16) (x4 : Vec Ideal S1x1024 .f32)
  (xo6 : Vec Ideal S4x256x256 .f32) (xo7 : Vec Ideal S1024x1024 .f32) (xo8 : Vec Ideal S1x1024 .f32) (xo9 : Vec Ideal S1x1024 .f32) (xs0 : Vec Ideal S4x256x256 .bf16) (xs1 : Vec Ideal S1024x1024 .bf16)
  (fh0 : HbBuf0 (F := Ideal) c hbM0_0) (fh1 : HbBuf0 (F := Ideal) c hbM0_1)

local notation "insA" => Ins.mk x0 x1 x2 x3 x4 (View.read (Elt Ideal) (View.whole main_v19) fh0) (View.read (Elt Ideal) (View.whole main_v22) fh1)
local notation "insB" => Ins.mk x0 x1 x2 x3 x4 xs0 xs1

theorem oA_5 (hc0 : cond0_0 i) (hc1 : cond0_1 i) : out0_A_5 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 fh0 fh1 = vO insA := by
  unfold out0_A_5
  rw [View.read_writes_junk_eq_canon, runA_5]
  exact View.canon_cons_unit_zero (S := S512x1024) hz2 _ _ _

theorem oA_6 (hc0 : cond0_0 i) (hc1 : cond0_1 i) : out0_A_6 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 fh0 fh1 = left6 insA (k0_pay3 (F := Ideal)) := by
  unfold out0_A_6
  rw [View.read_writes_junk_eq_canon, runA_6]
  exact canon6 _ _ _

theorem oA_7 (hc0 : cond0_0 i) (hc1 : cond0_1 i) : out0_A_7 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 fh0 fh1 = left7 insA (k0_pay4 (F := Ideal)) := by
  unfold out0_A_7
  rw [View.read_writes_junk_eq_canon, runA_7]
  exact (View.canon_cons_unit_zero (S := S1024x1024) hz2 _ _ _).trans (vG_eq _ _)

theorem oA_8 (hc0 : cond0_0 i) (hc1 : cond0_1 i) : out0_A_8 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 fh0 fh1 = left8 insA (k0_pay5 (F := Ideal)) := by
  unfold out0_A_8
  rw [View.read_writes_junk_eq_canon, runA_8]
  exact (View.canon_cons_unit_zero (S := S1x1024) hz2 _ _ _).trans (vB_eq _ _)

theorem oA_9 (hc0 : cond0_0 i) (hc1 : cond0_1 i) : out0_A_9 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 fh0 fh1 = left9 insA (k0_pay6 (F := Ideal)) := by
  unfold out0_A_9
  rw [View.read_writes_junk_eq_canon, runA_9]
  exact (View.canon_cons_unit_zero (S := S1x1024) hz2 _ _ _).trans (vN_eq _ _)

theorem oB_5 (hc0 : ¬cond0_0 i) (hc1 : ¬cond0_1 i) : out0_B_5 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 xo6 xo7 xo8 xo9 xs0 xs1 fh0 fh1 = vO insB := by
  unfold out0_B_5
  rw [View.read_writes_junk_eq_canon, runB_5]
  exact View.canon_cons_unit_zero (S := S512x1024) hz2 _ _ _

theorem oB_6 (hc0 : ¬cond0_0 i) (hc1 : ¬cond0_1 i) : out0_B_6 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 xo6 xo7 xo8 xo9 xs0 xs1 fh0 fh1 = left6 insB xo6 := by
  unfold out0_B_6
  rw [View.read_writes_junk_eq_canon, runB_6]
  exact (congrArg View.canon (List.append_nil _).symm).trans (canon6 _ _ [])

theorem oB_7 (hc0 : ¬cond0_0 i) (hc1 : ¬cond0_1 i) : out0_B_7 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 xo6 xo7 xo8 xo9 xs0 xs1 fh0 fh1 = left7 insB xo7 := by
  unfold out0_B_7
  rw [View.read_writes_junk_eq_canon, runB_7]
  exact (View.canon_cons_unit_zero (S := S1024x1024) hz2 _ _ _).trans (vG_eq _ _)

theorem oB_8 (hc0 : ¬cond0_0 i) (hc1 : ¬cond0_1 i) : out0_B_8 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 xo6 xo7 xo8 xo9 xs0 xs1 fh0 fh1 = left8 insB xo8 := by
  unfold out0_B_8
  rw [View.read_writes_junk_eq_canon, runB_8]
  exact (View.canon_cons_unit_zero (S := S1x1024) hz2 _ _ _).trans (vB_eq _ _)

theorem oB_9 (hc0 : ¬cond0_0 i) (hc1 : ¬cond0_1 i) : out0_B_9 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 xo6 xo7 xo8 xo9 xs0 xs1 fh0 fh1 = left9 insB xo9 := by
  unfold out0_B_9
  rw [View.read_writes_junk_eq_canon, runB_9]
  exact (View.canon_cons_unit_zero (S := S1x1024) hz2 _ _ _).trans (vN_eq _ _)

set_option maxHeartbeats 1000000 in
theorem oA_S0 (hc0 : cond0_0 i) (hc1 : cond0_1 i) : sout0_A_0 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 fh0 fh1 = View.read (Elt Ideal) (View.whole main_v19) fh0 := by
  unfold sout0_A_0
  rw [View.read_writes_junk_eq_canon]
  unfold kernelRun0_A
  dsimp only
  sl_unfold_words
  exact View.canon_unit_zero (S := S4x256x256) (off := fun _ => 0) rfl _ _

set_option maxHeartbeats 1000000 in
theorem oA_S1 (hc0 : cond0_0 i) (hc1 : cond0_1 i) : sout0_A_1 (F := Ideal) c i arg1 harg1 arg2 harg2 arg3 harg3 arg4 harg4 arg5 harg5 arg8 harg8 arg9 harg9 arg10 harg10 arg11 harg11 arg12 harg12 arg13 harg13 arg14 harg14 arg15 harg15 hc0 hc1 x0 x1 x2 x3 x4 fh0 fh1 = View.read (Elt Ideal) (View.whole main_v22) fh1 := by
  unfold sout0_A_1
  rw [View.read_writes_junk_eq_canon]
  unfold kernelRun0_A
  dsimp only
  sl_unfold_words
  exact View.canon_unit_zero (S := S1024x1024) (off := fun _ => 0) rfl _ _

end

/-! ## The points -/

variable (m : (ℓ : Loc nD τ sig) → Buf (Elt Ideal) ℓ)

/-- What point `n` reads. -/
def zAt (c : Dev nD) (n : ℕ) (h : n < cfg0.N) : Ins :=
  ⟨iblk m c 0 ⟨n, h⟩, iblk m c 1 ⟨n, h⟩, iblk m c 2 ⟨n, h⟩, iblk m c 3 ⟨n, h⟩, iblk m c 4 ⟨n, h⟩, V m c main_v19, V m c main_v22⟩

attribute [local irreducible] outsAt0 out0_A_5 out0_A_6 out0_A_7 out0_A_8 out0_A_9 out0_B_5 out0_B_6 out0_B_7 out0_B_8 out0_B_9 sout0_A_0 sout0_A_1

theorem later (n : ℕ) (h : n + 1 < cfg0.N) : ¬ (⟨n + 1, h⟩ : Fin cfg0.N).val % 16 = 0 := by
  have hN : n + 1 < 16 := lt_of_lt_of_eq h (show cfg0.N = 16 from N_0)
  show ¬ (n + 1) % 16 = 0
  omega

theorem first (h : 0 < cfg0.N) : (⟨0, h⟩ : Fin cfg0.N).val % 16 = 0 := rfl

/-- The weights stay as copied in. -/
theorem kept (c : Dev nD) : (n : ℕ) → (h : n < cfg0.N) → (outsAt0 m c n h).2.2.2.2.2.1 = V m c main_v19 ∧ (outsAt0 m c n h).2.2.2.2.2.2 = V m c main_v22
  | 0, h => ⟨(congrArg (fun p => p.2.2.2.2.2.1) (outsAt0_A m c ⟨0, h⟩ (first h) (first h))).trans (oA_S0 ..),
      (congrArg (fun p => p.2.2.2.2.2.2) (outsAt0_A m c ⟨0, h⟩ (first h) (first h))).trans (oA_S1 ..)⟩
  | n + 1, h => ⟨(congrArg (fun p => p.2.2.2.2.2.1) (outsAt0_B m c ⟨n + 1, h⟩ (later n h) (later n h))).trans (kept c n (Nat.lt_of_succ_lt h)).1,
      (congrArg (fun p => p.2.2.2.2.2.2) (outsAt0_B m c ⟨n + 1, h⟩ (later n h) (later n h))).trans (kept c n (Nat.lt_of_succ_lt h)).2⟩

/-- What a later point reads, over what the point before left. -/
def zOf (c : Dev nD) (n : ℕ) (h : n + 1 < cfg0.N) : Ins :=
  ⟨iblk m c 0 ⟨n + 1, h⟩, iblk m c 1 ⟨n + 1, h⟩, iblk m c 2 ⟨n + 1, h⟩, iblk m c 3 ⟨n + 1, h⟩, iblk m c 4 ⟨n + 1, h⟩,
    (outsAt0 m c n (Nat.lt_of_succ_lt h)).2.2.2.2.2.1, (outsAt0 m c n (Nat.lt_of_succ_lt h)).2.2.2.2.2.2⟩

theorem zOf_eq (c : Dev nD) (n : ℕ) (h : n + 1 < cfg0.N) : zOf m c n h = zAt m c (n + 1) h := by
  unfold zOf zAt
  rw [(kept m c n _).1, (kept m c n _).2]

theorem at_5 (c : Dev nD) : (n : ℕ) → (h : n < cfg0.N) → (outsAt0 m c n h).1 = vO (zAt m c n h)
  | 0, h => (congrArg (fun p => p.1) (outsAt0_A m c ⟨0, h⟩ (first h) (first h))).trans (oA_5 ..)
  | n + 1, h => ((congrArg (fun p => p.1) (outsAt0_B m c ⟨n + 1, h⟩ (later n h) (later n h))).trans (oB_5 ..)).trans (congrArg vO (zOf_eq m c n h))

theorem fst_6 (c : Dev nD) (h : 0 < cfg0.N) : (outsAt0 m c 0 h).2.1 = left6 (zAt m c 0 h) (k0_pay3 (F := Ideal)) :=
  (congrArg (fun p => p.2.1) (outsAt0_A m c ⟨0, h⟩ (first h) (first h))).trans (oA_6 ..)

theorem nxt_6 (c : Dev nD) (n : ℕ) (h : n + 1 < cfg0.N) : (outsAt0 m c (n + 1) h).2.1 = left6 (zAt m c (n + 1) h) (outsAt0 m c n (Nat.lt_of_succ_lt h)).2.1 :=
  ((congrArg (fun p => p.2.1) (outsAt0_B m c ⟨n + 1, h⟩ (later n h) (later n h))).trans (oB_6 ..)).trans (congrArg (fun z => left6 z _) (zOf_eq m c n h))

theorem fst_7 (c : Dev nD) (h : 0 < cfg0.N) : (outsAt0 m c 0 h).2.2.1 = left7 (zAt m c 0 h) (k0_pay4 (F := Ideal)) :=
  (congrArg (fun p => p.2.2.1) (outsAt0_A m c ⟨0, h⟩ (first h) (first h))).trans (oA_7 ..)

theorem nxt_7 (c : Dev nD) (n : ℕ) (h : n + 1 < cfg0.N) : (outsAt0 m c (n + 1) h).2.2.1 = left7 (zAt m c (n + 1) h) (outsAt0 m c n (Nat.lt_of_succ_lt h)).2.2.1 :=
  ((congrArg (fun p => p.2.2.1) (outsAt0_B m c ⟨n + 1, h⟩ (later n h) (later n h))).trans (oB_7 ..)).trans (congrArg (fun z => left7 z _) (zOf_eq m c n h))

theorem fst_8 (c : Dev nD) (h : 0 < cfg0.N) : (outsAt0 m c 0 h).2.2.2.1 = left8 (zAt m c 0 h) (k0_pay5 (F := Ideal)) :=
  (congrArg (fun p => p.2.2.2.1) (outsAt0_A m c ⟨0, h⟩ (first h) (first h))).trans (oA_8 ..)

theorem nxt_8 (c : Dev nD) (n : ℕ) (h : n + 1 < cfg0.N) : (outsAt0 m c (n + 1) h).2.2.2.1 = left8 (zAt m c (n + 1) h) (outsAt0 m c n (Nat.lt_of_succ_lt h)).2.2.2.1 :=
  ((congrArg (fun p => p.2.2.2.1) (outsAt0_B m c ⟨n + 1, h⟩ (later n h) (later n h))).trans (oB_8 ..)).trans (congrArg (fun z => left8 z _) (zOf_eq m c n h))

theorem fst_9 (c : Dev nD) (h : 0 < cfg0.N) : (outsAt0 m c 0 h).2.2.2.2.1 = left9 (zAt m c 0 h) (k0_pay6 (F := Ideal)) :=
  (congrArg (fun p => p.2.2.2.2.1) (outsAt0_A m c ⟨0, h⟩ (first h) (first h))).trans (oA_9 ..)

theorem nxt_9 (c : Dev nD) (n : ℕ) (h : n + 1 < cfg0.N) : (outsAt0 m c (n + 1) h).2.2.2.2.1 = left9 (zAt m c (n + 1) h) (outsAt0 m c n (Nat.lt_of_succ_lt h)).2.2.2.2.1 :=
  ((congrArg (fun p => p.2.2.2.2.1) (outsAt0_B m c ⟨n + 1, h⟩ (later n h) (later n h))).trans (oB_9 ..)).trans (congrArg (fun z => left9 z _) (zOf_eq m c n h))

end Cert.KernelPleIdeal.Pl

end
-- ==== Proof.Ffn.PleHost.lean ====
/- The backward pass of the per-layer embeddings: what the grid reads, over the arguments, and the five arrays that it leaves, at an index. -/
module

public import proofs.«01_k».proof.Proof.Gen.KernelPleIdeal.Value
public import proofs.«01_k».proof.Proof.Gen.ReferencePleIdeal.Run
public import proofs.«01_k».proof.Proof.Gen.ReferencePleIdeal.Read
public import proofs.«01_k».proof.Proof.Ffn.PleOuts
public import Idealize.ShloMosaic.Lib.StableHlo.RunRead
public import Idealize.ShloMosaic.Lib.Pipeline.ValueKit

@[expose] public section

set_option maxRecDepth 16384

noncomputable section

namespace Cert.KernelPleIdeal.Pl

open Cert.KernelPleIdeal Cert.KernelPleIdeal.Gen Idealize.ShloMosaic Idealize.ShloMosaic.TcCoe Idealize.ShloMosaic.Tactic Idealize.SL.Sem
open scoped BigOperators
open Cert.KernelFwdIdeal.Fw (sg rs)

/-! ## The pass's values at an index -/

section
variable (a0 a1 : IV S8192x1024 .f32) (a2 : IV S2x8192x256 .f32) (a3 : IV S1024 .f32) (a4 : IV S256x1024 .f32) (a5 : IV S1024x1024 .f32) (av : IV S8192x1024 .f32)

/-- The normalized input. -/
def xhG (i : Fin 8192) (k : Fin 1024) : EReal := a1 (ValueIdx.ix2 i k) * rs (fun j => a1 (ValueIdx.ix2 i j))

/-- The normed input. -/
def xgG (i : Fin 8192) (k : Fin 1024) : EReal := xhG a1 i k * a3 (ValueIdx.ix1 k)

/-- The gate. -/
def gtG (i : Fin 8192) (q : Fin 1024) : EReal := sg (av (ValueIdx.ix2 i q))

/-- The projected embeddings. -/
def peG (i : Fin 8192) (q : Fin 1024) : EReal := ∑ k : Fin 256, a2 (ValueIdx.ix3 1 i k) * a4 (ValueIdx.ix2 k q)

/-- The gradient of the projected embeddings. -/
def dpG (i : Fin 8192) (q : Fin 1024) : EReal := a0 (ValueIdx.ix2 i q) * gtG av i q

/-- The gradient of the gate's argument. -/
def daG (i : Fin 8192) (q : Fin 1024) : EReal :=
  a0 (ValueIdx.ix2 i q) * peG a2 a4 i q * (gtG av i q * (Ideal.ofBits .f32 0x3F800000#32 - gtG av i q))

/-- The gradient of the normed input. -/
def dxG (i : Fin 8192) (k : Fin 1024) : EReal := ∑ q : Fin 1024, daG a0 a2 a4 av i q * a5 (ValueIdx.ix2 k q)

/-- The gradient of the input. -/
def otG (i : Fin 8192) (k : Fin 1024) : EReal :=
  a0 (ValueIdx.ix2 i k) + rs (fun j => a1 (ValueIdx.ix2 i j)) * (dxG a0 a2 a4 a5 av i k * a3 (ValueIdx.ix1 k)
    - xhG a1 i k * Ideal.div (∑ j : Fin 1024, dxG a0 a2 a4 a5 av i j * a3 (ValueIdx.ix1 j) * xhG a1 i j) (Ideal.ofBits .f32 0x44800000#32))

end

variable (m : (ℓ : Loc nD τ sig) → Buf (Elt Ideal) ℓ)

abbrev A0 (c : Dev nD) : IV S8192x1024 .f32 := m (c.tc.loc main_arg0)
abbrev A1 (c : Dev nD) : IV S8192x1024 .f32 := m (c.tc.loc main_arg1)
abbrev A2 (c : Dev nD) : IV S2x8192x256 .f32 := m (c.tc.loc main_arg2)
abbrev A3 (c : Dev nD) : IV S1024 .f32 := m (c.tc.loc main_arg3)
abbrev A4 (c : Dev nD) : IV S256x1024 .f32 := m (c.tc.loc main_arg4)
abbrev A5 (c : Dev nD) : IV S1024x1024 .f32 := m (c.tc.loc main_arg5)
abbrev A6 (c : Dev nD) : IV S1024 .f32 := m (c.tc.loc main_arg6)

/-- The saved argument of the gate. -/
abbrev Av (c : Dev nD) : IV S8192x1024 .f32 := Cert.ReferencePleIdeal.Read.val_main_v19 (F := Ideal) (A1 m c) (A3 m c) (A5 m c) (A6 m c)

/-! ## The host's arrays -/

theorem Va0 (c : Dev nD) : (V m c main_arg0 : IV S8192x1024 .f32) = A0 m c := V_main_arg0 m c

theorem Va1 (c : Dev nD) : (V m c main_arg1 : IV S8192x1024 .f32) = A1 m c := V_main_arg1 m c

theorem Va2 (c : Dev nD) : (V m c main_arg2 : IV S2x8192x256 .f32) = A2 m c := V_main_arg2 m c

theorem V22 (c : Dev nD) : (V m c main_v22 : IV S1024x1024 .bf16) = A5 m c := by
  have : (V m c main_v22 : IV S1024x1024 .bf16) = truncf (F := Ideal) .bf16 (A5 m c) bitsLt_bf16_f32 := by
    unfold V hostOps0
    after_reads_simp
  rw [this]
  rfl

theorem V21 (c : Dev nD) (k : Fin 1024) : (V m c main_v21 : IV S1x1024 .f32) (ValueIdx.ix2 0 k) = A3 m c (ValueIdx.ix1 k) := by
  have : (V m c main_v21 : IV S1x1024 .f32) = shapeCast S1x1024 (A3 m c) shapeCasts_S1024_S1x1024 := by
    unfold V hostOps0
    after_reads_simp
    rfl
  rw [this]
  exact shapeCast_apply _ shapeCasts_S1024_S1x1024 (ValueIdx.ix2 0 k) (ValueIdx.ix1 k) (by simp [Shape.rowMajor_val_two, Shape.rowMajor_val_one])

theorem V20 (c : Dev nD) : (V m c main_v20 : IV S8192x1024 .bf16) = Av m c := by
  have : (V m c main_v20 : IV S8192x1024 .bf16) = truncf (F := Ideal) .bf16 (Av m c) bitsLt_bf16_f32 := by
    unfold V hostOps0
    after_reads_simp
    rfl
  rw [this]
  rfl

/-- The projection's weights, rounded, one column block after another. -/
def inBlocks (w : IV S256x1024 .f32) : IV S4x256x256 .bf16 :=
  truncf (F := Ideal) .bf16 (transpose S4x256x256 [1, 0, 2] (shapeCast S256x4x256 w shapeCasts_S256x1024_S256x4x256) transposes_S256x4x256_S4x256x256_1_0_2) bitsLt_bf16_f32

theorem inBlocks_apply (w : IV S256x1024 .f32) (k : Fin 256) (q : Fin 1024) : inBlocks w (ValueIdx.ix3 ⟨q.val / 256, by omega⟩ k ⟨q.val % 256, by omega⟩) = w (ValueIdx.ix2 k q) := by
  unfold inBlocks
  rw [ValueIdx.truncf_apply]
  refine (transpose_apply [1, 0, 2] _ transposes_S256x4x256_S4x256x256_1_0_2 (ValueIdx.ix3 ⟨q.val / 256, by omega⟩ k ⟨q.val % 256, by omega⟩) (ValueIdx.ix3 k ⟨q.val / 256, by omega⟩ ⟨q.val % 256, by omega⟩) fun d => ?_).trans ?_
  · match d with
    | ⟨0, _⟩ => rfl
    | ⟨1, _⟩ => rfl
    | ⟨2, _⟩ => rfl
  · exact shapeCast_apply _ shapeCasts_S256x1024_S256x4x256 (ValueIdx.ix3 k ⟨q.val / 256, by omega⟩ ⟨q.val % 256, by omega⟩) (ValueIdx.ix2 k q)
      (by
        rw [Shape.rowMajor_val_two, Shape.rowMajor_val_three]
        show k.val * 1024 + q.val = (k.val * 4 + q.val / 256) * 256 + q.val % 256
        omega)

theorem V19 (c : Dev nD) (k : Fin 256) (q : Fin 1024) : (V m c main_v19 : IV S4x256x256 .bf16) (ValueIdx.ix3 ⟨q.val / 256, by omega⟩ k ⟨q.val % 256, by omega⟩) = A4 m c (ValueIdx.ix2 k q) := by
  have : (V m c main_v19 : IV S4x256x256 .bf16) = inBlocks (A4 m c) := by
    unfold V hostOps0
    after_reads_simp
    rfl
  rw [this]
  exact inBlocks_apply _ k q

/-! ## The blocks -/

theorem pts (n : ℕ) (h : n < cfg0.N) : n < 16 := lt_of_lt_of_eq h (show cfg0.N = 16 from N_0)

/-- Row `r` of point `n`'s tile, as a row of the arrays. -/
def gi (n : ℕ) (h : n < cfg0.N) (r : Fin 512) : Fin 8192 := ⟨n * 512 + r.val, by have := pts n h; have := r.isLt; omega⟩

theorem idx0 : ∀ t : Fin cfg0.N, win0_0.index t = ![t.val, 0] :=
  (by decide +kernel : ∀ t : Fin grid0.N, win0_0.index t = ![t.val, 0])

theorem idx1 : ∀ t : Fin cfg0.N, win0_1.index t = ![t.val, 0] :=
  (by decide +kernel : ∀ t : Fin grid0.N, win0_1.index t = ![t.val, 0])

theorem idx2 : ∀ t : Fin cfg0.N, win0_2.index t = ![1, t.val, 0] :=
  (by decide +kernel : ∀ t : Fin grid0.N, win0_2.index t = ![1, t.val, 0])

theorem idx3 : ∀ t : Fin cfg0.N, win0_3.index t = ![t.val, 0] :=
  (by decide +kernel : ∀ t : Fin grid0.N, win0_3.index t = ![t.val, 0])

theorem idx4 : ∀ t : Fin cfg0.N, win0_4.index t = ![0, 0] :=
  (by decide +kernel : ∀ t : Fin grid0.N, win0_4.index t = ![0, 0])

theorem idx5 : ∀ t : Fin cfg0.N, win0_5.index t = ![t.val, 0] :=
  (by decide +kernel : ∀ t : Fin grid0.N, win0_5.index t = ![t.val, 0])

theorem idx6 : ∀ t : Fin cfg0.N, win0_6.index t = ![0, 0, 0] :=
  (by decide +kernel : ∀ t : Fin grid0.N, win0_6.index t = ![0, 0, 0])

theorem idx7 : ∀ t : Fin cfg0.N, win0_7.index t = ![0, 0] :=
  (by decide +kernel : ∀ t : Fin grid0.N, win0_7.index t = ![0, 0])

theorem idx8 : ∀ t : Fin cfg0.N, win0_8.index t = ![0, 0] :=
  (by decide +kernel : ∀ t : Fin grid0.N, win0_8.index t = ![0, 0])

theorem idx9 : ∀ t : Fin cfg0.N, win0_9.index t = ![0, 0] :=
  (by decide +kernel : ∀ t : Fin grid0.N, win0_9.index t = ![0, 0])

theorem z_d_raw (c : Dev nD) (n : ℕ) (h : n < cfg0.N) (r : Fin 512) (q : Fin 1024) :
    (zAt m c n h).d (ValueIdx.ix2 r q) = (V m c main_arg0 : IV S8192x1024 .f32) (ValueIdx.ix2 (gi n h r) q) := by
  show (iblk m c 0 ⟨n, h⟩) (ValueIdx.ix2 r q) = _
  have hn : n < 16 := pts n h
  blk_simp [iblk]
  refine congrArg (V m c main_arg0 : IV S8192x1024 .f32) ?_
  funext a
  apply Fin.ext
  match a with
  | ⟨0, _⟩ => blk_simp [idx0] <;> rfl
  | ⟨1, _⟩ => blk_simp [idx0] <;> rfl

theorem z_h_raw (c : Dev nD) (n : ℕ) (h : n < cfg0.N) (r : Fin 512) (q : Fin 1024) :
    (zAt m c n h).h (ValueIdx.ix2 r q) = (V m c main_arg1 : IV S8192x1024 .f32) (ValueIdx.ix2 (gi n h r) q) := by
  show (iblk m c 1 ⟨n, h⟩) (ValueIdx.ix2 r q) = _
  have hn : n < 16 := pts n h
  blk_simp [iblk]
  refine congrArg (V m c main_arg1 : IV S8192x1024 .f32) ?_
  funext a
  apply Fin.ext
  match a with
  | ⟨0, _⟩ => blk_simp [idx1] <;> rfl
  | ⟨1, _⟩ => blk_simp [idx1] <;> rfl

theorem z_p_raw (c : Dev nD) (n : ℕ) (h : n < cfg0.N) (r : Fin 512) (k : Fin 256) :
    (zAt m c n h).p (ValueIdx.ix3 0 r k) = (V m c main_arg2 : IV S2x8192x256 .f32) (ValueIdx.ix3 1 (gi n h r) k) := by
  show (iblk m c 2 ⟨n, h⟩) (ValueIdx.ix3 0 r k) = _
  have hn : n < 16 := pts n h
  blk_simp [iblk]
  refine congrArg (V m c main_arg2 : IV S2x8192x256 .f32) ?_
  funext a
  apply Fin.ext
  match a with
  | ⟨0, _⟩ => blk_simp [idx2] <;> rfl
  | ⟨1, _⟩ => blk_simp [idx2] <;> rfl
  | ⟨2, _⟩ => blk_simp [idx2] <;> rfl

theorem z_a_raw (c : Dev nD) (n : ℕ) (h : n < cfg0.N) (r : Fin 512) (q : Fin 1024) :
    (zAt m c n h).a (ValueIdx.ix2 r q) = (V m c main_v20 : IV S8192x1024 .bf16) (ValueIdx.ix2 (gi n h r) q) := by
  show (iblk m c 3 ⟨n, h⟩) (ValueIdx.ix2 r q) = _
  have hn : n < 16 := pts n h
  blk_simp [iblk]
  refine congrArg (V m c main_v20 : IV S8192x1024 .bf16) ?_
  funext a
  apply Fin.ext
  match a with
  | ⟨0, _⟩ => blk_simp [idx3] <;> rfl
  | ⟨1, _⟩ => blk_simp [idx3] <;> rfl

theorem z_n_raw (c : Dev nD) (n : ℕ) (h : n < cfg0.N) (q : Fin 1024) :
    (zAt m c n h).n (ValueIdx.ix2 0 q) = (V m c main_v21 : IV S1x1024 .f32) (ValueIdx.ix2 0 q) := by
  show (iblk m c 4 ⟨n, h⟩) (ValueIdx.ix2 0 q) = _
  have hn : n < 16 := pts n h
  blk_simp [iblk]
  refine congrArg (V m c main_v21 : IV S1x1024 .f32) ?_
  funext a
  apply Fin.ext
  match a with
  | ⟨0, _⟩ => blk_simp [idx4] <;> rfl
  | ⟨1, _⟩ => blk_simp [idx4] <;> rfl

theorem z_d (c : Dev nD) (n : ℕ) (h : n < cfg0.N) (r : Fin 512) (q : Fin 1024) : (zAt m c n h).d (ValueIdx.ix2 r q) = A0 m c (ValueIdx.ix2 (gi n h r) q) :=
  (z_d_raw m c n h r q).trans (congrFun (Va0 m c) _)

theorem z_h (c : Dev nD) (n : ℕ) (h : n < cfg0.N) (r : Fin 512) (q : Fin 1024) : (zAt m c n h).h (ValueIdx.ix2 r q) = A1 m c (ValueIdx.ix2 (gi n h r) q) :=
  (z_h_raw m c n h r q).trans (congrFun (Va1 m c) _)

theorem z_p (c : Dev nD) (n : ℕ) (h : n < cfg0.N) (r : Fin 512) (k : Fin 256) : (zAt m c n h).p (ValueIdx.ix3 0 r k) = A2 m c (ValueIdx.ix3 1 (gi n h r) k) :=
  (z_p_raw m c n h r k).trans (congrFun (Va2 m c) _)

theorem z_a (c : Dev nD) (n : ℕ) (h : n < cfg0.N) (r : Fin 512) (q : Fin 1024) : (zAt m c n h).a (ValueIdx.ix2 r q) = Av m c (ValueIdx.ix2 (gi n h r) q) :=
  (z_a_raw m c n h r q).trans (congrFun (V20 m c) _)

theorem z_n (c : Dev nD) (n : ℕ) (h : n < cfg0.N) (q : Fin 1024) : (zAt m c n h).n (ValueIdx.ix2 0 q) = A3 m c (ValueIdx.ix1 q) :=
  (z_n_raw m c n h q).trans (V21 m c q)

theorem z_wp (c : Dev nD) (n : ℕ) (h : n < cfg0.N) (k : Fin 256) (q : Fin 1024) :
    (zAt m c n h).wp (ValueIdx.ix3 ⟨q.val / 256, by omega⟩ k ⟨q.val % 256, by omega⟩) = A4 m c (ValueIdx.ix2 k q) := V19 m c k q

theorem z_wg (c : Dev nD) (n : ℕ) (h : n < cfg0.N) (k q : Fin 1024) : (zAt m c n h).wg (ValueIdx.ix2 k q) = A5 m c (ValueIdx.ix2 k q) :=
  congrFun (V22 m c) _

/-! ## The step's values are the pass's -/

section
variable (c : Dev nD) (n : ℕ) (h : n < cfg0.N) (r : Fin 512)

theorem xh_at (k : Fin 1024) : xh (zAt m c n h) r k = xhG (A1 m c) (gi n h r) k := by
  unfold xh xhG
  simp only [z_h]

theorem xg_at (k : Fin 1024) : xg (zAt m c n h) r k = xgG (A1 m c) (A3 m c) (gi n h r) k := by
  unfold xg xgG
  rw [xh_at, z_n]

theorem gt_at (q : Fin 1024) : gt (zAt m c n h) r q = gtG (Av m c) (gi n h r) q := by
  unfold gt gtG
  rw [z_a]

theorem pe_at (q : Fin 1024) : pe (zAt m c n h) r q = peG (A2 m c) (A4 m c) (gi n h r) q := by
  unfold pe peG
  refine Finset.sum_congr rfl fun k _ => ?_
  rw [z_p, z_wp]

theorem dp_at (q : Fin 1024) : dp (zAt m c n h) r q = dpG (A0 m c) (Av m c) (gi n h r) q := by
  unfold dp dpG
  rw [z_d, gt_at]

theorem da_at (q : Fin 1024) : da (zAt m c n h) r q = daG (A0 m c) (A2 m c) (A4 m c) (Av m c) (gi n h r) q := by
  unfold da daG
  rw [z_d, gt_at, pe_at]

theorem dx_at (k : Fin 1024) : dx (zAt m c n h) r k = dxG (A0 m c) (A2 m c) (A4 m c) (A5 m c) (Av m c) (gi n h r) k := by
  unfold dx dxG
  refine Finset.sum_congr rfl fun q _ => ?_
  rw [da_at, z_wg]

theorem ot_at (k : Fin 1024) : ot (zAt m c n h) r k = otG (A0 m c) (A1 m c) (A2 m c) (A3 m c) (A4 m c) (A5 m c) (Av m c) (gi n h r) k := by
  unfold ot otG
  simp only [dx_at, xh_at, z_d, z_h, z_n]

end

/-! ## The accumulators over the rows -/

/-- A row's value, zero past the last row. -/
def at_ (f : Fin 8192 → EReal) (i : ℕ) : EReal := if h : i < 8192 then f ⟨i, h⟩ else 0

theorem at_gi (f : Fin 8192 → EReal) (n : ℕ) (h : n < cfg0.N) (r : Fin 512) : f (gi n h r) = at_ f (n * 512 + r.val) := by
  unfold at_
  have hh : n * 512 + r.val < 8192 := (gi n h r).isLt
  rw [dif_pos hh]
  rfl

/-- An accumulator that each point adds its rows to holds, after the last, the sum over all rows. -/
theorem acc_sum (f : Fin 8192 → EReal) (o : (n : ℕ) → n < cfg0.N → EReal)
    (h0 : ∀ h : 0 < cfg0.N, o 0 h = 0 + ∑ r : Fin 512, f (gi 0 h r))
    (hs : ∀ (n : ℕ) (h : n + 1 < cfg0.N), o (n + 1) h = o n (Nat.lt_of_succ_lt h) + ∑ r : Fin 512, f (gi (n + 1) h r))
    (n : ℕ) (h : n < cfg0.N) (hn : n = 15) : o n h = ∑ i : Fin 8192, f i := by
  have key : ∀ (n : ℕ) (h : n < cfg0.N), o n h = ∑ s ∈ Finset.range (n + 1), ∑ r : Fin 512, at_ f (s * 512 + r.val) := by
    intro n
    induction n with
    | zero =>
      intro h
      rw [h0 h, zero_add, Finset.sum_range_one]
      exact Finset.sum_congr rfl fun r _ => at_gi f 0 h r
    | succ n ih =>
      intro h
      rw [hs n h, ih, Finset.sum_range_succ _ (n + 1)]
      exact congrArg _ (Finset.sum_congr rfl fun r _ => at_gi f (n + 1) h r)
  subst hn
  rw [key, Cert.Sums.tiled, Finset.sum_range]
  exact Finset.sum_congr rfl fun i _ => dif_pos i.isLt

/-- The rows of accumulator 6 at an entry. -/
def row6 (c : Dev nD) (y : S4x256x256.Idx) : Fin 8192 → EReal := fun i => A2 m c (ValueIdx.ix3 1 i (y 1)) * dpG (A0 m c) (Av m c) i ⟨256 * (y 0).val + (y 2).val, by have h0 : (y 0).val < 4 := (y 0).isLt; have h2 : (y 2).val < 256 := (y 2).isLt; omega⟩

theorem left6_at (c : Dev nD) (n : ℕ) (h : n < cfg0.N) (acc : IV S4x256x256 .f32) (y : S4x256x256.Idx) :
    left6 (zAt m c n h) acc y = acc y + ∑ r : Fin 512, row6 m c y (gi n h r) := by
  unfold left6 row6
  refine congrArg _ (Finset.sum_congr rfl fun r _ => ?_)
  exact congrArg₂ (· * ·) (z_p m c n h r (y 1)) (dp_at m c n h r _)

theorem end6 (c : Dev nD) (n : ℕ) (h : n < cfg0.N) (hn : n = 15) (y : S4x256x256.Idx) : (outsAt0 m c n h).2.1 y = ∑ i : Fin 8192, row6 m c y i :=
  acc_sum (row6 m c y) (fun n h => (outsAt0 m c n h).2.1 y)
    (fun h => by
      refine (congrFun (fst_6 m c h) y).trans ((left6_at m c 0 h _ y).trans ?_)
      rw [pay3_apply])
    (fun n h => (congrFun (nxt_6 m c n h) y).trans (left6_at m c (n + 1) h _ y)) n h hn

/-- The rows of accumulator 7 at an entry. -/
def row7 (c : Dev nD) (y : S1024x1024.Idx) : Fin 8192 → EReal := fun i => xgG (A1 m c) (A3 m c) i (y 0) * daG (A0 m c) (A2 m c) (A4 m c) (Av m c) i (y 1)

theorem left7_at (c : Dev nD) (n : ℕ) (h : n < cfg0.N) (acc : IV S1024x1024 .f32) (y : S1024x1024.Idx) :
    left7 (zAt m c n h) acc y = acc y + ∑ r : Fin 512, row7 m c y (gi n h r) := by
  unfold left7 row7
  refine congrArg _ (Finset.sum_congr rfl fun r _ => ?_)
  exact congrArg₂ (· * ·) (xg_at m c n h r (y 0)) (da_at m c n h r (y 1))

theorem end7 (c : Dev nD) (n : ℕ) (h : n < cfg0.N) (hn : n = 15) (y : S1024x1024.Idx) : (outsAt0 m c n h).2.2.1 y = ∑ i : Fin 8192, row7 m c y i :=
  acc_sum (row7 m c y) (fun n h => (outsAt0 m c n h).2.2.1 y)
    (fun h => by
      refine (congrFun (fst_7 m c h) y).trans ((left7_at m c 0 h _ y).trans ?_)
      rw [pay4_apply])
    (fun n h => (congrFun (nxt_7 m c n h) y).trans (left7_at m c (n + 1) h _ y)) n h hn

/-- The rows of accumulator 8 at an entry. -/
def row8 (c : Dev nD) (y : S1x1024.Idx) : Fin 8192 → EReal := fun i => daG (A0 m c) (A2 m c) (A4 m c) (Av m c) i (y 1)

theorem left8_at (c : Dev nD) (n : ℕ) (h : n < cfg0.N) (acc : IV S1x1024 .f32) (y : S1x1024.Idx) :
    left8 (zAt m c n h) acc y = acc y + ∑ r : Fin 512, row8 m c y (gi n h r) := by
  unfold left8 row8
  refine congrArg _ (Finset.sum_congr rfl fun r _ => ?_)
  exact da_at m c n h r (y 1)

theorem end8 (c : Dev nD) (n : ℕ) (h : n < cfg0.N) (hn : n = 15) (y : S1x1024.Idx) : (outsAt0 m c n h).2.2.2.1 y = ∑ i : Fin 8192, row8 m c y i :=
  acc_sum (row8 m c y) (fun n h => (outsAt0 m c n h).2.2.2.1 y)
    (fun h => by
      refine (congrFun (fst_8 m c h) y).trans ((left8_at m c 0 h _ y).trans ?_)
      rw [pay5_apply])
    (fun n h => (congrFun (nxt_8 m c n h) y).trans (left8_at m c (n + 1) h _ y)) n h hn

/-- The rows of accumulator 9 at an entry. -/
def row9 (c : Dev nD) (y : S1x1024.Idx) : Fin 8192 → EReal := fun i => dxG (A0 m c) (A2 m c) (A4 m c) (A5 m c) (Av m c) i (y 1) * xhG (A1 m c) i (y 1)

theorem left9_at (c : Dev nD) (n : ℕ) (h : n < cfg0.N) (acc : IV S1x1024 .f32) (y : S1x1024.Idx) :
    left9 (zAt m c n h) acc y = acc y + ∑ r : Fin 512, row9 m c y (gi n h r) := by
  unfold left9 row9
  refine congrArg _ (Finset.sum_congr rfl fun r _ => ?_)
  exact congrArg₂ (· * ·) (dx_at m c n h r (y 1)) (xh_at m c n h r (y 1))

theorem end9 (c : Dev nD) (n : ℕ) (h : n < cfg0.N) (hn : n = 15) (y : S1x1024.Idx) : (outsAt0 m c n h).2.2.2.2.1 y = ∑ i : Fin 8192, row9 m c y i :=
  acc_sum (row9 m c y) (fun n h => (outsAt0 m c n h).2.2.2.2.1 y)
    (fun h => by
      refine (congrFun (fst_9 m c h) y).trans ((left9_at m c 0 h _ y).trans ?_)
      rw [pay6_apply])
    (fun n h => (congrFun (nxt_9 m c n h) y).trans (left9_at m c (n + 1) h _ y)) n h hn

/-! ## The arrays -/

theorem arr5 (c : Dev nD) : (dats m 0 c).arrAt 5 cfg0.N = fun y : S8192x1024.Idx => otG (A0 m c) (A1 m c) (A2 m c) (A3 m c) (A4 m c) (A5 m c) (Av m c) (y 0) (y 1) := by
  refine (dats m 0 c).arrAt_eq_of_covers 5 _ (by decide +kernel) fun t hf y => ?_
  rw [after0_5]
  refine (congrArg (outsAt0 m c t.val t.isLt).1 (ValueIdx.eq_ix2 (n0 := 512) (n1 := 1024) y)).trans ?_
  refine (congrFun (at_5 m c t.val t.isLt) _).trans ((vO_apply _ (y 0) (y 1)).trans ?_)
  refine (ot_at m c t.val t.isLt (y 0) (y 1)).trans ?_
  refine congrArg₂ (fun i k => otG (A0 m c) (A1 m c) (A2 m c) (A3 m c) (A4 m c) (A5 m c) (Av m c) i k) (Fin.ext ?_) (Fin.ext ?_)
  · blk_simp [idx5] <;> rfl
  · blk_simp [idx5] <;> rfl

theorem arr6 (c : Dev nD) : (dats m 0 c).arrAt 6 cfg0.N = fun y : S4x256x256.Idx => ∑ i : Fin 8192, row6 m c y i := by
  refine (dats m 0 c).arrAt_eq_of_covers 6 _ (by decide +kernel) fun t hf y => ?_
  rw [after0_6]
  have ht : t.val = 15 := by
    have := (flush0_6 t).mp hf
    have := pts t.val t.isLt
    omega
  refine (end6 m c t.val t.isLt ht y).trans ?_
  refine congrArg (fun y : S4x256x256.Idx => ∑ i : Fin 8192, row6 m c y i) ?_
  funext a
  apply Fin.ext
  match a with
  | ⟨0, _⟩ => blk_simp [idx6] <;> rfl
  | ⟨1, _⟩ => blk_simp [idx6] <;> rfl
  | ⟨2, _⟩ => blk_simp [idx6] <;> rfl

theorem arr7 (c : Dev nD) : (dats m 0 c).arrAt 7 cfg0.N = fun y : S1024x1024.Idx => ∑ i : Fin 8192, row7 m c y i := by
  refine (dats m 0 c).arrAt_eq_of_covers 7 _ (by decide +kernel) fun t hf y => ?_
  rw [after0_7]
  have ht : t.val = 15 := by
    have := (flush0_7 t).mp hf
    have := pts t.val t.isLt
    omega
  refine (end7 m c t.val t.isLt ht y).trans ?_
  refine congrArg (fun y : S1024x1024.Idx => ∑ i : Fin 8192, row7 m c y i) ?_
  funext a
  apply Fin.ext
  match a with
  | ⟨0, _⟩ => blk_simp [idx7] <;> rfl
  | ⟨1, _⟩ => blk_simp [idx7] <;> rfl

theorem arr8 (c : Dev nD) : (dats m 0 c).arrAt 8 cfg0.N = fun y : S1x1024.Idx => ∑ i : Fin 8192, row8 m c y i := by
  refine (dats m 0 c).arrAt_eq_of_covers 8 _ (by decide +kernel) fun t hf y => ?_
  rw [after0_8]
  have ht : t.val = 15 := by
    have := (flush0_8 t).mp hf
    have := pts t.val t.isLt
    omega
  refine (end8 m c t.val t.isLt ht y).trans ?_
  refine congrArg (fun y : S1x1024.Idx => ∑ i : Fin 8192, row8 m c y i) ?_
  funext a
  apply Fin.ext
  match a with
  | ⟨0, _⟩ => blk_simp [idx8] <;> rfl
  | ⟨1, _⟩ => blk_simp [idx8] <;> rfl

theorem arr9 (c : Dev nD) : (dats m 0 c).arrAt 9 cfg0.N = fun y : S1x1024.Idx => ∑ i : Fin 8192, row9 m c y i := by
  refine (dats m 0 c).arrAt_eq_of_covers 9 _ (by decide +kernel) fun t hf y => ?_
  rw [after0_9]
  have ht : t.val = 15 := by
    have := (flush0_9 t).mp hf
    have := pts t.val t.isLt
    omega
  refine (end9 m c t.val t.isLt ht y).trans ?_
  refine congrArg (fun y : S1x1024.Idx => ∑ i : Fin 8192, row9 m c y i) ?_
  funext a
  apply Fin.ext
  match a with
  | ⟨0, _⟩ => blk_simp [idx9] <;> rfl
  | ⟨1, _⟩ => blk_simp [idx9] <;> rfl

end Cert.KernelPleIdeal.Pl

end
-- ==== Proof.Ffn.PleRef.lean ====
/- The backward pass of the per-layer embeddings: the reference's five results at an index are the pass's values. -/
module

public import proofs.«01_k».proof.Proof.Ffn.PleHost
public import proofs.«01_k».proof.Proof.Ffn.FwdRef
public import proofs.«01_k».proof.Proof.Ffn.Reals

@[expose] public section

set_option maxRecDepth 16384

noncomputable section

namespace Cert.KernelPleIdeal.Pl

open Cert.ReferencePleIdeal Cert.ReferencePleIdeal.Gen Cert.ReferencePleIdeal.Read Idealize.ShloMosaic Idealize.ShloMosaic.TcCoe Idealize.SL.Sem
open scoped BigOperators
open Cert.KernelFwdIdeal.Fw (sg rs sg_eq one_f32 zero_f32 ext2)
open Ffn (IsReal)

variable (x0 x1 : IV S8192x1024 .f32) (x2 : IV S2x8192x256 .f32) (x3 : IV S1024 .f32) (x4 : IV S256x1024 .f32) (x5 : IV S1024x1024 .f32) (x6 : IV S1024 .f32)

/-- The saved argument of the gate. -/
local notation "av" => val_main_v19 (F := Ideal) x1 x3 x5 x6

theorem ext1 {a : ℕ} {i j : (⟨1, ![a]⟩ : Shape).Idx} (h : (i 0).val = (j 0).val) : i = j := by
  funext e
  apply Fin.ext
  match e with
  | ⟨0, _⟩ => exact h

/-- A row's only first coordinate is zero. -/
theorem ext2' {b : ℕ} (y : (⟨2, ![1, b]⟩ : Shape).Idx) : y = ValueIdx.ix2 (n0 := 1) (n1 := b) 0 (y 1) := by
  refine ext2 ?_ rfl
  have h : (y 0).val < 1 := (y 0).isLt
  show (y 0).val = 0
  omega

/-! ## The norm -/

/-- The mean of a row's squares plus epsilon. -/
def ms (i : Fin 8192) : EReal :=
  Ideal.div (∑ j : Fin 1024, x1 (ValueIdx.ix2 i j) * x1 (ValueIdx.ix2 i j)) (Ideal.ofBits .f32 0x44800000#32) + Ideal.ofBits .f32 0x358637BD#32

theorem r_sq (i : Fin 8192) : val_main_v1 (F := Ideal) x1 (ValueIdx.ix1 i) = ∑ j : Fin 1024, x1 (ValueIdx.ix2 i j) * x1 (ValueIdx.ix2 i j) := by
  rw [val_main_v1_apply]
  refine (congrArg₂ (· + ·) zero_f32 (Finset.sum_congr rfl fun j _ => ?_)).trans (zero_add _)
  rw [val_main_v0_apply]
  have e : idx_main_v1 (ValueIdx.ix1 i) j = ValueIdx.ix2 i j := ext2 rfl rfl
  rw [e]
  rfl

theorem r_ms (i : Fin 8192) : val_main_v6 (F := Ideal) x1 (ValueIdx.ix2 i 0) = ms x1 i := by
  rw [val_main_v6_apply, val_main_v4_apply, val_main_v2_apply]
  have e : idx_main_v2 (ValueIdx.ix2 i 0) = ValueIdx.ix1 i := ext1 rfl
  rw [e, r_sq]
  rfl

theorem r_rs (i : Fin 8192) : val_main_v7 (F := Ideal) x1 (ValueIdx.ix2 i 0) = rs (fun j => x1 (ValueIdx.ix2 i j)) := by
  rw [val_main_v7_apply, r_ms]
  rfl

theorem r_xh (i : Fin 8192) (k : Fin 1024) : val_main_v12 (F := Ideal) x1 (ValueIdx.ix2 i k) = xhG x1 i k := by
  rw [val_main_v12_apply, val_main_v11_apply]
  have e : idx_main_v11 (ValueIdx.ix2 i k) = ValueIdx.ix2 i 0 := ext2 rfl rfl
  rw [e, r_rs]
  rfl

theorem r_xg (i : Fin 8192) (k : Fin 1024) : val_main_v15 (F := Ideal) x1 x3 (ValueIdx.ix2 i k) = xgG x1 x3 i k := by
  rw [val_main_v15_apply, r_xh, val_main_v14_apply, val_main_v13_apply]
  have e : idx_main_v13 (idx_main_v14 (ValueIdx.ix2 i k)) = ValueIdx.ix1 k := ext1 rfl
  rw [e]
  rfl

/-! ## The gate and the projected embeddings -/

theorem r_gt (i : Fin 8192) (q : Fin 1024) : val_main_v28 (F := Ideal) x1 x3 x5 x6 (ValueIdx.ix2 i q) = gtG av i q := by
  rw [val_main_v28_apply, val_main_v27_apply, val_main_v26_apply, val_main_v25_apply, val_main_v24_apply, val_main_v23_apply]
  unfold gtG
  rw [sg_eq]
  generalize val_main_v19 (F := Ideal) x1 x3 x5 x6 (ValueIdx.ix2 i q) = y
  show Ideal.div (Ideal.ofBits .f32 0x3F800000#32) (Ideal.ofBits .f32 0x3F800000#32 + Ideal.exp (-y)) = Ideal.div 1 (1 + Ideal.exp (-y))
  rw [one_f32, EReal.coe_one]

theorem r_p (i : Fin 8192) (k : Fin 256) : val_main_v21 (F := Ideal) x2 (ValueIdx.ix2 i k) = x2 (ValueIdx.ix3 1 i k) := by
  rw [val_main_v21_apply, val_main_v20_apply]
  refine congrArg x2 ?_
  have hi := i.isLt
  have hk := k.isLt
  funext a
  apply Fin.ext
  match a with
  | ⟨0, _⟩ => rfl
  | ⟨1, _⟩ => show (i.val * 256 + k.val) / 256 % 8192 = i.val; omega
  | ⟨2, _⟩ => show (i.val * 256 + k.val) % 256 = k.val; omega

theorem r_pe (i : Fin 8192) (q : Fin 1024) : val_main_v22 (F := Ideal) x2 x4 (ValueIdx.ix2 i q) = peG x2 x4 i q := by
  rw [val_main_v22_apply]
  unfold peG
  refine Finset.sum_congr rfl fun k _ => ?_
  have e : lidx_main_v22 (ValueIdx.ix2 i q) k = ValueIdx.ix2 i k := ext2 rfl rfl
  have e' : ridx_main_v22 (ValueIdx.ix2 i q) k = ValueIdx.ix2 k q := ext2 rfl rfl
  rw [e, e', r_p]

theorem r_dp (i : Fin 8192) (q : Fin 1024) : val_main_v34 (F := Ideal) x0 x1 x3 x5 x6 (ValueIdx.ix2 i q) = dpG x0 av i q := by
  rw [val_main_v34_apply, r_gt]
  rfl

theorem r_da (i : Fin 8192) (q : Fin 1024) : val_main_v35 (F := Ideal) x0 x1 x2 x3 x4 x5 x6 (ValueIdx.ix2 i q) = daG x0 x2 x4 av i q := by
  rw [val_main_v35_apply, val_main_v33_apply, val_main_v31_apply, val_main_v30_apply, r_gt, r_pe]
  unfold daG
  rw [mul_comm (x0 (ValueIdx.ix2 i q))]
  rfl

theorem r_dx (i : Fin 8192) (k : Fin 1024) : val_main_v43 (F := Ideal) x0 x1 x2 x3 x4 x5 x6 (ValueIdx.ix2 i k) = dxG x0 x2 x4 x5 av i k := by
  rw [val_main_v43_apply]
  unfold dxG
  refine Finset.sum_congr rfl fun q _ => ?_
  have e : lidx_main_v43 (ValueIdx.ix2 i k) q = ValueIdx.ix2 i q := ext2 rfl rfl
  have e' : ridx_main_v43 (ValueIdx.ix2 i k) q = ValueIdx.ix2 k q := ext2 rfl rfl
  rw [e, e', r_da]

theorem r_dn (i : Fin 8192) (k : Fin 1024) : val_main_v48 (F := Ideal) x0 x1 x2 x3 x4 x5 x6 (ValueIdx.ix2 i k) = dxG x0 x2 x4 x5 av i k * x3 (ValueIdx.ix1 k) := by
  rw [val_main_v48_apply, r_dx, val_main_v47_apply, val_main_v13_apply]
  have e : idx_main_v13 (idx_main_v47 (ValueIdx.ix2 i k)) = ValueIdx.ix1 k := ext1 rfl
  rw [e]
  rfl

/-! ## The weights' gradients -/

theorem res6 (b : Fin 4) (k q : Fin 256) : val_main_v65 (F := Ideal) x0 x1 x2 x3 x5 x6 (ValueIdx.ix3 b k q)
    = ∑ i : Fin 8192, x2 (ValueIdx.ix3 1 i k) * dpG x0 av i ⟨256 * b.val + q.val, by omega⟩ := by
  have hb := b.isLt
  have hk := k.isLt
  have hq := q.isLt
  rw [val_main_v65_apply, val_main_v64_apply, val_main_v37_apply]
  have e : idx_main_v37 (idx_main_v64 (idx_main_v65 (ValueIdx.ix3 b k q))) = ValueIdx.ix2 (⟨256 * b.val + q.val, by omega⟩ : Fin 1024) k :=
    ext2 (by show ((k.val * 4 + b.val) * 256 + q.val) % 1024 = 256 * b.val + q.val; omega) (by show ((k.val * 4 + b.val) * 256 + q.val) / 1024 = k.val; omega)
  rw [e, val_main_v36_apply]
  refine Finset.sum_congr rfl fun i _ => ?_
  have e : lidx_main_v36 (ValueIdx.ix2 (⟨256 * b.val + q.val, by omega⟩ : Fin 1024) k) i = ValueIdx.ix2 i ⟨256 * b.val + q.val, by omega⟩ := ext2 rfl rfl
  have e' : ridx_main_v36 (ValueIdx.ix2 (⟨256 * b.val + q.val, by omega⟩ : Fin 1024) k) i = ValueIdx.ix2 i k := ext2 rfl rfl
  rw [e, e', r_p, r_dp]
  exact mul_comm _ _

theorem res7 (k q : Fin 1024) : val_main_v42 (F := Ideal) x0 x1 x2 x3 x4 x5 x6 (ValueIdx.ix2 k q)
    = ∑ i : Fin 8192, xgG x1 x3 i k * daG x0 x2 x4 av i q := by
  rw [val_main_v42_apply]
  have e : idx_main_v42 (ValueIdx.ix2 k q) = ValueIdx.ix2 q k := ext2 rfl rfl
  rw [e, val_main_v41_apply]
  refine Finset.sum_congr rfl fun i _ => ?_
  have e : lidx_main_v41 (ValueIdx.ix2 q k) i = ValueIdx.ix2 i q := ext2 rfl rfl
  have e' : ridx_main_v41 (ValueIdx.ix2 q k) i = ValueIdx.ix2 i k := ext2 rfl rfl
  rw [e, e', r_xg, r_da]
  exact mul_comm _ _

theorem res8 (q : Fin 1024) : val_main_v67 (F := Ideal) x0 x1 x2 x3 x4 x5 x6 (ValueIdx.ix2 0 q) = ∑ i : Fin 8192, daG x0 x2 x4 av i q := by
  rw [val_main_v67_apply]
  have e : idx_main_v67 (ValueIdx.ix2 0 q) = ValueIdx.ix1 q := ext1 (by show 0 * 1024 + q.val = q.val; omega)
  rw [e, val_main_v40_apply]
  refine (congrArg₂ (· + ·) zero_f32 (Fin.sum_univ_one _)).trans ((zero_add _).trans ?_)
  rw [val_main_v39_apply]
  have e : idx_main_v39 (idx_main_v40 (ValueIdx.ix1 q) 0) = ValueIdx.ix1 q := ext1 (by show 0 * 1024 + q.val = q.val; omega)
  rw [e, val_main_v38_apply]
  refine (congrArg₂ (· + ·) zero_f32 (Finset.sum_congr rfl fun i _ => ?_)).trans (zero_add _)
  have e : idx_main_v38 (ValueIdx.ix1 q) i = ValueIdx.ix2 i q := ext2 rfl rfl
  rw [e, r_da]

theorem res9 (q : Fin 1024) : val_main_v68 (F := Ideal) x0 x1 x2 x3 x4 x5 x6 (ValueIdx.ix2 0 q) = ∑ i : Fin 8192, dxG x0 x2 x4 x5 av i q * xhG x1 i q := by
  rw [val_main_v68_apply]
  have e : idx_main_v68 (ValueIdx.ix2 0 q) = ValueIdx.ix1 q := ext1 (by show 0 * 1024 + q.val = q.val; omega)
  rw [e, val_main_v49_apply]
  refine (congrArg₂ (· + ·) zero_f32 (Fin.sum_univ_one _)).trans ((zero_add _).trans ?_)
  rw [val_main_v46_apply]
  have e : idx_main_v46 (idx_main_v49 (ValueIdx.ix1 q) 0) = ValueIdx.ix1 q := ext1 (by show 0 * 1024 + q.val = q.val; omega)
  rw [e, val_main_v45_apply]
  refine (congrArg₂ (· + ·) zero_f32 (Finset.sum_congr rfl fun i _ => ?_)).trans (zero_add _)
  have e : idx_main_v45 (ValueIdx.ix1 q) i = ValueIdx.ix2 i q := ext2 rfl rfl
  rw [e, val_main_v44_apply, r_xh, r_dx]
  exact mul_comm _ _

/-! ## The input's gradient -/

/-- The product of a row with its gradient. -/
theorem r_row (i : Fin 8192) : val_main_v52 (F := Ideal) x0 x1 x2 x3 x4 x5 x6 (ValueIdx.ix2 i 0)
    = ∑ j : Fin 1024, x1 (ValueIdx.ix2 i j) * (dxG x0 x2 x4 x5 av i j * x3 (ValueIdx.ix1 j)) := by
  rw [val_main_v52_apply]
  have e : idx_main_v52 (ValueIdx.ix2 i 0) = ValueIdx.ix1 i := ext1 (by show i.val * 1 + 0 = i.val; omega)
  rw [e, val_main_v51_apply]
  refine (congrArg₂ (· + ·) zero_f32 (Finset.sum_congr rfl fun j _ => ?_)).trans (zero_add _)
  have e : idx_main_v51 (ValueIdx.ix1 i) j = ValueIdx.ix2 i j := ext2 rfl rfl
  rw [e, val_main_v50_apply, r_dn]
  rfl

theorem r_corr (i : Fin 8192) (k : Fin 1024) : val_main_v59 (F := Ideal) x0 x1 x2 x3 x4 x5 x6 (ValueIdx.ix2 i k)
    = Ideal.div ((∑ j : Fin 1024, x1 (ValueIdx.ix2 i j) * (dxG x0 x2 x4 x5 av i j * x3 (ValueIdx.ix1 j)))
        * (Ideal.ofBits .f32 0xBF000000#32 * Ideal.div (Ideal.rsqrt (ms x1 i)) (ms x1 i))) (Ideal.ofBits .f32 0x44800000#32) := by
  rw [val_main_v59_apply]
  have e : idx_main_v59 (ValueIdx.ix2 i k) = ValueIdx.ix1 i := ext1 rfl
  rw [e, val_main_v58_apply]
  refine (congrArg₂ (· + ·) zero_f32 (Fin.sum_univ_one _)).trans ((zero_add _).trans ?_)
  have e : idx_main_v58 (ValueIdx.ix1 i) 0 = ValueIdx.ix2 i 0 := ext2 rfl rfl
  rw [e, val_main_v57_apply, val_main_v55_apply, val_main_v10_apply, val_main_v8_apply, val_main_v7_apply, r_ms, r_row]
  rfl

theorem res5 (h1 : ∀ i, IsReal (x1 i)) (hd : ∀ (i : Fin 8192) (j : Fin 1024), IsReal (dxG x0 x2 x4 x5 av i j * x3 (ValueIdx.ix1 j))) (i : Fin 8192) (k : Fin 1024) :
    val_main_v66 (F := Ideal) x0 x1 x2 x3 x4 x5 x6 (ValueIdx.ix2 i k) = otG x0 x1 x2 x3 x4 x5 av i k := by
  rw [val_main_v66_apply, val_main_v63_apply, val_main_v61_apply, val_main_v62_apply, val_main_v60_apply, val_main_v54_apply, r_corr, r_dn, val_main_v53_apply]
  have e : idx_main_v53 (ValueIdx.ix2 i k) = ValueIdx.ix2 i 0 := ext2 rfl rfl
  rw [e, r_rs]
  obtain ⟨s, hs, es⟩ := Ffn.mean_sq_pos (fun j : Fin 1024 => (x1 (ValueIdx.ix2 i j) : EReal)) fun j => h1 _
  have em : ms x1 i = (s : EReal) := es
  have er : rs (fun j => x1 (ValueIdx.ix2 i j)) = Ideal.rsqrt (s : EReal) := congrArg Ideal.rsqrt es
  unfold otG xhG
  rw [em, er]
  exact congrArg (fun t : EReal => (x0 (ValueIdx.ix2 i k) : EReal) + t)
    (Ffn.norm_back (fun j : Fin 1024 => (x1 (ValueIdx.ix2 i j) : EReal)) (fun j : Fin 1024 => dxG x0 x2 x4 x5 av i j * x3 (ValueIdx.ix1 j)) (fun j => h1 _) (fun j => hd i j) hs k)

/-! ## Real arguments give real gradients -/

theorem real_one : IsReal (Ideal.ofBits .f32 0x3F800000#32) := ⟨1, one_f32⟩

theorem real_dx (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i))
    (h6 : ∀ i, IsReal (x6 i)) (i : Fin 8192) (k : Fin 1024) : IsReal (dxG x0 x2 x4 x5 av i k * x3 (ValueIdx.ix1 k)) := by
  have hx (j : Fin 1024) : IsReal (xgG x1 x3 i j) := by
    obtain ⟨s, hs, es⟩ := Ffn.mean_sq_pos (fun j : Fin 1024 => (x1 (ValueIdx.ix2 i j) : EReal)) fun j => h1 _
    obtain ⟨r, hr, _⟩ := Ffn.rsqrt_of_pos hs
    exact ((h1 _).mul ⟨r, (congrArg Ideal.rsqrt es).trans hr⟩).mul (h3 _)
  have ha (q : Fin 1024) : IsReal (val_main_v19 (F := Ideal) x1 x3 x5 x6 (ValueIdx.ix2 i q)) := by
    rw [val_main_v19_apply, val_main_v16_apply, val_main_v18_apply, val_main_v17_apply]
    refine IsReal.add (IsReal.sum _ _ fun j => IsReal.mul ?_ (h5 _)) (h6 _)
    have e : lidx_main_v16 (ValueIdx.ix2 i q) j = ValueIdx.ix2 i j := ext2 rfl rfl
    rw [e, r_xg]
    exact hx j
  have hg (q : Fin 1024) : IsReal (gtG av i q) := by
    unfold gtG
    rw [sg_eq]
    exact Ffn.isReal_logistic (ha q)
  refine IsReal.mul (IsReal.sum _ _ fun q => ?_) (h3 _)
  exact (((h0 _).mul (IsReal.sum _ _ fun k => (h2 _).mul (h4 _))).mul ((hg q).mul (real_one.sub (hg q)))).mul (h5 _)

end Cert.KernelPleIdeal.Pl

end
-- ==== Proof.Ffn.Ple.lean ====
/- The claim of the values for the backward pass of the per-layer embeddings. -/
module

public import proofs.«01_k».proof.Proof.Ffn.PleRef
public import proofs.«01_k».proof.Proof.Ffn.Pre
public import proofs.«01_k».proof.Defs

@[expose] public section

set_option maxRecDepth 16384

noncomputable section

namespace Cert.Pre_finite_ple

theorem holds : Cert.Pre_finite_ple.Facts where
  bcast_S_S8192x1024 := by decide
  bcast_S_S2x8192x256 := by decide
  bcast_S_S1024 := by decide
  bcast_S_S256x1024 := by decide
  bcast_S_S1024x1024 := by decide

end Cert.Pre_finite_ple

namespace Cert.Proof

open Idealize.ShloMosaic Idealize.ShloMosaic.TcCoe Idealize.SL.Sem
open Cert.KernelPleIdeal.Pl (A0 A1 A2 A3 A4 A5 A6 Av)
open Ffn (IsReal)

variable (m : (ℓ : Loc Cert.KernelPleIdeal.nD Cert.KernelPleIdeal.τ Cert.KernelPleIdeal.sig) → Buf (Elt Ideal) ℓ) (c : Dev Cert.KernelPleIdeal.nD)

/-- The precondition makes every argument's entries real. -/
theorem ple_reals (h : Cert.Pre_KernelPleIdeal_finite_ple (hPre_finite_ple := Cert.Pre_finite_ple.holds) m) :
    (∀ i, IsReal (A0 m c i)) ∧ (∀ i, IsReal (A1 m c i)) ∧ (∀ i, IsReal (A2 m c i)) ∧ (∀ i, IsReal (A3 m c i)) ∧ (∀ i, IsReal (A4 m c i))
      ∧ (∀ i, IsReal (A5 m c i)) ∧ ∀ i, IsReal (A6 m c i) := by
  obtain ⟨e0, e1, e2, e3, e4, e5, e6⟩ := h c
  open Cert.Pre_finite in
  exact ⟨fun i => real_of_word _ (congrFun e0 i), fun i => real_of_word _ (congrFun e1 i), fun i => real_of_word _ (congrFun e2 i),
    fun i => real_of_word _ (congrFun e3 i), fun i => real_of_word _ (congrFun e4 i), fun i => real_of_word _ (congrFun e5 i),
    fun i => real_of_word _ (congrFun e6 i)⟩

theorem ple_value5 (h : Cert.Pre_KernelPleIdeal_finite_ple (hPre_finite_ple := Cert.Pre_finite_ple.holds) m) :
    (Cert.KernelPleIdeal.Gen.dats m 0 c).arrAt 5 Cert.KernelPleIdeal.cfg0.N = Cert.ReferencePleIdeal.Read.val_main_v66 (F := Ideal) (A0 m c) (A1 m c) (A2 m c) (A3 m c) (A4 m c) (A5 m c) (A6 m c) := by
  obtain ⟨h0, h1, h2, h3, h4, h5, h6⟩ := ple_reals m c h
  rw [Cert.KernelPleIdeal.Pl.arr5]
  funext y
  exact ((Cert.KernelPleIdeal.Pl.res5 (A0 m c) (A1 m c) (A2 m c) (A3 m c) (A4 m c) (A5 m c) (A6 m c) h1 (fun i j => Cert.KernelPleIdeal.Pl.real_dx (A0 m c) (A1 m c) (A2 m c) (A3 m c) (A4 m c) (A5 m c) (A6 m c) h0 h1 h2 h3 h4 h5 h6 i j) (y 0) (y 1)).symm).trans
    (congrArg (Cert.ReferencePleIdeal.Read.val_main_v66 (F := Ideal) (A0 m c) (A1 m c) (A2 m c) (A3 m c) (A4 m c) (A5 m c) (A6 m c)) (ValueIdx.eq_ix2 y).symm)

theorem ple_value6 : (Cert.KernelPleIdeal.Gen.dats m 0 c).arrAt 6 Cert.KernelPleIdeal.cfg0.N = Cert.ReferencePleIdeal.Read.val_main_v65 (F := Ideal) (A0 m c) (A1 m c) (A2 m c) (A3 m c) (A5 m c) (A6 m c) := by
  rw [Cert.KernelPleIdeal.Pl.arr6]
  funext y
  exact ((Cert.KernelPleIdeal.Pl.res6 (A0 m c) (A1 m c) (A2 m c) (A3 m c) (A5 m c) (A6 m c) (y 0) (y 1) (y 2)).symm).trans
    (congrArg (Cert.ReferencePleIdeal.Read.val_main_v65 (F := Ideal) (A0 m c) (A1 m c) (A2 m c) (A3 m c) (A5 m c) (A6 m c)) (ValueIdx.eq_ix3 y).symm)

theorem ple_value7 : (Cert.KernelPleIdeal.Gen.dats m 0 c).arrAt 7 Cert.KernelPleIdeal.cfg0.N = Cert.ReferencePleIdeal.Read.val_main_v42 (F := Ideal) (A0 m c) (A1 m c) (A2 m c) (A3 m c) (A4 m c) (A5 m c) (A6 m c) := by
  rw [Cert.KernelPleIdeal.Pl.arr7]
  funext y
  exact ((Cert.KernelPleIdeal.Pl.res7 (A0 m c) (A1 m c) (A2 m c) (A3 m c) (A4 m c) (A5 m c) (A6 m c) (y 0) (y 1)).symm).trans
    (congrArg (Cert.ReferencePleIdeal.Read.val_main_v42 (F := Ideal) (A0 m c) (A1 m c) (A2 m c) (A3 m c) (A4 m c) (A5 m c) (A6 m c)) (ValueIdx.eq_ix2 y).symm)

theorem ple_value8 : (Cert.KernelPleIdeal.Gen.dats m 0 c).arrAt 8 Cert.KernelPleIdeal.cfg0.N = Cert.ReferencePleIdeal.Read.val_main_v67 (F := Ideal) (A0 m c) (A1 m c) (A2 m c) (A3 m c) (A4 m c) (A5 m c) (A6 m c) := by
  rw [Cert.KernelPleIdeal.Pl.arr8]
  funext y
  have e : y = ValueIdx.ix2 (n0 := 1) (n1 := 1024) 0 (y 1) := Cert.KernelPleIdeal.Pl.ext2' y
  exact ((Cert.KernelPleIdeal.Pl.res8 (A0 m c) (A1 m c) (A2 m c) (A3 m c) (A4 m c) (A5 m c) (A6 m c) (y 1)).symm).trans
    (congrArg (Cert.ReferencePleIdeal.Read.val_main_v67 (F := Ideal) (A0 m c) (A1 m c) (A2 m c) (A3 m c) (A4 m c) (A5 m c) (A6 m c)) e.symm)

theorem ple_value9 : (Cert.KernelPleIdeal.Gen.dats m 0 c).arrAt 9 Cert.KernelPleIdeal.cfg0.N = Cert.ReferencePleIdeal.Read.val_main_v68 (F := Ideal) (A0 m c) (A1 m c) (A2 m c) (A3 m c) (A4 m c) (A5 m c) (A6 m c) := by
  rw [Cert.KernelPleIdeal.Pl.arr9]
  funext y
  have e : y = ValueIdx.ix2 (n0 := 1) (n1 := 1024) 0 (y 1) := Cert.KernelPleIdeal.Pl.ext2' y
  exact ((Cert.KernelPleIdeal.Pl.res9 (A0 m c) (A1 m c) (A2 m c) (A3 m c) (A4 m c) (A5 m c) (A6 m c) (y 1)).symm).trans
    (congrArg (Cert.ReferencePleIdeal.Read.val_main_v68 (F := Ideal) (A0 m c) (A1 m c) (A2 m c) (A3 m c) (A4 m c) (A5 m c) (A6 m c)) e.symm)

/-- Both runs leave the input's gradient and the gradients of the two weights, the bias and the norm. -/
theorem algebraic_ple : Cert.algebraic_KernelPleIdeal_ReferencePleIdeal_pre_finite_ple (hKernelPleIdeal := Cert.KernelPleIdeal.Gen.facts)
    (hReferencePleIdeal := Cert.ReferencePleIdeal.Gen.facts) (hPre_finite_ple := Cert.Pre_finite_ple.holds) := by
  intro m g m' g' hpre hargs
  refine ⟨fun c => Cert.ReferencePleIdeal.Read.val_main_v66 (F := Ideal) (A0 m c) (A1 m c) (A2 m c) (A3 m c) (A4 m c) (A5 m c) (A6 m c),
    fun c => Cert.ReferencePleIdeal.Read.val_main_v65 (F := Ideal) (A0 m c) (A1 m c) (A2 m c) (A3 m c) (A5 m c) (A6 m c),
    fun c => Cert.ReferencePleIdeal.Read.val_main_v42 (F := Ideal) (A0 m c) (A1 m c) (A2 m c) (A3 m c) (A4 m c) (A5 m c) (A6 m c),
    fun c => Cert.ReferencePleIdeal.Read.val_main_v67 (F := Ideal) (A0 m c) (A1 m c) (A2 m c) (A3 m c) (A4 m c) (A5 m c) (A6 m c),
    fun c => Cert.ReferencePleIdeal.Read.val_main_v68 (F := Ideal) (A0 m c) (A1 m c) (A2 m c) (A3 m c) (A4 m c) (A5 m c) (A6 m c), ?_, ?_⟩
  · refine (θ_run Cert.KernelPleIdeal.defs _ _).mono (fun r hr c => ?_) (Cert.KernelPleIdeal.Value.run_blocks m g)
    obtain ⟨r0, r1, r2, r3, r4, rest⟩ := hr c
    exact ⟨r0.trans (ple_value5 m c hpre), r1.trans (ple_value6 m c), r2.trans (ple_value7 m c), r3.trans (ple_value8 m c), r4.trans (ple_value9 m c), rest⟩
  · refine (θ_run Cert.ReferencePleIdeal.defs _ _).mono (fun r hr c => ?_) (Cert.ReferencePleIdeal.Value.run m' g')
    obtain ⟨e0, e1, e2, e3, e4, e5, e6⟩ := hargs c
    obtain ⟨r0, r1, r2, r3, r4, rest⟩ := hr c
    refine ⟨(r0.trans (Cert.ReferencePleIdeal.Read.val_main_v66_eq m' c)).trans ?_,
      (r1.trans (Cert.ReferencePleIdeal.Read.val_main_v65_eq (m' ((c.tc : Thread Cert.ReferencePleIdeal.nD Cert.ReferencePleIdeal.τ).loc Cert.ReferencePleIdeal.main_arg0)) (m' ((c.tc : Thread Cert.ReferencePleIdeal.nD Cert.ReferencePleIdeal.τ).loc Cert.ReferencePleIdeal.main_arg1)) (m' ((c.tc : Thread Cert.ReferencePleIdeal.nD Cert.ReferencePleIdeal.τ).loc Cert.ReferencePleIdeal.main_arg2)) (m' ((c.tc : Thread Cert.ReferencePleIdeal.nD Cert.ReferencePleIdeal.τ).loc Cert.ReferencePleIdeal.main_arg3)) (m' ((c.tc : Thread Cert.ReferencePleIdeal.nD Cert.ReferencePleIdeal.τ).loc Cert.ReferencePleIdeal.main_arg5)) (m' ((c.tc : Thread Cert.ReferencePleIdeal.nD Cert.ReferencePleIdeal.τ).loc Cert.ReferencePleIdeal.main_arg6)))).trans ?_,
      (r2.trans (Cert.ReferencePleIdeal.Read.val_main_v42_eq (m' ((c.tc : Thread Cert.ReferencePleIdeal.nD Cert.ReferencePleIdeal.τ).loc Cert.ReferencePleIdeal.main_arg0)) (m' ((c.tc : Thread Cert.ReferencePleIdeal.nD Cert.ReferencePleIdeal.τ).loc Cert.ReferencePleIdeal.main_arg1)) (m' ((c.tc : Thread Cert.ReferencePleIdeal.nD Cert.ReferencePleIdeal.τ).loc Cert.ReferencePleIdeal.main_arg2)) (m' ((c.tc : Thread Cert.ReferencePleIdeal.nD Cert.ReferencePleIdeal.τ).loc Cert.ReferencePleIdeal.main_arg3)) (m' ((c.tc : Thread Cert.ReferencePleIdeal.nD Cert.ReferencePleIdeal.τ).loc Cert.ReferencePleIdeal.main_arg4)) (m' ((c.tc : Thread Cert.ReferencePleIdeal.nD Cert.ReferencePleIdeal.τ).loc Cert.ReferencePleIdeal.main_arg5)) (m' ((c.tc : Thread Cert.ReferencePleIdeal.nD Cert.ReferencePleIdeal.τ).loc Cert.ReferencePleIdeal.main_arg6)))).trans ?_,
      (r3.trans (Cert.ReferencePleIdeal.Read.val_main_v67_eq (m' ((c.tc : Thread Cert.ReferencePleIdeal.nD Cert.ReferencePleIdeal.τ).loc Cert.ReferencePleIdeal.main_arg0)) (m' ((c.tc : Thread Cert.ReferencePleIdeal.nD Cert.ReferencePleIdeal.τ).loc Cert.ReferencePleIdeal.main_arg1)) (m' ((c.tc : Thread Cert.ReferencePleIdeal.nD Cert.ReferencePleIdeal.τ).loc Cert.ReferencePleIdeal.main_arg2)) (m' ((c.tc : Thread Cert.ReferencePleIdeal.nD Cert.ReferencePleIdeal.τ).loc Cert.ReferencePleIdeal.main_arg3)) (m' ((c.tc : Thread Cert.ReferencePleIdeal.nD Cert.ReferencePleIdeal.τ).loc Cert.ReferencePleIdeal.main_arg4)) (m' ((c.tc : Thread Cert.ReferencePleIdeal.nD Cert.ReferencePleIdeal.τ).loc Cert.ReferencePleIdeal.main_arg5)) (m' ((c.tc : Thread Cert.ReferencePleIdeal.nD Cert.ReferencePleIdeal.τ).loc Cert.ReferencePleIdeal.main_arg6)))).trans ?_,
      (r4.trans (Cert.ReferencePleIdeal.Read.val_main_v68_eq (m' ((c.tc : Thread Cert.ReferencePleIdeal.nD Cert.ReferencePleIdeal.τ).loc Cert.ReferencePleIdeal.main_arg0)) (m' ((c.tc : Thread Cert.ReferencePleIdeal.nD Cert.ReferencePleIdeal.τ).loc Cert.ReferencePleIdeal.main_arg1)) (m' ((c.tc : Thread Cert.ReferencePleIdeal.nD Cert.ReferencePleIdeal.τ).loc Cert.ReferencePleIdeal.main_arg2)) (m' ((c.tc : Thread Cert.ReferencePleIdeal.nD Cert.ReferencePleIdeal.τ).loc Cert.ReferencePleIdeal.main_arg3)) (m' ((c.tc : Thread Cert.ReferencePleIdeal.nD Cert.ReferencePleIdeal.τ).loc Cert.ReferencePleIdeal.main_arg4)) (m' ((c.tc : Thread Cert.ReferencePleIdeal.nD Cert.ReferencePleIdeal.τ).loc Cert.ReferencePleIdeal.main_arg5)) (m' ((c.tc : Thread Cert.ReferencePleIdeal.nD Cert.ReferencePleIdeal.τ).loc Cert.ReferencePleIdeal.main_arg6)))).trans ?_,
      rest⟩
    · rw [e0, e1, e2, e3, e4, e5, e6]
    · rw [e0, e1, e2, e3, e5, e6]
    · rw [e0, e1, e2, e3, e4, e5, e6]
    · rw [e0, e1, e2, e3, e4, e5, e6]
    · rw [e0, e1, e2, e3, e4, e5, e6]

end Cert.Proof

end
-- ==== Proof.Ffn.KvStep.lean ====
/- The first layer's embeddings with the keys and values: the values one step of the grid stores, and those values at an index. -/
module

public import proofs.«01_k».proof.Proof.Gen.KernelKvIdeal.Frame.RunA
public import proofs.«01_k».proof.Proof.Gen.KernelKvIdeal.Frame.RunB
public import proofs.«01_k».proof.Proof.Ffn.PlePieces
public import proofs.«01_k».proof.Proof.Ffn.PleSem

@[expose] public section

set_option maxRecDepth 16384

noncomputable section

namespace Cert.KernelKvIdeal.Kv

open Cert.KernelKvIdeal Cert.KernelKvIdeal.Gen Idealize.ShloMosaic Idealize.ShloMosaic.ValueIdx Idealize.ShloMosaic.TcCoe Idealize.ShloMosaic.Tactic Idealize.SL.Sem
open Cert.KernelFwdIdeal.Fw (sg rs)
open Cert.KernelPleIdeal.Pl (IV hz2 hz3 sc_self row_bcast col_bcast rowsum)
open scoped BigOperators

theorem readCov_whole {κ : Kind} {sp : Space} {s : Shape} {e : EltTy} (v : View sig κ sp s e) (w : s.Idx → Elt Ideal e) (L : List (View.Piece (Elt Ideal) s e))
    (r : Rect s) : v.readCov (⟨Rect.whole s, w⟩ :: L) r.toLoadRect = View.ld w r :=
  View.readCov_fill v (off := fun _ => 0) _ w L r fun _ => rfl

theorem readCov_ld {κ : Kind} {sp : Space} {s : Shape} {e : EltTy} (v : View sig κ sp s e) (L : List (View.Piece (Elt Ideal) s e))
    (r : Rect s) : v.readCov L r.toLoadRect = View.ld (View.canon L) r :=
  View.readCov_eq_canon' v L r

/-- What one step reads: its rows of the input and of the embeddings, the norm's weights, the gate's bias, the second norm's
    weights, and the three weight matrices kept on chip. -/
structure Ins where
  h : IV S512x1024 .f32
  p : IV S1x512x256 .f32
  n : IV S1x1024 .f32
  b : IV S1x1024 .f32
  nk : IV S1x1024 .f32
  wp : IV S4x256x256 .bf16
  wg : IV S1024x1024 .bf16
  wk : IV S1024x512 .bf16

variable (z : Ins)

/-- The same rows as the backward pass reads them. -/
def Ins.pl : KernelPleIdeal.Pl.Ins := ⟨z.h, z.h, z.p, k0_pay3 z.h z.n z.wg z.b, z.n, z.wp, z.wg⟩

/-- The projected embeddings, as stored block by block. -/
def lpe : List (View.Piece (Elt Ideal) S512x1024 .f32) :=
  [⟨Rect.unit (s := S512x1024) ![0, 768] ![512, 256] inb_S512x1024_S512x256_0_768, k0_pay9 z.p (View.ld z.wp (Rect.unit ![3, 0, 0] ![1, 256, 256] inb_S4x256x256_S1x256x256_3_0_0))⟩,
   ⟨Rect.unit (s := S512x1024) ![0, 512] ![512, 256] inb_S512x1024_S512x256_0_512, k0_pay8 z.p (View.ld z.wp (Rect.unit ![2, 0, 0] ![1, 256, 256] inb_S4x256x256_S1x256x256_2_0_0))⟩,
   ⟨Rect.unit (s := S512x1024) ![0, 256] ![512, 256] inb_S512x1024_S512x256_0_256, k0_pay7 z.p (View.ld z.wp (Rect.unit ![1, 0, 0] ![1, 256, 256] inb_S4x256x256_S1x256x256_1_0_0))⟩,
   ⟨Rect.unit (s := S512x1024) ![0, 0] ![512, 256] inb_S512x1024_S512x256_0_0, k0_pay6 z.p (View.ld z.wp (Rect.unit ![0, 0, 0] ![1, 256, 256] inb_S4x256x256_S1x256x256_0_0_0))⟩]

theorem lpe_eq : lpe z = KernelPleIdeal.Pl.lpe z.pl := rfl

/-- The layer's output. -/
def oT : IV S512x1024 .f32 := k0_pay10 z.h (k0_pay4 z.h z.n z.wg z.b) (View.canon (lpe z))

/-- The stores of the layer's output, of the keys and values, and of the gate's argument. -/
def list5 : List (View.Piece (Elt Ideal) S512x1024 .f32) := [⟨Rect.unit (s := S512x1024) ![0, 0] ![512, 1024] inb_S512x1024_S512x1024_0_0, oT z⟩]
def list6 : List (View.Piece (Elt Ideal) S512x512 .bf16) := [⟨Rect.unit (s := S512x512) ![0, 0] ![512, 512] inb_S512x512_S512x512_0_0, k0_pay1 (oT z) z.nk z.wk⟩]
def list7 : List (View.Piece (Elt Ideal) S512x1024 .bf16) := [⟨Rect.unit (s := S512x1024) ![0, 0] ![512, 1024] inb_S512x1024_S512x1024_0_0, k0_pay3 z.h z.n z.wg z.b⟩]

section
variable (c : Dev nD) (i : grid0.Coords) (arg1 : Memref sig .tc .vmem S512x1024 .f32) (harg1 : arg1.IsWhole) (arg2 : Memref sig .tc .vmem S1x512x256 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S512x1024 .f32) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S4x256x256 .bf16) (harg12 : arg12.IsWhole) (arg13 : Memref sig .tc .vmem S1024x1024 .bf16) (harg13 : arg13.IsWhole) (arg14 : Memref sig .tc .vmem S1024x512 .bf16) (harg14 : arg14.IsWhole) (arg15 : Memref sig .tc .vmem S512x1024 .f32) (harg15 : arg15.IsWhole)
  (x0 : Vec Ideal S512x1024 .f32) (x1 : Vec Ideal S1x512x256 .f32) (x2 : Vec Ideal S1x1024 .f32) (x3 : Vec Ideal S1x1024 .f32) (x4 : Vec Ideal S1x1024 .f32) (xs0 : Vec Ideal S4x256x256 .bf16) (xs1 : Vec Ideal S1024x1024 .bf16) (xs2 : Vec Ideal S1024x512 .bf16) (fh0 : HbBuf0 (F := Ideal) c hbM0_0) (fh1 : HbBuf0 (F := Ideal) c hbM0_1) (fh2 : HbBuf0 (F := Ideal) c hbM0_2)

local notation "runA" => kernelRun0_A (F := Ideal) c i arg1 harg1 arg2 harg2 arg3 harg3 arg4 harg4 arg5 harg5 arg9 harg9 arg10 harg10 arg11 harg11 arg12 harg12 arg13 harg13 arg14 harg14 arg15 harg15
local notation "runB" => kernelRun0_B (F := Ideal) c i arg1 harg1 arg2 harg2 arg3 harg3 arg4 harg4 arg5 harg5 arg9 harg9 arg10 harg10 arg11 harg11 arg12 harg12 arg13 harg13 arg14 harg14 arg15 harg15

set_option maxHeartbeats 4000000 in
theorem runB_eq (hc0 : ¬cond0_0 i) :
    (runB hc0 x0 x1 x2 x3 x4 xs0 xs1 xs2 fh0 fh1 fh2).1 = list5 (Ins.mk x0 x1 x2 x3 x4 xs0 xs1 xs2) ∧
      (runB hc0 x0 x1 x2 x3 x4 xs0 xs1 xs2 fh0 fh1 fh2).2.1 = list6 (Ins.mk x0 x1 x2 x3 x4 xs0 xs1 xs2) ∧
      (runB hc0 x0 x1 x2 x3 x4 xs0 xs1 xs2 fh0 fh1 fh2).2.2.1 = list7 (Ins.mk x0 x1 x2 x3 x4 xs0 xs1 xs2) := by
  refine ⟨?_, ?_, ?_⟩ <;> unfold kernelRun0_B <;> dsimp only <;> sl_unfold_words <;>
  simp (config := {decide := true}) only [View.readAt_eq_ld, readCov_ld, harg1.read_unread, harg2.read_unread, harg3.read_unread, harg4.read_unread, harg5.read_unread, harg12.read_unread, harg13.read_unread, harg14.read_unread,
    View.ld_unit_zero (S := S512x1024) hz2, View.ld_unit_zero (S := S1024x1024) hz2, View.ld_unit_zero (S := S1x1024) hz2, View.ld_unit_zero (S := S512x512) hz2, View.ld_unit_zero (S := S1024x512) hz2, View.ld_unit_zero (S := S1x512x256) hz3, View.ld_unit_zero (S := S4x256x256) hz3, list5, list6, list7, oT, lpe]

set_option maxHeartbeats 4000000 in
theorem runA_eq (hc0 : cond0_0 i) :
    (runA hc0 x0 x1 x2 x3 x4 fh0 fh1 fh2).1 = list5 (Ins.mk x0 x1 x2 x3 x4 (View.read (Elt Ideal) (View.whole main_v2) fh0) (View.read (Elt Ideal) (View.whole main_v6) fh1) (View.read (Elt Ideal) (View.whole main_v7) fh2)) ∧
      (runA hc0 x0 x1 x2 x3 x4 fh0 fh1 fh2).2.1 = list6 (Ins.mk x0 x1 x2 x3 x4 (View.read (Elt Ideal) (View.whole main_v2) fh0) (View.read (Elt Ideal) (View.whole main_v6) fh1) (View.read (Elt Ideal) (View.whole main_v7) fh2)) ∧
      (runA hc0 x0 x1 x2 x3 x4 fh0 fh1 fh2).2.2.1 = list7 (Ins.mk x0 x1 x2 x3 x4 (View.read (Elt Ideal) (View.whole main_v2) fh0) (View.read (Elt Ideal) (View.whole main_v6) fh1) (View.read (Elt Ideal) (View.whole main_v7) fh2)) := by
  refine ⟨?_, ?_, ?_⟩ <;> unfold kernelRun0_A <;> dsimp only <;> sl_unfold_words <;>
  simp (config := {decide := true}) only [↓View.readCov_skip, ↓View.readCov_fill, ↓readCov_whole, ReadAs.apply_same, View.readAt_eq_ld, readCov_ld, harg1.read_unread, harg2.read_unread, harg3.read_unread, harg4.read_unread, harg5.read_unread,
    View.ld_unit_zero (S := S512x1024) hz2, View.ld_unit_zero (S := S1024x1024) hz2, View.ld_unit_zero (S := S1x1024) hz2, View.ld_unit_zero (S := S512x512) hz2, View.ld_unit_zero (S := S1024x512) hz2, View.ld_unit_zero (S := S1x512x256) hz3, View.ld_unit_zero (S := S4x256x256) hz3, list5, list6, list7, oT, lpe]

end

/-- The gate's argument. -/
def ga (r : Fin 512) (q : Fin 1024) : EReal := (∑ k : Fin 1024, KernelPleIdeal.Pl.xg z.pl r k * z.wg (ix2 k q)) + z.b (ix2 0 q)

/-- The layer's output. -/
def ot (r : Fin 512) (q : Fin 1024) : EReal := z.h (ix2 r q) + KernelPleIdeal.Pl.pe z.pl r q * sg (ga z r q)

/-- The keys and values. -/
def kv (r : Fin 512) (q : Fin 512) : EReal := ∑ k : Fin 1024, ot z r k * rs (ot z r) * z.nk (ix2 0 k) * z.wk (ix2 k q)

theorem pay2_apply (r : Fin 512) (q : Fin 1024) : k0_pay2 z.h z.n z.wg z.b (ix2 r q) = ga z r q := by
  unfold k0_pay2
  try dsimp only
  rw [addf_apply, row_bcast, sc_self]
  refine congrArg (· + _) ?_
  refine (Ideal.matmul_plain_apply none (KernelPleIdeal.Gen.k0_pay9 z.h z.n) z.wg (constant S512x1024 .f32 0x00000000#32) r q).trans ?_
  rw [constant_apply, Ideal.ofBits_zero_f32, zero_add]
  refine Finset.sum_congr rfl fun k _ => congrArg (· * _) (KernelPleIdeal.Pl.pay9_apply z.pl r k)

theorem oT_apply (r : Fin 512) (q : Fin 1024) : oT z (ix2 r q) = ot z r q := by
  unfold oT k0_pay10 k0_pay4
  try dsimp only
  rw [lpe_eq]
  show z.h (ix2 r q) + KernelPleIdeal.Pl.peT z.pl (ix2 r q) * (Ideal.ofBits .f32 0x3F000000#32 * Ideal.tanh (Ideal.ofBits .f32 0x3F000000#32 * k0_pay2 z.h z.n z.wg z.b (ix2 r q)) + Ideal.ofBits .f32 0x3F000000#32) = _
  rw [pay2_apply, KernelPleIdeal.Pl.peT_apply]
  rfl

theorem kv_apply (r : Fin 512) (q : Fin 512) : k0_pay1 (oT z) z.nk z.wk (ix2 r q) = kv z r q := by
  unfold k0_pay1
  try dsimp only
  rw [truncf_apply]
  refine (Ideal.matmul_plain_apply none (KernelPleIdeal.Gen.k0_pay9 (oT z) z.nk) z.wk (constant S512x512 .f32 0x00000000#32) r q).trans ?_
  rw [constant_apply, Ideal.ofBits_zero_f32, zero_add]
  refine Finset.sum_congr rfl fun k _ => congrArg (· * _) ?_
  refine (KernelPleIdeal.Pl.pay9_apply ⟨z.h, oT z, z.p, k0_pay3 z.h z.n z.wg z.b, z.nk, z.wp, z.wg⟩ r k).trans ?_
  show oT z (ix2 r k) * rs (fun j => oT z (ix2 r j)) * z.nk (ix2 0 k) = _
  rw [oT_apply, show (fun j => oT z (ix2 r j)) = ot z r from funext (oT_apply z r)]

theorem canon5 (r : Fin 512) (q : Fin 1024) : View.canon (list5 z) (ix2 r q) = ot z r q :=
  (congrFun (View.canon_unit_zero (S := S512x1024) hz2 _ _) _).trans (oT_apply z r q)
theorem canon6 (r : Fin 512) (q : Fin 512) : View.canon (list6 z) (ix2 r q) = kv z r q :=
  (congrFun (View.canon_unit_zero (S := S512x512) hz2 _ _) _).trans (kv_apply z r q)
theorem canon7 (r : Fin 512) (q : Fin 1024) : View.canon (list7 z) (ix2 r q) = ga z r q :=
  (congrFun (View.canon_unit_zero (S := S512x1024) hz2 _ _) _).trans (pay2_apply z r q)

end Cert.KernelKvIdeal.Kv

end
-- ==== Proof.Ffn.KvOuts.lean ====
/- The first layer's embeddings with the keys and values: what each point of the grid leaves, and the three arrays over the arguments. -/
module

public import proofs.«01_k».proof.Proof.Gen.KernelKvIdeal.Value
public import proofs.«01_k».proof.Proof.Ffn.KvStep
public import proofs.«01_k».proof.Proof.Ffn.PleHost

@[expose] public section

set_option maxRecDepth 16384

noncomputable section

namespace Cert.KernelKvIdeal.Kv

open Cert.KernelKvIdeal Cert.KernelKvIdeal.Gen Idealize.ShloMosaic Idealize.ShloMosaic.TcCoe Idealize.ShloMosaic.Tactic Idealize.SL.Sem
open Cert.KernelFwdIdeal.Fw (sg rs)
open Cert.KernelPleIdeal.Pl (IV xgG)
open scoped BigOperators

section
variable (c : Dev nD) (i : grid0.Coords) (arg1 : Memref sig .tc .vmem S512x1024 .f32) (harg1 : arg1.IsWhole) (arg2 : Memref sig .tc .vmem S1x512x256 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S512x1024 .f32) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S4x256x256 .bf16) (harg12 : arg12.IsWhole) (arg13 : Memref sig .tc .vmem S1024x1024 .bf16) (harg13 : arg13.IsWhole) (arg14 : Memref sig .tc .vmem S1024x512 .bf16) (harg14 : arg14.IsWhole) (arg15 : Memref sig .tc .vmem S512x1024 .f32) (harg15 : arg15.IsWhole)
  (x0 : Vec Ideal S512x1024 .f32) (x1 : Vec Ideal S1x512x256 .f32) (x2 : Vec Ideal S1x1024 .f32) (x3 : Vec Ideal S1x1024 .f32) (x4 : Vec Ideal S1x1024 .f32) (xs0 : Vec Ideal S4x256x256 .bf16) (xs1 : Vec Ideal S1024x1024 .bf16) (xs2 : Vec Ideal S1024x512 .bf16) (fh0 : HbBuf0 (F := Ideal) c hbM0_0) (fh1 : HbBuf0 (F := Ideal) c hbM0_1) (fh2 : HbBuf0 (F := Ideal) c hbM0_2)

theorem oA_5 (hc0 : cond0_0 i) (r : Fin 512) (q : Fin 1024) : out0_A_5 (F := Ideal) c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 (ValueIdx.ix2 r q) = ot (Ins.mk x0 x1 x2 x3 x4 (View.read (Elt Ideal) (View.whole main_v2) fh0) (View.read (Elt Ideal) (View.whole main_v6) fh1) (View.read (Elt Ideal) (View.whole main_v7) fh2)) r q := by
  unfold out0_A_5
  rw [View.read_writes_junk_eq_canon, (runA_eq ..).1]
  exact canon5 _ r q

theorem oA_6 (hc0 : cond0_0 i) (r : Fin 512) (q : Fin 512) : out0_A_6 (F := Ideal) c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 (ValueIdx.ix2 r q) = kv (Ins.mk x0 x1 x2 x3 x4 (View.read (Elt Ideal) (View.whole main_v2) fh0) (View.read (Elt Ideal) (View.whole main_v6) fh1) (View.read (Elt Ideal) (View.whole main_v7) fh2)) r q := by
  unfold out0_A_6
  rw [View.read_writes_junk_eq_canon, (runA_eq ..).2.1]
  exact canon6 _ r q

theorem oA_7 (hc0 : cond0_0 i) (r : Fin 512) (q : Fin 1024) : out0_A_7 (F := Ideal) c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 (ValueIdx.ix2 r q) = ga (Ins.mk x0 x1 x2 x3 x4 (View.read (Elt Ideal) (View.whole main_v2) fh0) (View.read (Elt Ideal) (View.whole main_v6) fh1) (View.read (Elt Ideal) (View.whole main_v7) fh2)) r q := by
  unfold out0_A_7
  rw [View.read_writes_junk_eq_canon, (runA_eq ..).2.2]
  exact canon7 _ r q

theorem oB_5 (hc0 : ¬cond0_0 i) (r : Fin 512) (q : Fin 1024) : out0_B_5 (F := Ideal) c i arg1 harg1 arg2 harg2 arg3 harg3 arg4 harg4 arg5 harg5 arg9 harg9 arg10 harg10 arg11 harg11 arg12 harg12 arg13 harg13 arg14 harg14 arg15 harg15 hc0 x0 x1 x2 x3 x4 xs0 xs1 xs2 fh0 fh1 fh2 (ValueIdx.ix2 r q) = ot (Ins.mk x0 x1 x2 x3 x4 xs0 xs1 xs2) r q := by
  unfold out0_B_5
  rw [View.read_writes_junk_eq_canon, (runB_eq ..).1]
  exact canon5 _ r q

theorem oB_6 (hc0 : ¬cond0_0 i) (r : Fin 512) (q : Fin 512) : out0_B_6 (F := Ideal) c i arg1 harg1 arg2 harg2 arg3 harg3 arg4 harg4 arg5 harg5 arg9 harg9 arg10 harg10 arg11 harg11 arg12 harg12 arg13 harg13 arg14 harg14 arg15 harg15 hc0 x0 x1 x2 x3 x4 xs0 xs1 xs2 fh0 fh1 fh2 (ValueIdx.ix2 r q) = kv (Ins.mk x0 x1 x2 x3 x4 xs0 xs1 xs2) r q := by
  unfold out0_B_6
  rw [View.read_writes_junk_eq_canon, (runB_eq ..).2.1]
  exact canon6 _ r q

theorem oB_7 (hc0 : ¬cond0_0 i) (r : Fin 512) (q : Fin 1024) : out0_B_7 (F := Ideal) c i arg1 harg1 arg2 harg2 arg3 harg3 arg4 harg4 arg5 harg5 arg9 harg9 arg10 harg10 arg11 harg11 arg12 harg12 arg13 harg13 arg14 harg14 arg15 harg15 hc0 x0 x1 x2 x3 x4 xs0 xs1 xs2 fh0 fh1 fh2 (ValueIdx.ix2 r q) = ga (Ins.mk x0 x1 x2 x3 x4 xs0 xs1 xs2) r q := by
  unfold out0_B_7
  rw [View.read_writes_junk_eq_canon, (runB_eq ..).2.2]
  exact canon7 _ r q

theorem oA_S0 (hc0 : cond0_0 i) : sout0_A_0 (F := Ideal) c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = View.read (Elt Ideal) (View.whole main_v2) fh0 := by
  unfold sout0_A_0
  rw [View.read_writes_junk_eq_canon]
  unfold kernelRun0_A
  dsimp only
  sl_unfold_words
  exact View.canon_unit_zero (S := S4x256x256) (off := fun _ => 0) rfl _ _

theorem oA_S1 (hc0 : cond0_0 i) : sout0_A_1 (F := Ideal) c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = View.read (Elt Ideal) (View.whole main_v6) fh1 := by
  unfold sout0_A_1
  rw [View.read_writes_junk_eq_canon]
  unfold kernelRun0_A
  dsimp only
  sl_unfold_words
  exact View.canon_unit_zero (S := S1024x1024) (off := fun _ => 0) rfl _ _

theorem oA_S2 (hc0 : cond0_0 i) : sout0_A_2 (F := Ideal) c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = View.read (Elt Ideal) (View.whole main_v7) fh2 := by
  unfold sout0_A_2
  rw [View.read_writes_junk_eq_canon]
  unfold kernelRun0_A
  dsimp only
  sl_unfold_words
  exact View.canon_unit_zero (S := S1024x512) (off := fun _ => 0) rfl _ _

end

variable (m : (ℓ : Loc nD τ sig) → Buf (Elt Ideal) ℓ)

/-- What point `n` reads. -/
def zAt (c : Dev nD) (n : ℕ) (h : n < cfg0.N) : Ins :=
  ⟨iblk m c 0 ⟨n, h⟩, iblk m c 1 ⟨n, h⟩, iblk m c 2 ⟨n, h⟩, iblk m c 3 ⟨n, h⟩, iblk m c 4 ⟨n, h⟩, V m c main_v2, V m c main_v6, V m c main_v7⟩

attribute [local irreducible] outsAt0 out0_A_5 out0_A_6 out0_A_7 out0_B_5 out0_B_6 out0_B_7 sout0_A_0 sout0_A_1 sout0_A_2

theorem later (n : ℕ) (h : n + 1 < cfg0.N) : ¬ (⟨n + 1, h⟩ : Fin cfg0.N).val % 16 = 0 := by
  have hN : n + 1 < 16 := lt_of_lt_of_eq h (show cfg0.N = 16 from N_0)
  show ¬ (n + 1) % 16 = 0
  omega

theorem first (h : 0 < cfg0.N) : (⟨0, h⟩ : Fin cfg0.N).val % 16 = 0 := rfl

/-- The weights stay as copied in. -/
theorem kept (c : Dev nD) : (n : ℕ) → (h : n < cfg0.N) → (outsAt0 m c n h).2.2.2.1 = V m c main_v2 ∧ (outsAt0 m c n h).2.2.2.2.1 = V m c main_v6 ∧ (outsAt0 m c n h).2.2.2.2.2 = V m c main_v7
  | 0, h => ⟨(congrArg (fun p => p.2.2.2.1) (outsAt0_A m c ⟨0, h⟩ (first h))).trans (oA_S0 ..),
      (congrArg (fun p => p.2.2.2.2.1) (outsAt0_A m c ⟨0, h⟩ (first h))).trans (oA_S1 ..),
      (congrArg (fun p => p.2.2.2.2.2) (outsAt0_A m c ⟨0, h⟩ (first h))).trans (oA_S2 ..)⟩
  | n + 1, h => ⟨(congrArg (fun p => p.2.2.2.1) (outsAt0_B m c ⟨n + 1, h⟩ (later n h))).trans (kept c n (Nat.lt_of_succ_lt h)).1,
      (congrArg (fun p => p.2.2.2.2.1) (outsAt0_B m c ⟨n + 1, h⟩ (later n h))).trans (kept c n (Nat.lt_of_succ_lt h)).2.1,
      (congrArg (fun p => p.2.2.2.2.2) (outsAt0_B m c ⟨n + 1, h⟩ (later n h))).trans (kept c n (Nat.lt_of_succ_lt h)).2.2⟩

/-- What a later point reads, over what the point before left. -/
def zOf (c : Dev nD) (n : ℕ) (h : n + 1 < cfg0.N) : Ins :=
  ⟨iblk m c 0 ⟨n + 1, h⟩, iblk m c 1 ⟨n + 1, h⟩, iblk m c 2 ⟨n + 1, h⟩, iblk m c 3 ⟨n + 1, h⟩, iblk m c 4 ⟨n + 1, h⟩,
    (outsAt0 m c n (Nat.lt_of_succ_lt h)).2.2.2.1, (outsAt0 m c n (Nat.lt_of_succ_lt h)).2.2.2.2.1, (outsAt0 m c n (Nat.lt_of_succ_lt h)).2.2.2.2.2⟩

theorem zOf_eq (c : Dev nD) (n : ℕ) (h : n + 1 < cfg0.N) : zOf m c n h = zAt m c (n + 1) h := by
  unfold zOf zAt
  rw [(kept m c n _).1, (kept m c n _).2.1, (kept m c n _).2.2]

theorem at_5 (c : Dev nD) (r : Fin 512) (q : Fin 1024) : (n : ℕ) → (h : n < cfg0.N) → (outsAt0 m c n h).1 (ValueIdx.ix2 r q) = ot (zAt m c n h) r q
  | 0, h => (congrArg (fun p => p.1 (ValueIdx.ix2 r q)) (outsAt0_A m c ⟨0, h⟩ (first h))).trans (oA_5 ..)
  | n + 1, h => ((congrArg (fun p => p.1 (ValueIdx.ix2 r q)) (outsAt0_B m c ⟨n + 1, h⟩ (later n h))).trans (oB_5 ..)).trans (congrArg (fun z => ot z r q) (zOf_eq m c n h))

theorem at_6 (c : Dev nD) (r : Fin 512) (q : Fin 512) : (n : ℕ) → (h : n < cfg0.N) → (outsAt0 m c n h).2.1 (ValueIdx.ix2 r q) = kv (zAt m c n h) r q
  | 0, h => (congrArg (fun p => p.2.1 (ValueIdx.ix2 r q)) (outsAt0_A m c ⟨0, h⟩ (first h))).trans (oA_6 ..)
  | n + 1, h => ((congrArg (fun p => p.2.1 (ValueIdx.ix2 r q)) (outsAt0_B m c ⟨n + 1, h⟩ (later n h))).trans (oB_6 ..)).trans (congrArg (fun z => kv z r q) (zOf_eq m c n h))

theorem at_7 (c : Dev nD) (r : Fin 512) (q : Fin 1024) : (n : ℕ) → (h : n < cfg0.N) → (outsAt0 m c n h).2.2.1 (ValueIdx.ix2 r q) = ga (zAt m c n h) r q
  | 0, h => (congrArg (fun p => p.2.2.1 (ValueIdx.ix2 r q)) (outsAt0_A m c ⟨0, h⟩ (first h))).trans (oA_7 ..)
  | n + 1, h => ((congrArg (fun p => p.2.2.1 (ValueIdx.ix2 r q)) (outsAt0_B m c ⟨n + 1, h⟩ (later n h))).trans (oB_7 ..)).trans (congrArg (fun z => ga z r q) (zOf_eq m c n h))

/-! ## The pass's values at an index -/

section
variable (a0 : IV S8192x1024 .f32) (a1 : IV S2x8192x256 .f32) (a2 : IV S1024 .f32) (a3 : IV S256x1024 .f32) (a4 : IV S1024x1024 .f32) (a5 a6 : IV S1024 .f32) (a7 : IV S1024x512 .f32)

/-- The projected embeddings. -/
def peG (i : Fin 8192) (q : Fin 1024) : EReal := ∑ k : Fin 256, a1 (ValueIdx.ix3 0 i k) * a3 (ValueIdx.ix2 k q)

/-- The gate's argument. -/
def gaG (i : Fin 8192) (q : Fin 1024) : EReal := (∑ k : Fin 1024, xgG a0 a2 i k * a4 (ValueIdx.ix2 k q)) + a5 (ValueIdx.ix1 q)

/-- The layer's output. -/
def otG (i : Fin 8192) (q : Fin 1024) : EReal := a0 (ValueIdx.ix2 i q) + peG a1 a3 i q * sg (gaG a0 a2 a4 a5 i q)

/-- The keys and values. -/
def kvG (i : Fin 8192) (q : Fin 512) : EReal :=
  ∑ k : Fin 1024, xgG (fun y : S8192x1024.Idx => otG a0 a1 a2 a3 a4 a5 (y 0) (y 1)) a6 i k * a7 (ValueIdx.ix2 k q)

end

abbrev A0 (c : Dev nD) : IV S8192x1024 .f32 := m (c.tc.loc main_arg0)
abbrev A1 (c : Dev nD) : IV S2x8192x256 .f32 := m (c.tc.loc main_arg1)
abbrev A2 (c : Dev nD) : IV S1024 .f32 := m (c.tc.loc main_arg2)
abbrev A3 (c : Dev nD) : IV S256x1024 .f32 := m (c.tc.loc main_arg3)
abbrev A4 (c : Dev nD) : IV S1024x1024 .f32 := m (c.tc.loc main_arg4)
abbrev A5 (c : Dev nD) : IV S1024 .f32 := m (c.tc.loc main_arg5)
abbrev A6 (c : Dev nD) : IV S1024 .f32 := m (c.tc.loc main_arg6)
abbrev A7 (c : Dev nD) : IV S1024x512 .f32 := m (c.tc.loc main_arg7)

/-! ## The host's arrays -/

theorem asRow (x : IV S1024 .f32) (k : Fin 1024) : shapeCast S1x1024 x shapeCasts_S1024_S1x1024 (ValueIdx.ix2 0 k) = x (ValueIdx.ix1 k) :=
  shapeCast_apply _ shapeCasts_S1024_S1x1024 (ValueIdx.ix2 0 k) (ValueIdx.ix1 k) (by simp [Shape.rowMajor_val_two, Shape.rowMajor_val_one])

theorem V3 (c : Dev nD) : (V m c main_v3 : IV S1x1024 .f32) = shapeCast S1x1024 (A2 m c) shapeCasts_S1024_S1x1024 := by
  unfold V hostOps0
  after_reads_simp
  rfl

theorem V4 (c : Dev nD) : (V m c main_v4 : IV S1x1024 .f32) = shapeCast S1x1024 (A5 m c) shapeCasts_S1024_S1x1024 := by
  unfold V hostOps0
  after_reads_simp
  rfl

theorem V5 (c : Dev nD) : (V m c main_v5 : IV S1x1024 .f32) = shapeCast S1x1024 (A6 m c) shapeCasts_S1024_S1x1024 := by
  unfold V hostOps0
  after_reads_simp
  rfl

theorem V6 (c : Dev nD) : (V m c main_v6 : IV S1024x1024 .bf16) = A4 m c := by
  have : (V m c main_v6 : IV S1024x1024 .bf16) = truncf (F := Ideal) .bf16 (A4 m c) bitsLt_bf16_f32 := by
    unfold V hostOps0
    after_reads_simp
  rw [this]
  rfl

theorem V7 (c : Dev nD) : (V m c main_v7 : IV S1024x512 .bf16) = A7 m c := by
  have : (V m c main_v7 : IV S1024x512 .bf16) = truncf (F := Ideal) .bf16 (A7 m c) bitsLt_bf16_f32 := by
    unfold V hostOps0
    after_reads_simp
  rw [this]
  rfl

theorem V2 (c : Dev nD) (k : Fin 256) (q : Fin 1024) : (V m c main_v2 : IV S4x256x256 .bf16) (ValueIdx.ix3 ⟨q.val / 256, by omega⟩ k ⟨q.val % 256, by omega⟩) = A3 m c (ValueIdx.ix2 k q) := by
  have : (V m c main_v2 : IV S4x256x256 .bf16) = KernelPleIdeal.Pl.inBlocks (A3 m c) := by
    unfold V hostOps0
    after_reads_simp
    rfl
  rw [this]
  exact KernelPleIdeal.Pl.inBlocks_apply _ k q

/-! ## The blocks -/

theorem pts (n : ℕ) (h : n < cfg0.N) : n < 16 := lt_of_lt_of_eq h (show cfg0.N = 16 from N_0)

/-- Row `r` of point `n`'s tile, as a row of the arrays. -/
def gi (n : ℕ) (h : n < cfg0.N) (r : Fin 512) : Fin 8192 := ⟨n * 512 + r.val, by have := pts n h; have := r.isLt; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![0, t.val, 0] :=
  (by decide +kernel : ∀ t : Fin grid0.N, win0_1.index t = ![0, t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

theorem z_h_raw (c : Dev nD) (n : ℕ) (h : n < cfg0.N) (r : Fin 512) (q : Fin 1024) :
    (zAt m c n h).h (ValueIdx.ix2 r q) = (V m c main_arg0 : IV S8192x1024 .f32) (ValueIdx.ix2 (gi n h r) q) := by
  show (iblk m c 0 ⟨n, h⟩) (ValueIdx.ix2 r q) = _
  have hn : n < 16 := pts n h
  blk_simp [iblk]
  refine congrArg (V m c main_arg0 : IV S8192x1024 .f32) ?_
  funext a
  apply Fin.ext
  match a with
  | ⟨0, _⟩ => blk_simp [idx0] <;> rfl
  | ⟨1, _⟩ => blk_simp [idx0] <;> rfl

theorem z_p_raw (c : Dev nD) (n : ℕ) (h : n < cfg0.N) (r : Fin 512) (k : Fin 256) :
    (zAt m c n h).p (ValueIdx.ix3 0 r k) = (V m c main_arg1 : IV S2x8192x256 .f32) (ValueIdx.ix3 0 (gi n h r) k) := by
  show (iblk m c 1 ⟨n, h⟩) (ValueIdx.ix3 0 r k) = _
  have hn : n < 16 := pts n h
  blk_simp [iblk]
  refine congrArg (V m c main_arg1 : IV S2x8192x256 .f32) ?_
  funext a
  apply Fin.ext
  match a with
  | ⟨0, _⟩ => blk_simp [idx1] <;> rfl
  | ⟨1, _⟩ => blk_simp [idx1] <;> rfl
  | ⟨2, _⟩ => blk_simp [idx1] <;> rfl

theorem z_n_raw (c : Dev nD) (n : ℕ) (h : n < cfg0.N) (q : Fin 1024) :
    (zAt m c n h).n (ValueIdx.ix2 0 q) = (V m c main_v3 : IV S1x1024 .f32) (ValueIdx.ix2 0 q) := by
  show (iblk m c 2 ⟨n, h⟩) (ValueIdx.ix2 0 q) = _
  have hn : n < 16 := pts n h
  blk_simp [iblk]
  refine congrArg (V m c main_v3 : IV S1x1024 .f32) ?_
  funext a
  apply Fin.ext
  match a with
  | ⟨0, _⟩ => blk_simp [idx2] <;> rfl
  | ⟨1, _⟩ => blk_simp [idx2] <;> rfl

theorem z_b_raw (c : Dev nD) (n : ℕ) (h : n < cfg0.N) (q : Fin 1024) :
    (zAt m c n h).b (ValueIdx.ix2 0 q) = (V m c main_v4 : IV S1x1024 .f32) (ValueIdx.ix2 0 q) := by
  show (iblk m c 3 ⟨n, h⟩) (ValueIdx.ix2 0 q) = _
  have hn : n < 16 := pts n h
  blk_simp [iblk]
  refine congrArg (V m c main_v4 : IV S1x1024 .f32) ?_
  funext a
  apply Fin.ext
  match a with
  | ⟨0, _⟩ => blk_simp [idx3] <;> rfl
  | ⟨1, _⟩ => blk_simp [idx3] <;> rfl

theorem z_nk_raw (c : Dev nD) (n : ℕ) (h : n < cfg0.N) (q : Fin 1024) :
    (zAt m c n h).nk (ValueIdx.ix2 0 q) = (V m c main_v5 : IV S1x1024 .f32) (ValueIdx.ix2 0 q) := by
  show (iblk m c 4 ⟨n, h⟩) (ValueIdx.ix2 0 q) = _
  have hn : n < 16 := pts n h
  blk_simp [iblk]
  refine congrArg (V m c main_v5 : IV S1x1024 .f32) ?_
  funext a
  apply Fin.ext
  match a with
  | ⟨0, _⟩ => blk_simp [idx4] <;> rfl
  | ⟨1, _⟩ => blk_simp [idx4] <;> rfl

theorem z_h (c : Dev nD) (n : ℕ) (h : n < cfg0.N) (r : Fin 512) (q : Fin 1024) : (zAt m c n h).h (ValueIdx.ix2 r q) = A0 m c (ValueIdx.ix2 (gi n h r) q) :=
  (z_h_raw m c n h r q).trans (congrFun (V_main_arg0 m c) _)
theorem z_p (c : Dev nD) (n : ℕ) (h : n < cfg0.N) (r : Fin 512) (k : Fin 256) : (zAt m c n h).p (ValueIdx.ix3 0 r k) = A1 m c (ValueIdx.ix3 0 (gi n h r) k) :=
  (z_p_raw m c n h r k).trans (congrFun (V_main_arg1 m c) _)
theorem z_n (c : Dev nD) (n : ℕ) (h : n < cfg0.N) (q : Fin 1024) : (zAt m c n h).n (ValueIdx.ix2 0 q) = A2 m c (ValueIdx.ix1 q) :=
  (z_n_raw m c n h q).trans ((congrFun (V3 m c) _).trans (asRow _ q))
theorem z_b (c : Dev nD) (n : ℕ) (h : n < cfg0.N) (q : Fin 1024) : (zAt m c n h).b (ValueIdx.ix2 0 q) = A5 m c (ValueIdx.ix1 q) :=
  (z_b_raw m c n h q).trans ((congrFun (V4 m c) _).trans (asRow _ q))
theorem z_nk (c : Dev nD) (n : ℕ) (h : n < cfg0.N) (q : Fin 1024) : (zAt m c n h).nk (ValueIdx.ix2 0 q) = A6 m c (ValueIdx.ix1 q) :=
  (z_nk_raw m c n h q).trans ((congrFun (V5 m c) _).trans (asRow _ q))

/-! ## The step's values are the pass's -/

section
variable (c : Dev nD) (n : ℕ) (h : n < cfg0.N) (r : Fin 512)

theorem ga_at (q : Fin 1024) : ga (zAt m c n h) r q = gaG (A0 m c) (A2 m c) (A4 m c) (A5 m c) (gi n h r) q := by
  unfold ga gaG
  refine congrArg₂ (· + ·) (Finset.sum_congr rfl fun k _ => congrArg₂ (· * ·) ?_ (congrFun (V6 m c) _)) (z_b m c n h q)
  show (zAt m c n h).h (ValueIdx.ix2 r k) * rs (fun j => (zAt m c n h).h (ValueIdx.ix2 r j)) * (zAt m c n h).n (ValueIdx.ix2 0 k) = _
  simp only [z_h, z_n]
  rfl

theorem ot_at (q : Fin 1024) : ot (zAt m c n h) r q = otG (A0 m c) (A1 m c) (A2 m c) (A3 m c) (A4 m c) (A5 m c) (gi n h r) q := by
  unfold ot otG
  rw [ga_at, z_h]
  refine congrArg (fun e => _ + e * _) (Finset.sum_congr rfl fun k _ => congrArg₂ (· * ·) (z_p m c n h r k) (V2 m c k q))

theorem kv_at (q : Fin 512) : kv (zAt m c n h) r q = kvG (A0 m c) (A1 m c) (A2 m c) (A3 m c) (A4 m c) (A5 m c) (A6 m c) (A7 m c) (gi n h r) q := by
  unfold kv kvG
  refine Finset.sum_congr rfl fun k _ => congrArg₂ (· * ·) ?_ (congrFun (V7 m c) _)
  rw [z_nk, ot_at, show ot (zAt m c n h) r = otG (A0 m c) (A1 m c) (A2 m c) (A3 m c) (A4 m c) (A5 m c) (gi n h r) from funext (ot_at m c n h r)]
  rfl

end

/-! ## The arrays -/

theorem arr5 (c : Dev nD) : (dats m 0 c).arrAt 5 cfg0.N = fun y : S8192x1024.Idx => otG (A0 m c) (A1 m c) (A2 m c) (A3 m c) (A4 m c) (A5 m c) (y 0) (y 1) := by
  refine (dats m 0 c).arrAt_eq_of_covers 5 _ (by decide +kernel) fun t hf y => ?_
  rw [after0_5]
  refine (congrArg (outsAt0 m c t.val t.isLt).1 (ValueIdx.eq_ix2 (n0 := 512) (n1 := 1024) y)).trans ?_
  refine (at_5 m c (y 0) (y 1) t.val t.isLt).trans (((ot_at m c t.val t.isLt (y 0) (y 1))).trans ?_)
  refine congrArg₂ (fun i k => otG (A0 m c) (A1 m c) (A2 m c) (A3 m c) (A4 m c) (A5 m c) i k) (Fin.ext ?_) (Fin.ext ?_)
  · blk_simp [idx5] <;> rfl
  · blk_simp [idx5] <;> rfl

theorem arr6 (c : Dev nD) : (dats m 0 c).arrAt 6 cfg0.N = fun y : S8192x512.Idx => kvG (A0 m c) (A1 m c) (A2 m c) (A3 m c) (A4 m c) (A5 m c) (A6 m c) (A7 m c) (y 0) (y 1) := by
  refine (dats m 0 c).arrAt_eq_of_covers 6 _ (by decide +kernel) fun t hf y => ?_
  rw [after0_6]
  refine (congrArg (outsAt0 m c t.val t.isLt).2.1 (ValueIdx.eq_ix2 (n0 := 512) (n1 := 512) y)).trans ?_
  refine (at_6 m c (y 0) (y 1) t.val t.isLt).trans (((kv_at m c t.val t.isLt (y 0) (y 1))).trans ?_)
  refine congrArg₂ (fun i k => kvG (A0 m c) (A1 m c) (A2 m c) (A3 m c) (A4 m c) (A5 m c) (A6 m c) (A7 m c) i k) (Fin.ext ?_) (Fin.ext ?_)
  · blk_simp [idx6] <;> rfl
  · blk_simp [idx6] <;> rfl

theorem arr7 (c : Dev nD) : (dats m 0 c).arrAt 7 cfg0.N = fun y : S8192x1024.Idx => gaG (A0 m c) (A2 m c) (A4 m c) (A5 m c) (y 0) (y 1) := by
  refine (dats m 0 c).arrAt_eq_of_covers 7 _ (by decide +kernel) fun t hf y => ?_
  rw [after0_7]
  refine (congrArg (outsAt0 m c t.val t.isLt).2.2.1 (ValueIdx.eq_ix2 (n0 := 512) (n1 := 1024) y)).trans ?_
  refine (at_7 m c (y 0) (y 1) t.val t.isLt).trans (((ga_at m c t.val t.isLt (y 0) (y 1))).trans ?_)
  refine congrArg₂ (fun i k => gaG (A0 m c) (A2 m c) (A4 m c) (A5 m c) i k) (Fin.ext ?_) (Fin.ext ?_)
  · blk_simp [idx7] <;> rfl
  · blk_simp [idx7] <;> rfl

end Cert.KernelKvIdeal.Kv

end
-- ==== Proof.Ffn.Kv.lean ====
/- The first layer's embeddings with the keys and values: the reference's three results are the pass's values, and the claim. -/
module

public import proofs.«01_k».proof.Proof.Gen.ReferenceKvIdeal.Run
public import proofs.«01_k».proof.Proof.Gen.ReferenceKvIdeal.Read
public import proofs.«01_k».proof.Proof.Ffn.KvOuts
public import proofs.«01_k».proof.Proof.Ffn.PleRef
public import proofs.«01_k».proof.Defs

@[expose] public section

set_option maxRecDepth 16384

noncomputable section

namespace Cert.KernelKvIdeal.Kv

open Cert.ReferenceKvIdeal Cert.ReferenceKvIdeal.Gen Cert.ReferenceKvIdeal.Read Idealize.ShloMosaic Idealize.ShloMosaic.TcCoe Idealize.SL.Sem
open Cert.KernelFwdIdeal.Fw (sg rs sg_eq one_f32 zero_f32 ext2)
open Cert.KernelPleIdeal.Pl (IV xgG ext1)
open scoped BigOperators

variable (x0 : IV S8192x1024 .f32) (x1 : IV S2x8192x256 .f32) (x2 : IV S1024 .f32) (x3 : IV S256x1024 .f32) (x4 : IV S1024x1024 .f32) (x5 x6 : IV S1024 .f32) (x7 : IV S1024x512 .f32)

/-! ## The norm -/

theorem r_sq (i : Fin 8192) : val_main_v1 (F := Ideal) x0 (ValueIdx.ix1 i) = ∑ j : Fin 1024, x0 (ValueIdx.ix2 i j) * x0 (ValueIdx.ix2 i j) := by
  rw [val_main_v1_apply]
  refine (congrArg₂ (· + ·) zero_f32 (Finset.sum_congr rfl fun j _ => ?_)).trans (zero_add _)
  rw [val_main_v0_apply]
  have e : idx_main_v1 (ValueIdx.ix1 i) j = ValueIdx.ix2 i j := ext2 rfl rfl
  rw [e]
  rfl

theorem r_rs (i : Fin 8192) : val_main_v7 (F := Ideal) x0 (ValueIdx.ix2 i 0) = rs (fun j => x0 (ValueIdx.ix2 i j)) := by
  rw [val_main_v7_apply, val_main_v6_apply, val_main_v4_apply, val_main_v2_apply]
  have e : idx_main_v2 (ValueIdx.ix2 i 0) = ValueIdx.ix1 i := ext1 rfl
  rw [e, r_sq]
  rfl

theorem r_xg (i : Fin 8192) (k : Fin 1024) : val_main_v12 (F := Ideal) x0 x2 (ValueIdx.ix2 i k) = xgG x0 x2 i k := by
  rw [val_main_v12_apply, val_main_v9_apply, val_main_v8_apply, val_main_v11_apply, val_main_v10_apply]
  have e : idx_main_v8 (ValueIdx.ix2 i k) = ValueIdx.ix2 i 0 := ext2 rfl rfl
  have e' : idx_main_v10 (idx_main_v11 (ValueIdx.ix2 i k)) = ValueIdx.ix1 k := ext1 rfl
  rw [e, e', r_rs]
  rfl

/-! ## The results -/

theorem r_ga (i : Fin 8192) (q : Fin 1024) : val_main_v16 (F := Ideal) x0 x2 x4 x5 (ValueIdx.ix2 i q) = gaG x0 x2 x4 x5 i q := by
  rw [val_main_v16_apply, val_main_v13_apply, val_main_v15_apply, val_main_v14_apply]
  have e : idx_main_v14 (idx_main_v15 (ValueIdx.ix2 i q)) = ValueIdx.ix1 q := ext1 rfl
  rw [e]
  refine congrArg (· + x5 (ValueIdx.ix1 q)) (Finset.sum_congr rfl fun k _ => ?_)
  have e1 : lidx_main_v13 (ValueIdx.ix2 i q) k = ValueIdx.ix2 i k := ext2 rfl rfl
  have e2 : ridx_main_v13 (ValueIdx.ix2 i q) k = ValueIdx.ix2 k q := ext2 rfl rfl
  rw [e1, e2, r_xg]

theorem r_gt (i : Fin 8192) (q : Fin 1024) : val_main_v25 (F := Ideal) x0 x2 x4 x5 (ValueIdx.ix2 i q) = sg (gaG x0 x2 x4 x5 i q) := by
  rw [val_main_v25_apply, val_main_v24_apply, val_main_v23_apply, val_main_v22_apply, val_main_v21_apply, val_main_v20_apply, r_ga, sg_eq]
  generalize gaG x0 x2 x4 x5 i q = y
  show Ideal.div (Ideal.ofBits .f32 0x3F800000#32) (Ideal.ofBits .f32 0x3F800000#32 + Ideal.exp (-y)) = Ideal.div 1 (1 + Ideal.exp (-y))
  rw [one_f32, EReal.coe_one]

theorem r_p (i : Fin 8192) (k : Fin 256) : val_main_v18 (F := Ideal) x1 (ValueIdx.ix2 i k) = x1 (ValueIdx.ix3 0 i k) := by
  rw [val_main_v18_apply, val_main_v17_apply]
  refine congrArg x1 ?_
  have hi := i.isLt
  have hk := k.isLt
  funext a
  apply Fin.ext
  match a with
  | ⟨0, _⟩ => rfl
  | ⟨1, _⟩ => show (i.val * 256 + k.val) / 256 % 8192 = i.val; omega
  | ⟨2, _⟩ => show (i.val * 256 + k.val) % 256 = k.val; omega

theorem r_pe (i : Fin 8192) (q : Fin 1024) : val_main_v19 (F := Ideal) x1 x3 (ValueIdx.ix2 i q) = peG x1 x3 i q := by
  rw [val_main_v19_apply]
  unfold peG
  refine Finset.sum_congr rfl fun k _ => ?_
  have e : lidx_main_v19 (ValueIdx.ix2 i q) k = ValueIdx.ix2 i k := ext2 rfl rfl
  have e' : ridx_main_v19 (ValueIdx.ix2 i q) k = ValueIdx.ix2 k q := ext2 rfl rfl
  rw [e, e', r_p]

theorem r_ot : val_main_v27 (F := Ideal) x0 x1 x2 x3 x4 x5 = fun y : S8192x1024.Idx => otG x0 x1 x2 x3 x4 x5 (y 0) (y 1) := by
  have key : ∀ (i : Fin 8192) (q : Fin 1024), val_main_v27 (F := Ideal) x0 x1 x2 x3 x4 x5 (ValueIdx.ix2 i q) = otG x0 x1 x2 x3 x4 x5 i q := fun i q => by
    rw [val_main_v27_apply, val_main_v26_apply, r_pe, r_gt]
    rfl
  exact funext fun y => (congrArg _ (ValueIdx.eq_ix2 (n0 := 8192) (n1 := 1024) y)).trans (key (y 0) (y 1))

theorem r_aa : val_main_v43 (F := Ideal) x0 x2 x4 x5 = fun y : S8192x1024.Idx => gaG x0 x2 x4 x5 (y 0) (y 1) := by
  exact funext fun y => (congrArg _ (ValueIdx.eq_ix2 (n0 := 8192) (n1 := 1024) y)).trans (r_ga x0 x2 x4 x5 (y 0) (y 1))

/-- The second norm is the first, of the layer's output. -/
theorem r_xn : val_main_v40 (F := Ideal) x0 x1 x2 x3 x4 x5 x6 = val_main_v12 (F := Ideal) (val_main_v27 (F := Ideal) x0 x1 x2 x3 x4 x5) x6 := rfl

theorem r_kv : val_main_v42 (F := Ideal) x0 x1 x2 x3 x4 x5 x6 x7 = fun y : S8192x512.Idx => kvG x0 x1 x2 x3 x4 x5 x6 x7 (y 0) (y 1) := by
  have key : ∀ (i : Fin 8192) (q : Fin 512), val_main_v41 (F := Ideal) x0 x1 x2 x3 x4 x5 x6 x7 (ValueIdx.ix2 i q) = kvG x0 x1 x2 x3 x4 x5 x6 x7 i q := fun i q => by
    rw [val_main_v41_apply]
    refine Finset.sum_congr rfl fun k _ => ?_
    have e : lidx_main_v41 (ValueIdx.ix2 i q) k = ValueIdx.ix2 i k := ext2 rfl rfl
    have e' : ridx_main_v41 (ValueIdx.ix2 i q) k = ValueIdx.ix2 k q := ext2 rfl rfl
    rw [e, e', r_xn, r_xg, r_ot]
  exact funext fun y => (congrArg _ (ValueIdx.eq_ix2 (n0 := 8192) (n1 := 512) y)).trans (key (y 0) (y 1))

end Cert.KernelKvIdeal.Kv

namespace Cert.Proof

open Idealize.ShloMosaic Idealize.ShloMosaic.TcCoe Idealize.SL.Sem
open Cert.KernelKvIdeal.Kv

/-- Both runs leave the layer's output, the keys and values and the gate's argument. -/
theorem algebraic_kv : Cert.algebraic_KernelKvIdeal_ReferenceKvIdeal (hKernelKvIdeal := Cert.KernelKvIdeal.Gen.facts)
    (hReferenceKvIdeal := Cert.ReferenceKvIdeal.Gen.facts) := by
  intro m g m' g' _ hargs
  refine ⟨fun c => Cert.ReferenceKvIdeal.Read.val_main_v27 (F := Ideal) (A0 m c) (A1 m c) (A2 m c) (A3 m c) (A4 m c) (A5 m c),
    fun c => Cert.ReferenceKvIdeal.Read.val_main_v42 (F := Ideal) (A0 m c) (A1 m c) (A2 m c) (A3 m c) (A4 m c) (A5 m c) (A6 m c) (A7 m c),
    fun c => Cert.ReferenceKvIdeal.Read.val_main_v43 (F := Ideal) (A0 m c) (A2 m c) (A4 m c) (A5 m c), ?_, ?_⟩
  · refine (θ_run Cert.KernelKvIdeal.defs _ _).mono (fun r hr c => ?_) (Cert.KernelKvIdeal.Value.run_blocks m g)
    obtain ⟨r0, r1, r2, rest⟩ := hr c
    exact ⟨r0.trans ((arr5 m c).trans (r_ot ..).symm), r1.trans ((arr6 m c).trans (r_kv ..).symm), r2.trans ((arr7 m c).trans (r_aa ..).symm), rest⟩
  · refine (θ_run Cert.ReferenceKvIdeal.defs _ _).mono (fun r hr c => ?_) (Cert.ReferenceKvIdeal.Value.run m' g')
    obtain ⟨e0, e1, e2, e3, e4, e5, e6, e7⟩ := hargs c
    obtain ⟨r0, r1, r2, rest⟩ := hr c
    refine ⟨(r0.trans (Cert.ReferenceKvIdeal.Read.val_main_v27_eq (m' ((c.tc : Thread Cert.ReferenceKvIdeal.nD Cert.ReferenceKvIdeal.τ).loc Cert.ReferenceKvIdeal.main_arg0)) (m' ((c.tc : Thread Cert.ReferenceKvIdeal.nD Cert.ReferenceKvIdeal.τ).loc Cert.ReferenceKvIdeal.main_arg1)) (m' ((c.tc : Thread Cert.ReferenceKvIdeal.nD Cert.ReferenceKvIdeal.τ).loc Cert.ReferenceKvIdeal.main_arg2)) (m' ((c.tc : Thread Cert.ReferenceKvIdeal.nD Cert.ReferenceKvIdeal.τ).loc Cert.ReferenceKvIdeal.main_arg3)) (m' ((c.tc : Thread Cert.ReferenceKvIdeal.nD Cert.ReferenceKvIdeal.τ).loc Cert.ReferenceKvIdeal.main_arg4)) (m' ((c.tc : Thread Cert.ReferenceKvIdeal.nD Cert.ReferenceKvIdeal.τ).loc Cert.ReferenceKvIdeal.main_arg5)))).trans ?_,
      (r1.trans (Cert.ReferenceKvIdeal.Read.val_main_v42_eq m' c)).trans ?_,
      (r2.trans (Cert.ReferenceKvIdeal.Read.val_main_v43_eq (m' ((c.tc : Thread Cert.ReferenceKvIdeal.nD Cert.ReferenceKvIdeal.τ).loc Cert.ReferenceKvIdeal.main_arg0)) (m' ((c.tc : Thread Cert.ReferenceKvIdeal.nD Cert.ReferenceKvIdeal.τ).loc Cert.ReferenceKvIdeal.main_arg2)) (m' ((c.tc : Thread Cert.ReferenceKvIdeal.nD Cert.ReferenceKvIdeal.τ).loc Cert.ReferenceKvIdeal.main_arg4)) (m' ((c.tc : Thread Cert.ReferenceKvIdeal.nD Cert.ReferenceKvIdeal.τ).loc Cert.ReferenceKvIdeal.main_arg5)))).trans ?_, rest⟩
    · rw [e0, e1, e2, e3, e4, e5]
    · rw [e0, e1, e2, e3, e4, e5, e6, e7]
    · rw [e0, e2, e4, e5]

end Cert.Proof

end
-- ==== Proof.Ffn.LossStep.lean ====
/- The last layer's embeddings with the loss: the values one step of the grid stores, and those values at an index. -/
module

public import proofs.«01_k».proof.Proof.Gen.KernelFinalIdeal.Frame.RunA
public import proofs.«01_k».proof.Proof.Gen.KernelFinalIdeal.Frame.RunB
public import proofs.«01_k».proof.Proof.Ffn.KvStep

@[expose] public section

set_option maxRecDepth 16384

noncomputable section

namespace Cert.KernelFinalIdeal.Ls

open Cert.KernelFinalIdeal Cert.KernelFinalIdeal.Gen Idealize.ShloMosaic Idealize.ShloMosaic.ValueIdx Idealize.ShloMosaic.TcCoe Idealize.ShloMosaic.Tactic Idealize.SL.Sem
open Cert.KernelFwdIdeal.Fw (sg rs half_f32)
open Cert.KernelPleIdeal.Pl (IV hz2 hz3 sc_self row_bcast col_bcast rowsum colsum)
open scoped BigOperators

theorem readCov_whole {κ : Kind} {sp : Space} {s : Shape} {e : EltTy} (v : View sig κ sp s e) (w : s.Idx → Elt Ideal e) (L : List (View.Piece (Elt Ideal) s e))
    (r : Rect s) : v.readCov (⟨Rect.whole s, w⟩ :: L) r.toLoadRect = View.ld w r :=
  View.readCov_fill v (off := fun _ => 0) _ w L r fun _ => rfl

theorem readCov_ld {κ : Kind} {sp : Space} {s : Shape} {e : EltTy} (v : View sig κ sp s e) (L : List (View.Piece (Elt Ideal) s e))
    (r : Rect s) : v.readCov L r.toLoadRect = View.ld (View.canon L) r :=
  View.readCov_eq_canon' v L r

/-- What one step reads: its rows of the input, of the embeddings and of the targets, the norm's weights, the gate's bias, the
    last norm's weights, and the two weight matrices kept on chip. -/
structure Ins where
  h : IV S512x1024 .f32
  p : IV S1x512x256 .f32
  t : IV S512x1024 .f32
  n : IV S1x1024 .f32
  b : IV S1x1024 .f32
  nf : IV S1x1024 .f32
  wp : IV S4x256x256 .bf16
  wg : IV S1024x1024 .bf16

variable (z : Ins)

/-- The same rows as the first layer's forward pass reads them. -/
def Ins.kv : KernelKvIdeal.Kv.Ins := ⟨z.h, z.p, z.n, z.b, z.nf, z.wp, z.wg, fun _ => (0 : EReal)⟩

/-- The projected embeddings, as stored block by block. -/
def lpe : List (View.Piece (Elt Ideal) S512x1024 .f32) :=
  [⟨Rect.unit (s := S512x1024) ![0, 768] ![512, 256] inb_S512x1024_S512x256_0_768, k0_pay13 z.p (View.ld z.wp (Rect.unit ![3, 0, 0] ![1, 256, 256] inb_S4x256x256_S1x256x256_3_0_0))⟩,
   ⟨Rect.unit (s := S512x1024) ![0, 512] ![512, 256] inb_S512x1024_S512x256_0_512, k0_pay12 z.p (View.ld z.wp (Rect.unit ![2, 0, 0] ![1, 256, 256] inb_S4x256x256_S1x256x256_2_0_0))⟩,
   ⟨Rect.unit (s := S512x1024) ![0, 256] ![512, 256] inb_S512x1024_S512x256_0_256, k0_pay11 z.p (View.ld z.wp (Rect.unit ![1, 0, 0] ![1, 256, 256] inb_S4x256x256_S1x256x256_1_0_0))⟩,
   ⟨Rect.unit (s := S512x1024) ![0, 0] ![512, 256] inb_S512x1024_S512x256_0_0, k0_pay10 z.p (View.ld z.wp (Rect.unit ![0, 0, 0] ![1, 256, 256] inb_S4x256x256_S1x256x256_0_0_0))⟩]

/-- The projected embeddings, the gate, the last norm's factor, the normalized output and its gradient before the norm. -/
def peT : IV S512x1024 .f32 := View.canon (lpe z)
def gT : FVec Ideal S512x1024 .f32 := k0_pay8 (k0_pay7 z.h z.n z.wg z.b) (Scalar.ofBits .f32 0x3F000000#32)
def rT : FVec Ideal S512x1 .f32 := k0_pay15 z.h (gT z) (peT z)
def yT : FVec Ideal S512x1024 .f32 := k0_pay16 z.h (gT z) (peT z)
def dT : FVec Ideal S512x1024 .f32 := k0_pay19 z.h (gT z) (peT z) z.nf z.t

/-- The output's gradient, the loss and the last norm's gradient, the last two over what they held. -/
def vO : IV S512x1024 .f32 := k0_pay1 (rT z) (yT z) (dT z) (k0_pay20 z.nf)
def vL (acc : IV S8x128 .f32) : IV S8x128 .f32 := k0_pay18 z.h (gT z) (peT z) z.nf z.t acc
def vN (acc : IV S1x1024 .f32) : IV S1x1024 .f32 := k0_pay2 (yT z) (dT z) acc

/-- The stores of the step, and the zeros the two accumulators are filled with at the first step. -/
def list6 : List (View.Piece (Elt Ideal) S512x1024 .f32) := [⟨Rect.unit (s := S512x1024) ![0, 0] ![512, 1024] inb_S512x1024_S512x1024_0_0, vO z⟩]
def list7 (acc : IV S8x128 .f32) : List (View.Piece (Elt Ideal) S8x128 .f32) := [⟨Rect.unit (s := S8x128) ![0, 0] ![8, 128] inb_S8x128_S8x128_0_0, vL z acc⟩]
def list8 (acc : IV S1x1024 .f32) : List (View.Piece (Elt Ideal) S1x1024 .f32) := [⟨Rect.unit (s := S1x1024) ![0, 0] ![1, 1024] inb_S1x1024_S1x1024_0_0, vN z acc⟩]
def list9 : List (View.Piece (Elt Ideal) S512x1024 .bf16) := [⟨Rect.unit (s := S512x1024) ![0, 0] ![512, 1024] inb_S512x1024_S512x1024_0_0, k0_pay6 z.h z.n z.wg z.b⟩]
def fill7 : List (View.Piece (Elt Ideal) S8x128 .f32) := [⟨Rect.unit (s := S8x128) ![0, 0] ![8, 128] inb_S8x128_S8x128_0_0, k0_pay3 (F := Ideal)⟩]
def fill8 : List (View.Piece (Elt Ideal) S1x1024 .f32) := [⟨Rect.unit (s := S1x1024) ![0, 0] ![1, 1024] inb_S1x1024_S1x1024_0_0, k0_pay4 (F := Ideal)⟩]

section
variable (c : Dev nD) (i : grid0.Coords) (arg1 : Memref sig .tc .vmem S512x1024 .f32) (harg1 : arg1.IsWhole) (arg2 : Memref sig .tc .vmem S1x512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg9 : Memref sig .tc .vmem S512x1024 .f32) (harg9 : arg9.IsWhole) (arg10 : Memref sig .tc .vmem S8x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S4x256x256 .bf16) (harg13 : arg13.IsWhole) (arg14 : Memref sig .tc .vmem S1024x1024 .bf16) (harg14 : arg14.IsWhole) (arg15 : Memref sig .tc .vmem S512x1024 .f32) (harg15 : arg15.IsWhole)
  (x0 : Vec Ideal S512x1024 .f32) (x1 : Vec Ideal S1x512x256 .f32) (x2 : Vec Ideal S512x1024 .f32) (x3 : Vec Ideal S1x1024 .f32) (x4 : Vec Ideal S1x1024 .f32) (x5 : Vec Ideal S1x1024 .f32) (xo7 : Vec Ideal S8x128 .f32) (xo8 : Vec Ideal S1x1024 .f32) (xs0 : Vec Ideal S4x256x256 .bf16) (xs1 : Vec Ideal S1024x1024 .bf16) (fh0 : HbBuf0 (F := Ideal) c hbM0_0) (fh1 : HbBuf0 (F := Ideal) c hbM0_1)

local notation "runA" => kernelRun0_A (F := Ideal) c i arg1 harg1 arg2 harg2 arg3 harg3 arg4 harg4 arg5 harg5 arg6 harg6 arg9 harg9 arg10 harg10 arg11 harg11 arg12 harg12 arg13 harg13 arg14 harg14 arg15 harg15
local notation "runB" => kernelRun0_B (F := Ideal) c i arg1 harg1 arg2 harg2 arg3 harg3 arg4 harg4 arg5 harg5 arg6 harg6 arg9 harg9 arg10 harg10 arg11 harg11 arg12 harg12 arg13 harg13 arg14 harg14 arg15 harg15

set_option maxHeartbeats 8000000 in
theorem runB_eq (hc0 : ¬cond0_0 i) (hc1 : ¬cond0_1 i) :
    (runB hc0 hc1 x0 x1 x2 x3 x4 x5 xo7 xo8 xs0 xs1 fh0 fh1).1 = list6 (Ins.mk x0 x1 x2 x3 x4 x5 xs0 xs1) ∧
      (runB hc0 hc1 x0 x1 x2 x3 x4 x5 xo7 xo8 xs0 xs1 fh0 fh1).2.1 = list7 (Ins.mk x0 x1 x2 x3 x4 x5 xs0 xs1) xo7 ∧
      (runB hc0 hc1 x0 x1 x2 x3 x4 x5 xo7 xo8 xs0 xs1 fh0 fh1).2.2.1 = list8 (Ins.mk x0 x1 x2 x3 x4 x5 xs0 xs1) xo8 ∧
      (runB hc0 hc1 x0 x1 x2 x3 x4 x5 xo7 xo8 xs0 xs1 fh0 fh1).2.2.2.1 = list9 (Ins.mk x0 x1 x2 x3 x4 x5 xs0 xs1) := by
  refine ⟨?_, ?_, ?_, ?_⟩ <;> unfold kernelRun0_B <;> dsimp only <;> sl_unfold_words <;>
  simp (config := {decide := true}) only [View.readAt_eq_ld, readCov_ld, harg1.read_unread, harg2.read_unread, harg3.read_unread, harg4.read_unread, harg5.read_unread, harg6.read_unread, harg10.read_unread, harg11.read_unread, harg13.read_unread, harg14.read_unread,
    View.ld_unit_zero (S := S512x1024) hz2, View.ld_unit_zero (S := S1024x1024) hz2, View.ld_unit_zero (S := S1x1024) hz2, View.ld_unit_zero (S := S8x128) hz2, View.ld_unit_zero (S := S1x512x256) hz3, View.ld_unit_zero (S := S4x256x256) hz3, list6, list7, list8, list9, fill7, fill8, vO, vL, vN, rT, yT, dT, gT, peT, lpe, List.cons_append, List.nil_append]

set_option maxHeartbeats 8000000 in
theorem runA_eq (hc0 : cond0_0 i) (hc1 : cond0_1 i) :
    (runA hc0 hc1 x0 x1 x2 x3 x4 x5 fh0 fh1).1 = list6 (Ins.mk x0 x1 x2 x3 x4 x5 (View.read (Elt Ideal) (View.whole main_v2) fh0) (View.read (Elt Ideal) (View.whole main_v6) fh1)) ∧
      (runA hc0 hc1 x0 x1 x2 x3 x4 x5 fh0 fh1).2.1 = list7 (Ins.mk x0 x1 x2 x3 x4 x5 (View.read (Elt Ideal) (View.whole main_v2) fh0) (View.read (Elt Ideal) (View.whole main_v6) fh1)) (k0_pay3 (F := Ideal)) ++ fill7 ∧
      (runA hc0 hc1 x0 x1 x2 x3 x4 x5 fh0 fh1).2.2.1 = list8 (Ins.mk x0 x1 x2 x3 x4 x5 (View.read (Elt Ideal) (View.whole main_v2) fh0) (View.read (Elt Ideal) (View.whole main_v6) fh1)) (k0_pay4 (F := Ideal)) ++ fill8 ∧
      (runA hc0 hc1 x0 x1 x2 x3 x4 x5 fh0 fh1).2.2.2.1 = list9 (Ins.mk x0 x1 x2 x3 x4 x5 (View.read (Elt Ideal) (View.whole main_v2) fh0) (View.read (Elt Ideal) (View.whole main_v6) fh1)) := by
  refine ⟨?_, ?_, ?_, ?_⟩ <;> unfold kernelRun0_A <;> dsimp only <;> sl_unfold_words <;>
  simp (config := {decide := true}) only [↓View.readCov_skip, ↓View.readCov_fill, ↓readCov_whole, ReadAs.apply_same, View.readAt_eq_ld, readCov_ld, harg1.read_unread, harg2.read_unread, harg3.read_unread, harg4.read_unread, harg5.read_unread, harg6.read_unread,
    View.ld_unit_zero (S := S512x1024) hz2, View.ld_unit_zero (S := S1024x1024) hz2, View.ld_unit_zero (S := S1x1024) hz2, View.ld_unit_zero (S := S8x128) hz2, View.ld_unit_zero (S := S1x512x256) hz3, View.ld_unit_zero (S := S4x256x256) hz3, list6, list7, list8, list9, fill7, fill8, vO, vL, vN, rT, yT, dT, gT, peT, lpe, List.cons_append, List.nil_append]

end

/-! ## The step's values at an index -/

/-- The layer's output. -/
def ot (r : Fin 512) (q : Fin 1024) : EReal := KernelKvIdeal.Kv.ot z.kv r q

/-- The normalized output. -/
def yh (r : Fin 512) (q : Fin 1024) : EReal := ot z r q * rs (ot z r)

/-- The prediction less the target. -/
def df (r : Fin 512) (q : Fin 1024) : EReal := yh z r q * z.nf (ix2 0 q) - z.t (ix2 r q)

/-- The prediction's gradient. -/
def dy (r : Fin 512) (q : Fin 1024) : EReal := df z r q * Ideal.ofBits .f32 0x3A800000#32

/-- The output's gradient. -/
def dh (r : Fin 512) (q : Fin 1024) : EReal :=
  rs (ot z r) * (dy z r q * z.nf (ix2 0 q) - yh z r q * Ideal.div (∑ j : Fin 1024, dy z r j * z.nf (ix2 0 j) * yh z r j) (Ideal.ofBits .f32 0x44800000#32))

/-- A row's part of the loss. -/
def ls (r : Fin 512) : EReal :=
  Ideal.ofBits .f32 0x3F000000#32 * Ideal.div (∑ k : Fin 1024, df z r k * df z r k) (Ideal.ofBits .f32 0x44800000#32)

/-- A half of a sum is the sum of the halves. -/
theorem half_sum {ι : Type} (s : Finset ι) (f : ι → EReal) : Ideal.ofBits .f32 0x3F000000#32 * ∑ i ∈ s, f i = ∑ i ∈ s, Ideal.ofBits .f32 0x3F000000#32 * f i := by
  classical
  rw [half_f32]
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 1 / 2)) (EReal.coe_ne_top _) _ _

theorem oT_eq : k0_pay14 z.h (gT z) (peT z) = KernelKvIdeal.Kv.oT z.kv := rfl

theorem oT_apply (r : Fin 512) (q : Fin 1024) : k0_pay14 z.h (gT z) (peT z) (ix2 r q) = ot z r q :=
  (congrFun (oT_eq z) _).trans (KernelKvIdeal.Kv.oT_apply z.kv r q)

theorem rT_apply (r : Fin 512) : rT z (ix2 r 0) = rs (ot z r) := by
  unfold rT k0_pay15
  try dsimp only
  show Ideal.rsqrt (Ideal.div (shapeCast S512x1 _ _ (ix2 r 0)) _ + _) = _
  rw [rowsum]
  simp only [mulf_apply, oT_apply]
  rfl

theorem yT_apply (r : Fin 512) (q : Fin 1024) : yT z (ix2 r q) = yh z r q := by
  unfold yT k0_pay16
  try dsimp only
  rw [mulf_apply, col_bcast, oT_apply]
  exact congrArg (_ * ·) (rT_apply z r)

theorem fT_apply (r : Fin 512) (q : Fin 1024) : k0_pay17 z.h (gT z) (peT z) z.nf z.t (ix2 r q) = df z r q := by
  unfold k0_pay17
  try dsimp only
  rw [subf_apply, mulf_apply, row_bcast, sc_self]
  exact congrArg (fun e => e * _ - _) (yT_apply z r q)

theorem dT_apply (r : Fin 512) (q : Fin 1024) : dT z (ix2 r q) = dy z r q := by
  unfold dT k0_pay19
  try dsimp only
  rw [mulf_apply, fT_apply]
  rfl

theorem nT_apply (r : Fin 512) (q : Fin 1024) : k0_pay20 z.nf (ix2 r q) = z.nf (ix2 0 q) := by
  unfold k0_pay20
  try dsimp only
  rw [row_bcast, sc_self]

theorem vO_apply (r : Fin 512) (q : Fin 1024) : vO z (ix2 r q) = dh z r q := by
  unfold vO k0_pay1
  try dsimp only
  rw [mulf_apply, col_bcast, rT_apply, subf_apply, mulf_apply, mulf_apply, col_bcast, dT_apply, nT_apply, yT_apply]
  show _ * (_ - _ * Ideal.div (shapeCast S512x1 _ _ (ix2 r 0)) _) = _
  rw [rowsum]
  simp only [mulf_apply, dT_apply, nT_apply, yT_apply]
  rfl

theorem vN_apply (acc : IV S1x1024 .f32) (u : Fin 1) (q : Fin 1024) : vN z acc (ix2 u q) = acc (ix2 u q) + ∑ r : Fin 512, dy z r q * yh z r q := by
  unfold vN k0_pay2
  try dsimp only
  rw [addf_apply, sc_self, colsum]
  simp only [mulf_apply, dT_apply, yT_apply]

/-- A column's sum over all its entries. -/
theorem total (v : FVec Ideal S512x1 .f32) (j : S1.Idx) :
    multiReduction .add [1, 2] S1 (shapeCast S1x512x1 v shapeCasts_S512x1_S1x512x1) 0x00000000#32 reduces_S1x512x1_S1 (.inl rfl) rfl j = ∑ r : Fin 512, v (ix2 r 0) := by
  refine (Ideal.multiReduction_add_total _ _ reduces_S1x512x1_S1 (by decide) (.inl rfl) rfl j).trans ?_
  refine Fintype.sum_equiv ⟨fun y : S1x512x1.Idx => (y 1 : Fin 512), fun r => ix3 0 r 0, fun y => ?_, fun r => rfl⟩ _ _ fun y => ?_
  · have h0 : (y 0).val < 1 := (y 0).isLt
    have h2 : (y 2).val < 1 := (y 2).isLt
    funext a
    apply Fin.ext
    match a with
    | ⟨0, _⟩ => show 0 = (y 0).val; omega
    | ⟨1, _⟩ => rfl
    | ⟨2, _⟩ => show 0 = (y 2).val; omega
  · have h0 : (y 0).val < 1 := (y 0).isLt
    have h2 : (y 2).val < 1 := (y 2).isLt
    refine shapeCast_apply v shapeCasts_S512x1_S1x512x1 y (ix2 (y 1) 0) ?_
    rw [Shape.rowMajor_val_two, Shape.rowMajor_val_three]
    show (y 1).val * 1 + 0 = ((y 0).val * 512 + (y 1).val) * 1 + (y 2).val
    omega

theorem vL_apply (acc : IV S8x128 .f32) (u : Fin 8) (q : Fin 128) : vL z acc (ix2 u q) = acc (ix2 u q) + ∑ r : Fin 512, ls z r := by
  unfold vL k0_pay18
  try dsimp only
  rw [addf_apply, sc_self]
  refine congrArg (_ + ·) ?_
  have e (x : FVec Ideal S1 .f32) : extractAt ![0, 0, 0] (shapeCast S1x1x1 x shapeCasts_S1_S1x1x1) inpos_S1x1x1_p0_0_0 = x (ix1 0) :=
    shapeCast_apply x shapeCasts_S1_S1x1x1 _ (ix1 0) (by decide)
  show Ideal.ofBits .f32 0x3F000000#32 * extractAt ![0, 0, 0] (shapeCast S1x1x1 _ shapeCasts_S1_S1x1x1) inpos_S1x1x1_p0_0_0 = _
  rw [e, total, half_sum]
  refine Finset.sum_congr rfl fun r _ => congrArg (_ * ·) ?_
  show Ideal.div (shapeCast S512x1 _ _ (ix2 r 0)) _ = _
  rw [rowsum]
  simp only [mulf_apply, fT_apply]
  rfl

theorem pay3_apply (i : S8x128.Idx) : k0_pay3 (F := Ideal) i = 0 := Ideal.ofBits_zero_f32
theorem pay4_apply (i : S1x1024.Idx) : k0_pay4 (F := Ideal) i = 0 := Ideal.ofBits_zero_f32

end Cert.KernelFinalIdeal.Ls

end
-- ==== Proof.Ffn.LossOuts.lean ====
/- The last layer's embeddings with the loss: what each point of the grid leaves, and the four arrays over the arguments. -/
module

public import proofs.«01_k».proof.Proof.Gen.KernelFinalIdeal.Value
public import proofs.«01_k».proof.Proof.Ffn.LossStep
public import proofs.«01_k».proof.Proof.Ffn.KvOuts

@[expose] public section

set_option maxRecDepth 16384

noncomputable section

namespace Cert.KernelFinalIdeal.Ls

open Cert.KernelFinalIdeal Cert.KernelFinalIdeal.Gen Idealize.ShloMosaic Idealize.ShloMosaic.TcCoe Idealize.ShloMosaic.Tactic Idealize.SL.Sem
open Cert.KernelFwdIdeal.Fw (sg rs)
open Cert.KernelPleIdeal.Pl (IV hz2)
open Cert.KernelKvIdeal.Kv (gaG)
open scoped BigOperators

/-- The gate's argument. -/
def vG (z : Ins) : IV S512x1024 .bf16 := k0_pay6 (F := Ideal) z.h z.n z.wg z.b

section
variable (c : Dev nD) (i : grid0.Coords) (arg1 : Memref sig .tc .vmem S512x1024 .f32) (harg1 : arg1.IsWhole) (arg2 : Memref sig .tc .vmem S1x512x256 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg9 : Memref sig .tc .vmem S512x1024 .f32) (harg9 : arg9.IsWhole) (arg10 : Memref sig .tc .vmem S8x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S4x256x256 .bf16) (harg13 : arg13.IsWhole) (arg14 : Memref sig .tc .vmem S1024x1024 .bf16) (harg14 : arg14.IsWhole) (arg15 : Memref sig .tc .vmem S512x1024 .f32) (harg15 : arg15.IsWhole)
  (x0 : Vec Ideal S512x1024 .f32) (x1 : Vec Ideal S1x512x256 .f32) (x2 : Vec Ideal S512x1024 .f32) (x3 : Vec Ideal S1x1024 .f32) (x4 : Vec Ideal S1x1024 .f32) (x5 : Vec Ideal S1x1024 .f32) (xo7 : Vec Ideal S8x128 .f32) (xo8 : Vec Ideal S1x1024 .f32) (xs0 : Vec Ideal S4x256x256 .bf16) (xs1 : Vec Ideal S1024x1024 .bf16) (fh0 : HbBuf0 (F := Ideal) c hbM0_0) (fh1 : HbBuf0 (F := Ideal) c hbM0_1)

theorem oA_6 (hc0 : cond0_0 i) (hc1 : cond0_1 i) : out0_A_6 (F := Ideal) c i arg1 harg1 arg2 harg2 arg3 harg3 arg4 harg4 arg5 harg5 arg6 harg6 arg9 harg9 arg10 harg10 arg11 harg11 arg12 harg12 arg13 harg13 arg14 harg14 arg15 harg15 hc0 hc1 x0 x1 x2 x3 x4 x5 fh0 fh1 = vO (Ins.mk x0 x1 x2 x3 x4 x5 (View.read (Elt Ideal) (View.whole main_v2) fh0) (View.read (Elt Ideal) (View.whole main_v6) fh1)) := by
  unfold out0_A_6
  rw [View.read_writes_junk_eq_canon, (runA_eq ..).1]
  exact View.canon_cons_unit_zero (S := S512x1024) hz2 _ _ _

theorem oA_7 (hc0 : cond0_0 i) (hc1 : cond0_1 i) : out0_A_7 (F := Ideal) c i arg1 harg1 arg2 harg2 arg3 harg3 arg4 harg4 arg5 harg5 arg6 harg6 arg9 harg9 arg10 harg10 arg11 harg11 arg12 harg12 arg13 harg13 arg14 harg14 arg15 harg15 hc0 hc1 x0 x1 x2 x3 x4 x5 fh0 fh1 = vL (Ins.mk x0 x1 x2 x3 x4 x5 (View.read (Elt Ideal) (View.whole main_v2) fh0) (View.read (Elt Ideal) (View.whole main_v6) fh1)) (k0_pay3 (F := Ideal)) := by
  unfold out0_A_7
  rw [View.read_writes_junk_eq_canon, (runA_eq ..).2.1]
  exact View.canon_cons_unit_zero (S := S8x128) hz2 _ _ _

theorem oA_8 (hc0 : cond0_0 i) (hc1 : cond0_1 i) : out0_A_8 (F := Ideal) c i arg1 harg1 arg2 harg2 arg3 harg3 arg4 harg4 arg5 harg5 arg6 harg6 arg9 harg9 arg10 harg10 arg11 harg11 arg12 harg12 arg13 harg13 arg14 harg14 arg15 harg15 hc0 hc1 x0 x1 x2 x3 x4 x5 fh0 fh1 = vN (Ins.mk x0 x1 x2 x3 x4 x5 (View.read (Elt Ideal) (View.whole main_v2) fh0) (View.read (Elt Ideal) (View.whole main_v6) fh1)) (k0_pay4 (F := Ideal)) := by
  unfold out0_A_8
  rw [View.read_writes_junk_eq_canon, (runA_eq ..).2.2.1]
  exact View.canon_cons_unit_zero (S := S1x1024) hz2 _ _ _

theorem oA_9 (hc0 : cond0_0 i) (hc1 : cond0_1 i) : out0_A_9 (F := Ideal) c i arg1 harg1 arg2 harg2 arg3 harg3 arg4 harg4 arg5 harg5 arg6 harg6 arg9 harg9 arg10 harg10 arg11 harg11 arg12 harg12 arg13 harg13 arg14 harg14 arg15 harg15 hc0 hc1 x0 x1 x2 x3 x4 x5 fh0 fh1 = vG (Ins.mk x0 x1 x2 x3 x4 x5 (View.read (Elt Ideal) (View.whole main_v2) fh0) (View.read (Elt Ideal) (View.whole main_v6) fh1)) := by
  unfold out0_A_9
  rw [View.read_writes_junk_eq_canon, (runA_eq ..).2.2.2]
  exact View.canon_cons_unit_zero (S := S512x1024) hz2 _ _ _

theorem oB_6 (hc0 : ¬cond0_0 i) (hc1 : ¬cond0_1 i) : out0_B_6 (F := Ideal) c i arg1 harg1 arg2 harg2 arg3 harg3 arg4 harg4 arg5 harg5 arg6 harg6 arg9 harg9 arg10 harg10 arg11 harg11 arg12 harg12 arg13 harg13 arg14 harg14 arg15 harg15 hc0 hc1 x0 x1 x2 x3 x4 x5 xo7 xo8 xs0 xs1 fh0 fh1 = vO (Ins.mk x0 x1 x2 x3 x4 x5 xs0 xs1) := by
  unfold out0_B_6
  rw [View.read_writes_junk_eq_canon, (runB_eq ..).1]
  exact View.canon_cons_unit_zero (S := S512x1024) hz2 _ _ _

theorem oB_7 (hc0 : ¬cond0_0 i) (hc1 : ¬cond0_1 i) : out0_B_7 (F := Ideal) c i arg1 harg1 arg2 harg2 arg3 harg3 arg4 harg4 arg5 harg5 arg6 harg6 arg9 harg9 arg10 harg10 arg11 harg11 arg12 harg12 arg13 harg13 arg14 harg14 arg15 harg15 hc0 hc1 x0 x1 x2 x3 x4 x5 xo7 xo8 xs0 xs1 fh0 fh1 = vL (Ins.mk x0 x1 x2 x3 x4 x5 xs0 xs1) xo7 := by
  unfold out0_B_7
  rw [View.read_writes_junk_eq_canon, (runB_eq ..).2.1]
  exact View.canon_cons_unit_zero (S := S8x128) hz2 _ _ _

theorem oB_8 (hc0 : ¬cond0_0 i) (hc1 : ¬cond0_1 i) : out0_B_8 (F := Ideal) c i arg1 harg1 arg2 harg2 arg3 harg3 arg4 harg4 arg5 harg5 arg6 harg6 arg9 harg9 arg10 harg10 arg11 harg11 arg12 harg12 arg13 harg13 arg14 harg14 arg15 harg15 hc0 hc1 x0 x1 x2 x3 x4 x5 xo7 xo8 xs0 xs1 fh0 fh1 = vN (Ins.mk x0 x1 x2 x3 x4 x5 xs0 xs1) xo8 := by
  unfold out0_B_8
  rw [View.read_writes_junk_eq_canon, (runB_eq ..).2.2.1]
  exact View.canon_cons_unit_zero (S := S1x1024) hz2 _ _ _

theorem oB_9 (hc0 : ¬cond0_0 i) (hc1 : ¬cond0_1 i) : out0_B_9 (F := Ideal) c i arg1 harg1 arg2 harg2 arg3 harg3 arg4 harg4 arg5 harg5 arg6 harg6 arg9 harg9 arg10 harg10 arg11 harg11 arg12 harg12 arg13 harg13 arg14 harg14 arg15 harg15 hc0 hc1 x0 x1 x2 x3 x4 x5 xo7 xo8 xs0 xs1 fh0 fh1 = vG (Ins.mk x0 x1 x2 x3 x4 x5 xs0 xs1) := by
  unfold out0_B_9
  rw [View.read_writes_junk_eq_canon, (runB_eq ..).2.2.2]
  exact View.canon_cons_unit_zero (S := S512x1024) hz2 _ _ _

set_option maxHeartbeats 1000000 in
theorem oA_S0 (hc0 : cond0_0 i) (hc1 : cond0_1 i) : sout0_A_0 (F := Ideal) c i arg1 harg1 arg2 harg2 arg3 harg3 arg4 harg4 arg5 harg5 arg6 harg6 arg9 harg9 arg10 harg10 arg11 harg11 arg12 harg12 arg13 harg13 arg14 harg14 arg15 harg15 hc0 hc1 x0 x1 x2 x3 x4 x5 fh0 fh1 = View.read (Elt Ideal) (View.whole main_v2) fh0 := by
  unfold sout0_A_0
  rw [View.read_writes_junk_eq_canon]
  unfold kernelRun0_A
  dsimp only
  sl_unfold_words
  exact View.canon_unit_zero (S := S4x256x256) (off := fun _ => 0) rfl _ _

set_option maxHeartbeats 1000000 in
theorem oA_S1 (hc0 : cond0_0 i) (hc1 : cond0_1 i) : sout0_A_1 (F := Ideal) c i arg1 harg1 arg2 harg2 arg3 harg3 arg4 harg4 arg5 harg5 arg6 harg6 arg9 harg9 arg10 harg10 arg11 harg11 arg12 harg12 arg13 harg13 arg14 harg14 arg15 harg15 hc0 hc1 x0 x1 x2 x3 x4 x5 fh0 fh1 = View.read (Elt Ideal) (View.whole main_v6) fh1 := by
  unfold sout0_A_1
  rw [View.read_writes_junk_eq_canon]
  unfold kernelRun0_A
  dsimp only
  sl_unfold_words
  exact View.canon_unit_zero (S := S1024x1024) (off := fun _ => 0) rfl _ _

end

variable (m : (ℓ : Loc nD τ sig) → Buf (Elt Ideal) ℓ)

/-- What point `n` reads. -/
def zAt (c : Dev nD) (n : ℕ) (h : n < cfg0.N) : Ins :=
  ⟨iblk m c 0 ⟨n, h⟩, iblk m c 1 ⟨n, h⟩, iblk m c 2 ⟨n, h⟩, iblk m c 3 ⟨n, h⟩, iblk m c 4 ⟨n, h⟩, iblk m c 5 ⟨n, h⟩, V m c main_v2, V m c main_v6⟩

attribute [local irreducible] outsAt0 out0_A_6 out0_A_7 out0_A_8 out0_A_9 out0_B_6 out0_B_7 out0_B_8 out0_B_9 sout0_A_0 sout0_A_1

theorem later (n : ℕ) (h : n + 1 < cfg0.N) : ¬ (⟨n + 1, h⟩ : Fin cfg0.N).val % 16 = 0 := by
  have hN : n + 1 < 16 := lt_of_lt_of_eq h (show cfg0.N = 16 from N_0)
  show ¬ (n + 1) % 16 = 0
  omega

theorem first (h : 0 < cfg0.N) : (⟨0, h⟩ : Fin cfg0.N).val % 16 = 0 := rfl

/-- The weights stay as copied in. -/
theorem kept (c : Dev nD) : (n : ℕ) → (h : n < cfg0.N) → (outsAt0 m c n h).2.2.2.2.1 = V m c main_v2 ∧ (outsAt0 m c n h).2.2.2.2.2 = V m c main_v6
  | 0, h => ⟨(congrArg (fun p => p.2.2.2.2.1) (outsAt0_A m c ⟨0, h⟩ (first h) (first h))).trans (oA_S0 ..),
      (congrArg (fun p => p.2.2.2.2.2) (outsAt0_A m c ⟨0, h⟩ (first h) (first h))).trans (oA_S1 ..)⟩
  | n + 1, h => ⟨(congrArg (fun p => p.2.2.2.2.1) (outsAt0_B m c ⟨n + 1, h⟩ (later n h) (later n h))).trans (kept c n (Nat.lt_of_succ_lt h)).1,
      (congrArg (fun p => p.2.2.2.2.2) (outsAt0_B m c ⟨n + 1, h⟩ (later n h) (later n h))).trans (kept c n (Nat.lt_of_succ_lt h)).2⟩

/-- What a later point reads, over what the point before left. -/
def zOf (c : Dev nD) (n : ℕ) (h : n + 1 < cfg0.N) : Ins :=
  ⟨iblk m c 0 ⟨n + 1, h⟩, iblk m c 1 ⟨n + 1, h⟩, iblk m c 2 ⟨n + 1, h⟩, iblk m c 3 ⟨n + 1, h⟩, iblk m c 4 ⟨n + 1, h⟩, iblk m c 5 ⟨n + 1, h⟩,
    (outsAt0 m c n (Nat.lt_of_succ_lt h)).2.2.2.2.1, (outsAt0 m c n (Nat.lt_of_succ_lt h)).2.2.2.2.2⟩

theorem zOf_eq (c : Dev nD) (n : ℕ) (h : n + 1 < cfg0.N) : zOf m c n h = zAt m c (n + 1) h := by
  unfold zOf zAt
  rw [(kept m c n _).1, (kept m c n _).2]

theorem at_6 (c : Dev nD) : (n : ℕ) → (h : n < cfg0.N) → (outsAt0 m c n h).1 = vO (zAt m c n h)
  | 0, h => (congrArg (fun p => p.1) (outsAt0_A m c ⟨0, h⟩ (first h) (first h))).trans (oA_6 ..)
  | n + 1, h => ((congrArg (fun p => p.1) (outsAt0_B m c ⟨n + 1, h⟩ (later n h) (later n h))).trans (oB_6 ..)).trans (congrArg vO (zOf_eq m c n h))

theorem at_9 (c : Dev nD) : (n : ℕ) → (h : n < cfg0.N) → (outsAt0 m c n h).2.2.2.1 = vG (zAt m c n h)
  | 0, h => (congrArg (fun p => p.2.2.2.1) (outsAt0_A m c ⟨0, h⟩ (first h) (first h))).trans (oA_9 ..)
  | n + 1, h => ((congrArg (fun p => p.2.2.2.1) (outsAt0_B m c ⟨n + 1, h⟩ (later n h) (later n h))).trans (oB_9 ..)).trans (congrArg vG (zOf_eq m c n h))

theorem fst_7 (c : Dev nD) (h : 0 < cfg0.N) : (outsAt0 m c 0 h).2.1 = vL (zAt m c 0 h) (k0_pay3 (F := Ideal)) :=
  (congrArg (fun p => p.2.1) (outsAt0_A m c ⟨0, h⟩ (first h) (first h))).trans (oA_7 ..)

theorem nxt_7 (c : Dev nD) (n : ℕ) (h : n + 1 < cfg0.N) : (outsAt0 m c (n + 1) h).2.1 = vL (zAt m c (n + 1) h) (outsAt0 m c n (Nat.lt_of_succ_lt h)).2.1 :=
  ((congrArg (fun p => p.2.1) (outsAt0_B m c ⟨n + 1, h⟩ (later n h) (later n h))).trans (oB_7 ..)).trans (congrArg (fun z => vL z _) (zOf_eq m c n h))

theorem fst_8 (c : Dev nD) (h : 0 < cfg0.N) : (outsAt0 m c 0 h).2.2.1 = vN (zAt m c 0 h) (k0_pay4 (F := Ideal)) :=
  (congrArg (fun p => p.2.2.1) (outsAt0_A m c ⟨0, h⟩ (first h) (first h))).trans (oA_8 ..)

theorem nxt_8 (c : Dev nD) (n : ℕ) (h : n + 1 < cfg0.N) : (outsAt0 m c (n + 1) h).2.2.1 = vN (zAt m c (n + 1) h) (outsAt0 m c n (Nat.lt_of_succ_lt h)).2.2.1 :=
  ((congrArg (fun p => p.2.2.1) (outsAt0_B m c ⟨n + 1, h⟩ (later n h) (later n h))).trans (oB_8 ..)).trans (congrArg (fun z => vN z _) (zOf_eq m c n h))

/-! ## The pass's values at an index -/

/-- The arguments. -/
structure Args where
  h : IV S8192x1024 .f32
  p : IV S2x8192x256 .f32
  t : IV S8192x1024 .f32
  n : IV S1024 .f32
  wp : IV S256x1024 .f32
  wg : IV S1024x1024 .f32
  b : IV S1024 .f32
  nf : IV S1024 .f32

section
variable (a : Args)

/-- The gate's argument and the layer's output. -/
def agG (i : Fin 8192) (q : Fin 1024) : EReal := gaG a.h a.n a.wg a.b i q
def otG (i : Fin 8192) (q : Fin 1024) : EReal := a.h (ValueIdx.ix2 i q) + KernelPleIdeal.Pl.peG a.p a.wp i q * sg (agG a i q)

/-- The normalized output, the prediction less the target, and the prediction's gradient. -/
def yhG (i : Fin 8192) (q : Fin 1024) : EReal := otG a i q * rs (otG a i)
def dfG (i : Fin 8192) (q : Fin 1024) : EReal := yhG a i q * a.nf (ValueIdx.ix1 q) - a.t (ValueIdx.ix2 i q)
def dyG (i : Fin 8192) (q : Fin 1024) : EReal := dfG a i q * Ideal.ofBits .f32 0x3A800000#32

/-- The output's gradient. -/
def dhG (i : Fin 8192) (q : Fin 1024) : EReal :=
  rs (otG a i) * (dyG a i q * a.nf (ValueIdx.ix1 q)
    - yhG a i q * Ideal.div (∑ j : Fin 1024, dyG a i j * a.nf (ValueIdx.ix1 j) * yhG a i j) (Ideal.ofBits .f32 0x44800000#32))

/-- A row's share of the loss. -/
def lsG (i : Fin 8192) : EReal := Ideal.ofBits .f32 0x3F000000#32 * Ideal.div (∑ k : Fin 1024, dfG a i k * dfG a i k) (Ideal.ofBits .f32 0x44800000#32)

end

/-- The arguments of one device. -/
def ar (c : Dev nD) : Args :=
  ⟨m (c.tc.loc main_arg0), m (c.tc.loc main_arg1), m (c.tc.loc main_arg2), m (c.tc.loc main_arg3), m (c.tc.loc main_arg4), m (c.tc.loc main_arg5), m (c.tc.loc main_arg6), m (c.tc.loc main_arg7)⟩

/-! ## The host's arrays -/

theorem V3 (c : Dev nD) (q : Fin 1024) : (V m c main_v3 : IV S1x1024 .f32) (ValueIdx.ix2 0 q) = (ar m c).n (ValueIdx.ix1 q) := by
  have : (V m c main_v3 : IV S1x1024 .f32) = shapeCast S1x1024 (ar m c).n shapeCasts_S1024_S1x1024 := by
    unfold V hostOps0
    after_reads_simp
    rfl
  exact (congrFun this _).trans (KernelKvIdeal.Kv.asRow _ q)

theorem V4 (c : Dev nD) (q : Fin 1024) : (V m c main_v4 : IV S1x1024 .f32) (ValueIdx.ix2 0 q) = (ar m c).b (ValueIdx.ix1 q) := by
  have : (V m c main_v4 : IV S1x1024 .f32) = shapeCast S1x1024 (ar m c).b shapeCasts_S1024_S1x1024 := by
    unfold V hostOps0
    after_reads_simp
    rfl
  exact (congrFun this _).trans (KernelKvIdeal.Kv.asRow _ q)

theorem V5 (c : Dev nD) (q : Fin 1024) : (V m c main_v5 : IV S1x1024 .f32) (ValueIdx.ix2 0 q) = (ar m c).nf (ValueIdx.ix1 q) := by
  have : (V m c main_v5 : IV S1x1024 .f32) = shapeCast S1x1024 (ar m c).nf shapeCasts_S1024_S1x1024 := by
    unfold V hostOps0
    after_reads_simp
    rfl
  exact (congrFun this _).trans (KernelKvIdeal.Kv.asRow _ q)

theorem V6 (c : Dev nD) : (V m c main_v6 : IV S1024x1024 .bf16) = (ar m c).wg := by
  have : (V m c main_v6 : IV S1024x1024 .bf16) = truncf (F := Ideal) .bf16 (ar m c).wg bitsLt_bf16_f32 := by
    unfold V hostOps0
    after_reads_simp
    try rfl
  exact this.trans rfl

theorem V2 (c : Dev nD) : (V m c main_v2 : IV S4x256x256 .bf16) = KernelPleIdeal.Pl.inBlocks (ar m c).wp := by
  unfold V hostOps0
  after_reads_simp
  rfl

/-! ## The blocks -/

theorem pts (n : ℕ) (h : n < cfg0.N) : n < 16 := lt_of_lt_of_eq h (show cfg0.N = 16 from N_0)

/-- Row `r` of point `n`'s tile, as a row of the arrays. -/
def gi (n : ℕ) (h : n < cfg0.N) (r : Fin 512) : Fin 8192 := ⟨n * 512 + r.val, by have := pts n h; have := r.isLt; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![1, t.val, 0] :=
  (by decide +kernel : ∀ t : Fin grid0.N, win0_1.index t = ![1, t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![t.val, 0] :=
  (by decide +kernel : ∀ t : Fin grid0.N, win0_9.index t = ![t.val, 0])

theorem z_h (c : Dev nD) (n : ℕ) (h : n < cfg0.N) (r : Fin 512) (q : Fin 1024) : (zAt m c n h).h (ValueIdx.ix2 r q) = (ar m c).h (ValueIdx.ix2 (gi n h r) q) := by
  have hn : n < 16 := pts n h
  refine Eq.trans ?_ (congrFun (V_main_arg0 m c) (ValueIdx.ix2 (gi n h r) q))
  show (iblk m c 0 ⟨n, h⟩) (ValueIdx.ix2 r q) = (V m c main_arg0 : IV S8192x1024 .f32) (ValueIdx.ix2 (gi n h r) q)
  blk_simp [iblk]
  refine congrArg (V m c main_arg0 : IV S8192x1024 .f32) ?_
  funext a
  apply Fin.ext
  match a with
  | ⟨0, _⟩ => blk_simp [idx0] <;> rfl
  | ⟨1, _⟩ => blk_simp [idx0] <;> rfl

theorem z_p (c : Dev nD) (n : ℕ) (h : n < cfg0.N) (r : Fin 512) (k : Fin 256) : (zAt m c n h).p (ValueIdx.ix3 0 r k) = (ar m c).p (ValueIdx.ix3 1 (gi n h r) k) := by
  have hn : n < 16 := pts n h
  refine Eq.trans ?_ (congrFun (V_main_arg1 m c) (ValueIdx.ix3 1 (gi n h r) k))
  show (iblk m c 1 ⟨n, h⟩) (ValueIdx.ix3 0 r k) = (V m c main_arg1 : IV S2x8192x256 .f32) (ValueIdx.ix3 1 (gi n h r) k)
  blk_simp [iblk]
  refine congrArg (V m c main_arg1 : IV S2x8192x256 .f32) ?_
  funext a
  apply Fin.ext
  match a with
  | ⟨0, _⟩ => blk_simp [idx1] <;> rfl
  | ⟨1, _⟩ => blk_simp [idx1] <;> rfl
  | ⟨2, _⟩ => blk_simp [idx1] <;> rfl

theorem z_t (c : Dev nD) (n : ℕ) (h : n < cfg0.N) (r : Fin 512) (q : Fin 1024) : (zAt m c n h).t (ValueIdx.ix2 r q) = (ar m c).t (ValueIdx.ix2 (gi n h r) q) := by
  have hn : n < 16 := pts n h
  refine Eq.trans ?_ (congrFun (V_main_arg2 m c) (ValueIdx.ix2 (gi n h r) q))
  show (iblk m c 2 ⟨n, h⟩) (ValueIdx.ix2 r q) = (V m c main_arg2 : IV S8192x1024 .f32) (ValueIdx.ix2 (gi n h r) q)
  blk_simp [iblk]
  refine congrArg (V m c main_arg2 : IV S8192x1024 .f32) ?_
  funext a
  apply Fin.ext
  match a with
  | ⟨0, _⟩ => blk_simp [idx2] <;> rfl
  | ⟨1, _⟩ => blk_simp [idx2] <;> rfl

theorem z_n (c : Dev nD) (n : ℕ) (h : n < cfg0.N) (q : Fin 1024) : (zAt m c n h).n (ValueIdx.ix2 0 q) = (ar m c).n (ValueIdx.ix1 q) := by
  have hn : n < 16 := pts n h
  refine Eq.trans ?_ (V3 m c q)
  show (iblk m c 3 ⟨n, h⟩) (ValueIdx.ix2 0 q) = (V m c main_v3 : IV S1x1024 .f32) (ValueIdx.ix2 0 q)
  blk_simp [iblk]
  refine congrArg (V m c main_v3 : IV S1x1024 .f32) ?_
  funext a
  apply Fin.ext
  match a with
  | ⟨0, _⟩ => blk_simp [idx3] <;> rfl
  | ⟨1, _⟩ => blk_simp [idx3] <;> rfl

theorem z_b (c : Dev nD) (n : ℕ) (h : n < cfg0.N) (q : Fin 1024) : (zAt m c n h).b (ValueIdx.ix2 0 q) = (ar m c).b (ValueIdx.ix1 q) := by
  have hn : n < 16 := pts n h
  refine Eq.trans ?_ (V4 m c q)
  show (iblk m c 4 ⟨n, h⟩) (ValueIdx.ix2 0 q) = (V m c main_v4 : IV S1x1024 .f32) (ValueIdx.ix2 0 q)
  blk_simp [iblk]
  refine congrArg (V m c main_v4 : IV S1x1024 .f32) ?_
  funext a
  apply Fin.ext
  match a with
  | ⟨0, _⟩ => blk_simp [idx4] <;> rfl
  | ⟨1, _⟩ => blk_simp [idx4] <;> rfl

theorem z_nf (c : Dev nD) (n : ℕ) (h : n < cfg0.N) (q : Fin 1024) : (zAt m c n h).nf (ValueIdx.ix2 0 q) = (ar m c).nf (ValueIdx.ix1 q) := by
  have hn : n < 16 := pts n h
  refine Eq.trans ?_ (V5 m c q)
  show (iblk m c 5 ⟨n, h⟩) (ValueIdx.ix2 0 q) = (V m c main_v5 : IV S1x1024 .f32) (ValueIdx.ix2 0 q)
  blk_simp [iblk]
  refine congrArg (V m c main_v5 : IV S1x1024 .f32) ?_
  funext a
  apply Fin.ext
  match a with
  | ⟨0, _⟩ => blk_simp [idx5] <;> rfl
  | ⟨1, _⟩ => blk_simp [idx5] <;> rfl

/-! ## The step's values are the pass's -/

section
variable (c : Dev nD) (n : ℕ) (h : n < cfg0.N) (r : Fin 512)

theorem ag_at (q : Fin 1024) : KernelKvIdeal.Kv.ga (zAt m c n h).kv r q = agG (ar m c) (gi n h r) q := by
  unfold KernelKvIdeal.Kv.ga agG gaG
  refine congrArg₂ (· + ·) (Finset.sum_congr rfl fun k _ => congrArg₂ (· * ·) ?_ (congrFun (V6 m c) _)) (z_b m c n h q)
  show (zAt m c n h).h (ValueIdx.ix2 r k) * rs (fun j => (zAt m c n h).h (ValueIdx.ix2 r j)) * (zAt m c n h).n (ValueIdx.ix2 0 k) = _
  simp only [z_h, z_n]
  rfl

theorem ot_at : ot (zAt m c n h) r = otG (ar m c) (gi n h r) := funext fun q => by
  unfold ot KernelKvIdeal.Kv.ot otG
  rw [ag_at]
  refine congrArg₂ (fun d e => d + e * _) (z_h m c n h r q) (Finset.sum_congr rfl fun k _ => congrArg₂ (· * ·) (z_p m c n h r k) ?_)
  exact (congrFun (V2 m c) _).trans (KernelPleIdeal.Pl.inBlocks_apply _ k q)

theorem yh_at (q : Fin 1024) : yh (zAt m c n h) r q = yhG (ar m c) (gi n h r) q := by
  unfold yh yhG
  rw [ot_at]

theorem df_at (q : Fin 1024) : df (zAt m c n h) r q = dfG (ar m c) (gi n h r) q := by
  unfold df dfG
  rw [yh_at, z_nf, z_t]

theorem dy_at (q : Fin 1024) : dy (zAt m c n h) r q = dyG (ar m c) (gi n h r) q := by
  unfold dy dyG
  rw [df_at]

theorem dh_at (q : Fin 1024) : dh (zAt m c n h) r q = dhG (ar m c) (gi n h r) q := by
  unfold dh dhG
  simp only [dy_at, yh_at, ot_at, z_nf]

theorem ls_at : ls (zAt m c n h) r = lsG (ar m c) (gi n h r) := by
  unfold ls lsG
  simp only [df_at]

end

/-! ## The arrays -/

/-- An accumulator that each point adds its rows to holds, after the last, the sum over all rows. -/
theorem acc_sum (f : Fin 8192 → EReal) (o : (n : ℕ) → n < cfg0.N → EReal)
    (h0 : ∀ h : 0 < cfg0.N, o 0 h = 0 + ∑ r : Fin 512, f (gi 0 h r))
    (hs : ∀ (n : ℕ) (h : n + 1 < cfg0.N), o (n + 1) h = o n (Nat.lt_of_succ_lt h) + ∑ r : Fin 512, f (gi (n + 1) h r))
    (n : ℕ) (h : n < cfg0.N) (hn : n % 16 = 15) : o n h = ∑ i : Fin 8192, f i := by
  have hN : KernelPleIdeal.cfg0.N = cfg0.N := (show KernelPleIdeal.cfg0.N = 16 from KernelPleIdeal.Gen.N_0).trans (show 16 = cfg0.N from N_0.symm)
  have := pts n h
  exact KernelPleIdeal.Pl.acc_sum f (fun n h => o n (lt_of_lt_of_eq h hN)) (fun h => h0 _) (fun n h => hs n _) n (lt_of_lt_of_eq h hN.symm) (by omega)

theorem end7 (c : Dev nD) (n : ℕ) (h : n < cfg0.N) (hn : n % 16 = 15) (u : Fin 8) (q : Fin 128) : (outsAt0 m c n h).2.1 (ValueIdx.ix2 u q) = ∑ i : Fin 8192, lsG (ar m c) i :=
  acc_sum (lsG (ar m c)) (fun n h => (outsAt0 m c n h).2.1 (ValueIdx.ix2 u q))
    (fun h => (congrFun (fst_7 m c h) _).trans ((vL_apply _ _ u q).trans (congrArg₂ (· + ·) (pay3_apply _) (Finset.sum_congr rfl fun r _ => ls_at m c 0 h r))))
    (fun n h => (congrFun (nxt_7 m c n h) _).trans ((vL_apply _ _ u q).trans (congrArg _ (Finset.sum_congr rfl fun r _ => ls_at m c (n + 1) h r)))) n h hn

theorem end8 (c : Dev nD) (n : ℕ) (h : n < cfg0.N) (hn : n % 16 = 15) (u : Fin 1) (q : Fin 1024) :
    (outsAt0 m c n h).2.2.1 (ValueIdx.ix2 u q) = ∑ i : Fin 8192, dyG (ar m c) i q * yhG (ar m c) i q :=
  acc_sum (fun i => dyG (ar m c) i q * yhG (ar m c) i q) (fun n h => (outsAt0 m c n h).2.2.1 (ValueIdx.ix2 u q))
    (fun h => (congrFun (fst_8 m c h) _).trans ((vN_apply _ _ u q).trans (congrArg₂ (· + ·) (pay4_apply _) (Finset.sum_congr rfl fun r _ => congrArg₂ (· * ·) (dy_at m c 0 h r q) (yh_at m c 0 h r q)))))
    (fun n h => (congrFun (nxt_8 m c n h) _).trans ((vN_apply _ _ u q).trans (congrArg _ (Finset.sum_congr rfl fun r _ => congrArg₂ (· * ·) (dy_at m c (n + 1) h r q) (yh_at m c (n + 1) h r q))))) n h hn

theorem arr6 (c : Dev nD) : (dats m 0 c).arrAt 6 cfg0.N = fun y : S8192x1024.Idx => dhG (ar m c) (y 0) (y 1) := by
  refine (dats m 0 c).arrAt_eq_of_covers 6 _ (by decide +kernel) fun t hf y => ?_
  rw [after0_6, at_6]
  refine (congrArg (vO (zAt m c t.val t.isLt)) (ValueIdx.eq_ix2 (n0 := 512) (n1 := 1024) y)).trans ?_
  refine (vO_apply _ (y 0) (y 1)).trans ((dh_at m c t.val t.isLt (y 0) (y 1)).trans ?_)
  refine congrArg₂ (dhG (ar m c)) (Fin.ext ?_) (Fin.ext ?_)
  · blk_simp [idx6] <;> rfl
  · blk_simp [idx6] <;> rfl

theorem arr7 (c : Dev nD) : (dats m 0 c).arrAt 7 cfg0.N = fun _ : S8x128.Idx => ∑ i : Fin 8192, lsG (ar m c) i := by
  refine (dats m 0 c).arrAt_eq_of_covers 7 _ (by decide +kernel) fun t hf y => ?_
  rw [after0_7]
  exact (congrArg (outsAt0 m c t.val t.isLt).2.1 (ValueIdx.eq_ix2 (n0 := 8) (n1 := 128) y)).trans (end7 m c t.val t.isLt ((flush0_7 t).mp hf) (y 0) (y 1))

theorem arr8 (c : Dev nD) : (dats m 0 c).arrAt 8 cfg0.N = fun y : S1x1024.Idx => ∑ i : Fin 8192, dyG (ar m c) i (y 1) * yhG (ar m c) i (y 1) := by
  refine (dats m 0 c).arrAt_eq_of_covers 8 _ (by decide +kernel) fun t hf y => ?_
  rw [after0_8]
  refine (congrArg (outsAt0 m c t.val t.isLt).2.2.1 (ValueIdx.eq_ix2 (n0 := 1) (n1 := 1024) y)).trans ((end8 m c t.val t.isLt ((flush0_8 t).mp hf) (y 0) (y 1)).trans ?_)
  refine congrArg (fun q : Fin 1024 => ∑ i : Fin 8192, dyG (ar m c) i q * yhG (ar m c) i q) (Fin.ext ?_)
  blk_simp [idx8] <;> rfl

theorem arr9 (c : Dev nD) : (dats m 0 c).arrAt 9 cfg0.N = fun y : S8192x1024.Idx => agG (ar m c) (y 0) (y 1) := by
  refine (dats m 0 c).arrAt_eq_of_covers 9 _ (by decide +kernel) fun t hf y => ?_
  rw [after0_9, at_9]
  refine (congrArg (vG (zAt m c t.val t.isLt)) (ValueIdx.eq_ix2 (n0 := 512) (n1 := 1024) y)).trans ?_
  refine (KernelKvIdeal.Kv.pay2_apply (zAt m c t.val t.isLt).kv (y 0) (y 1)).trans ((ag_at m c t.val t.isLt (y 0) (y 1)).trans ?_)
  refine congrArg₂ (agG (ar m c)) (Fin.ext ?_) (Fin.ext ?_)
  · blk_simp [idx9] <;> rfl
  · blk_simp [idx9] <;> rfl

end Cert.KernelFinalIdeal.Ls

end
-- ==== Proof.Ffn.Loss.lean ====
/- The last layer's embeddings with the loss: the reference's four results are the pass's values, and the claim. -/
module

public import proofs.«01_k».proof.Proof.Gen.ReferenceFinalIdeal.Run
public import proofs.«01_k».proof.Proof.Gen.ReferenceFinalIdeal.Read
public import proofs.«01_k».proof.Proof.Ffn.LossOuts
public import proofs.«01_k».proof.Proof.Ffn.Kv
public import proofs.«01_k».proof.Proof.Ffn.Ple

@[expose] public section

set_option maxRecDepth 16384

noncomputable section

namespace Cert.KernelFinalIdeal.Ls

open Cert.ReferenceFinalIdeal Cert.ReferenceFinalIdeal.Gen Cert.ReferenceFinalIdeal.Read Idealize.ShloMosaic Idealize.ShloMosaic.TcCoe Idealize.SL.Sem
open Cert.KernelFwdIdeal.Fw (sg rs sg_eq half_f32 one_f32 zero_f32 ext2)
open Cert.KernelPleIdeal.Pl (IV ms ext1 ext2')
open Ffn (IsReal)
open scoped BigOperators

variable (a : Args)

/-! ## The output and its norm -/

theorem r_ot (i : Fin 8192) (q : Fin 1024) : val_main_v27 (F := Ideal) a.h a.p a.n a.wp a.wg a.b (ValueIdx.ix2 i q) = otG a i q := by
  rw [val_main_v27_apply, val_main_v26_apply]
  exact congrArg₂ (fun d e : EReal => a.h (ValueIdx.ix2 i q) + d * e) (KernelPleIdeal.Pl.r_pe a.p a.wp i q) (KernelKvIdeal.Kv.r_gt a.h a.n a.wg a.b i q)

/-- The mean of a row's squares plus epsilon, and its inverse root, as the first norm's of the output. -/
theorem r_ms (i : Fin 8192) : val_main_v34 (F := Ideal) a.h a.p a.n a.wp a.wg a.b (ValueIdx.ix2 i 0) = ms (val_main_v27 (F := Ideal) a.h a.p a.n a.wp a.wg a.b) i := KernelPleIdeal.Pl.r_ms _ i

theorem row (i : Fin 8192) : (fun j : Fin 1024 => val_main_v27 (F := Ideal) a.h a.p a.n a.wp a.wg a.b (ValueIdx.ix2 i j)) = otG a i := funext (r_ot a i)

theorem r_rs (i : Fin 8192) : val_main_v35 (F := Ideal) a.h a.p a.n a.wp a.wg a.b (ValueIdx.ix2 i 0) = rs (otG a i) := (KernelPleIdeal.Pl.r_rs _ i).trans (congrArg rs (row a i))

theorem r_yh (i : Fin 8192) (q : Fin 1024) : val_main_v40 (F := Ideal) a.h a.p a.n a.wp a.wg a.b (ValueIdx.ix2 i q) = yhG a i q := by
  rw [val_main_v40_apply, val_main_v39_apply]
  have e : idx_main_v39 (ValueIdx.ix2 i q) = ValueIdx.ix2 i 0 := ext2 rfl rfl
  rw [e, r_rs, r_ot]
  rfl

theorem r_df (i : Fin 8192) (q : Fin 1024) : val_main_v44 (F := Ideal) a.h a.p a.t a.n a.wp a.wg a.b a.nf (ValueIdx.ix2 i q) = dfG a i q := by
  rw [val_main_v44_apply, val_main_v43_apply, val_main_v42_apply, val_main_v41_apply, r_yh]
  have e : idx_main_v41 (idx_main_v42 (ValueIdx.ix2 i q)) = ValueIdx.ix1 q := ext1 rfl
  rw [e]
  rfl

/-- A half times two over the row's length. -/
theorem scale : Ideal.div (Ideal.ofBits .f32 0x3F000000#32 * Ideal.ofBits .f32 0x3F800000#32) (Ideal.ofBits .f32 0x44800000#32) * Ideal.ofBits .f32 0x40000000#32
    = Ideal.ofBits .f32 0x3A800000#32 := by
  have h2 : Ideal.ofBits .f32 0x40000000#32 = ((2 : ℝ) : EReal) := by
    simp [Ideal.ofBits, Ideal.ieee, -EReal.coe_mul]; norm_num
  have hq : Ideal.ofBits .f32 0x3A800000#32 = ((1 / 1024 : ℝ) : EReal) := by
    simp [Ideal.ofBits, Ideal.ieee, -EReal.coe_mul]; norm_num
  rw [h2, hq, half_f32, one_f32, Ffn.ofBits_1024, Ideal.div_coe (by norm_num), ← EReal.coe_mul, ← EReal.coe_mul, ← EReal.coe_mul]
  exact congrArg Real.toEReal (by norm_num)

theorem r_dy (i : Fin 8192) (q : Fin 1024) : val_main_v58 (F := Ideal) a.h a.p a.t a.n a.wp a.wg a.b a.nf (ValueIdx.ix2 i q) = dyG a i q := by
  rw [val_main_v58_apply, val_main_v57_apply, val_main_v56_apply, val_main_v54_apply, val_main_v55_apply, val_main_v53_apply, val_main_v47_apply, val_main_v46_apply, r_df]
  show Ideal.div (Ideal.ofBits .f32 0x3F000000#32 * Ideal.ofBits .f32 0x3F800000#32) (Ideal.ofBits .f32 0x44800000#32) * (Ideal.ofBits .f32 0x40000000#32 * dfG a i q) = dfG a i q * Ideal.ofBits .f32 0x3A800000#32
  rw [← mul_assoc, scale, mul_comm]

theorem r_dn (i : Fin 8192) (q : Fin 1024) : val_main_v63 (F := Ideal) a.h a.p a.t a.n a.wp a.wg a.b a.nf (ValueIdx.ix2 i q) = dyG a i q * a.nf (ValueIdx.ix1 q) := by
  rw [val_main_v63_apply, r_dy, val_main_v62_apply, val_main_v41_apply]
  have e : idx_main_v41 (idx_main_v62 (ValueIdx.ix2 i q)) = ValueIdx.ix1 q := ext1 rfl
  rw [e]
  rfl

/-! ## The loss, the norm's gradient and the gate's argument -/

theorem r_ls (i : Fin 8192) : Ideal.ofBits .f32 0x3F000000#32 * val_main_v50 (F := Ideal) a.h a.p a.t a.n a.wp a.wg a.b a.nf (ValueIdx.ix1 i) = lsG a i := by
  rw [val_main_v50_apply, val_main_v48_apply, val_main_v49_apply]
  refine congrArg (fun t : EReal => Ideal.ofBits .f32 0x3F000000#32 * Ideal.div t (Ideal.ofBits .f32 0x44800000#32)) ?_
  refine (congrArg₂ (· + ·) zero_f32 (Finset.sum_congr rfl fun k _ => ?_)).trans (zero_add _)
  have e : idx_main_v48 (ValueIdx.ix1 i) k = ValueIdx.ix2 i k := ext2 rfl rfl
  rw [e, val_main_v45_apply, r_df]
  rfl

theorem res7 : val_main_v79 (F := Ideal) a.h a.p a.t a.n a.wp a.wg a.b a.nf = fun _ : S8x128.Idx => ∑ i : Fin 8192, lsG a i := by
  funext y
  rw [val_main_v79_apply, val_main_v52_apply, val_main_v51_apply]
  show Ideal.ofBits .f32 0x3F000000#32 * (Ideal.ofBits .f32 0x00000000#32 + ∑ j : S8192.Idx, val_main_v50 (F := Ideal) a.h a.p a.t a.n a.wp a.wg a.b a.nf j) = _
  rw [zero_f32, zero_add, half_sum]
  exact Fintype.sum_equiv ⟨fun j => j 0, fun i => ValueIdx.ix1 i, fun j => ext1 rfl, fun i => rfl⟩ _ _ fun j =>
    (congrArg (fun j : S8192.Idx => Ideal.ofBits .f32 0x3F000000#32 * val_main_v50 (F := Ideal) a.h a.p a.t a.n a.wp a.wg a.b a.nf j) (ext1 rfl : j = ValueIdx.ix1 (j 0))).trans (r_ls a (j 0))

theorem res8 : val_main_v80 (F := Ideal) a.h a.p a.t a.n a.wp a.wg a.b a.nf = fun y : S1x1024.Idx => ∑ i : Fin 8192, dyG a i (y 1) * yhG a i (y 1) := by
  have key : ∀ q : Fin 1024, val_main_v80 (F := Ideal) a.h a.p a.t a.n a.wp a.wg a.b a.nf (ValueIdx.ix2 0 q) = ∑ i : Fin 8192, dyG a i q * yhG a i q := fun q => by
    rw [val_main_v80_apply]
    have e : idx_main_v80 (ValueIdx.ix2 0 q) = ValueIdx.ix1 q := ext1 (by show 0 * 1024 + q.val = q.val; omega)
    rw [e, val_main_v64_apply]
    refine (congrArg₂ (· + ·) zero_f32 (Fin.sum_univ_one _)).trans ((zero_add _).trans ?_)
    rw [val_main_v61_apply]
    have e : idx_main_v61 (idx_main_v64 (ValueIdx.ix1 q) 0) = ValueIdx.ix1 q := ext1 (by show 0 * 1024 + q.val = q.val; omega)
    rw [e, val_main_v60_apply]
    refine (congrArg₂ (· + ·) zero_f32 (Finset.sum_congr rfl fun i _ => ?_)).trans (zero_add _)
    have e : idx_main_v60 (ValueIdx.ix1 q) i = ValueIdx.ix2 i q := ext2 rfl rfl
    rw [e, val_main_v59_apply, r_yh, r_dy]
    exact mul_comm _ _
  exact funext fun y => (congrArg _ (ext2' y)).trans (key (y 1))

theorem res9 : val_main_v81 (F := Ideal) a.h a.n a.wg a.b = fun y : S8192x1024.Idx => agG a (y 0) (y 1) :=
  funext fun y => (congrArg _ (ValueIdx.eq_ix2 (n0 := 8192) (n1 := 1024) y)).trans (KernelKvIdeal.Kv.r_ga a.h a.n a.wg a.b (y 0) (y 1))

/-! ## The output's gradient -/

theorem r_corr (i : Fin 8192) (k : Fin 1024) : val_main_v74 (F := Ideal) a.h a.p a.t a.n a.wp a.wg a.b a.nf (ValueIdx.ix2 i k)
    = Ideal.div ((∑ j : Fin 1024, otG a i j * (dyG a i j * a.nf (ValueIdx.ix1 j)))
        * (Ideal.ofBits .f32 0xBF000000#32 * Ideal.div (rs (otG a i)) (ms (val_main_v27 (F := Ideal) a.h a.p a.n a.wp a.wg a.b) i))) (Ideal.ofBits .f32 0x44800000#32) := by
  rw [val_main_v74_apply]
  have e : idx_main_v74 (ValueIdx.ix2 i k) = ValueIdx.ix1 i := ext1 rfl
  rw [e, val_main_v73_apply]
  refine (congrArg₂ (· + ·) zero_f32 (Fin.sum_univ_one _)).trans ((zero_add _).trans ?_)
  have e : idx_main_v73 (ValueIdx.ix1 i) 0 = ValueIdx.ix2 i 0 := ext2 rfl rfl
  rw [e, val_main_v72_apply, val_main_v70_apply, val_main_v38_apply, val_main_v36_apply, r_rs, r_ms, val_main_v67_apply]
  have e : idx_main_v67 (ValueIdx.ix2 i 0) = ValueIdx.ix1 i := ext1 (by show i.val * 1 + 0 = i.val; omega)
  rw [e, val_main_v66_apply]
  refine congrArg (fun t : EReal => Ideal.div (t * (Ideal.ofBits .f32 0xBF000000#32 * Ideal.div (rs (otG a i)) (ms (val_main_v27 (F := Ideal) a.h a.p a.n a.wp a.wg a.b) i))) (Ideal.ofBits .f32 0x44800000#32)) ?_
  refine (congrArg₂ (· + ·) zero_f32 (Finset.sum_congr rfl fun j _ => ?_)).trans (zero_add _)
  have e : idx_main_v66 (ValueIdx.ix1 i) j = ValueIdx.ix2 i j := ext2 rfl rfl
  rw [e, val_main_v65_apply, r_ot, r_dn]
  rfl

/-- A real row's norm is real. -/
theorem real_norm (x : Fin 1024 → EReal) (hx : ∀ j, IsReal (x j)) : IsReal (rs x) := by
  obtain ⟨s, hs, es⟩ := Ffn.mean_sq_pos x hx
  obtain ⟨r, hr, _⟩ := Ffn.rsqrt_of_pos hs
  exact ⟨r, (congrArg Ideal.rsqrt es).trans hr⟩

/-- Every argument's entries are real. -/
structure Args.Real : Prop where
  h : ∀ i, IsReal (a.h i)
  p : ∀ i, IsReal (a.p i)
  t : ∀ i, IsReal (a.t i)
  n : ∀ i, IsReal (a.n i)
  wp : ∀ i, IsReal (a.wp i)
  wg : ∀ i, IsReal (a.wg i)
  b : ∀ i, IsReal (a.b i)
  nf : ∀ i, IsReal (a.nf i)

variable {a} (ha : a.Real)
include ha

theorem real_ot (i : Fin 8192) (q : Fin 1024) : IsReal (otG a i q) := by
  have hg : IsReal (agG a i q) := IsReal.add (IsReal.sum _ _ fun k => (((ha.h _).mul (real_norm _ fun j => ha.h _)).mul (ha.n _)).mul (ha.wg _)) (ha.b _)
  refine (ha.h _).add ((IsReal.sum _ _ fun k => (ha.p _).mul (ha.wp _)).mul ?_)
  rw [sg_eq]
  exact Ffn.isReal_logistic hg

theorem real_dn (i : Fin 8192) (q : Fin 1024) : IsReal (dyG a i q * a.nf (ValueIdx.ix1 q)) :=
  ((((((real_ot ha i q).mul (real_norm _ (real_ot ha i))).mul (ha.nf _)).sub (ha.t _)).mul
    ⟨1 / 1024, by simp [Ideal.ofBits, Ideal.ieee, -EReal.coe_mul]; norm_num⟩)).mul (ha.nf _)

theorem res6 : val_main_v78 (F := Ideal) a.h a.p a.t a.n a.wp a.wg a.b a.nf = fun y : S8192x1024.Idx => dhG a (y 0) (y 1) := by
  have key : ∀ (i : Fin 8192) (k : Fin 1024), val_main_v78 (F := Ideal) a.h a.p a.t a.n a.wp a.wg a.b a.nf (ValueIdx.ix2 i k) = dhG a i k := fun i k => by
    rw [val_main_v78_apply, val_main_v76_apply, val_main_v77_apply, val_main_v75_apply, val_main_v69_apply, r_corr, r_dn, r_ot, val_main_v68_apply]
    have e : idx_main_v68 (ValueIdx.ix2 i k) = ValueIdx.ix2 i 0 := ext2 rfl rfl
    rw [e, r_rs]
    obtain ⟨s, hs, es⟩ := Ffn.mean_sq_pos (otG a i) (real_ot ha i)
    have em : ms (val_main_v27 (F := Ideal) a.h a.p a.n a.wp a.wg a.b) i = (s : EReal) := (congrArg (fun x : Fin 1024 → EReal =>
      Ideal.div (∑ j, x j * x j) (Ideal.ofBits .f32 0x44800000#32) + Ideal.ofBits .f32 0x358637BD#32) (row a i)).trans es
    have er : rs (otG a i) = Ideal.rsqrt (s : EReal) := congrArg Ideal.rsqrt es
    unfold dhG yhG
    rw [em, er]
    exact Ffn.norm_back (otG a i) (fun j : Fin 1024 => dyG a i j * a.nf (ValueIdx.ix1 j)) (real_ot ha i) (real_dn ha i) hs k
  exact funext fun y => (congrArg _ (ValueIdx.eq_ix2 (n0 := 8192) (n1 := 1024) y)).trans (key (y 0) (y 1))

end Cert.KernelFinalIdeal.Ls

namespace Cert.Pre_finite_final

theorem holds : Cert.Pre_finite_final.Facts where
  bcast_S_S8192x1024 := by decide
  bcast_S_S2x8192x256 := by decide
  bcast_S_S1024 := by decide
  bcast_S_S256x1024 := by decide
  bcast_S_S1024x1024 := by decide

end Cert.Pre_finite_final

namespace Cert.Proof

open Idealize.ShloMosaic Idealize.ShloMosaic.TcCoe Idealize.SL.Sem
open Cert.KernelFinalIdeal.Ls

variable (m : (ℓ : Loc Cert.KernelFinalIdeal.nD Cert.KernelFinalIdeal.τ Cert.KernelFinalIdeal.sig) → Buf (Elt Ideal) ℓ) (c : Dev Cert.KernelFinalIdeal.nD)

/-- The precondition makes every argument's entries real. -/
theorem final_reals (h : Cert.Pre_KernelFinalIdeal_finite_final (hPre_finite_final := Cert.Pre_finite_final.holds) m) : (ar m c).Real := by
  obtain ⟨e0, e1, e2, e3, e4, e5, e6, e7⟩ := h c
  open Cert.Pre_finite in
  exact ⟨fun i => real_of_word _ (congrFun e0 i), fun i => real_of_word _ (congrFun e1 i), fun i => real_of_word _ (congrFun e2 i),
    fun i => real_of_word _ (congrFun e3 i), fun i => real_of_word _ (congrFun e4 i), fun i => real_of_word _ (congrFun e5 i),
    fun i => real_of_word _ (congrFun e6 i), fun i => real_of_word _ (congrFun e7 i)⟩

/-- Both runs leave the rows' gradient, the loss, the last norm's gradient and the gate's argument. -/
theorem algebraic_final : Cert.algebraic_KernelFinalIdeal_ReferenceFinalIdeal_pre_finite_final (hKernelFinalIdeal := Cert.KernelFinalIdeal.Gen.facts)
    (hReferenceFinalIdeal := Cert.ReferenceFinalIdeal.Gen.facts) (hPre_finite_final := Cert.Pre_finite_final.holds) := by
  intro m g m' g' hpre hargs
  refine ⟨fun c => Cert.ReferenceFinalIdeal.Read.val_main_v78 (F := Ideal) (m (c.tc.loc Cert.KernelFinalIdeal.main_arg0)) (m (c.tc.loc Cert.KernelFinalIdeal.main_arg1)) (m (c.tc.loc Cert.KernelFinalIdeal.main_arg2)) (m (c.tc.loc Cert.KernelFinalIdeal.main_arg3)) (m (c.tc.loc Cert.KernelFinalIdeal.main_arg4)) (m (c.tc.loc Cert.KernelFinalIdeal.main_arg5)) (m (c.tc.loc Cert.KernelFinalIdeal.main_arg6)) (m (c.tc.loc Cert.KernelFinalIdeal.main_arg7)),
    fun c => Cert.ReferenceFinalIdeal.Read.val_main_v79 (F := Ideal) (m (c.tc.loc Cert.KernelFinalIdeal.main_arg0)) (m (c.tc.loc Cert.KernelFinalIdeal.main_arg1)) (m (c.tc.loc Cert.KernelFinalIdeal.main_arg2)) (m (c.tc.loc Cert.KernelFinalIdeal.main_arg3)) (m (c.tc.loc Cert.KernelFinalIdeal.main_arg4)) (m (c.tc.loc Cert.KernelFinalIdeal.main_arg5)) (m (c.tc.loc Cert.KernelFinalIdeal.main_arg6)) (m (c.tc.loc Cert.KernelFinalIdeal.main_arg7)),
    fun c => Cert.ReferenceFinalIdeal.Read.val_main_v80 (F := Ideal) (m (c.tc.loc Cert.KernelFinalIdeal.main_arg0)) (m (c.tc.loc Cert.KernelFinalIdeal.main_arg1)) (m (c.tc.loc Cert.KernelFinalIdeal.main_arg2)) (m (c.tc.loc Cert.KernelFinalIdeal.main_arg3)) (m (c.tc.loc Cert.KernelFinalIdeal.main_arg4)) (m (c.tc.loc Cert.KernelFinalIdeal.main_arg5)) (m (c.tc.loc Cert.KernelFinalIdeal.main_arg6)) (m (c.tc.loc Cert.KernelFinalIdeal.main_arg7)),
    fun c => Cert.ReferenceFinalIdeal.Read.val_main_v81 (F := Ideal) (m (c.tc.loc Cert.KernelFinalIdeal.main_arg0)) (m (c.tc.loc Cert.KernelFinalIdeal.main_arg3)) (m (c.tc.loc Cert.KernelFinalIdeal.main_arg5)) (m (c.tc.loc Cert.KernelFinalIdeal.main_arg6)), ?_, ?_⟩
  · refine (θ_run Cert.KernelFinalIdeal.defs _ _).mono (fun r hr c => ?_) (Cert.KernelFinalIdeal.Value.run_blocks m g)
    obtain ⟨r0, r1, r2, r3, rest⟩ := hr c
    exact ⟨r0.trans ((arr6 m c).trans (res6 (final_reals m c hpre)).symm), r1.trans ((arr7 m c).trans (res7 (ar m c)).symm),
      r2.trans ((arr8 m c).trans (res8 (ar m c)).symm), r3.trans ((arr9 m c).trans (res9 (ar m c)).symm), rest⟩
  · refine (θ_run Cert.ReferenceFinalIdeal.defs _ _).mono (fun r hr c => ?_) (Cert.ReferenceFinalIdeal.Value.run m' g')
    obtain ⟨e0, e1, e2, e3, e4, e5, e6, e7⟩ := hargs c
    obtain ⟨r0, r1, r2, r3, rest⟩ := hr c
    refine ⟨(r0.trans (Cert.ReferenceFinalIdeal.Read.val_main_v78_eq m' c)).trans ?_, (r1.trans (Cert.ReferenceFinalIdeal.Read.val_main_v79_eq m' c)).trans ?_,
      (r2.trans (Cert.ReferenceFinalIdeal.Read.val_main_v80_eq m' c)).trans ?_,
      (r3.trans (Cert.ReferenceFinalIdeal.Read.val_main_v81_eq (m' ((c.tc : Thread Cert.ReferenceFinalIdeal.nD Cert.ReferenceFinalIdeal.τ).loc Cert.ReferenceFinalIdeal.main_arg0)) (m' ((c.tc : Thread Cert.ReferenceFinalIdeal.nD Cert.ReferenceFinalIdeal.τ).loc Cert.ReferenceFinalIdeal.main_arg3)) (m' ((c.tc : Thread Cert.ReferenceFinalIdeal.nD Cert.ReferenceFinalIdeal.τ).loc Cert.ReferenceFinalIdeal.main_arg5)) (m' ((c.tc : Thread Cert.ReferenceFinalIdeal.nD Cert.ReferenceFinalIdeal.τ).loc Cert.ReferenceFinalIdeal.main_arg6)))).trans ?_, rest⟩
    · rw [e0, e1, e2, e3, e4, e5, e6, e7]
    · rw [e0, e1, e2, e3, e4, e5, e6, e7]
    · rw [e0, e1, e2, e3, e4, e5, e6, e7]
    · rw [e0, e3, e5, e6]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Ffn.Region
public import proofs.«01_k».proof.Proof.Ffn.Final
public import proofs.«01_k».proof.Proof.Ffn.Same
public import proofs.«01_k».proof.Proof.Ffn.Up
public import proofs.«01_k».proof.Proof.Ffn.Down
public import proofs.«01_k».proof.Proof.Ffn.Fwd
public import proofs.«01_k».proof.Proof.Ffn.Ple
public import proofs.«01_k».proof.Proof.Ffn.Kv
public import proofs.«01_k».proof.Proof.Ffn.Loss
public import proofs.«01_k».proof.Proof.Gen.KernelKv
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.ReferenceKvIdeal.Read
public import proofs.«01_k».proof.Proof.Gen.KernelFinal
public import proofs.«01_k».proof.Proof.Gen.KernelFinal.Frame
public import proofs.«01_k».proof.Proof.Gen.KernelFinalIdeal
public import proofs.«01_k».proof.Proof.Gen.KernelFinalIdeal.Skeleton
public import proofs.«01_k».proof.Proof.Gen.KernelFinalIdeal.Launch
public import proofs.«01_k».proof.Proof.Gen.KernelFinalIdeal.Points
public import proofs.«01_k».proof.Proof.Gen.KernelFinalIdeal.Frame
public import proofs.«01_k».proof.Proof.Gen.KernelFinalIdeal.Value
public import proofs.«01_k».proof.Proof.Gen.ReferenceFinalIdeal
public import proofs.«01_k».proof.Proof.Gen.ReferenceFinalIdeal.Run
public import proofs.«01_k».proof.Proof.Gen.ReferenceFinalIdeal.Read
public import Idealize.ShloMosaic.Lib.Quiescent
public import proofs.«01_k».proof.Proof.Gen.KernelUp
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelFwd
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.KernelFwdIdeal.Value
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Gen.KernelPle
public import proofs.«01_k».proof.Proof.Gen.KernelPle.Frame
public import proofs.«01_k».proof.Proof.Gen.KernelPleIdeal
public import proofs.«01_k».proof.Proof.Gen.KernelPleIdeal.Skeleton
public import proofs.«01_k».proof.Proof.Gen.KernelPleIdeal.Launch
public import proofs.«01_k».proof.Proof.Gen.KernelPleIdeal.Points
public import proofs.«01_k».proof.Proof.Gen.KernelPleIdeal.Frame
public import proofs.«01_k».proof.Proof.Gen.KernelPleIdeal.Value
public import proofs.«01_k».proof.Proof.Gen.ReferencePleIdeal
public import proofs.«01_k».proof.Proof.Gen.ReferencePleIdeal.Run
public import proofs.«01_k».proof.Proof.Gen.ReferencePleIdeal.Read
public import Idealize.ShloMosaic.Adequacy
public import Idealize.ShloMosaic.Init

@[expose] public section

noncomputable section

namespace Cert.Proof

open Idealize.ShloMosaic Idealize.SL.Sem Cert.Kernel

set_option maxHeartbeats 8000000 in
set_option maxRecDepth 16384 in
/-- The kernel and its idealisation are one text: the run over any float values is the run over words. -/
theorem frame_kernel : Cert.quiescent_Kernel (hKernel := Cert.Kernel.Gen.facts) := fun m ρ _ => by
  rw [same_defs, same_main]
  exact Cert.KernelIdeal.Ffn.frame (F := Bits) m ρ

theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2, sem_eq_zero_of_no_sems rfl r.2⟩)
    (Cert.ReferenceIdeal.Value.run m ρ)

theorem frame_reference_up : Cert.quiescent_ReferenceUpIdeal (hReferenceUpIdeal := Cert.ReferenceUpIdeal.Gen.facts) := fun m ρ _ =>
  (θ_run Cert.ReferenceUpIdeal.defs _ _).mono (fun r h => ⟨fun c => (h c).2, sem_eq_zero_of_no_sems rfl r.2⟩)
    (Cert.ReferenceUpIdeal.Value.run m ρ)

theorem frame_reference_down : Cert.quiescent_ReferenceDownIdeal (hReferenceDownIdeal := Cert.ReferenceDownIdeal.Gen.facts) := fun m ρ _ =>
  (θ_run Cert.ReferenceDownIdeal.defs _ _).mono (fun r h => ⟨fun c => (h c).2, sem_eq_zero_of_no_sems rfl r.2⟩)
    (Cert.ReferenceDownIdeal.Value.run m ρ)

theorem frame_reference_fwd : Cert.quiescent_ReferenceFwdIdeal (hReferenceFwdIdeal := Cert.ReferenceFwdIdeal.Gen.facts) := fun m ρ _ =>
  (θ_run Cert.ReferenceFwdIdeal.defs _ _).mono (fun r h => ⟨fun c => (h c).2.2.2, sem_eq_zero_of_no_sems rfl r.2⟩)
    (Cert.ReferenceFwdIdeal.Value.run m ρ)

theorem frame_reference_ple : Cert.quiescent_ReferencePleIdeal (hReferencePleIdeal := Cert.ReferencePleIdeal.Gen.facts) := fun m ρ _ =>
  (θ_run Cert.ReferencePleIdeal.defs _ _).mono (fun r h => ⟨fun c => (h c).2.2.2.2.2, sem_eq_zero_of_no_sems rfl r.2⟩)
    (Cert.ReferencePleIdeal.Value.run m ρ)

theorem frame_reference_kv : Cert.quiescent_ReferenceKvIdeal (hReferenceKvIdeal := Cert.ReferenceKvIdeal.Gen.facts) := fun m ρ _ =>
  (θ_run Cert.ReferenceKvIdeal.defs _ _).mono (fun r h => ⟨fun c => (h c).2.2.2, sem_eq_zero_of_no_sems rfl r.2⟩)
    (Cert.ReferenceKvIdeal.Value.run m ρ)

theorem frame_reference_final : Cert.quiescent_ReferenceFinalIdeal (hReferenceFinalIdeal := Cert.ReferenceFinalIdeal.Gen.facts) := fun m ρ _ =>
  (θ_run Cert.ReferenceFinalIdeal.defs _ _).mono (fun r h => ⟨fun c => (h c).2.2.2.2, sem_eq_zero_of_no_sems rfl r.2⟩)
    (Cert.ReferenceFinalIdeal.Value.run m ρ)

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelFwd.Gen.facts, Cert.KernelFwdIdeal.Gen.facts, Cert.ReferenceFwdIdeal.Gen.facts,
  Cert.KernelPle.Gen.facts, Cert.KernelPleIdeal.Gen.facts, Cert.ReferencePleIdeal.Gen.facts,
  Cert.KernelKv.Gen.facts, Cert.KernelKvIdeal.Gen.facts, Cert.ReferenceKvIdeal.Gen.facts,
  Cert.KernelFinal.Gen.facts, Cert.KernelFinalIdeal.Gen.facts, Cert.ReferenceFinalIdeal.Gen.facts,
  Cert.Pre_finite.holds, Cert.Pre_finite_ple.holds, Cert.Pre_finite_final.holds,
  frame_kernel, fun m ρ _ => Cert.KernelIdeal.Ffn.frame m ρ, fun m ρ _ => Cert.KernelIdeal.Ffn.frame m ρ,
  frame_reference, fun m ρ _ => frame_reference m ρ trivial,
  fun m ρ _ => Cert.KernelUp.Gen.frame m ρ, fun m ρ _ => Cert.KernelUpIdeal.Gen.frame m ρ, frame_reference_up,
  fun m ρ _ => Cert.KernelDown.Gen.frame m ρ, fun m ρ _ => Cert.KernelDownIdeal.Gen.frame m ρ, frame_reference_down,
  fun m ρ _ => Cert.KernelFwd.Gen.frame m ρ, fun m ρ _ => Cert.KernelFwdIdeal.Gen.frame m ρ, frame_reference_fwd,
  fun m ρ _ => Cert.KernelPle.Gen.frame m ρ, fun m ρ _ => Cert.KernelPleIdeal.Gen.frame m ρ, fun m ρ _ => Cert.KernelPleIdeal.Gen.frame m ρ,
  frame_reference_ple, fun m ρ _ => frame_reference_ple m ρ trivial,
  fun m ρ _ => Cert.KernelKv.Gen.frame m ρ, fun m ρ _ => Cert.KernelKvIdeal.Gen.frame m ρ, frame_reference_kv,
  fun m ρ _ => Cert.KernelFinal.Gen.frame m ρ, fun m ρ _ => Cert.KernelFinalIdeal.Gen.frame m ρ, fun m ρ _ => Cert.KernelFinalIdeal.Gen.frame m ρ,
  frame_reference_final, fun m ρ _ => frame_reference_final m ρ trivial,
  trivial, Cert.Proof.algebraic, trivial, Cert.Proof.algebraic_up, trivial, Cert.Proof.algebraic_down,
  trivial, Cert.Proof.algebraic_fwd, trivial, Cert.Proof.algebraic_ple, trivial, Cert.Proof.algebraic_kv,
  trivial, Cert.Proof.algebraic_final⟩

end Cert.Proof

end
